-- ==== Defs.lean ====
def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_WKernel (m : (ℓ : Loc Cert.WKernel.nD Cert.WKernel.τ Cert.WKernel.sig) → Buf (Elt Bits) ℓ) : Prop :=
  True

def Pre_WKernelIdeal (m : (ℓ : Loc Cert.WKernelIdeal.nD Cert.WKernelIdeal.τ Cert.WKernelIdeal.sig) → Buf (Elt Ideal) ℓ) : Prop :=
  True

def Pre_WKernelIdeal_in_range_w [hPre_in_range_w : Cert.Pre_in_range_w.Facts] (m : (ℓ : Loc Cert.WKernelIdeal.nD Cert.WKernelIdeal.τ Cert.WKernelIdeal.sig) → Buf (Elt Ideal) ℓ) : Prop :=
  ∀ c : Dev Cert.WKernelIdeal.nD,
    (Cert.Pre_in_range_w.fn (F := Ideal) (m ((c.tc : Thread Cert.WKernelIdeal.nD Cert.WKernelIdeal.τ).loc Cert.WKernelIdeal.main_arg0)) (m ((c.tc : Thread Cert.WKernelIdeal.nD Cert.WKernelIdeal.τ).loc Cert.WKernelIdeal.main_arg1)) (m ((c.tc : Thread Cert.WKernelIdeal.nD Cert.WKernelIdeal.τ).loc Cert.WKernelIdeal.main_arg2))) = (fun _ => 1#1)

def Pre_WReferenceIdeal (m : (ℓ : Loc Cert.WReferenceIdeal.nD Cert.WReferenceIdeal.τ Cert.WReferenceIdeal.sig) → Buf (Elt Ideal) ℓ) : Prop :=
  True

def Pre_WReferenceIdeal_in_range_w [hPre_in_range_w : Cert.Pre_in_range_w.Facts] (m : (ℓ : Loc Cert.WReferenceIdeal.nD Cert.WReferenceIdeal.τ Cert.WReferenceIdeal.sig) → Buf (Elt Ideal) ℓ) : Prop :=
  ∀ c : Dev Cert.WReferenceIdeal.nD,
    (Cert.Pre_in_range_w.fn (F := Ideal) (m ((c.tc : Thread Cert.WReferenceIdeal.nD Cert.WReferenceIdeal.τ).loc Cert.WReferenceIdeal.main_arg0)) (m ((c.tc : Thread Cert.WReferenceIdeal.nD Cert.WReferenceIdeal.τ).loc Cert.WReferenceIdeal.main_arg1)) (m ((c.tc : Thread Cert.WReferenceIdeal.nD Cert.WReferenceIdeal.τ).loc Cert.WReferenceIdeal.main_arg2))) = (fun _ => 1#1)

def Pre_XKernel (m : (ℓ : Loc Cert.XKernel.nD Cert.XKernel.τ Cert.XKernel.sig) → Buf (Elt Bits) ℓ) : Prop :=
  True

def Pre_XKernelIdeal (m : (ℓ : Loc Cert.XKernelIdeal.nD Cert.XKernelIdeal.τ Cert.XKernelIdeal.sig) → Buf (Elt Ideal) ℓ) : Prop :=
  True

def Pre_XKernelIdeal_in_range_x [hPre_in_range_x : Cert.Pre_in_range_x.Facts] (m : (ℓ : Loc Cert.XKernelIdeal.nD Cert.XKernelIdeal.τ Cert.XKernelIdeal.sig) → Buf (Elt Ideal) ℓ) : Prop :=
  ∀ c : Dev Cert.XKernelIdeal.nD,
    (Cert.Pre_in_range_x.fn (F := Ideal) (m ((c.tc : Thread Cert.XKernelIdeal.nD Cert.XKernelIdeal.τ).loc Cert.XKernelIdeal.main_arg0)) (m ((c.tc : Thread Cert.XKernelIdeal.nD Cert.XKernelIdeal.τ).loc Cert.XKernelIdeal.main_arg1)) (m ((c.tc : Thread Cert.XKernelIdeal.nD Cert.XKernelIdeal.τ).loc Cert.XKernelIdeal.main_arg2))) = (fun _ => 1#1)

def Pre_XReferenceIdeal (m : (ℓ : Loc Cert.XReferenceIdeal.nD Cert.XReferenceIdeal.τ Cert.XReferenceIdeal.sig) → Buf (Elt Ideal) ℓ) : Prop :=
  True

def Pre_XReferenceIdeal_in_range_x [hPre_in_range_x : Cert.Pre_in_range_x.Facts] (m : (ℓ : Loc Cert.XReferenceIdeal.nD Cert.XReferenceIdeal.τ Cert.XReferenceIdeal.sig) → Buf (Elt Ideal) ℓ) : Prop :=
  ∀ c : Dev Cert.XReferenceIdeal.nD,
    (Cert.Pre_in_range_x.fn (F := Ideal) (m ((c.tc : Thread Cert.XReferenceIdeal.nD Cert.XReferenceIdeal.τ).loc Cert.XReferenceIdeal.main_arg0)) (m ((c.tc : Thread Cert.XReferenceIdeal.nD Cert.XReferenceIdeal.τ).loc Cert.XReferenceIdeal.main_arg1)) (m ((c.tc : Thread Cert.XReferenceIdeal.nD Cert.XReferenceIdeal.τ).loc Cert.XReferenceIdeal.main_arg2))) = (fun _ => 1#1)

def Pre_TKernel (m : (ℓ : Loc Cert.TKernel.nD Cert.TKernel.τ Cert.TKernel.sig) → Buf (Elt Bits) ℓ) : Prop :=
  True

def Pre_TKernelIdeal (m : (ℓ : Loc Cert.TKernelIdeal.nD Cert.TKernelIdeal.τ Cert.TKernelIdeal.sig) → Buf (Elt Ideal) ℓ) : Prop :=
  True

def Pre_TKernelIdeal_in_range_dy_t [hPre_in_range_dy_t : Cert.Pre_in_range_dy_t.Facts] (m : (ℓ : Loc Cert.TKernelIdeal.nD Cert.TKernelIdeal.τ Cert.TKernelIdeal.sig) → Buf (Elt Ideal) ℓ) : Prop :=
  ∀ c : Dev Cert.TKernelIdeal.nD,
    (Cert.Pre_in_range_dy_t.fn (F := Ideal) (m ((c.tc : Thread Cert.TKernelIdeal.nD Cert.TKernelIdeal.τ).loc Cert.TKernelIdeal.main_arg0)) (m ((c.tc : Thread Cert.TKernelIdeal.nD Cert.TKernelIdeal.τ).loc Cert.TKernelIdeal.main_arg1)) (m ((c.tc : Thread Cert.TKernelIdeal.nD Cert.TKernelIdeal.τ).loc Cert.TKernelIdeal.main_arg2))) = (fun _ => 1#1)

def Pre_TReferenceIdeal (m : (ℓ : Loc Cert.TReferenceIdeal.nD Cert.TReferenceIdeal.τ Cert.TReferenceIdeal.sig) → Buf (Elt Ideal) ℓ) : Prop :=
  True

def Pre_TReferenceIdeal_in_range_dy_t [hPre_in_range_dy_t : Cert.Pre_in_range_dy_t.Facts] (m : (ℓ : Loc Cert.TReferenceIdeal.nD Cert.TReferenceIdeal.τ Cert.TReferenceIdeal.sig) → Buf (Elt Ideal) ℓ) : Prop :=
  ∀ c : Dev Cert.TReferenceIdeal.nD,
    (Cert.Pre_in_range_dy_t.fn (F := Ideal) (m ((c.tc : Thread Cert.TReferenceIdeal.nD Cert.TReferenceIdeal.τ).loc Cert.TReferenceIdeal.main_arg0)) (m ((c.tc : Thread Cert.TReferenceIdeal.nD Cert.TReferenceIdeal.τ).loc Cert.TReferenceIdeal.main_arg1)) (m ((c.tc : Thread Cert.TReferenceIdeal.nD Cert.TReferenceIdeal.τ).loc Cert.TReferenceIdeal.main_arg2))) = (fun _ => 1#1)

def Pre_NKernel (m : (ℓ : Loc Cert.NKernel.nD Cert.NKernel.τ Cert.NKernel.sig) → Buf (Elt Bits) ℓ) : Prop :=
  True

def Pre_NKernelIdeal (m : (ℓ : Loc Cert.NKernelIdeal.nD Cert.NKernelIdeal.τ Cert.NKernelIdeal.sig) → Buf (Elt Ideal) ℓ) : Prop :=
  True

def Pre_NKernelIdeal_in_range_dy_n [hPre_in_range_dy_n : Cert.Pre_in_range_dy_n.Facts] (m : (ℓ : Loc Cert.NKernelIdeal.nD Cert.NKernelIdeal.τ Cert.NKernelIdeal.sig) → Buf (Elt Ideal) ℓ) : Prop :=
  ∀ c : Dev Cert.NKernelIdeal.nD,
    (Cert.Pre_in_range_dy_n.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2))) = (fun _ => 1#1)

def Pre_NReferenceIdeal (m : (ℓ : Loc Cert.NReferenceIdeal.nD Cert.NReferenceIdeal.τ Cert.NReferenceIdeal.sig) → Buf (Elt Ideal) ℓ) : Prop :=
  True

def Pre_NReferenceIdeal_in_range_dy_n [hPre_in_range_dy_n : Cert.Pre_in_range_dy_n.Facts] (m : (ℓ : Loc Cert.NReferenceIdeal.nD Cert.NReferenceIdeal.τ Cert.NReferenceIdeal.sig) → Buf (Elt Ideal) ℓ) : Prop :=
  ∀ c : Dev Cert.NReferenceIdeal.nD,
    (Cert.Pre_in_range_dy_n.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2))) = (fun _ => 1#1)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_WKernel [hWKernel : Cert.WKernel.Facts] : Prop :=
  ∀ (m : (ℓ : Loc Cert.WKernel.nD Cert.WKernel.τ Cert.WKernel.sig) → Buf (Elt Bits) ℓ) (g : Dev Cert.WKernel.nD → PrngReg), Pre_WKernel m →
    θ_run (Cert.WKernel.defs (F := Bits)) (onTc (τ := Cert.WKernel.τ) (Cert.WKernel.main (F := Bits))) ⟨m, fun _ => 0, g⟩ (fun r => (∀ c : Dev Cert.WKernel.nD,
      r.2.mem ((c.tc : Thread Cert.WKernel.nD Cert.WKernel.τ).loc Cert.WKernel.main_arg0) = m ((c.tc : Thread Cert.WKernel.nD Cert.WKernel.τ).loc Cert.WKernel.main_arg0)
      ∧ r.2.mem ((c.tc : Thread Cert.WKernel.nD Cert.WKernel.τ).loc Cert.WKernel.main_arg1) = m ((c.tc : Thread Cert.WKernel.nD Cert.WKernel.τ).loc Cert.WKernel.main_arg1)
      ∧ r.2.mem ((c.tc : Thread Cert.WKernel.nD Cert.WKernel.τ).loc Cert.WKernel.main_arg2) = m ((c.tc : Thread Cert.WKernel.nD Cert.WKernel.τ).loc Cert.WKernel.main_arg2))
      ∧ r.2.sem = fun _ => 0)

def quiescent_WKernelIdeal [hWKernelIdeal : Cert.WKernelIdeal.Facts] : Prop :=
  ∀ (m : (ℓ : Loc Cert.WKernelIdeal.nD Cert.WKernelIdeal.τ Cert.WKernelIdeal.sig) → Buf (Elt Ideal) ℓ) (g : Dev Cert.WKernelIdeal.nD → PrngReg), Pre_WKernelIdeal m →
    θ_run (Cert.WKernelIdeal.defs (F := Ideal)) (onTc (τ := Cert.WKernelIdeal.τ) (Cert.WKernelIdeal.main (F := Ideal))) ⟨m, fun _ => 0, g⟩ (fun r => (∀ c : Dev Cert.WKernelIdeal.nD,
      r.2.mem ((c.tc : Thread Cert.WKernelIdeal.nD Cert.WKernelIdeal.τ).loc Cert.WKernelIdeal.main_arg0) = m ((c.tc : Thread Cert.WKernelIdeal.nD Cert.WKernelIdeal.τ).loc Cert.WKernelIdeal.main_arg0)
      ∧ r.2.mem ((c.tc : Thread Cert.WKernelIdeal.nD Cert.WKernelIdeal.τ).loc Cert.WKernelIdeal.main_arg1) = m ((c.tc : Thread Cert.WKernelIdeal.nD Cert.WKernelIdeal.τ).loc Cert.WKernelIdeal.main_arg1)
      ∧ r.2.mem ((c.tc : Thread Cert.WKernelIdeal.nD Cert.WKernelIdeal.τ).loc Cert.WKernelIdeal.main_arg2) = m ((c.tc : Thread Cert.WKernelIdeal.nD Cert.WKernelIdeal.τ).loc Cert.WKernelIdeal.main_arg2))
      ∧ r.2.sem = fun _ => 0)

def quiescent_WKernelIdeal_pre_in_range_w [hWKernelIdeal : Cert.WKernelIdeal.Facts] [hPre_in_range_w : Cert.Pre_in_range_w.Facts] : Prop :=
  ∀ (m : (ℓ : Loc Cert.WKernelIdeal.nD Cert.WKernelIdeal.τ Cert.WKernelIdeal.sig) → Buf (Elt Ideal) ℓ) (g : Dev Cert.WKernelIdeal.nD → PrngReg), Pre_WKernelIdeal_in_range_w m →
    θ_run (Cert.WKernelIdeal.defs (F := Ideal)) (onTc (τ := Cert.WKernelIdeal.τ) (Cert.WKernelIdeal.main (F := Ideal))) ⟨m, fun _ => 0, g⟩ (fun r => (∀ c : Dev Cert.WKernelIdeal.nD,
      r.2.mem ((c.tc : Thread Cert.WKernelIdeal.nD Cert.WKernelIdeal.τ).loc Cert.WKernelIdeal.main_arg0) = m ((c.tc : Thread Cert.WKernelIdeal.nD Cert.WKernelIdeal.τ).loc Cert.WKernelIdeal.main_arg0)
      ∧ r.2.mem ((c.tc : Thread Cert.WKernelIdeal.nD Cert.WKernelIdeal.τ).loc Cert.WKernelIdeal.main_arg1) = m ((c.tc : Thread Cert.WKernelIdeal.nD Cert.WKernelIdeal.τ).loc Cert.WKernelIdeal.main_arg1)
      ∧ r.2.mem ((c.tc : Thread Cert.WKernelIdeal.nD Cert.WKernelIdeal.τ).loc Cert.WKernelIdeal.main_arg2) = m ((c.tc : Thread Cert.WKernelIdeal.nD Cert.WKernelIdeal.τ).loc Cert.WKernelIdeal.main_arg2))
      ∧ r.2.sem = fun _ => 0)

def quiescent_WReferenceIdeal [hWReferenceIdeal : Cert.WReferenceIdeal.Facts] : Prop :=
  ∀ (m : (ℓ : Loc Cert.WReferenceIdeal.nD Cert.WReferenceIdeal.τ Cert.WReferenceIdeal.sig) → Buf (Elt Ideal) ℓ) (g : Dev Cert.WReferenceIdeal.nD → PrngReg), Pre_WReferenceIdeal m →
    θ_run (Cert.WReferenceIdeal.defs (F := Ideal)) (onTc (τ := Cert.WReferenceIdeal.τ) (Cert.WReferenceIdeal.main (F := Ideal))) ⟨m, fun _ => 0, g⟩ (fun r => (∀ c : Dev Cert.WReferenceIdeal.nD,
      r.2.mem ((c.tc : Thread Cert.WReferenceIdeal.nD Cert.WReferenceIdeal.τ).loc Cert.WReferenceIdeal.main_arg0) = m ((c.tc : Thread Cert.WReferenceIdeal.nD Cert.WReferenceIdeal.τ).loc Cert.WReferenceIdeal.main_arg0)
      ∧ r.2.mem ((c.tc : Thread Cert.WReferenceIdeal.nD Cert.WReferenceIdeal.τ).loc Cert.WReferenceIdeal.main_arg1) = m ((c.tc : Thread Cert.WReferenceIdeal.nD Cert.WReferenceIdeal.τ).loc Cert.WReferenceIdeal.main_arg1)
      ∧ r.2.mem ((c.tc : Thread Cert.WReferenceIdeal.nD Cert.WReferenceIdeal.τ).loc Cert.WReferenceIdeal.main_arg2) = m ((c.tc : Thread Cert.WReferenceIdeal.nD Cert.WReferenceIdeal.τ).loc Cert.WReferenceIdeal.main_arg2))
      ∧ r.2.sem = fun _ => 0)

def quiescent_WReferenceIdeal_pre_in_range_w [hWReferenceIdeal : Cert.WReferenceIdeal.Facts] [hPre_in_range_w : Cert.Pre_in_range_w.Facts] : Prop :=
  ∀ (m : (ℓ : Loc Cert.WReferenceIdeal.nD Cert.WReferenceIdeal.τ Cert.WReferenceIdeal.sig) → Buf (Elt Ideal) ℓ) (g : Dev Cert.WReferenceIdeal.nD → PrngReg), Pre_WReferenceIdeal_in_range_w m →
    θ_run (Cert.WReferenceIdeal.defs (F := Ideal)) (onTc (τ := Cert.WReferenceIdeal.τ) (Cert.WReferenceIdeal.main (F := Ideal))) ⟨m, fun _ => 0, g⟩ (fun r => (∀ c : Dev Cert.WReferenceIdeal.nD,
      r.2.mem ((c.tc : Thread Cert.WReferenceIdeal.nD Cert.WReferenceIdeal.τ).loc Cert.WReferenceIdeal.main_arg0) = m ((c.tc : Thread Cert.WReferenceIdeal.nD Cert.WReferenceIdeal.τ).loc Cert.WReferenceIdeal.main_arg0)
      ∧ r.2.mem ((c.tc : Thread Cert.WReferenceIdeal.nD Cert.WReferenceIdeal.τ).loc Cert.WReferenceIdeal.main_arg1) = m ((c.tc : Thread Cert.WReferenceIdeal.nD Cert.WReferenceIdeal.τ).loc Cert.WReferenceIdeal.main_arg1)
      ∧ r.2.mem ((c.tc : Thread Cert.WReferenceIdeal.nD Cert.WReferenceIdeal.τ).loc Cert.WReferenceIdeal.main_arg2) = m ((c.tc : Thread Cert.WReferenceIdeal.nD Cert.WReferenceIdeal.τ).loc Cert.WReferenceIdeal.main_arg2))
      ∧ r.2.sem = fun _ => 0)

def quiescent_XKernel [hXKernel : Cert.XKernel.Facts] : Prop :=
  ∀ (m : (ℓ : Loc Cert.XKernel.nD Cert.XKernel.τ Cert.XKernel.sig) → Buf (Elt Bits) ℓ) (g : Dev Cert.XKernel.nD → PrngReg), Pre_XKernel m →
    θ_run (Cert.XKernel.defs (F := Bits)) (onTc (τ := Cert.XKernel.τ) (Cert.XKernel.main (F := Bits))) ⟨m, fun _ => 0, g⟩ (fun r => (∀ c : Dev Cert.XKernel.nD,
      r.2.mem ((c.tc : Thread Cert.XKernel.nD Cert.XKernel.τ).loc Cert.XKernel.main_arg0) = m ((c.tc : Thread Cert.XKernel.nD Cert.XKernel.τ).loc Cert.XKernel.main_arg0)
      ∧ r.2.mem ((c.tc : Thread Cert.XKernel.nD Cert.XKernel.τ).loc Cert.XKernel.main_arg1) = m ((c.tc : Thread Cert.XKernel.nD Cert.XKernel.τ).loc Cert.XKernel.main_arg1)
      ∧ r.2.mem ((c.tc : Thread Cert.XKernel.nD Cert.XKernel.τ).loc Cert.XKernel.main_arg2) = m ((c.tc : Thread Cert.XKernel.nD Cert.XKernel.τ).loc Cert.XKernel.main_arg2))
      ∧ r.2.sem = fun _ => 0)

def quiescent_XKernelIdeal [hXKernelIdeal : Cert.XKernelIdeal.Facts] : Prop :=
  ∀ (m : (ℓ : Loc Cert.XKernelIdeal.nD Cert.XKernelIdeal.τ Cert.XKernelIdeal.sig) → Buf (Elt Ideal) ℓ) (g : Dev Cert.XKernelIdeal.nD → PrngReg), Pre_XKernelIdeal m →
    θ_run (Cert.XKernelIdeal.defs (F := Ideal)) (onTc (τ := Cert.XKernelIdeal.τ) (Cert.XKernelIdeal.main (F := Ideal))) ⟨m, fun _ => 0, g⟩ (fun r => (∀ c : Dev Cert.XKernelIdeal.nD,
      r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
      ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1)
      ∧ r.2.mem ((c.tc : Thread Cert.XKernelIdeal.nD Cert.XKernelIdeal.τ).loc Cert.XKernelIdeal.main_arg2) = m ((c.tc : Thread Cert.XKernelIdeal.nD Cert.XKernelIdeal.τ).loc Cert.XKernelIdeal.main_arg2))
      ∧ r.2.sem = fun _ => 0)

def quiescent_XKernelIdeal_pre_in_range_x [hXKernelIdeal : Cert.XKernelIdeal.Facts] [hPre_in_range_x : Cert.Pre_in_range_x.Facts] : Prop :=
  ∀ (m : (ℓ : Loc Cert.XKernelIdeal.nD Cert.XKernelIdeal.τ Cert.XKernelIdeal.sig) → Buf (Elt Ideal) ℓ) (g : Dev Cert.XKernelIdeal.nD → PrngReg), Pre_XKernelIdeal_in_range_x m →
    θ_run (Cert.XKernelIdeal.defs (F := Ideal)) (onTc (τ := Cert.XKernelIdeal.τ) (Cert.XKernelIdeal.main (F := Ideal))) ⟨m, fun _ => 0, g⟩ (fun r => (∀ c : Dev Cert.XKernelIdeal.nD,
      r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
      ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1)
      ∧ r.2.mem ((c.tc : Thread Cert.XKernelIdeal.nD Cert.XKernelIdeal.τ).loc Cert.XKernelIdeal.main_arg2) = m ((c.tc : Thread Cert.XKernelIdeal.nD Cert.XKernelIdeal.τ).loc Cert.XKernelIdeal.main_arg2))
      ∧ r.2.sem = fun _ => 0)

def quiescent_XReferenceIdeal [hXReferenceIdeal : Cert.XReferenceIdeal.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1)
      ∧ r.2.mem ((c.tc : Thread Cert.XReferenceIdeal.nD Cert.XReferenceIdeal.τ).loc Cert.XReferenceIdeal.main_arg2) = m ((c.tc : Thread Cert.XReferenceIdeal.nD Cert.XReferenceIdeal.τ).loc Cert.XReferenceIdeal.main_arg2))
      ∧ r.2.sem = fun _ => 0)

def quiescent_XReferenceIdeal_pre_in_range_x [hXReferenceIdeal : Cert.XReferenceIdeal.Facts] [hPre_in_range_x : Cert.Pre_in_range_x.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal_in_range_x m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1)
      ∧ r.2.mem ((c.tc : Thread Cert.XReferenceIdeal.nD Cert.XReferenceIdeal.τ).loc Cert.XReferenceIdeal.main_arg2) = m ((c.tc : Thread Cert.XReferenceIdeal.nD Cert.XReferenceIdeal.τ).loc Cert.XReferenceIdeal.main_arg2))
      ∧ r.2.sem = fun _ => 0)

def quiescent_TKernel [hTKernel : Cert.TKernel.Facts] : Prop :=
  ∀ (m : (ℓ : Loc Cert.TKernel.nD Cert.TKernel.τ Cert.TKernel.sig) → Buf (Elt Bits) ℓ) (g : Dev Cert.TKernel.nD → PrngReg), Pre_TKernel m →
    θ_run (Cert.TKernel.defs (F := Bits)) (onTc (τ := Cert.TKernel.τ) (Cert.TKernel.main (F := Bits))) ⟨m, fun _ => 0, g⟩ (fun r => (∀ c : Dev Cert.TKernel.nD,
      r.2.mem ((c.tc : Thread Cert.TKernel.nD Cert.TKernel.τ).loc Cert.TKernel.main_arg0) = m ((c.tc : Thread Cert.TKernel.nD Cert.TKernel.τ).loc Cert.TKernel.main_arg0)
      ∧ r.2.mem ((c.tc : Thread Cert.TKernel.nD Cert.TKernel.τ).loc Cert.TKernel.main_arg1) = m ((c.tc : Thread Cert.TKernel.nD Cert.TKernel.τ).loc Cert.TKernel.main_arg1)
      ∧ r.2.mem ((c.tc : Thread Cert.TKernel.nD Cert.TKernel.τ).loc Cert.TKernel.main_arg2) = m ((c.tc : Thread Cert.TKernel.nD Cert.TKernel.τ).loc Cert.TKernel.main_arg2))
      ∧ r.2.sem = fun _ => 0)

def quiescent_TKernelIdeal [hTKernelIdeal : Cert.TKernelIdeal.Facts] : Prop :=
  ∀ (m : (ℓ : Loc Cert.TKernelIdeal.nD Cert.TKernelIdeal.τ Cert.TKernelIdeal.sig) → Buf (Elt Ideal) ℓ) (g : Dev Cert.TKernelIdeal.nD → PrngReg), Pre_TKernelIdeal m →
    θ_run (Cert.TKernelIdeal.defs (F := Ideal)) (onTc (τ := Cert.TKernelIdeal.τ) (Cert.TKernelIdeal.main (F := Ideal))) ⟨m, fun _ => 0, g⟩ (fun r => (∀ c : Dev Cert.TKernelIdeal.nD,
      r.2.mem ((c.tc : Thread Cert.TKernelIdeal.nD Cert.TKernelIdeal.τ).loc Cert.TKernelIdeal.main_arg0) = m ((c.tc : Thread Cert.TKernelIdeal.nD Cert.TKernelIdeal.τ).loc Cert.TKernelIdeal.main_arg0)
      ∧ r.2.mem ((c.tc : Thread Cert.TKernelIdeal.nD Cert.TKernelIdeal.τ).loc Cert.TKernelIdeal.main_arg1) = m ((c.tc : Thread Cert.TKernelIdeal.nD Cert.TKernelIdeal.τ).loc Cert.TKernelIdeal.main_arg1)
      ∧ r.2.mem ((c.tc : Thread Cert.TKernelIdeal.nD Cert.TKernelIdeal.τ).loc Cert.TKernelIdeal.main_arg2) = m ((c.tc : Thread Cert.TKernelIdeal.nD Cert.TKernelIdeal.τ).loc Cert.TKernelIdeal.main_arg2))
      ∧ r.2.sem = fun _ => 0)

def quiescent_TKernelIdeal_pre_in_range_dy_t [hTKernelIdeal : Cert.TKernelIdeal.Facts] [hPre_in_range_dy_t : Cert.Pre_in_range_dy_t.Facts] : Prop :=
  ∀ (m : (ℓ : Loc Cert.TKernelIdeal.nD Cert.TKernelIdeal.τ Cert.TKernelIdeal.sig) → Buf (Elt Ideal) ℓ) (g : Dev Cert.TKernelIdeal.nD → PrngReg), Pre_TKernelIdeal_in_range_dy_t m →
    θ_run (Cert.TKernelIdeal.defs (F := Ideal)) (onTc (τ := Cert.TKernelIdeal.τ) (Cert.TKernelIdeal.main (F := Ideal))) ⟨m, fun _ => 0, g⟩ (fun r => (∀ c : Dev Cert.TKernelIdeal.nD,
      r.2.mem ((c.tc : Thread Cert.TKernelIdeal.nD Cert.TKernelIdeal.τ).loc Cert.TKernelIdeal.main_arg0) = m ((c.tc : Thread Cert.TKernelIdeal.nD Cert.TKernelIdeal.τ).loc Cert.TKernelIdeal.main_arg0)
      ∧ r.2.mem ((c.tc : Thread Cert.TKernelIdeal.nD Cert.TKernelIdeal.τ).loc Cert.TKernelIdeal.main_arg1) = m ((c.tc : Thread Cert.TKernelIdeal.nD Cert.TKernelIdeal.τ).loc Cert.TKernelIdeal.main_arg1)
      ∧ r.2.mem ((c.tc : Thread Cert.TKernelIdeal.nD Cert.TKernelIdeal.τ).loc Cert.TKernelIdeal.main_arg2) = m ((c.tc : Thread Cert.TKernelIdeal.nD Cert.TKernelIdeal.τ).loc Cert.TKernelIdeal.main_arg2))
      ∧ r.2.sem = fun _ => 0)

def quiescent_TReferenceIdeal [hTReferenceIdeal : Cert.TReferenceIdeal.Facts] : Prop :=
  ∀ (m : (ℓ : Loc Cert.TReferenceIdeal.nD Cert.TReferenceIdeal.τ Cert.TReferenceIdeal.sig) → Buf (Elt Ideal) ℓ) (g : Dev Cert.TReferenceIdeal.nD → PrngReg), Pre_TReferenceIdeal m →
    θ_run (Cert.TReferenceIdeal.defs (F := Ideal)) (onTc (τ := Cert.TReferenceIdeal.τ) (Cert.TReferenceIdeal.main (F := Ideal))) ⟨m, fun _ => 0, g⟩ (fun r => (∀ c : Dev Cert.TReferenceIdeal.nD,
      r.2.mem ((c.tc : Thread Cert.TReferenceIdeal.nD Cert.TReferenceIdeal.τ).loc Cert.TReferenceIdeal.main_arg0) = m ((c.tc : Thread Cert.TReferenceIdeal.nD Cert.TReferenceIdeal.τ).loc Cert.TReferenceIdeal.main_arg0)
      ∧ r.2.mem ((c.tc : Thread Cert.TReferenceIdeal.nD Cert.TReferenceIdeal.τ).loc Cert.TReferenceIdeal.main_arg1) = m ((c.tc : Thread Cert.TReferenceIdeal.nD Cert.TReferenceIdeal.τ).loc Cert.TReferenceIdeal.main_arg1)
      ∧ r.2.mem ((c.tc : Thread Cert.TReferenceIdeal.nD Cert.TReferenceIdeal.τ).loc Cert.TReferenceIdeal.main_arg2) = m ((c.tc : Thread Cert.TReferenceIdeal.nD Cert.TReferenceIdeal.τ).loc Cert.TReferenceIdeal.main_arg2))
      ∧ r.2.sem = fun _ => 0)

def quiescent_TReferenceIdeal_pre_in_range_dy_t [hTReferenceIdeal : Cert.TReferenceIdeal.Facts] [hPre_in_range_dy_t : Cert.Pre_in_range_dy_t.Facts] : Prop :=
  ∀ (m : (ℓ : Loc Cert.TReferenceIdeal.nD Cert.TReferenceIdeal.τ Cert.TReferenceIdeal.sig) → Buf (Elt Ideal) ℓ) (g : Dev Cert.TReferenceIdeal.nD → PrngReg), Pre_TReferenceIdeal_in_range_dy_t m →
    θ_run (Cert.TReferenceIdeal.defs (F := Ideal)) (onTc (τ := Cert.TReferenceIdeal.τ) (Cert.TReferenceIdeal.main (F := Ideal))) ⟨m, fun _ => 0, g⟩ (fun r => (∀ c : Dev Cert.TReferenceIdeal.nD,
      r.2.mem ((c.tc : Thread Cert.TReferenceIdeal.nD Cert.TReferenceIdeal.τ).loc Cert.TReferenceIdeal.main_arg0) = m ((c.tc : Thread Cert.TReferenceIdeal.nD Cert.TReferenceIdeal.τ).loc Cert.TReferenceIdeal.main_arg0)
      ∧ r.2.mem ((c.tc : Thread Cert.TReferenceIdeal.nD Cert.TReferenceIdeal.τ).loc Cert.TReferenceIdeal.main_arg1) = m ((c.tc : Thread Cert.TReferenceIdeal.nD Cert.TReferenceIdeal.τ).loc Cert.TReferenceIdeal.main_arg1)
      ∧ r.2.mem ((c.tc : Thread Cert.TReferenceIdeal.nD Cert.TReferenceIdeal.τ).loc Cert.TReferenceIdeal.main_arg2) = m ((c.tc : Thread Cert.TReferenceIdeal.nD Cert.TReferenceIdeal.τ).loc Cert.TReferenceIdeal.main_arg2))
      ∧ r.2.sem = fun _ => 0)

def quiescent_NKernel [hNKernel : Cert.NKernel.Facts] : Prop :=
  ∀ (m : (ℓ : Loc Cert.NKernel.nD Cert.NKernel.τ Cert.NKernel.sig) → Buf (Elt Bits) ℓ) (g : Dev Cert.NKernel.nD → PrngReg), Pre_NKernel m →
    θ_run (Cert.NKernel.defs (F := Bits)) (onTc (τ := Cert.NKernel.τ) (Cert.NKernel.main (F := Bits))) ⟨m, fun _ => 0, g⟩ (fun r => (∀ c : Dev Cert.NKernel.nD,
      r.2.mem ((c.tc : Thread Cert.NKernel.nD Cert.NKernel.τ).loc Cert.NKernel.main_arg0) = m ((c.tc : Thread Cert.NKernel.nD Cert.NKernel.τ).loc Cert.NKernel.main_arg0)
      ∧ r.2.mem ((c.tc : Thread Cert.NKernel.nD Cert.NKernel.τ).loc Cert.NKernel.main_arg1) = m ((c.tc : Thread Cert.NKernel.nD Cert.NKernel.τ).loc Cert.NKernel.main_arg1)
      ∧ r.2.mem ((c.tc : Thread Cert.NKernel.nD Cert.NKernel.τ).loc Cert.NKernel.main_arg2) = m ((c.tc : Thread Cert.NKernel.nD Cert.NKernel.τ).loc Cert.NKernel.main_arg2))
      ∧ r.2.sem = fun _ => 0)

def quiescent_NKernelIdeal [hNKernelIdeal : Cert.NKernelIdeal.Facts] : Prop :=
  ∀ (m : (ℓ : Loc Cert.NKernelIdeal.nD Cert.NKernelIdeal.τ Cert.NKernelIdeal.sig) → Buf (Elt Ideal) ℓ) (g : Dev Cert.NKernelIdeal.nD → PrngReg), Pre_NKernelIdeal m →
    θ_run (Cert.NKernelIdeal.defs (F := Ideal)) (onTc (τ := Cert.NKernelIdeal.τ) (Cert.NKernelIdeal.main (F := Ideal))) ⟨m, fun _ => 0, g⟩ (fun r => (∀ c : Dev Cert.NKernelIdeal.nD,
      r.2.mem ((c.tc : Thread Cert.NKernelIdeal.nD Cert.NKernelIdeal.τ).loc Cert.NKernelIdeal.main_arg0) = m ((c.tc : Thread Cert.NKernelIdeal.nD Cert.NKernelIdeal.τ).loc Cert.NKernelIdeal.main_arg0)
      ∧ r.2.mem ((c.tc : Thread Cert.NKernelIdeal.nD Cert.NKernelIdeal.τ).loc Cert.NKernelIdeal.main_arg1) = m ((c.tc : Thread Cert.NKernelIdeal.nD Cert.NKernelIdeal.τ).loc Cert.NKernelIdeal.main_arg1)
      ∧ r.2.mem ((c.tc : Thread Cert.NKernelIdeal.nD Cert.NKernelIdeal.τ).loc Cert.NKernelIdeal.main_arg2) = m ((c.tc : Thread Cert.NKernelIdeal.nD Cert.NKernelIdeal.τ).loc Cert.NKernelIdeal.main_arg2))
      ∧ r.2.sem = fun _ => 0)

def quiescent_NKernelIdeal_pre_in_range_dy_n [hNKernelIdeal : Cert.NKernelIdeal.Facts] [hPre_in_range_dy_n : Cert.Pre_in_range_dy_n.Facts] : Prop :=
  ∀ (m : (ℓ : Loc Cert.NKernelIdeal.nD Cert.NKernelIdeal.τ Cert.NKernelIdeal.sig) → Buf (Elt Ideal) ℓ) (g : Dev Cert.NKernelIdeal.nD → PrngReg), Pre_NKernelIdeal_in_range_dy_n m →
    θ_run (Cert.NKernelIdeal.defs (F := Ideal)) (onTc (τ := Cert.NKernelIdeal.τ) (Cert.NKernelIdeal.main (F := Ideal))) ⟨m, fun _ => 0, g⟩ (fun r => (∀ c : Dev Cert.NKernelIdeal.nD,
      r.2.mem ((c.tc : Thread Cert.NKernelIdeal.nD Cert.NKernelIdeal.τ).loc Cert.NKernelIdeal.main_arg0) = m ((c.tc : Thread Cert.NKernelIdeal.nD Cert.NKernelIdeal.τ).loc Cert.NKernelIdeal.main_arg0)
      ∧ r.2.mem ((c.tc : Thread Cert.NKernelIdeal.nD Cert.NKernelIdeal.τ).loc Cert.NKernelIdeal.main_arg1) = m ((c.tc : Thread Cert.NKernelIdeal.nD Cert.NKernelIdeal.τ).loc Cert.NKernelIdeal.main_arg1)
      ∧ r.2.mem ((c.tc : Thread Cert.NKernelIdeal.nD Cert.NKernelIdeal.τ).loc Cert.NKernelIdeal.main_arg2) = m ((c.tc : Thread Cert.NKernelIdeal.nD Cert.NKernelIdeal.τ).loc Cert.NKernelIdeal.main_arg2))
      ∧ r.2.sem = fun _ => 0)

def quiescent_NReferenceIdeal [hNReferenceIdeal : Cert.NReferenceIdeal.Facts] : Prop :=
  ∀ (m : (ℓ : Loc Cert.NReferenceIdeal.nD Cert.NReferenceIdeal.τ Cert.NReferenceIdeal.sig) → Buf (Elt Ideal) ℓ) (g : Dev Cert.NReferenceIdeal.nD → PrngReg), Pre_NReferenceIdeal m →
    θ_run (Cert.NReferenceIdeal.defs (F := Ideal)) (onTc (τ := Cert.NReferenceIdeal.τ) (Cert.NReferenceIdeal.main (F := Ideal))) ⟨m, fun _ => 0, g⟩ (fun r => (∀ c : Dev Cert.NReferenceIdeal.nD,
      r.2.mem ((c.tc : Thread Cert.NReferenceIdeal.nD Cert.NReferenceIdeal.τ).loc Cert.NReferenceIdeal.main_arg0) = m ((c.tc : Thread Cert.NReferenceIdeal.nD Cert.NReferenceIdeal.τ).loc Cert.NReferenceIdeal.main_arg0)
      ∧ r.2.mem ((c.tc : Thread Cert.NReferenceIdeal.nD Cert.NReferenceIdeal.τ).loc Cert.NReferenceIdeal.main_arg1) = m ((c.tc : Thread Cert.NReferenceIdeal.nD Cert.NReferenceIdeal.τ).loc Cert.NReferenceIdeal.main_arg1)
      ∧ r.2.mem ((c.tc : Thread Cert.NReferenceIdeal.nD Cert.NReferenceIdeal.τ).loc Cert.NReferenceIdeal.main_arg2) = m ((c.tc : Thread Cert.NReferenceIdeal.nD Cert.NReferenceIdeal.τ).loc Cert.NReferenceIdeal.main_arg2))
      ∧ r.2.sem = fun _ => 0)

def quiescent_NReferenceIdeal_pre_in_range_dy_n [hNReferenceIdeal : Cert.NReferenceIdeal.Facts] [hPre_in_range_dy_n : Cert.Pre_in_range_dy_n.Facts] : Prop :=
  ∀ (m : (ℓ : Loc Cert.NReferenceIdeal.nD Cert.NReferenceIdeal.τ Cert.NReferenceIdeal.sig) → Buf (Elt Ideal) ℓ) (g : Dev Cert.NReferenceIdeal.nD → PrngReg), Pre_NReferenceIdeal_in_range_dy_n m →
    θ_run (Cert.NReferenceIdeal.defs (F := Ideal)) (onTc (τ := Cert.NReferenceIdeal.τ) (Cert.NReferenceIdeal.main (F := Ideal))) ⟨m, fun _ => 0, g⟩ (fun r => (∀ c : Dev Cert.NReferenceIdeal.nD,
      r.2.mem ((c.tc : Thread Cert.NReferenceIdeal.nD Cert.NReferenceIdeal.τ).loc Cert.NReferenceIdeal.main_arg0) = m ((c.tc : Thread Cert.NReferenceIdeal.nD Cert.NReferenceIdeal.τ).loc Cert.NReferenceIdeal.main_arg0)
      ∧ r.2.mem ((c.tc : Thread Cert.NReferenceIdeal.nD Cert.NReferenceIdeal.τ).loc Cert.NReferenceIdeal.main_arg1) = m ((c.tc : Thread Cert.NReferenceIdeal.nD Cert.NReferenceIdeal.τ).loc Cert.NReferenceIdeal.main_arg1)
      ∧ r.2.mem ((c.tc : Thread Cert.NReferenceIdeal.nD Cert.NReferenceIdeal.τ).loc Cert.NReferenceIdeal.main_arg2) = m ((c.tc : Thread Cert.NReferenceIdeal.nD Cert.NReferenceIdeal.τ).loc Cert.NReferenceIdeal.main_arg2))
      ∧ r.2.sem = fun _ => 0)

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)) →
    ∃ (v0 : (c : Dev Cert.DxKernelIdeal.nD) → Buf (Elt Ideal) ((c.tc : Thread Cert.DxKernelIdeal.nD Cert.DxKernelIdeal.τ).loc Cert.DxKernelIdeal.main_v0)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v0) = v0 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v3) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v2) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_WKernel_WKernelIdeal : Prop :=
  IdealRules.sign_bit.Statement Cert.WKernelIdeal.S64x512 .f32

def algebraic_WKernelIdeal_WReferenceIdeal_pre_in_range_w [hWKernelIdeal : Cert.WKernelIdeal.Facts] [hWReferenceIdeal : Cert.WReferenceIdeal.Facts] [hPre_in_range_w : Cert.Pre_in_range_w.Facts] : Prop :=
  ∀ (m : (ℓ : Loc Cert.WKernelIdeal.nD Cert.WKernelIdeal.τ Cert.WKernelIdeal.sig) → Buf (Elt Ideal) ℓ) (g : Dev Cert.WKernelIdeal.nD → PrngReg)
    (m' : (ℓ : Loc Cert.WReferenceIdeal.nD Cert.WReferenceIdeal.τ Cert.WReferenceIdeal.sig) → Buf (Elt Ideal) ℓ) (g' : Dev Cert.WReferenceIdeal.nD → PrngReg), Pre_WKernelIdeal_in_range_w m →
    (∀ c : Dev Cert.WKernelIdeal.nD,
      m' ((c.tc : Thread Cert.WReferenceIdeal.nD Cert.WReferenceIdeal.τ).loc Cert.WReferenceIdeal.main_arg0) = m ((c.tc : Thread Cert.WKernelIdeal.nD Cert.WKernelIdeal.τ).loc Cert.WKernelIdeal.main_arg0)
      ∧ m' ((c.tc : Thread Cert.WReferenceIdeal.nD Cert.WReferenceIdeal.τ).loc Cert.WReferenceIdeal.main_arg1) = m ((c.tc : Thread Cert.WKernelIdeal.nD Cert.WKernelIdeal.τ).loc Cert.WKernelIdeal.main_arg1)
      ∧ m' ((c.tc : Thread Cert.WReferenceIdeal.nD Cert.WReferenceIdeal.τ).loc Cert.WReferenceIdeal.main_arg2) = m ((c.tc : Thread Cert.WKernelIdeal.nD Cert.WKernelIdeal.τ).loc Cert.WKernelIdeal.main_arg2)) →
    ∃ (v0 : (c : Dev Cert.WKernelIdeal.nD) → Buf (Elt Ideal) ((c.tc : Thread Cert.WKernelIdeal.nD Cert.WKernelIdeal.τ).loc Cert.WKernelIdeal.main_v49_0)) (v1 : (c : Dev Cert.WKernelIdeal.nD) → Buf (Elt Ideal) ((c.tc : Thread Cert.WKernelIdeal.nD Cert.WKernelIdeal.τ).loc Cert.WKernelIdeal.main_v49_1)) (v2 : (c : Dev Cert.WKernelIdeal.nD) → Buf (Elt Ideal) ((c.tc : Thread Cert.WKernelIdeal.nD Cert.WKernelIdeal.τ).loc Cert.WKernelIdeal.main_v49_2)),
      θ_run (Cert.WKernelIdeal.defs (F := Ideal)) (onTc (τ := Cert.WKernelIdeal.τ) (Cert.WKernelIdeal.main (F := Ideal))) ⟨m, fun _ => 0, g⟩ (fun r => ∀ c : Dev Cert.WKernelIdeal.nD,
          r.2.mem ((c.tc : Thread Cert.WKernelIdeal.nD Cert.WKernelIdeal.τ).loc Cert.WKernelIdeal.main_v49_0) = v0 c
          ∧ r.2.mem ((c.tc : Thread Cert.WKernelIdeal.nD Cert.WKernelIdeal.τ).loc Cert.WKernelIdeal.main_v49_1) = v1 c
          ∧ r.2.mem ((c.tc : Thread Cert.WKernelIdeal.nD Cert.WKernelIdeal.τ).loc Cert.WKernelIdeal.main_v49_2) = v2 c
          ∧ r.2.mem ((c.tc : Thread Cert.WKernelIdeal.nD Cert.WKernelIdeal.τ).loc Cert.WKernelIdeal.main_arg0) = m ((c.tc : Thread Cert.WKernelIdeal.nD Cert.WKernelIdeal.τ).loc Cert.WKernelIdeal.main_arg0)
          ∧ r.2.mem ((c.tc : Thread Cert.WKernelIdeal.nD Cert.WKernelIdeal.τ).loc Cert.WKernelIdeal.main_arg1) = m ((c.tc : Thread Cert.WKernelIdeal.nD Cert.WKernelIdeal.τ).loc Cert.WKernelIdeal.main_arg1)
          ∧ r.2.mem ((c.tc : Thread Cert.WKernelIdeal.nD Cert.WKernelIdeal.τ).loc Cert.WKernelIdeal.main_arg2) = m ((c.tc : Thread Cert.WKernelIdeal.nD Cert.WKernelIdeal.τ).loc Cert.WKernelIdeal.main_arg2))
      ∧ θ_run (Cert.WReferenceIdeal.defs (F := Ideal)) (onTc (τ := Cert.WReferenceIdeal.τ) (Cert.WReferenceIdeal.main (F := Ideal))) ⟨m', fun _ => 0, g'⟩ (fun r => ∀ c : Dev Cert.WReferenceIdeal.nD,
          r.2.mem ((c.tc : Thread Cert.WReferenceIdeal.nD Cert.WReferenceIdeal.τ).loc Cert.WReferenceIdeal.main_v139) = v0 c
          ∧ r.2.mem ((c.tc : Thread Cert.WReferenceIdeal.nD Cert.WReferenceIdeal.τ).loc Cert.WReferenceIdeal.main_v144) = v1 c
          ∧ r.2.mem ((c.tc : Thread Cert.WReferenceIdeal.nD Cert.WReferenceIdeal.τ).loc Cert.WReferenceIdeal.main_v142) = v2 c
          ∧ r.2.mem ((c.tc : Thread Cert.WReferenceIdeal.nD Cert.WReferenceIdeal.τ).loc Cert.WReferenceIdeal.main_arg0) = m' ((c.tc : Thread Cert.WReferenceIdeal.nD Cert.WReferenceIdeal.τ).loc Cert.WReferenceIdeal.main_arg0)
          ∧ r.2.mem ((c.tc : Thread Cert.WReferenceIdeal.nD Cert.WReferenceIdeal.τ).loc Cert.WReferenceIdeal.main_arg1) = m' ((c.tc : Thread Cert.WReferenceIdeal.nD Cert.WReferenceIdeal.τ).loc Cert.WReferenceIdeal.main_arg1)
          ∧ r.2.mem ((c.tc : Thread Cert.WReferenceIdeal.nD Cert.WReferenceIdeal.τ).loc Cert.WReferenceIdeal.main_arg2) = m' ((c.tc : Thread Cert.WReferenceIdeal.nD Cert.WReferenceIdeal.τ).loc Cert.WReferenceIdeal.main_arg2))

def preserves_XKernel_XKernelIdeal : Prop :=
  IdealRules.sign_bit.Statement Cert.XKernelIdeal.S64x256 .f32

def algebraic_XKernelIdeal_XReferenceIdeal_pre_in_range_x [hXKernelIdeal : Cert.XKernelIdeal.Facts] [hXReferenceIdeal : Cert.XReferenceIdeal.Facts] [hPre_in_range_x : Cert.Pre_in_range_x.Facts] : Prop :=
  ∀ (m : (ℓ : Loc Cert.XKernelIdeal.nD Cert.XKernelIdeal.τ Cert.XKernelIdeal.sig) → Buf (Elt Ideal) ℓ) (g : Dev Cert.XKernelIdeal.nD → PrngReg)
    (m' : (ℓ : Loc Cert.XReferenceIdeal.nD Cert.XReferenceIdeal.τ Cert.XReferenceIdeal.sig) → Buf (Elt Ideal) ℓ) (g' : Dev Cert.XReferenceIdeal.nD → PrngReg), Pre_XKernelIdeal_in_range_x m →
    (∀ c : Dev Cert.XKernelIdeal.nD,
      m' ((c.tc : Thread Cert.XReferenceIdeal.nD Cert.XReferenceIdeal.τ).loc Cert.XReferenceIdeal.main_arg0) = m ((c.tc : Thread Cert.XKernelIdeal.nD Cert.XKernelIdeal.τ).loc Cert.XKernelIdeal.main_arg0)
      ∧ m' ((c.tc : Thread Cert.XReferenceIdeal.nD Cert.XReferenceIdeal.τ).loc Cert.XReferenceIdeal.main_arg1) = m ((c.tc : Thread Cert.XKernelIdeal.nD Cert.XKernelIdeal.τ).loc Cert.XKernelIdeal.main_arg1)
      ∧ m' ((c.tc : Thread Cert.XReferenceIdeal.nD Cert.XReferenceIdeal.τ).loc Cert.XReferenceIdeal.main_arg2) = m ((c.tc : Thread Cert.XKernelIdeal.nD Cert.XKernelIdeal.τ).loc Cert.XKernelIdeal.main_arg2)) →
    ∃ (v0 : (c : Dev Cert.XKernelIdeal.nD) → Buf (Elt Ideal) ((c.tc : Thread Cert.XKernelIdeal.nD Cert.XKernelIdeal.τ).loc Cert.XKernelIdeal.main_v49_0)) (v1 : (c : Dev Cert.XKernelIdeal.nD) → Buf (Elt Ideal) ((c.tc : Thread Cert.XKernelIdeal.nD Cert.XKernelIdeal.τ).loc Cert.XKernelIdeal.main_v49_1)) (v2 : (c : Dev Cert.XKernelIdeal.nD) → Buf (Elt Ideal) ((c.tc : Thread Cert.XKernelIdeal.nD Cert.XKernelIdeal.τ).loc Cert.XKernelIdeal.main_v49_2)),
      θ_run (Cert.XKernelIdeal.defs (F := Ideal)) (onTc (τ := Cert.XKernelIdeal.τ) (Cert.XKernelIdeal.main (F := Ideal))) ⟨m, fun _ => 0, g⟩ (fun r => ∀ c : Dev Cert.XKernelIdeal.nD,
          r.2.mem ((c.tc : Thread Cert.XKernelIdeal.nD Cert.XKernelIdeal.τ).loc Cert.XKernelIdeal.main_v49_0) = v0 c
          ∧ r.2.mem ((c.tc : Thread Cert.XKernelIdeal.nD Cert.XKernelIdeal.τ).loc Cert.XKernelIdeal.main_v49_1) = v1 c
          ∧ r.2.mem ((c.tc : Thread Cert.XKernelIdeal.nD Cert.XKernelIdeal.τ).loc Cert.XKernelIdeal.main_v49_2) = v2 c
          ∧ r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
          ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1)
          ∧ r.2.mem ((c.tc : Thread Cert.XKernelIdeal.nD Cert.XKernelIdeal.τ).loc Cert.XKernelIdeal.main_arg2) = m ((c.tc : Thread Cert.XKernelIdeal.nD Cert.XKernelIdeal.τ).loc Cert.XKernelIdeal.main_arg2))
      ∧ θ_run (Cert.XReferenceIdeal.defs (F := Ideal)) (onTc (τ := Cert.XReferenceIdeal.τ) (Cert.XReferenceIdeal.main (F := Ideal))) ⟨m', fun _ => 0, g'⟩ (fun r => ∀ c : Dev Cert.XReferenceIdeal.nD,
          r.2.mem ((c.tc : Thread Cert.XReferenceIdeal.nD Cert.XReferenceIdeal.τ).loc Cert.XReferenceIdeal.main_v139) = v0 c
          ∧ r.2.mem ((c.tc : Thread Cert.XReferenceIdeal.nD Cert.XReferenceIdeal.τ).loc Cert.XReferenceIdeal.main_v145) = v1 c
          ∧ r.2.mem ((c.tc : Thread Cert.XReferenceIdeal.nD Cert.XReferenceIdeal.τ).loc Cert.XReferenceIdeal.main_v142) = v2 c
          ∧ r.2.mem ((c.tc : Thread Cert.XReferenceIdeal.nD Cert.XReferenceIdeal.τ).loc Cert.XReferenceIdeal.main_arg0) = m' ((c.tc : Thread Cert.XReferenceIdeal.nD Cert.XReferenceIdeal.τ).loc Cert.XReferenceIdeal.main_arg0)
          ∧ r.2.mem ((c.tc : Thread Cert.XReferenceIdeal.nD Cert.XReferenceIdeal.τ).loc Cert.XReferenceIdeal.main_arg1) = m' ((c.tc : Thread Cert.XReferenceIdeal.nD Cert.XReferenceIdeal.τ).loc Cert.XReferenceIdeal.main_arg1)
          ∧ r.2.mem ((c.tc : Thread Cert.XReferenceIdeal.nD Cert.XReferenceIdeal.τ).loc Cert.XReferenceIdeal.main_arg2) = m' ((c.tc : Thread Cert.XReferenceIdeal.nD Cert.XReferenceIdeal.τ).loc Cert.XReferenceIdeal.main_arg2))

def preserves_TKernel_TKernelIdeal : Prop :=
  IdealRules.sign_bit.Statement Cert.TKernelIdeal.S64x256 .f32

def algebraic_TKernelIdeal_TReferenceIdeal_pre_in_range_dy_t [hTKernelIdeal : Cert.TKernelIdeal.Facts] [hTReferenceIdeal : Cert.TReferenceIdeal.Facts] [hPre_in_range_dy_t : Cert.Pre_in_range_dy_t.Facts] : Prop :=
  ∀ (m : (ℓ : Loc Cert.TKernelIdeal.nD Cert.TKernelIdeal.τ Cert.TKernelIdeal.sig) → Buf (Elt Ideal) ℓ) (g : Dev Cert.TKernelIdeal.nD → PrngReg)
    (m' : (ℓ : Loc Cert.TReferenceIdeal.nD Cert.TReferenceIdeal.τ Cert.TReferenceIdeal.sig) → Buf (Elt Ideal) ℓ) (g' : Dev Cert.TReferenceIdeal.nD → PrngReg), Pre_TKernelIdeal_in_range_dy_t m →
    (∀ c : Dev Cert.TKernelIdeal.nD,
      m' ((c.tc : Thread Cert.TReferenceIdeal.nD Cert.TReferenceIdeal.τ).loc Cert.TReferenceIdeal.main_arg0) = m ((c.tc : Thread Cert.TKernelIdeal.nD Cert.TKernelIdeal.τ).loc Cert.TKernelIdeal.main_arg0)
      ∧ m' ((c.tc : Thread Cert.TReferenceIdeal.nD Cert.TReferenceIdeal.τ).loc Cert.TReferenceIdeal.main_arg1) = m ((c.tc : Thread Cert.TKernelIdeal.nD Cert.TKernelIdeal.τ).loc Cert.TKernelIdeal.main_arg1)
      ∧ m' ((c.tc : Thread Cert.TReferenceIdeal.nD Cert.TReferenceIdeal.τ).loc Cert.TReferenceIdeal.main_arg2) = m ((c.tc : Thread Cert.TKernelIdeal.nD Cert.TKernelIdeal.τ).loc Cert.TKernelIdeal.main_arg2)) →
    ∃ (v0 : (c : Dev Cert.TKernelIdeal.nD) → Buf (Elt Ideal) ((c.tc : Thread Cert.TKernelIdeal.nD Cert.TKernelIdeal.τ).loc Cert.TKernelIdeal.main_v49_0)) (v1 : (c : Dev Cert.TKernelIdeal.nD) → Buf (Elt Ideal) ((c.tc : Thread Cert.TKernelIdeal.nD Cert.TKernelIdeal.τ).loc Cert.TKernelIdeal.main_v49_1)) (v2 : (c : Dev Cert.TKernelIdeal.nD) → Buf (Elt Ideal) ((c.tc : Thread Cert.TKernelIdeal.nD Cert.TKernelIdeal.τ).loc Cert.TKernelIdeal.main_v49_2)),
      θ_run (Cert.TKernelIdeal.defs (F := Ideal)) (onTc (τ := Cert.TKernelIdeal.τ) (Cert.TKernelIdeal.main (F := Ideal))) ⟨m, fun _ => 0, g⟩ (fun r => ∀ c : Dev Cert.TKernelIdeal.nD,
          r.2.mem ((c.tc : Thread Cert.TKernelIdeal.nD Cert.TKernelIdeal.τ).loc Cert.TKernelIdeal.main_v49_0) = v0 c
          ∧ r.2.mem ((c.tc : Thread Cert.TKernelIdeal.nD Cert.TKernelIdeal.τ).loc Cert.TKernelIdeal.main_v49_1) = v1 c
          ∧ r.2.mem ((c.tc : Thread Cert.TKernelIdeal.nD Cert.TKernelIdeal.τ).loc Cert.TKernelIdeal.main_v49_2) = v2 c
          ∧ r.2.mem ((c.tc : Thread Cert.TKernelIdeal.nD Cert.TKernelIdeal.τ).loc Cert.TKernelIdeal.main_arg0) = m ((c.tc : Thread Cert.TKernelIdeal.nD Cert.TKernelIdeal.τ).loc Cert.TKernelIdeal.main_arg0)
          ∧ r.2.mem ((c.tc : Thread Cert.TKernelIdeal.nD Cert.TKernelIdeal.τ).loc Cert.TKernelIdeal.main_arg1) = m ((c.tc : Thread Cert.TKernelIdeal.nD Cert.TKernelIdeal.τ).loc Cert.TKernelIdeal.main_arg1)
          ∧ r.2.mem ((c.tc : Thread Cert.TKernelIdeal.nD Cert.TKernelIdeal.τ).loc Cert.TKernelIdeal.main_arg2) = m ((c.tc : Thread Cert.TKernelIdeal.nD Cert.TKernelIdeal.τ).loc Cert.TKernelIdeal.main_arg2))
      ∧ θ_run (Cert.TReferenceIdeal.defs (F := Ideal)) (onTc (τ := Cert.TReferenceIdeal.τ) (Cert.TReferenceIdeal.main (F := Ideal))) ⟨m', fun _ => 0, g'⟩ (fun r => ∀ c : Dev Cert.TReferenceIdeal.nD,
          r.2.mem ((c.tc : Thread Cert.TReferenceIdeal.nD Cert.TReferenceIdeal.τ).loc Cert.TReferenceIdeal.main_v139) = v0 c
          ∧ r.2.mem ((c.tc : Thread Cert.TReferenceIdeal.nD Cert.TReferenceIdeal.τ).loc Cert.TReferenceIdeal.main_v145) = v1 c
          ∧ r.2.mem ((c.tc : Thread Cert.TReferenceIdeal.nD Cert.TReferenceIdeal.τ).loc Cert.TReferenceIdeal.main_v146) = v2 c
          ∧ r.2.mem ((c.tc : Thread Cert.TReferenceIdeal.nD Cert.TReferenceIdeal.τ).loc Cert.TReferenceIdeal.main_arg0) = m' ((c.tc : Thread Cert.TReferenceIdeal.nD Cert.TReferenceIdeal.τ).loc Cert.TReferenceIdeal.main_arg0)
          ∧ r.2.mem ((c.tc : Thread Cert.TReferenceIdeal.nD Cert.TReferenceIdeal.τ).loc Cert.TReferenceIdeal.main_arg1) = m' ((c.tc : Thread Cert.TReferenceIdeal.nD Cert.TReferenceIdeal.τ).loc Cert.TReferenceIdeal.main_arg1)
          ∧ r.2.mem ((c.tc : Thread Cert.TReferenceIdeal.nD Cert.TReferenceIdeal.τ).loc Cert.TReferenceIdeal.main_arg2) = m' ((c.tc : Thread Cert.TReferenceIdeal.nD Cert.TReferenceIdeal.τ).loc Cert.TReferenceIdeal.main_arg2))

def preserves_NKernel_NKernelIdeal : Prop :=
  IdealRules.sign_bit.Statement Cert.NKernelIdeal.S128x128 .f32

def algebraic_NKernelIdeal_NReferenceIdeal_pre_in_range_dy_n [hNKernelIdeal : Cert.NKernelIdeal.Facts] [hNReferenceIdeal : Cert.NReferenceIdeal.Facts] [hPre_in_range_dy_n : Cert.Pre_in_range_dy_n.Facts] : Prop :=
  ∀ (m : (ℓ : Loc Cert.NKernelIdeal.nD Cert.NKernelIdeal.τ Cert.NKernelIdeal.sig) → Buf (Elt Ideal) ℓ) (g : Dev Cert.NKernelIdeal.nD → PrngReg)
    (m' : (ℓ : Loc Cert.NReferenceIdeal.nD Cert.NReferenceIdeal.τ Cert.NReferenceIdeal.sig) → Buf (Elt Ideal) ℓ) (g' : Dev Cert.NReferenceIdeal.nD → PrngReg), Pre_NKernelIdeal_in_range_dy_n m →
    (∀ c : Dev Cert.NKernelIdeal.nD,
      m' ((c.tc : Thread Cert.NReferenceIdeal.nD Cert.NReferenceIdeal.τ).loc Cert.NReferenceIdeal.main_arg0) = m ((c.tc : Thread Cert.NKernelIdeal.nD Cert.NKernelIdeal.τ).loc Cert.NKernelIdeal.main_arg0)
      ∧ m' ((c.tc : Thread Cert.NReferenceIdeal.nD Cert.NReferenceIdeal.τ).loc Cert.NReferenceIdeal.main_arg1) = m ((c.tc : Thread Cert.NKernelIdeal.nD Cert.NKernelIdeal.τ).loc Cert.NKernelIdeal.main_arg1)
      ∧ m' ((c.tc : Thread Cert.NReferenceIdeal.nD Cert.NReferenceIdeal.τ).loc Cert.NReferenceIdeal.main_arg2) = m ((c.tc : Thread Cert.NKernelIdeal.nD Cert.NKernelIdeal.τ).loc Cert.NKernelIdeal.main_arg2)) →
    ∃ (v0 : (c : Dev Cert.NKernelIdeal.nD) → Buf (Elt Ideal) ((c.tc : Thread Cert.NKernelIdeal.nD Cert.NKernelIdeal.τ).loc Cert.NKernelIdeal.main_v88_0)) (v1 : (c : Dev Cert.NKernelIdeal.nD) → Buf (Elt Ideal) ((c.tc : Thread Cert.NKernelIdeal.nD Cert.NKernelIdeal.τ).loc Cert.NKernelIdeal.main_v88_1)) (v2 : (c : Dev Cert.NKernelIdeal.nD) → Buf (Elt Ideal) ((c.tc : Thread Cert.NKernelIdeal.nD Cert.NKernelIdeal.τ).loc Cert.NKernelIdeal.main_v88_2)),
      θ_run (Cert.NKernelIdeal.defs (F := Ideal)) (onTc (τ := Cert.NKernelIdeal.τ) (Cert.NKernelIdeal.main (F := Ideal))) ⟨m, fun _ => 0, g⟩ (fun r => ∀ c : Dev Cert.NKernelIdeal.nD,
          r.2.mem ((c.tc : Thread Cert.NKernelIdeal.nD Cert.NKernelIdeal.τ).loc Cert.NKernelIdeal.main_v88_0) = v0 c
          ∧ r.2.mem ((c.tc : Thread Cert.NKernelIdeal.nD Cert.NKernelIdeal.τ).loc Cert.NKernelIdeal.main_v88_1) = v1 c
          ∧ r.2.mem ((c.tc : Thread Cert.NKernelIdeal.nD Cert.NKernelIdeal.τ).loc Cert.NKernelIdeal.main_v88_2) = v2 c
          ∧ r.2.mem ((c.tc : Thread Cert.NKernelIdeal.nD Cert.NKernelIdeal.τ).loc Cert.NKernelIdeal.main_arg0) = m ((c.tc : Thread Cert.NKernelIdeal.nD Cert.NKernelIdeal.τ).loc Cert.NKernelIdeal.main_arg0)
          ∧ r.2.mem ((c.tc : Thread Cert.NKernelIdeal.nD Cert.NKernelIdeal.τ).loc Cert.NKernelIdeal.main_arg1) = m ((c.tc : Thread Cert.NKernelIdeal.nD Cert.NKernelIdeal.τ).loc Cert.NKernelIdeal.main_arg1)
          ∧ r.2.mem ((c.tc : Thread Cert.NKernelIdeal.nD Cert.NKernelIdeal.τ).loc Cert.NKernelIdeal.main_arg2) = m ((c.tc : Thread Cert.NKernelIdeal.nD Cert.NKernelIdeal.τ).loc Cert.NKernelIdeal.main_arg2))
      ∧ θ_run (Cert.NReferenceIdeal.defs (F := Ideal)) (onTc (τ := Cert.NReferenceIdeal.τ) (Cert.NReferenceIdeal.main (F := Ideal))) ⟨m', fun _ => 0, g'⟩ (fun r => ∀ c : Dev Cert.NReferenceIdeal.nD,
          r.2.mem ((c.tc : Thread Cert.NReferenceIdeal.nD Cert.NReferenceIdeal.τ).loc Cert.NReferenceIdeal.main_v147) = v0 c
          ∧ r.2.mem ((c.tc : Thread Cert.NReferenceIdeal.nD Cert.NReferenceIdeal.τ).loc Cert.NReferenceIdeal.main_v148) = v1 c
          ∧ r.2.mem ((c.tc : Thread Cert.NReferenceIdeal.nD Cert.NReferenceIdeal.τ).loc Cert.NReferenceIdeal.main_v149) = v2 c
          ∧ r.2.mem ((c.tc : Thread Cert.NReferenceIdeal.nD Cert.NReferenceIdeal.τ).loc Cert.NReferenceIdeal.main_arg0) = m' ((c.tc : Thread Cert.NReferenceIdeal.nD Cert.NReferenceIdeal.τ).loc Cert.NReferenceIdeal.main_arg0)
          ∧ r.2.mem ((c.tc : Thread Cert.NReferenceIdeal.nD Cert.NReferenceIdeal.τ).loc Cert.NReferenceIdeal.main_arg1) = m' ((c.tc : Thread Cert.NReferenceIdeal.nD Cert.NReferenceIdeal.τ).loc Cert.NReferenceIdeal.main_arg1)
          ∧ r.2.mem ((c.tc : Thread Cert.NReferenceIdeal.nD Cert.NReferenceIdeal.τ).loc Cert.NReferenceIdeal.main_arg2) = m' ((c.tc : Thread Cert.NReferenceIdeal.nD Cert.NReferenceIdeal.τ).loc Cert.NReferenceIdeal.main_arg2))

def Claim : Prop :=
  ∃ (hDxKernel : Cert.DxKernel.Facts) (hDxKernelIdeal : Cert.DxKernelIdeal.Facts) (hDxReferenceIdeal : Cert.DxReferenceIdeal.Facts) (hDwKernel : Cert.DwKernel.Facts) (hDwKernelIdeal : Cert.DwKernelIdeal.Facts) (hDwReferenceIdeal : Cert.DwReferenceIdeal.Facts) (hWKernel : Cert.WKernel.Facts) (hWKernelIdeal : Cert.WKernelIdeal.Facts) (hWReferenceIdeal : Cert.WReferenceIdeal.Facts) (hXKernel : Cert.XKernel.Facts) (hXKernelIdeal : Cert.XKernelIdeal.Facts) (hXReferenceIdeal : Cert.XReferenceIdeal.Facts) (hTKernel : Cert.TKernel.Facts) (hTKernelIdeal : Cert.TKernelIdeal.Facts) (hTReferenceIdeal : Cert.TReferenceIdeal.Facts) (hNKernel : Cert.NKernel.Facts) (hNKernelIdeal : Cert.NKernelIdeal.Facts) (hNReferenceIdeal : Cert.NReferenceIdeal.Facts) (hPre_in_range_w : Cert.Pre_in_range_w.Facts) (hPre_in_range_x : Cert.Pre_in_range_x.Facts) (hPre_in_range_dy_t : Cert.Pre_in_range_dy_t.Facts) (hPre_in_range_dy_n : Cert.Pre_in_range_dy_n.Facts),
    quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_WKernel (hWKernel := hWKernel)
    ∧ quiescent_WKernelIdeal (hWKernelIdeal := hWKernelIdeal)
    ∧ quiescent_WKernelIdeal_pre_in_range_w (hWKernelIdeal := hWKernelIdeal) (hPre_in_range_w := hPre_in_range_w)
    ∧ quiescent_WReferenceIdeal (hWReferenceIdeal := hWReferenceIdeal)
    ∧ quiescent_WReferenceIdeal_pre_in_range_w (hWReferenceIdeal := hWReferenceIdeal) (hPre_in_range_w := hPre_in_range_w)
    ∧ quiescent_XKernel (hXKernel := hXKernel)
    ∧ quiescent_XKernelIdeal (hXKernelIdeal := hXKernelIdeal)
    ∧ quiescent_XKernelIdeal_pre_in_range_x (hXKernelIdeal := hXKernelIdeal) (hPre_in_range_x := hPre_in_range_x)
    ∧ quiescent_XReferenceIdeal (hXReferenceIdeal := hXReferenceIdeal)
    ∧ quiescent_XReferenceIdeal_pre_in_range_x (hXReferenceIdeal := hXReferenceIdeal) (hPre_in_range_x := hPre_in_range_x)
    ∧ quiescent_TKernel (hTKernel := hTKernel)
    ∧ quiescent_TKernelIdeal (hTKernelIdeal := hTKernelIdeal)
    ∧ quiescent_TKernelIdeal_pre_in_range_dy_t (hTKernelIdeal := hTKernelIdeal) (hPre_in_range_dy_t := hPre_in_range_dy_t)
    ∧ quiescent_TReferenceIdeal (hTReferenceIdeal := hTReferenceIdeal)
    ∧ quiescent_TReferenceIdeal_pre_in_range_dy_t (hTReferenceIdeal := hTReferenceIdeal) (hPre_in_range_dy_t := hPre_in_range_dy_t)
    ∧ quiescent_NKernel (hNKernel := hNKernel)
    ∧ quiescent_NKernelIdeal (hNKernelIdeal := hNKernelIdeal)
    ∧ quiescent_NKernelIdeal_pre_in_range_dy_n (hNKernelIdeal := hNKernelIdeal) (hPre_in_range_dy_n := hPre_in_range_dy_n)
    ∧ quiescent_NReferenceIdeal (hNReferenceIdeal := hNReferenceIdeal)
    ∧ quiescent_NReferenceIdeal_pre_in_range_dy_n (hNReferenceIdeal := hNReferenceIdeal) (hPre_in_range_dy_n := hPre_in_range_dy_n)
    ∧ preserves_DxKernel_DxKernelIdeal
    ∧ algebraic_DxKernelIdeal_DxReferenceIdeal (hDxKernelIdeal := hDxKernelIdeal) (hDxReferenceIdeal := hDxReferenceIdeal)
    ∧ preserves_DwKernel_DwKernelIdeal
    ∧ algebraic_DwKernelIdeal_DwReferenceIdeal (hDwKernelIdeal := hDwKernelIdeal) (hDwReferenceIdeal := hDwReferenceIdeal)
    ∧ preserves_WKernel_WKernelIdeal
    ∧ algebraic_WKernelIdeal_WReferenceIdeal_pre_in_range_w (hWKernelIdeal := hWKernelIdeal) (hWReferenceIdeal := hWReferenceIdeal) (hPre_in_range_w := hPre_in_range_w)
    ∧ preserves_XKernel_XKernelIdeal
    ∧ algebraic_XKernelIdeal_XReferenceIdeal_pre_in_range_x (hXKernelIdeal := hXKernelIdeal) (hXReferenceIdeal := hXReferenceIdeal) (hPre_in_range_x := hPre_in_range_x)
    ∧ preserves_TKernel_TKernelIdeal
    ∧ algebraic_TKernelIdeal_TReferenceIdeal_pre_in_range_dy_t (hTKernelIdeal := hTKernelIdeal) (hTReferenceIdeal := hTReferenceIdeal) (hPre_in_range_dy_t := hPre_in_range_dy_t)
    ∧ preserves_NKernel_NKernelIdeal
    ∧ algebraic_NKernelIdeal_NReferenceIdeal_pre_in_range_dy_n (hNKernelIdeal := hNKernelIdeal) (hNReferenceIdeal := hNReferenceIdeal) (hPre_in_range_dy_n := hPre_in_range_dy_n)
-- ==== Pre_in_range_dy_n.lean ====
abbrev S3840x16384 : Shape := ⟨2, ![3840, 16384]⟩
abbrev S16384 : Shape := ⟨1, ![16384]⟩
abbrev S16384x3840 : Shape := ⟨2, ![16384, 3840]⟩
abbrev S16384x1 : Shape := ⟨2, ![16384, 1]⟩
abbrev S512x1x32x3840 : Shape := ⟨4, ![512, 1, 32, 3840]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1x32x32x1 : Shape := ⟨4, ![1, 32, 32, 1]⟩
abbrev S512x32x32x3840 : Shape := ⟨4, ![512, 32, 32, 3840]⟩
abbrev S512x32x3840 : Shape := ⟨3, ![512, 32, 3840]⟩
abbrev S512x3840 : Shape := ⟨2, ![512, 3840]⟩

class Facts : Prop where
  transposes_S3840x16384_S16384x3840_1_0 : S3840x16384.Transposes [1, 0] S16384x3840
  bitsLt_bf16_f32 : FTy.bits .bf16 < FTy.bits .f32
  bcast_S16384_S16384x1_0 : S16384.BroadcastsInDim S16384x1 (![0] : Fin 1 → Fin S16384x1.rank)
  bcast_S16384x1_S16384x3840_0_1 : S16384x1.BroadcastsInDim S16384x3840 (![0, 1] : Fin 2 → Fin S16384x3840.rank)
  shapeCasts_S16384x3840_S512x1x32x3840 : S16384x3840.ShapeCasts S512x1x32x3840
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S32x32_S1x32x32x1_1_2 : S32x32.BroadcastsInDim S1x32x32x1 (![1, 2] : Fin 2 → Fin S1x32x32x1.rank)
  bcast_S1x32x32x1_S512x32x32x3840_0_1_2_3 : S1x32x32x1.BroadcastsInDim S512x32x32x3840 (![0, 1, 2, 3] : Fin 4 → Fin S512x32x32x3840.rank)
  bcast_S512x1x32x3840_S512x32x32x3840_0_1_2_3 : S512x1x32x3840.BroadcastsInDim S512x32x32x3840 (![0, 1, 2, 3] : Fin 4 → Fin S512x32x32x3840.rank)
  reducesTo_S512x32x32x3840_S512x32x3840_d2 : S512x32x32x3840.ReducesTo [2] S512x32x3840
  h_S_ : 0 < S_.numel
  reducesTo_S512x32x3840_S512x3840_d1 : S512x32x3840.ReducesTo [1] S512x3840
  bcast_S_S512x3840 : S_.BroadcastsInDim S512x3840 (![] : Fin 0 → Fin S512x3840.rank)

variable [Facts]

def fn_where {F : FTy → Type} [FloatOps F] (arg0 : IVec S32x32 1) (arg1 : FVec F S_ .f32) (arg2 : FVec F S_ .f32) : FVec F S32x32 .f32 :=
  let v0 : FVec F S32x32 .f32 := broadcastInDim S32x32 ![] bcast_S_S32x32 arg1
  let v1 : FVec F S32x32 .f32 := broadcastInDim S32x32 ![] bcast_S_S32x32 arg2
  let v2 : FVec F S32x32 .f32 := select arg0 v0 v1
  v2

def fn_block_max_part1 {F : FTy → Type} [FloatOps F] (v4 : FVec F S512x1x32x3840 .f32) (v19 : FVec F S512x32x32x3840 .f32) : FVec F S512x3840 .f32 :=
  let v20 : FVec F S512x32x32x3840 .f32 := broadcastInDim S512x32x32x3840 ![0, 1, 2, 3] bcast_S512x1x32x3840_S512x32x32x3840_0_1_2_3 v4
  let v21 : FVec F S512x32x32x3840 .f32 := mulf v19 v20
  let cst_2 : FVec F S_ .f32 := constant S_ .f32 0x00000000#32
  let v22 : FVec F S512x32x3840 .f32 := (fun x v => Host.reduceAdd x v reducesTo_S512x32x32x3840_S512x32x3840_d2 h_S_) v21 cst_2
  let v23 : FVec F S512x32x3840 .f32 := Host.absf v22
  let cst_3 : FVec F S_ .f32 := constant S_ .f32 0xFF800000#32
  let v24 : FVec F S512x3840 .f32 := (fun x v => Host.reduce FloatOps.maximumf x v reducesTo_S512x32x3840_S512x3840_d1 h_S_) v23 cst_3
  v24

def fn_block_max {F : FTy → Type} [FloatOps F] (arg0 : FVec F S16384x3840 .bf16) (arg1 : FVec F S16384 .f32) : FVec F S512x3840 .f32 :=
  let v0 : FVec F S16384x3840 .f32 := (extf .f32 · bitsLt_bf16_f32) arg0
  let v1 : FVec F S16384x1 .f32 := broadcastInDim S16384x1 ![0] bcast_S16384_S16384x1_0 arg1
  let v2 : FVec F S16384x3840 .f32 := broadcastInDim S16384x3840 ![0, 1] bcast_S16384x1_S16384x3840_0_1 v1
  let v3 : FVec F S16384x3840 .f32 := mulf v0 v2
  let v4 : FVec F S512x1x32x3840 .f32 := shapeCast S512x1x32x3840 v3 shapeCasts_S16384x3840_S512x1x32x3840
  let v5 : IVec S32 32 := iotaInDim S32 32 0
  let v6 : IVec S32x1 32 := broadcastInDim S32x1 ![0] bcast_S32_S32x1_0 v5
  let v7 : IVec S1x32 32 := broadcastInDim S1x32 ![1] bcast_S32_S1x32_1 v5
  let v8 : IVec S32x32 32 := broadcastInDim S32x32 ![0, 1] bcast_S32x1_S32x32_0_1 v6
  let v9 : IVec S32x32 32 := broadcastInDim S32x32 ![0, 1] bcast_S1x32_S32x32_0_1 v7
  let v10 : IVec S32x32 32 := andi v8 v9
  let v11 : IVec S32x32 32 := ctpop v10
  let c : IVec S_ 32 := constantI S_ 32 1#32
  let v12 : IVec S32x32 32 := broadcastInDim S32x32 ![] bcast_S_S32x32 c
  let v13 : IVec S32x32 32 := andi v11 v12
  let c_0 : IVec S_ 32 := constantI S_ 32 0#32
  let v14 : IVec S32x32 32 := broadcastInDim S32x32 ![] bcast_S_S32x32 c_0
  let v15 : IVec S32x32 1 := cmpi .eq v13 v14
  let cst : FVec F S_ .f32 := constant S_ .f32 0x3E3504F3#32
  let v16 : FVec F S_ .f32 := Host.negf cst
  let cst_1 : FVec F S_ .f32 := constant S_ .f32 0x3E3504F3#32
  let v17 : FVec F S32x32 .f32 := fn_where (F := F) v15 cst_1 v16
  let v18 : FVec F S1x32x32x1 .f32 := broadcastInDim S1x32x32x1 ![1, 2] bcast_S32x32_S1x32x32x1_1_2 v17
  let v19 : FVec F S512x32x32x3840 .f32 := broadcastInDim S512x32x32x3840 ![0, 1, 2, 3] bcast_S1x32x32x1_S512x32x32x3840_0_1_2_3 v18
  fn_block_max_part1 (F := F) v4 v19

def fn {F : FTy → Type} [FloatOps F] (main_arg0 : FVec F S3840x16384 .bf16) (main_arg1 : FVec F S16384 .f32) (main_arg2 : IVec S3840x16384 8) : IVec S512x3840 1 :=
  let main_v0 : FVec F S16384x3840 .bf16 := (transpose S16384x3840 [1, 0] · transposes_S3840x16384_S16384x3840_1_0) main_arg0
  let main_v1 : FVec F S512x3840 .f32 := fn_block_max (F := F) main_v0 main_arg1
  let main_cst : FVec F S_ .f32 := constant S_ .f32 0x00000000#32
  let main_v2 : FVec F S512x3840 .f32 := broadcastInDim S512x3840 ![] bcast_S_S512x3840 main_cst
  let main_v3 : IVec S512x3840 1 := cmpf .oeq main_v1 main_v2
  let main_cst_0 : FVec F S_ .f32 := constant S_ .f32 0x02000000#32
  let main_v4 : FVec F S512x3840 .f32 := broadcastInDim S512x3840 ![] bcast_S_S512x3840 main_cst_0
  let main_v5 : IVec S512x3840 1 := cmpf .oge main_v1 main_v4
  let main_cst_1 : FVec F S_ .f32 := constant S_ .f32 0x3F000000#32
  let main_v6 : FVec F S512x3840 .f32 := broadcastInDim S512x3840 ![] bcast_S_S512x3840 main_cst_1
  let main_v7 : FVec F S512x3840 .f32 := mulf main_v6 main_v1
  let main_cst_2 : FVec F S_ .f32 := constant S_ .f32 0x7F000000#32
  let main_v8 : FVec F S512x3840 .f32 := broadcastInDim S512x3840 ![] bcast_S_S512x3840 main_cst_2
  let main_v9 : IVec S512x3840 1 := cmpf .olt main_v7 main_v8
  let main_v10 : IVec S512x3840 1 := andi main_v5 main_v9
  let main_v11 : IVec S512x3840 1 := ori main_v3 main_v10
  main_v11
-- ==== Pre_in_range_dy_t.lean ====
abbrev S3840x16384 : Shape := ⟨2, ![3840, 16384]⟩
abbrev S3840 : Shape := ⟨1, ![3840]⟩
abbrev S3840x1 : Shape := ⟨2, ![3840, 1]⟩
abbrev S120x1x32x16384 : Shape := ⟨4, ![120, 1, 32, 16384]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1x32x32x1 : Shape := ⟨4, ![1, 32, 32, 1]⟩
abbrev S120x32x32x16384 : Shape := ⟨4, ![120, 32, 32, 16384]⟩
abbrev S120x32x16384 : Shape := ⟨3, ![120, 32, 16384]⟩
abbrev S120x16384 : Shape := ⟨2, ![120, 16384]⟩

class Facts : Prop where
  bitsLt_bf16_f32 : FTy.bits .bf16 < FTy.bits .f32
  bcast_S3840_S3840x1_0 : S3840.BroadcastsInDim S3840x1 (![0] : Fin 1 → Fin S3840x1.rank)
  bcast_S3840x1_S3840x16384_0_1 : S3840x1.BroadcastsInDim S3840x16384 (![0, 1] : Fin 2 → Fin S3840x16384.rank)
  shapeCasts_S3840x16384_S120x1x32x16384 : S3840x16384.ShapeCasts S120x1x32x16384
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S32x32_S1x32x32x1_1_2 : S32x32.BroadcastsInDim S1x32x32x1 (![1, 2] : Fin 2 → Fin S1x32x32x1.rank)
  bcast_S1x32x32x1_S120x32x32x16384_0_1_2_3 : S1x32x32x1.BroadcastsInDim S120x32x32x16384 (![0, 1, 2, 3] : Fin 4 → Fin S120x32x32x16384.rank)
  bcast_S120x1x32x16384_S120x32x32x16384_0_1_2_3 : S120x1x32x16384.BroadcastsInDim S120x32x32x16384 (![0, 1, 2, 3] : Fin 4 → Fin S120x32x32x16384.rank)
  reducesTo_S120x32x32x16384_S120x32x16384_d2 : S120x32x32x16384.ReducesTo [2] S120x32x16384
  h_S_ : 0 < S_.numel
  reducesTo_S120x32x16384_S120x16384_d1 : S120x32x16384.ReducesTo [1] S120x16384
  bcast_S_S120x16384 : S_.BroadcastsInDim S120x16384 (![] : Fin 0 → Fin S120x16384.rank)

variable [Facts]

def fn_where {F : FTy → Type} [FloatOps F] (arg0 : IVec S32x32 1) (arg1 : FVec F S_ .f32) (arg2 : FVec F S_ .f32) : FVec F S32x32 .f32 :=
  let v0 : FVec F S32x32 .f32 := broadcastInDim S32x32 ![] bcast_S_S32x32 arg1
  let v1 : FVec F S32x32 .f32 := broadcastInDim S32x32 ![] bcast_S_S32x32 arg2
  let v2 : FVec F S32x32 .f32 := select arg0 v0 v1
  v2

def fn_block_max_part1 {F : FTy → Type} [FloatOps F] (v4 : FVec F S120x1x32x16384 .f32) (v19 : FVec F S120x32x32x16384 .f32) : FVec F S120x16384 .f32 :=
  let v20 : FVec F S120x32x32x16384 .f32 := broadcastInDim S120x32x32x16384 ![0, 1, 2, 3] bcast_S120x1x32x16384_S120x32x32x16384_0_1_2_3 v4
  let v21 : FVec F S120x32x32x16384 .f32 := mulf v19 v20
  let cst_2 : FVec F S_ .f32 := constant S_ .f32 0x00000000#32
  let v22 : FVec F S120x32x16384 .f32 := (fun x v => Host.reduceAdd x v reducesTo_S120x32x32x16384_S120x32x16384_d2 h_S_) v21 cst_2
  let v23 : FVec F S120x32x16384 .f32 := Host.absf v22
  let cst_3 : FVec F S_ .f32 := constant S_ .f32 0xFF800000#32
  let v24 : FVec F S120x16384 .f32 := (fun x v => Host.reduce FloatOps.maximumf x v reducesTo_S120x32x16384_S120x16384_d1 h_S_) v23 cst_3
  v24

def fn_block_max {F : FTy → Type} [FloatOps F] (arg0 : FVec F S3840x16384 .bf16) (arg1 : FVec F S3840 .f32) : FVec F S120x16384 .f32 :=
  let v0 : FVec F S3840x16384 .f32 := (extf .f32 · bitsLt_bf16_f32) arg0
  let v1 : FVec F S3840x1 .f32 := broadcastInDim S3840x1 ![0] bcast_S3840_S3840x1_0 arg1
  let v2 : FVec F S3840x16384 .f32 := broadcastInDim S3840x16384 ![0, 1] bcast_S3840x1_S3840x16384_0_1 v1
  let v3 : FVec F S3840x16384 .f32 := mulf v0 v2
  let v4 : FVec F S120x1x32x16384 .f32 := shapeCast S120x1x32x16384 v3 shapeCasts_S3840x16384_S120x1x32x16384
  let v5 : IVec S32 32 := iotaInDim S32 32 0
  let v6 : IVec S32x1 32 := broadcastInDim S32x1 ![0] bcast_S32_S32x1_0 v5
  let v7 : IVec S1x32 32 := broadcastInDim S1x32 ![1] bcast_S32_S1x32_1 v5
  let v8 : IVec S32x32 32 := broadcastInDim S32x32 ![0, 1] bcast_S32x1_S32x32_0_1 v6
  let v9 : IVec S32x32 32 := broadcastInDim S32x32 ![0, 1] bcast_S1x32_S32x32_0_1 v7
  let v10 : IVec S32x32 32 := andi v8 v9
  let v11 : IVec S32x32 32 := ctpop v10
  let c : IVec S_ 32 := constantI S_ 32 1#32
  let v12 : IVec S32x32 32 := broadcastInDim S32x32 ![] bcast_S_S32x32 c
  let v13 : IVec S32x32 32 := andi v11 v12
  let c_0 : IVec S_ 32 := constantI S_ 32 0#32
  let v14 : IVec S32x32 32 := broadcastInDim S32x32 ![] bcast_S_S32x32 c_0
  let v15 : IVec S32x32 1 := cmpi .eq v13 v14
  let cst : FVec F S_ .f32 := constant S_ .f32 0x3E3504F3#32
  let v16 : FVec F S_ .f32 := Host.negf cst
  let cst_1 : FVec F S_ .f32 := constant S_ .f32 0x3E3504F3#32
  let v17 : FVec F S32x32 .f32 := fn_where (F := F) v15 cst_1 v16
  let v18 : FVec F S1x32x32x1 .f32 := broadcastInDim S1x32x32x1 ![1, 2] bcast_S32x32_S1x32x32x1_1_2 v17
  let v19 : FVec F S120x32x32x16384 .f32 := broadcastInDim S120x32x32x16384 ![0, 1, 2, 3] bcast_S1x32x32x1_S120x32x32x16384_0_1_2_3 v18
  fn_block_max_part1 (F := F) v4 v19

def fn {F : FTy → Type} [FloatOps F] (main_arg0 : FVec F S3840x16384 .bf16) (main_arg1 : FVec F S3840 .f32) (main_arg2 : IVec S3840x16384 8) : IVec S120x16384 1 :=
  let main_v0 : FVec F S120x16384 .f32 := fn_block_max (F := F) main_arg0 main_arg1
  let main_cst : FVec F S_ .f32 := constant S_ .f32 0x00000000#32
  let main_v1 : FVec F S120x16384 .f32 := broadcastInDim S120x16384 ![] bcast_S_S120x16384 main_cst
  let main_v2 : IVec S120x16384 1 := cmpf .oeq main_v0 main_v1
  let main_cst_0 : FVec F S_ .f32 := constant S_ .f32 0x02000000#32
  let main_v3 : FVec F S120x16384 .f32 := broadcastInDim S120x16384 ![] bcast_S_S120x16384 main_cst_0
  let main_v4 : IVec S120x16384 1 := cmpf .oge main_v0 main_v3
  let main_cst_1 : FVec F S_ .f32 := constant S_ .f32 0x3F000000#32
  let main_v5 : FVec F S120x16384 .f32 := broadcastInDim S120x16384 ![] bcast_S_S120x16384 main_cst_1
  let main_v6 : FVec F S120x16384 .f32 := mulf main_v5 main_v0
  let main_cst_2 : FVec F S_ .f32 := constant S_ .f32 0x7F000000#32
  let main_v7 : FVec F S120x16384 .f32 := broadcastInDim S120x16384 ![] bcast_S_S120x16384 main_cst_2
  let main_v8 : IVec S120x16384 1 := cmpf .olt main_v6 main_v7
  let main_v9 : IVec S120x16384 1 := andi main_v4 main_v8
  let main_v10 : IVec S120x16384 1 := ori main_v2 main_v9
  main_v10
-- ==== Pre_in_range_w.lean ====
abbrev S16384x6144 : Shape := ⟨2, ![16384, 6144]⟩
abbrev S16384 : Shape := ⟨1, ![16384]⟩
abbrev S16384x1 : Shape := ⟨2, ![16384, 1]⟩
abbrev S512x1x32x6144 : Shape := ⟨4, ![512, 1, 32, 6144]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1x32x32x1 : Shape := ⟨4, ![1, 32, 32, 1]⟩
abbrev S512x32x32x6144 : Shape := ⟨4, ![512, 32, 32, 6144]⟩
abbrev S512x32x6144 : Shape := ⟨3, ![512, 32, 6144]⟩
abbrev S512x6144 : Shape := ⟨2, ![512, 6144]⟩

class Facts : Prop where
  bitsLt_bf16_f32 : FTy.bits .bf16 < FTy.bits .f32
  bcast_S16384_S16384x1_0 : S16384.BroadcastsInDim S16384x1 (![0] : Fin 1 → Fin S16384x1.rank)
  bcast_S16384x1_S16384x6144_0_1 : S16384x1.BroadcastsInDim S16384x6144 (![0, 1] : Fin 2 → Fin S16384x6144.rank)
  shapeCasts_S16384x6144_S512x1x32x6144 : S16384x6144.ShapeCasts S512x1x32x6144
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S32x32_S1x32x32x1_1_2 : S32x32.BroadcastsInDim S1x32x32x1 (![1, 2] : Fin 2 → Fin S1x32x32x1.rank)
  bcast_S1x32x32x1_S512x32x32x6144_0_1_2_3 : S1x32x32x1.BroadcastsInDim S512x32x32x6144 (![0, 1, 2, 3] : Fin 4 → Fin S512x32x32x6144.rank)
  bcast_S512x1x32x6144_S512x32x32x6144_0_1_2_3 : S512x1x32x6144.BroadcastsInDim S512x32x32x6144 (![0, 1, 2, 3] : Fin 4 → Fin S512x32x32x6144.rank)
  reducesTo_S512x32x32x6144_S512x32x6144_d2 : S512x32x32x6144.ReducesTo [2] S512x32x6144
  h_S_ : 0 < S_.numel
  reducesTo_S512x32x6144_S512x6144_d1 : S512x32x6144.ReducesTo [1] S512x6144
  bcast_S_S512x6144 : S_.BroadcastsInDim S512x6144 (![] : Fin 0 → Fin S512x6144.rank)

variable [Facts]

def fn_where {F : FTy → Type} [FloatOps F] (arg0 : IVec S32x32 1) (arg1 : FVec F S_ .f32) (arg2 : FVec F S_ .f32) : FVec F S32x32 .f32 :=
  let v0 : FVec F S32x32 .f32 := broadcastInDim S32x32 ![] bcast_S_S32x32 arg1
  let v1 : FVec F S32x32 .f32 := broadcastInDim S32x32 ![] bcast_S_S32x32 arg2
  let v2 : FVec F S32x32 .f32 := select arg0 v0 v1
  v2

def fn_block_max_part1 {F : FTy → Type} [FloatOps F] (v4 : FVec F S512x1x32x6144 .f32) (v19 : FVec F S512x32x32x6144 .f32) : FVec F S512x6144 .f32 :=
  let v20 : FVec F S512x32x32x6144 .f32 := broadcastInDim S512x32x32x6144 ![0, 1, 2, 3] bcast_S512x1x32x6144_S512x32x32x6144_0_1_2_3 v4
  let v21 : FVec F S512x32x32x6144 .f32 := mulf v19 v20
  let cst_2 : FVec F S_ .f32 := constant S_ .f32 0x00000000#32
  let v22 : FVec F S512x32x6144 .f32 := (fun x v => Host.reduceAdd x v reducesTo_S512x32x32x6144_S512x32x6144_d2 h_S_) v21 cst_2
  let v23 : FVec F S512x32x6144 .f32 := Host.absf v22
  let cst_3 : FVec F S_ .f32 := constant S_ .f32 0xFF800000#32
  let v24 : FVec F S512x6144 .f32 := (fun x v => Host.reduce FloatOps.maximumf x v reducesTo_S512x32x6144_S512x6144_d1 h_S_) v23 cst_3
  v24

def fn_block_max {F : FTy → Type} [FloatOps F] (arg0 : FVec F S16384x6144 .bf16) (arg1 : FVec F S16384 .f32) : FVec F S512x6144 .f32 :=
  let v0 : FVec F S16384x6144 .f32 := (extf .f32 · bitsLt_bf16_f32) arg0
  let v1 : FVec F S16384x1 .f32 := broadcastInDim S16384x1 ![0] bcast_S16384_S16384x1_0 arg1
  let v2 : FVec F S16384x6144 .f32 := broadcastInDim S16384x6144 ![0, 1] bcast_S16384x1_S16384x6144_0_1 v1
  let v3 : FVec F S16384x6144 .f32 := mulf v0 v2
  let v4 : FVec F S512x1x32x6144 .f32 := shapeCast S512x1x32x6144 v3 shapeCasts_S16384x6144_S512x1x32x6144
  let v5 : IVec S32 32 := iotaInDim S32 32 0
  let v6 : IVec S32x1 32 := broadcastInDim S32x1 ![0] bcast_S32_S32x1_0 v5
  let v7 : IVec S1x32 32 := broadcastInDim S1x32 ![1] bcast_S32_S1x32_1 v5
  let v8 : IVec S32x32 32 := broadcastInDim S32x32 ![0, 1] bcast_S32x1_S32x32_0_1 v6
  let v9 : IVec S32x32 32 := broadcastInDim S32x32 ![0, 1] bcast_S1x32_S32x32_0_1 v7
  let v10 : IVec S32x32 32 := andi v8 v9
  let v11 : IVec S32x32 32 := ctpop v10
  let c : IVec S_ 32 := constantI S_ 32 1#32
  let v12 : IVec S32x32 32 := broadcastInDim S32x32 ![] bcast_S_S32x32 c
  let v13 : IVec S32x32 32 := andi v11 v12
  let c_0 : IVec S_ 32 := constantI S_ 32 0#32
  let v14 : IVec S32x32 32 := broadcastInDim S32x32 ![] bcast_S_S32x32 c_0
  let v15 : IVec S32x32 1 := cmpi .eq v13 v14
  let cst : FVec F S_ .f32 := constant S_ .f32 0x3E3504F3#32
  let v16 : FVec F S_ .f32 := Host.negf cst
  let cst_1 : FVec F S_ .f32 := constant S_ .f32 0x3E3504F3#32
  let v17 : FVec F S32x32 .f32 := fn_where (F := F) v15 cst_1 v16
  let v18 : FVec F S1x32x32x1 .f32 := broadcastInDim S1x32x32x1 ![1, 2] bcast_S32x32_S1x32x32x1_1_2 v17
  let v19 : FVec F S512x32x32x6144 .f32 := broadcastInDim S512x32x32x6144 ![0, 1, 2, 3] bcast_S1x32x32x1_S512x32x32x6144_0_1_2_3 v18
  fn_block_max_part1 (F := F) v4 v19

def fn {F : FTy → Type} [FloatOps F] (main_arg0 : FVec F S16384x6144 .bf16) (main_arg1 : FVec F S16384 .f32) (main_arg2 : IVec S16384x6144 8) : IVec S512x6144 1 :=
  let main_v0 : FVec F S512x6144 .f32 := fn_block_max (F := F) main_arg0 main_arg1
  let main_cst : FVec F S_ .f32 := constant S_ .f32 0x00000000#32
  let main_v1 : FVec F S512x6144 .f32 := broadcastInDim S512x6144 ![] bcast_S_S512x6144 main_cst
  let main_v2 : IVec S512x6144 1 := cmpf .oeq main_v0 main_v1
  let main_cst_0 : FVec F S_ .f32 := constant S_ .f32 0x02000000#32
  let main_v3 : FVec F S512x6144 .f32 := broadcastInDim S512x6144 ![] bcast_S_S512x6144 main_cst_0
  let main_v4 : IVec S512x6144 1 := cmpf .oge main_v0 main_v3
  let main_cst_1 : FVec F S_ .f32 := constant S_ .f32 0x3F000000#32
  let main_v5 : FVec F S512x6144 .f32 := broadcastInDim S512x6144 ![] bcast_S_S512x6144 main_cst_1
  let main_v6 : FVec F S512x6144 .f32 := mulf main_v5 main_v0
  let main_cst_2 : FVec F S_ .f32 := constant S_ .f32 0x7F000000#32
  let main_v7 : FVec F S512x6144 .f32 := broadcastInDim S512x6144 ![] bcast_S_S512x6144 main_cst_2
  let main_v8 : IVec S512x6144 1 := cmpf .olt main_v6 main_v7
  let main_v9 : IVec S512x6144 1 := andi main_v4 main_v8
  let main_v10 : IVec S512x6144 1 := ori main_v2 main_v9
  main_v10
-- ==== Pre_in_range_x.lean ====
abbrev S3840x6144 : Shape := ⟨2, ![3840, 6144]⟩
abbrev S3840 : Shape := ⟨1, ![3840]⟩
abbrev S3840x1 : Shape := ⟨2, ![3840, 1]⟩
abbrev S120x1x32x6144 : Shape := ⟨4, ![120, 1, 32, 6144]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1x32x32x1 : Shape := ⟨4, ![1, 32, 32, 1]⟩
abbrev S120x32x32x6144 : Shape := ⟨4, ![120, 32, 32, 6144]⟩
abbrev S120x32x6144 : Shape := ⟨3, ![120, 32, 6144]⟩
abbrev S120x6144 : Shape := ⟨2, ![120, 6144]⟩

class Facts : Prop where
  bitsLt_bf16_f32 : FTy.bits .bf16 < FTy.bits .f32
  bcast_S3840_S3840x1_0 : S3840.BroadcastsInDim S3840x1 (![0] : Fin 1 → Fin S3840x1.rank)
  bcast_S3840x1_S3840x6144_0_1 : S3840x1.BroadcastsInDim S3840x6144 (![0, 1] : Fin 2 → Fin S3840x6144.rank)
  shapeCasts_S3840x6144_S120x1x32x6144 : S3840x6144.ShapeCasts S120x1x32x6144
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S32x32_S1x32x32x1_1_2 : S32x32.BroadcastsInDim S1x32x32x1 (![1, 2] : Fin 2 → Fin S1x32x32x1.rank)
  bcast_S1x32x32x1_S120x32x32x6144_0_1_2_3 : S1x32x32x1.BroadcastsInDim S120x32x32x6144 (![0, 1, 2, 3] : Fin 4 → Fin S120x32x32x6144.rank)
  bcast_S120x1x32x6144_S120x32x32x6144_0_1_2_3 : S120x1x32x6144.BroadcastsInDim S120x32x32x6144 (![0, 1, 2, 3] : Fin 4 → Fin S120x32x32x6144.rank)
  reducesTo_S120x32x32x6144_S120x32x6144_d2 : S120x32x32x6144.ReducesTo [2] S120x32x6144
  h_S_ : 0 < S_.numel
  reducesTo_S120x32x6144_S120x6144_d1 : S120x32x6144.ReducesTo [1] S120x6144
  bcast_S_S120x6144 : S_.BroadcastsInDim S120x6144 (![] : Fin 0 → Fin S120x6144.rank)

variable [Facts]

def fn_where {F : FTy → Type} [FloatOps F] (arg0 : IVec S32x32 1) (arg1 : FVec F S_ .f32) (arg2 : FVec F S_ .f32) : FVec F S32x32 .f32 :=
  let v0 : FVec F S32x32 .f32 := broadcastInDim S32x32 ![] bcast_S_S32x32 arg1
  let v1 : FVec F S32x32 .f32 := broadcastInDim S32x32 ![] bcast_S_S32x32 arg2
  let v2 : FVec F S32x32 .f32 := select arg0 v0 v1
  v2

def fn_block_max_part1 {F : FTy → Type} [FloatOps F] (v4 : FVec F S120x1x32x6144 .f32) (v19 : FVec F S120x32x32x6144 .f32) : FVec F S120x6144 .f32 :=
  let v20 : FVec F S120x32x32x6144 .f32 := broadcastInDim S120x32x32x6144 ![0, 1, 2, 3] bcast_S120x1x32x6144_S120x32x32x6144_0_1_2_3 v4
  let v21 : FVec F S120x32x32x6144 .f32 := mulf v19 v20
  let cst_2 : FVec F S_ .f32 := constant S_ .f32 0x00000000#32
  let v22 : FVec F S120x32x6144 .f32 := (fun x v => Host.reduceAdd x v reducesTo_S120x32x32x6144_S120x32x6144_d2 h_S_) v21 cst_2
  let v23 : FVec F S120x32x6144 .f32 := Host.absf v22
  let cst_3 : FVec F S_ .f32 := constant S_ .f32 0xFF800000#32
  let v24 : FVec F S120x6144 .f32 := (fun x v => Host.reduce FloatOps.maximumf x v reducesTo_S120x32x6144_S120x6144_d1 h_S_) v23 cst_3
  v24

def fn_block_max {F : FTy → Type} [FloatOps F] (arg0 : FVec F S3840x6144 .bf16) (arg1 : FVec F S3840 .f32) : FVec F S120x6144 .f32 :=
  let v0 : FVec F S3840x6144 .f32 := (extf .f32 · bitsLt_bf16_f32) arg0
  let v1 : FVec F S3840x1 .f32 := broadcastInDim S3840x1 ![0] bcast_S3840_S3840x1_0 arg1
  let v2 : FVec F S3840x6144 .f32 := broadcastInDim S3840x6144 ![0, 1] bcast_S3840x1_S3840x6144_0_1 v1
  let v3 : FVec F S3840x6144 .f32 := mulf v0 v2
  let v4 : FVec F S120x1x32x6144 .f32 := shapeCast S120x1x32x6144 v3 shapeCasts_S3840x6144_S120x1x32x6144
  let v5 : IVec S32 32 := iotaInDim S32 32 0
  let v6 : IVec S32x1 32 := broadcastInDim S32x1 ![0] bcast_S32_S32x1_0 v5
  let v7 : IVec S1x32 32 := broadcastInDim S1x32 ![1] bcast_S32_S1x32_1 v5
  let v8 : IVec S32x32 32 := broadcastInDim S32x32 ![0, 1] bcast_S32x1_S32x32_0_1 v6
  let v9 : IVec S32x32 32 := broadcastInDim S32x32 ![0, 1] bcast_S1x32_S32x32_0_1 v7
  let v10 : IVec S32x32 32 := andi v8 v9
  let v11 : IVec S32x32 32 := ctpop v10
  let c : IVec S_ 32 := constantI S_ 32 1#32
  let v12 : IVec S32x32 32 := broadcastInDim S32x32 ![] bcast_S_S32x32 c
  let v13 : IVec S32x32 32 := andi v11 v12
  let c_0 : IVec S_ 32 := constantI S_ 32 0#32
  let v14 : IVec S32x32 32 := broadcastInDim S32x32 ![] bcast_S_S32x32 c_0
  let v15 : IVec S32x32 1 := cmpi .eq v13 v14
  let cst : FVec F S_ .f32 := constant S_ .f32 0x3E3504F3#32
  let v16 : FVec F S_ .f32 := Host.negf cst
  let cst_1 : FVec F S_ .f32 := constant S_ .f32 0x3E3504F3#32
  let v17 : FVec F S32x32 .f32 := fn_where (F := F) v15 cst_1 v16
  let v18 : FVec F S1x32x32x1 .f32 := broadcastInDim S1x32x32x1 ![1, 2] bcast_S32x32_S1x32x32x1_1_2 v17
  let v19 : FVec F S120x32x32x6144 .f32 := broadcastInDim S120x32x32x6144 ![0, 1, 2, 3] bcast_S1x32x32x1_S120x32x32x6144_0_1_2_3 v18
  fn_block_max_part1 (F := F) v4 v19

def fn {F : FTy → Type} [FloatOps F] (main_arg0 : FVec F S3840x6144 .bf16) (main_arg1 : FVec F S3840 .f32) (main_arg2 : IVec S3840x6144 8) : IVec S120x6144 1 :=
  let main_v0 : FVec F S120x6144 .f32 := fn_block_max (F := F) main_arg0 main_arg1
  let main_cst : FVec F S_ .f32 := constant S_ .f32 0x00000000#32
  let main_v1 : FVec F S120x6144 .f32 := broadcastInDim S120x6144 ![] bcast_S_S120x6144 main_cst
  let main_v2 : IVec S120x6144 1 := cmpf .oeq main_v0 main_v1
  let main_cst_0 : FVec F S_ .f32 := constant S_ .f32 0x02000000#32
  let main_v3 : FVec F S120x6144 .f32 := broadcastInDim S120x6144 ![] bcast_S_S120x6144 main_cst_0
  let main_v4 : IVec S120x6144 1 := cmpf .oge main_v0 main_v3
  let main_cst_1 : FVec F S_ .f32 := constant S_ .f32 0x3F000000#32
  let main_v5 : FVec F S120x6144 .f32 := broadcastInDim S120x6144 ![] bcast_S_S120x6144 main_cst_1
  let main_v6 : FVec F S120x6144 .f32 := mulf main_v5 main_v0
  let main_cst_2 : FVec F S_ .f32 := constant S_ .f32 0x7F000000#32
  let main_v7 : FVec F S120x6144 .f32 := broadcastInDim S120x6144 ![] bcast_S_S120x6144 main_cst_2
  let main_v8 : IVec S120x6144 1 := cmpf .olt main_v6 main_v7
  let main_v9 : IVec S120x6144 1 := andi main_v4 main_v8
  let main_v10 : IVec S120x6144 1 := ori main_v2 main_v9
  main_v10
-- ==== DxKernel.lean ====
abbrev S3840x16384 : Shape := ⟨2, ![3840, 16384]⟩
abbrev S16384x6144 : Shape := ⟨2, ![16384, 6144]⟩
abbrev S3840x6144 : Shape := ⟨2, ![3840, 6144]⟩
abbrev S1280x2048 : Shape := ⟨2, ![1280, 2048]⟩
abbrev S2048x1536 : Shape := ⟨2, ![2048, 1536]⟩
abbrev S1280x1536 : Shape := ⟨2, ![1280, 1536]⟩

abbrev nBuf : Space → Nat
  | .hbm => 3
  | .vmem => 7
  | .smem => 0
  | _ => 0

abbrev bufTy : (tb : Table) → Fin (tcTables nBuf tb) → BufTy
  | .hbm, ⟨0, _⟩ => ⟨S3840x16384, .bf16⟩
  | .hbm, ⟨1, _⟩ => ⟨S16384x6144, .bf16⟩
  | .hbm, ⟨2, _⟩ => ⟨S3840x6144, .bf16⟩
  | .local _ .vmem, ⟨0, _⟩ => ⟨S1280x2048, .bf16⟩
  | .local _ .vmem, ⟨1, _⟩ => ⟨S1280x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1280x1536, .bf16⟩
  | .local _ .vmem, ⟨5, _⟩ => ⟨S1280x1536, .bf16⟩
  | .local _ .vmem, ⟨6, _⟩ => ⟨S1280x1536, .f32⟩
  | _, _ => ⟨S3840x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxReferenceIdeal.lean ====
abbrev S3840x16384 : Shape := ⟨2, ![3840, 16384]⟩
abbrev S16384x6144 : Shape := ⟨2, ![16384, 6144]⟩
abbrev S3840x6144 : Shape := ⟨2, ![3840, 6144]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S3840x16384, .bf16⟩
  | .hbm, ⟨1, _⟩ => ⟨S16384x6144, .bf16⟩
  | .hbm, ⟨2, _⟩ => ⟨S3840x6144, .f32⟩
  | .hbm, ⟨3, _⟩ => ⟨S_, .f32⟩
  | .hbm, ⟨4, _⟩ => ⟨S3840x6144, .f32⟩
  | .hbm, ⟨5, _⟩ => ⟨S3840x6144, .f32⟩
  | .hbm, ⟨6, _⟩ => ⟨S3840x6144, .bf16⟩
  | _, _ => ⟨S3840x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwKernel.lean ====
abbrev S16384x3840 : Shape := ⟨2, ![16384, 3840]⟩
abbrev S3840x6144 : Shape := ⟨2, ![3840, 6144]⟩
abbrev S16384x6144 : Shape := ⟨2, ![16384, 6144]⟩
abbrev S1024x3840 : Shape := ⟨2, ![1024, 3840]⟩
abbrev S3840x1024 : Shape := ⟨2, ![3840, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x3840, .bf16⟩
  | .hbm, ⟨1, _⟩ => ⟨S3840x6144, .bf16⟩
  | .hbm, ⟨2, _⟩ => ⟨S16384x6144, .f32⟩
  | .local _ .vmem, ⟨0, _⟩ => ⟨S1024x3840, .bf16⟩
  | .local _ .vmem, ⟨1, _⟩ => ⟨S1024x3840, .bf16⟩
  | .local _ .vmem, ⟨2, _⟩ => ⟨S3840x1024, .bf16⟩
  | .local _ .vmem, ⟨3, _⟩ => ⟨S3840x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3840x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwReferenceIdeal.lean ====
abbrev S16384x3840 : Shape := ⟨2, ![16384, 3840]⟩
abbrev S3840x6144 : Shape := ⟨2, ![3840, 6144]⟩
abbrev S16384x6144 : Shape := ⟨2, ![16384, 6144]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x3840, .bf16⟩
  | .hbm, ⟨1, _⟩ => ⟨S3840x6144, .bf16⟩
  | .hbm, ⟨2, _⟩ => ⟨S16384x6144, .f32⟩
  | .hbm, ⟨3, _⟩ => ⟨S_, .f32⟩
  | .hbm, ⟨4, _⟩ => ⟨S16384x6144, .f32⟩
  | .hbm, ⟨5, _⟩ => ⟨S16384x6144, .f32⟩
  | _, _ => ⟨S16384x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== WKernel.lean ====
abbrev S16384x6144 : Shape := ⟨2, ![16384, 6144]⟩
abbrev S16384 : Shape := ⟨1, ![16384]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S64x1x256 : Shape := ⟨3, ![64, 1, 256]⟩
abbrev S1x256x256 : Shape := ⟨3, ![1, 256, 256]⟩
abbrev S64x256x256 : Shape := ⟨3, ![64, 256, 256]⟩
abbrev S16384x256 : Shape := ⟨2, ![16384, 256]⟩
abbrev S8192x6144 : Shape := ⟨2, ![8192, 6144]⟩
abbrev S512x6144 : Shape := ⟨2, ![512, 6144]⟩
abbrev S1024x512 : Shape := ⟨2, ![1024, 512]⟩
abbrev S1024x256 : Shape := ⟨2, ![1024, 256]⟩
abbrev S512x512 : Shape := ⟨2, ![512, 512]⟩
abbrev S32x512 : Shape := ⟨2, ![32, 512]⟩
abbrev S256x512 : Shape := ⟨2, ![256, 512]⟩
abbrev S64x512 : Shape := ⟨2, ![64, 512]⟩
abbrev S8x8x512 : Shape := ⟨3, ![8, 8, 512]⟩
abbrev S8x512 : Shape := ⟨2, ![8, 512]⟩
abbrev S8x1x512 : Shape := ⟨3, ![8, 1, 512]⟩
abbrev S128x512 : Shape := ⟨2, ![128, 512]⟩

abbrev nBuf : Space → Nat
  | .hbm => 73
  | .vmem => 13
  | .smem => 0
  | _ => 0

abbrev bufTy : (tb : Table) → Fin (tcTables nBuf tb) → BufTy
  | .hbm, ⟨0, _⟩ => ⟨S16384x6144, .bf16⟩
  | .hbm, ⟨1, _⟩ => ⟨S16384, .f32⟩
  | .hbm, ⟨2, _⟩ => ⟨S16384x6144, .i8⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i32⟩
  | .hbm, ⟨33, _⟩ => ⟨S256x256, .i32⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S_, .i32⟩
  | .hbm, ⟨52, _⟩ => ⟨S256x256, .i32⟩
  | .hbm, ⟨53, _⟩ => ⟨S256x256, .i1⟩
  | .hbm, ⟨54, _⟩ => ⟨S_, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S64x1x256, .f32⟩
  | .hbm, ⟨64, _⟩ => ⟨S1x256x256, .f32⟩
  | .hbm, ⟨65, _⟩ => ⟨S64x256x256, .f32⟩
  | .hbm, ⟨66, _⟩ => ⟨S64x256x256, .f32⟩
  | .hbm, ⟨67, _⟩ => ⟨S64x256x256, .f32⟩
  | .hbm, ⟨68, _⟩ => ⟨S16384x256, .f32⟩
  | .hbm, ⟨69, _⟩ => ⟨S16384x256, .bf16⟩
  | .hbm, ⟨70, _⟩ => ⟨S8192x6144, .i8⟩
  | .hbm, ⟨71, _⟩ => ⟨S512x6144, .i8⟩
  | .hbm, ⟨72, _⟩ => ⟨S16384x6144, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .i8⟩
  | .local _ .vmem, ⟨3, _⟩ => ⟨S1024x512, .i8⟩
  | .local _ .vmem, ⟨4, _⟩ => ⟨S1024x256, .bf16⟩
  | .local _ .vmem, ⟨5, _⟩ => ⟨S1024x256, .bf16⟩
  | .local _ .vmem, ⟨6, _⟩ => ⟨S512x512, .i8⟩
  | .local _ .vmem, ⟨7, _⟩ => ⟨S512x512, .i8⟩
  | .local _ .vmem, ⟨8, _⟩ => ⟨S32x512, .i8⟩
  | .local _ .vmem, ⟨9, _⟩ => ⟨S32x512, .i8⟩
  | .local _ .vmem, ⟨10, _⟩ => ⟨S1024x512, .bf16⟩
  | .local _ .vmem, ⟨11, _⟩ => ⟨S1024x512, .bf16⟩
  | .local _ .vmem, ⟨12, _⟩ => ⟨S32x512, .i32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_10 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_cst_11 : Ref sig .tc := ⟨.hbm, 55, rfl⟩
abbrev main_call0_v0 : Ref sig .tc := ⟨.hbm, 56, rfl⟩
abbrev main_call0_v1 : Ref sig .tc := ⟨.hbm, 57, rfl⟩
abbrev main_v39 : Ref sig .tc := ⟨.hbm, 58, rfl⟩
abbrev main_cst_12 : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_v49_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![16, 12], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v4 : BitVec 32 := Scalar.muli arg9 c1_i32_4
  let v5 : BitVec 32 := Scalar.addi c0_i32_5 v4
  let c256_i32 : BitVec 32 := 256#32
  let v6 : BitVec 32 := Scalar.muli v5 c256_i32
  v6
def k0_mult2 (k0_t1 : Fin k0_t1_loop.trips) : BitVec 32 :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v4 : BitVec 32 := Scalar.muli arg9 c1_i32_4
  let v5 : BitVec 32 := Scalar.addi c0_i32_5 v4
  let c128_i32 : BitVec 32 := 128#32
  let v8 : BitVec 32 := Scalar.muli v5 c128_i32
  v8
def k0_mult3 (k0_t1 : Fin k0_t1_loop.trips) : BitVec 32 :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v4 : BitVec 32 := Scalar.muli arg9 c1_i32_4
  let v5 : BitVec 32 := Scalar.addi c0_i32_5 v4
  let c8_i32 : BitVec 32 := 8#32
  let v10 : BitVec 32 := Scalar.muli v5 c8_i32
  v10
def k0_off1 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v4 : BitVec 32 := Scalar.muli arg9 c1_i32_4
  let v5 : BitVec 32 := Scalar.addi c0_i32_5 v4
  let c256_i32 : BitVec 32 := 256#32
  let v6 : BitVec 32 := Scalar.muli v5 c256_i32
  let v7 : BitVec 32 := v6
  let v12 : Index := Scalar.indexCast v7
  let c0_6 : Index := 0#32
  ![v12.toNat, 0]
def k0_off2 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v4 : BitVec 32 := Scalar.muli arg9 c1_i32_4
  let v5 : BitVec 32 := Scalar.addi c0_i32_5 v4
  let c256_i32 : BitVec 32 := 256#32
  let v6 : BitVec 32 := Scalar.muli v5 c256_i32
  let v7 : BitVec 32 := v6
  let v16 : Index := Scalar.indexCast v7
  let c0_8 : Index := 0#32
  ![v16.toNat, 0]
def k0_off3 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v4 : BitVec 32 := Scalar.muli arg9 c1_i32_4
  let v5 : BitVec 32 := Scalar.addi c0_i32_5 v4
  let c128_i32 : BitVec 32 := 128#32
  let v8 : BitVec 32 := Scalar.muli v5 c128_i32
  let v9 : BitVec 32 := v8
  let v450 : Index := Scalar.indexCast v9
  let c0_98 : Index := 0#32
  ![v450.toNat, 0]
def k0_off4 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v4 : BitVec 32 := Scalar.muli arg9 c1_i32_4
  let v5 : BitVec 32 := Scalar.addi c0_i32_5 v4
  let c8_i32 : BitVec 32 := 8#32
  let v10 : BitVec 32 := Scalar.muli v5 c8_i32
  let v11 : BitVec 32 := v10
  let v452 : Index := Scalar.indexCast v11
  let c0_99 : Index := 0#32
  ![v452.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WKernelIdeal.lean ====
variable {F : FTy → Type} [FloatOps F]
-- ==== WReferenceIdeal.lean ====
abbrev S16384x6144 : Shape := ⟨2, ![16384, 6144]⟩
abbrev S16384 : Shape := ⟨1, ![16384]⟩
abbrev S16384x1 : Shape := ⟨2, ![16384, 1]⟩
abbrev S512x32x6144 : Shape := ⟨3, ![512, 32, 6144]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S512x6144x32 : Shape := ⟨3, ![512, 6144, 32]⟩
abbrev S512x6144 : Shape := ⟨2, ![512, 6144]⟩
abbrev S512x1x6144 : Shape := ⟨3, ![512, 1, 6144]⟩
abbrev S8192x2x6144 : Shape := ⟨3, ![8192, 2, 6144]⟩
abbrev S8192x1x6144 : Shape := ⟨3, ![8192, 1, 6144]⟩
abbrev S8192x6144 : Shape := ⟨2, ![8192, 6144]⟩
abbrev S64x8x8x2x2x6144 : Shape := ⟨6, ![64, 8, 8, 2, 2, 6144]⟩
abbrev S64x2x2x8x8x6144 : Shape := ⟨6, ![64, 2, 2, 8, 8, 6144]⟩

abbrev nBuf : Space → Nat
  | .hbm => 219
  | .vmem => 0
  | .smem => 0
  | _ => 0

abbrev hbmTy0_0 (i : Nat) : BufTy := match i % 128 with
  | 0 => ⟨S16384x6144, .bf16⟩
  | 1 => ⟨S16384, .f32⟩
  | 2 => ⟨S16384x6144, .i8⟩
  | 3 => ⟨S16384x6144, .f32⟩
  | 4 => ⟨S16384x1, .f32⟩
  | 5 => ⟨S16384x6144, .f32⟩
  | 6 => ⟨S16384x6144, .f32⟩
  | 7 => ⟨S512x32x6144, .f32⟩
  | 8 => ⟨S32, .i32⟩
  | 9 => ⟨S32x1, .i32⟩
  | 10 => ⟨S1x32, .i32⟩
  | 11 => ⟨S32x32, .i32⟩
  | 12 => ⟨S32x32, .i32⟩
  | 13 => ⟨S32x32, .i32⟩
  | 14 => ⟨S32x32, .i32⟩
  | 15 => ⟨S_, .i32⟩
  | 16 => ⟨S32x32, .i32⟩
  | 17 => ⟨S32x32, .i32⟩
  | 18 => ⟨S_, .i32⟩
  | 19 => ⟨S32x32, .i32⟩
  | 20 => ⟨S32x32, .i1⟩
  | 21 => ⟨S_, .f32⟩
  | 22 => ⟨S_, .f32⟩
  | 23 => ⟨S_, .f32⟩
  | 24 => ⟨S32x32, .f32⟩
  | 25 => ⟨S32x32, .f32⟩
  | 26 => ⟨S32x32, .f32⟩
  | 27 => ⟨S512x6144x32, .f32⟩
  | 28 => ⟨S512x32x6144, .f32⟩
  | 29 => ⟨S512x32x6144, .f32⟩
  | 30 => ⟨S_, .f32⟩
  | 31 => ⟨S512x6144, .f32⟩
  | 32 => ⟨S_, .f32⟩
  | 33 => ⟨S512x6144, .f32⟩
  | 34 => ⟨S512x6144, .i1⟩
  | 35 => ⟨S512x6144, .f32⟩
  | 36 => ⟨S_, .f32⟩
  | 37 => ⟨S_, .f32⟩
  | 38 => ⟨S_, .f32⟩
  | 39 => ⟨S512x6144, .f32⟩
  | 40 => ⟨S512x6144, .f32⟩
  | 41 => ⟨S512x6144, .f32⟩
  | 42 => ⟨S_, .f32⟩
  | 43 => ⟨S512x6144, .f32⟩
  | 44 => ⟨S512x6144, .f32⟩
  | 45 => ⟨S_, .f32⟩
  | 46 => ⟨S_, .f32⟩
  | 47 => ⟨S512x6144, .f32⟩
  | 48 => ⟨S512x6144, .f32⟩
  | 49 => ⟨S512x6144, .f32⟩
  | 50 => ⟨S_, .f32⟩
  | 51 => ⟨S512x6144, .f32⟩
  | 52 => ⟨S512x6144, .f32⟩
  | 53 => ⟨S_, .f32⟩
  | 54 => ⟨S512x6144, .f32⟩
  | 55 => ⟨S512x6144, .f32⟩
  | 56 => ⟨S512x1x6144, .f32⟩
  | 57 => ⟨S512x32x6144, .f32⟩
  | 58 => ⟨S512x32x6144, .f32⟩
  | 59 => ⟨S512x32x6144, .i8⟩
  | 60 => ⟨S512x32x6144, .f32⟩
  | 61 => ⟨S_, .f32⟩
  | 62 => ⟨S512x32x6144, .f32⟩
  | 63 => ⟨S512x32x6144, .i1⟩
  | 64 => ⟨S_, .f32⟩
  | 65 => ⟨S512x32x6144, .f32⟩
  | 66 => ⟨S512x32x6144, .i1⟩
  | 67 => ⟨S_, .f32⟩
  | 68 => ⟨S_, .f32⟩
  | 69 => ⟨S512x32x6144, .f32⟩
  | 70 => ⟨S512x32x6144, .f32⟩
  | 71 => ⟨S512x32x6144, .f32⟩
  | 72 => ⟨S_, .f32⟩
  | 73 => ⟨S512x32x6144, .f32⟩
  | 74 => ⟨S512x32x6144, .f32⟩
  | 75 => ⟨S512x32x6144, .f32⟩
  | 76 => ⟨S512x32x6144, .f32⟩
  | 77 => ⟨S512x32x6144, .f32⟩
  | 78 => ⟨S512x32x6144, .f32⟩
  | 79 => ⟨S512x32x6144, .f32⟩
  | 80 => ⟨S512x32x6144, .i32⟩
  | 81 => ⟨S512x32x6144, .f32⟩
  | 82 => ⟨S_, .f32⟩
  | 83 => ⟨S512x32x6144, .f32⟩
  | 84 => ⟨S512x32x6144, .f32⟩
  | 85 => ⟨S_, .f32⟩
  | 86 => ⟨S512x32x6144, .f32⟩
  | 87 => ⟨S512x32x6144, .f32⟩
  | 88 => ⟨S512x32x6144, .i1⟩
  | 89 => ⟨S512x32x6144, .f32⟩
  | 90 => ⟨S512x32x6144, .f32⟩
  | 91 => ⟨S_, .f32⟩
  | 92 => ⟨S512x32x6144, .f32⟩
  | 93 => ⟨S512x32x6144, .i1⟩
  | 94 => ⟨S_, .f32⟩
  | 95 => ⟨S512x32x6144, .f32⟩
  | 96 => ⟨S512x32x6144, .f32⟩
  | 97 => ⟨S_, .f32⟩
  | 98 => ⟨S512x32x6144, .f32⟩
  | 99 => ⟨S512x32x6144, .i1⟩
  | 100 => ⟨S_, .f32⟩
  | 101 => ⟨S512x32x6144, .f32⟩
  | 102 => ⟨S512x32x6144, .f32⟩
  | 103 => ⟨S_, .f32⟩
  | 104 => ⟨S512x32x6144, .f32⟩
  | 105 => ⟨S512x32x6144, .i1⟩
  | 106 => ⟨S_, .f32⟩
  | 107 => ⟨S_, .f32⟩
  | 108 => ⟨S512x32x6144, .f32⟩
  | 109 => ⟨S512x32x6144, .f32⟩
  | 110 => ⟨S512x32x6144, .f32⟩
  | 111 => ⟨S512x32x6144, .f32⟩
  | 112 => ⟨S512x32x6144, .f32⟩
  | 113 => ⟨S512x32x6144, .f32⟩
  | 114 => ⟨S512x32x6144, .i32⟩
  | 115 => ⟨S_, .f32⟩
  | 116 => ⟨S512x32x6144, .f32⟩
  | 117 => ⟨S512x32x6144, .i1⟩
  | 118 => ⟨S_, .i32⟩
  | 119 => ⟨S512x32x6144, .i32⟩
  | 120 => ⟨S512x32x6144, .i1⟩
  | 121 => ⟨S512x32x6144, .i1⟩
  | 122 => ⟨S_, .i32⟩
  | 123 => ⟨S512x32x6144, .i32⟩
  | 124 => ⟨S512x32x6144, .i32⟩
  | 125 => ⟨S512x32x6144, .i32⟩
  | 126 => ⟨S_, .i32⟩
  | 127 => ⟨S512x32x6144, .i32⟩
  | _ => ⟨S16384x6144, .bf16⟩

abbrev hbmTy0_1 (i : Nat) : BufTy := match i % 128 with
  | 0 => ⟨S512x32x6144, .i32⟩
  | 1 => ⟨S_, .i32⟩
  | 2 => ⟨S512x32x6144, .i32⟩
  | 3 => ⟨S512x32x6144, .i32⟩
  | 4 => ⟨S_, .i32⟩
  | 5 => ⟨S512x32x6144, .i32⟩
  | 6 => ⟨S512x32x6144, .i32⟩
  | 7 => ⟨S_, .i32⟩
  | 8 => ⟨S512x32x6144, .i32⟩
  | 9 => ⟨S512x32x6144, .i32⟩
  | 10 => ⟨S_, .i32⟩
  | 11 => ⟨S512x32x6144, .i32⟩
  | 12 => ⟨S512x32x6144, .i32⟩
  | 13 => ⟨S_, .i32⟩
  | 14 => ⟨S512x32x6144, .i32⟩
  | 15 => ⟨S512x32x6144, .i32⟩
  | 16 => ⟨S_, .i32⟩
  | 17 => ⟨S512x32x6144, .i32⟩
  | 18 => ⟨S512x32x6144, .i32⟩
  | 19 => ⟨S_, .i32⟩
  | 20 => ⟨S512x32x6144, .i32⟩
  | 21 => ⟨S512x32x6144, .i1⟩
  | 22 => ⟨S_, .i32⟩
  | 23 => ⟨S512x32x6144, .i32⟩
  | 24 => ⟨S512x32x6144, .i1⟩
  | 25 => ⟨S_, .i32⟩
  | 26 => ⟨S512x32x6144, .i32⟩
  | 27 => ⟨S512x32x6144, .i1⟩
  | 28 => ⟨S_, .f32⟩
  | 29 => ⟨S_, .f32⟩
  | 30 => ⟨S512x32x6144, .f32⟩
  | 31 => ⟨S512x32x6144, .f32⟩
  | 32 => ⟨S512x32x6144, .f32⟩
  | 33 => ⟨S_, .i32⟩
  | 34 => ⟨S512x32x6144, .i32⟩
  | 35 => ⟨S512x32x6144, .i1⟩
  | 36 => ⟨S_, .f32⟩
  | 37 => ⟨S_, .f32⟩
  | 38 => ⟨S512x32x6144, .f32⟩
  | 39 => ⟨S512x32x6144, .f32⟩
  | 40 => ⟨S512x32x6144, .f32⟩
  | 41 => ⟨S512x32x6144, .f32⟩
  | 42 => ⟨S_, .i32⟩
  | 43 => ⟨S512x32x6144, .i32⟩
  | 44 => ⟨S512x32x6144, .i1⟩
  | 45 => ⟨S_, .i32⟩
  | 46 => ⟨S512x32x6144, .i32⟩
  | 47 => ⟨S512x32x6144, .i1⟩
  | 48 => ⟨S_, .f32⟩
  | 49 => ⟨S_, .f32⟩
  | 50 => ⟨S512x32x6144, .f32⟩
  | 51 => ⟨S512x32x6144, .f32⟩
  | 52 => ⟨S512x32x6144, .f32⟩
  | 53 => ⟨S_, .i32⟩
  | 54 => ⟨S512x32x6144, .i32⟩
  | 55 => ⟨S512x32x6144, .i1⟩
  | 56 => ⟨S_, .f32⟩
  | 57 => ⟨S_, .f32⟩
  | 58 => ⟨S512x32x6144, .f32⟩
  | 59 => ⟨S512x32x6144, .f32⟩
  | 60 => ⟨S512x32x6144, .f32⟩
  | 61 => ⟨S512x32x6144, .f32⟩
  | 62 => ⟨S512x32x6144, .f32⟩
  | 63 => ⟨S_, .i32⟩
  | 64 => ⟨S512x32x6144, .i32⟩
  | 65 => ⟨S512x32x6144, .i1⟩
  | 66 => ⟨S512x32x6144, .f32⟩
  | 67 => ⟨S512x32x6144, .f32⟩
  | 68 => ⟨S_, .f32⟩
  | 69 => ⟨S512x6144, .f32⟩
  | 70 => ⟨S512x6144, .f32⟩
  | 71 => ⟨S512x1x6144, .f32⟩
  | 72 => ⟨S512x32x6144, .f32⟩
  | 73 => ⟨S512x32x6144, .f32⟩
  | 74 => ⟨S512x32x6144, .f32⟩
  | 75 => ⟨S512x32x6144, .bf16⟩
  | 76 => ⟨S8192x2x6144, .i32⟩
  | 77 => ⟨S8192x1x6144, .i32⟩
  | 78 => ⟨S8192x6144, .i32⟩
  | 79 => ⟨S8192x1x6144, .i32⟩
  | 80 => ⟨S8192x6144, .i32⟩
  | 81 => ⟨S_, .i32⟩
  | 82 => ⟨S8192x6144, .i32⟩
  | 83 => ⟨S8192x6144, .i32⟩
  | 84 => ⟨S8192x6144, .i32⟩
  | 85 => ⟨S8192x6144, .i8⟩
  | 86 => ⟨S64x8x8x2x2x6144, .bf16⟩
  | 87 => ⟨S64x2x2x8x8x6144, .bf16⟩
  | 88 => ⟨S16384x6144, .bf16⟩
  | 89 => ⟨S512x6144, .i32⟩
  | 90 => ⟨S512x6144, .i8⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_cst_12 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_cst_13 : Ref sig .tc := ⟨.hbm, 72, rfl⟩
abbrev main_call3_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_16 : Ref sig .tc := ⟨.hbm, 91, rfl⟩
abbrev main_v63 : Ref sig .tc := ⟨.hbm, 92, rfl⟩
abbrev main_v64 : Ref sig .tc := ⟨.hbm, 93, rfl⟩
abbrev main_cst_17 : Ref sig .tc := ⟨.hbm, 94, rfl⟩
abbrev main_v65 : Ref sig .tc := ⟨.hbm, 95, rfl⟩
abbrev main_v66 : Ref sig .tc := ⟨.hbm, 96, rfl⟩
abbrev main_cst_18 : Ref sig .tc := ⟨.hbm, 97, rfl⟩
abbrev main_v67 : Ref sig .tc := ⟨.hbm, 98, rfl⟩
abbrev main_v68 : Ref sig .tc := ⟨.hbm, 99, rfl⟩
abbrev main_cst_19 : Ref sig .tc := ⟨.hbm, 100, rfl⟩
abbrev main_v69 : Ref sig .tc := ⟨.hbm, 101, rfl⟩
abbrev main_v70 : Ref sig .tc := ⟨.hbm, 102, rfl⟩
abbrev main_cst_20 : Ref sig .tc := ⟨.hbm, 103, rfl⟩
abbrev main_v71 : Ref sig .tc := ⟨.hbm, 104, rfl⟩
abbrev main_v72 : Ref sig .tc := ⟨.hbm, 105, rfl⟩
abbrev main_cst_21 : Ref sig .tc := ⟨.hbm, 106, rfl⟩
abbrev main_cst_22 : Ref sig .tc := ⟨.hbm, 107, rfl⟩
abbrev main_call5_v0 : Ref sig .tc := ⟨.hbm, 108, rfl⟩
abbrev main_call5_v1 : Ref sig .tc := ⟨.hbm, 109, rfl⟩
abbrev main_v73 : Ref sig .tc := ⟨.hbm, 110, rfl⟩
abbrev main_call6_v0 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_23 : Ref sig .tc := ⟨.hbm, 115, rfl⟩
abbrev main_v77 : Ref sig .tc := ⟨.hbm, 116, rfl⟩
abbrev main_v78 : Ref sig .tc := ⟨.hbm, 117, rfl⟩
abbrev main_c_24 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_25 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_26 : Ref sig .tc := ⟨.hbm, 126, rfl⟩
abbrev main_v85 : Ref sig .tc := ⟨.hbm, 127, rfl⟩
abbrev main_v86 : Ref sig .tc := ⟨.hbm, 128, rfl⟩
abbrev main_c_27 : Ref sig .tc := ⟨.hbm, 129, rfl⟩
abbrev main_v87 : Ref sig .tc := ⟨.hbm, 130, rfl⟩
abbrev main_v88 : Ref sig .tc := ⟨.hbm, 131, rfl⟩
abbrev main_c_28 : Ref sig .tc := ⟨.hbm, 132, rfl⟩
abbrev main_v89 : Ref sig .tc := ⟨.hbm, 133, rfl⟩
abbrev main_v90 : Ref sig .tc := ⟨.hbm, 134, rfl⟩
abbrev main_c_29 : Ref sig .tc := ⟨.hbm, 135, rfl⟩
abbrev main_v91 : Ref sig .tc := ⟨.hbm, 136, rfl⟩
abbrev main_v92 : Ref sig .tc := ⟨.hbm, 137, rfl⟩
abbrev main_c_30 : Ref sig .tc := ⟨.hbm, 138, rfl⟩
abbrev main_v93 : Ref sig .tc := ⟨.hbm, 139, rfl⟩
abbrev main_v94 : Ref sig .tc := ⟨.hbm, 140, rfl⟩
abbrev main_c_31 : Ref sig .tc := ⟨.hbm, 141, rfl⟩
abbrev main_v95 : Ref sig .tc := ⟨.hbm, 142, rfl⟩
abbrev main_v96 : Ref sig .tc := ⟨.hbm, 143, rfl⟩
abbrev main_c_32 : Ref sig .tc := ⟨.hbm, 144, rfl⟩
abbrev main_v97 : Ref sig .tc := ⟨.hbm, 145, rfl⟩
abbrev main_v98 : Ref sig .tc := ⟨.hbm, 146, rfl⟩
abbrev main_c_33 : Ref sig .tc := ⟨.hbm, 147, rfl⟩
abbrev main_v99 : Ref sig .tc := ⟨.hbm, 148, rfl⟩
abbrev main_v100 : Ref sig .tc := ⟨.hbm, 149, rfl⟩
abbrev main_c_34 : Ref sig .tc := ⟨.hbm, 150, rfl⟩
abbrev main_v101 : Ref sig .tc := ⟨.hbm, 151, rfl⟩
abbrev main_v102 : Ref sig .tc := ⟨.hbm, 152, rfl⟩
abbrev main_c_35 : Ref sig .tc := ⟨.hbm, 153, rfl⟩
abbrev main_v103 : Ref sig .tc := ⟨.hbm, 154, rfl⟩
abbrev main_v104 : Ref sig .tc := ⟨.hbm, 155, rfl⟩
abbrev main_cst_36 : Ref sig .tc := ⟨.hbm, 156, rfl⟩
abbrev main_cst_37 : Ref sig .tc := ⟨.hbm, 157, rfl⟩
abbrev main_call9_v0 : Ref sig .tc := ⟨.hbm, 158, rfl⟩
abbrev main_call9_v1 : Ref sig .tc := ⟨.hbm, 159, rfl⟩
abbrev main_v105 : Ref sig .tc := ⟨.hbm, 160, rfl⟩
abbrev main_c_38 : Ref sig .tc := ⟨.hbm, 161, rfl⟩
abbrev main_v106 : Ref sig .tc := ⟨.hbm, 162, rfl⟩
abbrev main_v107 : Ref sig .tc := ⟨.hbm, 163, rfl⟩
abbrev main_cst_39 : Ref sig .tc := ⟨.hbm, 164, rfl⟩
abbrev main_cst_40 : Ref sig .tc := ⟨.hbm, 165, rfl⟩
abbrev main_call10_v0 : Ref sig .tc := ⟨.hbm, 166, rfl⟩
abbrev main_call10_v1 : Ref sig .tc := ⟨.hbm, 167, rfl⟩
abbrev main_v108 : Ref sig .tc := ⟨.hbm, 168, rfl⟩
abbrev main_v109 : Ref sig .tc := ⟨.hbm, 169, rfl⟩
abbrev main_c_41 : Ref sig .tc := ⟨.hbm, 170, rfl⟩
abbrev main_v110 : Ref sig .tc := ⟨.hbm, 171, rfl⟩
abbrev main_v111 : Ref sig .tc := ⟨.hbm, 172, rfl⟩
abbrev main_c_42 : Ref sig .tc := ⟨.hbm, 173, rfl⟩
abbrev main_v112 : Ref sig .tc := ⟨.hbm, 174, rfl⟩
abbrev main_v113 : Ref sig .tc := ⟨.hbm, 175, rfl⟩
abbrev main_cst_43 : Ref sig .tc := ⟨.hbm, 176, rfl⟩
abbrev main_cst_44 : Ref sig .tc := ⟨.hbm, 177, rfl⟩
abbrev main_call12_v0 : Ref sig .tc := ⟨.hbm, 178, rfl⟩
abbrev main_call12_v1 : Ref sig .tc := ⟨.hbm, 179, rfl⟩
abbrev main_v114 : Ref sig .tc := ⟨.hbm, 180, rfl⟩
abbrev main_c_45 : Ref sig .tc := ⟨.hbm, 181, rfl⟩
abbrev main_v115 : Ref sig .tc := ⟨.hbm, 182, rfl⟩
abbrev main_v116 : Ref sig .tc := ⟨.hbm, 183, rfl⟩
abbrev main_cst_46 : Ref sig .tc := ⟨.hbm, 184, rfl⟩
abbrev main_cst_47 : Ref sig .tc := ⟨.hbm, 185, rfl⟩
abbrev main_call13_v0 : Ref sig .tc := ⟨.hbm, 186, rfl⟩
abbrev main_call13_v1 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_c_48 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_49 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_c_50 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩

abbrev nD : Nat := 1
abbrev τ : Topo := Topo.v7x

variable {F : FTy → Type} [FloatOps F]
-- ==== XKernel.lean ====
abbrev S3840x6144 : Shape := ⟨2, ![3840, 6144]⟩
abbrev S3840 : Shape := ⟨1, ![3840]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S15x1x256 : Shape := ⟨3, ![15, 1, 256]⟩
abbrev S1x256x256 : Shape := ⟨3, ![1, 256, 256]⟩
abbrev S15x256x256 : Shape := ⟨3, ![15, 256, 256]⟩
abbrev S3840x256 : Shape := ⟨2, ![3840, 256]⟩
abbrev S1920x6144 : Shape := ⟨2, ![1920, 6144]⟩
abbrev S3x40x6144 : Shape := ⟨3, ![3, 40, 6144]⟩
abbrev S1920x256 : Shape := ⟨2, ![1920, 256]⟩
abbrev S3x40x256 : Shape := ⟨3, ![3, 40, 256]⟩
abbrev S120x256 : Shape := ⟨2, ![120, 256]⟩
abbrev S64x256 : Shape := ⟨2, ![64, 256]⟩
abbrev S8x8x256 : Shape := ⟨3, ![8, 8, 256]⟩
abbrev S8x256 : Shape := ⟨2, ![8, 256]⟩
abbrev S8x1x256 : Shape := ⟨3, ![8, 1, 256]⟩
abbrev S32x256 : Shape := ⟨2, ![32, 256]⟩
abbrev S128x256 : Shape := ⟨2, ![128, 256]⟩
abbrev S40x256 : Shape := ⟨2, ![40, 256]⟩
abbrev S1x40x256 : Shape := ⟨3, ![1, 40, 256]⟩

abbrev nBuf : Space → Nat
  | .hbm => 73
  | .vmem => 12
  | .smem => 0
  | _ => 0

abbrev bufTy : (tb : Table) → Fin (tcTables nBuf tb) → BufTy
  | .hbm, ⟨0, _⟩ => ⟨S3840x6144, .bf16⟩
  | .hbm, ⟨1, _⟩ => ⟨S3840, .f32⟩
  | .hbm, ⟨2, _⟩ => ⟨S3840x6144, .i8⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i32⟩
  | .hbm, ⟨33, _⟩ => ⟨S256x256, .i32⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S_, .i32⟩
  | .hbm, ⟨52, _⟩ => ⟨S256x256, .i32⟩
  | .hbm, ⟨53, _⟩ => ⟨S256x256, .i1⟩
  | .hbm, ⟨54, _⟩ => ⟨S_, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S15x1x256, .f32⟩
  | .hbm, ⟨64, _⟩ => ⟨S1x256x256, .f32⟩
  | .hbm, ⟨65, _⟩ => ⟨S15x256x256, .f32⟩
  | .hbm, ⟨66, _⟩ => ⟨S15x256x256, .f32⟩
  | .hbm, ⟨67, _⟩ => ⟨S15x256x256, .f32⟩
  | .hbm, ⟨68, _⟩ => ⟨S3840x256, .f32⟩
  | .hbm, ⟨69, _⟩ => ⟨S3840x256, .bf16⟩
  | .hbm, ⟨70, _⟩ => ⟨S1920x6144, .i8⟩
  | .hbm, ⟨71, _⟩ => ⟨S3x40x6144, .i8⟩
  | .hbm, ⟨72, _⟩ => ⟨S3840x6144, .bf16⟩
  | .local _ .vmem, ⟨0, _⟩ => ⟨S3840x256, .bf16⟩
  | .local _ .vmem, ⟨1, _⟩ => ⟨S3840x256, .bf16⟩
  | .local _ .vmem, ⟨2, _⟩ => ⟨S3840x256, .i8⟩
  | .local _ .vmem, ⟨3, _⟩ => ⟨S3840x256, .i8⟩
  | .local _ .vmem, ⟨4, _⟩ => ⟨S3840x256, .bf16⟩
  | .local _ .vmem, ⟨5, _⟩ => ⟨S1920x256, .i8⟩
  | .local _ .vmem, ⟨6, _⟩ => ⟨S1920x256, .i8⟩
  | .local _ .vmem, ⟨7, _⟩ => ⟨S3x40x256, .i8⟩
  | .local _ .vmem, ⟨8, _⟩ => ⟨S3x40x256, .i8⟩
  | .local _ .vmem, ⟨9, _⟩ => ⟨S3840x256, .bf16⟩
  | .local _ .vmem, ⟨10, _⟩ => ⟨S3840x256, .bf16⟩
  | .local _ .vmem, ⟨11, _⟩ => ⟨S120x256, .i32⟩
  | _, _ => ⟨S3840x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_10 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_cst_11 : Ref sig .tc := ⟨.hbm, 55, rfl⟩
abbrev main_call0_v0 : Ref sig .tc := ⟨.hbm, 56, rfl⟩
abbrev main_call0_v1 : Ref sig .tc := ⟨.hbm, 57, rfl⟩
abbrev main_v39 : Ref sig .tc := ⟨.hbm, 58, rfl⟩
abbrev main_cst_12 : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_v49_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![24], ![false]⟩

@[reducible] def k0_t1_loop : Scf.Loop 32 :=
  let c0_i32 : BitVec 32 := 0#32
  let c15_i32 : BitVec 32 := 15#32
  let v0 : BitVec 32 := Scalar.addi c0_i32 c15_i32
  let c1_i32 : BitVec 32 := 1#32
  ⟨c0_i32, v0, c1_i32⟩
def k0_mult1 (k0_t1 : Fin k0_t1_loop.trips) : BitVec 32 :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c256_i32 : BitVec 32 := 256#32
  let v18 : BitVec 32 := Scalar.muli v17 c256_i32
  v18
def k0_mult2 (k0_t1 : Fin k0_t1_loop.trips) : BitVec 32 :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c128_i32 : BitVec 32 := 128#32
  let v20 : BitVec 32 := Scalar.muli v17 c128_i32
  v20
def k0_mult3 (k0_t1 : Fin k0_t1_loop.trips) : BitVec 32 :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c8_i32 : BitVec 32 := 8#32
  let v22 : BitVec 32 := Scalar.muli v17 c8_i32
  v22
def k0_off1 (k0_t1 : Fin k0_t1_loop.trips) : Fin 2 → Nat :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c256_i32 : BitVec 32 := 256#32
  let v18 : BitVec 32 := Scalar.muli v17 c256_i32
  let v19 : BitVec 32 := v18
  let v24 : Index := Scalar.indexCast v19
  let c0_13 : Index := 0#32
  ![v24.toNat, 0]
def k0_off2 (k0_t1 : Fin k0_t1_loop.trips) : Fin 2 → Nat :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c128_i32 : BitVec 32 := 128#32
  let v20 : BitVec 32 := Scalar.muli v17 c128_i32
  let v21 : BitVec 32 := v20
  let v462 : Index := Scalar.indexCast v21
  let c0_104 : Index := 0#32
  ![v462.toNat, 0]
def k0_off3 (k0_t1 : Fin k0_t1_loop.trips) : Fin 2 → Nat :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c8_i32 : BitVec 32 := 8#32
  let v22 : BitVec 32 := Scalar.muli v17 c8_i32
  let v23 : BitVec 32 := v22
  let v464 : Index := Scalar.indexCast v23
  let c0_105 : Index := 0#32
  ![v464.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3840x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3840x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3840x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1920x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x40x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3840x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== XKernelIdeal.lean ====
variable {F : FTy → Type} [FloatOps F]
-- ==== XReferenceIdeal.lean ====
abbrev S3840x6144 : Shape := ⟨2, ![3840, 6144]⟩
abbrev S3840 : Shape := ⟨1, ![3840]⟩
abbrev S3840x1 : Shape := ⟨2, ![3840, 1]⟩
abbrev S120x32x6144 : Shape := ⟨3, ![120, 32, 6144]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S120x6144x32 : Shape := ⟨3, ![120, 6144, 32]⟩
abbrev S120x6144 : Shape := ⟨2, ![120, 6144]⟩
abbrev S120x1x6144 : Shape := ⟨3, ![120, 1, 6144]⟩
abbrev S1920x2x6144 : Shape := ⟨3, ![1920, 2, 6144]⟩
abbrev S1920x1x6144 : Shape := ⟨3, ![1920, 1, 6144]⟩
abbrev S1920x6144 : Shape := ⟨2, ![1920, 6144]⟩
abbrev S15x8x8x2x2x6144 : Shape := ⟨6, ![15, 8, 8, 2, 2, 6144]⟩
abbrev S15x2x2x8x8x6144 : Shape := ⟨6, ![15, 2, 2, 8, 8, 6144]⟩
abbrev S3x40x6144 : Shape := ⟨3, ![3, 40, 6144]⟩

abbrev nBuf : Space → Nat
  | .hbm => 220
  | .vmem => 0
  | .smem => 0
  | _ => 0

abbrev hbmTy0_0 (i : Nat) : BufTy := match i % 128 with
  | 0 => ⟨S3840x6144, .bf16⟩
  | 1 => ⟨S3840, .f32⟩
  | 2 => ⟨S3840x6144, .i8⟩
  | 3 => ⟨S3840x6144, .f32⟩
  | 4 => ⟨S3840x1, .f32⟩
  | 5 => ⟨S3840x6144, .f32⟩
  | 6 => ⟨S3840x6144, .f32⟩
  | 7 => ⟨S120x32x6144, .f32⟩
  | 8 => ⟨S32, .i32⟩
  | 9 => ⟨S32x1, .i32⟩
  | 10 => ⟨S1x32, .i32⟩
  | 11 => ⟨S32x32, .i32⟩
  | 12 => ⟨S32x32, .i32⟩
  | 13 => ⟨S32x32, .i32⟩
  | 14 => ⟨S32x32, .i32⟩
  | 15 => ⟨S_, .i32⟩
  | 16 => ⟨S32x32, .i32⟩
  | 17 => ⟨S32x32, .i32⟩
  | 18 => ⟨S_, .i32⟩
  | 19 => ⟨S32x32, .i32⟩
  | 20 => ⟨S32x32, .i1⟩
  | 21 => ⟨S_, .f32⟩
  | 22 => ⟨S_, .f32⟩
  | 23 => ⟨S_, .f32⟩
  | 24 => ⟨S32x32, .f32⟩
  | 25 => ⟨S32x32, .f32⟩
  | 26 => ⟨S32x32, .f32⟩
  | 27 => ⟨S120x6144x32, .f32⟩
  | 28 => ⟨S120x32x6144, .f32⟩
  | 29 => ⟨S120x32x6144, .f32⟩
  | 30 => ⟨S_, .f32⟩
  | 31 => ⟨S120x6144, .f32⟩
  | 32 => ⟨S_, .f32⟩
  | 33 => ⟨S120x6144, .f32⟩
  | 34 => ⟨S120x6144, .i1⟩
  | 35 => ⟨S120x6144, .f32⟩
  | 36 => ⟨S_, .f32⟩
  | 37 => ⟨S_, .f32⟩
  | 38 => ⟨S_, .f32⟩
  | 39 => ⟨S120x6144, .f32⟩
  | 40 => ⟨S120x6144, .f32⟩
  | 41 => ⟨S120x6144, .f32⟩
  | 42 => ⟨S_, .f32⟩
  | 43 => ⟨S120x6144, .f32⟩
  | 44 => ⟨S120x6144, .f32⟩
  | 45 => ⟨S_, .f32⟩
  | 46 => ⟨S_, .f32⟩
  | 47 => ⟨S120x6144, .f32⟩
  | 48 => ⟨S120x6144, .f32⟩
  | 49 => ⟨S120x6144, .f32⟩
  | 50 => ⟨S_, .f32⟩
  | 51 => ⟨S120x6144, .f32⟩
  | 52 => ⟨S120x6144, .f32⟩
  | 53 => ⟨S_, .f32⟩
  | 54 => ⟨S120x6144, .f32⟩
  | 55 => ⟨S120x6144, .f32⟩
  | 56 => ⟨S120x1x6144, .f32⟩
  | 57 => ⟨S120x32x6144, .f32⟩
  | 58 => ⟨S120x32x6144, .f32⟩
  | 59 => ⟨S120x32x6144, .i8⟩
  | 60 => ⟨S120x32x6144, .f32⟩
  | 61 => ⟨S_, .f32⟩
  | 62 => ⟨S120x32x6144, .f32⟩
  | 63 => ⟨S120x32x6144, .i1⟩
  | 64 => ⟨S_, .f32⟩
  | 65 => ⟨S120x32x6144, .f32⟩
  | 66 => ⟨S120x32x6144, .i1⟩
  | 67 => ⟨S_, .f32⟩
  | 68 => ⟨S_, .f32⟩
  | 69 => ⟨S120x32x6144, .f32⟩
  | 70 => ⟨S120x32x6144, .f32⟩
  | 71 => ⟨S120x32x6144, .f32⟩
  | 72 => ⟨S_, .f32⟩
  | 73 => ⟨S120x32x6144, .f32⟩
  | 74 => ⟨S120x32x6144, .f32⟩
  | 75 => ⟨S120x32x6144, .f32⟩
  | 76 => ⟨S120x32x6144, .f32⟩
  | 77 => ⟨S120x32x6144, .f32⟩
  | 78 => ⟨S120x32x6144, .f32⟩
  | 79 => ⟨S120x32x6144, .f32⟩
  | 80 => ⟨S120x32x6144, .i32⟩
  | 81 => ⟨S120x32x6144, .f32⟩
  | 82 => ⟨S_, .f32⟩
  | 83 => ⟨S120x32x6144, .f32⟩
  | 84 => ⟨S120x32x6144, .f32⟩
  | 85 => ⟨S_, .f32⟩
  | 86 => ⟨S120x32x6144, .f32⟩
  | 87 => ⟨S120x32x6144, .f32⟩
  | 88 => ⟨S120x32x6144, .i1⟩
  | 89 => ⟨S120x32x6144, .f32⟩
  | 90 => ⟨S120x32x6144, .f32⟩
  | 91 => ⟨S_, .f32⟩
  | 92 => ⟨S120x32x6144, .f32⟩
  | 93 => ⟨S120x32x6144, .i1⟩
  | 94 => ⟨S_, .f32⟩
  | 95 => ⟨S120x32x6144, .f32⟩
  | 96 => ⟨S120x32x6144, .f32⟩
  | 97 => ⟨S_, .f32⟩
  | 98 => ⟨S120x32x6144, .f32⟩
  | 99 => ⟨S120x32x6144, .i1⟩
  | 100 => ⟨S_, .f32⟩
  | 101 => ⟨S120x32x6144, .f32⟩
  | 102 => ⟨S120x32x6144, .f32⟩
  | 103 => ⟨S_, .f32⟩
  | 104 => ⟨S120x32x6144, .f32⟩
  | 105 => ⟨S120x32x6144, .i1⟩
  | 106 => ⟨S_, .f32⟩
  | 107 => ⟨S_, .f32⟩
  | 108 => ⟨S120x32x6144, .f32⟩
  | 109 => ⟨S120x32x6144, .f32⟩
  | 110 => ⟨S120x32x6144, .f32⟩
  | 111 => ⟨S120x32x6144, .f32⟩
  | 112 => ⟨S120x32x6144, .f32⟩
  | 113 => ⟨S120x32x6144, .f32⟩
  | 114 => ⟨S120x32x6144, .i32⟩
  | 115 => ⟨S_, .f32⟩
  | 116 => ⟨S120x32x6144, .f32⟩
  | 117 => ⟨S120x32x6144, .i1⟩
  | 118 => ⟨S_, .i32⟩
  | 119 => ⟨S120x32x6144, .i32⟩
  | 120 => ⟨S120x32x6144, .i1⟩
  | 121 => ⟨S120x32x6144, .i1⟩
  | 122 => ⟨S_, .i32⟩
  | 123 => ⟨S120x32x6144, .i32⟩
  | 124 => ⟨S120x32x6144, .i32⟩
  | 125 => ⟨S120x32x6144, .i32⟩
  | 126 => ⟨S_, .i32⟩
  | 127 => ⟨S120x32x6144, .i32⟩
  | _ => ⟨S3840x6144, .bf16⟩

abbrev hbmTy0_1 (i : Nat) : BufTy := match i % 128 with
  | 0 => ⟨S120x32x6144, .i32⟩
  | 1 => ⟨S_, .i32⟩
  | 2 => ⟨S120x32x6144, .i32⟩
  | 3 => ⟨S120x32x6144, .i32⟩
  | 4 => ⟨S_, .i32⟩
  | 5 => ⟨S120x32x6144, .i32⟩
  | 6 => ⟨S120x32x6144, .i32⟩
  | 7 => ⟨S_, .i32⟩
  | 8 => ⟨S120x32x6144, .i32⟩
  | 9 => ⟨S120x32x6144, .i32⟩
  | 10 => ⟨S_, .i32⟩
  | 11 => ⟨S120x32x6144, .i32⟩
  | 12 => ⟨S120x32x6144, .i32⟩
  | 13 => ⟨S_, .i32⟩
  | 14 => ⟨S120x32x6144, .i32⟩
  | 15 => ⟨S120x32x6144, .i32⟩
  | 16 => ⟨S_, .i32⟩
  | 17 => ⟨S120x32x6144, .i32⟩
  | 18 => ⟨S120x32x6144, .i32⟩
  | 19 => ⟨S_, .i32⟩
  | 20 => ⟨S120x32x6144, .i32⟩
  | 21 => ⟨S120x32x6144, .i1⟩
  | 22 => ⟨S_, .i32⟩
  | 23 => ⟨S120x32x6144, .i32⟩
  | 24 => ⟨S120x32x6144, .i1⟩
  | 25 => ⟨S_, .i32⟩
  | 26 => ⟨S120x32x6144, .i32⟩
  | 27 => ⟨S120x32x6144, .i1⟩
  | 28 => ⟨S_, .f32⟩
  | 29 => ⟨S_, .f32⟩
  | 30 => ⟨S120x32x6144, .f32⟩
  | 31 => ⟨S120x32x6144, .f32⟩
  | 32 => ⟨S120x32x6144, .f32⟩
  | 33 => ⟨S_, .i32⟩
  | 34 => ⟨S120x32x6144, .i32⟩
  | 35 => ⟨S120x32x6144, .i1⟩
  | 36 => ⟨S_, .f32⟩
  | 37 => ⟨S_, .f32⟩
  | 38 => ⟨S120x32x6144, .f32⟩
  | 39 => ⟨S120x32x6144, .f32⟩
  | 40 => ⟨S120x32x6144, .f32⟩
  | 41 => ⟨S120x32x6144, .f32⟩
  | 42 => ⟨S_, .i32⟩
  | 43 => ⟨S120x32x6144, .i32⟩
  | 44 => ⟨S120x32x6144, .i1⟩
  | 45 => ⟨S_, .i32⟩
  | 46 => ⟨S120x32x6144, .i32⟩
  | 47 => ⟨S120x32x6144, .i1⟩
  | 48 => ⟨S_, .f32⟩
  | 49 => ⟨S_, .f32⟩
  | 50 => ⟨S120x32x6144, .f32⟩
  | 51 => ⟨S120x32x6144, .f32⟩
  | 52 => ⟨S120x32x6144, .f32⟩
  | 53 => ⟨S_, .i32⟩
  | 54 => ⟨S120x32x6144, .i32⟩
  | 55 => ⟨S120x32x6144, .i1⟩
  | 56 => ⟨S_, .f32⟩
  | 57 => ⟨S_, .f32⟩
  | 58 => ⟨S120x32x6144, .f32⟩
  | 59 => ⟨S120x32x6144, .f32⟩
  | 60 => ⟨S120x32x6144, .f32⟩
  | 61 => ⟨S120x32x6144, .f32⟩
  | 62 => ⟨S120x32x6144, .f32⟩
  | 63 => ⟨S_, .i32⟩
  | 64 => ⟨S120x32x6144, .i32⟩
  | 65 => ⟨S120x32x6144, .i1⟩
  | 66 => ⟨S120x32x6144, .f32⟩
  | 67 => ⟨S120x32x6144, .f32⟩
  | 68 => ⟨S_, .f32⟩
  | 69 => ⟨S120x6144, .f32⟩
  | 70 => ⟨S120x6144, .f32⟩
  | 71 => ⟨S120x1x6144, .f32⟩
  | 72 => ⟨S120x32x6144, .f32⟩
  | 73 => ⟨S120x32x6144, .f32⟩
  | 74 => ⟨S120x32x6144, .f32⟩
  | 75 => ⟨S120x32x6144, .bf16⟩
  | 76 => ⟨S1920x2x6144, .i32⟩
  | 77 => ⟨S1920x1x6144, .i32⟩
  | 78 => ⟨S1920x6144, .i32⟩
  | 79 => ⟨S1920x1x6144, .i32⟩
  | 80 => ⟨S1920x6144, .i32⟩
  | 81 => ⟨S_, .i32⟩
  | 82 => ⟨S1920x6144, .i32⟩
  | 83 => ⟨S1920x6144, .i32⟩
  | 84 => ⟨S1920x6144, .i32⟩
  | 85 => ⟨S1920x6144, .i8⟩
  | 86 => ⟨S15x8x8x2x2x6144, .bf16⟩
  | 87 => ⟨S15x2x2x8x8x6144, .bf16⟩
  | 88 => ⟨S3840x6144, .bf16⟩
  | 89 => ⟨S120x6144, .i32⟩
  | 90 => ⟨S120x6144, .i8⟩
  | 91 => ⟨S3x40x6144, .i8⟩
  | _ => ⟨S3840x6144, .bf16⟩

abbrev hbmTy (i : Nat) : BufTy := match i / 128 with
  | 0 => hbmTy0_0 i
  | 1 => hbmTy0_1 i
  | _ => ⟨S3840x6144, .bf16⟩

abbrev bufTy : (tb : Table) → Fin (tcTables nBuf tb) → BufTy
  | .hbm, ⟨i, _⟩ => hbmTy i
  | _, _ => ⟨S3840x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_cst_12 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_cst_13 : Ref sig .tc := ⟨.hbm, 72, rfl⟩
abbrev main_call3_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_16 : Ref sig .tc := ⟨.hbm, 91, rfl⟩
abbrev main_v63 : Ref sig .tc := ⟨.hbm, 92, rfl⟩
abbrev main_v64 : Ref sig .tc := ⟨.hbm, 93, rfl⟩
abbrev main_cst_17 : Ref sig .tc := ⟨.hbm, 94, rfl⟩
abbrev main_v65 : Ref sig .tc := ⟨.hbm, 95, rfl⟩
abbrev main_v66 : Ref sig .tc := ⟨.hbm, 96, rfl⟩
abbrev main_cst_18 : Ref sig .tc := ⟨.hbm, 97, rfl⟩
abbrev main_v67 : Ref sig .tc := ⟨.hbm, 98, rfl⟩
abbrev main_v68 : Ref sig .tc := ⟨.hbm, 99, rfl⟩
abbrev main_cst_19 : Ref sig .tc := ⟨.hbm, 100, rfl⟩
abbrev main_v69 : Ref sig .tc := ⟨.hbm, 101, rfl⟩
abbrev main_v70 : Ref sig .tc := ⟨.hbm, 102, rfl⟩
abbrev main_cst_20 : Ref sig .tc := ⟨.hbm, 103, rfl⟩
abbrev main_v71 : Ref sig .tc := ⟨.hbm, 104, rfl⟩
abbrev main_v72 : Ref sig .tc := ⟨.hbm, 105, rfl⟩
abbrev main_cst_21 : Ref sig .tc := ⟨.hbm, 106, rfl⟩
abbrev main_cst_22 : Ref sig .tc := ⟨.hbm, 107, rfl⟩
abbrev main_call5_v0 : Ref sig .tc := ⟨.hbm, 108, rfl⟩
abbrev main_call5_v1 : Ref sig .tc := ⟨.hbm, 109, rfl⟩
abbrev main_v73 : Ref sig .tc := ⟨.hbm, 110, rfl⟩
abbrev main_call6_v0 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_23 : Ref sig .tc := ⟨.hbm, 115, rfl⟩
abbrev main_v77 : Ref sig .tc := ⟨.hbm, 116, rfl⟩
abbrev main_v78 : Ref sig .tc := ⟨.hbm, 117, rfl⟩
abbrev main_c_24 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_25 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_26 : Ref sig .tc := ⟨.hbm, 126, rfl⟩
abbrev main_v85 : Ref sig .tc := ⟨.hbm, 127, rfl⟩
abbrev main_v86 : Ref sig .tc := ⟨.hbm, 128, rfl⟩
abbrev main_c_27 : Ref sig .tc := ⟨.hbm, 129, rfl⟩
abbrev main_v87 : Ref sig .tc := ⟨.hbm, 130, rfl⟩
abbrev main_v88 : Ref sig .tc := ⟨.hbm, 131, rfl⟩
abbrev main_c_28 : Ref sig .tc := ⟨.hbm, 132, rfl⟩
abbrev main_v89 : Ref sig .tc := ⟨.hbm, 133, rfl⟩
abbrev main_v90 : Ref sig .tc := ⟨.hbm, 134, rfl⟩
abbrev main_c_29 : Ref sig .tc := ⟨.hbm, 135, rfl⟩
abbrev main_v91 : Ref sig .tc := ⟨.hbm, 136, rfl⟩
abbrev main_v92 : Ref sig .tc := ⟨.hbm, 137, rfl⟩
abbrev main_c_30 : Ref sig .tc := ⟨.hbm, 138, rfl⟩
abbrev main_v93 : Ref sig .tc := ⟨.hbm, 139, rfl⟩
abbrev main_v94 : Ref sig .tc := ⟨.hbm, 140, rfl⟩
abbrev main_c_31 : Ref sig .tc := ⟨.hbm, 141, rfl⟩
abbrev main_v95 : Ref sig .tc := ⟨.hbm, 142, rfl⟩
abbrev main_v96 : Ref sig .tc := ⟨.hbm, 143, rfl⟩
abbrev main_c_32 : Ref sig .tc := ⟨.hbm, 144, rfl⟩
abbrev main_v97 : Ref sig .tc := ⟨.hbm, 145, rfl⟩
abbrev main_v98 : Ref sig .tc := ⟨.hbm, 146, rfl⟩
abbrev main_c_33 : Ref sig .tc := ⟨.hbm, 147, rfl⟩
abbrev main_v99 : Ref sig .tc := ⟨.hbm, 148, rfl⟩
abbrev main_v100 : Ref sig .tc := ⟨.hbm, 149, rfl⟩
abbrev main_c_34 : Ref sig .tc := ⟨.hbm, 150, rfl⟩
abbrev main_v101 : Ref sig .tc := ⟨.hbm, 151, rfl⟩
abbrev main_v102 : Ref sig .tc := ⟨.hbm, 152, rfl⟩
abbrev main_c_35 : Ref sig .tc := ⟨.hbm, 153, rfl⟩
abbrev main_v103 : Ref sig .tc := ⟨.hbm, 154, rfl⟩
abbrev main_v104 : Ref sig .tc := ⟨.hbm, 155, rfl⟩
abbrev main_cst_36 : Ref sig .tc := ⟨.hbm, 156, rfl⟩
abbrev main_cst_37 : Ref sig .tc := ⟨.hbm, 157, rfl⟩
abbrev main_call9_v0 : Ref sig .tc := ⟨.hbm, 158, rfl⟩
abbrev main_call9_v1 : Ref sig .tc := ⟨.hbm, 159, rfl⟩
abbrev main_v105 : Ref sig .tc := ⟨.hbm, 160, rfl⟩
abbrev main_c_38 : Ref sig .tc := ⟨.hbm, 161, rfl⟩
abbrev main_v106 : Ref sig .tc := ⟨.hbm, 162, rfl⟩
abbrev main_v107 : Ref sig .tc := ⟨.hbm, 163, rfl⟩
abbrev main_cst_39 : Ref sig .tc := ⟨.hbm, 164, rfl⟩
abbrev main_cst_40 : Ref sig .tc := ⟨.hbm, 165, rfl⟩
abbrev main_call10_v0 : Ref sig .tc := ⟨.hbm, 166, rfl⟩
abbrev main_call10_v1 : Ref sig .tc := ⟨.hbm, 167, rfl⟩
abbrev main_v108 : Ref sig .tc := ⟨.hbm, 168, rfl⟩
abbrev main_v109 : Ref sig .tc := ⟨.hbm, 169, rfl⟩
abbrev main_c_41 : Ref sig .tc := ⟨.hbm, 170, rfl⟩
abbrev main_v110 : Ref sig .tc := ⟨.hbm, 171, rfl⟩
abbrev main_v111 : Ref sig .tc := ⟨.hbm, 172, rfl⟩
abbrev main_c_42 : Ref sig .tc := ⟨.hbm, 173, rfl⟩
abbrev main_v112 : Ref sig .tc := ⟨.hbm, 174, rfl⟩
abbrev main_v113 : Ref sig .tc := ⟨.hbm, 175, rfl⟩
abbrev main_cst_43 : Ref sig .tc := ⟨.hbm, 176, rfl⟩
abbrev main_cst_44 : Ref sig .tc := ⟨.hbm, 177, rfl⟩
abbrev main_call12_v0 : Ref sig .tc := ⟨.hbm, 178, rfl⟩
abbrev main_call12_v1 : Ref sig .tc := ⟨.hbm, 179, rfl⟩
abbrev main_v114 : Ref sig .tc := ⟨.hbm, 180, rfl⟩
abbrev main_c_45 : Ref sig .tc := ⟨.hbm, 181, rfl⟩
abbrev main_v115 : Ref sig .tc := ⟨.hbm, 182, rfl⟩
abbrev main_v116 : Ref sig .tc := ⟨.hbm, 183, rfl⟩
abbrev main_cst_46 : Ref sig .tc := ⟨.hbm, 184, rfl⟩
abbrev main_cst_47 : Ref sig .tc := ⟨.hbm, 185, rfl⟩
abbrev main_call13_v0 : Ref sig .tc := ⟨.hbm, 186, rfl⟩
abbrev main_call13_v1 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_c_48 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_49 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_c_50 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩

abbrev nD : Nat := 1
abbrev τ : Topo := Topo.v7x

variable {F : FTy → Type} [FloatOps F]
-- ==== TKernel.lean ====
abbrev S3840x16384 : Shape := ⟨2, ![3840, 16384]⟩
abbrev S3840 : Shape := ⟨1, ![3840]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S15x1x256 : Shape := ⟨3, ![15, 1, 256]⟩
abbrev S1x256x256 : Shape := ⟨3, ![1, 256, 256]⟩
abbrev S15x256x256 : Shape := ⟨3, ![15, 256, 256]⟩
abbrev S3840x256 : Shape := ⟨2, ![3840, 256]⟩
abbrev S1920x16384 : Shape := ⟨2, ![1920, 16384]⟩
abbrev S3x40x16384 : Shape := ⟨3, ![3, 40, 16384]⟩
abbrev S16384x3840 : Shape := ⟨2, ![16384, 3840]⟩
abbrev S1920x256 : Shape := ⟨2, ![1920, 256]⟩
abbrev S3x40x256 : Shape := ⟨3, ![3, 40, 256]⟩
abbrev S256x3840 : Shape := ⟨2, ![256, 3840]⟩
abbrev S120x256 : Shape := ⟨2, ![120, 256]⟩
abbrev S64x256 : Shape := ⟨2, ![64, 256]⟩
abbrev S8x8x256 : Shape := ⟨3, ![8, 8, 256]⟩
abbrev S8x256 : Shape := ⟨2, ![8, 256]⟩
abbrev S8x1x256 : Shape := ⟨3, ![8, 1, 256]⟩
abbrev S32x256 : Shape := ⟨2, ![32, 256]⟩
abbrev S128x256 : Shape := ⟨2, ![128, 256]⟩
abbrev S40x256 : Shape := ⟨2, ![40, 256]⟩
abbrev S1x40x256 : Shape := ⟨3, ![1, 40, 256]⟩

abbrev nBuf : Space → Nat
  | .hbm => 73
  | .vmem => 12
  | .smem => 0
  | _ => 0

abbrev bufTy : (tb : Table) → Fin (tcTables nBuf tb) → BufTy
  | .hbm, ⟨0, _⟩ => ⟨S3840x16384, .bf16⟩
  | .hbm, ⟨1, _⟩ => ⟨S3840, .f32⟩
  | .hbm, ⟨2, _⟩ => ⟨S3840x16384, .i8⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i32⟩
  | .hbm, ⟨33, _⟩ => ⟨S256x256, .i32⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S_, .i32⟩
  | .hbm, ⟨52, _⟩ => ⟨S256x256, .i32⟩
  | .hbm, ⟨53, _⟩ => ⟨S256x256, .i1⟩
  | .hbm, ⟨54, _⟩ => ⟨S_, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S15x1x256, .f32⟩
  | .hbm, ⟨64, _⟩ => ⟨S1x256x256, .f32⟩
  | .hbm, ⟨65, _⟩ => ⟨S15x256x256, .f32⟩
  | .hbm, ⟨66, _⟩ => ⟨S15x256x256, .f32⟩
  | .hbm, ⟨67, _⟩ => ⟨S15x256x256, .f32⟩
  | .hbm, ⟨68, _⟩ => ⟨S3840x256, .f32⟩
  | .hbm, ⟨69, _⟩ => ⟨S3840x256, .bf16⟩
  | .hbm, ⟨70, _⟩ => ⟨S1920x16384, .i8⟩
  | .hbm, ⟨71, _⟩ => ⟨S3x40x16384, .i8⟩
  | .hbm, ⟨72, _⟩ => ⟨S16384x3840, .bf16⟩
  | .local _ .vmem, ⟨0, _⟩ => ⟨S3840x256, .bf16⟩
  | .local _ .vmem, ⟨1, _⟩ => ⟨S3840x256, .bf16⟩
  | .local _ .vmem, ⟨2, _⟩ => ⟨S3840x256, .i8⟩
  | .local _ .vmem, ⟨3, _⟩ => ⟨S3840x256, .i8⟩
  | .local _ .vmem, ⟨4, _⟩ => ⟨S3840x256, .bf16⟩
  | .local _ .vmem, ⟨5, _⟩ => ⟨S1920x256, .i8⟩
  | .local _ .vmem, ⟨6, _⟩ => ⟨S1920x256, .i8⟩
  | .local _ .vmem, ⟨7, _⟩ => ⟨S3x40x256, .i8⟩
  | .local _ .vmem, ⟨8, _⟩ => ⟨S3x40x256, .i8⟩
  | .local _ .vmem, ⟨9, _⟩ => ⟨S256x3840, .bf16⟩
  | .local _ .vmem, ⟨10, _⟩ => ⟨S256x3840, .bf16⟩
  | .local _ .vmem, ⟨11, _⟩ => ⟨S120x256, .i32⟩
  | _, _ => ⟨S3840x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_10 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_cst_11 : Ref sig .tc := ⟨.hbm, 55, rfl⟩
abbrev main_call0_v0 : Ref sig .tc := ⟨.hbm, 56, rfl⟩
abbrev main_call0_v1 : Ref sig .tc := ⟨.hbm, 57, rfl⟩
abbrev main_v39 : Ref sig .tc := ⟨.hbm, 58, rfl⟩
abbrev main_cst_12 : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_v49_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32 : BitVec 32 := 0#32
  let c15_i32 : BitVec 32 := 15#32
  let v0 : BitVec 32 := Scalar.addi c0_i32 c15_i32
  let c1_i32 : BitVec 32 := 1#32
  ⟨c0_i32, v0, c1_i32⟩
def k0_mult1 (k0_t1 : Fin k0_t1_loop.trips) : BitVec 32 :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c256_i32 : BitVec 32 := 256#32
  let v18 : BitVec 32 := Scalar.muli v17 c256_i32
  v18
def k0_mult2 (k0_t1 : Fin k0_t1_loop.trips) : BitVec 32 :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c128_i32 : BitVec 32 := 128#32
  let v20 : BitVec 32 := Scalar.muli v17 c128_i32
  v20
def k0_mult3 (k0_t1 : Fin k0_t1_loop.trips) : BitVec 32 :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c8_i32 : BitVec 32 := 8#32
  let v22 : BitVec 32 := Scalar.muli v17 c8_i32
  v22
def k0_off1 (k0_t1 : Fin k0_t1_loop.trips) : Fin 2 → Nat :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c256_i32 : BitVec 32 := 256#32
  let v18 : BitVec 32 := Scalar.muli v17 c256_i32
  let v19 : BitVec 32 := v18
  let v24 : Index := Scalar.indexCast v19
  let c0_13 : Index := 0#32
  ![v24.toNat, 0]
def k0_off2 (k0_t1 : Fin k0_t1_loop.trips) : Fin 2 → Nat :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c128_i32 : BitVec 32 := 128#32
  let v20 : BitVec 32 := Scalar.muli v17 c128_i32
  let v21 : BitVec 32 := v20
  let v462 : Index := Scalar.indexCast v21
  let c0_104 : Index := 0#32
  ![v462.toNat, 0]
def k0_off3 (k0_t1 : Fin k0_t1_loop.trips) : Fin 2 → Nat :=
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c8_i32 : BitVec 32 := 8#32
  let v22 : BitVec 32 := Scalar.muli v17 c8_i32
  let v23 : BitVec 32 := v22
  let v464 : Index := Scalar.indexCast v23
  let c0_105 : Index := 0#32
  ![v464.toNat, 0]
def k0_off4 (k0_t1 : Fin k0_t1_loop.trips) : Fin 2 → Nat :=
  let c0_106 : Index := 0#32
  let c0_i32_12 : BitVec 32 := 0#32
  let c0_i32 : BitVec 32 := 0#32
  let c1_i32 : BitVec 32 := 1#32
  let arg8 : BitVec 32 := Scf.iv c0_i32 c1_i32 k0_t1
  let c1_i32_11 : BitVec 32 := 1#32
  let v16 : BitVec 32 := Scalar.muli arg8 c1_i32_11
  let v17 : BitVec 32 := Scalar.addi c0_i32_12 v16
  let c256_i32 : BitVec 32 := 256#32
  let v18 : BitVec 32 := Scalar.muli v17 c256_i32
  let v19 : BitVec 32 := v18
  let v469 : Index := Scalar.indexCast v19
  ![0, v469.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3840x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3840x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3840x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1920x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x40x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3840 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TKernelIdeal.lean ====
variable {F : FTy → Type} [FloatOps F]
-- ==== TReferenceIdeal.lean ====
abbrev S3840x16384 : Shape := ⟨2, ![3840, 16384]⟩
abbrev S3840 : Shape := ⟨1, ![3840]⟩
abbrev S3840x1 : Shape := ⟨2, ![3840, 1]⟩
abbrev S120x32x16384 : Shape := ⟨3, ![120, 32, 16384]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S120x16384x32 : Shape := ⟨3, ![120, 16384, 32]⟩
abbrev S120x16384 : Shape := ⟨2, ![120, 16384]⟩
abbrev S120x1x16384 : Shape := ⟨3, ![120, 1, 16384]⟩
abbrev S1920x2x16384 : Shape := ⟨3, ![1920, 2, 16384]⟩
abbrev S1920x1x16384 : Shape := ⟨3, ![1920, 1, 16384]⟩
abbrev S1920x16384 : Shape := ⟨2, ![1920, 16384]⟩
abbrev S15x8x8x2x2x16384 : Shape := ⟨6, ![15, 8, 8, 2, 2, 16384]⟩
abbrev S15x2x2x8x8x16384 : Shape := ⟨6, ![15, 2, 2, 8, 8, 16384]⟩
abbrev S3x40x16384 : Shape := ⟨3, ![3, 40, 16384]⟩
abbrev S16384x3840 : Shape := ⟨2, ![16384, 3840]⟩

abbrev nBuf : Space → Nat
  | .hbm => 221
  | .vmem => 0
  | .smem => 0
  | _ => 0

abbrev hbmTy0_0 (i : Nat) : BufTy := match i % 128 with
  | 0 => ⟨S3840x16384, .bf16⟩
  | 1 => ⟨S3840, .f32⟩
  | 2 => ⟨S3840x16384, .i8⟩
  | 3 => ⟨S3840x16384, .f32⟩
  | 4 => ⟨S3840x1, .f32⟩
  | 5 => ⟨S3840x16384, .f32⟩
  | 6 => ⟨S3840x16384, .f32⟩
  | 7 => ⟨S120x32x16384, .f32⟩
  | 8 => ⟨S32, .i32⟩
  | 9 => ⟨S32x1, .i32⟩
  | 10 => ⟨S1x32, .i32⟩
  | 11 => ⟨S32x32, .i32⟩
  | 12 => ⟨S32x32, .i32⟩
  | 13 => ⟨S32x32, .i32⟩
  | 14 => ⟨S32x32, .i32⟩
  | 15 => ⟨S_, .i32⟩
  | 16 => ⟨S32x32, .i32⟩
  | 17 => ⟨S32x32, .i32⟩
  | 18 => ⟨S_, .i32⟩
  | 19 => ⟨S32x32, .i32⟩
  | 20 => ⟨S32x32, .i1⟩
  | 21 => ⟨S_, .f32⟩
  | 22 => ⟨S_, .f32⟩
  | 23 => ⟨S_, .f32⟩
  | 24 => ⟨S32x32, .f32⟩
  | 25 => ⟨S32x32, .f32⟩
  | 26 => ⟨S32x32, .f32⟩
  | 27 => ⟨S120x16384x32, .f32⟩
  | 28 => ⟨S120x32x16384, .f32⟩
  | 29 => ⟨S120x32x16384, .f32⟩
  | 30 => ⟨S_, .f32⟩
  | 31 => ⟨S120x16384, .f32⟩
  | 32 => ⟨S_, .f32⟩
  | 33 => ⟨S120x16384, .f32⟩
  | 34 => ⟨S120x16384, .i1⟩
  | 35 => ⟨S120x16384, .f32⟩
  | 36 => ⟨S_, .f32⟩
  | 37 => ⟨S_, .f32⟩
  | 38 => ⟨S_, .f32⟩
  | 39 => ⟨S120x16384, .f32⟩
  | 40 => ⟨S120x16384, .f32⟩
  | 41 => ⟨S120x16384, .f32⟩
  | 42 => ⟨S_, .f32⟩
  | 43 => ⟨S120x16384, .f32⟩
  | 44 => ⟨S120x16384, .f32⟩
  | 45 => ⟨S_, .f32⟩
  | 46 => ⟨S_, .f32⟩
  | 47 => ⟨S120x16384, .f32⟩
  | 48 => ⟨S120x16384, .f32⟩
  | 49 => ⟨S120x16384, .f32⟩
  | 50 => ⟨S_, .f32⟩
  | 51 => ⟨S120x16384, .f32⟩
  | 52 => ⟨S120x16384, .f32⟩
  | 53 => ⟨S_, .f32⟩
  | 54 => ⟨S120x16384, .f32⟩
  | 55 => ⟨S120x16384, .f32⟩
  | 56 => ⟨S120x1x16384, .f32⟩
  | 57 => ⟨S120x32x16384, .f32⟩
  | 58 => ⟨S120x32x16384, .f32⟩
  | 59 => ⟨S120x32x16384, .i8⟩
  | 60 => ⟨S120x32x16384, .f32⟩
  | 61 => ⟨S_, .f32⟩
  | 62 => ⟨S120x32x16384, .f32⟩
  | 63 => ⟨S120x32x16384, .i1⟩
  | 64 => ⟨S_, .f32⟩
  | 65 => ⟨S120x32x16384, .f32⟩
  | 66 => ⟨S120x32x16384, .i1⟩
  | 67 => ⟨S_, .f32⟩
  | 68 => ⟨S_, .f32⟩
  | 69 => ⟨S120x32x16384, .f32⟩
  | 70 => ⟨S120x32x16384, .f32⟩
  | 71 => ⟨S120x32x16384, .f32⟩
  | 72 => ⟨S_, .f32⟩
  | 73 => ⟨S120x32x16384, .f32⟩
  | 74 => ⟨S120x32x16384, .f32⟩
  | 75 => ⟨S120x32x16384, .f32⟩
  | 76 => ⟨S120x32x16384, .f32⟩
  | 77 => ⟨S120x32x16384, .f32⟩
  | 78 => ⟨S120x32x16384, .f32⟩
  | 79 => ⟨S120x32x16384, .f32⟩
  | 80 => ⟨S120x32x16384, .i32⟩
  | 81 => ⟨S120x32x16384, .f32⟩
  | 82 => ⟨S_, .f32⟩
  | 83 => ⟨S120x32x16384, .f32⟩
  | 84 => ⟨S120x32x16384, .f32⟩
  | 85 => ⟨S_, .f32⟩
  | 86 => ⟨S120x32x16384, .f32⟩
  | 87 => ⟨S120x32x16384, .f32⟩
  | 88 => ⟨S120x32x16384, .i1⟩
  | 89 => ⟨S120x32x16384, .f32⟩
  | 90 => ⟨S120x32x16384, .f32⟩
  | 91 => ⟨S_, .f32⟩
  | 92 => ⟨S120x32x16384, .f32⟩
  | 93 => ⟨S120x32x16384, .i1⟩
  | 94 => ⟨S_, .f32⟩
  | 95 => ⟨S120x32x16384, .f32⟩
  | 96 => ⟨S120x32x16384, .f32⟩
  | 97 => ⟨S_, .f32⟩
  | 98 => ⟨S120x32x16384, .f32⟩
  | 99 => ⟨S120x32x16384, .i1⟩
  | 100 => ⟨S_, .f32⟩
  | 101 => ⟨S120x32x16384, .f32⟩
  | 102 => ⟨S120x32x16384, .f32⟩
  | 103 => ⟨S_, .f32⟩
  | 104 => ⟨S120x32x16384, .f32⟩
  | 105 => ⟨S120x32x16384, .i1⟩
  | 106 => ⟨S_, .f32⟩
  | 107 => ⟨S_, .f32⟩
  | 108 => ⟨S120x32x16384, .f32⟩
  | 109 => ⟨S120x32x16384, .f32⟩
  | 110 => ⟨S120x32x16384, .f32⟩
  | 111 => ⟨S120x32x16384, .f32⟩
  | 112 => ⟨S120x32x16384, .f32⟩
  | 113 => ⟨S120x32x16384, .f32⟩
  | 114 => ⟨S120x32x16384, .i32⟩
  | 115 => ⟨S_, .f32⟩
  | 116 => ⟨S120x32x16384, .f32⟩
  | 117 => ⟨S120x32x16384, .i1⟩
  | 118 => ⟨S_, .i32⟩
  | 119 => ⟨S120x32x16384, .i32⟩
  | 120 => ⟨S120x32x16384, .i1⟩
  | 121 => ⟨S120x32x16384, .i1⟩
  | 122 => ⟨S_, .i32⟩
  | 123 => ⟨S120x32x16384, .i32⟩
  | 124 => ⟨S120x32x16384, .i32⟩
  | 125 => ⟨S120x32x16384, .i32⟩
  | 126 => ⟨S_, .i32⟩
  | 127 => ⟨S120x32x16384, .i32⟩
  | _ => ⟨S3840x16384, .bf16⟩

abbrev hbmTy0_1 (i : Nat) : BufTy := match i % 128 with
  | 0 => ⟨S120x32x16384, .i32⟩
  | 1 => ⟨S_, .i32⟩
  | 2 => ⟨S120x32x16384, .i32⟩
  | 3 => ⟨S120x32x16384, .i32⟩
  | 4 => ⟨S_, .i32⟩
  | 5 => ⟨S120x32x16384, .i32⟩
  | 6 => ⟨S120x32x16384, .i32⟩
  | 7 => ⟨S_, .i32⟩
  | 8 => ⟨S120x32x16384, .i32⟩
  | 9 => ⟨S120x32x16384, .i32⟩
  | 10 => ⟨S_, .i32⟩
  | 11 => ⟨S120x32x16384, .i32⟩
  | 12 => ⟨S120x32x16384, .i32⟩
  | 13 => ⟨S_, .i32⟩
  | 14 => ⟨S120x32x16384, .i32⟩
  | 15 => ⟨S120x32x16384, .i32⟩
  | 16 => ⟨S_, .i32⟩
  | 17 => ⟨S120x32x16384, .i32⟩
  | 18 => ⟨S120x32x16384, .i32⟩
  | 19 => ⟨S_, .i32⟩
  | 20 => ⟨S120x32x16384, .i32⟩
  | 21 => ⟨S120x32x16384, .i1⟩
  | 22 => ⟨S_, .i32⟩
  | 23 => ⟨S120x32x16384, .i32⟩
  | 24 => ⟨S120x32x16384, .i1⟩
  | 25 => ⟨S_, .i32⟩
  | 26 => ⟨S120x32x16384, .i32⟩
  | 27 => ⟨S120x32x16384, .i1⟩
  | 28 => ⟨S_, .f32⟩
  | 29 => ⟨S_, .f32⟩
  | 30 => ⟨S120x32x16384, .f32⟩
  | 31 => ⟨S120x32x16384, .f32⟩
  | 32 => ⟨S120x32x16384, .f32⟩
  | 33 => ⟨S_, .i32⟩
  | 34 => ⟨S120x32x16384, .i32⟩
  | 35 => ⟨S120x32x16384, .i1⟩
  | 36 => ⟨S_, .f32⟩
  | 37 => ⟨S_, .f32⟩
  | 38 => ⟨S120x32x16384, .f32⟩
  | 39 => ⟨S120x32x16384, .f32⟩
  | 40 => ⟨S120x32x16384, .f32⟩
  | 41 => ⟨S120x32x16384, .f32⟩
  | 42 => ⟨S_, .i32⟩
  | 43 => ⟨S120x32x16384, .i32⟩
  | 44 => ⟨S120x32x16384, .i1⟩
  | 45 => ⟨S_, .i32⟩
  | 46 => ⟨S120x32x16384, .i32⟩
  | 47 => ⟨S120x32x16384, .i1⟩
  | 48 => ⟨S_, .f32⟩
  | 49 => ⟨S_, .f32⟩
  | 50 => ⟨S120x32x16384, .f32⟩
  | 51 => ⟨S120x32x16384, .f32⟩
  | 52 => ⟨S120x32x16384, .f32⟩
  | 53 => ⟨S_, .i32⟩
  | 54 => ⟨S120x32x16384, .i32⟩
  | 55 => ⟨S120x32x16384, .i1⟩
  | 56 => ⟨S_, .f32⟩
  | 57 => ⟨S_, .f32⟩
  | 58 => ⟨S120x32x16384, .f32⟩
  | 59 => ⟨S120x32x16384, .f32⟩
  | 60 => ⟨S120x32x16384, .f32⟩
  | 61 => ⟨S120x32x16384, .f32⟩
  | 62 => ⟨S120x32x16384, .f32⟩
  | 63 => ⟨S_, .i32⟩
  | 64 => ⟨S120x32x16384, .i32⟩
  | 65 => ⟨S120x32x16384, .i1⟩
  | 66 => ⟨S120x32x16384, .f32⟩
  | 67 => ⟨S120x32x16384, .f32⟩
  | 68 => ⟨S_, .f32⟩
  | 69 => ⟨S120x16384, .f32⟩
  | 70 => ⟨S120x16384, .f32⟩
  | 71 => ⟨S120x1x16384, .f32⟩
  | 72 => ⟨S120x32x16384, .f32⟩
  | 73 => ⟨S120x32x16384, .f32⟩
  | 74 => ⟨S120x32x16384, .f32⟩
  | 75 => ⟨S120x32x16384, .bf16⟩
  | 76 => ⟨S1920x2x16384, .i32⟩
  | 77 => ⟨S1920x1x16384, .i32⟩
  | 78 => ⟨S1920x16384, .i32⟩
  | 79 => ⟨S1920x1x16384, .i32⟩
  | 80 => ⟨S1920x16384, .i32⟩
  | 81 => ⟨S_, .i32⟩
  | 82 => ⟨S1920x16384, .i32⟩
  | 83 => ⟨S1920x16384, .i32⟩
  | 84 => ⟨S1920x16384, .i32⟩
  | 85 => ⟨S1920x16384, .i8⟩
  | 86 => ⟨S15x8x8x2x2x16384, .bf16⟩
  | 87 => ⟨S15x2x2x8x8x16384, .bf16⟩
  | 88 => ⟨S3840x16384, .bf16⟩
  | 89 => ⟨S120x16384, .i32⟩
  | 90 => ⟨S120x16384, .i8⟩
  | 91 => ⟨S3x40x16384, .i8⟩
  | 92 => ⟨S16384x3840, .bf16⟩
  | _ => ⟨S3840x16384, .bf16⟩

abbrev hbmTy (i : Nat) : BufTy := match i / 128 with
  | 0 => hbmTy0_0 i
  | 1 => hbmTy0_1 i
  | _ => ⟨S3840x16384, .bf16⟩

abbrev bufTy : (tb : Table) → Fin (tcTables nBuf tb) → BufTy
  | .hbm, ⟨i, _⟩ => hbmTy i
  | _, _ => ⟨S3840x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_cst_12 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_cst_13 : Ref sig .tc := ⟨.hbm, 72, rfl⟩
abbrev main_call3_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_16 : Ref sig .tc := ⟨.hbm, 91, rfl⟩
abbrev main_v63 : Ref sig .tc := ⟨.hbm, 92, rfl⟩
abbrev main_v64 : Ref sig .tc := ⟨.hbm, 93, rfl⟩
abbrev main_cst_17 : Ref sig .tc := ⟨.hbm, 94, rfl⟩
abbrev main_v65 : Ref sig .tc := ⟨.hbm, 95, rfl⟩
abbrev main_v66 : Ref sig .tc := ⟨.hbm, 96, rfl⟩
abbrev main_cst_18 : Ref sig .tc := ⟨.hbm, 97, rfl⟩
abbrev main_v67 : Ref sig .tc := ⟨.hbm, 98, rfl⟩
abbrev main_v68 : Ref sig .tc := ⟨.hbm, 99, rfl⟩
abbrev main_cst_19 : Ref sig .tc := ⟨.hbm, 100, rfl⟩
abbrev main_v69 : Ref sig .tc := ⟨.hbm, 101, rfl⟩
abbrev main_v70 : Ref sig .tc := ⟨.hbm, 102, rfl⟩
abbrev main_cst_20 : Ref sig .tc := ⟨.hbm, 103, rfl⟩
abbrev main_v71 : Ref sig .tc := ⟨.hbm, 104, rfl⟩
abbrev main_v72 : Ref sig .tc := ⟨.hbm, 105, rfl⟩
abbrev main_cst_21 : Ref sig .tc := ⟨.hbm, 106, rfl⟩
abbrev main_cst_22 : Ref sig .tc := ⟨.hbm, 107, rfl⟩
abbrev main_call5_v0 : Ref sig .tc := ⟨.hbm, 108, rfl⟩
abbrev main_call5_v1 : Ref sig .tc := ⟨.hbm, 109, rfl⟩
abbrev main_v73 : Ref sig .tc := ⟨.hbm, 110, rfl⟩
abbrev main_call6_v0 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_23 : Ref sig .tc := ⟨.hbm, 115, rfl⟩
abbrev main_v77 : Ref sig .tc := ⟨.hbm, 116, rfl⟩
abbrev main_v78 : Ref sig .tc := ⟨.hbm, 117, rfl⟩
abbrev main_c_24 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_25 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_26 : Ref sig .tc := ⟨.hbm, 126, rfl⟩
abbrev main_v85 : Ref sig .tc := ⟨.hbm, 127, rfl⟩
abbrev main_v86 : Ref sig .tc := ⟨.hbm, 128, rfl⟩
abbrev main_c_27 : Ref sig .tc := ⟨.hbm, 129, rfl⟩
abbrev main_v87 : Ref sig .tc := ⟨.hbm, 130, rfl⟩
abbrev main_v88 : Ref sig .tc := ⟨.hbm, 131, rfl⟩
abbrev main_c_28 : Ref sig .tc := ⟨.hbm, 132, rfl⟩
abbrev main_v89 : Ref sig .tc := ⟨.hbm, 133, rfl⟩
abbrev main_v90 : Ref sig .tc := ⟨.hbm, 134, rfl⟩
abbrev main_c_29 : Ref sig .tc := ⟨.hbm, 135, rfl⟩
abbrev main_v91 : Ref sig .tc := ⟨.hbm, 136, rfl⟩
abbrev main_v92 : Ref sig .tc := ⟨.hbm, 137, rfl⟩
abbrev main_c_30 : Ref sig .tc := ⟨.hbm, 138, rfl⟩
abbrev main_v93 : Ref sig .tc := ⟨.hbm, 139, rfl⟩
abbrev main_v94 : Ref sig .tc := ⟨.hbm, 140, rfl⟩
abbrev main_c_31 : Ref sig .tc := ⟨.hbm, 141, rfl⟩
abbrev main_v95 : Ref sig .tc := ⟨.hbm, 142, rfl⟩
abbrev main_v96 : Ref sig .tc := ⟨.hbm, 143, rfl⟩
abbrev main_c_32 : Ref sig .tc := ⟨.hbm, 144, rfl⟩
abbrev main_v97 : Ref sig .tc := ⟨.hbm, 145, rfl⟩
abbrev main_v98 : Ref sig .tc := ⟨.hbm, 146, rfl⟩
abbrev main_c_33 : Ref sig .tc := ⟨.hbm, 147, rfl⟩
abbrev main_v99 : Ref sig .tc := ⟨.hbm, 148, rfl⟩
abbrev main_v100 : Ref sig .tc := ⟨.hbm, 149, rfl⟩
abbrev main_c_34 : Ref sig .tc := ⟨.hbm, 150, rfl⟩
abbrev main_v101 : Ref sig .tc := ⟨.hbm, 151, rfl⟩
abbrev main_v102 : Ref sig .tc := ⟨.hbm, 152, rfl⟩
abbrev main_c_35 : Ref sig .tc := ⟨.hbm, 153, rfl⟩
abbrev main_v103 : Ref sig .tc := ⟨.hbm, 154, rfl⟩
abbrev main_v104 : Ref sig .tc := ⟨.hbm, 155, rfl⟩
abbrev main_cst_36 : Ref sig .tc := ⟨.hbm, 156, rfl⟩
abbrev main_cst_37 : Ref sig .tc := ⟨.hbm, 157, rfl⟩
abbrev main_call9_v0 : Ref sig .tc := ⟨.hbm, 158, rfl⟩
abbrev main_call9_v1 : Ref sig .tc := ⟨.hbm, 159, rfl⟩
abbrev main_v105 : Ref sig .tc := ⟨.hbm, 160, rfl⟩
abbrev main_c_38 : Ref sig .tc := ⟨.hbm, 161, rfl⟩
abbrev main_v106 : Ref sig .tc := ⟨.hbm, 162, rfl⟩
abbrev main_v107 : Ref sig .tc := ⟨.hbm, 163, rfl⟩
abbrev main_cst_39 : Ref sig .tc := ⟨.hbm, 164, rfl⟩
abbrev main_cst_40 : Ref sig .tc := ⟨.hbm, 165, rfl⟩
abbrev main_call10_v0 : Ref sig .tc := ⟨.hbm, 166, rfl⟩
abbrev main_call10_v1 : Ref sig .tc := ⟨.hbm, 167, rfl⟩
abbrev main_v108 : Ref sig .tc := ⟨.hbm, 168, rfl⟩
abbrev main_v109 : Ref sig .tc := ⟨.hbm, 169, rfl⟩
abbrev main_c_41 : Ref sig .tc := ⟨.hbm, 170, rfl⟩
abbrev main_v110 : Ref sig .tc := ⟨.hbm, 171, rfl⟩
abbrev main_v111 : Ref sig .tc := ⟨.hbm, 172, rfl⟩
abbrev main_c_42 : Ref sig .tc := ⟨.hbm, 173, rfl⟩
abbrev main_v112 : Ref sig .tc := ⟨.hbm, 174, rfl⟩
abbrev main_v113 : Ref sig .tc := ⟨.hbm, 175, rfl⟩
abbrev main_cst_43 : Ref sig .tc := ⟨.hbm, 176, rfl⟩
abbrev main_cst_44 : Ref sig .tc := ⟨.hbm, 177, rfl⟩
abbrev main_call12_v0 : Ref sig .tc := ⟨.hbm, 178, rfl⟩
abbrev main_call12_v1 : Ref sig .tc := ⟨.hbm, 179, rfl⟩
abbrev main_v114 : Ref sig .tc := ⟨.hbm, 180, rfl⟩
abbrev main_c_45 : Ref sig .tc := ⟨.hbm, 181, rfl⟩
abbrev main_v115 : Ref sig .tc := ⟨.hbm, 182, rfl⟩
abbrev main_v116 : Ref sig .tc := ⟨.hbm, 183, rfl⟩
abbrev main_cst_46 : Ref sig .tc := ⟨.hbm, 184, rfl⟩
abbrev main_cst_47 : Ref sig .tc := ⟨.hbm, 185, rfl⟩
abbrev main_call13_v0 : Ref sig .tc := ⟨.hbm, 186, rfl⟩
abbrev main_call13_v1 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_c_48 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_49 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_c_50 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩

abbrev nD : Nat := 1
abbrev τ : Topo := Topo.v7x

variable {F : FTy → Type} [FloatOps F]
-- ==== NKernel.lean ====
abbrev S3840x16384 : Shape := ⟨2, ![3840, 16384]⟩
abbrev S16384 : Shape := ⟨1, ![16384]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S256x1x256 : Shape := ⟨3, ![256, 1, 256]⟩
abbrev S64x256 : Shape := ⟨2, ![64, 256]⟩
abbrev S256x64 : Shape := ⟨2, ![256, 64]⟩
abbrev S256x64x1 : Shape := ⟨3, ![256, 64, 1]⟩
abbrev S256x64x256 : Shape := ⟨3, ![256, 64, 256]⟩
abbrev S256x16384 : Shape := ⟨2, ![256, 16384]⟩
abbrev S3840x8192 : Shape := ⟨2, ![3840, 8192]⟩
abbrev S3840x512 : Shape := ⟨2, ![3840, 512]⟩
abbrev S128x4096 : Shape := ⟨2, ![128, 4096]⟩
abbrev S256x4096 : Shape := ⟨2, ![256, 4096]⟩
abbrev S128x2048 : Shape := ⟨2, ![128, 2048]⟩
abbrev S128x128 : Shape := ⟨2, ![128, 128]⟩
abbrev S128x256 : Shape := ⟨2, ![128, 256]⟩
abbrev S128x128x1 : Shape := ⟨3, ![128, 128, 1]⟩

abbrev nBuf : Space → Nat
  | .hbm => 124
  | .vmem => 13
  | .smem => 0
  | _ => 0

abbrev bufTy : (tb : Table) → Fin (tcTables nBuf tb) → BufTy
  | .hbm, ⟨0, _⟩ => ⟨S3840x16384, .bf16⟩
  | .hbm, ⟨1, _⟩ => ⟨S16384, .f32⟩
  | .hbm, ⟨2, _⟩ => ⟨S3840x16384, .i8⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S1x256, .i32⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S256x256, .i32⟩
  | .hbm, ⟨44, _⟩ => ⟨S256x256, .i32⟩
  | .hbm, ⟨45, _⟩ => ⟨S256x256, .i32⟩
  | .hbm, ⟨46, _⟩ => ⟨S256x256, .i32⟩
  | .hbm, ⟨47, _⟩ => ⟨S_, .i32⟩
  | .hbm, ⟨48, _⟩ => ⟨S256x256, .i32⟩
  | .hbm, ⟨49, _⟩ => ⟨S256x256, .i32⟩
  | .hbm, ⟨50, _⟩ => ⟨S256x1, .i32⟩
  | .hbm, ⟨51, _⟩ => ⟨S_, .i32⟩
  | .hbm, ⟨52, _⟩ => ⟨S256x1, .i32⟩
  | .hbm, ⟨53, _⟩ => ⟨S256x1, .i32⟩
  | .hbm, ⟨54, _⟩ => ⟨S1x256, .i32⟩
  | .hbm, ⟨55, _⟩ => ⟨S_, .i32⟩
  | .hbm, ⟨56, _⟩ => ⟨S1x256, .i32⟩
  | .hbm, ⟨57, _⟩ => ⟨S1x256, .i32⟩
  | .hbm, ⟨58, _⟩ => ⟨S256x256, .i32⟩
  | .hbm, ⟨59, _⟩ => ⟨S256x256, .i32⟩
  | .hbm, ⟨60, _⟩ => ⟨S256x256, .i1⟩
  | .hbm, ⟨61, _⟩ => ⟨S_, .i32⟩
  | .hbm, ⟨62, _⟩ => ⟨S256x256, .i32⟩
  | .hbm, ⟨63, _⟩ => ⟨S256x256, .i1⟩
  | .hbm, ⟨64, _⟩ => ⟨S_, .f32⟩
  | .hbm, ⟨65, _⟩ => ⟨S_, .f32⟩
  | .hbm, ⟨66, _⟩ => ⟨S256x256, .f32⟩
  | .hbm, ⟨67, _⟩ => ⟨S256x256, .f32⟩
  | .hbm, ⟨68, _⟩ => ⟨S256x256, .f32⟩
  | .hbm, ⟨69, _⟩ => ⟨S_, .f32⟩
  | .hbm, ⟨70, _⟩ => ⟨S256x256, .f32⟩
  | .hbm, ⟨71, _⟩ => ⟨S256x256, .f32⟩
  | .hbm, ⟨72, _⟩ => ⟨S256x256, .f32⟩
  | .hbm, ⟨73, _⟩ => ⟨S256x256, .f32⟩
  | .hbm, ⟨74, _⟩ => ⟨S256x1x256, .f32⟩
  | .hbm, ⟨75, _⟩ => ⟨S64x256, .f32⟩
  | .hbm, ⟨76, _⟩ => ⟨S256x64, .f32⟩
  | .hbm, ⟨77, _⟩ => ⟨S256x64x1, .f32⟩
  | .hbm, ⟨78, _⟩ => ⟨S256x64x256, .f32⟩
  | .hbm, ⟨79, _⟩ => ⟨S256x64x256, .f32⟩
  | .hbm, ⟨80, _⟩ => ⟨S256x64x256, .f32⟩
  | .hbm, ⟨81, _⟩ => ⟨S256x16384, .f32⟩
  | .hbm, ⟨82, _⟩ => ⟨S256x16384, .bf16⟩
  | .hbm, ⟨83, _⟩ => ⟨S256, .i32⟩
  | .hbm, ⟨84, _⟩ => ⟨S256x1, .i32⟩
  | .hbm, ⟨85, _⟩ => ⟨S256, .i32⟩
  | .hbm, ⟨86, _⟩ => ⟨S_, .i32⟩
  | .hbm, ⟨87, _⟩ => ⟨S256, .i32⟩
  | .hbm, ⟨88, _⟩ => ⟨S256, .i32⟩
  | .hbm, ⟨89, _⟩ => ⟨S_, .i32⟩
  | .hbm, ⟨90, _⟩ => ⟨S256, .i32⟩
  | .hbm, ⟨91, _⟩ => ⟨S256, .i32⟩
  | .hbm, ⟨92, _⟩ => ⟨S_, .i32⟩
  | .hbm, ⟨93, _⟩ => ⟨S256, .i32⟩
  | .hbm, ⟨94, _⟩ => ⟨S256, .i32⟩
  | .hbm, ⟨95, _⟩ => ⟨S_, .i32⟩
  | .hbm, ⟨96, _⟩ => ⟨S256, .i32⟩
  | .hbm, ⟨97, _⟩ => ⟨S256, .i32⟩
  | .hbm, ⟨98, _⟩ => ⟨S_, .i32⟩
  | .hbm, ⟨99, _⟩ => ⟨S256, .i32⟩
  | .hbm, ⟨100, _⟩ => ⟨S256, .i32⟩
  | .hbm, ⟨101, _⟩ => ⟨S_, .i32⟩
  | .hbm, ⟨102, _⟩ => ⟨S256, .i32⟩
  | .hbm, ⟨103, _⟩ => ⟨S256, .i32⟩
  | .hbm, ⟨104, _⟩ => ⟨S_, .i32⟩
  | .hbm, ⟨105, _⟩ => ⟨S256, .i32⟩
  | .hbm, ⟨106, _⟩ => ⟨S256, .i32⟩
  | .hbm, ⟨107, _⟩ => ⟨S256, .i32⟩
  | .hbm, ⟨108, _⟩ => ⟨S_, .i32⟩
  | .hbm, ⟨109, _⟩ => ⟨S256, .i32⟩
  | .hbm, ⟨110, _⟩ => ⟨S256, .i32⟩
  | .hbm, ⟨111, _⟩ => ⟨S_, .i32⟩
  | .hbm, ⟨112, _⟩ => ⟨S256, .i32⟩
  | .hbm, ⟨113, _⟩ => ⟨S256, .i32⟩
  | .hbm, ⟨114, _⟩ => ⟨S256, .i32⟩
  | .hbm, ⟨115, _⟩ => ⟨S256, .i32⟩
  | .hbm, ⟨116, _⟩ => ⟨S1x256, .i32⟩
  | .hbm, ⟨117, _⟩ => ⟨S256x256, .i32⟩
  | .hbm, ⟨118, _⟩ => ⟨S256x256, .i32⟩
  | .hbm, ⟨119, _⟩ => ⟨S256x256, .i1⟩
  | .hbm, ⟨120, _⟩ => ⟨S256x256, .bf16⟩
  | .hbm, ⟨121, _⟩ => ⟨S3840x8192, .i8⟩
  | .hbm, ⟨122, _⟩ => ⟨S3840x512, .i8⟩
  | .hbm, ⟨123, _⟩ => ⟨S3840x16384, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .i8⟩
  | .local _ .vmem, ⟨3, _⟩ => ⟨S128x4096, .i8⟩
  | .local _ .vmem, ⟨4, _⟩ => ⟨S256x4096, .bf16⟩
  | .local _ .vmem, ⟨5, _⟩ => ⟨S256x4096, .bf16⟩
  | .local _ .vmem, ⟨6, _⟩ => ⟨S256x256, .bf16⟩
  | .local _ .vmem, ⟨7, _⟩ => ⟨S128x2048, .i8⟩
  | .local _ .vmem, ⟨8, _⟩ => ⟨S128x2048, .i8⟩
  | .local _ .vmem, ⟨9, _⟩ => ⟨S128x128, .i8⟩
  | .local _ .vmem, ⟨10, _⟩ => ⟨S128x128, .i8⟩
  | .local _ .vmem, ⟨11, _⟩ => ⟨S128x4096, .bf16⟩
  | .local _ .vmem, ⟨12, _⟩ => ⟨S128x4096, .bf16⟩
  | _, _ => ⟨S3840x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_6 : Ref sig .tc := ⟨.hbm, 26, rfl⟩
abbrev main_v16 : Ref sig .tc := ⟨.hbm, 27, rfl⟩
abbrev main_v17 : Ref sig .tc := ⟨.hbm, 28, rfl⟩
abbrev main_c_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_9 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_12 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_13 : Ref sig .tc := ⟨.hbm, 61, rfl⟩
abbrev main_v44 : Ref sig .tc := ⟨.hbm, 62, rfl⟩
abbrev main_v45 : Ref sig .tc := ⟨.hbm, 63, rfl⟩
abbrev main_cst : Ref sig .tc := ⟨.hbm, 64, rfl⟩
abbrev main_cst_14 : Ref sig .tc := ⟨.hbm, 65, rfl⟩
abbrev main_call0_v0 : Ref sig .tc := ⟨.hbm, 66, rfl⟩
abbrev main_call0_v1 : Ref sig .tc := ⟨.hbm, 67, rfl⟩
abbrev main_v46 : Ref sig .tc := ⟨.hbm, 68, rfl⟩
abbrev main_cst_15 : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_16 : Ref sig .tc := ⟨.hbm, 86, rfl⟩
abbrev main_v62 : Ref sig .tc := ⟨.hbm, 87, rfl⟩
abbrev main_v63 : Ref sig .tc := ⟨.hbm, 88, rfl⟩
abbrev main_c_17 : Ref sig .tc := ⟨.hbm, 89, rfl⟩
abbrev main_v64 : Ref sig .tc := ⟨.hbm, 90, rfl⟩
abbrev main_v65 : Ref sig .tc := ⟨.hbm, 91, rfl⟩
abbrev main_c_18 : Ref sig .tc := ⟨.hbm, 92, rfl⟩
abbrev main_v66 : Ref sig .tc := ⟨.hbm, 93, rfl⟩
abbrev main_v67 : Ref sig .tc := ⟨.hbm, 94, rfl⟩
abbrev main_c_19 : Ref sig .tc := ⟨.hbm, 95, rfl⟩
abbrev main_v68 : Ref sig .tc := ⟨.hbm, 96, rfl⟩
abbrev main_v69 : Ref sig .tc := ⟨.hbm, 97, rfl⟩
abbrev main_c_20 : Ref sig .tc := ⟨.hbm, 98, rfl⟩
abbrev main_v70 : Ref sig .tc := ⟨.hbm, 99, rfl⟩
abbrev main_v71 : Ref sig .tc := ⟨.hbm, 100, rfl⟩
abbrev main_c_21 : Ref sig .tc := ⟨.hbm, 101, rfl⟩
abbrev main_v72 : Ref sig .tc := ⟨.hbm, 102, rfl⟩
abbrev main_v73 : Ref sig .tc := ⟨.hbm, 103, rfl⟩
abbrev main_c_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_23 : Ref sig .tc := ⟨.hbm, 108, rfl⟩
abbrev main_v77 : Ref sig .tc := ⟨.hbm, 109, rfl⟩
abbrev main_v78 : Ref sig .tc := ⟨.hbm, 110, rfl⟩
abbrev main_c_24 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88_0 : Ref sig .tc := ⟨.hbm, 121, rfl⟩
abbrev main_v88_1 : Ref sig .tc := ⟨.hbm, 122, rfl⟩
abbrev main_v88_2 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨2, ![4, 30], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NKernelIdeal.lean ====
variable {F : FTy → Type} [FloatOps F]
-- ==== NReferenceIdeal.lean ====
abbrev S3840x16384 : Shape := ⟨2, ![3840, 16384]⟩
abbrev S16384 : Shape := ⟨1, ![16384]⟩
abbrev S16384x3840 : Shape := ⟨2, ![16384, 3840]⟩
abbrev S16384x1 : Shape := ⟨2, ![16384, 1]⟩
abbrev S512x32x3840 : Shape := ⟨3, ![512, 32, 3840]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S512x3840x32 : Shape := ⟨3, ![512, 3840, 32]⟩
abbrev S512x3840 : Shape := ⟨2, ![512, 3840]⟩
abbrev S512x1x3840 : Shape := ⟨3, ![512, 1, 3840]⟩
abbrev S8192x2x3840 : Shape := ⟨3, ![8192, 2, 3840]⟩
abbrev S8192x1x3840 : Shape := ⟨3, ![8192, 1, 3840]⟩
abbrev S8192x3840 : Shape := ⟨2, ![8192, 3840]⟩
abbrev S64x8x8x2x2x3840 : Shape := ⟨6, ![64, 8, 8, 2, 2, 3840]⟩
abbrev S64x2x2x8x8x3840 : Shape := ⟨6, ![64, 2, 2, 8, 8, 3840]⟩
abbrev S3840x8192 : Shape := ⟨2, ![3840, 8192]⟩
abbrev S3840x512 : Shape := ⟨2, ![3840, 512]⟩

abbrev nBuf : Space → Nat
  | .hbm => 224
  | .vmem => 0
  | .smem => 0
  | _ => 0

abbrev hbmTy0_0 (i : Nat) : BufTy := match i % 128 with
  | 0 => ⟨S3840x16384, .bf16⟩
  | 1 => ⟨S16384, .f32⟩
  | 2 => ⟨S3840x16384, .i8⟩
  | 3 => ⟨S16384x3840, .bf16⟩
  | 4 => ⟨S16384x3840, .i8⟩
  | 5 => ⟨S16384x3840, .f32⟩
  | 6 => ⟨S16384x1, .f32⟩
  | 7 => ⟨S16384x3840, .f32⟩
  | 8 => ⟨S16384x3840, .f32⟩
  | 9 => ⟨S512x32x3840, .f32⟩
  | 10 => ⟨S32, .i32⟩
  | 11 => ⟨S32x1, .i32⟩
  | 12 => ⟨S1x32, .i32⟩
  | 13 => ⟨S32x32, .i32⟩
  | 14 => ⟨S32x32, .i32⟩
  | 15 => ⟨S32x32, .i32⟩
  | 16 => ⟨S32x32, .i32⟩
  | 17 => ⟨S_, .i32⟩
  | 18 => ⟨S32x32, .i32⟩
  | 19 => ⟨S32x32, .i32⟩
  | 20 => ⟨S_, .i32⟩
  | 21 => ⟨S32x32, .i32⟩
  | 22 => ⟨S32x32, .i1⟩
  | 23 => ⟨S_, .f32⟩
  | 24 => ⟨S_, .f32⟩
  | 25 => ⟨S_, .f32⟩
  | 26 => ⟨S32x32, .f32⟩
  | 27 => ⟨S32x32, .f32⟩
  | 28 => ⟨S32x32, .f32⟩
  | 29 => ⟨S512x3840x32, .f32⟩
  | 30 => ⟨S512x32x3840, .f32⟩
  | 31 => ⟨S512x32x3840, .f32⟩
  | 32 => ⟨S_, .f32⟩
  | 33 => ⟨S512x3840, .f32⟩
  | 34 => ⟨S_, .f32⟩
  | 35 => ⟨S512x3840, .f32⟩
  | 36 => ⟨S512x3840, .i1⟩
  | 37 => ⟨S512x3840, .f32⟩
  | 38 => ⟨S_, .f32⟩
  | 39 => ⟨S_, .f32⟩
  | 40 => ⟨S_, .f32⟩
  | 41 => ⟨S512x3840, .f32⟩
  | 42 => ⟨S512x3840, .f32⟩
  | 43 => ⟨S512x3840, .f32⟩
  | 44 => ⟨S_, .f32⟩
  | 45 => ⟨S512x3840, .f32⟩
  | 46 => ⟨S512x3840, .f32⟩
  | 47 => ⟨S_, .f32⟩
  | 48 => ⟨S_, .f32⟩
  | 49 => ⟨S512x3840, .f32⟩
  | 50 => ⟨S512x3840, .f32⟩
  | 51 => ⟨S512x3840, .f32⟩
  | 52 => ⟨S_, .f32⟩
  | 53 => ⟨S512x3840, .f32⟩
  | 54 => ⟨S512x3840, .f32⟩
  | 55 => ⟨S_, .f32⟩
  | 56 => ⟨S512x3840, .f32⟩
  | 57 => ⟨S512x3840, .f32⟩
  | 58 => ⟨S512x1x3840, .f32⟩
  | 59 => ⟨S512x32x3840, .f32⟩
  | 60 => ⟨S512x32x3840, .f32⟩
  | 61 => ⟨S512x32x3840, .i8⟩
  | 62 => ⟨S512x32x3840, .f32⟩
  | 63 => ⟨S_, .f32⟩
  | 64 => ⟨S512x32x3840, .f32⟩
  | 65 => ⟨S512x32x3840, .i1⟩
  | 66 => ⟨S_, .f32⟩
  | 67 => ⟨S512x32x3840, .f32⟩
  | 68 => ⟨S512x32x3840, .i1⟩
  | 69 => ⟨S_, .f32⟩
  | 70 => ⟨S_, .f32⟩
  | 71 => ⟨S512x32x3840, .f32⟩
  | 72 => ⟨S512x32x3840, .f32⟩
  | 73 => ⟨S512x32x3840, .f32⟩
  | 74 => ⟨S_, .f32⟩
  | 75 => ⟨S512x32x3840, .f32⟩
  | 76 => ⟨S512x32x3840, .f32⟩
  | 77 => ⟨S512x32x3840, .f32⟩
  | 78 => ⟨S512x32x3840, .f32⟩
  | 79 => ⟨S512x32x3840, .f32⟩
  | 80 => ⟨S512x32x3840, .f32⟩
  | 81 => ⟨S512x32x3840, .f32⟩
  | 82 => ⟨S512x32x3840, .i32⟩
  | 83 => ⟨S512x32x3840, .f32⟩
  | 84 => ⟨S_, .f32⟩
  | 85 => ⟨S512x32x3840, .f32⟩
  | 86 => ⟨S512x32x3840, .f32⟩
  | 87 => ⟨S_, .f32⟩
  | 88 => ⟨S512x32x3840, .f32⟩
  | 89 => ⟨S512x32x3840, .f32⟩
  | 90 => ⟨S512x32x3840, .i1⟩
  | 91 => ⟨S512x32x3840, .f32⟩
  | 92 => ⟨S512x32x3840, .f32⟩
  | 93 => ⟨S_, .f32⟩
  | 94 => ⟨S512x32x3840, .f32⟩
  | 95 => ⟨S512x32x3840, .i1⟩
  | 96 => ⟨S_, .f32⟩
  | 97 => ⟨S512x32x3840, .f32⟩
  | 98 => ⟨S512x32x3840, .f32⟩
  | 99 => ⟨S_, .f32⟩
  | 100 => ⟨S512x32x3840, .f32⟩
  | 101 => ⟨S512x32x3840, .i1⟩
  | 102 => ⟨S_, .f32⟩
  | 103 => ⟨S512x32x3840, .f32⟩
  | 104 => ⟨S512x32x3840, .f32⟩
  | 105 => ⟨S_, .f32⟩
  | 106 => ⟨S512x32x3840, .f32⟩
  | 107 => ⟨S512x32x3840, .i1⟩
  | 108 => ⟨S_, .f32⟩
  | 109 => ⟨S_, .f32⟩
  | 110 => ⟨S512x32x3840, .f32⟩
  | 111 => ⟨S512x32x3840, .f32⟩
  | 112 => ⟨S512x32x3840, .f32⟩
  | 113 => ⟨S512x32x3840, .f32⟩
  | 114 => ⟨S512x32x3840, .f32⟩
  | 115 => ⟨S512x32x3840, .f32⟩
  | 116 => ⟨S512x32x3840, .i32⟩
  | 117 => ⟨S_, .f32⟩
  | 118 => ⟨S512x32x3840, .f32⟩
  | 119 => ⟨S512x32x3840, .i1⟩
  | 120 => ⟨S_, .i32⟩
  | 121 => ⟨S512x32x3840, .i32⟩
  | 122 => ⟨S512x32x3840, .i1⟩
  | 123 => ⟨S512x32x3840, .i1⟩
  | 124 => ⟨S_, .i32⟩
  | 125 => ⟨S512x32x3840, .i32⟩
  | 126 => ⟨S512x32x3840, .i32⟩
  | 127 => ⟨S512x32x3840, .i32⟩
  | _ => ⟨S3840x16384, .bf16⟩

abbrev hbmTy0_1 (i : Nat) : BufTy := match i % 128 with
  | 0 => ⟨S_, .i32⟩
  | 1 => ⟨S512x32x3840, .i32⟩
  | 2 => ⟨S512x32x3840, .i32⟩
  | 3 => ⟨S_, .i32⟩
  | 4 => ⟨S512x32x3840, .i32⟩
  | 5 => ⟨S512x32x3840, .i32⟩
  | 6 => ⟨S_, .i32⟩
  | 7 => ⟨S512x32x3840, .i32⟩
  | 8 => ⟨S512x32x3840, .i32⟩
  | 9 => ⟨S_, .i32⟩
  | 10 => ⟨S512x32x3840, .i32⟩
  | 11 => ⟨S512x32x3840, .i32⟩
  | 12 => ⟨S_, .i32⟩
  | 13 => ⟨S512x32x3840, .i32⟩
  | 14 => ⟨S512x32x3840, .i32⟩
  | 15 => ⟨S_, .i32⟩
  | 16 => ⟨S512x32x3840, .i32⟩
  | 17 => ⟨S512x32x3840, .i32⟩
  | 18 => ⟨S_, .i32⟩
  | 19 => ⟨S512x32x3840, .i32⟩
  | 20 => ⟨S512x32x3840, .i32⟩
  | 21 => ⟨S_, .i32⟩
  | 22 => ⟨S512x32x3840, .i32⟩
  | 23 => ⟨S512x32x3840, .i1⟩
  | 24 => ⟨S_, .i32⟩
  | 25 => ⟨S512x32x3840, .i32⟩
  | 26 => ⟨S512x32x3840, .i1⟩
  | 27 => ⟨S_, .i32⟩
  | 28 => ⟨S512x32x3840, .i32⟩
  | 29 => ⟨S512x32x3840, .i1⟩
  | 30 => ⟨S_, .f32⟩
  | 31 => ⟨S_, .f32⟩
  | 32 => ⟨S512x32x3840, .f32⟩
  | 33 => ⟨S512x32x3840, .f32⟩
  | 34 => ⟨S512x32x3840, .f32⟩
  | 35 => ⟨S_, .i32⟩
  | 36 => ⟨S512x32x3840, .i32⟩
  | 37 => ⟨S512x32x3840, .i1⟩
  | 38 => ⟨S_, .f32⟩
  | 39 => ⟨S_, .f32⟩
  | 40 => ⟨S512x32x3840, .f32⟩
  | 41 => ⟨S512x32x3840, .f32⟩
  | 42 => ⟨S512x32x3840, .f32⟩
  | 43 => ⟨S512x32x3840, .f32⟩
  | 44 => ⟨S_, .i32⟩
  | 45 => ⟨S512x32x3840, .i32⟩
  | 46 => ⟨S512x32x3840, .i1⟩
  | 47 => ⟨S_, .i32⟩
  | 48 => ⟨S512x32x3840, .i32⟩
  | 49 => ⟨S512x32x3840, .i1⟩
  | 50 => ⟨S_, .f32⟩
  | 51 => ⟨S_, .f32⟩
  | 52 => ⟨S512x32x3840, .f32⟩
  | 53 => ⟨S512x32x3840, .f32⟩
  | 54 => ⟨S512x32x3840, .f32⟩
  | 55 => ⟨S_, .i32⟩
  | 56 => ⟨S512x32x3840, .i32⟩
  | 57 => ⟨S512x32x3840, .i1⟩
  | 58 => ⟨S_, .f32⟩
  | 59 => ⟨S_, .f32⟩
  | 60 => ⟨S512x32x3840, .f32⟩
  | 61 => ⟨S512x32x3840, .f32⟩
  | 62 => ⟨S512x32x3840, .f32⟩
  | 63 => ⟨S512x32x3840, .f32⟩
  | 64 => ⟨S512x32x3840, .f32⟩
  | 65 => ⟨S_, .i32⟩
  | 66 => ⟨S512x32x3840, .i32⟩
  | 67 => ⟨S512x32x3840, .i1⟩
  | 68 => ⟨S512x32x3840, .f32⟩
  | 69 => ⟨S512x32x3840, .f32⟩
  | 70 => ⟨S_, .f32⟩
  | 71 => ⟨S512x3840, .f32⟩
  | 72 => ⟨S512x3840, .f32⟩
  | 73 => ⟨S512x1x3840, .f32⟩
  | 74 => ⟨S512x32x3840, .f32⟩
  | 75 => ⟨S512x32x3840, .f32⟩
  | 76 => ⟨S512x32x3840, .f32⟩
  | 77 => ⟨S512x32x3840, .bf16⟩
  | 78 => ⟨S8192x2x3840, .i32⟩
  | 79 => ⟨S8192x1x3840, .i32⟩
  | 80 => ⟨S8192x3840, .i32⟩
  | 81 => ⟨S8192x1x3840, .i32⟩
  | 82 => ⟨S8192x3840, .i32⟩
  | 83 => ⟨S_, .i32⟩
  | 84 => ⟨S8192x3840, .i32⟩
  | 85 => ⟨S8192x3840, .i32⟩
  | 86 => ⟨S8192x3840, .i32⟩
  | 87 => ⟨S8192x3840, .i8⟩
  | 88 => ⟨S64x8x8x2x2x3840, .bf16⟩
  | 89 => ⟨S64x2x2x8x8x3840, .bf16⟩
  | 90 => ⟨S16384x3840, .bf16⟩
  | 91 => ⟨S512x3840, .i32⟩
  | 92 => ⟨S512x3840, .i8⟩
  | 93 => ⟨S3840x8192, .i8⟩
  | 94 => ⟨S3840x512, .i8⟩
  | 95 => ⟨S3840x16384, .bf16⟩
  | _ => ⟨S3840x16384, .bf16⟩

abbrev hbmTy (i : Nat) : BufTy := match i / 128 with
  | 0 => hbmTy0_0 i
  | 1 => hbmTy0_1 i
  | _ => ⟨S3840x16384, .bf16⟩

abbrev bufTy : (tb : Table) → Fin (tcTables nBuf tb) → BufTy
  | .hbm, ⟨i, _⟩ => hbmTy i
  | _, _ => ⟨S3840x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_cst_12 : Ref sig .tc := ⟨.hbm, 70, rfl⟩
abbrev main_call2_v0 : Ref sig .tc := ⟨.hbm, 71, rfl⟩
abbrev main_call2_v1 : Ref sig .tc := ⟨.hbm, 72, rfl⟩
abbrev main_v49 : Ref sig .tc := ⟨.hbm, 73, rfl⟩
abbrev main_cst_13 : Ref sig .tc := ⟨.hbm, 74, rfl⟩
abbrev main_call3_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_cst_18 : Ref sig .tc := ⟨.hbm, 99, rfl⟩
abbrev main_v69 : Ref sig .tc := ⟨.hbm, 100, rfl⟩
abbrev main_v70 : Ref sig .tc := ⟨.hbm, 101, rfl⟩
abbrev main_cst_19 : Ref sig .tc := ⟨.hbm, 102, rfl⟩
abbrev main_v71 : Ref sig .tc := ⟨.hbm, 103, rfl⟩
abbrev main_v72 : Ref sig .tc := ⟨.hbm, 104, rfl⟩
abbrev main_cst_20 : Ref sig .tc := ⟨.hbm, 105, rfl⟩
abbrev main_v73 : Ref sig .tc := ⟨.hbm, 106, rfl⟩
abbrev main_v74 : Ref sig .tc := ⟨.hbm, 107, rfl⟩
abbrev main_cst_21 : Ref sig .tc := ⟨.hbm, 108, rfl⟩
abbrev main_cst_22 : Ref sig .tc := ⟨.hbm, 109, rfl⟩
abbrev main_call5_v0 : Ref sig .tc := ⟨.hbm, 110, rfl⟩
abbrev main_call5_v1 : Ref sig .tc := ⟨.hbm, 111, rfl⟩
abbrev main_v75 : Ref sig .tc := ⟨.hbm, 112, rfl⟩
abbrev main_call6_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_23 : Ref sig .tc := ⟨.hbm, 117, rfl⟩
abbrev main_v79 : Ref sig .tc := ⟨.hbm, 118, rfl⟩
abbrev main_v80 : Ref sig .tc := ⟨.hbm, 119, rfl⟩
abbrev main_c_24 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_25 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_26 : Ref sig .tc := ⟨.hbm, 128, rfl⟩
abbrev main_v87 : Ref sig .tc := ⟨.hbm, 129, rfl⟩
abbrev main_v88 : Ref sig .tc := ⟨.hbm, 130, rfl⟩
abbrev main_c_27 : Ref sig .tc := ⟨.hbm, 131, rfl⟩
abbrev main_v89 : Ref sig .tc := ⟨.hbm, 132, rfl⟩
abbrev main_v90 : Ref sig .tc := ⟨.hbm, 133, rfl⟩
abbrev main_c_28 : Ref sig .tc := ⟨.hbm, 134, rfl⟩
abbrev main_v91 : Ref sig .tc := ⟨.hbm, 135, rfl⟩
abbrev main_v92 : Ref sig .tc := ⟨.hbm, 136, rfl⟩
abbrev main_c_29 : Ref sig .tc := ⟨.hbm, 137, rfl⟩
abbrev main_v93 : Ref sig .tc := ⟨.hbm, 138, rfl⟩
abbrev main_v94 : Ref sig .tc := ⟨.hbm, 139, rfl⟩
abbrev main_c_30 : Ref sig .tc := ⟨.hbm, 140, rfl⟩
abbrev main_v95 : Ref sig .tc := ⟨.hbm, 141, rfl⟩
abbrev main_v96 : Ref sig .tc := ⟨.hbm, 142, rfl⟩
abbrev main_c_31 : Ref sig .tc := ⟨.hbm, 143, rfl⟩
abbrev main_v97 : Ref sig .tc := ⟨.hbm, 144, rfl⟩
abbrev main_v98 : Ref sig .tc := ⟨.hbm, 145, rfl⟩
abbrev main_c_32 : Ref sig .tc := ⟨.hbm, 146, rfl⟩
abbrev main_v99 : Ref sig .tc := ⟨.hbm, 147, rfl⟩
abbrev main_v100 : Ref sig .tc := ⟨.hbm, 148, rfl⟩
abbrev main_c_33 : Ref sig .tc := ⟨.hbm, 149, rfl⟩
abbrev main_v101 : Ref sig .tc := ⟨.hbm, 150, rfl⟩
abbrev main_v102 : Ref sig .tc := ⟨.hbm, 151, rfl⟩
abbrev main_c_34 : Ref sig .tc := ⟨.hbm, 152, rfl⟩
abbrev main_v103 : Ref sig .tc := ⟨.hbm, 153, rfl⟩
abbrev main_v104 : Ref sig .tc := ⟨.hbm, 154, rfl⟩
abbrev main_c_35 : Ref sig .tc := ⟨.hbm, 155, rfl⟩
abbrev main_v105 : Ref sig .tc := ⟨.hbm, 156, rfl⟩
abbrev main_v106 : Ref sig .tc := ⟨.hbm, 157, rfl⟩
abbrev main_cst_36 : Ref sig .tc := ⟨.hbm, 158, rfl⟩
abbrev main_cst_37 : Ref sig .tc := ⟨.hbm, 159, rfl⟩
abbrev main_call9_v0 : Ref sig .tc := ⟨.hbm, 160, rfl⟩
abbrev main_call9_v1 : Ref sig .tc := ⟨.hbm, 161, rfl⟩
abbrev main_v107 : Ref sig .tc := ⟨.hbm, 162, rfl⟩
abbrev main_c_38 : Ref sig .tc := ⟨.hbm, 163, rfl⟩
abbrev main_v108 : Ref sig .tc := ⟨.hbm, 164, rfl⟩
abbrev main_v109 : Ref sig .tc := ⟨.hbm, 165, rfl⟩
abbrev main_cst_39 : Ref sig .tc := ⟨.hbm, 166, rfl⟩
abbrev main_cst_40 : Ref sig .tc := ⟨.hbm, 167, rfl⟩
abbrev main_call10_v0 : Ref sig .tc := ⟨.hbm, 168, rfl⟩
abbrev main_call10_v1 : Ref sig .tc := ⟨.hbm, 169, rfl⟩
abbrev main_v110 : Ref sig .tc := ⟨.hbm, 170, rfl⟩
abbrev main_v111 : Ref sig .tc := ⟨.hbm, 171, rfl⟩
abbrev main_c_41 : Ref sig .tc := ⟨.hbm, 172, rfl⟩
abbrev main_v112 : Ref sig .tc := ⟨.hbm, 173, rfl⟩
abbrev main_v113 : Ref sig .tc := ⟨.hbm, 174, rfl⟩
abbrev main_c_42 : Ref sig .tc := ⟨.hbm, 175, rfl⟩
abbrev main_v114 : Ref sig .tc := ⟨.hbm, 176, rfl⟩
abbrev main_v115 : Ref sig .tc := ⟨.hbm, 177, rfl⟩
abbrev main_cst_43 : Ref sig .tc := ⟨.hbm, 178, rfl⟩
abbrev main_cst_44 : Ref sig .tc := ⟨.hbm, 179, rfl⟩
abbrev main_call12_v0 : Ref sig .tc := ⟨.hbm, 180, rfl⟩
abbrev main_call12_v1 : Ref sig .tc := ⟨.hbm, 181, rfl⟩
abbrev main_v116 : Ref sig .tc := ⟨.hbm, 182, rfl⟩
abbrev main_c_45 : Ref sig .tc := ⟨.hbm, 183, rfl⟩
abbrev main_v117 : Ref sig .tc := ⟨.hbm, 184, rfl⟩
abbrev main_v118 : Ref sig .tc := ⟨.hbm, 185, rfl⟩
abbrev main_cst_46 : Ref sig .tc := ⟨.hbm, 186, rfl⟩
abbrev main_cst_47 : Ref sig .tc := ⟨.hbm, 187, rfl⟩
abbrev main_call13_v0 : Ref sig .tc := ⟨.hbm, 188, rfl⟩
abbrev main_call13_v1 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_c_48 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_49 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_c_50 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩

abbrev nD : Nat := 1
abbrev τ : Topo := Topo.v7x

variable {F : FTy → Type} [FloatOps F]
-- ==== Proof.DxCases.lean ====
/-
  What one grid point of the input-gradient product leaves in memory, read off the generated run of its body.

  The body keeps a running sum in a scratch block. The first point of a run of eight clears it, every point adds the
  product of its two blocks, and the last point scales the sum and stores it as the output block.
-/
module

public import proofs.«01_k».proof.Proof.Gen.DxKernelIdeal.Value
public import Idealize.ShloMosaic.Lib.Tactic
public import Idealize.ShloMosaic.Lib.Pointwise

@[expose] public section

noncomputable section

open Idealize.ShloMosaic Idealize.ShloMosaic.TcCoe Idealize.SL.Sem
open Idealize.ShloMosaic.Pipeline (Dat)

namespace Cert.DxKernelIdeal.Value

open Cert.DxKernelIdeal Cert.DxKernelIdeal.Gen

variable {F : FTy → Type} [FloatOps F]

/-- The offsets of every load and store of the body are zero. -/
theorem hz : (![0, 0] : Fin 2 → Nat) = fun _ => 0 := funext fun a => by fin_cases a <;> rfl

/-- First point of a run: the scratch ends at zero plus the product of the two blocks. -/
theorem sout_A (c : Dev nD) (i : grid0.Coords) (a3 : Memref sig .tc .vmem S1280x2048 .bf16) (h3 : a3.IsWhole)
    (a4 : Memref sig .tc .vmem S2048x1536 .bf16) (h4 : a4.IsWhole) (a5 : Memref sig .tc .vmem S1280x1536 .bf16) (h5 : a5.IsWhole)
    (a6 : Memref sig .tc .vmem S1280x1536 .f32) (h6 : a6.IsWhole)
    (hc0 : cond0_0 i) (hc1 : ¬cond0_1 i) (x : Vec F S1280x2048 .bf16) (y : Vec F S2048x1536 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1280x1536) hz, View.readCov_unit_zero (S := S1280x1536) _ hz]
  simp only [View.readAt_eq_ld, h3.read_unread, h4.read_unread, h5.read_unread, h6.read_unread, View.ld_unit_zero (S := S1280x1536) hz, View.ld_unit_zero (S := S1280x2048) hz,
    View.ld_unit_zero (S := S2048x1536) hz]

/-- Middle point: the scratch ends at what it held plus the product of the two blocks. -/
theorem sout_B (c : Dev nD) (i : grid0.Coords) (a3 : Memref sig .tc .vmem S1280x2048 .bf16) (h3 : a3.IsWhole)
    (a4 : Memref sig .tc .vmem S2048x1536 .bf16) (h4 : a4.IsWhole) (a5 : Memref sig .tc .vmem S1280x1536 .bf16) (h5 : a5.IsWhole)
    (a6 : Memref sig .tc .vmem S1280x1536 .f32) (h6 : a6.IsWhole)
    (hc0 : ¬cond0_0 i) (hc1 : ¬cond0_1 i) (x : Vec F S1280x2048 .bf16) (y : Vec F S2048x1536 .bf16) (acc : Vec F S1280x1536 .f32) :
    sout0_B_0 c i a3 h3 a4 h4 a5 h5 a6 h6 hc0 hc1 x y acc = k0_pay2 acc x y := by
  unfold sout0_B_0
  rw [View.read_writes_eq_canon _ _ _ (scover0_B_0 c i a3 h3 a4 h4 a5 h5 a6 h6 hc0 hc1 x y acc)]
  unfold kernelRun0_B
  dsimp only
  rw [View.canon_unit_zero hz]
  simp only [View.readAt_eq_ld, h3.read_unread, h4.read_unread, h5.read_unread, h6.read_unread, View.ld_unit_zero (S := S1280x1536) hz, View.ld_unit_zero (S := S1280x2048) hz,
    View.ld_unit_zero (S := S2048x1536) hz]

/-- Last point: the scratch again ends at what it held plus the product of the two blocks … -/
theorem sout_C (c : Dev nD) (i : grid0.Coords) (a3 : Memref sig .tc .vmem S1280x2048 .bf16) (h3 : a3.IsWhole)
    (a4 : Memref sig .tc .vmem S2048x1536 .bf16) (h4 : a4.IsWhole) (a5 : Memref sig .tc .vmem S1280x1536 .bf16) (h5 : a5.IsWhole)
    (a6 : Memref sig .tc .vmem S1280x1536 .f32) (h6 : a6.IsWhole)
    (hc0 : ¬cond0_0 i) (hc1 : cond0_1 i) (x : Vec F S1280x2048 .bf16) (y : Vec F S2048x1536 .bf16) (acc : Vec F S1280x1536 .f32) :
    sout0_C_0 c i a3 h3 a4 h4 a5 h5 a6 h6 hc0 hc1 x y acc = k0_pay2 acc x y := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero hz]
  simp only [View.readAt_eq_ld, h3.read_unread, h4.read_unread, h5.read_unread, h6.read_unread, View.ld_unit_zero (S := S1280x1536) hz, View.ld_unit_zero (S := S1280x2048) hz,
    View.ld_unit_zero (S := S2048x1536) hz]

/-- … and the output block is that sum, scaled. -/
theorem out_C (c : Dev nD) (i : grid0.Coords) (a3 : Memref sig .tc .vmem S1280x2048 .bf16) (h3 : a3.IsWhole)
    (a4 : Memref sig .tc .vmem S2048x1536 .bf16) (h4 : a4.IsWhole) (a5 : Memref sig .tc .vmem S1280x1536 .bf16) (h5 : a5.IsWhole)
    (a6 : Memref sig .tc .vmem S1280x1536 .f32) (h6 : a6.IsWhole)
    (hc0 : ¬cond0_0 i) (hc1 : cond0_1 i) (x : Vec F S1280x2048 .bf16) (y : Vec F S2048x1536 .bf16) (acc : Vec F S1280x1536 .f32) :
    out0_C_2 c i a3 h3 a4 h4 a5 h5 a6 h6 hc0 hc1 x y acc = k0_pay3 (k0_pay2 acc x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero hz, View.readCov_unit_zero (S := S1280x1536) _ hz]
  simp only [View.readAt_eq_ld, h3.read_unread, h4.read_unread, h5.read_unread, h6.read_unread, View.ld_unit_zero (S := S1280x1536) hz, View.ld_unit_zero (S := S1280x2048) hz,
    View.ld_unit_zero (S := S2048x1536) hz]

end Cert.DxKernelIdeal.Value

end
-- ==== Proof.DxValue.lean ====
/-
  The input-gradient product over the reals: the array the kernel leaves is the reference's array.

  Each block of the result is the scaled sum of eight products of blocks; joining the eight ranges of 2048 contracted
  positions gives the reference's one sum over 16384 positions.
-/
module

public import proofs.«01_k».proof.Proof.Gen.DxKernelIdeal.Value
public import proofs.«01_k».proof.Proof.DxCases
public import proofs.«01_k».proof.Proof.Gen.DxReferenceIdeal.Read
public import Idealize.ShloMosaic.Lib.Pointwise

@[expose] public section

noncomputable section

open Idealize.ShloMosaic Idealize.ShloMosaic.TcCoe Idealize.SL.Sem
open Idealize.ShloMosaic.Pipeline (Dat)

namespace Cert.DxKernelIdeal.Value

open Cert.DxKernelIdeal Cert.DxKernelIdeal.Gen

variable (m : (ℓ : Loc nD τ sig) → Buf (Elt Ideal) ℓ)

/-! ## The body's three values at an index -/

/-- The cleared block is zero. -/
theorem pay1_apply (i : S1280x1536.Idx) : k0_pay1 (F := Ideal) i = 0 := by
  unfold k0_pay1
  simp only [pointwise]

/-- The product of two blocks, at a place of the output block. -/
def dotBlk (x : Vec Ideal S1280x2048 .bf16) (y : Vec Ideal S2048x1536 .bf16) (i : S1280x1536.Idx) : EReal :=
  ∑ k : Fin 2048, x (ix2 (i 0) k) * y (ix2 k (i 1))

/-- One step adds the product of the blocks. -/
theorem pay2_apply (acc : Vec Ideal S1280x1536 .f32) (x : Vec Ideal S1280x2048 .bf16) (y : Vec Ideal S2048x1536 .bf16) (i : S1280x1536.Idx) :
    k0_pay2 acc x y i = acc i + dotBlk x y i := by
  unfold k0_pay2 dotBlk
  simp only [pointwise, zero_add]

/-- The last step scales. -/
theorem pay3_apply (acc : Vec Ideal S1280x1536 .f32) (i : S1280x1536.Idx) :
    k0_pay3 acc i = acc i * FloatOps.ofBits (F := Ideal) .f32 0x3FE38E39#32 := by
  unfold k0_pay3
  simp only [pointwise]

/-! ## The blocks as parts of the argument arrays -/

/-- Which block of each argument a grid point reads: row block `t / 32` and contracted block `t % 8` of the first,
    contracted block `t % 8` and column block `t / 8 % 4` of the second. -/
theorem idx_in : ∀ t : Fin cfg0.N, win0_0.index t (0 : Fin 2) = t.val / 32 ∧ win0_0.index t (1 : Fin 2) = t.val % 8
    ∧ win0_1.index t (0 : Fin 2) = t.val % 8 ∧ win0_1.index t (1 : Fin 2) = t.val / 8 % 4 :=
  (by decide +kernel : ∀ t : Fin grid0.N, _)

theorem iblk0_apply (c : Dev nD) (t : Fin cfg0.N) (j : S1280x2048.Idx) (p : S3840x16384.Idx)
    (e0 : (p 0).val = t.val / 32 * 1280 + (j 0).val) (e1 : (p 1).val = t.val % 8 * 2048 + (j 1).val) :
    iblk m c 0 t j = m ((c : Thread nD τ).loc main_arg0) p := by
  obtain ⟨d0, d1, -, -⟩ := idx_in t
  unfold iblk; rw [View.read_apply]
  show V m c main_arg0 _ = _
  unfold V; congr 1; funext a; apply Fin.ext
  match a with
  | ⟨0, _⟩ => show win0_0.index t (0 : Fin 2) * 1280 + 1 * (j 0).val = (p 0).val; rw [d0, e0]; omega
  | ⟨1, _⟩ => show win0_0.index t (1 : Fin 2) * 2048 + 1 * (j 1).val = (p 1).val; rw [d1, e1]; omega

theorem iblk1_apply (c : Dev nD) (t : Fin cfg0.N) (j : S2048x1536.Idx) (p : S16384x6144.Idx)
    (e0 : (p 0).val = t.val % 8 * 2048 + (j 0).val) (e1 : (p 1).val = t.val / 8 % 4 * 1536 + (j 1).val) :
    iblk m c 1 t j = m ((c : Thread nD τ).loc main_arg1) p := by
  obtain ⟨-, -, d0, d1⟩ := idx_in t
  unfold iblk; rw [View.read_apply]
  show V m c main_arg1 _ = _
  unfold V; congr 1; funext a; apply Fin.ext
  match a with
  | ⟨0, _⟩ => show win0_1.index t (0 : Fin 2) * 2048 + 1 * (j 0).val = (p 0).val; rw [d0, e0]; omega
  | ⟨1, _⟩ => show win0_1.index t (1 : Fin 2) * 1536 + 1 * (j 1).val = (p 1).val; rw [d1, e1]; omega

/-! ## The running sum -/

/-- The product of the two blocks of point `t`, at a place of the output block. -/
def prod (c : Dev nD) (t : Fin cfg0.N) (i : S1280x1536.Idx) : EReal :=
  dotBlk (iblk m c 0 t) (iblk m c 1 t) i

/-- What the scratch holds after the last point of a run: the sum of the run's eight products. -/
theorem scratch_last (c : Dev nD) (t : Fin cfg0.N) (h7 : t.val % 8 = 7) (i : S1280x1536.Idx) :
    (outsAt0 m c t.val t.isLt).2 i
      = ∑ s : Fin 8, prod m c ⟨8 * (t.val / 8) + s.val, by have := t.isLt; have := s.isLt; have hN : cfg0.N = 96 := N_0; omega⟩ i := by
  rw [soutsAt0_0_eq]
  have hb : 8 * (t.val / 8) + t.val % 8 < cfg0.N := by have := t.isLt; omega
  refine (Pipeline.accAt_add_apply _ _ (fun _ => (0 : EReal)) (fun n i => if h : n < cfg0.N then prod m c ⟨n, h⟩ i else 0)
    (8 * (t.val / 8)) 7 ?_ ?_ (t.val % 8) (by omega) hb i).trans ?_
  · intro h i
    have h0 : 8 * (t.val / 8) % 8 = 0 := by omega
    have h1 : ¬8 * (t.val / 8) % 8 = 7 := by omega
    unfold scAt0_0
    rw [dif_pos h0, dif_neg h1, sout_A, pay2_apply, pay1_apply, dif_pos h]
    rfl
  · intro n h acc i hl hu
    have h0 : ¬n % 8 = 0 := by omega
    unfold scAt0_0
    rw [dif_neg h0, dif_pos h]
    by_cases h1 : n % 8 = 7
    · rw [dif_pos h1, sout_C, pay2_apply]; rfl
    · rw [dif_neg h1, sout_B, pay2_apply]; rfl
  · rw [zero_add, h7, Finset.sum_range]
    refine Finset.sum_congr rfl fun s _ => ?_
    rw [dif_pos (by have := t.isLt; have := s.isLt; have hN : cfg0.N = 96 := N_0; omega)]

/-- What the output's buffer holds after the last point of a run: the scratch, scaled. -/
theorem out_last (c : Dev nD) (t : Fin cfg0.N) (h7 : t.val % 8 = 7) :
    (outsAt0 m c t.val t.isLt).1 = k0_pay3 (outsAt0 m c t.val t.isLt).2 := by
  rw [outsAt0_C m c t (by omega) h7]
  dsimp only
  rw [out_C, sout_C]

/-! ## The result array -/

/-- The kernel's result array is the reference's, element by element. -/
theorem G2_eq (c : Dev nD) : G2 m c = Cert.DxReferenceIdeal.Read.val_main_v3 (F := Ideal)
    (m ((c : Thread nD τ).loc main_arg0)) (m ((c : Thread nD τ).loc main_arg1)) := by
  funext i
  have hi0 : (i 0).val < 3840 := (i 0).isLt
  have hi1 : (i 1).val < 6144 := (i 1).isLt
  have hN : cfg0.N = 96 := N_0
  have hp : pt2Of i < cfg0.N := by rw [hN]; unfold pt2Of run2Of; omega
  have h7 : pt2Of i % 8 = 7 := by unfold pt2Of; omega
  unfold G2
  rw [dif_pos hp, ← outsAt0_sweep m c (pt2Of i) hp, out_last m c ⟨pt2Of i, hp⟩ h7, pay3_apply,
    scratch_last m c ⟨pt2Of i, hp⟩ h7]
  rw [Cert.DxReferenceIdeal.Read.val_main_v3_apply, Cert.DxReferenceIdeal.Read.val_main_v2_apply,
    Cert.DxReferenceIdeal.Read.val_main_v1_apply, Cert.DxReferenceIdeal.Read.val_main_cst_apply,
    Cert.DxReferenceIdeal.Read.val_main_v0_apply, Fin.sum_univ_tiles 8 2048 rfl]
  simp only [pointwise]
  rw [mul_comm]
  refine congrArg (FloatOps.ofBits (F := Ideal) .f32 0x3FE38E39#32 * ·) (Finset.sum_congr rfl fun s _ => ?_)
  unfold prod dotBlk
  refine Finset.sum_congr rfl fun k _ => ?_
  have hs := s.isLt
  have ht : 8 * (pt2Of i / 8) + s.val = 8 * run2Of i + s.val := by unfold pt2Of; omega
  congr 1
  · refine iblk0_apply m c _ _ _ ?_ ?_
    · show (i 0).val = (8 * (pt2Of i / 8) + s.val) / 32 * 1280 + (i 0).val % 1280
      rw [ht]; unfold run2Of; omega
    · show s.val * 2048 + k.val = (8 * (pt2Of i / 8) + s.val) % 8 * 2048 + k.val
      omega
  · refine iblk1_apply m c _ _ _ ?_ ?_
    · show s.val * 2048 + k.val = (8 * (pt2Of i / 8) + s.val) % 8 * 2048 + k.val
      omega
    · show (i 1).val = (8 * (pt2Of i / 8) + s.val) / 8 % 4 * 1536 + (i 1).val % 1536
      rw [ht]; unfold run2Of; omega

end Cert.DxKernelIdeal.Value

end
-- ==== Proof.DwValue.lean ====
/-
  The weight-gradient product over the reals: the array the kernel leaves is the reference's array.

  Every grid point contracts the whole range of 3840 positions, so a point clears its scratch block, adds one product
  of blocks, scales it and stores it as its own block of the result.
-/
module

public import proofs.«01_k».proof.Proof.Gen.DwKernelIdeal.Value
public import Idealize.ShloMosaic.Lib.Tactic
public import proofs.«01_k».proof.Proof.Gen.DwReferenceIdeal.Read
public import Idealize.ShloMosaic.Lib.Pointwise

@[expose] public section

noncomputable section

open Idealize.ShloMosaic Idealize.ShloMosaic.TcCoe Idealize.SL.Sem
open Idealize.ShloMosaic.Pipeline (Dat)

namespace Cert.DwKernelIdeal.Value

open Cert.DwKernelIdeal Cert.DwKernelIdeal.Gen

/-! ## What a point stores -/

section Cases

variable {F : FTy → Type} [FloatOps F]

/-- The offsets of every load and store of the body are zero. -/
theorem hz : (![0, 0] : Fin 2 → Nat) = fun _ => 0 := funext fun a => by fin_cases a <;> rfl

/-- A load of the whole block reads what the last store of the whole block left. -/
theorem readCov_last {S : Shape} {e : EltTy} {sp : Space} (v : View sig .tc sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The output block is zero plus the product of the two blocks, scaled. -/
theorem out_A (c : Dev nD) (i : grid0.Coords) (a3 : Memref sig .tc .vmem S1024x3840 .bf16) (h3 : a3.IsWhole)
    (a4 : Memref sig .tc .vmem S3840x1024 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : cond0_1 i) (x : Vec F S1024x3840 .bf16) (y : Vec F S3840x1024 .bf16) :
    out0_A_2 c i a3 h3 a4 h4 a5 h5 a6 h6 hc0 hc1 x y = k0_pay3 (k0_pay2 k0_pay1 x y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero hz, readCov_last (S := S1024x1024) _ hz, View.readCov_unit_zero (S := S1024x1024) _ hz]
  simp only [View.readAt_eq_ld, h3.read_unread, h4.read_unread, View.ld_unit_zero (S := S1024x3840) hz,
    View.ld_unit_zero (S := S3840x1024) hz]

end Cases

variable (m : (ℓ : Loc nD τ sig) → Buf (Elt Ideal) ℓ)

/-- The cleared block is zero. -/
theorem pay1_apply (i : S1024x1024.Idx) : k0_pay1 (F := Ideal) i = 0 := by
  unfold k0_pay1
  simp only [pointwise]

/-- The step adds the product of the blocks. -/
theorem pay2_apply (acc : Vec Ideal S1024x1024 .f32) (x : Vec Ideal S1024x3840 .bf16) (y : Vec Ideal S3840x1024 .bf16) (i : S1024x1024.Idx) :
    k0_pay2 acc x y i = acc i + ∑ k : Fin 3840, x (ix2 (i 0) k) * y (ix2 k (i 1)) := by
  unfold k0_pay2
  simp only [pointwise, zero_add]

/-- The result is scaled. -/
theorem pay3_apply (acc : Vec Ideal S1024x1024 .f32) (i : S1024x1024.Idx) :
    k0_pay3 acc i = acc i * FloatOps.ofBits (F := Ideal) .f32 0x3FE38E39#32 := by
  unfold k0_pay3
  simp only [pointwise]

/-! ## The blocks as parts of the arrays -/

/-- Which block of each array a grid point reads and writes: row block `t / 6` of the first argument and the result,
    column block `t % 6` of the second argument and the result. -/
theorem idx_facts : ∀ t : Fin cfg0.N, win0_0.index t (0 : Fin 2) = t.val / 6 ∧ win0_0.index t (1 : Fin 2) = 0
    ∧ win0_1.index t (0 : Fin 2) = 0 ∧ win0_1.index t (1 : Fin 2) = t.val % 6
    ∧ win0_2.index t (0 : Fin 2) = t.val / 6 ∧ win0_2.index t (1 : Fin 2) = t.val % 6 :=
  (by decide +kernel : ∀ t : Fin grid0.N, _)

theorem iblk0_apply (c : Dev nD) (t : Fin cfg0.N) (j : S1024x3840.Idx) (p : S16384x3840.Idx)
    (e0 : (p 0).val = t.val / 6 * 1024 + (j 0).val) (e1 : (p 1).val = (j 1).val) :
    iblk m c 0 t j = m ((c : Thread nD τ).loc main_arg0) p := by
  obtain ⟨d0, d1, -⟩ := idx_facts t
  unfold iblk; rw [View.read_apply]
  show V m c main_arg0 _ = _
  unfold V; congr 1; funext a; apply Fin.ext
  match a with
  | ⟨0, _⟩ => show win0_0.index t (0 : Fin 2) * 1024 + 1 * (j 0).val = (p 0).val; rw [d0, e0]; omega
  | ⟨1, _⟩ => show win0_0.index t (1 : Fin 2) * 3840 + 1 * (j 1).val = (p 1).val; rw [d1, e1]; omega

theorem iblk1_apply (c : Dev nD) (t : Fin cfg0.N) (j : S3840x1024.Idx) (p : S3840x6144.Idx)
    (e0 : (p 0).val = (j 0).val) (e1 : (p 1).val = t.val % 6 * 1024 + (j 1).val) :
    iblk m c 1 t j = m ((c : Thread nD τ).loc main_arg1) p := by
  obtain ⟨-, -, d0, d1, -⟩ := idx_facts t
  unfold iblk; rw [View.read_apply]
  show V m c main_arg1 _ = _
  unfold V; congr 1; funext a; apply Fin.ext
  match a with
  | ⟨0, _⟩ => show win0_1.index t (0 : Fin 2) * 3840 + 1 * (j 0).val = (p 0).val; rw [d0, e0]; omega
  | ⟨1, _⟩ => show win0_1.index t (1 : Fin 2) * 1024 + 1 * (j 1).val = (p 1).val; rw [d1, e1]; omega

/-! ## The result array -/

/-- The reference's result over the kernel's two argument arrays. -/
def G (c : Dev nD) : Buf (Elt Ideal) ((c : Thread nD τ).loc main_v0) := Cert.DwReferenceIdeal.Read.val_main_v2 (F := Ideal)
    (m ((c : Thread nD τ).loc main_arg0)) (m ((c : Thread nD τ).loc main_arg1))

/-- Every point writes back its block of the reference's result. -/
theorem flushed_eq (c : Dev nD) (t : Fin cfg0.N) :
    (dats m 0 c).flushed 2 t = ((cfg0.win 2).blk t).view.read (Elt Ideal) (G m c) := by
  rw [flushed2_A, out_A]
  obtain ⟨-, -, -, -, e0, e1⟩ := idx_facts t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  show (k0_pay3 (F := Ideal) _ ((cfg0.win 2).xinj (grid0.coords t) y) : EReal) = G m c (((cfg0.win 2).blk t).view.emb y)
  rw [pay3_apply, pay2_apply, pay1_apply, zero_add, mul_comm]
  unfold G
  rw [Cert.DwReferenceIdeal.Read.val_main_v2_apply,
    Cert.DwReferenceIdeal.Read.val_main_v1_apply, Cert.DwReferenceIdeal.Read.val_main_cst_apply,
    Cert.DwReferenceIdeal.Read.val_main_v0_apply]
  simp only [pointwise]
  refine congrArg (FloatOps.ofBits (F := Ideal) .f32 0x3FE38E39#32 * ·) (Finset.sum_congr rfl fun k _ => ?_)
  congr 1
  · refine iblk0_apply m c _ _ _ ?_ rfl
    show (((cfg0.win 2).blk t).view.emb y 0).val = t.val / 6 * 1024 + (y 0).val
    rw [hb0, e0]; omega
  · refine iblk1_apply m c _ _ _ rfl ?_
    show (((cfg0.win 2).blk t).view.emb y 1).val = t.val % 6 * 1024 + (y 1).val
    rw [hb1, e1]; omega

/-- An index of the result is in point `t`'s block iff each coordinate is in the block's range. -/
theorem mem_blk (t : Fin cfg0.N) (i : S16384x6144.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result is in some point's block. -/
theorem covered (i : S16384x6144.Idx) : ∃ t : Fin cfg0.N, (cfg0.win 2).flush t = true ∧ i ∈ ((cfg0.win 2).blk t).view.set := by
  have h0 : (i 0).val < 16384 := (i 0).isLt
  have h1 : (i 1).val < 6144 := (i 1).isLt
  have hN : cfg0.N = 96 := N_0
  obtain ⟨t, ht⟩ : ∃ t : Fin cfg0.N, t.val = 6 * ((i 0).val / 1024) + (i 1).val / 1024 := ⟨⟨_, by omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The blocks tile the result array, so it ends as the reference's. -/
theorem final (c : Dev nD) : (dats m 0 c).arrAt 2 cfg0.N = G m c :=
  (dats m 0 c).arrAt_eq_of_cover 2 _ (fun t _ => flushed_eq m c t) covered

end Cert.DwKernelIdeal.Value

end
-- ==== Proof.Claims.lean ====
/-
  The claims about the two products, from their value theorems: each reference runs and leaves its arguments alone, and
  each kernel's result over the reals is its reference's result.
-/
module

public import proofs.«01_k».proof.Defs
public import proofs.«01_k».proof.Proof.DxValue
public import proofs.«01_k».proof.Proof.DwValue
public import proofs.«01_k».proof.Proof.Gen.DxKernelIdeal
public import proofs.«01_k».proof.Proof.Gen.DxReferenceIdeal
public import proofs.«01_k».proof.Proof.Gen.DwKernelIdeal
public import proofs.«01_k».proof.Proof.Gen.DwReferenceIdeal

@[expose] public section

noncomputable section

namespace Cert.Proof

open Idealize.ShloMosaic Idealize.ShloMosaic.TcCoe Idealize.SL.Sem

/-- The Dx reference runs, leaves its arguments as they were, and uses no semaphore. -/
theorem dx_reference_frame : Cert.quiescent_DxReferenceIdeal := fun m g _ =>
  (θ_run _ _ _).mono (fun _ h => ⟨fun c => (h c).2, Idealize.ShloMosaic.sem_eq_zero_of_no_sems (by decide) _⟩) (Cert.DxReferenceIdeal.Value.run (F := Ideal) m g)

/-- From equal arguments the Dx kernel and its reference leave equal results, over the reals. -/
theorem dx_algebraic : Cert.algebraic_DxKernelIdeal_DxReferenceIdeal := fun m g m' g' _ hagree =>
  ⟨fun c => Cert.DxReferenceIdeal.Read.val_main_v3 (F := Ideal) (m ((c.tc : Thread Cert.DxKernelIdeal.nD Cert.DxKernelIdeal.τ).loc Cert.DxKernelIdeal.main_arg0))
      (m ((c.tc : Thread Cert.DxKernelIdeal.nD Cert.DxKernelIdeal.τ).loc Cert.DxKernelIdeal.main_arg1)),
    (θ_run _ _ _).mono (fun _ h c => ⟨(h c).1.trans (Cert.DxKernelIdeal.Value.G2_eq m c), (h c).2⟩) (Cert.DxKernelIdeal.Value.run (F := Ideal) m g),
    (θ_run _ _ _).mono (fun _ h c => ⟨(h c).1.trans (by
      rw [Cert.DxReferenceIdeal.Read.val_main_v3_eq, (hagree c).1, (hagree c).2]), (h c).2⟩) (Cert.DxReferenceIdeal.Value.run (F := Ideal) m' g')⟩

/-- The Dw reference runs, leaves its arguments as they were, and uses no semaphore. -/
theorem dw_reference_frame : Cert.quiescent_DwReferenceIdeal := fun m g _ =>
  (θ_run _ _ _).mono (fun _ h => ⟨fun c => (h c).2, Idealize.ShloMosaic.sem_eq_zero_of_no_sems (by decide) _⟩) (Cert.DwReferenceIdeal.Value.run (F := Ideal) m g)

/-- From equal arguments the Dw kernel and its reference leave equal results, over the reals. -/
theorem dw_algebraic : Cert.algebraic_DwKernelIdeal_DwReferenceIdeal := fun m g m' g' _ hagree =>
  ⟨fun c => Cert.DwReferenceIdeal.Read.val_main_v2 (F := Ideal) (m ((c.tc : Thread Cert.DwKernelIdeal.nD Cert.DwKernelIdeal.τ).loc Cert.DwKernelIdeal.main_arg0))
      (m ((c.tc : Thread Cert.DwKernelIdeal.nD Cert.DwKernelIdeal.τ).loc Cert.DwKernelIdeal.main_arg1)),
    (θ_run _ _ _).mono (fun _ h c => ⟨(h c).1.trans (Cert.DwKernelIdeal.Value.final m c), (h c).2⟩) (Cert.DwKernelIdeal.Value.run_blocks (F := Ideal) m g),
    (θ_run _ _ _).mono (fun _ h c => ⟨(h c).1.trans (by
      rw [Cert.DwReferenceIdeal.Read.val_main_v2_eq, (hagree c).1, (hagree c).2]), (h c).2⟩) (Cert.DwReferenceIdeal.Value.run (F := Ideal) m' g')⟩

end Cert.Proof

end
-- ==== Proof.QuantField.lean ====
/-
  The exponent field of a number, found by comparing it with powers of two.

  The kernel reads a number's exponent field bit by bit: starting from zero it sets a bit whenever the number is at
  least the power of two the enlarged field stands for.  Over the reals this finds the field `k` with
  `2 ^ (k - 127) ≤ x < 2 ^ (k - 126)` (`k = 0` below `2 ^ (-126)`).
-/
module

public import Idealize.ShloMosaic.PureOps.Ideal
public import Idealize.ShloMosaic.Lib.Tactic
public import Idealize.ShloMosaic.Lib.Pointwise

@[expose] public section

noncomputable section

open Idealize.ShloMosaic

namespace Cert.Quant

/-- The word whose exponent field is `k` and whose other bits are clear. -/
def word (k : ℕ) : BitVec 32 := BitVec.ofNat 32 (k * 8388608)

/-- The number an exponent field stands for. -/
def pw (k : ℕ) : ℝ := if k = 0 then 0 else (2 : ℝ) ^ ((k : ℤ) - 127)

theorem word_field : ∀ k < 256, ((word k).extractLsb' 23 8).toNat = k ∧ ((word k).extractLsb' 0 23).toNat = 0
    ∧ ((word k).extractLsb' 31 1 == 1#1) = false := by
  unfold word; decide +kernel

theorem ofBits_word (k : ℕ) (hk : k < 255) : Ideal.ofBits .f32 (word k) = ((pw k : ℝ) : EReal) := by
  obtain ⟨h1, h2, h3⟩ := word_field k (by omega)
  unfold Ideal.ofBits Ideal.ieee
  dsimp only
  rw [h1, h2, h3, if_neg (by omega)]
  unfold pw
  by_cases h : k = 0
  · rw [if_pos h, if_pos h]; simp
  · rw [if_neg h, if_neg h]
    congr 1
    have e : ((k : ℤ) - 127) = ((k : ℤ) - (2 ^ (8 - 1) - 1) - (23 : ℕ)) + 23 := by norm_num
    rw [e, zpow_add₀ (by norm_num)]
    norm_num; ring

theorem ofBits_word_top : Ideal.ofBits .f32 (word 255) = ⊤ := by
  obtain ⟨h1, h2, h3⟩ := word_field 255 (by omega)
  unfold Ideal.ofBits Ideal.ieee
  dsimp only
  rw [h1, h2, h3]; simp

/-- The word with field `255 - k` and the top fraction bit set is one and a half times its power of two. -/
theorem half_field : ∀ k < 255, ((0x7FC00000#32 - word k).extractLsb' 23 8).toNat = 255 - k
    ∧ ((0x7FC00000#32 - word k).extractLsb' 0 23).toNat = 4194304
    ∧ ((0x7FC00000#32 - word k).extractLsb' 31 1 == 1#1) = false := by
  unfold word; decide +kernel

theorem ofBits_half (k : ℕ) (h0 : 0 < k) (hk : k < 255) :
    Ideal.ofBits .f32 (0x7FC00000#32 - word k) = ((3 / 4 * (2 : ℝ) ^ (129 - (k : ℤ)) : ℝ) : EReal) := by
  obtain ⟨h1, h2, h3⟩ := half_field k hk
  unfold Ideal.ofBits Ideal.ieee
  dsimp only
  rw [h1, h2, h3, if_neg (by omega), if_neg (by omega)]
  refine congrArg (fun t : ℝ => (t : EReal)) ?_
  have e : (129 - (k : ℤ)) = (((255 - k : ℕ) : ℤ) - (2 ^ (8 - 1) - 1) - (23 : ℕ)) + 24 := by
    rw [Nat.cast_sub (by omega)]; norm_num; ring
  rw [e, zpow_add₀ (by norm_num)]
  norm_num; ring

/-- One rung: the field with one more bit set, if the number reaches it. -/
def rung (x : EReal) (b e : BitVec 32) : BitVec 32 :=
  if Ideal.cmp .oge x (Ideal.ofBits .f32 (e ||| b)) = 1#1 then e ||| b else e

/-- The field found by the eight rungs. -/
def field (x : EReal) : BitVec 32 :=
  rung x 8388608#32 (rung x 16777216#32 (rung x 33554432#32 (rung x 67108864#32 (rung x 134217728#32
    (rung x 268435456#32 (rung x 536870912#32 (rung x 1073741824#32 0#32)))))))

theorem cmp_oge (x y : EReal) : Ideal.cmp .oge x y = 1#1 ↔ y ≤ x := by
  by_cases h : y ≤ x <;> simp [Ideal.cmp, BitVec.ofBool, h]

theorem cmp_olt (x y : EReal) : Ideal.cmp .olt x y = 1#1 ↔ x < y := by
  by_cases h : x < y <;> simp [Ideal.cmp, BitVec.ofBool, h]

/-- What holds before the rung of width `d`: the field is a multiple of `2 d`, and the number is between what the
    field stands for and the next multiple. -/
def Inv (x : ℝ) (d : ℕ) (e : BitVec 32) : Prop :=
  ∃ k, k < 255 ∧ k % d = 0 ∧ e = word k ∧ pw k ≤ x ∧ (k + d < 255 → x < pw (k + d))

theorem word_or : ∀ j < 8, ∀ k < 256, k % (2 * 2 ^ j) = 0 → word k ||| word (2 ^ j) = word (k + 2 ^ j) := by
  unfold word; decide +kernel

theorem rung_inv (x : ℝ) (j : ℕ) (hj : j < 8) (e : BitVec 32) (h : Inv x (2 * 2 ^ j) e) : Inv x (2 ^ j) (rung x (word (2 ^ j)) e) := by
  obtain ⟨k, hk, hm, rfl, hl, hu⟩ := h
  have hp : 0 < 2 ^ j := Nat.two_pow_pos j
  have hd : k % 2 ^ j = 0 := Nat.mod_eq_zero_of_dvd ((Dvd.intro_left 2 rfl).trans (Nat.dvd_of_mod_eq_zero hm))
  have hle : k + 2 ^ j ≤ 255 := by
    interval_cases j <;> omega
  unfold rung
  rw [word_or j hj k (by omega) hm]
  by_cases h255 : k + 2 ^ j = 255
  · rw [h255, ofBits_word_top, if_neg (by rw [cmp_oge]; exact not_le.mpr (EReal.coe_lt_top x))]
    exact ⟨k, hk, hd, rfl, hl, fun h => absurd h (by omega)⟩
  · rw [ofBits_word _ (by omega)]
    by_cases hx : pw (k + 2 ^ j) ≤ x
    · rw [if_pos (by rw [cmp_oge]; exact EReal.coe_le_coe_iff.mpr hx)]
      refine ⟨k + 2 ^ j, by omega, by rw [Nat.add_mod_right, hd], rfl, hx, fun h => ?_⟩
      have := hu (by omega)
      rwa [show k + 2 ^ j + 2 ^ j = k + 2 * 2 ^ j by ring]
    · rw [if_neg (by rw [cmp_oge, EReal.coe_le_coe_iff]; exact hx)]
      exact ⟨k, hk, hd, rfl, hl, fun _ => not_le.mp hx⟩

/-- The field found is the number's exponent field. -/
theorem field_spec (x : ℝ) (h0 : 0 ≤ x) : ∃ k, k < 255 ∧ field x = word k ∧ pw k ≤ x ∧ (k < 254 → x < pw (k + 1)) := by
  have h : Inv x (2 * 2 ^ 7) 0#32 := ⟨0, by norm_num, by norm_num, rfl, by simpa [pw] using h0, fun h => absurd h (by norm_num)⟩
  have h := rung_inv x 7 (by norm_num) _ h
  have h := rung_inv x 6 (by norm_num) _ h
  have h := rung_inv x 5 (by norm_num) _ h
  have h := rung_inv x 4 (by norm_num) _ h
  have h := rung_inv x 3 (by norm_num) _ h
  have h := rung_inv x 2 (by norm_num) _ h
  have h := rung_inv x 1 (by norm_num) _ h
  have h := rung_inv x 0 (by norm_num) _ h
  obtain ⟨k, hk, -, he, hl, hu⟩ := h
  exact ⟨k, hk, he, hl, fun h => hu (by simpa using (by omega : k + 1 < 255))⟩

end Cert.Quant

end
-- ==== Proof.QuantScalar.lean ====
/-
  One element of the four-bit quantisation, on the kernel's side and on the reference's side, over the reals.

  Both take the magnitude `m` of the scaled value and the random number `u` between 0 and 1.  The reference rounds `m`
  down or up to a neighbour on the grid 0, 1/2, 1, 3/2, 2, 3, 4, 6 and numbers the result; the kernel counts steps of
  the grid's spacing at `m`.  Both come to the same number `n` of the grid point.
-/
module

public import proofs.«01_k».proof.Proof.QuantField

@[expose] public section

noncomputable section

open Idealize.ShloMosaic

namespace Cert.Quant

/-- The constant the pattern denotes. -/
abbrev cst (b : BitVec 32) : EReal := Ideal.ofBits .f32 b

theorem cst_half : cst 0x3F000000#32 = ((1 / 2 : ℝ) : EReal) := by
  rw [show (0x3F000000#32 : BitVec 32) = word 126 from by decide]; unfold cst; rw [ofBits_word 126 (by norm_num)]; unfold pw; norm_num
theorem cst_one : cst 0x3F800000#32 = ((1 : ℝ) : EReal) := by
  rw [show (0x3F800000#32 : BitVec 32) = word 127 from by decide]; unfold cst; rw [ofBits_word 127 (by norm_num)]; unfold pw; norm_num
theorem cst_two : cst 0x40000000#32 = ((2 : ℝ) : EReal) := by
  rw [show (0x40000000#32 : BitVec 32) = word 128 from by decide]; unfold cst; rw [ofBits_word 128 (by norm_num)]; unfold pw; norm_num
theorem cst_four : cst 0x40800000#32 = ((4 : ℝ) : EReal) := by
  rw [show (0x40800000#32 : BitVec 32) = word 129 from by decide]; unfold cst; rw [ofBits_word 129 (by norm_num)]; unfold pw; norm_num
theorem cst_byte : cst 0x3B800000#32 = ((1 / 256 : ℝ) : EReal) := by
  rw [show (0x3B800000#32 : BitVec 32) = word 119 from by decide]; unfold cst; rw [ofBits_word 119 (by norm_num)]; unfold pw; norm_num
theorem cst_zero : cst 0x00000000#32 = ((0 : ℝ) : EReal) := by
  rw [show (0x00000000#32 : BitVec 32) = word 0 from by decide]; unfold cst; rw [ofBits_word 0 (by norm_num)]; unfold pw; norm_num

/-- A pattern by its fields. -/
theorem cst_of (b : BitVec 32) (e f : ℕ) (he : (b.extractLsb' 23 8).toNat = e) (hf : (b.extractLsb' 0 23).toNat = f)
    (hn : (b.extractLsb' 31 1 == 1#1) = false) (h0 : e ≠ 0) (h1 : e ≠ 255) :
    cst b = (((8388608 + f : ℕ) * (2 : ℝ) ^ ((e : ℤ) - 150) : ℝ) : EReal) := by
  unfold cst Ideal.ofBits Ideal.ieee
  dsimp only
  rw [he, hf, hn, if_neg (by omega), if_neg h0]
  refine congrArg (fun t : ℝ => (t : EReal)) ?_
  rw [show ((e : ℤ) - (2 ^ (8 - 1) - 1) - (23 : ℕ)) = (e : ℤ) - 150 by push_cast; ring]
  norm_num

theorem cst_three4 : cst 0x3F400000#32 = ((3 / 4 : ℝ) : EReal) := by
  rw [cst_of _ 126 4194304 (by decide) (by decide) (by decide) (by norm_num) (by norm_num)]; norm_num
theorem cst_three2 : cst 0x3FC00000#32 = ((3 / 2 : ℝ) : EReal) := by
  rw [cst_of _ 127 4194304 (by decide) (by decide) (by decide) (by norm_num) (by norm_num)]; norm_num
theorem cst_three : cst 0x40400000#32 = ((3 : ℝ) : EReal) := by
  rw [cst_of _ 128 4194304 (by decide) (by decide) (by decide) (by norm_num) (by norm_num)]; norm_num
theorem cst_six : cst 0x40C00000#32 = ((6 : ℝ) : EReal) := by
  rw [cst_of _ 129 4194304 (by decide) (by decide) (by decide) (by norm_num) (by norm_num)]; norm_num
theorem cst_seven : cst 0x40E00000#32 = ((7 : ℝ) : EReal) := by
  rw [cst_of _ 129 6291456 (by decide) (by decide) (by decide) (by norm_num) (by norm_num)]; norm_num

/-! ## The two sides -/

/-- The random number the byte `r` stands for. -/
def uOf (r : EReal) : EReal := (r + cst 0x3F000000#32) * cst 0x3B800000#32

/-- Kernel: the field of the magnitude, at least that of one. -/
def kField (m : EReal) : BitVec 32 := IntOp.maxsi (field m) 1065353216#32
/-- Kernel: the number of grid spacings. -/
def kSteps (m u : EReal) : EReal := Ideal.liftRound Int.ceil (m * cst (IntOp.subi 2139095040#32 (kField m)) - u)
/-- Kernel: the grid point's number. -/
def kIdx (m u : EReal) : BitVec 32 :=
  IntOp.subi (IntOp.addi (Ideal.fptosi 32 (kSteps m u)) (IntOp.shrsi .vector (kField m) 22#32)) 254#32
/-- The four-bit code: eight more for a negative value, unless it rounds to zero. -/
def signed (s : EReal) (idx : BitVec 32) : BitVec 32 :=
  Scalar.select (IntOp.andi (Ideal.cmp .olt s (cst 0x00000000#32)) (IntOp.cmpi .sgt idx 0#32)) (IntOp.addi idx 8#32) idx

/-- Reference: the spacing of the grid at `m`. -/
def rStep (m : EReal) : EReal :=
  Scalar.select (Ideal.cmp .olt m (cst 0x40000000#32)) (cst 0x3F000000#32)
    (Scalar.select (Ideal.cmp .olt m (cst 0x40800000#32)) (cst 0x3F800000#32) (cst 0x40000000#32))
/-- Reference: the grid point below. -/
def rLow (m : EReal) : EReal := Ideal.liftRound Int.floor (Ideal.div m (rStep m)) * rStep m
/-- Reference: the grid point chosen. -/
def rGrid (m u : EReal) : EReal :=
  Scalar.select (Ideal.cmp .olt u (Ideal.div (m - rLow m) (rStep m))) (rLow m + rStep m) (rLow m)
/-- Reference: the number of a grid point. -/
def rNum (q : EReal) : EReal :=
  Scalar.select (Ideal.cmp .olt q (cst 0x40000000#32)) (cst 0x40000000#32 * q)
    (Scalar.select (Ideal.cmp .olt q (cst 0x40800000#32)) (q + cst 0x40000000#32)
      (Scalar.select (Ideal.cmp .olt q (cst 0x40C00000#32)) (cst 0x40C00000#32) (cst 0x40E00000#32)))
def rIdx (m u : EReal) : BitVec 32 := Ideal.fptosi 32 (rNum (rGrid m u))

/-! ## Small facts -/

theorem sel_lt {α : Type} (x y : ℝ) (a b : α) : Scalar.select (Ideal.cmp .olt (x : EReal) (y : EReal)) a b = if x < y then a else b := by
  by_cases h : x < y <;> simp [Scalar.select, Ideal.cmp, BitVec.ofBool, h]

theorem fptosi_nat (n : ℕ) (h : n < 2 ^ 31) : Ideal.fptosi 32 ((n : ℝ) : EReal) = BitVec.ofNat 32 n := by
  unfold Ideal.fptosi
  rw [Ideal.toIntClamped_coe]
  rw [if_pos (Nat.cast_nonneg n), Int.floor_natCast, min_eq_right (by omega), max_eq_right (by omega)]
  exact BitVec.ofInt_natCast 32 n

/-- The grid. -/
def mag (n : ℕ) : ℝ := match n with
  | 0 => 0 | 1 => 1 / 2 | 2 => 1 | 3 => 3 / 2 | 4 => 2 | 5 => 3 | 6 => 4 | _ => 6

/-- The spacing at `m` in steps of the field `e`. -/
theorem ceil_eq (z u : ℝ) (h0 : 0 < u) (h1 : u < 1) : ⌈z - u⌉ = if u < z - ⌊z⌋ then ⌊z⌋ + 1 else ⌊z⌋ := by
  have hf := Int.floor_le z
  have hl := Int.lt_floor_add_one z
  split_ifs with h
  · rw [Int.ceil_eq_iff]; push_cast; constructor <;> linarith
  · rw [Int.ceil_eq_iff]; push Not at h; constructor <;> linarith

/-- The kernel's field of a magnitude below six. -/
theorem kField_cases (m : ℝ) (h0 : 0 ≤ m) (h6 : m < 6) :
    (m < 2 ∧ kField m = word 127) ∨ (2 ≤ m ∧ m < 4 ∧ kField m = word 128) ∨ (4 ≤ m ∧ m < 6 ∧ kField m = word 129) := by
  obtain ⟨k, hk, hf, hl, hu⟩ := field_spec m h0
  unfold kField
  rw [hf]
  have hk129 : k ≤ 129 := by
    by_contra h
    have : (2 : ℝ) ^ ((3 : ℤ)) ≤ pw k := by
      unfold pw; rw [if_neg (by omega)]
      exact zpow_le_zpow_right₀ (by norm_num) (by omega)
    norm_num at this; linarith
  have hu := hu (by omega)
  have hmax : ∀ k ≤ 129, IntOp.maxsi (word k) 1065353216#32 = if k ≤ 127 then word 127 else word k := by
    unfold word; decide +kernel
  rw [hmax k hk129]
  by_cases h127 : k ≤ 127
  · left
    refine ⟨lt_of_lt_of_le hu ?_, by rw [if_pos h127]⟩
    unfold pw; rw [if_neg (by omega)]
    calc (2 : ℝ) ^ (((k + 1 : ℕ) : ℤ) - 127) ≤ 2 ^ (1 : ℤ) := zpow_le_zpow_right₀ (by norm_num) (by push_cast; omega)
      _ = 2 := by norm_num
  · rw [if_neg h127]
    right
    obtain rfl | rfl : k = 128 ∨ k = 129 := by omega
    · left; unfold pw at hl hu; norm_num at hl hu; exact ⟨hl, hu, rfl⟩
    · right; unfold pw at hl hu; norm_num at hl hu; exact ⟨hl, h6, rfl⟩

/-- The value both sides give, from the spacing `d`, its inverse `c` and the offset `o` of the grid's numbering. -/
theorem steps_eq (m u c : ℝ) (h0 : 0 < u) (h1 : u < 1) (e : ℕ) (he : kField m = word e) (he' : e = 127 ∨ e = 128 ∨ e = 129)
    (hc : c = 2 ^ (128 - (e : ℤ))) :
    kSteps m u = (((if u < m * c - ⌊m * c⌋ then ⌊m * c⌋ + 1 else ⌊m * c⌋ : ℤ) : ℝ) : EReal) := by
  unfold kSteps
  rw [he, show cst (IntOp.subi 2139095040#32 (word e)) = ((c : ℝ) : EReal) by
    obtain rfl | rfl | rfl := he'
    · rw [show IntOp.subi 2139095040#32 (word 127) = word 128 by unfold word; decide]; rw [hc]
      unfold cst; rw [ofBits_word _ (by norm_num)]; unfold pw; norm_num
    · rw [show IntOp.subi 2139095040#32 (word 128) = word 127 by unfold word; decide]; rw [hc]
      unfold cst; rw [ofBits_word _ (by norm_num)]; unfold pw; norm_num
    · rw [show IntOp.subi 2139095040#32 (word 129) = word 126 by unfold word; decide]; rw [hc]
      unfold cst; rw [ofBits_word _ (by norm_num)]; unfold pw; norm_num]
  rw [← EReal.coe_mul, ← EReal.coe_sub, Ideal.liftRound_coe, ceil_eq _ _ h0 h1]

theorem low_eq (m d : ℝ) (hd : 0 < d) (hs : rStep m = (d : EReal)) : rLow m = ((⌊m / d⌋ * d : ℝ) : EReal) := by
  unfold rLow
  rw [hs, Ideal.div_coe hd.ne', ← EReal.coe_mul, Ideal.liftRound_coe, ← EReal.coe_mul, mul_one_div]

theorem grid_eq (m u d : ℝ) (hd : 0 < d) (hs : rStep m = (d : EReal)) :
    rGrid m u = ((((if u < m / d - ⌊m / d⌋ then ⌊m / d⌋ + 1 else ⌊m / d⌋ : ℤ) : ℝ) * d : ℝ) : EReal) := by
  unfold rGrid
  rw [low_eq m d hd hs, hs, ← EReal.coe_sub, Ideal.div_coe hd.ne', ← EReal.coe_mul, ← EReal.coe_add, sel_lt]
  have e : (m - ⌊m / d⌋ * d) * (1 / d) = m / d - ⌊m / d⌋ := by field_simp
  rw [e]
  split_ifs
  · congr 1; push_cast; ring
  · rfl

theorem num_eq (q : ℝ) : rNum q = ((if q < 2 then 2 * q else if q < 4 then q + 2 else if q < 6 then 6 else 7 : ℝ) : EReal) := by
  unfold rNum
  rw [cst_two, cst_four, cst_six, cst_seven, sel_lt, sel_lt, sel_lt]
  rw [← EReal.coe_mul, ← EReal.coe_add]
  split_ifs <;> rfl

/-- Both sides number the same grid point. -/
theorem idx_eq (m u : ℝ) (h0 : 0 ≤ m) (h6 : m < 6) (hu0 : 0 < u) (hu1 : u < 1) :
    ∃ n < 8, ∃ (e : ℕ) (t : ℝ), 127 ≤ e ∧ e ≤ 129 ∧ kField m = word e ∧ kSteps m u = (t : EReal) ∧ t * 2 ^ ((e : ℤ) - 128) = mag n
      ∧ kIdx m u = BitVec.ofNat 32 n ∧ rIdx m u = BitVec.ofNat 32 n ∧ (m = 0 → n = 0) := by
  obtain ⟨h2, hk⟩ | ⟨h2, h4, hk⟩ | ⟨h4, -, hk⟩ := kField_cases m h0 h6
  · have hs : rStep m = ((1 / 2 : ℝ) : EReal) := by
      unfold rStep; rw [cst_two, cst_four, cst_half, sel_lt, if_pos h2]
    have hS := steps_eq m u 2 hu0 hu1 127 hk (Or.inl rfl) (by norm_num)
    have hG := grid_eq m u (1 / 2) (by norm_num) hs
    rw [show m / (1 / 2) = m * 2 by ring] at hG
    have hz : m = 0 → (if u < m * 2 - ⌊m * 2⌋ then ⌊m * 2⌋ + 1 else ⌊m * 2⌋) = 0 := by
      rintro rfl; norm_num; linarith
    have hfl : 0 ≤ ⌊m * 2⌋ := Int.floor_nonneg.mpr (by linarith)
    have hfu : ⌊m * 2⌋ < 4 := Int.floor_lt.mpr (by push_cast; linarith)
    generalize hT : (if u < m * 2 - ⌊m * 2⌋ then ⌊m * 2⌋ + 1 else ⌊m * 2⌋) = T at hS hG hz
    have hT0 : 0 ≤ T := by rw [← hT]; split_ifs <;> omega
    have hT4 : T ≤ 4 := by rw [← hT]; split_ifs <;> omega
    obtain ⟨n, rfl⟩ := Int.eq_ofNat_of_zero_le hT0
    have hn : n ≤ 4 := by omega
    simp only [Int.cast_natCast] at hS hG
    refine ⟨n, by omega, 127, n, by norm_num, by norm_num, hk, hS, ?_, ?_, ?_, fun h => by have := hz h; omega⟩
    · interval_cases n <;> norm_num [mag]
    · unfold kIdx; rw [hS, hk, fptosi_nat n (by omega)]
      interval_cases n <;> decide
    · unfold rIdx; rw [hG, num_eq, ← fptosi_nat n (by omega)]
      congr 2
      interval_cases n <;> norm_num
  · have hs : rStep m = ((1 : ℝ) : EReal) := by
      unfold rStep; rw [cst_two, cst_four, cst_one, sel_lt, sel_lt, if_neg (by linarith), if_pos h4]
    have hS := steps_eq m u 1 hu0 hu1 128 hk (Or.inr (Or.inl rfl)) (by norm_num)
    have hG := grid_eq m u 1 (by norm_num) hs
    rw [div_one] at hG
    rw [mul_one] at hS
    have hfl : 2 ≤ ⌊m⌋ := Int.le_floor.mpr (by push_cast; linarith)
    have hfu : ⌊m⌋ < 4 := Int.floor_lt.mpr (by push_cast; linarith)
    generalize hT : (if u < m - ⌊m⌋ then ⌊m⌋ + 1 else ⌊m⌋) = T at hS hG
    have hT0 : 2 ≤ T := by rw [← hT]; split_ifs <;> omega
    have hT4 : T ≤ 4 := by rw [← hT]; split_ifs <;> omega
    obtain ⟨n, rfl⟩ := Int.eq_ofNat_of_zero_le (show 0 ≤ T by omega)
    have hn : n ≤ 4 := by omega
    have hn2 : 2 ≤ n := by omega
    simp only [Int.cast_natCast] at hS hG
    refine ⟨n + 2, by omega, 128, n, by norm_num, by norm_num, hk, hS, ?_, ?_, ?_, fun h => by linarith⟩
    · interval_cases n <;> norm_num [mag]
    · unfold kIdx; rw [hS, hk, fptosi_nat n (by omega)]
      interval_cases n <;> decide
    · unfold rIdx; rw [hG, num_eq, ← fptosi_nat (n + 2) (by omega)]
      congr 2
      interval_cases n <;> norm_num
  · have hs : rStep m = ((2 : ℝ) : EReal) := by
      unfold rStep; rw [cst_two, cst_four, sel_lt, sel_lt, if_neg (by linarith), if_neg (by linarith)]
    have hS := steps_eq m u (1 / 2) hu0 hu1 129 hk (Or.inr (Or.inr rfl)) (by norm_num)
    have hG := grid_eq m u 2 (by norm_num) hs
    rw [mul_one_div] at hS
    have hfl : 2 ≤ ⌊m / 2⌋ := Int.le_floor.mpr (by push_cast; linarith)
    have hfu : ⌊m / 2⌋ < 3 := Int.floor_lt.mpr (by push_cast; linarith)
    generalize hT : (if u < m / 2 - ⌊m / 2⌋ then ⌊m / 2⌋ + 1 else ⌊m / 2⌋) = T at hS hG
    have hT0 : 2 ≤ T := by rw [← hT]; split_ifs <;> omega
    have hT4 : T ≤ 3 := by rw [← hT]; split_ifs <;> omega
    obtain ⟨n, rfl⟩ := Int.eq_ofNat_of_zero_le (show 0 ≤ T by omega)
    have hn : n ≤ 3 := by omega
    have hn2 : 2 ≤ n := by omega
    simp only [Int.cast_natCast] at hS hG
    refine ⟨n + 4, by omega, 129, n, by norm_num, by norm_num, hk, hS, ?_, ?_, ?_, fun h => by linarith⟩
    · interval_cases n <;> norm_num [mag]
    · unfold kIdx; rw [hS, hk, fptosi_nat n (by omega)]
      interval_cases n <;> decide
    · unfold rIdx; rw [hG, num_eq, ← fptosi_nat (n + 4) (by omega)]
      congr 2
      interval_cases n <;> norm_num

end Cert.Quant

end
-- ==== Proof.QuantBlock.lean ====
/-
  The shared exponent of a block, and one quantised element of it, on the two sides over the reals.

  A block whose largest magnitude is `a` gets the exponent `E` with `2 ^ (E + 2) ≤ a < 2 ^ (E + 3)` (zero for a block of
  zeros).  The kernel finds it in `a`'s exponent field, the reference by a logarithm.
-/
module

public import proofs.«01_k».proof.Proof.QuantScalar

@[expose] public section

noncomputable section

open Idealize.ShloMosaic

namespace Cert.Quant

/-! ## The kernel's side -/

/-- The constant by which the kernel's rotated values are smaller than the reference's. -/
abbrev vs : EReal := cst 0x3F3504F3#32
def kEb (a : EReal) : BitVec 32 := IntOp.maxsi (field a) 8388608#32
def kScale (a : EReal) : EReal := cst (IntOp.subi 2143289344#32 (kEb a)) * vs
def kExp (a : EReal) : BitVec 32 :=
  Scalar.select (IntOp.cmpi .eq (field a) 0#32) 0#32 (IntOp.subi (IntOp.shrsi .vector (kEb a) 23#32) 129#32)
def kOff (a : EReal) : BitVec 32 := IntOp.subi (IntOp.maxsi (kEb a) 25165824#32) 1090519040#32
def kVal (s m u a : EReal) : EReal :=
  kSteps m u * cst (IntOp.addi (kField m) (kOff a)) * Scalar.select (Ideal.cmp .olt s (cst 0x00000000#32)) (cst 0xBF800000#32) (cst 0x3F800000#32)

/-! ## The reference's side -/

def rExp (a : EReal) : EReal :=
  Scalar.select (Ideal.cmp .oeq a (cst 0x00000000#32)) (cst 0x00000000#32)
    (Ideal.liftRound Int.floor (Ideal.div (Ideal.log a) (Ideal.log (cst 0x40000000#32))) - cst 0x40000000#32)
def rScale (a : EReal) : EReal := cst 0x3F400000#32 * Ideal.pow (cst 0x40000000#32) (-rExp a)
def rBack (a : EReal) : EReal := Ideal.pow (cst 0x40000000#32) (rExp a)
/-- The magnitude a four-bit code stands for. -/
def rMag (n : BitVec 32) : EReal :=
  Scalar.select (IntOp.cmpi .eq (IntOp.andi (IntOp.shrsi .host n 2#32) 1#32) 1#32)
    (Scalar.select (IntOp.cmpi .eq (IntOp.andi (IntOp.shrsi .host n 1#32) 1#32) 1#32)
      (Scalar.select (IntOp.cmpi .eq (IntOp.andi n 1#32) 1#32) (cst 0x40C00000#32) (cst 0x40800000#32))
      (Scalar.select (IntOp.cmpi .eq (IntOp.andi n 1#32) 1#32) (cst 0x40400000#32) (cst 0x40000000#32)))
    (Scalar.select (IntOp.cmpi .eq (IntOp.andi (IntOp.shrsi .host n 1#32) 1#32) 1#32)
      (Scalar.select (IntOp.cmpi .eq (IntOp.andi n 1#32) 1#32) (cst 0x3FC00000#32) (cst 0x3F800000#32))
      (Scalar.select (IntOp.cmpi .eq (IntOp.andi n 1#32) 1#32) (cst 0x3F000000#32) (cst 0x00000000#32)))
/-- The number a four-bit code stands for. -/
def rDecode (n : BitVec 32) : EReal :=
  Scalar.select (IntOp.cmpi .eq (IntOp.andi (IntOp.shrsi .host n 3#32) 1#32) 1#32) (-rMag n) (rMag n)

/-! ## The block -/

theorem vs_pos : ∃ v : ℝ, 0 < v ∧ vs = (v : EReal) := by
  refine ⟨_, ?_, cst_of _ 126 3474675 (by decide) (by decide) (by decide) (by norm_num) (by norm_num)⟩
  positivity

theorem cst_neg_one : cst 0xBF800000#32 = ((-1 : ℝ) : EReal) := by
  unfold cst Ideal.ofBits Ideal.ieee
  dsimp only
  rw [show ((0xBF800000#32 : BitVec 32).extractLsb' 23 8).toNat = 127 from by decide,
    show ((0xBF800000#32 : BitVec 32).extractLsb' 0 23).toNat = 0 from by decide,
    show ((0xBF800000#32 : BitVec 32).extractLsb' 31 1 == 1#1) = true from by decide, if_neg (by norm_num), if_neg (by norm_num)]
  refine congrArg (fun t : ℝ => (t : EReal)) ?_
  norm_num

theorem field_zero : field ((0 : ℝ) : EReal) = word 0 := by
  obtain ⟨k, hk, hf, hl, -⟩ := field_spec 0 le_rfl
  rw [hf]
  by_cases h : k = 0
  · rw [h]
  · unfold pw at hl; rw [if_neg h] at hl
    exact absurd hl (not_le.mpr (by positivity))

theorem rExp_zero : rExp ((0 : ℝ) : EReal) = ((0 : ℝ) : EReal) := by
  unfold rExp; rw [cst_zero]; simp [Scalar.select, Ideal.cmp, BitVec.ofBool]

/-- The exponent of a block that is not all zeros. -/
theorem block (a : ℝ) (h0 : (2 : ℝ) ^ (-123 : ℤ) ≤ a) (h1 : a < 2 ^ (128 : ℤ)) :
    ∃ k : ℕ, 4 ≤ k ∧ k < 255 ∧ a < 2 ^ ((k : ℤ) - 126) ∧ kEb a = word k ∧ field a = word k
      ∧ rExp a = ((((k : ℤ) - 129 : ℤ) : ℝ) : EReal) := by
  have ha : 0 < a := lt_of_lt_of_le (by positivity) h0
  obtain ⟨k, hk, hf, hl, hu⟩ := field_spec a ha.le
  have hlt : a < 2 ^ ((k : ℤ) - 126) := by
    by_cases h : k = 254
    · rw [h]; norm_num at h1 ⊢; exact h1
    · have := hu (by omega)
      unfold pw at this; rw [if_neg (by omega)] at this
      rwa [show ((k + 1 : ℕ) : ℤ) - 127 = (k : ℤ) - 126 by push_cast; ring] at this
  have h4 : 4 ≤ k := by
    by_contra h
    have : a < 2 ^ (-123 : ℤ) := lt_of_lt_of_le hlt (zpow_le_zpow_right₀ (by norm_num) (by omega))
    linarith
  have hge : (2 : ℝ) ^ ((k : ℤ) - 127) ≤ a := by
    unfold pw at hl; rwa [if_neg (by omega)] at hl
  refine ⟨k, h4, hk, hlt, ?_, hf, ?_⟩
  · unfold kEb; rw [hf]
    have : ∀ k < 255, 4 ≤ k → IntOp.maxsi (word k) 8388608#32 = word k := by unfold word; decide +kernel
    exact this k hk h4
  · unfold rExp
    rw [cst_zero, cst_two, Ideal.log_coe, Ideal.log_coe, if_neg (not_le.mpr ha), if_neg (by norm_num)]
    have hl2 : 0 < Real.log 2 := Real.log_pos (by norm_num)
    rw [Ideal.div_coe hl2.ne', ← EReal.coe_mul, Ideal.liftRound_coe, ← EReal.coe_sub]
    have hfl : ⌊Real.log a * (1 / Real.log 2)⌋ = (k : ℤ) - 127 := by
      rw [mul_one_div, Int.floor_eq_iff]
      constructor
      · rw [le_div_iff₀ hl2, ← Real.log_zpow]
        exact Real.log_le_log (by positivity) hge
      · rw [div_lt_iff₀ hl2, show (((k : ℤ) - 127 : ℤ) : ℝ) + 1 = (((k : ℤ) - 126 : ℤ) : ℝ) by push_cast; ring, ← Real.log_zpow]
        exact Real.log_lt_log ha hlt
    rw [hfl]
    have : ¬ ((a : EReal) = ((0 : ℝ) : EReal)) := by rw [EReal.coe_eq_coe_iff]; exact ha.ne'
    simp only [Scalar.select, Ideal.cmp, this, decide_false]
    rw [if_neg (by decide)]
    congr 1; push_cast; ring

theorem pow_two (z : ℤ) : Ideal.pow (cst 0x40000000#32) ((z : ℝ) : EReal) = (((2 : ℝ) ^ z : ℝ) : EReal) := by
  rw [cst_two, Ideal.pow_coe_coe]
  congr 1
  exact Real.rpow_intCast 2 z

/-- The blocks' exponents agree. -/
theorem exp_eq (a : ℝ) (h : a = 0 ∨ (2 : ℝ) ^ (-123 : ℤ) ≤ a) (h1 : a < 2 ^ (128 : ℤ)) :
    kExp a = Ideal.fptosi 32 (rExp a) := by
  obtain rfl | h := h
  · rw [rExp_zero]; unfold kExp; rw [field_zero]
    have := fptosi_nat 0 (by norm_num)
    rw [Nat.cast_zero] at this
    rw [this]; unfold word; decide
  · obtain ⟨k, h4, hk, -, he, hf, hr⟩ := block a h h1
    rw [hr]; unfold kExp; rw [he, hf]
    unfold Ideal.fptosi
    rw [Ideal.toIntClamped_coe]
    have : (if (0 : ℝ) ≤ (((k : ℤ) - 129 : ℤ) : ℝ) then ⌊(((k : ℤ) - 129 : ℤ) : ℝ)⌋ else ⌈(((k : ℤ) - 129 : ℤ) : ℝ)⌉) = (k : ℤ) - 129 := by
      split_ifs
      · exact Int.floor_intCast _
      · exact Int.ceil_intCast _
    rw [this, min_eq_right (by omega), max_eq_right (by omega)]
    have : ∀ k < 255, 4 ≤ k → Scalar.select (IntOp.cmpi .eq (word k) 0#32) 0#32 (IntOp.subi (IntOp.shrsi .vector (word k) 23#32) 129#32)
        = BitVec.ofInt 32 ((k : ℤ) - 129) := by unfold word; decide +kernel
    exact this k hk h4

/-! ## An element -/

theorem decode (n : ℕ) (h : n < 8) : rDecode (BitVec.ofNat 32 n) = (mag n : EReal) ∧ rDecode (IntOp.addi (BitVec.ofNat 32 n) 8#32) = ((-mag n : ℝ) : EReal) := by
  unfold rDecode rMag
  rw [cst_six, cst_four, cst_three, cst_two, cst_three2, cst_one, cst_half, cst_zero]
  interval_cases n <;> exact ⟨rfl, rfl⟩

theorem sgt_zero : ∀ n < 8, IntOp.cmpi .sgt (BitVec.ofNat 32 n) 0#32 = if n = 0 then 0#1 else 1#1 := by decide

theorem signed_eq (s : ℝ) (n : ℕ) (hn : n < 8) :
    signed s (BitVec.ofNat 32 n) = if s < 0 ∧ n ≠ 0 then IntOp.addi (BitVec.ofNat 32 n) 8#32 else BitVec.ofNat 32 n := by
  unfold signed
  rw [cst_zero, sgt_zero n hn]
  by_cases hs : s < 0 <;> by_cases h : n = 0 <;> simp [Scalar.select, Ideal.cmp, BitVec.ofBool, IntOp.andi, hs, h]

/-- ONE ELEMENT.  `s` is the kernel's rotated value, `w = v · s` the reference's, `a` the largest magnitude of the
    reference's block: the codes agree, are less than sixteen, and the kernel's value is the code's number at the block's
    scale. -/
theorem element (s A v a u : ℝ) (hv0 : 0 < v) (hv : vs = (v : EReal)) (haA : a = A * v) (hs : |v * s| ≤ a)
    (h : a = 0 ∨ (2 : ℝ) ^ (-123 : ℤ) ≤ a) (h1 : a < 2 ^ (128 : ℤ)) (hu0 : 0 < u) (hu1 : u < 1) :
    ∃ n < 16, signed s (kIdx (((|s| : ℝ) : EReal) * kScale a) u) = BitVec.ofNat 32 n
      ∧ signed (((v * s : ℝ) : EReal) * rScale a) (rIdx (max (((v * s : ℝ) : EReal) * rScale a) (-(((v * s : ℝ) : EReal) * rScale a))) u) = BitVec.ofNat 32 n
      ∧ kVal s (((|s| : ℝ) : EReal) * kScale a) u a = rDecode (BitVec.ofNat 32 n) * rBack a := by
  obtain rfl | h := h
  · -- a block of zeros
    have hs0 : s = 0 := by
      have := abs_nonpos_iff.mp hs
      rcases mul_eq_zero.mp this with h | h
      · exact absurd h hv0.ne'
      · exact h
    subst hs0
    have hkm : ((|(0 : ℝ)| : ℝ) : EReal) * kScale ((0 : ℝ) : EReal) = ((0 : ℝ) : EReal) := by
      rw [abs_zero, EReal.coe_zero, zero_mul]
    have hy : (((v * 0 : ℝ) : EReal) * rScale ((0 : ℝ) : EReal)) = ((0 : ℝ) : EReal) := by
      rw [mul_zero, EReal.coe_zero, zero_mul]
    obtain ⟨n, hn, e, t, -, -, -, hS, ht, hK, hR, hz⟩ := idx_eq 0 u le_rfl (by norm_num) hu0 hu1
    obtain rfl := hz rfl
    refine ⟨0, by norm_num, ?_, ?_, ?_⟩
    · rw [hkm, hK, signed_eq _ _ hn]; simp
    · rw [hy, show max ((0 : ℝ) : EReal) (-((0 : ℝ) : EReal)) = ((0 : ℝ) : EReal) by simp, hR, signed_eq _ _ hn]; simp
    · have ht0 : t = 0 := by
        have : t * 2 ^ ((e : ℤ) - 128) = 0 := ht
        rcases mul_eq_zero.mp this with h | h
        · exact h
        · exact absurd h (by positivity)
      unfold kVal
      rw [hkm, hS, ht0, (decode 0 hn).1]
      simp [mag]
  · obtain ⟨k, h4, hk, hlt, he, hf, hr⟩ := block a h h1
    have hapos : 0 < a := lt_of_lt_of_le (by positivity) h
    -- the scales
    set σ : ℝ := 3 / 4 * 2 ^ (129 - (k : ℤ)) with hσ
    have hσ0 : 0 < σ := by positivity
    have hks : kScale a = ((σ * v : ℝ) : EReal) := by
      unfold kScale; rw [he, hv]
      rw [show cst (IntOp.subi 2143289344#32 (word k)) = ((σ : ℝ) : EReal) from ofBits_half k (by omega) hk, ← EReal.coe_mul]
    have hrs : rScale a = ((σ : ℝ) : EReal) := by
      unfold rScale
      rw [hr, ← EReal.coe_neg, show -((((k : ℤ) - 129 : ℤ) : ℝ)) = (((129 - (k : ℤ) : ℤ)) : ℝ) by push_cast; ring, pow_two, cst_three4, ← EReal.coe_mul]
    have hrb : rBack a = (((2 : ℝ) ^ ((k : ℤ) - 129) : ℝ) : EReal) := by unfold rBack; rw [hr, pow_two]
    have hkm : ((|s| : ℝ) : EReal) * kScale a = ((|v * s| * σ : ℝ) : EReal) := by
      rw [hks, ← EReal.coe_mul, abs_mul, abs_of_pos hv0]; congr 1; ring
    have hy : (((v * s : ℝ) : EReal) * rScale a) = ((v * s * σ : ℝ) : EReal) := by rw [hrs, ← EReal.coe_mul]
    have hym : max ((v * s * σ : ℝ) : EReal) (-((v * s * σ : ℝ) : EReal)) = ((|v * s| * σ : ℝ) : EReal) := by
      rw [← EReal.coe_neg, ← EReal.coe_strictMono.monotone.map_max]
      congr 1
      rw [← abs_eq_max_neg, abs_mul, abs_of_pos hσ0]
    have hm6 : |v * s| * σ < 6 := by
      calc |v * s| * σ ≤ a * σ := by gcongr
        _ < 2 ^ ((k : ℤ) - 126) * σ := by gcongr
        _ = 6 := by
          rw [hσ, mul_left_comm, ← zpow_add₀ (by norm_num), show ((k : ℤ) - 126) + (129 - (k : ℤ)) = 3 by ring]
          norm_num
    obtain ⟨n, hn, e, t, e0, e1, hF, hS, ht, hK, hR, hz⟩ := idx_eq (|v * s| * σ) u (by positivity) hm6 hu0 hu1
    have hsg : v * s * σ < 0 ↔ s < 0 := by
      rw [show v * s * σ = s * (v * σ) by ring]
      constructor
      · intro h'; by_contra hc; exact absurd h' (not_lt.mpr (mul_nonneg (not_lt.mp hc) (by positivity)))
      · intro h'; exact mul_neg_of_neg_of_pos h' (by positivity)
    have hw : cst (IntOp.addi (word e) (kOff a)) = (((2 : ℝ) ^ ((e : ℤ) - 128) * 2 ^ ((k : ℤ) - 129) : ℝ) : EReal) := by
      have hh : ∀ k < 255, 4 ≤ k → ∀ e < 130, 127 ≤ e → IntOp.addi (word e) (IntOp.subi (IntOp.maxsi (word k) 25165824#32) 1090519040#32) = word (e + k - 130) := by
        unfold word; decide +kernel
      unfold kOff
      rw [he, hh k hk h4 e (by omega) e0, ← zpow_add₀ (by norm_num)]
      unfold cst
      rw [ofBits_word _ (by omega)]
      unfold pw
      rw [if_neg (by omega), show ((e + k - 130 : ℕ) : ℤ) - 127 = (e : ℤ) - 128 + ((k : ℤ) - 129) by
        rw [Nat.cast_sub (by omega)]; push_cast; ring]
    rw [hkm, hy, hym, hK, hR, signed_eq s n hn, signed_eq (v * s * σ) n hn, hrb]
    unfold kVal
    rw [hS, hF, hw, cst_zero, cst_neg_one, cst_one, sel_lt, ← EReal.coe_mul]
    rw [show t * (2 ^ ((e : ℤ) - 128) * 2 ^ ((k : ℤ) - 129)) = mag n * (2 : ℝ) ^ ((k : ℤ) - 129) by rw [← ht]; ring]
    by_cases hsn : s < 0
    · by_cases hn0 : n = 0
      · subst hn0
        refine ⟨0, by norm_num, by simp, by simp, ?_⟩
        rw [(decode 0 hn).1]; simp [mag]
      · refine ⟨n + 8, by omega, ?_, ?_, ?_⟩
        · rw [if_pos ⟨hsn, hn0⟩]; interval_cases n <;> decide
        · rw [if_pos ⟨hsg.mpr hsn, hn0⟩]; interval_cases n <;> decide
        · rw [show BitVec.ofNat 32 (n + 8) = IntOp.addi (BitVec.ofNat 32 n) 8#32 by interval_cases n <;> decide, (decode n hn).2, if_pos hsn,
            ← EReal.coe_mul, ← EReal.coe_mul]
          congr 1; ring
    · refine ⟨n, by omega, by rw [if_neg (by tauto)], by rw [if_neg (by rw [hsg]; tauto)], ?_⟩
      rw [(decode n hn).1, if_neg hsn, ← EReal.coe_mul, ← EReal.coe_mul, mul_one]

end Cert.Quant

end
-- ==== Proof.WPay.lean ====
/-
  The arrays one trip of the quantiser's loop computes, read at an index as the scalar functions of QuantScalar and
  QuantBlock.
-/
module

public import proofs.«01_k».proof.Proof.Gen.WKernelIdeal.Skeleton
public import proofs.«01_k».proof.Proof.QuantBlock
public import Idealize.ShloMosaic.Lib.Pointwise

@[expose] public section

noncomputable section

open Idealize.ShloMosaic Idealize.ShloMosaic.TcCoe

namespace Cert.WKernelIdeal.Pay

open Cert.WKernelIdeal Cert.WKernelIdeal.Gen Cert.Quant

/-- One step of the search for the exponent field, on arrays. -/
def rungV {s : Shape} (x : FVec Ideal s .f32) (b e : IVec s 32) : IVec s 32 :=
  select (cmpf .oge x (bitcastToFloat .f32 (ori e b))) (ori e b) e

theorem rungV_apply {s : Shape} (x : FVec Ideal s .f32) (b e : IVec s 32) (i : s.Idx) : rungV x b e i = rung (x i) (b i) (e i) := rfl

abbrev bc (s : Shape) (k : BitVec 32) : IVec s 32 := broadcast s k

/-- The whole search, on arrays. -/
def fieldV {s : Shape} (x : FVec Ideal s .f32) : IVec s 32 :=
  rungV x (bc s 8388608#32) (rungV x (bc s 16777216#32) (rungV x (bc s 33554432#32) (rungV x (bc s 67108864#32) (rungV x (bc s 134217728#32)
    (rungV x (bc s 268435456#32) (rungV x (bc s 536870912#32) (rungV x (bc s 1073741824#32) (bc s 0#32))))))))

theorem fieldV_apply {s : Shape} (x : FVec Ideal s .f32) (i : s.Idx) : fieldV x i = field (x i) := by
  unfold fieldV field
  simp only [rungV_apply]
  rfl

/-! ## The operations at an index, over the reals -/

section At

variable {s : Shape} (i : s.Idx)

theorem select_at {α : Type} (c : IVec s 1) (a b : s.Idx → α) : select c a b i = Scalar.select (c i) (a i) (b i) := (Eq.refl _).trans (Eq.refl _)
theorem andi_at {w : Nat} (a b : IVec s w) : andi a b i = IntOp.andi (a i) (b i) := (Eq.refl _).trans (Eq.refl _)
theorem ori_at {w : Nat} (a b : IVec s w) : ori a b i = IntOp.ori (a i) (b i) := (Eq.refl _).trans (Eq.refl _)
theorem subi_at {w : Nat} (a b : IVec s w) : subi a b i = IntOp.subi (a i) (b i) := (Eq.refl _).trans (Eq.refl _)
theorem addi_at {w : Nat} (a b : IVec s w) : addi a b i = IntOp.addi (a i) (b i) := (Eq.refl _).trans (Eq.refl _)
theorem maxsi_at {w : Nat} (a b : IVec s w) : maxsi a b i = IntOp.maxsi (a i) (b i) := (Eq.refl _).trans (Eq.refl _)
theorem shrsi_at {w : Nat} (a b : IVec s w) : shrsi a b i = IntOp.shrsi .vector (a i) (b i) := (Eq.refl _).trans (Eq.refl _)
theorem shli_at {w : Nat} (a b : IVec s w) : shli a b i = IntOp.shli .vector (a i) (b i) := (Eq.refl _).trans (Eq.refl _)
theorem cmpi_at {w : Nat} (p : CmpIPredicate) (a b : IVec s w) : cmpi p a b i = IntOp.cmpi p (a i) (b i) := (Eq.refl _).trans (Eq.refl _)
theorem cmpf_at (p : CmpFPredicate) (a b : FVec Ideal s .f32) : cmpf p a b i = Ideal.cmp p (a i) (b i) := (Eq.refl _).trans (Eq.refl _)
theorem addf_at (a b : FVec Ideal s .f32) : addf a b i = ((a i + b i : EReal)) := (Eq.refl _).trans (Eq.refl _)
theorem subf_at (a b : FVec Ideal s .f32) : subf a b i = ((a i - b i : EReal)) := (Eq.refl _).trans (Eq.refl _)
theorem mulf_at (a b : FVec Ideal s .f32) : mulf a b i = ((a i * b i : EReal)) := (Eq.refl _).trans (Eq.refl _)
theorem absf_at (a : FVec Ideal s .f32) : absf a i = max (a i : EReal) (-(a i : EReal)) := (Eq.refl _).trans (Eq.refl _)
theorem maximumf_at (a b : FVec Ideal s .f32) : maximumf a b i = max (a i : EReal) (b i : EReal) := (Eq.refl _).trans (Eq.refl _)
theorem ceil_at (a : FVec Ideal s .f32) : ceil a i = Ideal.liftRound Int.ceil (a i) := (Eq.refl _).trans (Eq.refl _)
theorem fptosi_at (a : FVec Ideal s .f32) : fptosi 32 a i = Ideal.fptosi 32 (a i) := (Eq.refl _).trans (Eq.refl _)
theorem bits_at (a : IVec s 32) : (bitcastToFloat .f32 a : FVec Ideal s .f32) i = cst (a i) := (Eq.refl _).trans (Eq.refl _)
theorem bcast_at {α : Type} (a : α) : broadcast s a i = a := (Eq.refl _).trans (Eq.refl _)
theorem const_at (b : BitVec 32) : (constant s .f32 b : FVec Ideal s .f32) i = cst b := (Eq.refl _).trans (Eq.refl _)
theorem ofBits_at (b : BitVec 32) : (FloatOps.ofBits .f32 b : Ideal .f32) = cst b := (Eq.refl _).trans (Eq.refl _)

end At

variable (w : Vec Ideal S256x512 .bf16) (h : Vec Ideal S256x256 .bf16)

theorem pay17_eq : k0_pay17 (F := Ideal) (k0_pay14 w h) (k0_pay15 w h) k0_pay16 = fieldV (k0_pay14 (F := Ideal) w h) := by
  unfold k0_pay15 k0_pay16
  generalize k0_pay14 (F := Ideal) w h = x
  rfl

theorem pay36_eq (x : FVec Ideal S64x512 .f32) : k0_pay36 (F := Ideal) x 0#32 = maxsi (fieldV x) (bc _ 1065353216#32) := rfl

theorem pay30_eq (a : FVec Ideal S64x512 .f32) (s : FVec Ideal S8x1x512 .f32) :
    k0_pay30 (F := Ideal) (k0_pay26 a s) (k0_pay27 a s) (k0_pay28 a s) (k0_pay29 a s) = maxsi (fieldV (k0_pay26 (F := Ideal) a s)) (bc _ 1065353216#32) := by
  unfold k0_pay29 k0_pay28 k0_pay27
  generalize k0_pay26 (F := Ideal) a s = x
  rfl

theorem pay47_eq (a s : FVec Ideal S64x512 .f32) :
    k0_pay47 (F := Ideal) (k0_pay43 a s) (k0_pay44 a s) (k0_pay45 a s) (k0_pay46 a s) = maxsi (fieldV (k0_pay43 (F := Ideal) a s)) (bc _ 1065353216#32) := by
  unfold k0_pay46 k0_pay45 k0_pay44
  generalize k0_pay43 (F := Ideal) a s = x
  rfl

theorem pay58_eq (a s : FVec Ideal S64x512 .f32) :
    k0_pay58 (F := Ideal) (k0_pay54 a s) (k0_pay55 a s) (k0_pay56 a s) (k0_pay57 a s) = maxsi (fieldV (k0_pay54 (F := Ideal) a s)) (bc _ 1065353216#32) := by
  unfold k0_pay57 k0_pay56 k0_pay55
  generalize k0_pay54 (F := Ideal) a s = x
  rfl

/-! ## One element's code and value, for each of the four values of a word -/

/-- The value of an element: the number of spacings times the spacing, with the sign. -/
def valOf (s m u : EReal) (o : BitVec 32) : EReal :=
  kSteps m u * cst (IntOp.addi (kField m) o) * Scalar.select (Ideal.cmp .olt s (cst 0x00000000#32)) (cst 0xBF800000#32) (cst 0x3F800000#32)

theorem code0 (a : FVec Ideal S64x512 .f32) (s : FVec Ideal S8x1x512 .f32) (v R : FVec Ideal S64x512 .f32) (i : S64x512.Idx) :
    k0_pay33 (F := Ideal) v R (k0_pay26 a s) (k0_pay27 a s) (k0_pay28 a s) (k0_pay29 a s) i = signed (v i) (kIdx (k0_pay26 (F := Ideal) a s i) (uOf (R i))) := by
  unfold k0_pay33 k0_pay31
  rw [pay30_eq]
  generalize k0_pay26 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val0 (a : FVec Ideal S64x512 .f32) (s : FVec Ideal S8x1x512 .f32) (v R : FVec Ideal S64x512 .f32) (o : IVec S64x512 32) (i : S64x512.Idx) :
    k0_pay32 (F := Ideal) v o R (k0_pay26 a s) (k0_pay27 a s) (k0_pay28 a s) (k0_pay29 a s) i = valOf (v i) (k0_pay26 (F := Ideal) a s i) (uOf (R i)) (o i) := by
  unfold k0_pay32 k0_pay31
  rw [pay30_eq]
  generalize k0_pay26 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code1 (a s : FVec Ideal S64x512 .f32) (v R : FVec Ideal S64x512 .f32) (i : S64x512.Idx) :
    k0_pay41 (F := Ideal) v (k0_pay36 (k0_pay35 a s) 0#32) (k0_pay37 (k0_pay35 a s) 0#32) (k0_pay38 R) i = signed (v i) (kIdx (k0_pay35 (F := Ideal) a s i) (uOf (R i))) := by
  unfold k0_pay41 k0_pay39 k0_pay38 k0_pay37
  rw [pay36_eq]
  generalize k0_pay35 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val1 (a s : FVec Ideal S64x512 .f32) (v R : FVec Ideal S64x512 .f32) (o : IVec S64x512 32) (i : S64x512.Idx) :
    k0_pay40 (F := Ideal) v o (k0_pay36 (k0_pay35 a s) 0#32) (k0_pay37 (k0_pay35 a s) 0#32) (k0_pay38 R) i = valOf (v i) (k0_pay35 (F := Ideal) a s i) (uOf (R i)) (o i) := by
  unfold k0_pay40 k0_pay39 k0_pay38 k0_pay37
  rw [pay36_eq]
  generalize k0_pay35 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code2 (a s : FVec Ideal S64x512 .f32) (v R : FVec Ideal S64x512 .f32) (i : S64x512.Idx) :
    k0_pay52 (F := Ideal) v (k0_pay50 R (k0_pay43 a s) (k0_pay44 a s) (k0_pay45 a s) (k0_pay46 a s)) (k0_pay51 (k0_pay43 a s) (k0_pay44 a s) (k0_pay45 a s) (k0_pay46 a s)) i = signed (v i) (kIdx (k0_pay43 (F := Ideal) a s i) (uOf (R i))) := by
  unfold k0_pay52 k0_pay51 k0_pay50 k0_pay48
  rw [pay47_eq]
  generalize k0_pay43 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val2 (a s : FVec Ideal S64x512 .f32) (v R : FVec Ideal S64x512 .f32) (o : IVec S64x512 32) (i : S64x512.Idx) :
    k0_pay49 (F := Ideal) v o R (k0_pay43 a s) (k0_pay44 a s) (k0_pay45 a s) (k0_pay46 a s) i = valOf (v i) (k0_pay43 (F := Ideal) a s i) (uOf (R i)) (o i) := by
  unfold k0_pay49 k0_pay48
  rw [pay47_eq]
  generalize k0_pay43 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code3 (a s : FVec Ideal S64x512 .f32) (v R : FVec Ideal S64x512 .f32) (i : S64x512.Idx) :
    k0_pay61 (F := Ideal) v R (k0_pay54 a s) (k0_pay55 a s) (k0_pay56 a s) (k0_pay57 a s) i = signed (v i) (kIdx (k0_pay54 (F := Ideal) a s i) (uOf (R i))) := by
  unfold k0_pay61 k0_pay59
  rw [pay58_eq]
  generalize k0_pay54 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val3 (a s : FVec Ideal S64x512 .f32) (v R : FVec Ideal S64x512 .f32) (o : IVec S64x512 32) (i : S64x512.Idx) :
    k0_pay60 (F := Ideal) v o R (k0_pay54 a s) (k0_pay55 a s) (k0_pay56 a s) (k0_pay57 a s) i = valOf (v i) (k0_pay54 (F := Ideal) a s i) (uOf (R i)) (o i) := by
  unfold k0_pay60 k0_pay59
  rw [pay58_eq]
  generalize k0_pay54 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

end Cert.WKernelIdeal.Pay

end
-- ==== Proof.WLayout.lean ====
/-
  Where the arrays one trip of the quantiser's loop computes take their elements from: the product with the table, the
  block maximum, the per-block numbers spread over the block's rows, and the bytes of the random words.
-/
module

public import proofs.«01_k».proof.Proof.WPay
public import Idealize.ShloMosaic.Lib.Pipeline.Value
public import Idealize.ShloMosaic.Lib.BitcastFour

@[expose] public section

noncomputable section

open Idealize.ShloMosaic Idealize.ShloMosaic.TcCoe

namespace Cert.WKernelIdeal.Pay

open Cert.WKernelIdeal Cert.WKernelIdeal.Gen Cert.Quant

/-! ## The product with the table -/

/-- A row of the product of the table with the weights. -/
def prod (w : Vec Ideal S256x512 .bf16) (h : Vec Ideal S256x256 .bf16) (p : Fin 256) (l : Fin 512) : EReal :=
  ∑ k : Fin 256, h (ix2 p k) * w (ix2 k l)

theorem pay5_at (w : Vec Ideal S256x512 .bf16) (h : Vec Ideal S256x256 .bf16) (i : S256x512.Idx) : k0_pay5 w h i = prod w h (i 0) (i 1) := by
  unfold k0_pay5 prod
  simp only [pointwise, zero_add]

section Rows

variable (w : Vec Ideal S256x512 .bf16) (h : Vec Ideal S256x256 .bf16) (q : Fin 64) (l : Fin 512)

theorem pay6_at : k0_pay6 w h (ix2 q l) = prod w h ⟨0 + q.val, by omega⟩ l := by
  unfold k0_pay6
  refine (extractStridedSlice_apply _ _ _ (ix2 q l) (ix2 (⟨0 + q.val, by omega⟩ : Fin 256) l) ?_).trans (pay5_at w h _)
  intro a; fin_cases a
  · rfl
  · exact (Nat.zero_add _).symm

theorem pay7_at : k0_pay7 w h (ix2 q l) = prod w h ⟨64 + q.val, by omega⟩ l := by
  unfold k0_pay7
  refine (extractStridedSlice_apply _ _ _ (ix2 q l) (ix2 (⟨64 + q.val, by omega⟩ : Fin 256) l) ?_).trans (pay5_at w h _)
  intro a; fin_cases a
  · rfl
  · exact (Nat.zero_add _).symm

theorem pay8_at : k0_pay8 w h (ix2 q l) = prod w h ⟨128 + q.val, by omega⟩ l := by
  unfold k0_pay8
  refine (extractStridedSlice_apply _ _ _ (ix2 q l) (ix2 (⟨128 + q.val, by omega⟩ : Fin 256) l) ?_).trans (pay5_at w h _)
  intro a; fin_cases a
  · rfl
  · exact (Nat.zero_add _).symm

theorem pay9_at : k0_pay9 w h (ix2 q l) = prod w h ⟨192 + q.val, by omega⟩ l := by
  unfold k0_pay9
  refine (extractStridedSlice_apply _ _ _ (ix2 q l) (ix2 (⟨192 + q.val, by omega⟩ : Fin 256) l) ?_).trans (pay5_at w h _)
  intro a; fin_cases a
  · rfl
  · exact (Nat.zero_add _).symm

theorem pay10_at : k0_pay10 w h (ix2 q l) = max (prod w h ⟨0 + q.val, by omega⟩ l) (-prod w h ⟨0 + q.val, by omega⟩ l) := by
  unfold k0_pay10; rw [absf_at, pay6_at]
theorem pay11_at : k0_pay11 w h (ix2 q l) = max (prod w h ⟨64 + q.val, by omega⟩ l) (-prod w h ⟨64 + q.val, by omega⟩ l) := by
  unfold k0_pay11; rw [absf_at, pay7_at]
theorem pay12_at : k0_pay12 w h (ix2 q l) = max (prod w h ⟨128 + q.val, by omega⟩ l) (-prod w h ⟨128 + q.val, by omega⟩ l) := by
  unfold k0_pay12; rw [absf_at, pay8_at]
theorem pay13_at : k0_pay13 w h (ix2 q l) = max (prod w h ⟨192 + q.val, by omega⟩ l) (-prod w h ⟨192 + q.val, by omega⟩ l) := by
  unfold k0_pay13; rw [absf_at, pay9_at]

end Rows

/-- The magnitude of a row of the product. -/
def prodAbs (w : Vec Ideal S256x512 .bf16) (h : Vec Ideal S256x256 .bf16) (p : Fin 256) (l : Fin 512) : EReal :=
  max (prod w h p l) (-prod w h p l)

/-- The block maximum, before it is scaled. -/
def top (w : Vec Ideal S256x512 .bf16) (h : Vec Ideal S256x256 .bf16) (g : Fin 8) (l : Fin 512) : EReal :=
  (Finset.univ : Finset (Fin 8)).fold max (cst 0xFF800000#32) fun s =>
    max (max (prodAbs w h ⟨0 + (8 * g.val + s.val), by omega⟩ l) (prodAbs w h ⟨64 + (8 * g.val + s.val), by omega⟩ l))
      (max (prodAbs w h ⟨128 + (8 * g.val + s.val), by omega⟩ l) (prodAbs w h ⟨192 + (8 * g.val + s.val), by omega⟩ l))

theorem block_max (x : FVec Ideal S8x8x512 .f32) (hr : S8x8x512.Reduces [1] S8x512) (hf : FKind.Formats .f32)
    (hn : (0xFF800000#32 : BitVec 32) = FKind.maximumf.neutral .f32 hf) (g : Fin 8) (l : Fin 512) :
    multiReduction .maximumf [1] S8x512 x 0xFF800000#32 hr hf hn (ix2 g l)
      = (Finset.univ : Finset (Fin 8)).fold max (cst 0xFF800000#32) (fun s => x (ix3 g s l)) := by
  rw [multiReduction_maximumf_eq_fold, Shape.Reduces.fold_fiber_r3_a1]
  rfl

theorem pay14_at (w : Vec Ideal S256x512 .bf16) (h : Vec Ideal S256x256 .bf16) (g : Fin 8) (l : Fin 512) :
    k0_pay14 w h (ix3 g (0 : Fin 1) l) = top w h g l * vs := by
  unfold k0_pay14
  dsimp only
  rw [mulf_at]
  refine congrArg₂ (fun x y : EReal => x * y) ?_ rfl
  refine (shapeCast_apply _ _ (ix3 g (0 : Fin 1) l) (ix2 g l) (by
    rw [Shape.rowMajor_val_two, Shape.rowMajor_val_three]
    show g.val * 512 + l.val = (g.val * 1 + 0) * 512 + l.val
    omega)).trans ?_
  refine (block_max _ _ _ _ g l).trans ?_
  unfold top
  refine Finset.fold_congr fun s _ => ?_
  refine (shapeCast_apply _ _ _ (ix2 (⟨8 * g.val + s.val, by omega⟩ : Fin 64) l) (by
    rw [Shape.rowMajor_val_two, Shape.rowMajor_val_three]
    show (8 * g.val + s.val) * 512 + l.val = (g.val * 8 + s.val) * 512 + l.val
    omega)).trans ?_
  rw [maximumf_at, maximumf_at, maximumf_at, pay10_at, pay11_at, pay12_at, pay13_at]
  rfl

/-! ## Numbers of a block, spread over its rows -/

theorem spread {α : Type} (x : S8x1x512.Idx → α) (q : Fin 64) (l : Fin 512) :
    shapeCast S64x512 (broadcastTo S8x8x512 (shapeCast S8x1x512 x shapeCasts_S8x1x512_S8x1x512) broadcasts_S8x1x512_S8x8x512)
      shapeCasts_S8x8x512_S64x512 (ix2 q l) = x (ix3 (⟨q.val / 8, by omega⟩ : Fin 8) (0 : Fin 1) l) := by
  refine (shapeCast_apply _ _ (ix2 q l) (ix3 (⟨q.val / 8, by omega⟩ : Fin 8) (⟨q.val % 8, by omega⟩ : Fin 8) l) (by
    rw [Shape.rowMajor_val_two, Shape.rowMajor_val_three]
    show (q.val / 8 * 8 + q.val % 8) * 512 + l.val = q.val * 512 + l.val
    omega)).trans ?_
  refine (broadcastTo_apply _ _ _ (ix3 (⟨q.val / 8, by omega⟩ : Fin 8) (0 : Fin 1) l) ?_).trans ?_
  · intro a; fin_cases a <;> rfl
  · exact shapeCast_apply _ _ _ _ rfl

theorem pay22_at (x : FVec Ideal S8x1x512 .f32) (q : Fin 64) (l : Fin 512) :
    k0_pay22 x (ix2 q l) = x (ix3 (⟨q.val / 8, by omega⟩ : Fin 8) (0 : Fin 1) l) := by
  unfold k0_pay22; exact spread x q l

theorem pay23_at (x : IVec S8x1x512 32) (c : BitVec 32) (q : Fin 64) (l : Fin 512) :
    k0_pay23 x c (ix2 q l) = IntOp.subi (x (ix3 (⟨q.val / 8, by omega⟩ : Fin 8) (0 : Fin 1) l)) c := by
  unfold k0_pay23; exact spread (subi x (broadcast S8x1x512 c)) q l

/-- The exponent field of the scaled maximum, kept above the smallest normal one. -/
theorem pay18_at (w : Vec Ideal S256x512 .bf16) (h : Vec Ideal S256x256 .bf16) (i : S8x1x512.Idx) :
    k0_pay18 (k0_pay14 w h) (k0_pay15 w h) k0_pay16 i = kEb (k0_pay14 w h i) := by
  unfold k0_pay18
  rw [pay17_eq]
  generalize k0_pay14 w h = a
  rw [maxsi_at, fieldV_apply, bcast_at]
  unfold kEb
  with_reducible rfl

theorem pay19_at (w : Vec Ideal S256x512 .bf16) (h : Vec Ideal S256x256 .bf16) (i : S8x1x512.Idx) :
    k0_pay19 (k0_pay14 w h) (k0_pay15 w h) k0_pay16 i = kScale (k0_pay14 w h i) := by
  unfold k0_pay19
  rw [mulf_at, bits_at, subi_at, pay18_at, bcast_at, bcast_at, ofBits_at]
  generalize k0_pay14 w h = a
  unfold kScale vs
  with_reducible rfl

theorem pay21_at (w : Vec Ideal S256x512 .bf16) (h : Vec Ideal S256x256 .bf16) (i : S8x1x512.Idx) :
    k0_pay21 (k0_pay14 w h) (k0_pay15 w h) k0_pay16 i = IntOp.maxsi (kEb (k0_pay14 w h i)) 25165824#32 := by
  unfold k0_pay21
  rw [maxsi_at, pay18_at, bcast_at]

theorem pay20_at (w : Vec Ideal S256x512 .bf16) (h : Vec Ideal S256x256 .bf16) (i : S8x1x512.Idx) :
    k0_pay20 (k0_pay14 w h) (k0_pay15 w h) k0_pay16 i = kExp (k0_pay14 w h i) := by
  unfold k0_pay20
  rw [select_at, cmpi_at, subi_at, shrsi_at, pay18_at, pay17_eq]
  generalize k0_pay14 w h = a
  simp only [fieldV_apply, bcast_at]
  unfold kExp
  with_reducible rfl

/-! ## The random bytes -/

/-- A byte of a word, taken by a shift and a mask. -/
theorem word_byte (x : BitVec 32) (b : BitVec 8) (k : ℕ) (hk : k + 8 ≤ 32) (h : ∀ i < 8, x.getLsbD (k + i) = b.getLsbD i) :
    IntOp.andi (IntOp.shrsi .vector x (BitVec.ofNat 32 k)) 255#32 = b.setWidth 32 := by
  have hm : (BitVec.ofNat 32 k).toNat = k := by rw [BitVec.toNat_ofNat]; exact Nat.mod_eq_of_lt (by omega)
  have hs : IntOp.shrsi .vector x (BitVec.ofNat 32 k) = x.sshiftRight k := by
    unfold IntOp.shrsi; rw [if_pos (by rw [hm]; omega), BitVec.sshiftRight_eq', hm]
  rw [hs]
  apply BitVec.eq_of_getLsbD_eq
  intro i hi
  have h255 : (255#32 : BitVec 32).getLsbD i = decide (i < 8) := by
    interval_cases i <;> rfl
  simp only [IntOp.andi, BitVec.getLsbD_and, BitVec.getLsbD_setWidth, h255, BitVec.getLsbD_sshiftRight]
  by_cases h8 : i < 8
  · rw [if_pos (by omega), h i h8]; simp [h8, hi]
  · simp [h8, BitVec.getLsbD_of_ge b i (by omega)]

theorem sitofp_at {s : Shape} (i : s.Idx) (a : IVec s 32) : (sitofp .f32 a : FVec Ideal s .f32) i = (((a i).toInt : ℝ) : EReal) :=
  (Eq.refl _).trans (Eq.refl _)

/-- The number a random byte stands for. -/
def byteVal (b : BitVec 8) : EReal := (((b.setWidth 32).toInt : ℝ) : EReal)

section Bytes

variable (r : Vec Ideal S256x512 .i8) (q : Fin 64) (l : Fin 512)

theorem byte_at (k : ℕ) (j : ℕ) (hj : j < 4) (hk : k = 8 * j) :
    IntOp.andi (IntOp.shrsi .vector (k0_pay24 (F := Ideal) r (ix2 q l)) (BitVec.ofNat 32 k)) 255#32
      = (r (ix2 (⟨4 * q.val + j, by omega⟩ : Fin 256) l) : BitVec 8).setWidth 32 := by
  refine word_byte _ _ k (by omega) fun i hi => ?_
  unfold k0_pay24
  refine (bitcast_8_32_getLsbD_ix2 _ _ q l (k + i) (by omega) (⟨4 * q.val + j, by omega⟩ : Fin 256) ?_).trans ?_
  · show 4 * q.val + j = 4 * q.val + (k + i) / 8
    omega
  · rw [show (k + i) % 8 = i by omega]; rfl

theorem pay25_at : k0_pay25 (F := Ideal) r (ix2 q l) = byteVal (r (ix2 (⟨4 * q.val + 0, by omega⟩ : Fin 256) l)) := by
  unfold k0_pay25
  rw [sitofp_at, andi_at, shrsi_at, bcast_at, bcast_at]
  exact congrArg (fun b : BitVec 32 => (((b.toInt : ℝ)) : EReal)) (byte_at r q l 0 0 (by omega) rfl)

theorem pay34_at : k0_pay34 (F := Ideal) (k0_pay24 (F := Ideal) r) (ix2 q l) = byteVal (r (ix2 (⟨4 * q.val + 1, by omega⟩ : Fin 256) l)) := by
  unfold k0_pay34
  rw [sitofp_at, andi_at, shrsi_at, bcast_at, bcast_at]
  exact congrArg (fun b : BitVec 32 => (((b.toInt : ℝ)) : EReal)) (byte_at r q l 8 1 (by omega) rfl)

theorem pay42_at : k0_pay42 (F := Ideal) (k0_pay24 (F := Ideal) r) (ix2 q l) = byteVal (r (ix2 (⟨4 * q.val + 2, by omega⟩ : Fin 256) l)) := by
  unfold k0_pay42
  rw [sitofp_at, andi_at, shrsi_at, bcast_at, bcast_at]
  exact congrArg (fun b : BitVec 32 => (((b.toInt : ℝ)) : EReal)) (byte_at r q l 16 2 (by omega) rfl)

theorem pay53_at : k0_pay53 (F := Ideal) (k0_pay24 (F := Ideal) r) (ix2 q l) = byteVal (r (ix2 (⟨4 * q.val + 3, by omega⟩ : Fin 256) l)) := by
  unfold k0_pay53
  rw [sitofp_at, andi_at, shrsi_at, bcast_at, bcast_at]
  exact congrArg (fun b : BitVec 32 => (((b.toInt : ℝ)) : EReal)) (byte_at r q l 24 3 (by omega) rfl)

end Bytes

/-! ## Packing the codes -/

theorem shli_lit (u : ArithUnit) (x : BitVec 32) (k : ℕ) (hk : k < 32) : IntOp.shli u x (BitVec.ofNat 32 k) = x <<< k := by
  have hm : (BitVec.ofNat 32 k).toNat = k := by rw [BitVec.toNat_ofNat]; exact Nat.mod_eq_of_lt (by omega)
  unfold IntOp.shli; rw [if_pos (by rw [hm]; omega), BitVec.shiftLeft_eq', hm]

theorem nib_high (n : BitVec 32) (h : n.toNat < 16) (i : ℕ) (hi : 4 ≤ i) : n.getLsbD i = false := by
  rw [BitVec.getLsbD]
  exact Nat.testBit_lt_two_pow (lt_of_lt_of_le h (by calc 16 = 2 ^ 4 := rfl
    _ ≤ 2 ^ i := Nat.pow_le_pow_right (by omega) hi))

/-- The half word a row of codes is packed into. -/
def half (n0 n1 n2 n3 : BitVec 32) : BitVec 32 :=
  IntOp.ori (IntOp.ori (IntOp.ori n0 (IntOp.shli .vector n1 4#32)) (IntOp.shli .vector n2 8#32)) (IntOp.shli .vector n3 12#32)

/-- The byte of two codes. -/
def pair (n0 n1 : BitVec 32) : BitVec 8 := (IntOp.ori n0 (IntOp.shli .host n1 4#32)).setWidth 8

theorem half_lo (n0 n1 n2 n3 : BitVec 32) (i : ℕ) (hi : i < 8) : (half n0 n1 n2 n3).getLsbD i = (pair n0 n1).getLsbD i := by
  unfold half pair
  rw [shli_lit _ _ 4 (by omega), shli_lit _ _ 8 (by omega), shli_lit _ _ 12 (by omega), shli_lit _ _ 4 (by omega)]
  simp only [IntOp.ori, BitVec.getLsbD_or, BitVec.getLsbD_shiftLeft, BitVec.getLsbD_setWidth]
  simp [hi, show i < 32 by omega, show i < 12 by omega]

theorem half_hi (n0 n1 n2 n3 : BitVec 32) (h0 : n0.toNat < 16) (h1 : n1.toNat < 16) (i : ℕ) (hi : i < 8) :
    (half n0 n1 n2 n3).getLsbD (8 + i) = (pair n2 n3).getLsbD i := by
  unfold half pair
  rw [shli_lit _ _ 4 (by omega), shli_lit _ _ 8 (by omega), shli_lit _ _ 12 (by omega), shli_lit _ _ 4 (by omega)]
  simp only [IntOp.ori, BitVec.getLsbD_or, BitVec.getLsbD_shiftLeft, BitVec.getLsbD_setWidth, nib_high n0 h0 (8 + i) (by omega),
    nib_high n1 h1 (8 + i - 4) (by omega)]
  rw [show 8 + i - 8 = i by omega, show 8 + i - 12 = i - 4 by omega]
  have e : decide (8 + i < 12) = decide (i < 4) := by rw [decide_eq_decide]; omega
  rw [e]
  simp [hi, show i < 32 by omega, show 8 + i < 32 by omega]

theorem pay1_bit (n0 n1 n2 n3 : IVec S64x512 32) (R : Fin 128) (l : Fin 512) (i : ℕ) (hi : i < 8) :
    (k0_pay1 n0 n2 n3 (k0_pay62 n1) (ix2 R l)).getLsbD i
      = (half (n0 (ix2 (⟨R.val / 2, by omega⟩ : Fin 64) l)) (n1 (ix2 (⟨R.val / 2, by omega⟩ : Fin 64) l)) (n2 (ix2 (⟨R.val / 2, by omega⟩ : Fin 64) l))
          (n3 (ix2 (⟨R.val / 2, by omega⟩ : Fin 64) l))).getLsbD (8 * (R.val % 2) + i) := by
  unfold k0_pay1 k0_pay62
  dsimp only
  have hrow : S128x512.row (ix2 R l) = R.val := rfl
  refine (bitcast_getLsbD _ _ _ i hi (by decide)).trans ?_
  have e1 : ∀ p hp, Shape.Bitcasts.srcIdx bitcasts_S32x512_w32_S128x512_w8 (ix2 R l) p hp = ix2 (⟨p, hp 0 rfl⟩ : Fin 32) l := by
    intro p hp; funext a
    match a with
    | ⟨0, _⟩ => rfl
    | ⟨1, _⟩ => rfl
  rw [e1, bitcast_getLsbD _ _ _ _ (Nat.mod_lt _ (by decide)) (by decide)]
  have e2 : ∀ (P : Fin 32) p hp, Shape.Bitcasts.srcIdx bitcasts_S64x512_w16_S32x512_w32 (ix2 P l) p hp = ix2 (⟨p, hp 0 rfl⟩ : Fin 64) l := by
    intro P p hp; funext a
    match a with
    | ⟨0, _⟩ => rfl
    | ⟨1, _⟩ => rfl
  rw [e2]
  have hr2 : ∀ P : Fin 32, S32x512.row (ix2 P l) = P.val := fun _ => rfl
  simp only [hrow, hr2]
  have hR : ∀ (x y : ℕ) hx hy, x = y → (ix2 (⟨x, hx⟩ : Fin 64) l : S64x512.Idx) = ix2 (⟨y, hy⟩ : Fin 64) l := by
    intro x y hx hy e; subst e; rfl
  rw [hR _ (R.val / 2) _ (by omega) (by omega), show ((R.val * 8 + i) / 32 * 32 + (R.val * 8 + i) % 32) % 16 = 8 * (R.val % 2) + i by omega]
  show (BitVec.setWidth 16 _).getLsbD _ = _
  rw [BitVec.getLsbD_setWidth]
  simp only [show 8 * (R.val % 2) + i < 16 by omega, decide_true, Bool.true_and]
  rfl

theorem pay1_at (n0 n1 n2 n3 : IVec S64x512 32) (R : Fin 128) (l : Fin 512) (q : Fin 64) (hq : q.val = R.val / 2)
    (h0 : (n0 (ix2 q l)).toNat < 16) (h1 : (n1 (ix2 q l)).toNat < 16) :
    k0_pay1 n0 n2 n3 (k0_pay62 n1) (ix2 R l) = if R.val % 2 = 0 then pair (n0 (ix2 q l)) (n1 (ix2 q l)) else pair (n2 (ix2 q l)) (n3 (ix2 q l)) := by
  have eq : (⟨R.val / 2, by omega⟩ : Fin 64) = q := Fin.ext hq.symm
  apply BitVec.eq_of_getLsbD_eq
  intro i hi
  rw [pay1_bit _ _ _ _ _ _ _ hi, eq]
  by_cases hR : R.val % 2 = 0
  · rw [if_pos hR, hR, show 8 * 0 + i = i by omega]; exact half_lo _ _ _ _ i hi
  · rw [if_neg hR, show R.val % 2 = 1 by omega]; exact half_hi _ _ _ _ h0 h1 i hi

/-! ## The decoded values and the exponents -/

theorem pay3_at (x : IVec S8x1x512 32) (g : Fin 8) (l : Fin 512) : k0_pay3 x (ix2 g l) = x (ix3 g (0 : Fin 1) l) := by
  unfold k0_pay3
  refine (shapeCast_apply _ _ (ix2 g l) (ix2 g l) rfl).trans ?_
  exact shapeCast_apply _ _ (ix2 g l) (ix3 g (0 : Fin 1) l) (by
    rw [Shape.rowMajor_val_two, Shape.rowMajor_val_three]
    show (g.val * 1 + 0) * 512 + l.val = g.val * 512 + l.val
    omega)

section Vals

variable (x0 x1 x2 x3 : FVec Ideal S64x512 .f32) (q : Fin 64) (l : Fin 512)

theorem truncf_at {s : Shape} (i : s.Idx) (x : FVec Ideal s .f32) : (truncf .bf16 x bitsLt_bf16_f32 : FVec Ideal s .bf16) i = (x i : EReal) :=
  (Eq.refl _).trans (Eq.refl _)

theorem piece (k : ℕ) (hk : k < 4) (x : FVec Ideal S64x512 .f32)
    (hx : ([⟨S64x512, x0⟩, ⟨S64x512, x2⟩, ⟨S64x512, x1⟩, ⟨S64x512, x3⟩] : List ((s : Shape) × (s.Idx → EReal)))[k]'hk = ⟨S64x512, x⟩) :
    k0_pay2 x0 x1 x2 x3 (ix2 (⟨64 * k + q.val, by omega⟩ : Fin 256) l) = x (ix2 q l) := by
  unfold k0_pay2
  rw [truncf_at]
  refine concatenate_apply_piece (t := S256x512) 0 [⟨S64x512, x0⟩, ⟨S64x512, x2⟩, ⟨S64x512, x1⟩, ⟨S64x512, x3⟩] _ _ k hk S64x512 x hx rfl (64 * k) ?_ (ix2 q l) ?_ ?_
  · interval_cases k <;> rfl
  · intro b hb; fin_cases b
    · exact absurd rfl hb
    · rfl
  · rfl

end Vals

end Cert.WKernelIdeal.Pay

end
-- ==== Proof.WTile.lean ====
/-
  What one trip of the quantiser's loop stores, element by element, from its tile of the weights, of the table and of
  the random bytes.
-/
module

public import proofs.«01_k».proof.Proof.WLayout

@[expose] public section

noncomputable section

open Idealize.ShloMosaic Idealize.ShloMosaic.TcCoe

namespace Cert.WKernelIdeal.Pay

open Cert.WKernelIdeal Cert.WKernelIdeal.Gen Cert.Quant

variable (w : Vec Ideal S256x512 .bf16) (h : Vec Ideal S256x256 .bf16) (r : Vec Ideal S256x512 .i8)

/-- The scaled maximum of the block of a row. -/
def tileMax (q : Fin 64) (l : Fin 512) : EReal := top w h ⟨q.val / 8, by omega⟩ l * vs

/-- The random number of an element. -/
def tileU (p : Fin 256) (l : Fin 512) : EReal := uOf (byteVal (r (ix2 p l)))

/-- The scaled magnitude of an element. -/
def tileMag (j : Fin 4) (q : Fin 64) (l : Fin 512) : EReal :=
  prodAbs w h ⟨64 * j.val + q.val, by omega⟩ l * kScale (tileMax w h q l)

/-- The code of an element. -/
def tileCode (j : Fin 4) (q : Fin 64) (l : Fin 512) : BitVec 32 :=
  signed (prod w h ⟨64 * j.val + q.val, by omega⟩ l) (kIdx (tileMag w h j q l) (tileU r ⟨4 * q.val + j.val, by omega⟩ l))

/-- The decoded value of an element. -/
def tileVal (j : Fin 4) (q : Fin 64) (l : Fin 512) : EReal :=
  kVal (prod w h ⟨64 * j.val + q.val, by omega⟩ l) (tileMag w h j q l) (tileU r ⟨4 * q.val + j.val, by omega⟩ l) (tileMax w h q l)

/-! ## The words of a trip -/

abbrev wScale : FVec Ideal S8x1x512 .f32 := k0_pay19 (k0_pay14 w h) (k0_pay15 w h) k0_pay16
abbrev wSpread : FVec Ideal S64x512 .f32 := k0_pay22 (wScale w h)
abbrev wOff : IVec S64x512 32 := k0_pay23 (k0_pay21 (k0_pay14 w h) (k0_pay15 w h) k0_pay16) 1090519040#32

theorem wSpread_at (q : Fin 64) (l : Fin 512) : wSpread w h (ix2 q l) = kScale (tileMax w h q l) := by
  rw [wSpread, pay22_at, wScale, pay19_at, pay14_at]; rfl

theorem wOff_at (q : Fin 64) (l : Fin 512) : wOff w h (ix2 q l) = kOff (tileMax w h q l) := by
  rw [wOff, pay23_at, pay21_at, pay14_at]; rfl

theorem mag0 (q : Fin 64) (l : Fin 512) : k0_pay26 (k0_pay10 w h) (wScale w h) (ix2 q l) = tileMag w h 0 q l := by
  unfold k0_pay26; rw [mulf_at, pay10_at, show k0_pay22 (wScale w h) (ix2 q l) = _ from wSpread_at w h q l]; rfl
theorem mag1 (q : Fin 64) (l : Fin 512) : k0_pay35 (k0_pay11 w h) (wSpread w h) (ix2 q l) = tileMag w h 1 q l := by
  unfold k0_pay35; rw [mulf_at, pay11_at, wSpread_at]; rfl
theorem mag2 (q : Fin 64) (l : Fin 512) : k0_pay43 (k0_pay12 w h) (wSpread w h) (ix2 q l) = tileMag w h 2 q l := by
  unfold k0_pay43; rw [mulf_at, pay12_at, wSpread_at]; rfl
theorem mag3 (q : Fin 64) (l : Fin 512) : k0_pay54 (k0_pay13 w h) (wSpread w h) (ix2 q l) = tileMag w h 3 q l := by
  unfold k0_pay54; rw [mulf_at, pay13_at, wSpread_at]; rfl

theorem kVal_eq (s m u a : EReal) : valOf s m u (kOff a) = kVal s m u a := rfl

abbrev wCode0 : IVec S64x512 32 := k0_pay33 (k0_pay6 w h) (k0_pay25 r) (k0_pay26 (k0_pay10 w h) (wScale w h))
  (k0_pay27 (k0_pay10 w h) (wScale w h)) (k0_pay28 (k0_pay10 w h) (wScale w h)) (k0_pay29 (k0_pay10 w h) (wScale w h))
abbrev wVal0 : FVec Ideal S64x512 .f32 := k0_pay32 (k0_pay6 w h) (wOff w h) (k0_pay25 r) (k0_pay26 (k0_pay10 w h) (wScale w h))
  (k0_pay27 (k0_pay10 w h) (wScale w h)) (k0_pay28 (k0_pay10 w h) (wScale w h)) (k0_pay29 (k0_pay10 w h) (wScale w h))
abbrev wMag1 : FVec Ideal S64x512 .f32 := k0_pay35 (k0_pay11 w h) (wSpread w h)
abbrev wCode1 : IVec S64x512 32 := k0_pay41 (k0_pay7 w h) (k0_pay36 (wMag1 w h) 0#32) (k0_pay37 (wMag1 w h) 0#32) (k0_pay38 (k0_pay34 (k0_pay24 (F := Ideal) r)))
abbrev wVal1 : FVec Ideal S64x512 .f32 := k0_pay40 (k0_pay7 w h) (wOff w h) (k0_pay36 (wMag1 w h) 0#32) (k0_pay37 (wMag1 w h) 0#32)
  (k0_pay38 (k0_pay34 (k0_pay24 (F := Ideal) r)))
abbrev wCode2 : IVec S64x512 32 := k0_pay52 (k0_pay8 w h)
  (k0_pay50 (k0_pay42 (k0_pay24 (F := Ideal) r)) (k0_pay43 (k0_pay12 w h) (wSpread w h)) (k0_pay44 (k0_pay12 w h) (wSpread w h)) (k0_pay45 (k0_pay12 w h) (wSpread w h)) (k0_pay46 (k0_pay12 w h) (wSpread w h)))
  (k0_pay51 (k0_pay43 (k0_pay12 w h) (wSpread w h)) (k0_pay44 (k0_pay12 w h) (wSpread w h)) (k0_pay45 (k0_pay12 w h) (wSpread w h)) (k0_pay46 (k0_pay12 w h) (wSpread w h)))
abbrev wVal2 : FVec Ideal S64x512 .f32 := k0_pay49 (k0_pay8 w h) (wOff w h)
  (k0_pay42 (k0_pay24 (F := Ideal) r)) (k0_pay43 (k0_pay12 w h) (wSpread w h)) (k0_pay44 (k0_pay12 w h) (wSpread w h)) (k0_pay45 (k0_pay12 w h) (wSpread w h)) (k0_pay46 (k0_pay12 w h) (wSpread w h))
abbrev wCode3 : IVec S64x512 32 := k0_pay61 (k0_pay9 w h) (k0_pay53 (k0_pay24 (F := Ideal) r)) (k0_pay54 (k0_pay13 w h) (wSpread w h))
  (k0_pay55 (k0_pay13 w h) (wSpread w h)) (k0_pay56 (k0_pay13 w h) (wSpread w h)) (k0_pay57 (k0_pay13 w h) (wSpread w h))
abbrev wVal3 : FVec Ideal S64x512 .f32 := k0_pay60 (k0_pay9 w h) (wOff w h) (k0_pay53 (k0_pay24 (F := Ideal) r)) (k0_pay54 (k0_pay13 w h) (wSpread w h))
  (k0_pay55 (k0_pay13 w h) (wSpread w h)) (k0_pay56 (k0_pay13 w h) (wSpread w h)) (k0_pay57 (k0_pay13 w h) (wSpread w h))

theorem wCode0_at (q : Fin 64) (l : Fin 512) : wCode0 w h r (ix2 q l) = tileCode w h r 0 q l := by
  rw [wCode0, code0, mag0, pay6_at, pay25_at]; rfl
theorem wVal0_at (q : Fin 64) (l : Fin 512) : wVal0 w h r (ix2 q l) = tileVal w h r 0 q l := by
  rw [wVal0, val0, mag0, pay6_at, pay25_at, wOff_at, kVal_eq]; rfl
theorem wCode1_at (q : Fin 64) (l : Fin 512) : wCode1 w h r (ix2 q l) = tileCode w h r 1 q l := by
  rw [wCode1, code1, mag1, pay7_at, pay34_at]; rfl
theorem wVal1_at (q : Fin 64) (l : Fin 512) : wVal1 w h r (ix2 q l) = tileVal w h r 1 q l := by
  rw [wVal1, val1, mag1, pay7_at, pay34_at, wOff_at, kVal_eq]; rfl
theorem wCode2_at (q : Fin 64) (l : Fin 512) : wCode2 w h r (ix2 q l) = tileCode w h r 2 q l := by
  rw [wCode2, code2, mag2, pay8_at, pay42_at]; rfl
theorem wVal2_at (q : Fin 64) (l : Fin 512) : wVal2 w h r (ix2 q l) = tileVal w h r 2 q l := by
  rw [wVal2, val2, mag2, pay8_at, pay42_at, wOff_at, kVal_eq]; rfl
theorem wCode3_at (q : Fin 64) (l : Fin 512) : wCode3 w h r (ix2 q l) = tileCode w h r 3 q l := by
  rw [wCode3, code3, mag3, pay9_at, pay53_at]; rfl
theorem wVal3_at (q : Fin 64) (l : Fin 512) : wVal3 w h r (ix2 q l) = tileVal w h r 3 q l := by
  rw [wVal3, val3, mag3, pay9_at, pay53_at, wOff_at, kVal_eq]; rfl

/-! ## The three stores -/

/-- The packed codes a trip stores. -/
def storeCodes : IVec S128x512 8 := k0_pay1 (wCode0 w h r) (wCode2 w h r) (wCode3 w h r) (k0_pay62 (wCode1 w h r))
/-- The decoded values a trip stores. -/
def storeVals : FVec Ideal S256x512 .bf16 := k0_pay2 (wVal0 w h r) (wVal1 w h r) (wVal2 w h r) (wVal3 w h r)
/-- The exponents a trip stores. -/
def storeExp : IVec S8x512 32 := k0_pay3 (k0_pay20 (k0_pay14 w h) (k0_pay15 w h) k0_pay16)

theorem storeCodes_at (R : Fin 128) (l : Fin 512) (q : Fin 64) (hq : q.val = R.val / 2) (h0 : (tileCode w h r 0 q l).toNat < 16)
    (h1 : (tileCode w h r 1 q l).toNat < 16) :
    storeCodes w h r (ix2 R l) = if R.val % 2 = 0 then pair (tileCode w h r 0 q l) (tileCode w h r 1 q l)
      else pair (tileCode w h r 2 q l) (tileCode w h r 3 q l) := by
  unfold storeCodes
  rw [pay1_at _ _ _ _ R l q hq (by rw [wCode0_at]; exact h0) (by rw [wCode1_at]; exact h1), wCode0_at, wCode1_at, wCode2_at, wCode3_at]

theorem storeVals_at0 (q : Fin 64) (l : Fin 512) : storeVals w h r (ix2 (⟨64 * 0 + q.val, by omega⟩ : Fin 256) l) = tileVal w h r 0 q l := by
  unfold storeVals; rw [piece _ _ _ _ q l 0 (by omega) _ rfl, wVal0_at]
theorem storeVals_at1 (q : Fin 64) (l : Fin 512) : storeVals w h r (ix2 (⟨64 * 1 + q.val, by omega⟩ : Fin 256) l) = tileVal w h r 2 q l := by
  unfold storeVals; rw [piece _ _ _ _ q l 1 (by omega) _ rfl, wVal2_at]
theorem storeVals_at2 (q : Fin 64) (l : Fin 512) : storeVals w h r (ix2 (⟨64 * 2 + q.val, by omega⟩ : Fin 256) l) = tileVal w h r 1 q l := by
  unfold storeVals; rw [piece _ _ _ _ q l 2 (by omega) _ rfl, wVal1_at]
theorem storeVals_at3 (q : Fin 64) (l : Fin 512) : storeVals w h r (ix2 (⟨64 * 3 + q.val, by omega⟩ : Fin 256) l) = tileVal w h r 3 q l := by
  unfold storeVals; rw [piece _ _ _ _ q l 3 (by omega) _ rfl, wVal3_at]

/-- The decoded values: the rows come in the order 0, 2, 1, 3 of their place in a group of four. -/
theorem storeVals_at (p k : ℕ) (hp : p < 2) (hk : k < 2) (q : Fin 64) (l : Fin 512) :
    storeVals w h r (ix2 (⟨128 * p + 64 * k + q.val, by omega⟩ : Fin 256) l) = tileVal w h r ⟨2 * k + p, by omega⟩ q l := by
  interval_cases p <;> interval_cases k
  · exact storeVals_at0 w h r q l
  · exact storeVals_at1 w h r q l
  · exact storeVals_at2 w h r q l
  · exact storeVals_at3 w h r q l

theorem storeExp_at (g : Fin 8) (l : Fin 512) : storeExp w h (ix2 g l) = kExp (top w h g l * vs) := by
  unfold storeExp; rw [pay3_at, pay20_at, pay14_at]

end Cert.WKernelIdeal.Pay

end
-- ==== Proof.WBlock.lean ====
/-
  What the quantiser's loop leaves in its three arrays: every trip stores its tile of packed codes, decoded values and
  exponents, so an element is the one the trip of its tile stores.
-/
module

public import proofs.«01_k».proof.Proof.WTile
public import proofs.«01_k».proof.Proof.Gen.WKernelIdeal.Value
public import Idealize.ShloMosaic.Lib.Tactic
public import Idealize.ShloMosaic.Lib.Pipeline.ValueKit.Tiles

@[expose] public section

noncomputable section

open Idealize.ShloMosaic Idealize.ShloMosaic.TcCoe Idealize.SL.Sem

namespace Cert.WKernelIdeal.Pay

open Cert.WKernelIdeal Cert.WKernelIdeal.Gen Cert.Quant

/-! ## The tiles of a block -/

/-- Trip `k`'s tile of the weights or of the random bytes. -/
def tileOf {e : EltTy} (x : Vec Ideal S1024x512 e) (k : ℕ) (hk : k < 4) : Vec Ideal S256x512 e := fun j =>
  x (ix2 (⟨256 * k + (j 0).val, by have h : (j 0).val < 256 := (j 0).isLt; omega⟩ : Fin 1024) (⟨(j 1).val, (j 1).isLt⟩ : Fin 512))

/-- Trip `k`'s tile of the table. -/
def tabOf (x : Vec Ideal S1024x256 .bf16) (k : ℕ) (hk : k < 4) : Vec Ideal S256x256 .bf16 := fun j =>
  x (ix2 (⟨256 * k + (j 0).val, by have h : (j 0).val < 256 := (j 0).isLt; omega⟩ : Fin 1024) (⟨(j 1).val, (j 1).isLt⟩ : Fin 256))

theorem trips_eq : k0_t1_loop.trips = 4 := by decide +kernel
theorem trip_lt (k : Fin k0_t1_loop.trips) : k.val < 4 := lt_of_lt_of_eq k.isLt trips_eq
theorem off1 : ∀ k : Fin k0_t1_loop.trips, k0_off1 k = ![256 * k.val, 0] := by decide +kernel
theorem off2 : ∀ k : Fin k0_t1_loop.trips, k0_off2 k = ![256 * k.val, 0] := by decide +kernel
theorem off3 : ∀ k : Fin k0_t1_loop.trips, k0_off3 k = ![128 * k.val, 0] := by decide +kernel
theorem off4 : ∀ k : Fin k0_t1_loop.trips, k0_off4 k = ![8 * k.val, 0] := by decide +kernel

theorem ld_tile {e : EltTy} (x : Vec Ideal S1024x512 e) (k : Fin k0_t1_loop.trips) (inb : ∀ a, k0_off1 k a + S256x512.size a ≤ S1024x512.size a) :
    View.ld x (Rect.unit (k0_off1 k) S256x512.size inb) = tileOf x k.val (trip_lt k) := by
  funext j
  refine View.ld_unit_apply_of x _ _ _ _ _ ?_
  intro a
  refine Eq.trans ?_ (congrArg (fun n : ℕ => n + (j a).val) (congrFun (off1 k) a).symm)
  fin_cases a
  · rfl
  · exact (Nat.zero_add _).symm

theorem ld_tab (x : Vec Ideal S1024x256 .bf16) (k : Fin k0_t1_loop.trips) (inb : ∀ a, k0_off2 k a + S256x256.size a ≤ S1024x256.size a) :
    View.ld x (Rect.unit (k0_off2 k) S256x256.size inb) = tabOf x k.val (trip_lt k) := by
  funext j
  refine View.ld_unit_apply_of x _ _ _ _ _ ?_
  intro a
  refine Eq.trans ?_ (congrArg (fun n : ℕ => n + (j a).val) (congrFun (off2 k) a).symm)
  fin_cases a
  · rfl
  · exact (Nat.zero_add _).symm

/-! ## The stores of a trip -/

section Trip

variable (𝒱 : Variants) (c : Dev nD) (bd : Option 𝒱.V) (i : grid0.Coords) (arg2 : Memref sig .tc .vmem S1024x512 .bf16) (harg2 : arg2.IsWhole) (arg3 : Memref sig .tc .vmem S1024x512 .i8) (harg3 : arg3.IsWhole) (arg4 : Memref sig .tc .vmem S1024x256 .bf16) (harg4 : arg4.IsWhole)
  (arg5 : Memref sig .tc .vmem S512x512 .i8) (harg5 : arg5.IsWhole) (arg6 : Memref sig .tc .vmem S32x512 .i8) (harg6 : arg6.IsWhole) (arg7 : Memref sig .tc .vmem S1024x512 .bf16) (harg7 : arg7.IsWhole)
  (arg8 : Memref sig .tc .vmem S32x512 .i32) (harg8 : arg8.IsWhole)
  (X0 : BufTy.Contents (Elt Ideal) arg2.view.ty) (X1 : BufTy.Contents (Elt Ideal) arg3.view.ty) (X2 : BufTy.Contents (Elt Ideal) arg4.view.ty)

/-- The tiles a trip loads. -/
abbrev loadW (k : Fin k0_t1_loop.trips) : Vec Ideal S256x512 .bf16 :=
  View.readAt (Elt Ideal) arg2.view (Rect.unit (s := S1024x512) (k0_off1 k) S256x512.size (k0_off1_inb k)).toLoadRect X0
abbrev loadR (k : Fin k0_t1_loop.trips) : Vec Ideal S256x512 .i8 :=
  View.readAt (Elt Ideal) arg3.view (Rect.unit (s := S1024x512) (k0_off1 k) S256x512.size (k0_off1_inb k)).toLoadRect X1
abbrev loadH (k : Fin k0_t1_loop.trips) : Vec Ideal S256x256 .bf16 :=
  View.readAt (Elt Ideal) arg4.view (Rect.unit (s := S1024x256) (k0_off2 k) S256x256.size (k0_off2_inb k)).toLoadRect X2

theorem trip_codes (k : Fin k0_t1_loop.trips) :
    (tripL_k0_t1 (F := Ideal) 𝒱 c bd i arg2 harg2 arg3 harg3 arg4 harg4 arg5 harg5 arg6 harg6 arg7 harg7 arg8 harg8 X0 X1 X2 k).1
      = [⟨Rect.unit (k0_off3 k) S128x512.size (k0_off3_inb k), storeCodes (loadW arg2 X0 k) (loadH arg4 X2 k) (loadR arg3 X1 k)⟩] := by
  unfold tripL_k0_t1 trip_k0_t1
  dsimp only
  unfold storeCodes
  rfl

theorem trip_vals (k : Fin k0_t1_loop.trips) :
    (tripL_k0_t1 (F := Ideal) 𝒱 c bd i arg2 harg2 arg3 harg3 arg4 harg4 arg5 harg5 arg6 harg6 arg7 harg7 arg8 harg8 X0 X1 X2 k).2.1
      = [⟨Rect.unit (k0_off1 k) S256x512.size (k0_off1_inb k), storeVals (loadW arg2 X0 k) (loadH arg4 X2 k) (loadR arg3 X1 k)⟩] := by
  unfold tripL_k0_t1 trip_k0_t1
  dsimp only
  unfold storeVals
  rfl

theorem trip_exp (k : Fin k0_t1_loop.trips) :
    (tripL_k0_t1 (F := Ideal) 𝒱 c bd i arg2 harg2 arg3 harg3 arg4 harg4 arg5 harg5 arg6 harg6 arg7 harg7 arg8 harg8 X0 X1 X2 k).2.2
      = [⟨Rect.unit (k0_off4 k) S8x512.size (k0_off4_inb k), storeExp (loadW arg2 X0 k) (loadH arg4 X2 k)⟩] := by
  unfold tripL_k0_t1 trip_k0_t1
  dsimp only
  unfold storeExp
  rfl

/-! ## The stores of the trips together -/

theorem pb_codes (n : ℕ) (p : View.Piece (Elt Ideal) S512x512 .i8) (hp : p ∈ (pb_k0_t1 (F := Ideal) 𝒱 c bd i arg2 harg2 arg3 harg3 arg4 harg4 arg5 harg5 arg6 harg6 arg7 harg7 arg8 harg8 X0 X1 X2 n).1) :
    ∃ k : Fin k0_t1_loop.trips, p = ⟨Rect.unit (k0_off3 k) S128x512.size (k0_off3_inb k), storeCodes (loadW arg2 X0 k) (loadH arg4 X2 k) (loadR arg3 X1 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_codes] at hp
      rcases List.mem_cons.mp hp with rfl | hp
      · exact ⟨⟨n, h⟩, rfl⟩
      · exact ih hp
    · exact ih hp

theorem pb_vals (n : ℕ) (p : View.Piece (Elt Ideal) S1024x512 .bf16) (hp : p ∈ (pb_k0_t1 (F := Ideal) 𝒱 c bd i arg2 harg2 arg3 harg3 arg4 harg4 arg5 harg5 arg6 harg6 arg7 harg7 arg8 harg8 X0 X1 X2 n).2.1) :
    ∃ k : Fin k0_t1_loop.trips, p = ⟨Rect.unit (k0_off1 k) S256x512.size (k0_off1_inb k), storeVals (loadW arg2 X0 k) (loadH arg4 X2 k) (loadR arg3 X1 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_vals] at hp
      rcases List.mem_cons.mp hp with rfl | hp
      · exact ⟨⟨n, h⟩, rfl⟩
      · exact ih hp
    · exact ih hp

theorem pb_exp (n : ℕ) (p : View.Piece (Elt Ideal) S32x512 .i32) (hp : p ∈ (pb_k0_t1 (F := Ideal) 𝒱 c bd i arg2 harg2 arg3 harg3 arg4 harg4 arg5 harg5 arg6 harg6 arg7 harg7 arg8 harg8 X0 X1 X2 n).2.2) :
    ∃ k : Fin k0_t1_loop.trips, p = ⟨Rect.unit (k0_off4 k) S8x512.size (k0_off4_inb k), storeExp (loadW arg2 X0 k) (loadH arg4 X2 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_exp] at hp
      rcases List.mem_cons.mp hp with rfl | hp
      · exact ⟨⟨n, h⟩, rfl⟩
      · exact ih hp
    · exact ih hp

end Trip

/-! ## The three blocks of a grid point -/

section Block

variable (c : Dev nD) (i : grid0.Coords) (arg2 : Memref sig .tc .vmem S1024x512 .bf16) (harg2 : arg2.IsWhole) (arg3 : Memref sig .tc .vmem S1024x512 .i8) (harg3 : arg3.IsWhole) (arg4 : Memref sig .tc .vmem S1024x256 .bf16) (harg4 : arg4.IsWhole)
  (arg5 : Memref sig .tc .vmem S512x512 .i8) (harg5 : arg5.IsWhole) (arg6 : Memref sig .tc .vmem S32x512 .i8) (harg6 : arg6.IsWhole) (arg7 : Memref sig .tc .vmem S1024x512 .bf16) (harg7 : arg7.IsWhole)
  (arg8 : Memref sig .tc .vmem S32x512 .i32) (harg8 : arg8.IsWhole)
  (x0 : Vec Ideal S1024x512 .bf16) (x1 : Vec Ideal S1024x512 .i8) (x2 : Vec Ideal S1024x256 .bf16)

/-- The codes of a point's block. -/
def blockCodes (y : S512x512.Idx) : BitVec 8 :=
  storeCodes (tileOf x0 ((y 0).val / 128) (by have h : (y 0).val < 512 := (y 0).isLt; omega)) (tabOf x2 ((y 0).val / 128) (by have h : (y 0).val < 512 := (y 0).isLt; omega))
    (tileOf x1 ((y 0).val / 128) (by have h : (y 0).val < 512 := (y 0).isLt; omega)) (ix2 (⟨(y 0).val % 128, Nat.mod_lt _ (by decide)⟩ : Fin 128) (y 1))

theorem read0 (k : Fin k0_t1_loop.trips) : loadW arg2 (harg2.unread x0) k = tileOf x0 k.val (trip_lt k) := by
  unfold loadW; rw [View.readAt_eq_ld, harg2.read_unread, ld_tile]
theorem read1 (k : Fin k0_t1_loop.trips) : loadR arg3 (harg3.unread x1) k = tileOf x1 k.val (trip_lt k) := by
  unfold loadR; rw [View.readAt_eq_ld, harg3.read_unread, ld_tile]
theorem read2 (k : Fin k0_t1_loop.trips) : loadH arg4 (harg4.unread x2) k = tabOf x2 k.val (trip_lt k) := by
  unfold loadH; rw [View.readAt_eq_ld, harg4.read_unread, ld_tab]

/-- The decoded values of a point's block. -/
def blockVals (y : S1024x512.Idx) : EReal :=
  storeVals (tileOf x0 ((y 0).val / 256) (by have h : (y 0).val < 1024 := (y 0).isLt; omega)) (tabOf x2 ((y 0).val / 256) (by have h : (y 0).val < 1024 := (y 0).isLt; omega))
    (tileOf x1 ((y 0).val / 256) (by have h : (y 0).val < 1024 := (y 0).isLt; omega)) (ix2 (⟨(y 0).val % 256, Nat.mod_lt _ (by decide)⟩ : Fin 256) (y 1))

/-- The exponents of a point's block. -/
def blockExp (y : S32x512.Idx) : BitVec 32 :=
  storeExp (tileOf x0 ((y 0).val / 8) (by have h : (y 0).val < 32 := (y 0).isLt; omega)) (tabOf x2 ((y 0).val / 8) (by have h : (y 0).val < 32 := (y 0).isLt; omega))
    (ix2 (⟨(y 0).val % 8, Nat.mod_lt _ (by decide)⟩ : Fin 8) (y 1))

theorem blockCodes_at (k : ℕ) (hk : k < 4) (R : Fin 128) (l : Fin 512) (y : S512x512.Idx) (h0 : (y 0).val = 128 * k + R.val) (h1 : (y 1).val = l.val) :
    blockCodes x0 x1 x2 y = storeCodes (tileOf x0 k hk) (tabOf x2 k hk) (tileOf x1 k hk) (ix2 R l) := by
  have hR := R.isLt
  obtain rfl : k = (y 0).val / 128 := by omega
  have e0 : (⟨(y 0).val % 128, Nat.mod_lt _ (by decide)⟩ : Fin 128) = R := Fin.ext (by show (y 0).val % 128 = R.val; omega)
  have e1 : y 1 = l := Fin.ext h1
  unfold blockCodes
  rw [e0]
  exact congrArg (fun l : Fin 512 => storeCodes (tileOf x0 ((y 0).val / 128) hk) (tabOf x2 ((y 0).val / 128) hk) (tileOf x1 ((y 0).val / 128) hk) (ix2 R l)) e1

theorem blockVals_at (k : ℕ) (hk : k < 4) (R : Fin 256) (l : Fin 512) (y : S1024x512.Idx) (h0 : (y 0).val = 256 * k + R.val) (h1 : (y 1).val = l.val) :
    blockVals x0 x1 x2 y = storeVals (tileOf x0 k hk) (tabOf x2 k hk) (tileOf x1 k hk) (ix2 R l) := by
  have hR := R.isLt
  obtain rfl : k = (y 0).val / 256 := by omega
  have e0 : (⟨(y 0).val % 256, Nat.mod_lt _ (by decide)⟩ : Fin 256) = R := Fin.ext (by show (y 0).val % 256 = R.val; omega)
  have e1 : y 1 = l := Fin.ext h1
  unfold blockVals
  rw [e0]
  exact congrArg (fun l : Fin 512 => storeVals (tileOf x0 ((y 0).val / 256) hk) (tabOf x2 ((y 0).val / 256) hk) (tileOf x1 ((y 0).val / 256) hk) (ix2 R l)) e1

theorem blockExp_at (k : ℕ) (hk : k < 4) (R : Fin 8) (l : Fin 512) (y : S32x512.Idx) (h0 : (y 0).val = 8 * k + R.val) (h1 : (y 1).val = l.val) :
    blockExp x0 x2 y = storeExp (tileOf x0 k hk) (tabOf x2 k hk) (ix2 R l) := by
  have hR := R.isLt
  obtain rfl : k = (y 0).val / 8 := by omega
  have e0 : (⟨(y 0).val % 8, Nat.mod_lt _ (by decide)⟩ : Fin 8) = R := Fin.ext (by show (y 0).val % 8 = R.val; omega)
  have e1 : y 1 = l := Fin.ext h1
  unfold blockExp
  rw [e0]
  exact congrArg (fun l : Fin 512 => storeExp (tileOf x0 ((y 0).val / 8) hk) (tabOf x2 ((y 0).val / 8) hk) (ix2 R l)) e1

theorem out_codes : out0_A_3 c i arg2 harg2 arg3 harg3 arg4 harg4 arg5 harg5 arg6 harg6 arg7 harg7 arg8 harg8 x0 x1 x2 = blockCodes x0 x1 x2 := by
  funext y
  unfold out0_A_3
  rw [View.read_writes_eq_canon _ _ _ (cover0_A_3 c i arg2 harg2 arg3 harg3 arg4 harg4 arg5 harg5 arg6 harg6 arg7 harg7 arg8 harg8 x0 x1 x2)]
  refine View.canon_apply_of_pieces _ _ ?_ y (cover0_A_3 c i arg2 harg2 arg3 harg3 arg4 harg4 arg5 harg5 arg6 harg6 arg7 harg7 arg8 harg8 x0 x1 x2 y)
  intro p hp
  unfold kernelRun0_A at hp
  dsimp only at hp
  obtain ⟨k, rfl⟩ := pb_codes _ _ _ _ _ _ _ _ _ _ _ _ _ _ _ _ _ _ _ _ _ _ _ hp
  intro x
  rw [read0, read1, read2]
  refine Eq.trans ?_ (blockCodes_at x0 x1 x2 k.val (trip_lt k) (x 0) (x 1) _ ?_ ?_).symm
  · exact congrArg _ (eq_ix2 x)
  · show k0_off3 k 0 + 1 * (x 0).val = _; rw [congrFun (off3 k) 0]; show 128 * k.val + 1 * (x 0).val = _; omega
  · show k0_off3 k 1 + 1 * (x 1).val = _; rw [congrFun (off3 k) 1]; show 0 + 1 * (x 1).val = _; omega

theorem out_vals : out0_A_5 c i arg2 harg2 arg3 harg3 arg4 harg4 arg5 harg5 arg6 harg6 arg7 harg7 arg8 harg8 x0 x1 x2 = blockVals x0 x1 x2 := by
  funext y
  unfold out0_A_5
  rw [View.read_writes_eq_canon _ _ _ (cover0_A_5 c i arg2 harg2 arg3 harg3 arg4 harg4 arg5 harg5 arg6 harg6 arg7 harg7 arg8 harg8 x0 x1 x2)]
  refine View.canon_apply_of_pieces _ _ ?_ y (cover0_A_5 c i arg2 harg2 arg3 harg3 arg4 harg4 arg5 harg5 arg6 harg6 arg7 harg7 arg8 harg8 x0 x1 x2 y)
  intro p hp
  unfold kernelRun0_A at hp
  dsimp only at hp
  obtain ⟨k, rfl⟩ := pb_vals _ _ _ _ _ _ _ _ _ _ _ _ _ _ _ _ _ _ _ _ _ _ _ hp
  intro x
  rw [read0, read1, read2]
  refine Eq.trans ?_ (blockVals_at x0 x1 x2 k.val (trip_lt k) (x 0) (x 1) _ ?_ ?_).symm
  · exact congrArg _ (eq_ix2 x)
  · show k0_off1 k 0 + 1 * (x 0).val = _; rw [congrFun (off1 k) 0]; show 256 * k.val + 1 * (x 0).val = _; omega
  · show k0_off1 k 1 + 1 * (x 1).val = _; rw [congrFun (off1 k) 1]; show 0 + 1 * (x 1).val = _; omega

theorem scratch (B : LoadRect S32x512) (j : B.shape.Idx) (n : ℕ)
    (h : ∀ y, ∃ p ∈ (pb_k0_t1 (F := Ideal) Variants.none c none i arg2 harg2 arg3 harg3 arg4 harg4 arg5 harg5 arg6 harg6 arg7 harg7 arg8 harg8 (harg2.unread x0) (harg3.unread x1) (harg4.unread x2) n).2.2, y ∈ p.1.set) :
    arg8.view.readCov (pb_k0_t1 (F := Ideal) Variants.none c none i arg2 harg2 arg3 harg3 arg4 harg4 arg5 harg5 arg6 harg6 arg7 harg7 arg8 harg8 (harg2.unread x0) (harg3.unread x1) (harg4.unread x2) n).2.2 B j
      = blockExp x0 x2 (B.idx j) := by
  rw [View.readCov_eq_canon _ _ _ fun j => h _]
  refine View.canon_apply_of_pieces _ _ ?_ (B.idx j) (h _)
  intro p hp
  obtain ⟨k, rfl⟩ := pb_exp _ _ _ _ _ _ _ _ _ _ _ _ _ _ _ _ _ _ _ _ _ _ _ hp
  intro x
  rw [read0, read2]
  refine Eq.trans ?_ (blockExp_at x0 x2 k.val (trip_lt k) (x 0) (x 1) _ ?_ ?_).symm
  · exact congrArg _ (eq_ix2 x)
  · show k0_off4 k 0 + 1 * (x 0).val = _; rw [congrFun (off4 k) 0]; show 8 * k.val + 1 * (x 0).val = _; omega
  · show k0_off4 k 1 + 1 * (x 1).val = _; rw [congrFun (off4 k) 1]; show 0 + 1 * (x 1).val = _; omega

theorem out_exp (y : S32x512.Idx) : out0_A_4 c i arg2 harg2 arg3 harg3 arg4 harg4 arg5 harg5 arg6 harg6 arg7 harg7 arg8 harg8 x0 x1 x2 y = (blockExp x0 x2 y).setWidth 8 := by
  unfold out0_A_4
  rw [View.read_writes_eq_canon _ _ _ (cover0_A_4 c i arg2 harg2 arg3 harg3 arg4 harg4 arg5 harg5 arg6 harg6 arg7 harg7 arg8 harg8 x0 x1 x2)]
  unfold kernelRun0_A
  dsimp only
  refine (congrFun (View.canon_unit_zero (S := S32x512) (funext fun a => by fin_cases a <;> rfl) _ _) y).trans ?_
  refine congrArg (BitVec.setWidth 8) ((scratch c i arg2 harg2 arg3 harg3 arg4 harg4 arg5 harg5 arg6 harg6 arg7 harg7 arg8 harg8 x0 x1 x2
    (Rect.unit (s := S32x512) ![0, 0] ![32, 512] inb_S32x512_S32x512_0_0).toLoadRect y _
    (fun y => View.cover_of_tiledL (pb_k0_t1 (F := Ideal) Variants.none c none i arg2 harg2 arg3 harg3 arg4 harg4 arg5 harg5 arg6 harg6 arg7 harg7 arg8 harg8
      (harg2.unread x0) (harg3.unread x1) (harg4.unread x2) (Scf.trips 0#32 (Scalar.addi 0#32 4#32) 1#32)).2.2 S8x512.size (by sl_kernel_rfl) y)).trans ?_)
  refine congrArg (blockExp x0 x2) (funext fun a => Fin.ext ?_)
  fin_cases a
  · show 0 + 1 * (y 0).val = (y 0).val; omega
  · show 0 + 1 * (y 1).val = (y 1).val; omega

end Block

end Cert.WKernelIdeal.Pay

end
-- ==== Proof.QuantRef.lean ====
/-
  The reference's results for the quantiser of W, read at an index as the scalar functions of QuantScalar and QuantBlock.
-/
module

public import proofs.«01_k».proof.Proof.Gen.WReferenceIdeal.Read
public import proofs.«01_k».proof.Proof.QuantBlock
public import Idealize.ShloMosaic.Lib.Pointwise

@[expose] public section

noncomputable section

open Idealize.ShloMosaic Cert.WReferenceIdeal

namespace Cert.Quant

/-- The matrix of signs, scaled: plus where `n` and `k` share an even number of set bits. -/
def had (n k : Fin 32) : EReal :=
  Scalar.select (IntOp.cmpi .eq (IntOp.andi (IntOp.ctpop (IntOp.andi (BitVec.ofNat 32 n.val) (BitVec.ofNat 32 k.val))) 1#32) 0#32)
    (cst 0x3E3504F3#32) (-cst 0x3E3504F3#32)

end Cert.Quant

namespace Cert.WReferenceIdeal.Read

open Cert.Quant

variable (x0 : (⟨S16384x6144, .bf16⟩ : BufTy).Contents (Elt Ideal)) (x1 : (⟨S16384, .f32⟩ : BufTy).Contents (Elt Ideal))
variable (x2 : (⟨S16384x6144, .i8⟩ : BufTy).Contents (Elt Ideal))

theorem v17_at (i : S32x32.Idx) : val_main_v17 (F := Ideal) i = had (i 0) (i 1) := by
  simp only [val_main_v17_apply, val_main_v15_apply, val_main_v14_apply, val_main_c_0_apply, val_main_v13_apply, val_main_v12_apply, val_main_c_apply,
    val_main_v11_apply, val_main_v10_apply, val_main_v9_apply, val_main_v8_apply, val_main_v7_apply, val_main_v6_apply, val_main_v5_apply,
    val_main_v16_apply, val_main_cst_apply, val_main_call0_v0_apply, val_main_call0_v1_apply, val_main_cst_1_apply]
  rfl

/-- The rotated value of row `n` of block `b`, column `c`. -/
def rotV (b : Fin 512) (n : Fin 32) (c : Fin 6144) : EReal :=
  ∑ k : Fin 32, (x0 (ix2 ⟨32 * b.val + k.val, by omega⟩ c) * x1 (ix1 ⟨32 * b.val + k.val, by omega⟩)) * had n k

theorem v4_at (i : S512x32x6144.Idx) :
    val_main_v4 (F := Ideal) x0 x1 i = x0 (ix2 ⟨32 * (i 0).val + (i 1).val, by have h0 : (i 0).val < 512 := (i 0).isLt; have h1 : (i 1).val < 32 := (i 1).isLt; omega⟩ (i 2))
      * x1 (ix1 ⟨32 * (i 0).val + (i 1).val, by have h0 : (i 0).val < 512 := (i 0).isLt; have h1 : (i 1).val < 32 := (i 1).isLt; omega⟩) := by
  simp only [val_main_v4_apply, val_main_v3_apply, val_main_v2_apply, val_main_v1_apply, val_main_v0_apply]
  have e : idx_main_v4 i = ix2 ⟨32 * (i 0).val + (i 1).val, by have h0 : (i 0).val < 512 := (i 0).isLt; have h1 : (i 1).val < 32 := (i 1).isLt; omega⟩ (i 2) := by
    have h0 : (i 0).val < 512 := (i 0).isLt
    have h1 : (i 1).val < 32 := (i 1).isLt
    have h2 : (i 2).val < 6144 := (i 2).isLt
    funext a
    match a with
    | ⟨0, _⟩ => exact Fin.ext (by show _ / _ = 32 * (i 0).val + (i 1).val; omega)
    | ⟨1, _⟩ => exact Fin.ext (by show _ % _ = (i 2).val; omega)
  rw [e]
  have e2 : idx_main_v1 (idx_main_v2 (ix2 ⟨32 * (i 0).val + (i 1).val, by have h0 : (i 0).val < 512 := (i 0).isLt; have h1 : (i 1).val < 32 := (i 1).isLt; omega⟩ (i 2)))
      = ix1 ⟨32 * (i 0).val + (i 1).val, by have h0 : (i 0).val < 512 := (i 0).isLt; have h1 : (i 1).val < 32 := (i 1).isLt; omega⟩ := by
    funext a
    match a with
    | ⟨0, _⟩ => rfl
  exact congrArg₂ (fun p q : EReal => p * q) rfl (congrArg x1 e2)

theorem v19_at (i : S512x32x6144.Idx) : val_main_v19 (F := Ideal) x0 x1 i = rotV x0 x1 (i 0) (i 1) (i 2) := by
  rw [val_main_v19_apply, val_main_v18_apply]
  unfold rotV
  refine Finset.sum_congr rfl fun k _ => ?_
  rw [v4_at, v17_at]
  rfl

/-- The largest magnitude of a block. -/
def rotA (b : Fin 512) (c : Fin 6144) : EReal := (Finset.univ : Finset (Fin 32)).fold max (cst 0xFF800000#32) (fun n => max (rotV x0 x1 b n c) (-rotV x0 x1 b n c))

theorem v21_at (i : S512x6144.Idx) : val_main_v21 (F := Ideal) x0 x1 i = rotA x0 x1 (i 0) (i 1) := by
  unfold val_main_v21
  rw [Host.reduce_eq_fold, Shape.ReducesTo.fold_fiber_r3_a1]
  unfold rotA
  refine Finset.fold_congr fun n _ => ?_
  rw [val_main_v20_apply, v19_at]
  rfl

theorem v32_at (i : S512x6144.Idx) : val_main_v32 (F := Ideal) x0 x1 i = rExp (val_main_v21 (F := Ideal) x0 x1 i) := by
  rw [val_main_v32_apply, val_main_v31_apply, val_main_v30_apply, val_main_v29_apply, val_main_v28_apply, val_main_v27_apply, val_main_v26_apply,
    val_main_v25_apply, val_main_v24_apply, val_main_v23_apply, val_main_v22_apply, val_main_call1_v1_apply, val_main_call1_v0_apply,
    val_main_cst_3_apply, val_main_cst_4_apply, val_main_cst_5_apply, val_main_cst_6_apply]
  generalize val_main_v21 (F := Ideal) x0 x1 i = y
  rfl

theorem v37_at (i : S512x6144.Idx) : val_main_v37 (F := Ideal) x0 x1 i = rScale (val_main_v21 (F := Ideal) x0 x1 i) := by
  rw [val_main_v37_apply, val_main_v36_apply, val_main_v35_apply, val_main_v34_apply, val_main_v33_apply, v32_at, val_main_cst_7_apply, val_main_cst_8_apply]
  generalize val_main_v21 (F := Ideal) x0 x1 i = y
  rfl

theorem v40_at (i : S512x32x6144.Idx) :
    val_main_v40 (F := Ideal) x0 x1 i = rotV x0 x1 (i 0) (i 1) (i 2) * rScale (rotA x0 x1 (i 0) (i 2)) := by
  rw [val_main_v40_apply, v19_at, val_main_v39_apply, val_main_v38_apply, v37_at, v21_at]
  rfl

/-- The uniform number of an element. -/
def rotU (b : Fin 512) (n : Fin 32) (c : Fin 6144) : EReal :=
  uOf (((BitVec.setWidth 32 (x2 (ix2 ⟨32 * b.val + n.val, by omega⟩ c)) : BitVec 32).toInt : ℝ) : EReal)

theorem v59_at (i : S512x32x6144.Idx) : val_main_v59 (F := Ideal) x2 i = rotU x2 (i 0) (i 1) (i 2) := by
  simp only [val_main_v59_apply, val_main_v58_apply, val_main_v57_apply, val_main_v56_apply, val_main_v55_apply, val_main_v54_apply, val_main_v41_apply,
    val_main_cst_14_apply, val_main_cst_15_apply]
  have e : idx_main_v41 i = ix2 ⟨32 * (i 0).val + (i 1).val, by have h0 : (i 0).val < 512 := (i 0).isLt; have h1 : (i 1).val < 32 := (i 1).isLt; omega⟩ (i 2) := by
    have h0 : (i 0).val < 512 := (i 0).isLt
    have h1 : (i 1).val < 32 := (i 1).isLt
    have h2 : (i 2).val < 6144 := (i 2).isLt
    funext a
    match a with
    | ⟨0, _⟩ => exact Fin.ext (by show _ / _ = 32 * (i 0).val + (i 1).val; omega)
    | ⟨1, _⟩ => exact Fin.ext (by show _ % _ = (i 2).val; omega)
  rw [e]
  rfl

theorem v48_at (i : S512x32x6144.Idx) : val_main_v48 (F := Ideal) x0 x1 i = rStep (val_main_v42 (F := Ideal) x0 x1 i) := by
  simp only [val_main_v48_apply, val_main_v47_apply, val_main_v46_apply, val_main_v45_apply, val_main_v44_apply, val_main_v43_apply,
    val_main_call2_v0_apply, val_main_call2_v1_apply, val_main_call3_v0_apply, val_main_cst_9_apply, val_main_cst_10_apply, val_main_cst_11_apply,
    val_main_cst_12_apply, val_main_cst_13_apply]
  rfl

theorem v51_at (i : S512x32x6144.Idx) : val_main_v51 (F := Ideal) x0 x1 i = rLow (val_main_v42 (F := Ideal) x0 x1 i) := by
  simp only [val_main_v51_apply, val_main_v50_apply, val_main_v49_apply, v48_at]
  rfl

theorem v62_at (i : S512x32x6144.Idx) :
    val_main_v62 (F := Ideal) x0 x1 x2 i = rGrid (val_main_v42 (F := Ideal) x0 x1 i) (rotU x2 (i 0) (i 1) (i 2)) := by
  simp only [val_main_v62_apply, val_main_v61_apply, val_main_v60_apply, val_main_v53_apply, val_main_v52_apply, v51_at, v48_at, v59_at]
  rfl

theorem v75_at (i : S512x32x6144.Idx) : val_main_v75 (F := Ideal) x0 x1 x2 i = rNum (val_main_v62 (F := Ideal) x0 x1 x2 i) := by
  simp only [val_main_v75_apply, val_main_v74_apply, val_main_v73_apply, val_main_v72_apply, val_main_v71_apply, val_main_v70_apply, val_main_v69_apply,
    val_main_v68_apply, val_main_v67_apply, val_main_v66_apply, val_main_v65_apply, val_main_v64_apply, val_main_v63_apply,
    val_main_call5_v0_apply, val_main_call5_v1_apply, val_main_call6_v0_apply, val_main_cst_16_apply, val_main_cst_17_apply, val_main_cst_18_apply,
    val_main_cst_19_apply, val_main_cst_20_apply, val_main_cst_21_apply, val_main_cst_22_apply]
  rfl

theorem v84_of (i : S512x32x6144.Idx) :
    val_main_v84 (F := Ideal) x0 x1 x2 i = signed (val_main_v40 (F := Ideal) x0 x1 i) (Ideal.fptosi 32 (val_main_v75 (F := Ideal) x0 x1 x2 i)) := by
  simp only [val_main_v84_apply, val_main_v83_apply, val_main_v82_apply, val_main_v81_apply, val_main_v80_apply, val_main_v79_apply, val_main_v78_apply,
    val_main_v77_apply, val_main_v76_apply, val_main_cst_23_apply, val_main_c_24_apply, val_main_c_25_apply]
  rfl

/-- The four-bit code of an element. -/
def rotCode (b : Fin 512) (n : Fin 32) (c : Fin 6144) : BitVec 32 :=
  signed (rotV x0 x1 b n c * rScale (rotA x0 x1 b c))
    (rIdx (max (rotV x0 x1 b n c * rScale (rotA x0 x1 b c)) (-(rotV x0 x1 b n c * rScale (rotA x0 x1 b c)))) (rotU x2 b n c))

theorem v84_at (i : S512x32x6144.Idx) : val_main_v84 (F := Ideal) x0 x1 x2 i = rotCode x0 x1 x2 (i 0) (i 1) (i 2) := by
  rw [v84_of, v75_at, v62_at, val_main_v42_apply, v40_at]
  rfl

theorem v119_at (i : S512x32x6144.Idx) : val_main_v119 (F := Ideal) x0 x1 x2 i = rMag (val_main_v84 (F := Ideal) x0 x1 x2 i) := by
  simp only [val_main_v119_apply, val_main_v118_apply, val_main_v117_apply, val_main_v116_apply, val_main_v115_apply, val_main_v114_apply, val_main_v113_apply,
    val_main_v112_apply, val_main_v111_apply, val_main_v110_apply, val_main_v109_apply, val_main_v108_apply, val_main_v107_apply, val_main_v106_apply,
    val_main_v105_apply, val_main_v104_apply, val_main_v103_apply, val_main_v102_apply, val_main_v101_apply, val_main_v100_apply, val_main_v99_apply,
    val_main_v98_apply, val_main_v97_apply, val_main_v96_apply, val_main_v95_apply, val_main_v94_apply, val_main_v93_apply, val_main_v92_apply,
    val_main_v91_apply, val_main_v90_apply, val_main_v89_apply,
    val_main_call9_v0_apply, val_main_call9_v1_apply, val_main_call10_v0_apply, val_main_call10_v1_apply, val_main_call12_v0_apply,
    val_main_call12_v1_apply, val_main_call13_v0_apply, val_main_call13_v1_apply,
    val_main_c_28_apply, val_main_c_29_apply, val_main_c_30_apply, val_main_c_31_apply, val_main_c_32_apply, val_main_c_33_apply, val_main_c_34_apply,
    val_main_c_35_apply, val_main_cst_36_apply, val_main_cst_37_apply, val_main_c_38_apply, val_main_cst_39_apply, val_main_cst_40_apply,
    val_main_c_41_apply, val_main_c_42_apply, val_main_cst_43_apply, val_main_cst_44_apply, val_main_c_45_apply, val_main_cst_46_apply, val_main_cst_47_apply]
  rfl

theorem v123_at (i : S512x32x6144.Idx) : val_main_v123 (F := Ideal) x0 x1 x2 i = rDecode (val_main_v84 (F := Ideal) x0 x1 x2 i) := by
  simp only [val_main_v123_apply, val_main_v122_apply, val_main_v121_apply, val_main_v120_apply, val_main_v88_apply, val_main_v87_apply, val_main_v86_apply,
    val_main_v85_apply, val_main_c_26_apply, val_main_c_27_apply, val_main_c_48_apply, v119_at]
  rfl

theorem v130_at (i : S512x32x6144.Idx) :
    val_main_v130 (F := Ideal) x0 x1 x2 i = rDecode (rotCode x0 x1 x2 (i 0) (i 1) (i 2)) * rBack (rotA x0 x1 (i 0) (i 2)) := by
  rw [val_main_v130_apply, val_main_v129_apply, val_main_v127_apply, v123_at, v84_at, val_main_v128_apply, val_main_v126_apply, val_main_v125_apply,
    val_main_v124_apply, val_main_cst_49_apply, v32_at, v21_at]
  rfl

/-! ## The results -/

theorem codes_at (i : S8192x6144.Idx) (b : Fin 512) (n0 n1 : Fin 32) (h0 : 32 * b.val + n0.val = 2 * (i 0).val) (h1 : n1.val = n0.val + 1) :
    val_main_v139 (F := Ideal) x0 x1 x2 i
      = (IntOp.ori (rotCode x0 x1 x2 b n0 (i 1)) (IntOp.shli .host (rotCode x0 x1 x2 b n1 (i 1)) 4#32)).setWidth 8 := by
  simp only [val_main_v139_apply, val_main_v138_apply, val_main_v137_apply, val_main_v136_apply, val_main_c_50_apply, val_main_v135_apply, val_main_v134_apply,
    val_main_v133_apply, val_main_v132_apply, val_main_v131_apply, v84_at]
  have hi0 : (i 0).val < 8192 := (i 0).isLt
  have hi1 : (i 1).val < 6144 := (i 1).isLt
  have a0 : ∀ n : Fin 32, 32 * b.val + n.val = 2 * (i 0).val → idx_main_v131 (idx_main_v132 (idx_main_v133 i)) = ix3 b n (i 1) := by
    intro n hn
    have := n.isLt
    funext a
    match a with
    | ⟨0, _⟩ => exact Fin.ext (by show _ / _ = b.val; dsimp; omega)
    | ⟨1, _⟩ => exact Fin.ext (by show _ / _ % _ = n.val; dsimp; omega)
    | ⟨2, _⟩ => exact Fin.ext (by show _ % _ = (i 1).val; dsimp; omega)
  have a1 : ∀ n : Fin 32, 32 * b.val + n.val = 2 * (i 0).val + 1 → idx_main_v131 (idx_main_v134 (idx_main_v135 i)) = ix3 b n (i 1) := by
    intro n hn
    have := n.isLt
    funext a
    match a with
    | ⟨0, _⟩ => exact Fin.ext (by show _ / _ = b.val; dsimp; omega)
    | ⟨1, _⟩ => exact Fin.ext (by show _ / _ % _ = n.val; dsimp; omega)
    | ⟨2, _⟩ => exact Fin.ext (by show _ % _ = (i 1).val; dsimp; omega)
  rw [a0 n0 h0, a1 n1 (by omega)]
  rfl

theorem vals_at (i : S16384x6144.Idx) (b : Fin 512) (n : Fin 32) (d p q g s : ℕ) (hp : p < 2) (hq : q < 2) (hg : g < 8) (hs : s < 8)
    (hi : (i 0).val = 256 * d + 128 * p + 64 * q + 8 * g + s) (hb : b.val = 8 * d + g) (hn : n.val = 4 * s + 2 * q + p) :
    val_main_v142 (F := Ideal) x0 x1 x2 i = rDecode (rotCode x0 x1 x2 b n (i 1)) * rBack (rotA x0 x1 b (i 1)) := by
  have hi0 : (i 0).val < 16384 := (i 0).isLt
  have hi1 : (i 1).val < 6144 := (i 1).isLt
  unfold val_main_v142
  let j : S64x2x2x8x8x6144.Idx := fun a => match a with
    | ⟨0, _⟩ => ⟨d, by show d < 64; omega⟩
    | ⟨1, _⟩ => ⟨p, hp⟩
    | ⟨2, _⟩ => ⟨q, hq⟩
    | ⟨3, _⟩ => ⟨g, hg⟩
    | ⟨4, _⟩ => ⟨s, hs⟩
    | ⟨5, _⟩ => ⟨(i 1).val, hi1⟩
  refine (shapeCast_apply _ _ i j (by
    rw [Shape.rowMajor_val_two, Shape.rowMajor_val_six]
    show ((((d * 2 + p) * 2 + q) * 8 + g) * 8 + s) * 6144 + (i 1).val = (i 0).val * 6144 + (i 1).val
    omega)).trans ?_
  rw [val_main_v141_apply]
  unfold val_main_v140
  refine (shapeCast_apply _ _ (idx_main_v141 j) (ix3 b n (i 1)) (by
    rw [Shape.rowMajor_val_three, Shape.rowMajor_val_six]
    show (b.val * 32 + n.val) * 6144 + (i 1).val = ((((d * 8 + g) * 8 + s) * 2 + q) * 2 + p) * 6144 + (i 1).val
    omega)).trans ?_
  exact v130_at x0 x1 x2 (ix3 b n (i 1))

theorem scales_at (i : S512x6144.Idx) : val_main_v144 (F := Ideal) x0 x1 i = (Ideal.fptosi 32 (rExp (rotA x0 x1 (i 0) (i 1)))).setWidth 8 := by
  rw [val_main_v144_apply, val_main_v143_apply, v32_at, v21_at]
  rfl

end Cert.WReferenceIdeal.Read

end
-- ==== Proof.WTable.lean ====
/-
  The kernel's table: what the operations before the kernel's launch leave in its third operand. A row is a row of the
  signed Hadamard matrix of one block, permuted to the kernel's row order, and zero outside the block.
-/
module

public import proofs.«01_k».proof.Proof.WBlock
public import proofs.«01_k».proof.Proof.QuantRef
public import Idealize.ShloMosaic.Lib.StableHlo.RunRead

@[expose] public section

noncomputable section

open Idealize.ShloMosaic Idealize.ShloMosaic.TcCoe Idealize.SL.Sem

namespace Cert.WKernelIdeal.Table

open Cert.WKernelIdeal Cert.WKernelIdeal.Gen Cert.WKernelIdeal.Pay Cert.Quant

/-- Which row of its tile a row of the table is the transform of. -/
def ordV : IVec S256 32 :=
  addi (addi (muli (broadcastInDim S256 ![] bcast_S_S256 (constantI S_ 32 32#32))
      (andi (Host.shrsi (iotaInDim S256 32 0) (broadcastInDim S256 ![] bcast_S_S256 (constantI S_ 32 3#32)))
        (broadcastInDim S256 ![] bcast_S_S256 (constantI S_ 32 7#32))))
    (muli (broadcastInDim S256 ![] bcast_S_S256 (constantI S_ 32 4#32))
      (andi (iotaInDim S256 32 0) (broadcastInDim S256 ![] bcast_S_S256 (constantI S_ 32 7#32)))))
    (Host.shrsi (iotaInDim S256 32 0) (broadcastInDim S256 ![] bcast_S_S256 (constantI S_ 32 6#32)))

/-- Whether a row and a column share an even number of set bits below bit 5. -/
def evenV : IVec S256x256 1 :=
  cmpi .eq (andi (ctpop (andi
      (broadcastInDim S256x256 ![0, 1] bcast_S256x1_S256x256_0_1
        (andi (broadcastInDim S256x1 ![0] bcast_S256_S256x1_0 ordV) (broadcastInDim S256x1 ![] bcast_S_S256x1 (constantI S_ 32 31#32))))
      (broadcastInDim S256x256 ![0, 1] bcast_S1x256_S256x256_0_1
        (andi (broadcastInDim S1x256 ![1] bcast_S256_S1x256_1 (iotaInDim S256 32 0))
          (broadcastInDim S1x256 ![] bcast_S_S1x256 (constantI S_ 32 31#32))))))
    (broadcastInDim S256x256 ![] bcast_S_S256x256 (constantI S_ 32 1#32)))
    (broadcastInDim S256x256 ![] bcast_S_S256x256 (constantI S_ 32 0#32))

/-- Whether a row and a column are of the same block. -/
def sameV : IVec S256x256 1 :=
  cmpi .eq
    (broadcastInDim S256x256 ![0, 1] bcast_S256x1_S256x256_0_1
      (Host.shrsi (broadcastInDim S256x1 ![0] bcast_S256_S256x1_0 ordV) (broadcastInDim S256x1 ![] bcast_S_S256x1 (constantI S_ 32 5#32))))
    (broadcastInDim S256x256 ![0, 1] bcast_S1x256_S256x256_0_1
      (Host.shrsi (broadcastInDim S1x256 ![1] bcast_S256_S1x256_1 (iotaInDim S256 32 0))
        (broadcastInDim S1x256 ![] bcast_S_S1x256 (constantI S_ 32 5#32))))

/-- The table of one tile. -/
def tabV : FVec Ideal S256x256 .f32 :=
  select sameV (select evenV (broadcastInDim S256x256 ![] bcast_S_S256x256 (constant S_ .f32 0x3E800000#32))
      (broadcastInDim S256x256 ![] bcast_S_S256x256 (constant S_ .f32 0xBE800000#32)))
    (broadcastInDim S256x256 ![] bcast_S_S256x256 (constant S_ .f32 0x00000000#32))

/-- The whole table over the vector of signs. -/
def signedV (x : FVec Ideal S16384 .f32) : FVec Ideal S16384x256 .bf16 :=
  truncf .bf16 (shapeCast S16384x256 (mulf
      (broadcastInDim S64x256x256 ![0, 1, 2] bcast_S1x256x256_S64x256x256_0_1_2
        (broadcastInDim S1x256x256 ![1, 2] bcast_S256x256_S1x256x256_1_2 tabV))
      (broadcastInDim S64x256x256 ![0, 1, 2] bcast_S64x1x256_S64x256x256_0_1_2 (shapeCast S64x1x256 x shapeCasts_S16384_S64x1x256)))
    shapeCasts_S64x256x256_S16384x256) bitsLt_bf16_f32

variable (m : (ℓ : Loc nD τ sig) → Buf (Elt Ideal) ℓ)

theorem V_v48 (c : Dev nD) : V m c main_v48 = signedV (m ((c : Thread nD τ).loc main_arg1)) := by
  unfold V
  simp only [List.flatten_cons, List.flatten_nil, List.append_nil]
  after_reads_simp
  rfl

/-! ## The table at an index -/

/-- The row of `ordV`. -/
def ordW (p : Fin 256) : BitVec 32 :=
  IntOp.addi (IntOp.addi (IntOp.muli 32#32 (IntOp.andi (IntOp.shrsi .host (BitVec.ofNat 32 p.val) 3#32) 7#32))
    (IntOp.muli 4#32 (IntOp.andi (BitVec.ofNat 32 p.val) 7#32))) (IntOp.shrsi .host (BitVec.ofNat 32 p.val) 6#32)

theorem ordW_low : ∀ p : Fin 256, IntOp.andi (ordW p) 31#32 = BitVec.ofNat 32 (4 * (p.val % 8) + p.val / 64) := by decide +kernel
theorem ordW_high : ∀ p : Fin 256, IntOp.shrsi .host (ordW p) 5#32 = BitVec.ofNat 32 (p.val / 8 % 8) := by decide +kernel
theorem col_low : ∀ p : Fin 256, IntOp.andi (BitVec.ofNat 32 p.val) 31#32 = BitVec.ofNat 32 (p.val % 32) := by decide +kernel
theorem col_high : ∀ p : Fin 256, IntOp.shrsi .host (BitVec.ofNat 32 p.val) 5#32 = BitVec.ofNat 32 (p.val / 32) := by decide +kernel
theorem eq_block : ∀ a b : Fin 8, IntOp.cmpi .eq (BitVec.ofNat 32 a.val) (BitVec.ofNat 32 b.val) = if a = b then 1#1 else 0#1 := by decide +kernel

theorem evenV_at (p q : Fin 256) : evenV (ix2 p q)
    = IntOp.cmpi .eq (IntOp.andi (IntOp.ctpop (IntOp.andi (IntOp.andi (ordW p) 31#32) (IntOp.andi (BitVec.ofNat 32 q.val) 31#32))) 1#32) 0#32 := by
  rfl

theorem sameV_at (p q : Fin 256) : sameV (ix2 p q)
    = IntOp.cmpi .eq (IntOp.shrsi .host (ordW p) 5#32) (IntOp.shrsi .host (BitVec.ofNat 32 q.val) 5#32) := by
  rfl

theorem tabV_at (p q : Fin 256) : tabV (ix2 p q)
    = Scalar.select (sameV (ix2 p q)) (Scalar.select (evenV (ix2 p q)) (cst 0x3E800000#32) (cst 0xBE800000#32)) (cst 0x00000000#32) := by
  rfl

theorem signedV_at (x : FVec Ideal S16384 .f32) (i : S16384x256.Idx) (T : Fin 64) (p q : Fin 256)
    (h0 : (i 0).val = 256 * T.val + p.val) (h1 : (i 1).val = q.val) :
    signedV x i = tabV (ix2 p q) * x (ix1 ⟨256 * T.val + q.val, by omega⟩) := by
  unfold signedV
  rw [truncf_at]
  refine (shapeCast_apply _ _ i (ix3 T p q) (by
    rw [eq_ix2 i, Shape.rowMajor_val_two, Shape.rowMajor_val_three]
    show (T.val * 256 + p.val) * 256 + q.val = (i 0).val * 256 + (i 1).val
    rw [h0, h1]; ring)).trans ?_
  rw [mulf_at]
  refine congrArg₂ (fun a b : EReal => a * b) rfl ?_
  exact shapeCast_apply _ _ (ix3 T (0 : Fin 1) q) (ix1 _) (by
    rw [Shape.rowMajor_val_one, Shape.rowMajor_val_three]
    show 256 * T.val + q.val = (T.val * 1 + 0) * 256 + q.val
    ring)

end Cert.WKernelIdeal.Table

end
-- ==== Proof.WRotate.lean ====
/-
  The rotation: the scaled product of a tile with its table is the reference's rotated value, and the scaled maximum
  over a block is the reference's block maximum.
-/
module

public import proofs.«01_k».proof.Proof.WTable

@[expose] public section

noncomputable section

open Idealize.ShloMosaic Idealize.ShloMosaic.TcCoe Idealize.SL.Sem

namespace Cert.WKernelIdeal.Table

open Cert.WKernelIdeal Cert.WKernelIdeal.Gen Cert.WKernelIdeal.Pay Cert.Quant
open Cert.WReferenceIdeal.Read (rotV rotA rotU rotCode)

/-! ## The constants -/

theorem cst_quarter : cst 0x3E800000#32 = ((1 / 4 : ℝ) : EReal) := by
  rw [cst_of _ 125 0 (by decide) (by decide) (by decide) (by norm_num) (by norm_num)]; norm_num

theorem cst_neg_quarter : cst 0xBE800000#32 = ((-(1 / 4) : ℝ) : EReal) := by
  unfold cst Ideal.ofBits Ideal.ieee
  dsimp only
  rw [show ((0xBE800000#32 : BitVec 32).extractLsb' 23 8).toNat = 125 from by decide,
    show ((0xBE800000#32 : BitVec 32).extractLsb' 0 23).toNat = 0 from by decide,
    show ((0xBE800000#32 : BitVec 32).extractLsb' 31 1 == 1#1) = true from by decide, if_neg (by norm_num), if_neg (by norm_num)]
  refine congrArg (fun t : ℝ => (t : EReal)) ?_
  norm_num

/-- A quarter of the scale of a value is the entry of the sign matrix. -/
theorem quarter_vs : cst 0x3E800000#32 * vs = cst 0x3E3504F3#32 := by
  rw [cst_quarter, vs, cst_of 0x3F3504F3#32 126 3474675 (by decide) (by decide) (by decide) (by norm_num) (by norm_num),
    cst_of 0x3E3504F3#32 124 3474675 (by decide) (by decide) (by decide) (by norm_num) (by norm_num), ← EReal.coe_mul]
  refine congrArg (fun t : ℝ => (t : EReal)) ?_
  norm_num

theorem neg_quarter_vs : cst 0xBE800000#32 * vs = -cst 0x3E3504F3#32 := by
  rw [← quarter_vs, cst_quarter, cst_neg_quarter, EReal.coe_neg, EReal.neg_mul]

/-- A positive real factor is distributed over a sum. -/
theorem sum_mul_vs {ι : Type} (S : Finset ι) (f : ι → EReal) : (∑ i ∈ S, f i) * vs = ∑ i ∈ S, f i * vs := by
  obtain ⟨v, hv, e⟩ := vs_pos
  rw [e]
  induction S using Finset.cons_induction with
  | empty => simp
  | cons a S h ih =>
    rw [Finset.sum_cons, Finset.sum_cons, EReal.right_distrib_of_nonneg_of_ne_top (EReal.coe_nonneg.mpr hv.le) (EReal.coe_ne_top v), ih]

/-- The scaled entry of the table. -/
theorem tabV_vs (p q : Fin 256) : tabV (ix2 p q) * vs
    = if p.val / 8 % 8 = q.val / 32 then had ⟨4 * (p.val % 8) + p.val / 64, by omega⟩ ⟨q.val % 32, by omega⟩ else 0 := by
  rw [tabV_at, sameV_at, evenV_at, ordW_low, ordW_high, col_low, col_high]
  have e := eq_block ⟨p.val / 8 % 8, by omega⟩ ⟨q.val / 32, by omega⟩
  rw [show IntOp.cmpi .eq (BitVec.ofNat 32 (p.val / 8 % 8)) (BitVec.ofNat 32 (q.val / 32)) = _ from e]
  by_cases h : p.val / 8 % 8 = q.val / 32
  · rw [if_pos (Fin.ext h), if_pos h]
    unfold had Scalar.select
    rw [if_pos (show (1#1 : BitVec 1) = 1 from rfl)]
    dsimp only
    generalize IntOp.cmpi .eq _ 0#32 = b
    by_cases hb : b = 1
    · rw [if_pos hb, if_pos hb, quarter_vs]
    · rw [if_neg hb, if_neg hb, neg_quarter_vs]
  · rw [if_neg (fun h' => h (congrArg Fin.val h')), if_neg h]
    unfold Scalar.select
    rw [if_neg (by decide), cst_zero, EReal.coe_zero, zero_mul]

section Tile

variable (x0 : (⟨S16384x6144, .bf16⟩ : BufTy).Contents (Elt Ideal)) (x1 : (⟨S16384, .f32⟩ : BufTy).Contents (Elt Ideal))
variable (w : Vec Ideal S256x512 .bf16) (h : Vec Ideal S256x256 .bf16) (T : Fin 64) (l : Fin 512) (col : Fin 6144)

/-- The tile of weights is tile `T` of the array, its column `l` the array's column `col`. -/
def TileW : Prop := ∀ p : Fin 256, w (ix2 p l) = x0 (ix2 ⟨256 * T.val + p.val, by omega⟩ col)
/-- The tile of the table is the table's, with the signs of tile `T`. -/
def TileH : Prop := ∀ p q : Fin 256, h (ix2 p q) = tabV (ix2 p q) * x1 (ix1 ⟨256 * T.val + q.val, by omega⟩)

variable (hw : TileW x0 w T l col) (hh : TileH x1 h T)
include hw hh

omit hw hh in
theorem term_vs (t s x v : EReal) : t * s * x * v = x * s * (t * v) := by
  ac_rfl

theorem prod_vs (j : Fin 4) (q : Fin 64) : prod w h ⟨64 * j.val + q.val, by omega⟩ l * vs
    = rotV x0 x1 ⟨8 * T.val + q.val / 8, by omega⟩ ⟨4 * (q.val % 8) + j.val, by omega⟩ col := by
  unfold prod rotV
  rw [sum_mul_vs]
  symm
  refine Fintype.sum_of_injective (fun k : Fin 32 => (⟨32 * (q.val / 8) + k.val, by omega⟩ : Fin 256)) ?_ _ _ ?_ ?_
  · intro a b hab
    have := congrArg Fin.val hab
    dsimp only at this
    exact Fin.ext (by omega)
  · intro k hk
    rw [hh, term_vs, tabV_vs, if_neg, mul_zero]
    intro he
    refine hk ⟨⟨k.val % 32, by omega⟩, Fin.ext ?_⟩
    show 32 * (q.val / 8) + k.val % 32 = k.val
    dsimp only at he
    omega
  · intro k
    rw [hh, hw, term_vs, tabV_vs, if_pos (by dsimp only; omega)]
    refine congrArg₂ (fun a b : EReal => a * b) (congrArg₂ (fun a b : EReal => a * b) (congrArg x0 ?_) (congrArg x1 ?_)) (congrArg₂ had ?_ ?_)
    · exact congrArg (fun z => ix2 z col) (Fin.ext (by dsimp only; omega))
    · exact congrArg ix1 (Fin.ext (by dsimp only; omega))
    · exact Fin.ext (by dsimp only; omega)
    · exact Fin.ext (by dsimp only; omega)

omit hw hh in
theorem max_mul_vs (a b : EReal) : max a b * vs = max (a * vs) (b * vs) := by
  obtain ⟨v, hv, e⟩ := vs_pos
  rw [e]
  exact Monotone.map_max (f := fun x : EReal => x * (v : EReal)) fun x y hxy => mul_le_mul_of_nonneg_right hxy (EReal.coe_nonneg.mpr hv.le)

theorem prodAbs_vs (j : Fin 4) (q : Fin 64) : prodAbs w h ⟨64 * j.val + q.val, by omega⟩ l * vs
    = max (rotV x0 x1 ⟨8 * T.val + q.val / 8, by omega⟩ ⟨4 * (q.val % 8) + j.val, by omega⟩ col)
      (-rotV x0 x1 ⟨8 * T.val + q.val / 8, by omega⟩ ⟨4 * (q.val % 8) + j.val, by omega⟩ col) := by
  unfold prodAbs
  rw [max_mul_vs, EReal.neg_mul, prod_vs x0 x1 w h T l col hw hh]

omit hw hh in
theorem cst_bot : cst 0xFF800000#32 = ⊥ := by
  unfold cst Ideal.ofBits Ideal.ieee
  dsimp only
  rw [show ((0xFF800000#32 : BitVec 32).extractLsb' 23 8).toNat = 255 from by decide,
    show ((0xFF800000#32 : BitVec 32).extractLsb' 0 23).toNat = 0 from by decide,
    show ((0xFF800000#32 : BitVec 32).extractLsb' 31 1 == 1#1) = true from by decide]
  simp

theorem top_vs (g : Fin 8) : top w h g l * vs = rotA x0 x1 ⟨8 * T.val + g.val, by omega⟩ col := by
  unfold top rotA
  have e : cst 0xFF800000#32 * vs = cst 0xFF800000#32 := by
    obtain ⟨v, hv, e⟩ := vs_pos
    rw [cst_bot, e, EReal.bot_mul_coe_of_pos hv]
  rw [← Finset.fold_hom (m := fun x : EReal => x * vs) max_mul_vs, e]
  refine eq_of_forall_ge_iff fun c => ?_
  rw [Finset.fold_max_le, Finset.fold_max_le]
  refine and_congr_right fun _ => ?_
  have key : ∀ (s : Fin 8) (j : Fin 4) (p : Fin 256) (hp : p.val = 64 * j.val + (8 * g.val + s.val)) (n : Fin 32) (hn : n.val = 4 * s.val + j.val),
      prodAbs w h p l * vs = max (rotV x0 x1 ⟨8 * T.val + g.val, by omega⟩ n col) (-rotV x0 x1 ⟨8 * T.val + g.val, by omega⟩ n col) := by
    intro s j p hp n hn
    have := prodAbs_vs x0 x1 w h T l col hw hh j ⟨8 * g.val + s.val, by omega⟩
    rw [show p = ⟨64 * j.val + (⟨8 * g.val + s.val, by omega⟩ : Fin 64).val, by dsimp only; omega⟩ from Fin.ext hp, this]
    rw [show (⟨8 * T.val + (⟨8 * g.val + s.val, by omega⟩ : Fin 64).val / 8, by dsimp only; omega⟩ : Fin 512) = ⟨8 * T.val + g.val, by omega⟩ from Fin.ext (by dsimp only; omega),
      show (⟨4 * ((⟨8 * g.val + s.val, by omega⟩ : Fin 64).val % 8) + j.val, by dsimp only; omega⟩ : Fin 32) = n from Fin.ext (by dsimp only; omega)]
  constructor
  · intro H n _
    have hs := H ⟨n.val / 4, by omega⟩ (Finset.mem_univ _)
    rw [max_mul_vs, max_mul_vs, max_mul_vs, max_le_iff, max_le_iff, max_le_iff] at hs
    obtain ⟨⟨h0, h1⟩, h2, h3⟩ := hs
    have hj : n.val % 4 = 0 ∨ n.val % 4 = 1 ∨ n.val % 4 = 2 ∨ n.val % 4 = 3 := by omega
    rcases hj with hj | hj | hj | hj
    · rwa [key ⟨n.val / 4, by omega⟩ 0 _ (by simp) n (by simp; omega)] at h0
    · rwa [key ⟨n.val / 4, by omega⟩ 1 _ (by simp) n (by simp; omega)] at h1
    · rwa [key ⟨n.val / 4, by omega⟩ 2 _ (by simp) n (by simp; omega)] at h2
    · rwa [key ⟨n.val / 4, by omega⟩ 3 _ (by simp) n (by simp; omega)] at h3
  · intro H s _
    rw [max_mul_vs, max_mul_vs, max_mul_vs, max_le_iff, max_le_iff, max_le_iff,
      key s 0 _ (by simp) ⟨4 * s.val + 0, by omega⟩ (by simp), key s 1 _ (by simp) ⟨4 * s.val + 1, by omega⟩ (by simp),
      key s 2 _ (by simp) ⟨4 * s.val + 2, by omega⟩ (by simp), key s 3 _ (by simp) ⟨4 * s.val + 3, by omega⟩ (by simp)]
    exact ⟨⟨H _ (Finset.mem_univ _), H _ (Finset.mem_univ _)⟩, H _ (Finset.mem_univ _), H _ (Finset.mem_univ _)⟩

end Tile

end Cert.WKernelIdeal.Table

end
-- ==== Proof.WElement.lean ====
/-
  One element of a tile: the kernel's code, decoded value and exponent are the reference's, for a block whose maximum
  is zero or in the range of the exponent.
-/
module

public import proofs.«01_k».proof.Proof.WRotate

@[expose] public section

noncomputable section

open Idealize.ShloMosaic Idealize.ShloMosaic.TcCoe Idealize.SL.Sem

namespace Cert.WKernelIdeal.Table

open Cert.WKernelIdeal Cert.WKernelIdeal.Gen Cert.WKernelIdeal.Pay Cert.Quant
open Cert.WReferenceIdeal.Read (rotV rotA rotU rotCode)

/-- The maximum of a block is zero, or neither too small nor too large for the exponent. -/
def InRange (a : EReal) : Prop := ∃ r : ℝ, a = (r : EReal) ∧ (r = 0 ∨ (2 : ℝ) ^ (-123 : ℤ) ≤ r) ∧ r < 2 ^ (128 : ℤ)

/-- A number a positive real multiple of which is real is real. -/
theorem real_of_mul {p : EReal} {v x : ℝ} (hv : 0 < v) (h : p * (v : EReal) = (x : EReal)) : ∃ s : ℝ, p = (s : EReal) ∧ x = v * s := by
  induction p with
  | bot => rw [EReal.bot_mul_coe_of_pos hv] at h; exact absurd h.symm (EReal.coe_ne_bot x)
  | top => rw [EReal.top_mul_coe_of_pos hv] at h; exact absurd h.symm (EReal.coe_ne_top x)
  | coe s => exact ⟨s, rfl, by rw [← EReal.coe_mul] at h; rw [mul_comm]; exact (EReal.coe_eq_coe_iff.mp h).symm⟩

/-- A number whose magnitude is at most a real is real. -/
theorem real_of_abs {p : EReal} {a : ℝ} (h : max p (-p) ≤ (a : EReal)) : ∃ x : ℝ, p = (x : EReal) ∧ |x| ≤ a := by
  rw [max_le_iff] at h
  induction p with
  | bot => exact absurd (le_trans (le_of_eq EReal.neg_bot.symm) h.2) (by simp)
  | top => exact absurd h.1 (by simp)
  | coe s =>
    refine ⟨s, rfl, abs_le'.mpr ⟨EReal.coe_le_coe_iff.mp h.1, ?_⟩⟩
    have := h.2
    rw [← EReal.coe_neg] at this
    exact EReal.coe_le_coe_iff.mp this

/-- The random number of a byte is strictly between zero and one. -/
theorem uOf_byte (b : BitVec 8) : ∃ u : ℝ, uOf (byteVal b) = (u : EReal) ∧ 0 < u ∧ u < 1 := by
  have hb : (b.setWidth 32).toInt = (b.toNat : ℤ) := by
    rw [BitVec.toInt_eq_toNat_of_msb]
    · simp
      omega
    · have := b.isLt
      simp [BitVec.msb_eq_decide]
      omega
  have h0 : (b.toNat : ℝ) < 256 := by exact_mod_cast b.isLt
  have h1 : (0 : ℝ) ≤ b.toNat := Nat.cast_nonneg _
  refine ⟨((b.toNat : ℝ) + 1 / 2) * (1 / 256), ?_, by positivity, ?_⟩
  · unfold uOf byteVal
    rw [hb, cst_half, cst_byte, ← EReal.coe_add, ← EReal.coe_mul, Int.cast_natCast]
  · have : (b.toNat : ℝ) ≤ 255 := by
      have := b.isLt
      exact_mod_cast (by omega : b.toNat ≤ 255)
    linarith

variable (x0 : (⟨S16384x6144, .bf16⟩ : BufTy).Contents (Elt Ideal)) (x1 : (⟨S16384, .f32⟩ : BufTy).Contents (Elt Ideal))
variable (x2 : (⟨S16384x6144, .i8⟩ : BufTy).Contents (Elt Ideal))
variable (w : Vec Ideal S256x512 .bf16) (h : Vec Ideal S256x256 .bf16) (r : Vec Ideal S256x512 .i8) (T : Fin 64) (l : Fin 512) (col : Fin 6144)

/-- The tile of random bytes is tile `T` of the array. -/
def TileR : Prop := ∀ p : Fin 256, r (ix2 p l) = x2 (ix2 ⟨256 * T.val + p.val, by omega⟩ col)

theorem rotV_le (b : Fin 512) (n : Fin 32) (c : Fin 6144) : max (rotV x0 x1 b n c) (-rotV x0 x1 b n c) ≤ rotA x0 x1 b c := by
  unfold rotA
  exact (Finset.le_fold_max _).mpr (Or.inr ⟨n, Finset.mem_univ _, le_rfl⟩)

variable (hw : TileW x0 w T l col) (hh : TileH x1 h T)
include hw hh

theorem tile_exp (g : Fin 8) (hr : InRange (rotA x0 x1 ⟨8 * T.val + g.val, by omega⟩ col)) :
    kExp (top w h g l * vs) = Ideal.fptosi 32 (rExp (rotA x0 x1 ⟨8 * T.val + g.val, by omega⟩ col)) := by
  rw [top_vs x0 x1 w h T l col hw hh]
  obtain ⟨a, e, h0, h1⟩ := hr
  rw [e]
  exact exp_eq a h0 h1

variable (hx : TileR x2 r T l col)
include hx

theorem tile_element (j : Fin 4) (q : Fin 64) (b : Fin 512) (n : Fin 32) (hb : b.val = 8 * T.val + q.val / 8) (hn : n.val = 4 * (q.val % 8) + j.val)
    (hr : InRange (rotA x0 x1 b col)) :
    ∃ z < 16, tileCode w h r j q l = BitVec.ofNat 32 z ∧ rotCode x0 x1 x2 b n col = BitVec.ofNat 32 z
      ∧ tileVal w h r j q l = rDecode (BitVec.ofNat 32 z) * rBack (rotA x0 x1 b col) := by
  have lb : 8 * T.val + q.val / 8 < 512 := by omega
  have ln : 4 * (q.val % 8) + j.val < 32 := by omega
  obtain rfl : b = ⟨8 * T.val + q.val / 8, lb⟩ := Fin.ext hb
  obtain rfl : n = ⟨4 * (q.val % 8) + j.val, ln⟩ := Fin.ext hn
  have hp := prod_vs x0 x1 w h T l col hw hh j q
  have ht : tileMax w h q l = rotA x0 x1 ⟨8 * T.val + q.val / 8, by omega⟩ col := top_vs x0 x1 w h T l col hw hh ⟨q.val / 8, by omega⟩
  have hu : tileU r ⟨4 * q.val + j.val, by omega⟩ l = rotU x2 ⟨8 * T.val + q.val / 8, by omega⟩ ⟨4 * (q.val % 8) + j.val, by omega⟩ col := by
    unfold tileU rotU byteVal
    rw [hx, show (⟨256 * T.val + (⟨4 * q.val + j.val, by omega⟩ : Fin 256).val, by dsimp only; omega⟩ : Fin 16384)
      = ⟨32 * (8 * T.val + q.val / 8) + (4 * (q.val % 8) + j.val), by omega⟩ from Fin.ext (by dsimp only; omega)]
  obtain ⟨a, ea, ha0, ha1⟩ := hr
  obtain ⟨v, hv, ev⟩ := vs_pos
  obtain ⟨x, ex, hxa⟩ := real_of_abs ((rotV_le x0 x1 ⟨8 * T.val + q.val / 8, by omega⟩ ⟨4 * (q.val % 8) + j.val, by omega⟩ col).trans (le_of_eq ea))
  rw [ex, ev] at hp
  obtain ⟨s, es, rfl⟩ := real_of_mul hv hp
  have htop : top w h ⟨q.val / 8, by omega⟩ l * (v : EReal) = (a : EReal) := by rw [← ev, ← ea]; exact ht
  obtain ⟨A, eA, rfl⟩ := real_of_mul hv htop
  obtain ⟨u, eu, hu0, hu1⟩ := uOf_byte (r (ix2 ⟨4 * q.val + j.val, by omega⟩ l))
  have hu' : tileU r ⟨4 * q.val + j.val, by omega⟩ l = (u : EReal) := eu
  obtain ⟨z, hz, c1, c2, c3⟩ := element s A v (v * A) u hv ev (mul_comm v A) hxa ha0 ha1 hu0 hu1
  have hm : tileMag w h j q l = ((|s| : ℝ) : EReal) * kScale ((v * A : ℝ) : EReal) := by
    unfold tileMag prodAbs
    rw [ht, ea, es, ← EReal.coe_neg, ← EReal.coe_strictMono.monotone.map_max]
    rfl
  refine ⟨z, hz, ?_, ?_, ?_⟩
  · unfold tileCode
    rw [hm, es, hu', c1]
  · unfold rotCode
    rw [← hu, hu', ex, ea, c2]
  · unfold tileVal
    rw [hm, es, hu', ht, ea, c3]

end Cert.WKernelIdeal.Table

end
-- ==== Proof.WStore.lean ====
/-
  A trip's three stores are the reference's results: packed codes, decoded values and exponents of one tile, for weights
  whose blocks are all in range.
-/
module

public import proofs.«01_k».proof.Proof.WElement

@[expose] public section

noncomputable section

open Idealize.ShloMosaic Idealize.ShloMosaic.TcCoe Idealize.SL.Sem

namespace Cert.WKernelIdeal.Table

open Cert.WKernelIdeal Cert.WKernelIdeal.Gen Cert.WKernelIdeal.Pay Cert.Quant
open Cert.WReferenceIdeal.Read (rotV rotA rotU rotCode codes_at vals_at scales_at val_main_v139 val_main_v142 val_main_v144)

variable (x0 : (⟨S16384x6144, .bf16⟩ : BufTy).Contents (Elt Ideal)) (x1 : (⟨S16384, .f32⟩ : BufTy).Contents (Elt Ideal))
variable (x2 : (⟨S16384x6144, .i8⟩ : BufTy).Contents (Elt Ideal))
variable (w : Vec Ideal S256x512 .bf16) (h : Vec Ideal S256x256 .bf16) (r : Vec Ideal S256x512 .i8) (T : Fin 64) (l : Fin 512) (col : Fin 6144)

variable (hw : TileW x0 w T l col) (hh : TileH x1 h T) (hx : TileR x2 r T l col) (hr : ∀ b c, InRange (rotA x0 x1 b c))

include hw hh hr in
theorem store_exp (g : Fin 8) (i : S512x6144.Idx) (h0 : (i 0).val = 8 * T.val + g.val) (h1 : i 1 = col) :
    (storeExp w h (ix2 g l)).setWidth 8 = val_main_v144 (F := Ideal) x0 x1 i := by
  have lb : 8 * T.val + g.val < 512 := by omega
  have e0 : i 0 = (⟨8 * T.val + g.val, lb⟩ : Fin 512) := Fin.ext h0
  rw [storeExp_at, tile_exp x0 x1 w h T l col hw hh g (hr _ _), scales_at, e0, h1]

include hw hh hx hr

/-- The code of an element is less than sixteen, and the reference's. -/
theorem tile_code (j : Fin 4) (q : Fin 64) (b : Fin 512) (n : Fin 32) (hb : b.val = 8 * T.val + q.val / 8) (hn : n.val = 4 * (q.val % 8) + j.val) :
    (tileCode w h r j q l).toNat < 16 ∧ tileCode w h r j q l = rotCode x0 x1 x2 b n col := by
  obtain ⟨z, hz, c1, c2, -⟩ := tile_element x0 x1 x2 w h r T l col hw hh hx j q b n hb hn (hr _ _)
  refine ⟨?_, c1.trans c2.symm⟩
  rw [c1, BitVec.toNat_ofNat, Nat.mod_eq_of_lt (by omega)]
  exact hz

theorem store_codes (R : Fin 128) (i : S8192x6144.Idx) (h0 : (i 0).val = 128 * T.val + R.val) (h1 : i 1 = col) :
    storeCodes w h r (ix2 R l) = val_main_v139 (F := Ideal) x0 x1 x2 i := by
  have lq : R.val / 2 < 64 := by omega
  have lb : 8 * T.val + R.val / 2 / 8 < 512 := by omega
  have C := fun (j : Fin 4) (n : Fin 32) hn => tile_code x0 x1 x2 w h r T l col hw hh hx hr j ⟨R.val / 2, lq⟩ ⟨8 * T.val + R.val / 2 / 8, lb⟩ n rfl hn
  have l0 : 4 * (R.val / 2 % 8) + 0 < 32 := by omega
  have l1 : 4 * (R.val / 2 % 8) + 1 < 32 := by omega
  have l2 : 4 * (R.val / 2 % 8) + 2 < 32 := by omega
  have l3 : 4 * (R.val / 2 % 8) + 3 < 32 := by omega
  obtain ⟨s0, c0⟩ := C 0 ⟨_, l0⟩ rfl
  obtain ⟨s1, c1⟩ := C 1 ⟨_, l1⟩ rfl
  obtain ⟨-, c2⟩ := C 2 ⟨_, l2⟩ rfl
  obtain ⟨-, c3⟩ := C 3 ⟨_, l3⟩ rfl
  rw [storeCodes_at w h r R l ⟨R.val / 2, lq⟩ rfl s0 s1]
  by_cases hR : R.val % 2 = 0
  · rw [if_pos hR, c0, c1, codes_at x0 x1 x2 i ⟨8 * T.val + R.val / 2 / 8, lb⟩ ⟨_, l0⟩ ⟨_, l1⟩ (by dsimp only; omega) rfl, h1]
    rfl
  · rw [if_neg hR, c2, c3, codes_at x0 x1 x2 i ⟨8 * T.val + R.val / 2 / 8, lb⟩ ⟨_, l2⟩ ⟨_, l3⟩ (by dsimp only; omega) rfl, h1]
    rfl

theorem store_vals (P : Fin 256) (i : S16384x6144.Idx) (h0 : (i 0).val = 256 * T.val + P.val) (h1 : i 1 = col) :
    storeVals w h r (ix2 P l) = val_main_v142 (F := Ideal) x0 x1 x2 i := by
  have lq : P.val % 64 < 64 := by omega
  have lb : 8 * T.val + P.val % 64 / 8 < 512 := by omega
  have lj : 2 * (P.val / 64 % 2) + P.val / 128 < 4 := by omega
  have ln : 4 * (P.val % 64 % 8) + (2 * (P.val / 64 % 2) + P.val / 128) < 32 := by omega
  obtain ⟨z, hz, -, c2, c3⟩ := tile_element x0 x1 x2 w h r T l col hw hh hx ⟨_, lj⟩ ⟨_, lq⟩ ⟨_, lb⟩ ⟨_, ln⟩ rfl rfl (hr _ _)
  have e := storeVals_at w h r (P.val / 128) (P.val / 64 % 2) (by omega) (by omega) ⟨_, lq⟩ l
  have eP : P = ⟨128 * (P.val / 128) + 64 * (P.val / 64 % 2) + P.val % 64, by omega⟩ := Fin.ext (by dsimp only; omega)
  rw [show storeVals w h r (ix2 P l) = _ from (congrArg (fun p => storeVals w h r (ix2 p l)) eP).trans e]
  rw [vals_at x0 x1 x2 i ⟨_, lb⟩ ⟨_, ln⟩ T.val (P.val / 128) (P.val / 64 % 2) (P.val % 64 / 8) (P.val % 64 % 8) (by omega) (by omega) (by omega) (by omega)
    (by omega) (by dsimp only) (by dsimp only; omega), h1, c2]
  exact c3

end Cert.WKernelIdeal.Table

end
-- ==== Proof.WRange.lean ====
/-
  The precondition of the quantiser, read element by element: every block's largest rotated magnitude is zero or in
  range.
-/
module

public import proofs.«01_k».proof.Pre_in_range_w
public import proofs.«01_k».proof.Proof.WElement

@[expose] public section

noncomputable section

open Idealize.ShloMosaic

namespace Cert.Pre_in_range_w

open Cert.Quant Cert.WKernelIdeal.Pay
open Cert.WReferenceIdeal.Read (rotV rotA)

variable [Facts]
open Facts

variable (x0 : FVec Ideal S16384x6144 .bf16) (x1 : FVec Ideal S16384 .f32) (x2 : IVec S16384x6144 8)

/-- The signed weights, block by block. -/
def signedW : FVec Ideal S512x1x32x6144 .f32 :=
  shapeCast S512x1x32x6144 (mulf ((extf .f32 · bitsLt_bf16_f32) x0)
    (broadcastInDim S16384x6144 ![0, 1] bcast_S16384x1_S16384x6144_0_1 (broadcastInDim S16384x1 ![0] bcast_S16384_S16384x1_0 x1)))
    shapeCasts_S16384x6144_S512x1x32x6144

/-- The sign matrix. -/
def signs : FVec Ideal S32x32 .f32 :=
  fn_where (F := Ideal) (cmpi .eq (andi (ctpop (andi
      (broadcastInDim S32x32 ![0, 1] bcast_S32x1_S32x32_0_1 (broadcastInDim S32x1 ![0] bcast_S32_S32x1_0 (iotaInDim S32 32 0)))
      (broadcastInDim S32x32 ![0, 1] bcast_S1x32_S32x32_0_1 (broadcastInDim S1x32 ![1] bcast_S32_S1x32_1 (iotaInDim S32 32 0)))))
      (broadcastInDim S32x32 ![] bcast_S_S32x32 (constantI S_ 32 1#32))) (broadcastInDim S32x32 ![] bcast_S_S32x32 (constantI S_ 32 0#32)))
    (constant S_ .f32 0x3E3504F3#32) (Host.negf (constant S_ .f32 0x3E3504F3#32))

/-- The products a rotated value is the sum of. -/
def terms : FVec Ideal S512x32x32x6144 .f32 :=
  mulf (broadcastInDim S512x32x32x6144 ![0, 1, 2, 3] bcast_S1x32x32x1_S512x32x32x6144_0_1_2_3
      (broadcastInDim S1x32x32x1 ![1, 2] bcast_S32x32_S1x32x32x1_1_2 signs))
    (broadcastInDim S512x32x32x6144 ![0, 1, 2, 3] bcast_S512x1x32x6144_S512x32x32x6144_0_1_2_3 (signedW x0 x1))

/-- The rotated values. -/
def rotated : FVec Ideal S512x32x6144 .f32 :=
  Host.reduceAdd (terms x0 x1) (constant S_ .f32 0x00000000#32) reducesTo_S512x32x32x6144_S512x32x6144_d2 h_S_

theorem block_max_eq : fn_block_max (F := Ideal) x0 x1
    = Host.reduce FloatOps.maximumf (Host.absf (rotated x0 x1)) (constant S_ .f32 0xFF800000#32) reducesTo_S512x32x6144_S512x6144_d1 h_S_ := by
  with_unfolding_all rfl

theorem signs_at (n k : Fin 32) : signs (ix2 n k) = had n k := by
  rfl

theorem signedW_at (b : Fin 512) (k : Fin 32) (c : Fin 6144) : signedW x0 x1 (ix4 b (0 : Fin 1) k c)
    = x0 (ix2 ⟨32 * b.val + k.val, by omega⟩ c) * x1 (ix1 ⟨32 * b.val + k.val, by omega⟩) := by
  unfold signedW
  refine (shapeCast_apply _ _ _ (ix2 (⟨32 * b.val + k.val, by omega⟩ : Fin 16384) c) (by
    rw [Shape.rowMajor_val_two, Shape.rowMajor_val_four]
    show (32 * b.val + k.val) * 6144 + c.val = ((b.val * 1 + 0) * 32 + k.val) * 6144 + c.val
    ring)).trans ?_
  refine congrArg₂ (fun p q : EReal => p * q) rfl (congrArg x1 (funext fun a => ?_))
  match a with
  | ⟨0, _⟩ => rfl

theorem rotated_at (b : Fin 512) (n : Fin 32) (c : Fin 6144) : rotated x0 x1 (ix3 b n c) = rotV x0 x1 b n c := by
  unfold rotated
  rw [Host.reduceAdd_apply, Ideal.hostReduceAdd_def, Ideal.hostReduceAdd_r4_a2,
    show constant (F := Ideal) S_ .f32 0x00000000#32 (Shape.Idx.first h_S_) = ((0 : ℝ) : EReal) from cst_zero, EReal.coe_zero, zero_add]
  unfold rotV
  refine Finset.sum_congr rfl fun k _ => ?_
  refine Eq.trans (b := had n k * signedW x0 x1 (ix4 b (0 : Fin 1) k c)) ?_ (by rw [signedW_at, mul_comm])
  unfold terms
  rw [mulf_at]
  refine congrArg₂ (fun p q : EReal => p * q) ?_ (congrArg (signedW x0 x1) (funext fun a => ?_))
  · exact signs_at n k
  · fin_cases a <;> rfl

theorem block_max_at (b : Fin 512) (c : Fin 6144) : fn_block_max (F := Ideal) x0 x1 (ix2 b c) = rotA x0 x1 b c := by
  rw [block_max_eq, Host.reduce_eq_fold, Shape.ReducesTo.fold_fiber_r3_a1]
  unfold rotA
  refine Finset.fold_congr fun n _ => ?_
  show max (rotated x0 x1 (ix3 b n c)) (-rotated x0 x1 (ix3 b n c)) = _
  rw [rotated_at]

/-! ## The predicate -/

/-- The least positive maximum in range. -/
theorem cst_low : cst 0x02000000#32 = (((2 : ℝ) ^ (-123 : ℤ) : ℝ) : EReal) := by
  rw [cst_of _ 4 0 (by decide) (by decide) (by decide) (by norm_num) (by norm_num)]
  refine congrArg (fun t : ℝ => (t : EReal)) ?_
  norm_num

/-- Half the bound of a maximum. -/
theorem cst_high : cst 0x7F000000#32 = (((2 : ℝ) ^ (127 : ℤ) : ℝ) : EReal) := by
  rw [cst_of _ 254 0 (by decide) (by decide) (by decide) (by norm_num) (by norm_num)]
  refine congrArg (fun t : ℝ => (t : EReal)) ?_
  norm_num

theorem bits (p q r : BitVec 1) (h : IntOp.ori p (IntOp.andi q r) = 1#1) : p = 1#1 ∨ (q = 1#1 ∧ r = 1#1) := by
  revert p q r; decide

theorem of_decide {P : Prop} [Decidable P] (h : BitVec.ofBool (decide P) = 1#1) : P := by
  by_contra hp
  rw [decide_eq_false hp] at h
  exact absurd h (by decide)

open Cert.WKernelIdeal.Table (InRange) in
/-- Where the predicate holds, the maximum is in range. -/
theorem in_range (a : EReal) (h : IntOp.ori (Ideal.cmp .oeq a (cst 0x00000000#32))
      (IntOp.andi (Ideal.cmp .oge a (cst 0x02000000#32)) (Ideal.cmp .olt (cst 0x3F000000#32 * a) (cst 0x7F000000#32))) = 1#1) : InRange a := by
  rw [cst_zero, cst_low, cst_high, cst_half] at h
  rcases bits _ _ _ h with h0 | ⟨h1, h2⟩
  · exact ⟨0, of_decide h0, Or.inl rfl, by positivity⟩
  · have h1 : (((2 : ℝ) ^ (-123 : ℤ) : ℝ) : EReal) ≤ a := of_decide h1
    have h2 : ((1 / 2 : ℝ) : EReal) * a < (((2 : ℝ) ^ (127 : ℤ) : ℝ) : EReal) := of_decide h2
    clear h
    induction a with
    | bot => exact absurd h1 (not_le.mpr (EReal.bot_lt_coe _))
    | top => rw [EReal.coe_mul_top_of_pos (by norm_num)] at h2; exact absurd h2 not_top_lt
    | coe r =>
      refine ⟨r, rfl, Or.inr (EReal.coe_le_coe_iff.mp h1), ?_⟩
      rw [← EReal.coe_mul, EReal.coe_lt_coe_iff] at h2
      have e : (2 : ℝ) ^ (128 : ℤ) = 2 * 2 ^ (127 : ℤ) := by norm_num
      rw [e]; linarith

theorem cmpf_at {s : Shape} {φ : FTy} (p : CmpFPredicate) (x y : FVec Ideal s φ) (i : s.Idx) : cmpf p x y i = Ideal.cmp p (x i) (y i) := rfl
theorem ori_at {s : Shape} {n : ℕ} (x y : IVec s n) (i : s.Idx) : ori x y i = IntOp.ori (x i) (y i) := rfl
theorem andi_at {s : Shape} {n : ℕ} (x y : IVec s n) (i : s.Idx) : andi x y i = IntOp.andi (x i) (y i) := rfl
theorem const_at {φ : FTy} (b : BitVec φ.bits) (i : S512x6144.Idx) : broadcastInDim S512x6144 ![] bcast_S_S512x6144 (constant (F := Ideal) S_ φ b) i = Ideal.ofBits φ b := rfl

theorem fn_at (i : S512x6144.Idx) : fn (F := Ideal) x0 x1 x2 i
    = IntOp.ori (Ideal.cmp .oeq (fn_block_max (F := Ideal) x0 x1 i) (cst 0x00000000#32))
      (IntOp.andi (Ideal.cmp .oge (fn_block_max (F := Ideal) x0 x1 i) (cst 0x02000000#32))
        (Ideal.cmp .olt (cst 0x3F000000#32 * fn_block_max (F := Ideal) x0 x1 i) (cst 0x7F000000#32))) := by
  unfold fn
  dsimp only
  generalize fn_block_max (F := Ideal) x0 x1 = y
  rw [ori_at, andi_at, cmpf_at, cmpf_at, cmpf_at, mulf_at, const_at, const_at, const_at, const_at]

open Cert.WKernelIdeal.Table (InRange) in
/-- The predicate puts every block in range. -/
theorem inRange_of_fn (h : fn (F := Ideal) x0 x1 x2 = fun _ => 1#1) (b : Fin 512) (c : Fin 6144) : InRange (rotA x0 x1 b c) := by
  have := congrFun h (ix2 b c)
  rw [fn_at, block_max_at] at this
  exact in_range _ this

end Cert.Pre_in_range_w

end
-- ==== Proof.WValue.lean ====
/-
  The quantiser over the reals: the three arrays the kernel leaves are the reference's, for weights whose blocks are all
  in range.
-/
module

public import proofs.«01_k».proof.Proof.WStore
public import proofs.«01_k».proof.Proof.WRange
public import proofs.«01_k».proof.Proof.Gen.WKernelIdeal.Value

@[expose] public section

noncomputable section

open Idealize.ShloMosaic Idealize.ShloMosaic.TcCoe Idealize.SL.Sem
open Idealize.ShloMosaic.Pipeline (Dat)

namespace Cert.WKernelIdeal.Value

open Cert.WKernelIdeal Cert.WKernelIdeal.Gen Cert.WKernelIdeal.Pay Cert.WKernelIdeal.Table Cert.Quant
open Cert.WReferenceIdeal.Read (rotA val_main_v139 val_main_v142 val_main_v144)

variable (m : (ℓ : Loc nD τ sig) → Buf (Elt Ideal) ℓ)

/-! ## The blocks as parts of the arrays -/

/-- Which block of each array a grid point reads and writes: row block `t / 12` and column block `t % 12`, and the
    table's row block `t / 12`. -/
theorem idx_facts : ∀ t : Fin cfg0.N, win0_0.index t (0 : Fin 2) = t.val / 12 ∧ win0_0.index t (1 : Fin 2) = t.val % 12
    ∧ win0_1.index t (0 : Fin 2) = t.val / 12 ∧ win0_1.index t (1 : Fin 2) = t.val % 12
    ∧ win0_2.index t (0 : Fin 2) = t.val / 12 ∧ win0_2.index t (1 : Fin 2) = 0
    ∧ win0_3.index t (0 : Fin 2) = t.val / 12 ∧ win0_3.index t (1 : Fin 2) = t.val % 12
    ∧ win0_4.index t (0 : Fin 2) = t.val / 12 ∧ win0_4.index t (1 : Fin 2) = t.val % 12
    ∧ win0_5.index t (0 : Fin 2) = t.val / 12 ∧ win0_5.index t (1 : Fin 2) = t.val % 12 :=
  (by decide +kernel : ∀ t : Fin grid0.N, _)

theorem iblk0_apply (c : Dev nD) (t : Fin cfg0.N) (j : S1024x512.Idx) (p : S16384x6144.Idx)
    (e0 : (p 0).val = t.val / 12 * 1024 + (j 0).val) (e1 : (p 1).val = t.val % 12 * 512 + (j 1).val) :
    iblk m c 0 t j = m ((c : Thread nD τ).loc main_arg0) p := by
  obtain ⟨d0, d1, -⟩ := idx_facts t
  unfold iblk; rw [View.read_apply]
  show V m c main_arg0 _ = _
  rw [V_main_arg0]
  congr 1; funext a; apply Fin.ext
  match a with
  | ⟨0, _⟩ => show win0_0.index t (0 : Fin 2) * 1024 + 1 * (j 0).val = (p 0).val; rw [d0, e0]; omega
  | ⟨1, _⟩ => show win0_0.index t (1 : Fin 2) * 512 + 1 * (j 1).val = (p 1).val; rw [d1, e1]; omega

theorem iblk1_apply (c : Dev nD) (t : Fin cfg0.N) (j : S1024x512.Idx) (p : S16384x6144.Idx)
    (e0 : (p 0).val = t.val / 12 * 1024 + (j 0).val) (e1 : (p 1).val = t.val % 12 * 512 + (j 1).val) :
    iblk m c 1 t j = m ((c : Thread nD τ).loc main_arg2) p := by
  obtain ⟨-, -, d0, d1, -⟩ := idx_facts t
  unfold iblk; rw [View.read_apply]
  show V m c main_arg2 _ = _
  rw [V_main_arg2]
  congr 1; funext a; apply Fin.ext
  match a with
  | ⟨0, _⟩ => show win0_1.index t (0 : Fin 2) * 1024 + 1 * (j 0).val = (p 0).val; rw [d0, e0]; omega
  | ⟨1, _⟩ => show win0_1.index t (1 : Fin 2) * 512 + 1 * (j 1).val = (p 1).val; rw [d1, e1]; omega

theorem iblk2_apply (c : Dev nD) (t : Fin cfg0.N) (j : S1024x256.Idx) (p : S16384x256.Idx)
    (e0 : (p 0).val = t.val / 12 * 1024 + (j 0).val) (e1 : (p 1).val = (j 1).val) :
    iblk m c 2 t j = signedV (m ((c : Thread nD τ).loc main_arg1)) p := by
  obtain ⟨-, -, -, -, d0, d1, -⟩ := idx_facts t
  unfold iblk; rw [View.read_apply]
  show V m c main_v48 _ = _
  rw [V_v48]
  congr 1; funext a; apply Fin.ext
  match a with
  | ⟨0, _⟩ => show win0_2.index t (0 : Fin 2) * 1024 + 1 * (j 0).val = (p 0).val; rw [d0, e0]; omega
  | ⟨1, _⟩ => show win0_2.index t (1 : Fin 2) * 256 + 1 * (j 1).val = (p 1).val; rw [d1, e1]; omega

/-! ## The tiles of a point's blocks -/

section Tiles

variable (c : Dev nD) (t : Fin cfg0.N) (k : ℕ) (hk : k < 4) (T : Fin 64) (l : Fin 512) (col : Fin 6144)
variable (hT : T.val = 4 * (t.val / 12) + k) (hc : col.val = t.val % 12 * 512 + l.val)
include hT hc

theorem tile_w : TileW (m ((c : Thread nD τ).loc main_arg0)) (tileOf (iblk m c 0 t) k hk) T l col := fun p =>
  iblk0_apply m c t _ _ (by show 256 * T.val + p.val = t.val / 12 * 1024 + (256 * k + p.val); omega) hc

theorem tile_r : TileR (m ((c : Thread nD τ).loc main_arg2)) (tileOf (iblk m c 1 t) k hk) T l col := fun p =>
  iblk1_apply m c t _ _ (by show 256 * T.val + p.val = t.val / 12 * 1024 + (256 * k + p.val); omega) hc

omit hc in
theorem tile_h : TileH (m ((c : Thread nD τ).loc main_arg1)) (tabOf (iblk m c 2 t) k hk) T := fun p q =>
  (iblk2_apply m c t _ (ix2 (⟨256 * T.val + p.val, by omega⟩ : Fin 16384) q)
    (by show 256 * T.val + p.val = t.val / 12 * 1024 + (256 * k + p.val); omega) rfl).trans (signedV_at _ _ T p q rfl rfl)

end Tiles

/-! ## The result arrays -/

/-- The reference's packed codes over the kernel's arguments. -/
def G3 (c : Dev nD) : Buf (Elt Ideal) ((c : Thread nD τ).loc main_v49_0) := val_main_v139 (F := Ideal)
    (m ((c : Thread nD τ).loc main_arg0)) (m ((c : Thread nD τ).loc main_arg1)) (m ((c : Thread nD τ).loc main_arg2))
/-- The reference's exponents over the kernel's arguments. -/
def G4 (c : Dev nD) : Buf (Elt Ideal) ((c : Thread nD τ).loc main_v49_1) := val_main_v144 (F := Ideal)
    (m ((c : Thread nD τ).loc main_arg0)) (m ((c : Thread nD τ).loc main_arg1))
/-- The reference's decoded values over the kernel's arguments. -/
def G5 (c : Dev nD) : Buf (Elt Ideal) ((c : Thread nD τ).loc main_v49_2) := val_main_v142 (F := Ideal)
    (m ((c : Thread nD τ).loc main_arg0)) (m ((c : Thread nD τ).loc main_arg1)) (m ((c : Thread nD τ).loc main_arg2))

section Final

variable (c : Dev nD)
variable (hr : ∀ b col, InRange (rotA (m ((c : Thread nD τ).loc main_arg0)) (m ((c : Thread nD τ).loc main_arg1)) b col))
include hr

theorem flushed3_eq (t : Fin cfg0.N) : (dats m 0 c).flushed 3 t = ((cfg0.win 3).blk t).view.read (Elt Ideal) (G3 m c) := by
  rw [flushed3_A, out_codes]
  obtain ⟨-, -, -, -, -, -, e0, e1, -⟩ := idx_facts t
  have hN : t.val < 192 := lt_of_lt_of_eq t.isLt N_0
  funext y
  have y0 : (y 0).val < 512 := (y 0).isLt
  have y1 : (y 1).val < 512 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 512 + 1 * (y 1).val := rfl
  rw [e0] at hb0; rw [e1] at hb1
  have hk : (y 0).val / 128 < 4 := by omega
  have lT : 4 * (t.val / 12) + (y 0).val / 128 < 64 := by omega
  have lc : t.val % 12 * 512 + (y 1).val < 6144 := by omega
  show (blockCodes (iblk m c 0 t) (iblk m c 1 t) (iblk m c 2 t) ((cfg0.win 3).xinj (grid0.coords t) y) : BitVec 8) = G3 m c (((cfg0.win 3).blk t).view.emb y)
  rw [blockCodes_at _ _ _ _ hk ⟨(y 0).val % 128, by omega⟩ ⟨(y 1).val, y1⟩ _ (by show (y 0).val = 128 * ((y 0).val / 128) + (y 0).val % 128; omega) rfl]
  exact store_codes _ _ _ _ _ _ ⟨_, lT⟩ _ ⟨_, lc⟩ (tile_w m c t _ hk _ _ _ rfl rfl) (tile_h m c t _ hk _ rfl)
    (tile_r m c t _ hk _ _ _ rfl rfl) hr _ _ (by
      rw [hb0]; show _ = 128 * (4 * (t.val / 12) + (y 0).val / 128) + (y 0).val % 128; omega) (Fin.ext (by
      rw [hb1]; show _ = t.val % 12 * 512 + (y 1).val; omega))

theorem flushed4_eq (t : Fin cfg0.N) : (dats m 0 c).flushed 4 t = ((cfg0.win 4).blk t).view.read (Elt Ideal) (G4 m c) := by
  rw [flushed4_A]
  obtain ⟨-, -, -, -, -, -, -, -, e0, e1, -⟩ := idx_facts t
  have hN : t.val < 192 := lt_of_lt_of_eq t.isLt N_0
  funext y
  have y0 : (y 0).val < 32 := (y 0).isLt
  have y1 : (y 1).val < 512 := (y 1).isLt
  have hb0 : (((cfg0.win 4).blk t).view.emb y 0).val = win0_4.index t (0 : Fin 2) * 32 + 1 * (y 0).val := rfl
  have hb1 : (((cfg0.win 4).blk t).view.emb y 1).val = win0_4.index t (1 : Fin 2) * 512 + 1 * (y 1).val := rfl
  rw [e0] at hb0; rw [e1] at hb1
  have hk : (y 0).val / 8 < 4 := by omega
  have lT : 4 * (t.val / 12) + (y 0).val / 8 < 64 := by omega
  have lc : t.val % 12 * 512 + (y 1).val < 6144 := by omega
  refine (out_exp _ _ _ _ _ _ _ _ _ _ _ _ _ _ _ _ _ _ _ ((cfg0.win 4).xinj (grid0.coords t) y)).trans ?_
  show _ = G4 m c (((cfg0.win 4).blk t).view.emb y)
  rw [blockExp_at _ _ _ hk ⟨(y 0).val % 8, by omega⟩ ⟨(y 1).val, y1⟩ _ (by show (y 0).val = 8 * ((y 0).val / 8) + (y 0).val % 8; omega) rfl]
  exact store_exp _ _ _ _ ⟨_, lT⟩ _ ⟨_, lc⟩ (tile_w m c t _ hk _ _ _ rfl rfl) (tile_h m c t _ hk _ rfl)
    hr _ _ (by
      rw [hb0]; show _ = 8 * (4 * (t.val / 12) + (y 0).val / 8) + (y 0).val % 8; omega) (Fin.ext (by
      rw [hb1]; show _ = t.val % 12 * 512 + (y 1).val; omega))

theorem flushed5_eq (t : Fin cfg0.N) : (dats m 0 c).flushed 5 t = ((cfg0.win 5).blk t).view.read (Elt Ideal) (G5 m c) := by
  rw [flushed5_A, out_vals]
  obtain ⟨-, -, -, -, -, -, -, -, -, -, e0, e1⟩ := idx_facts t
  have hN : t.val < 192 := lt_of_lt_of_eq t.isLt N_0
  funext y
  have y0 : (y 0).val < 1024 := (y 0).isLt
  have y1 : (y 1).val < 512 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 512 + 1 * (y 1).val := rfl
  rw [e0] at hb0; rw [e1] at hb1
  have hk : (y 0).val / 256 < 4 := by omega
  have lT : 4 * (t.val / 12) + (y 0).val / 256 < 64 := by omega
  have lc : t.val % 12 * 512 + (y 1).val < 6144 := by omega
  show (blockVals (iblk m c 0 t) (iblk m c 1 t) (iblk m c 2 t) ((cfg0.win 5).xinj (grid0.coords t) y) : EReal) = G5 m c (((cfg0.win 5).blk t).view.emb y)
  rw [blockVals_at _ _ _ _ hk ⟨(y 0).val % 256, by omega⟩ ⟨(y 1).val, y1⟩ _ (by show (y 0).val = 256 * ((y 0).val / 256) + (y 0).val % 256; omega) rfl]
  exact store_vals _ _ _ _ _ _ ⟨_, lT⟩ _ ⟨_, lc⟩ (tile_w m c t _ hk _ _ _ rfl rfl) (tile_h m c t _ hk _ rfl)
    (tile_r m c t _ hk _ _ _ rfl rfl) hr _ _ (by
      rw [hb0]; show _ = 256 * (4 * (t.val / 12) + (y 0).val / 256) + (y 0).val % 256; omega) (Fin.ext (by
      rw [hb1]; show _ = t.val % 12 * 512 + (y 1).val; omega))

end Final

theorem mem_blk3 (t : Fin cfg0.N) (i : S8192x6144.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v49_0).slice (win0_3.rect t)).set ↔ _
  rw [View.set_slice_whole, Rect.mem_set_unit]
  exact Iff.rfl

theorem mem_blk4 (t : Fin cfg0.N) (i : S512x6144.Idx) :
    i ∈ ((cfg0.win 4).blk t).view.set ↔ ∀ a : Fin 2, win0_4.index t a * S32x512.size a ≤ (i a).val ∧ (i a).val < win0_4.index t a * S32x512.size a + S32x512.size a := by
  show i ∈ ((View.whole main_v49_1).slice (win0_4.rect t)).set ↔ _
  rw [View.set_slice_whole, Rect.mem_set_unit]
  exact Iff.rfl

theorem mem_blk5 (t : Fin cfg0.N) (i : S16384x6144.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v49_2).slice (win0_5.rect t)).set ↔ _
  rw [View.set_slice_whole, Rect.mem_set_unit]
  exact Iff.rfl

/-- Every index of the codes is in some point's block. -/
theorem covered3 (i : S8192x6144.Idx) : ∃ t : Fin cfg0.N, (cfg0.win 3).flush t = true ∧ i ∈ ((cfg0.win 3).blk t).view.set := by
  have h0 : (i 0).val < 8192 := (i 0).isLt
  have h1 : (i 1).val < 6144 := (i 1).isLt
  have hN : cfg0.N = 192 := N_0
  obtain ⟨t, ht⟩ : ∃ t : Fin cfg0.N, t.val = 12 * ((i 0).val / 512) + (i 1).val / 512 := ⟨⟨_, by omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- Every index of the exponents is in some point's block. -/
theorem covered4 (i : S512x6144.Idx) : ∃ t : Fin cfg0.N, (cfg0.win 4).flush t = true ∧ i ∈ ((cfg0.win 4).blk t).view.set := by
  have h0 : (i 0).val < 512 := (i 0).isLt
  have h1 : (i 1).val < 6144 := (i 1).isLt
  have hN : cfg0.N = 192 := N_0
  obtain ⟨t, ht⟩ : ∃ t : Fin cfg0.N, t.val = 12 * ((i 0).val / 32) + (i 1).val / 512 := ⟨⟨_, by omega⟩, rfl⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 512 ≤ (i 1).val ∧ (i 1).val < win0_4.index t (1 : Fin 2) * 512 + 512; omega

/-- Every index of the values is in some point's block. -/
theorem covered5 (i : S16384x6144.Idx) : ∃ t : Fin cfg0.N, (cfg0.win 5).flush t = true ∧ i ∈ ((cfg0.win 5).blk t).view.set := by
  have h0 : (i 0).val < 16384 := (i 0).isLt
  have h1 : (i 1).val < 6144 := (i 1).isLt
  have hN : cfg0.N = 192 := N_0
  obtain ⟨t, ht⟩ : ∃ t : Fin cfg0.N, t.val = 12 * ((i 0).val / 1024) + (i 1).val / 512 := ⟨⟨_, by omega⟩, rfl⟩
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

section Final

variable (c : Dev nD)
variable (hr : ∀ b col, InRange (rotA (m ((c : Thread nD τ).loc main_arg0)) (m ((c : Thread nD τ).loc main_arg1)) b col))
include hr

/-- The blocks tile each result array, so it ends as the reference's. -/
theorem final3 : (dats m 0 c).arrAt 3 cfg0.N = G3 m c := (dats m 0 c).arrAt_eq_of_cover 3 _ (fun t _ => flushed3_eq m c hr t) covered3
theorem final4 : (dats m 0 c).arrAt 4 cfg0.N = G4 m c := (dats m 0 c).arrAt_eq_of_cover 4 _ (fun t _ => flushed4_eq m c hr t) covered4
theorem final5 : (dats m 0 c).arrAt 5 cfg0.N = G5 m c := (dats m 0 c).arrAt_eq_of_cover 5 _ (fun t _ => flushed5_eq m c hr t) covered5

end Final

end Cert.WKernelIdeal.Value

end
-- ==== Proof.WClaims.lean ====
/-
  The claims about the quantiser of the weights, from its value theorem: the reference runs and leaves its arguments
  alone, and the kernel's three results over the reals are the reference's.
-/
module

public import proofs.«01_k».proof.Defs
public import proofs.«01_k».proof.Proof.WValue
public import proofs.«01_k».proof.Proof.Gen.WKernelIdeal
public import proofs.«01_k».proof.Proof.Gen.WReferenceIdeal

@[expose] public section

noncomputable section

namespace Cert.Proof

open Idealize.ShloMosaic Idealize.ShloMosaic.TcCoe Idealize.SL.Sem

/-- The shape relations the predicate states. -/
theorem range_facts : Cert.Pre_in_range_w.Facts where
  bitsLt_bf16_f32 := by decide
  bcast_S16384_S16384x1_0 := by decide
  bcast_S16384x1_S16384x6144_0_1 := by decide
  shapeCasts_S16384x6144_S512x1x32x6144 := by decide
  bcast_S32_S32x1_0 := by decide
  bcast_S32_S1x32_1 := by decide
  bcast_S32x1_S32x32_0_1 := by decide
  bcast_S1x32_S32x32_0_1 := by decide
  bcast_S_S32x32 := by decide
  bcast_S32x32_S1x32x32x1_1_2 := by decide
  bcast_S1x32x32x1_S512x32x32x6144_0_1_2_3 := by decide
  bcast_S512x1x32x6144_S512x32x32x6144_0_1_2_3 := by decide
  reducesTo_S512x32x32x6144_S512x32x6144_d2 := by decide
  h_S_ := by decide
  reducesTo_S512x32x6144_S512x6144_d1 := by decide
  bcast_S_S512x6144 := by decide

/-- The W reference runs, leaves its arguments as they were, and uses no semaphore. -/
theorem w_reference_frame : Cert.quiescent_WReferenceIdeal := fun m g _ =>
  (θ_run _ _ _).mono (fun _ h => ⟨fun c => (h c).2.2.2, Idealize.ShloMosaic.sem_eq_zero_of_no_sems (by decide) _⟩) (Cert.WReferenceIdeal.Value.run (F := Ideal) m g)

/-- From equal arguments in range the W kernel and its reference leave equal results, over the reals. -/
theorem w_algebraic : Cert.algebraic_WKernelIdeal_WReferenceIdeal_pre_in_range_w (hPre_in_range_w := range_facts) := fun m g m' g' hpre hagree =>
  have hr := fun c => @Cert.Pre_in_range_w.inRange_of_fn range_facts _ _ _ (hpre c)
  ⟨fun c => Cert.WKernelIdeal.Value.G3 m c, fun c => Cert.WKernelIdeal.Value.G4 m c, fun c => Cert.WKernelIdeal.Value.G5 m c,
    (θ_run _ _ _).mono (fun _ h c => ⟨(h c).1.trans (Cert.WKernelIdeal.Value.final3 m c (hr c)),
      (h c).2.1.trans (Cert.WKernelIdeal.Value.final4 m c (hr c)), (h c).2.2.1.trans (Cert.WKernelIdeal.Value.final5 m c (hr c)), (h c).2.2.2⟩)
      (Cert.WKernelIdeal.Value.run_blocks (F := Ideal) m g),
    (θ_run _ _ _).mono (fun _ h c => ⟨(h c).1.trans (by
        rw [Cert.WReferenceIdeal.Read.val_main_v139_eq]
        refine (congr (congrArg₂ _ ?_ ?_) ?_ : _ = Cert.WReferenceIdeal.Read.val_main_v139 (F := Ideal) _ _ _)
        · exact (hagree c).1
        · exact (hagree c).2.1
        · exact (hagree c).2.2),
      (h c).2.1.trans (by
        rw [Cert.WReferenceIdeal.Read.val_main_v144_eq]
        exact congrArg₂ (Cert.WReferenceIdeal.Read.val_main_v144 (F := Ideal)) (hagree c).1 (hagree c).2.1),
      (h c).2.2.1.trans (by
        rw [Cert.WReferenceIdeal.Read.val_main_v142_eq]
        refine (congr (congrArg₂ _ ?_ ?_) ?_ : _ = Cert.WReferenceIdeal.Read.val_main_v142 (F := Ideal) _ _ _)
        · exact (hagree c).1
        · exact (hagree c).2.1
        · exact (hagree c).2.2), (h c).2.2.2⟩) (Cert.WReferenceIdeal.Value.run (F := Ideal) m' g')⟩

end Cert.Proof

end
-- ==== Proof.XPay.lean ====
/-
  The arrays one trip of the quantiser's loop computes, read at an index as the scalar functions of QuantScalar and
  QuantBlock.
-/
module

public import proofs.«01_k».proof.Proof.Gen.XKernelIdeal.Skeleton
public import proofs.«01_k».proof.Proof.QuantBlock
public import Idealize.ShloMosaic.Lib.Pointwise

@[expose] public section

noncomputable section

open Idealize.ShloMosaic Idealize.ShloMosaic.TcCoe

namespace Cert.XKernelIdeal.Pay

open Cert.XKernelIdeal Cert.XKernelIdeal.Gen Cert.Quant

/-- One step of the search for the exponent field, on arrays. -/
def rungV {s : Shape} (x : FVec Ideal s .f32) (b e : IVec s 32) : IVec s 32 :=
  select (cmpf .oge x (bitcastToFloat .f32 (ori e b))) (ori e b) e

theorem rungV_apply {s : Shape} (x : FVec Ideal s .f32) (b e : IVec s 32) (i : s.Idx) : rungV x b e i = rung (x i) (b i) (e i) := rfl

abbrev bc (s : Shape) (k : BitVec 32) : IVec s 32 := broadcast s k

/-- The whole search, on arrays. -/
def fieldV {s : Shape} (x : FVec Ideal s .f32) : IVec s 32 :=
  rungV x (bc s 8388608#32) (rungV x (bc s 16777216#32) (rungV x (bc s 33554432#32) (rungV x (bc s 67108864#32) (rungV x (bc s 134217728#32)
    (rungV x (bc s 268435456#32) (rungV x (bc s 536870912#32) (rungV x (bc s 1073741824#32) (bc s 0#32))))))))

theorem fieldV_apply {s : Shape} (x : FVec Ideal s .f32) (i : s.Idx) : fieldV x i = field (x i) := by
  unfold fieldV field
  simp only [rungV_apply]
  rfl

/-! ## The operations at an index, over the reals -/

section At

variable {s : Shape} (i : s.Idx)

theorem select_at {α : Type} (c : IVec s 1) (a b : s.Idx → α) : select c a b i = Scalar.select (c i) (a i) (b i) := (Eq.refl _).trans (Eq.refl _)
theorem andi_at {w : Nat} (a b : IVec s w) : andi a b i = IntOp.andi (a i) (b i) := (Eq.refl _).trans (Eq.refl _)
theorem ori_at {w : Nat} (a b : IVec s w) : ori a b i = IntOp.ori (a i) (b i) := (Eq.refl _).trans (Eq.refl _)
theorem subi_at {w : Nat} (a b : IVec s w) : subi a b i = IntOp.subi (a i) (b i) := (Eq.refl _).trans (Eq.refl _)
theorem addi_at {w : Nat} (a b : IVec s w) : addi a b i = IntOp.addi (a i) (b i) := (Eq.refl _).trans (Eq.refl _)
theorem maxsi_at {w : Nat} (a b : IVec s w) : maxsi a b i = IntOp.maxsi (a i) (b i) := (Eq.refl _).trans (Eq.refl _)
theorem shrsi_at {w : Nat} (a b : IVec s w) : shrsi a b i = IntOp.shrsi .vector (a i) (b i) := (Eq.refl _).trans (Eq.refl _)
theorem shli_at {w : Nat} (a b : IVec s w) : shli a b i = IntOp.shli .vector (a i) (b i) := (Eq.refl _).trans (Eq.refl _)
theorem cmpi_at {w : Nat} (p : CmpIPredicate) (a b : IVec s w) : cmpi p a b i = IntOp.cmpi p (a i) (b i) := (Eq.refl _).trans (Eq.refl _)
theorem cmpf_at (p : CmpFPredicate) (a b : FVec Ideal s .f32) : cmpf p a b i = Ideal.cmp p (a i) (b i) := (Eq.refl _).trans (Eq.refl _)
theorem addf_at (a b : FVec Ideal s .f32) : addf a b i = ((a i + b i : EReal)) := (Eq.refl _).trans (Eq.refl _)
theorem subf_at (a b : FVec Ideal s .f32) : subf a b i = ((a i - b i : EReal)) := (Eq.refl _).trans (Eq.refl _)
theorem mulf_at (a b : FVec Ideal s .f32) : mulf a b i = ((a i * b i : EReal)) := (Eq.refl _).trans (Eq.refl _)
theorem absf_at (a : FVec Ideal s .f32) : absf a i = max (a i : EReal) (-(a i : EReal)) := (Eq.refl _).trans (Eq.refl _)
theorem maximumf_at (a b : FVec Ideal s .f32) : maximumf a b i = max (a i : EReal) (b i : EReal) := (Eq.refl _).trans (Eq.refl _)
theorem ceil_at (a : FVec Ideal s .f32) : ceil a i = Ideal.liftRound Int.ceil (a i) := (Eq.refl _).trans (Eq.refl _)
theorem fptosi_at (a : FVec Ideal s .f32) : fptosi 32 a i = Ideal.fptosi 32 (a i) := (Eq.refl _).trans (Eq.refl _)
theorem bits_at (a : IVec s 32) : (bitcastToFloat .f32 a : FVec Ideal s .f32) i = cst (a i) := (Eq.refl _).trans (Eq.refl _)
theorem bcast_at {α : Type} (a : α) : broadcast s a i = a := (Eq.refl _).trans (Eq.refl _)
theorem const_at (b : BitVec 32) : (constant s .f32 b : FVec Ideal s .f32) i = cst b := (Eq.refl _).trans (Eq.refl _)
theorem ofBits_at (b : BitVec 32) : (FloatOps.ofBits .f32 b : Ideal .f32) = cst b := (Eq.refl _).trans (Eq.refl _)

end At

variable (w : Vec Ideal S256x256 .bf16) (h : Vec Ideal S256x256 .bf16)

theorem pay19_eq : k0_pay19 (F := Ideal) (k0_pay16 w h) (k0_pay17 w h) k0_pay18 = fieldV (k0_pay16 (F := Ideal) w h) := by
  unfold k0_pay17 k0_pay18
  generalize k0_pay16 (F := Ideal) w h = x
  rfl

theorem pay38_eq (x : FVec Ideal S64x256 .f32) : k0_pay38 (F := Ideal) x 0#32 = maxsi (fieldV x) (bc _ 1065353216#32) := rfl

theorem pay32_eq (a : FVec Ideal S64x256 .f32) (s : FVec Ideal S8x1x256 .f32) :
    k0_pay32 (F := Ideal) (k0_pay28 a s) (k0_pay29 a s) (k0_pay30 a s) (k0_pay31 a s) = maxsi (fieldV (k0_pay28 (F := Ideal) a s)) (bc _ 1065353216#32) := by
  unfold k0_pay31 k0_pay30 k0_pay29
  generalize k0_pay28 (F := Ideal) a s = x
  rfl

theorem pay49_eq (a s : FVec Ideal S64x256 .f32) :
    k0_pay49 (F := Ideal) (k0_pay45 a s) (k0_pay46 a s) (k0_pay47 a s) (k0_pay48 a s) = maxsi (fieldV (k0_pay45 (F := Ideal) a s)) (bc _ 1065353216#32) := by
  unfold k0_pay48 k0_pay47 k0_pay46
  generalize k0_pay45 (F := Ideal) a s = x
  rfl

theorem pay60_eq (a s : FVec Ideal S64x256 .f32) :
    k0_pay60 (F := Ideal) (k0_pay56 a s) (k0_pay57 a s) (k0_pay58 a s) (k0_pay59 a s) = maxsi (fieldV (k0_pay56 (F := Ideal) a s)) (bc _ 1065353216#32) := by
  unfold k0_pay59 k0_pay58 k0_pay57
  generalize k0_pay56 (F := Ideal) a s = x
  rfl

/-! ## One element's code and value, for each of the four values of a word -/

/-- The value of an element: the number of spacings times the spacing, with the sign. -/
def valOf (s m u : EReal) (o : BitVec 32) : EReal :=
  kSteps m u * cst (IntOp.addi (kField m) o) * Scalar.select (Ideal.cmp .olt s (cst 0x00000000#32)) (cst 0xBF800000#32) (cst 0x3F800000#32)

theorem code0 (a : FVec Ideal S64x256 .f32) (s : FVec Ideal S8x1x256 .f32) (v R : FVec Ideal S64x256 .f32) (i : S64x256.Idx) :
    k0_pay35 (F := Ideal) v R (k0_pay28 a s) (k0_pay29 a s) (k0_pay30 a s) (k0_pay31 a s) i = signed (v i) (kIdx (k0_pay28 (F := Ideal) a s i) (uOf (R i))) := by
  unfold k0_pay35 k0_pay33
  rw [pay32_eq]
  generalize k0_pay28 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val0 (a : FVec Ideal S64x256 .f32) (s : FVec Ideal S8x1x256 .f32) (v R : FVec Ideal S64x256 .f32) (o : IVec S64x256 32) (i : S64x256.Idx) :
    k0_pay34 (F := Ideal) v o R (k0_pay28 a s) (k0_pay29 a s) (k0_pay30 a s) (k0_pay31 a s) i = valOf (v i) (k0_pay28 (F := Ideal) a s i) (uOf (R i)) (o i) := by
  unfold k0_pay34 k0_pay33
  rw [pay32_eq]
  generalize k0_pay28 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code1 (a s : FVec Ideal S64x256 .f32) (v R : FVec Ideal S64x256 .f32) (i : S64x256.Idx) :
    k0_pay43 (F := Ideal) v (k0_pay38 (k0_pay37 a s) 0#32) (k0_pay39 (k0_pay37 a s) 0#32) (k0_pay40 R) i = signed (v i) (kIdx (k0_pay37 (F := Ideal) a s i) (uOf (R i))) := by
  unfold k0_pay43 k0_pay41 k0_pay40 k0_pay39
  rw [pay38_eq]
  generalize k0_pay37 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val1 (a s : FVec Ideal S64x256 .f32) (v R : FVec Ideal S64x256 .f32) (o : IVec S64x256 32) (i : S64x256.Idx) :
    k0_pay42 (F := Ideal) v o (k0_pay38 (k0_pay37 a s) 0#32) (k0_pay39 (k0_pay37 a s) 0#32) (k0_pay40 R) i = valOf (v i) (k0_pay37 (F := Ideal) a s i) (uOf (R i)) (o i) := by
  unfold k0_pay42 k0_pay41 k0_pay40 k0_pay39
  rw [pay38_eq]
  generalize k0_pay37 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code2 (a s : FVec Ideal S64x256 .f32) (v R : FVec Ideal S64x256 .f32) (i : S64x256.Idx) :
    k0_pay54 (F := Ideal) v (k0_pay52 R (k0_pay45 a s) (k0_pay46 a s) (k0_pay47 a s) (k0_pay48 a s)) (k0_pay53 (k0_pay45 a s) (k0_pay46 a s) (k0_pay47 a s) (k0_pay48 a s)) i = signed (v i) (kIdx (k0_pay45 (F := Ideal) a s i) (uOf (R i))) := by
  unfold k0_pay54 k0_pay53 k0_pay52 k0_pay50
  rw [pay49_eq]
  generalize k0_pay45 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val2 (a s : FVec Ideal S64x256 .f32) (v R : FVec Ideal S64x256 .f32) (o : IVec S64x256 32) (i : S64x256.Idx) :
    k0_pay51 (F := Ideal) v o R (k0_pay45 a s) (k0_pay46 a s) (k0_pay47 a s) (k0_pay48 a s) i = valOf (v i) (k0_pay45 (F := Ideal) a s i) (uOf (R i)) (o i) := by
  unfold k0_pay51 k0_pay50
  rw [pay49_eq]
  generalize k0_pay45 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code3 (a s : FVec Ideal S64x256 .f32) (v R : FVec Ideal S64x256 .f32) (i : S64x256.Idx) :
    k0_pay63 (F := Ideal) v R (k0_pay56 a s) (k0_pay57 a s) (k0_pay58 a s) (k0_pay59 a s) i = signed (v i) (kIdx (k0_pay56 (F := Ideal) a s i) (uOf (R i))) := by
  unfold k0_pay63 k0_pay61
  rw [pay60_eq]
  generalize k0_pay56 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val3 (a s : FVec Ideal S64x256 .f32) (v R : FVec Ideal S64x256 .f32) (o : IVec S64x256 32) (i : S64x256.Idx) :
    k0_pay62 (F := Ideal) v o R (k0_pay56 a s) (k0_pay57 a s) (k0_pay58 a s) (k0_pay59 a s) i = valOf (v i) (k0_pay56 (F := Ideal) a s i) (uOf (R i)) (o i) := by
  unfold k0_pay62 k0_pay61
  rw [pay60_eq]
  generalize k0_pay56 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

end Cert.XKernelIdeal.Pay

end
-- ==== Proof.XLayout.lean ====
/-
  Where the arrays one trip of the quantiser's loop computes take their elements from: the product with the table, the
  block maximum, the per-block numbers spread over the block's rows, and the bytes of the random words.
-/
module

public import proofs.«01_k».proof.Proof.XPay
public import Idealize.ShloMosaic.Lib.Pipeline.Value
public import Idealize.ShloMosaic.Lib.BitcastFour

@[expose] public section

noncomputable section

open Idealize.ShloMosaic Idealize.ShloMosaic.TcCoe

namespace Cert.XKernelIdeal.Pay

open Cert.XKernelIdeal Cert.XKernelIdeal.Gen Cert.Quant

/-! ## The product with the table -/

/-- A row of the product of the table with the weights. -/
def prod (w : Vec Ideal S256x256 .bf16) (h : Vec Ideal S256x256 .bf16) (p : Fin 256) (l : Fin 256) : EReal :=
  ∑ k : Fin 256, h (ix2 p k) * w (ix2 k l)

theorem pay7_at (w : Vec Ideal S256x256 .bf16) (h : Vec Ideal S256x256 .bf16) (i : S256x256.Idx) : k0_pay7 w h i = prod w h (i 0) (i 1) := by
  unfold k0_pay7 prod
  simp only [pointwise, zero_add]

section Rows

variable (w : Vec Ideal S256x256 .bf16) (h : Vec Ideal S256x256 .bf16) (q : Fin 64) (l : Fin 256)

theorem pay8_at : k0_pay8 w h (ix2 q l) = prod w h ⟨0 + q.val, by omega⟩ l := by
  unfold k0_pay8
  refine (extractStridedSlice_apply _ _ _ (ix2 q l) (ix2 (⟨0 + q.val, by omega⟩ : Fin 256) l) ?_).trans (pay7_at w h _)
  intro a; fin_cases a
  · rfl
  · exact (Nat.zero_add _).symm

theorem pay9_at : k0_pay9 w h (ix2 q l) = prod w h ⟨64 + q.val, by omega⟩ l := by
  unfold k0_pay9
  refine (extractStridedSlice_apply _ _ _ (ix2 q l) (ix2 (⟨64 + q.val, by omega⟩ : Fin 256) l) ?_).trans (pay7_at w h _)
  intro a; fin_cases a
  · rfl
  · exact (Nat.zero_add _).symm

theorem pay10_at : k0_pay10 w h (ix2 q l) = prod w h ⟨128 + q.val, by omega⟩ l := by
  unfold k0_pay10
  refine (extractStridedSlice_apply _ _ _ (ix2 q l) (ix2 (⟨128 + q.val, by omega⟩ : Fin 256) l) ?_).trans (pay7_at w h _)
  intro a; fin_cases a
  · rfl
  · exact (Nat.zero_add _).symm

theorem pay11_at : k0_pay11 w h (ix2 q l) = prod w h ⟨192 + q.val, by omega⟩ l := by
  unfold k0_pay11
  refine (extractStridedSlice_apply _ _ _ (ix2 q l) (ix2 (⟨192 + q.val, by omega⟩ : Fin 256) l) ?_).trans (pay7_at w h _)
  intro a; fin_cases a
  · rfl
  · exact (Nat.zero_add _).symm

theorem pay12_at : k0_pay12 w h (ix2 q l) = max (prod w h ⟨0 + q.val, by omega⟩ l) (-prod w h ⟨0 + q.val, by omega⟩ l) := by
  unfold k0_pay12; rw [absf_at, pay8_at]
theorem pay13_at : k0_pay13 w h (ix2 q l) = max (prod w h ⟨64 + q.val, by omega⟩ l) (-prod w h ⟨64 + q.val, by omega⟩ l) := by
  unfold k0_pay13; rw [absf_at, pay9_at]
theorem pay14_at : k0_pay14 w h (ix2 q l) = max (prod w h ⟨128 + q.val, by omega⟩ l) (-prod w h ⟨128 + q.val, by omega⟩ l) := by
  unfold k0_pay14; rw [absf_at, pay10_at]
theorem pay15_at : k0_pay15 w h (ix2 q l) = max (prod w h ⟨192 + q.val, by omega⟩ l) (-prod w h ⟨192 + q.val, by omega⟩ l) := by
  unfold k0_pay15; rw [absf_at, pay11_at]

end Rows

/-- The magnitude of a row of the product. -/
def prodAbs (w : Vec Ideal S256x256 .bf16) (h : Vec Ideal S256x256 .bf16) (p : Fin 256) (l : Fin 256) : EReal :=
  max (prod w h p l) (-prod w h p l)

/-- The block maximum, before it is scaled. -/
def top (w : Vec Ideal S256x256 .bf16) (h : Vec Ideal S256x256 .bf16) (g : Fin 8) (l : Fin 256) : EReal :=
  (Finset.univ : Finset (Fin 8)).fold max (cst 0xFF800000#32) fun s =>
    max (max (prodAbs w h ⟨0 + (8 * g.val + s.val), by omega⟩ l) (prodAbs w h ⟨64 + (8 * g.val + s.val), by omega⟩ l))
      (max (prodAbs w h ⟨128 + (8 * g.val + s.val), by omega⟩ l) (prodAbs w h ⟨192 + (8 * g.val + s.val), by omega⟩ l))

theorem block_max (x : FVec Ideal S8x8x256 .f32) (hr : S8x8x256.Reduces [1] S8x256) (hf : FKind.Formats .f32)
    (hn : (0xFF800000#32 : BitVec 32) = FKind.maximumf.neutral .f32 hf) (g : Fin 8) (l : Fin 256) :
    multiReduction .maximumf [1] S8x256 x 0xFF800000#32 hr hf hn (ix2 g l)
      = (Finset.univ : Finset (Fin 8)).fold max (cst 0xFF800000#32) (fun s => x (ix3 g s l)) := by
  rw [multiReduction_maximumf_eq_fold, Shape.Reduces.fold_fiber_r3_a1]
  rfl

theorem pay16_at (w : Vec Ideal S256x256 .bf16) (h : Vec Ideal S256x256 .bf16) (g : Fin 8) (l : Fin 256) :
    k0_pay16 w h (ix3 g (0 : Fin 1) l) = top w h g l * vs := by
  unfold k0_pay16
  dsimp only
  rw [mulf_at]
  refine congrArg₂ (fun x y : EReal => x * y) ?_ rfl
  refine (shapeCast_apply _ _ (ix3 g (0 : Fin 1) l) (ix2 g l) (by
    rw [Shape.rowMajor_val_two, Shape.rowMajor_val_three]
    show g.val * 256 + l.val = (g.val * 1 + 0) * 256 + l.val
    omega)).trans ?_
  refine (block_max _ _ _ _ g l).trans ?_
  unfold top
  refine Finset.fold_congr fun s _ => ?_
  refine (shapeCast_apply _ _ _ (ix2 (⟨8 * g.val + s.val, by omega⟩ : Fin 64) l) (by
    rw [Shape.rowMajor_val_two, Shape.rowMajor_val_three]
    show (8 * g.val + s.val) * 256 + l.val = (g.val * 8 + s.val) * 256 + l.val
    omega)).trans ?_
  rw [maximumf_at, maximumf_at, maximumf_at, pay12_at, pay13_at, pay14_at, pay15_at]
  rfl

/-! ## Numbers of a block, spread over its rows -/

theorem spread {α : Type} (x : S8x1x256.Idx → α) (q : Fin 64) (l : Fin 256) :
    shapeCast S64x256 (broadcastTo S8x8x256 (shapeCast S8x1x256 x shapeCasts_S8x1x256_S8x1x256) broadcasts_S8x1x256_S8x8x256)
      shapeCasts_S8x8x256_S64x256 (ix2 q l) = x (ix3 (⟨q.val / 8, by omega⟩ : Fin 8) (0 : Fin 1) l) := by
  refine (shapeCast_apply _ _ (ix2 q l) (ix3 (⟨q.val / 8, by omega⟩ : Fin 8) (⟨q.val % 8, by omega⟩ : Fin 8) l) (by
    rw [Shape.rowMajor_val_two, Shape.rowMajor_val_three]
    show (q.val / 8 * 8 + q.val % 8) * 256 + l.val = q.val * 256 + l.val
    omega)).trans ?_
  refine (broadcastTo_apply _ _ _ (ix3 (⟨q.val / 8, by omega⟩ : Fin 8) (0 : Fin 1) l) ?_).trans ?_
  · intro a; fin_cases a <;> rfl
  · exact shapeCast_apply _ _ _ _ rfl

theorem pay24_at (x : FVec Ideal S8x1x256 .f32) (q : Fin 64) (l : Fin 256) :
    k0_pay24 x (ix2 q l) = x (ix3 (⟨q.val / 8, by omega⟩ : Fin 8) (0 : Fin 1) l) := by
  unfold k0_pay24; exact spread x q l

theorem pay25_at (x : IVec S8x1x256 32) (c : BitVec 32) (q : Fin 64) (l : Fin 256) :
    k0_pay25 x c (ix2 q l) = IntOp.subi (x (ix3 (⟨q.val / 8, by omega⟩ : Fin 8) (0 : Fin 1) l)) c := by
  unfold k0_pay25; exact spread (subi x (broadcast S8x1x256 c)) q l

/-- The exponent field of the scaled maximum, kept above the smallest normal one. -/
theorem pay20_at (w : Vec Ideal S256x256 .bf16) (h : Vec Ideal S256x256 .bf16) (i : S8x1x256.Idx) :
    k0_pay20 (k0_pay16 w h) (k0_pay17 w h) k0_pay18 i = kEb (k0_pay16 w h i) := by
  unfold k0_pay20
  rw [pay19_eq]
  generalize k0_pay16 w h = a
  rw [maxsi_at, fieldV_apply, bcast_at]
  unfold kEb
  with_reducible rfl

theorem pay21_at (w : Vec Ideal S256x256 .bf16) (h : Vec Ideal S256x256 .bf16) (i : S8x1x256.Idx) :
    k0_pay21 (k0_pay16 w h) (k0_pay17 w h) k0_pay18 i = kScale (k0_pay16 w h i) := by
  unfold k0_pay21
  rw [mulf_at, bits_at, subi_at, pay20_at, bcast_at, bcast_at, ofBits_at]
  generalize k0_pay16 w h = a
  unfold kScale vs
  with_reducible rfl

theorem pay23_at (w : Vec Ideal S256x256 .bf16) (h : Vec Ideal S256x256 .bf16) (i : S8x1x256.Idx) :
    k0_pay23 (k0_pay16 w h) (k0_pay17 w h) k0_pay18 i = IntOp.maxsi (kEb (k0_pay16 w h i)) 25165824#32 := by
  unfold k0_pay23
  rw [maxsi_at, pay20_at, bcast_at]

theorem pay22_at (w : Vec Ideal S256x256 .bf16) (h : Vec Ideal S256x256 .bf16) (i : S8x1x256.Idx) :
    k0_pay22 (k0_pay16 w h) (k0_pay17 w h) k0_pay18 i = kExp (k0_pay16 w h i) := by
  unfold k0_pay22
  rw [select_at, cmpi_at, subi_at, shrsi_at, pay20_at, pay19_eq]
  generalize k0_pay16 w h = a
  simp only [fieldV_apply, bcast_at]
  unfold kExp
  with_reducible rfl

/-! ## The random bytes -/

/-- A byte of a word, taken by a shift and a mask. -/
theorem word_byte (x : BitVec 32) (b : BitVec 8) (k : ℕ) (hk : k + 8 ≤ 32) (h : ∀ i < 8, x.getLsbD (k + i) = b.getLsbD i) :
    IntOp.andi (IntOp.shrsi .vector x (BitVec.ofNat 32 k)) 255#32 = b.setWidth 32 := by
  have hm : (BitVec.ofNat 32 k).toNat = k := by rw [BitVec.toNat_ofNat]; exact Nat.mod_eq_of_lt (by omega)
  have hs : IntOp.shrsi .vector x (BitVec.ofNat 32 k) = x.sshiftRight k := by
    unfold IntOp.shrsi; rw [if_pos (by rw [hm]; omega), BitVec.sshiftRight_eq', hm]
  rw [hs]
  apply BitVec.eq_of_getLsbD_eq
  intro i hi
  have h255 : (255#32 : BitVec 32).getLsbD i = decide (i < 8) := by
    interval_cases i <;> rfl
  simp only [IntOp.andi, BitVec.getLsbD_and, BitVec.getLsbD_setWidth, h255, BitVec.getLsbD_sshiftRight]
  by_cases h8 : i < 8
  · rw [if_pos (by omega), h i h8]; simp [h8, hi]
  · simp [h8, BitVec.getLsbD_of_ge b i (by omega)]

theorem sitofp_at {s : Shape} (i : s.Idx) (a : IVec s 32) : (sitofp .f32 a : FVec Ideal s .f32) i = (((a i).toInt : ℝ) : EReal) :=
  (Eq.refl _).trans (Eq.refl _)

/-- The number a random byte stands for. -/
def byteVal (b : BitVec 8) : EReal := (((b.setWidth 32).toInt : ℝ) : EReal)

section Bytes

variable (r : Vec Ideal S256x256 .i8) (q : Fin 64) (l : Fin 256)

theorem byte_at (k : ℕ) (j : ℕ) (hj : j < 4) (hk : k = 8 * j) :
    IntOp.andi (IntOp.shrsi .vector (k0_pay26 (F := Ideal) r (ix2 q l)) (BitVec.ofNat 32 k)) 255#32
      = (r (ix2 (⟨4 * q.val + j, by omega⟩ : Fin 256) l) : BitVec 8).setWidth 32 := by
  refine word_byte _ _ k (by omega) fun i hi => ?_
  unfold k0_pay26
  refine (bitcast_8_32_getLsbD_ix2 _ _ q l (k + i) (by omega) (⟨4 * q.val + j, by omega⟩ : Fin 256) ?_).trans ?_
  · show 4 * q.val + j = 4 * q.val + (k + i) / 8
    omega
  · rw [show (k + i) % 8 = i by omega]; rfl

theorem pay27_at : k0_pay27 (F := Ideal) r (ix2 q l) = byteVal (r (ix2 (⟨4 * q.val + 0, by omega⟩ : Fin 256) l)) := by
  unfold k0_pay27
  rw [sitofp_at, andi_at, shrsi_at, bcast_at, bcast_at]
  exact congrArg (fun b : BitVec 32 => (((b.toInt : ℝ)) : EReal)) (byte_at r q l 0 0 (by omega) rfl)

theorem pay36_at : k0_pay36 (F := Ideal) (k0_pay26 (F := Ideal) r) (ix2 q l) = byteVal (r (ix2 (⟨4 * q.val + 1, by omega⟩ : Fin 256) l)) := by
  unfold k0_pay36
  rw [sitofp_at, andi_at, shrsi_at, bcast_at, bcast_at]
  exact congrArg (fun b : BitVec 32 => (((b.toInt : ℝ)) : EReal)) (byte_at r q l 8 1 (by omega) rfl)

theorem pay44_at : k0_pay44 (F := Ideal) (k0_pay26 (F := Ideal) r) (ix2 q l) = byteVal (r (ix2 (⟨4 * q.val + 2, by omega⟩ : Fin 256) l)) := by
  unfold k0_pay44
  rw [sitofp_at, andi_at, shrsi_at, bcast_at, bcast_at]
  exact congrArg (fun b : BitVec 32 => (((b.toInt : ℝ)) : EReal)) (byte_at r q l 16 2 (by omega) rfl)

theorem pay55_at : k0_pay55 (F := Ideal) (k0_pay26 (F := Ideal) r) (ix2 q l) = byteVal (r (ix2 (⟨4 * q.val + 3, by omega⟩ : Fin 256) l)) := by
  unfold k0_pay55
  rw [sitofp_at, andi_at, shrsi_at, bcast_at, bcast_at]
  exact congrArg (fun b : BitVec 32 => (((b.toInt : ℝ)) : EReal)) (byte_at r q l 24 3 (by omega) rfl)

end Bytes

/-! ## Packing the codes -/

theorem shli_lit (u : ArithUnit) (x : BitVec 32) (k : ℕ) (hk : k < 32) : IntOp.shli u x (BitVec.ofNat 32 k) = x <<< k := by
  have hm : (BitVec.ofNat 32 k).toNat = k := by rw [BitVec.toNat_ofNat]; exact Nat.mod_eq_of_lt (by omega)
  unfold IntOp.shli; rw [if_pos (by rw [hm]; omega), BitVec.shiftLeft_eq', hm]

theorem nib_high (n : BitVec 32) (h : n.toNat < 16) (i : ℕ) (hi : 4 ≤ i) : n.getLsbD i = false := by
  rw [BitVec.getLsbD]
  exact Nat.testBit_lt_two_pow (lt_of_lt_of_le h (by calc 16 = 2 ^ 4 := rfl
    _ ≤ 2 ^ i := Nat.pow_le_pow_right (by omega) hi))

/-- The half word a row of codes is packed into. -/
def half (n0 n1 n2 n3 : BitVec 32) : BitVec 32 :=
  IntOp.ori (IntOp.ori (IntOp.ori n0 (IntOp.shli .vector n1 4#32)) (IntOp.shli .vector n2 8#32)) (IntOp.shli .vector n3 12#32)

/-- The byte of two codes. -/
def pair (n0 n1 : BitVec 32) : BitVec 8 := (IntOp.ori n0 (IntOp.shli .host n1 4#32)).setWidth 8

theorem half_lo (n0 n1 n2 n3 : BitVec 32) (i : ℕ) (hi : i < 8) : (half n0 n1 n2 n3).getLsbD i = (pair n0 n1).getLsbD i := by
  unfold half pair
  rw [shli_lit _ _ 4 (by omega), shli_lit _ _ 8 (by omega), shli_lit _ _ 12 (by omega), shli_lit _ _ 4 (by omega)]
  simp only [IntOp.ori, BitVec.getLsbD_or, BitVec.getLsbD_shiftLeft, BitVec.getLsbD_setWidth]
  simp [hi, show i < 32 by omega, show i < 12 by omega]

theorem half_hi (n0 n1 n2 n3 : BitVec 32) (h0 : n0.toNat < 16) (h1 : n1.toNat < 16) (i : ℕ) (hi : i < 8) :
    (half n0 n1 n2 n3).getLsbD (8 + i) = (pair n2 n3).getLsbD i := by
  unfold half pair
  rw [shli_lit _ _ 4 (by omega), shli_lit _ _ 8 (by omega), shli_lit _ _ 12 (by omega), shli_lit _ _ 4 (by omega)]
  simp only [IntOp.ori, BitVec.getLsbD_or, BitVec.getLsbD_shiftLeft, BitVec.getLsbD_setWidth, nib_high n0 h0 (8 + i) (by omega),
    nib_high n1 h1 (8 + i - 4) (by omega)]
  rw [show 8 + i - 8 = i by omega, show 8 + i - 12 = i - 4 by omega]
  have e : decide (8 + i < 12) = decide (i < 4) := by rw [decide_eq_decide]; omega
  rw [e]
  simp [hi, show i < 32 by omega, show 8 + i < 32 by omega]

theorem pay1_bit (n0 n1 n2 n3 : IVec S64x256 32) (R : Fin 128) (l : Fin 256) (i : ℕ) (hi : i < 8) :
    (k0_pay1 n0 n2 n3 (k0_pay64 n1) (ix2 R l)).getLsbD i
      = (half (n0 (ix2 (⟨R.val / 2, by omega⟩ : Fin 64) l)) (n1 (ix2 (⟨R.val / 2, by omega⟩ : Fin 64) l)) (n2 (ix2 (⟨R.val / 2, by omega⟩ : Fin 64) l))
          (n3 (ix2 (⟨R.val / 2, by omega⟩ : Fin 64) l))).getLsbD (8 * (R.val % 2) + i) := by
  unfold k0_pay1 k0_pay64
  dsimp only
  have hrow : S128x256.row (ix2 R l) = R.val := rfl
  refine (bitcast_getLsbD _ _ _ i hi (by decide)).trans ?_
  have e1 : ∀ p hp, Shape.Bitcasts.srcIdx bitcasts_S32x256_w32_S128x256_w8 (ix2 R l) p hp = ix2 (⟨p, hp 0 rfl⟩ : Fin 32) l := by
    intro p hp; funext a
    match a with
    | ⟨0, _⟩ => rfl
    | ⟨1, _⟩ => rfl
  rw [e1, bitcast_getLsbD _ _ _ _ (Nat.mod_lt _ (by decide)) (by decide)]
  have e2 : ∀ (P : Fin 32) p hp, Shape.Bitcasts.srcIdx bitcasts_S64x256_w16_S32x256_w32 (ix2 P l) p hp = ix2 (⟨p, hp 0 rfl⟩ : Fin 64) l := by
    intro P p hp; funext a
    match a with
    | ⟨0, _⟩ => rfl
    | ⟨1, _⟩ => rfl
  rw [e2]
  have hr2 : ∀ P : Fin 32, S32x256.row (ix2 P l) = P.val := fun _ => rfl
  simp only [hrow, hr2]
  have hR : ∀ (x y : ℕ) hx hy, x = y → (ix2 (⟨x, hx⟩ : Fin 64) l : S64x256.Idx) = ix2 (⟨y, hy⟩ : Fin 64) l := by
    intro x y hx hy e; subst e; rfl
  rw [hR _ (R.val / 2) _ (by omega) (by omega), show ((R.val * 8 + i) / 32 * 32 + (R.val * 8 + i) % 32) % 16 = 8 * (R.val % 2) + i by omega]
  show (BitVec.setWidth 16 _).getLsbD _ = _
  rw [BitVec.getLsbD_setWidth]
  simp only [show 8 * (R.val % 2) + i < 16 by omega, decide_true, Bool.true_and]
  rfl

theorem pay1_at (n0 n1 n2 n3 : IVec S64x256 32) (R : Fin 128) (l : Fin 256) (q : Fin 64) (hq : q.val = R.val / 2)
    (h0 : (n0 (ix2 q l)).toNat < 16) (h1 : (n1 (ix2 q l)).toNat < 16) :
    k0_pay1 n0 n2 n3 (k0_pay64 n1) (ix2 R l) = if R.val % 2 = 0 then pair (n0 (ix2 q l)) (n1 (ix2 q l)) else pair (n2 (ix2 q l)) (n3 (ix2 q l)) := by
  have eq : (⟨R.val / 2, by omega⟩ : Fin 64) = q := Fin.ext hq.symm
  apply BitVec.eq_of_getLsbD_eq
  intro i hi
  rw [pay1_bit _ _ _ _ _ _ _ hi, eq]
  by_cases hR : R.val % 2 = 0
  · rw [if_pos hR, hR, show 8 * 0 + i = i by omega]; exact half_lo _ _ _ _ i hi
  · rw [if_neg hR, show R.val % 2 = 1 by omega]; exact half_hi _ _ _ _ h0 h1 i hi

/-! ## The decoded values and the exponents -/

theorem pay3_at (x : IVec S8x1x256 32) (g : Fin 8) (l : Fin 256) : k0_pay3 x (ix2 g l) = x (ix3 g (0 : Fin 1) l) := by
  unfold k0_pay3
  refine (shapeCast_apply _ _ (ix2 g l) (ix2 g l) rfl).trans ?_
  exact shapeCast_apply _ _ (ix2 g l) (ix3 g (0 : Fin 1) l) (by
    rw [Shape.rowMajor_val_two, Shape.rowMajor_val_three]
    show (g.val * 1 + 0) * 256 + l.val = g.val * 256 + l.val
    omega)

section Vals

variable (x0 x1 x2 x3 : FVec Ideal S64x256 .f32) (q : Fin 64) (l : Fin 256)

theorem truncf_at {s : Shape} (i : s.Idx) (x : FVec Ideal s .f32) : (truncf .bf16 x bitsLt_bf16_f32 : FVec Ideal s .bf16) i = (x i : EReal) :=
  (Eq.refl _).trans (Eq.refl _)

theorem piece (k : ℕ) (hk : k < 4) (x : FVec Ideal S64x256 .f32)
    (hx : ([⟨S64x256, x0⟩, ⟨S64x256, x2⟩, ⟨S64x256, x1⟩, ⟨S64x256, x3⟩] : List ((s : Shape) × (s.Idx → EReal)))[k]'hk = ⟨S64x256, x⟩) :
    k0_pay2 x0 x1 x2 x3 (ix2 (⟨64 * k + q.val, by omega⟩ : Fin 256) l) = x (ix2 q l) := by
  unfold k0_pay2
  rw [truncf_at]
  refine concatenate_apply_piece (t := S256x256) 0 [⟨S64x256, x0⟩, ⟨S64x256, x2⟩, ⟨S64x256, x1⟩, ⟨S64x256, x3⟩] _ _ k hk S64x256 x hx rfl (64 * k) ?_ (ix2 q l) ?_ ?_
  · interval_cases k <;> rfl
  · intro b hb; fin_cases b
    · exact absurd rfl hb
    · rfl
  · rfl

end Vals

end Cert.XKernelIdeal.Pay

end
-- ==== Proof.XTile.lean ====
/-
  What one trip of the quantiser's loop stores, element by element, from its tile of the weights, of the table and of
  the random bytes.
-/
module

public import proofs.«01_k».proof.Proof.XLayout

@[expose] public section

noncomputable section

open Idealize.ShloMosaic Idealize.ShloMosaic.TcCoe

namespace Cert.XKernelIdeal.Pay

open Cert.XKernelIdeal Cert.XKernelIdeal.Gen Cert.Quant

variable (w : Vec Ideal S256x256 .bf16) (h : Vec Ideal S256x256 .bf16) (r : Vec Ideal S256x256 .i8)

/-- The scaled maximum of the block of a row. -/
def tileMax (q : Fin 64) (l : Fin 256) : EReal := top w h ⟨q.val / 8, by omega⟩ l * vs

/-- The random number of an element. -/
def tileU (p : Fin 256) (l : Fin 256) : EReal := uOf (byteVal (r (ix2 p l)))

/-- The scaled magnitude of an element. -/
def tileMag (j : Fin 4) (q : Fin 64) (l : Fin 256) : EReal :=
  prodAbs w h ⟨64 * j.val + q.val, by omega⟩ l * kScale (tileMax w h q l)

/-- The code of an element. -/
def tileCode (j : Fin 4) (q : Fin 64) (l : Fin 256) : BitVec 32 :=
  signed (prod w h ⟨64 * j.val + q.val, by omega⟩ l) (kIdx (tileMag w h j q l) (tileU r ⟨4 * q.val + j.val, by omega⟩ l))

/-- The decoded value of an element. -/
def tileVal (j : Fin 4) (q : Fin 64) (l : Fin 256) : EReal :=
  kVal (prod w h ⟨64 * j.val + q.val, by omega⟩ l) (tileMag w h j q l) (tileU r ⟨4 * q.val + j.val, by omega⟩ l) (tileMax w h q l)

/-! ## The words of a trip -/

abbrev wScale : FVec Ideal S8x1x256 .f32 := k0_pay21 (k0_pay16 w h) (k0_pay17 w h) k0_pay18
abbrev wSpread : FVec Ideal S64x256 .f32 := k0_pay24 (wScale w h)
abbrev wOff : IVec S64x256 32 := k0_pay25 (k0_pay23 (k0_pay16 w h) (k0_pay17 w h) k0_pay18) 1090519040#32

theorem wSpread_at (q : Fin 64) (l : Fin 256) : wSpread w h (ix2 q l) = kScale (tileMax w h q l) := by
  rw [wSpread, pay24_at, wScale, pay21_at, pay16_at]; rfl

theorem wOff_at (q : Fin 64) (l : Fin 256) : wOff w h (ix2 q l) = kOff (tileMax w h q l) := by
  rw [wOff, pay25_at, pay23_at, pay16_at]; rfl

theorem mag0 (q : Fin 64) (l : Fin 256) : k0_pay28 (k0_pay12 w h) (wScale w h) (ix2 q l) = tileMag w h 0 q l := by
  unfold k0_pay28; rw [mulf_at, pay12_at, show k0_pay24 (wScale w h) (ix2 q l) = _ from wSpread_at w h q l]; rfl
theorem mag1 (q : Fin 64) (l : Fin 256) : k0_pay37 (k0_pay13 w h) (wSpread w h) (ix2 q l) = tileMag w h 1 q l := by
  unfold k0_pay37; rw [mulf_at, pay13_at, wSpread_at]; rfl
theorem mag2 (q : Fin 64) (l : Fin 256) : k0_pay45 (k0_pay14 w h) (wSpread w h) (ix2 q l) = tileMag w h 2 q l := by
  unfold k0_pay45; rw [mulf_at, pay14_at, wSpread_at]; rfl
theorem mag3 (q : Fin 64) (l : Fin 256) : k0_pay56 (k0_pay15 w h) (wSpread w h) (ix2 q l) = tileMag w h 3 q l := by
  unfold k0_pay56; rw [mulf_at, pay15_at, wSpread_at]; rfl

theorem kVal_eq (s m u a : EReal) : valOf s m u (kOff a) = kVal s m u a := rfl

abbrev wCode0 : IVec S64x256 32 := k0_pay35 (k0_pay8 w h) (k0_pay27 r) (k0_pay28 (k0_pay12 w h) (wScale w h))
  (k0_pay29 (k0_pay12 w h) (wScale w h)) (k0_pay30 (k0_pay12 w h) (wScale w h)) (k0_pay31 (k0_pay12 w h) (wScale w h))
abbrev wVal0 : FVec Ideal S64x256 .f32 := k0_pay34 (k0_pay8 w h) (wOff w h) (k0_pay27 r) (k0_pay28 (k0_pay12 w h) (wScale w h))
  (k0_pay29 (k0_pay12 w h) (wScale w h)) (k0_pay30 (k0_pay12 w h) (wScale w h)) (k0_pay31 (k0_pay12 w h) (wScale w h))
abbrev wMag1 : FVec Ideal S64x256 .f32 := k0_pay37 (k0_pay13 w h) (wSpread w h)
abbrev wCode1 : IVec S64x256 32 := k0_pay43 (k0_pay9 w h) (k0_pay38 (wMag1 w h) 0#32) (k0_pay39 (wMag1 w h) 0#32) (k0_pay40 (k0_pay36 (k0_pay26 (F := Ideal) r)))
abbrev wVal1 : FVec Ideal S64x256 .f32 := k0_pay42 (k0_pay9 w h) (wOff w h) (k0_pay38 (wMag1 w h) 0#32) (k0_pay39 (wMag1 w h) 0#32)
  (k0_pay40 (k0_pay36 (k0_pay26 (F := Ideal) r)))
abbrev wCode2 : IVec S64x256 32 := k0_pay54 (k0_pay10 w h)
  (k0_pay52 (k0_pay44 (k0_pay26 (F := Ideal) r)) (k0_pay45 (k0_pay14 w h) (wSpread w h)) (k0_pay46 (k0_pay14 w h) (wSpread w h)) (k0_pay47 (k0_pay14 w h) (wSpread w h)) (k0_pay48 (k0_pay14 w h) (wSpread w h)))
  (k0_pay53 (k0_pay45 (k0_pay14 w h) (wSpread w h)) (k0_pay46 (k0_pay14 w h) (wSpread w h)) (k0_pay47 (k0_pay14 w h) (wSpread w h)) (k0_pay48 (k0_pay14 w h) (wSpread w h)))
abbrev wVal2 : FVec Ideal S64x256 .f32 := k0_pay51 (k0_pay10 w h) (wOff w h)
  (k0_pay44 (k0_pay26 (F := Ideal) r)) (k0_pay45 (k0_pay14 w h) (wSpread w h)) (k0_pay46 (k0_pay14 w h) (wSpread w h)) (k0_pay47 (k0_pay14 w h) (wSpread w h)) (k0_pay48 (k0_pay14 w h) (wSpread w h))
abbrev wCode3 : IVec S64x256 32 := k0_pay63 (k0_pay11 w h) (k0_pay55 (k0_pay26 (F := Ideal) r)) (k0_pay56 (k0_pay15 w h) (wSpread w h))
  (k0_pay57 (k0_pay15 w h) (wSpread w h)) (k0_pay58 (k0_pay15 w h) (wSpread w h)) (k0_pay59 (k0_pay15 w h) (wSpread w h))
abbrev wVal3 : FVec Ideal S64x256 .f32 := k0_pay62 (k0_pay11 w h) (wOff w h) (k0_pay55 (k0_pay26 (F := Ideal) r)) (k0_pay56 (k0_pay15 w h) (wSpread w h))
  (k0_pay57 (k0_pay15 w h) (wSpread w h)) (k0_pay58 (k0_pay15 w h) (wSpread w h)) (k0_pay59 (k0_pay15 w h) (wSpread w h))

theorem wCode0_at (q : Fin 64) (l : Fin 256) : wCode0 w h r (ix2 q l) = tileCode w h r 0 q l := by
  rw [wCode0, code0, mag0, pay8_at, pay27_at]; rfl
theorem wVal0_at (q : Fin 64) (l : Fin 256) : wVal0 w h r (ix2 q l) = tileVal w h r 0 q l := by
  rw [wVal0, val0, mag0, pay8_at, pay27_at, wOff_at, kVal_eq]; rfl
theorem wCode1_at (q : Fin 64) (l : Fin 256) : wCode1 w h r (ix2 q l) = tileCode w h r 1 q l := by
  rw [wCode1, code1, mag1, pay9_at, pay36_at]; rfl
theorem wVal1_at (q : Fin 64) (l : Fin 256) : wVal1 w h r (ix2 q l) = tileVal w h r 1 q l := by
  rw [wVal1, val1, mag1, pay9_at, pay36_at, wOff_at, kVal_eq]; rfl
theorem wCode2_at (q : Fin 64) (l : Fin 256) : wCode2 w h r (ix2 q l) = tileCode w h r 2 q l := by
  rw [wCode2, code2, mag2, pay10_at, pay44_at]; rfl
theorem wVal2_at (q : Fin 64) (l : Fin 256) : wVal2 w h r (ix2 q l) = tileVal w h r 2 q l := by
  rw [wVal2, val2, mag2, pay10_at, pay44_at, wOff_at, kVal_eq]; rfl
theorem wCode3_at (q : Fin 64) (l : Fin 256) : wCode3 w h r (ix2 q l) = tileCode w h r 3 q l := by
  rw [wCode3, code3, mag3, pay11_at, pay55_at]; rfl
theorem wVal3_at (q : Fin 64) (l : Fin 256) : wVal3 w h r (ix2 q l) = tileVal w h r 3 q l := by
  rw [wVal3, val3, mag3, pay11_at, pay55_at, wOff_at, kVal_eq]; rfl

/-! ## The three stores -/

/-- The packed codes a trip stores. -/
def storeCodes : IVec S128x256 8 := k0_pay1 (wCode0 w h r) (wCode2 w h r) (wCode3 w h r) (k0_pay64 (wCode1 w h r))
/-- The decoded values a trip stores. -/
def storeVals : FVec Ideal S256x256 .bf16 := k0_pay2 (wVal0 w h r) (wVal1 w h r) (wVal2 w h r) (wVal3 w h r)
/-- The exponents a trip stores. -/
def storeExp : IVec S8x256 32 := k0_pay3 (k0_pay22 (k0_pay16 w h) (k0_pay17 w h) k0_pay18)

theorem storeCodes_at (R : Fin 128) (l : Fin 256) (q : Fin 64) (hq : q.val = R.val / 2) (h0 : (tileCode w h r 0 q l).toNat < 16)
    (h1 : (tileCode w h r 1 q l).toNat < 16) :
    storeCodes w h r (ix2 R l) = if R.val % 2 = 0 then pair (tileCode w h r 0 q l) (tileCode w h r 1 q l)
      else pair (tileCode w h r 2 q l) (tileCode w h r 3 q l) := by
  unfold storeCodes
  rw [pay1_at _ _ _ _ R l q hq (by rw [wCode0_at]; exact h0) (by rw [wCode1_at]; exact h1), wCode0_at, wCode1_at, wCode2_at, wCode3_at]

theorem storeVals_at0 (q : Fin 64) (l : Fin 256) : storeVals w h r (ix2 (⟨64 * 0 + q.val, by omega⟩ : Fin 256) l) = tileVal w h r 0 q l := by
  unfold storeVals; rw [piece _ _ _ _ q l 0 (by omega) _ rfl, wVal0_at]
theorem storeVals_at1 (q : Fin 64) (l : Fin 256) : storeVals w h r (ix2 (⟨64 * 1 + q.val, by omega⟩ : Fin 256) l) = tileVal w h r 2 q l := by
  unfold storeVals; rw [piece _ _ _ _ q l 1 (by omega) _ rfl, wVal2_at]
theorem storeVals_at2 (q : Fin 64) (l : Fin 256) : storeVals w h r (ix2 (⟨64 * 2 + q.val, by omega⟩ : Fin 256) l) = tileVal w h r 1 q l := by
  unfold storeVals; rw [piece _ _ _ _ q l 2 (by omega) _ rfl, wVal1_at]
theorem storeVals_at3 (q : Fin 64) (l : Fin 256) : storeVals w h r (ix2 (⟨64 * 3 + q.val, by omega⟩ : Fin 256) l) = tileVal w h r 3 q l := by
  unfold storeVals; rw [piece _ _ _ _ q l 3 (by omega) _ rfl, wVal3_at]

/-- The decoded values: the rows come in the order 0, 2, 1, 3 of their place in a group of four. -/
theorem storeVals_at (p k : ℕ) (hp : p < 2) (hk : k < 2) (q : Fin 64) (l : Fin 256) :
    storeVals w h r (ix2 (⟨128 * p + 64 * k + q.val, by omega⟩ : Fin 256) l) = tileVal w h r ⟨2 * k + p, by omega⟩ q l := by
  interval_cases p <;> interval_cases k
  · exact storeVals_at0 w h r q l
  · exact storeVals_at1 w h r q l
  · exact storeVals_at2 w h r q l
  · exact storeVals_at3 w h r q l

theorem storeExp_at (g : Fin 8) (l : Fin 256) : storeExp w h (ix2 g l) = kExp (top w h g l * vs) := by
  unfold storeExp; rw [pay3_at, pay22_at, pay16_at]

end Cert.XKernelIdeal.Pay

end
-- ==== Proof.XBlock.lean ====
/-
  What the quantiser's loop leaves in its three arrays: every trip stores its tile of packed codes, decoded values and
  exponents, so an element is the one the trip of its tile stores.
-/
module

public import proofs.«01_k».proof.Proof.XTile
public import proofs.«01_k».proof.Proof.Gen.XKernelIdeal.Value
public import Idealize.ShloMosaic.Lib.Tactic
public import Idealize.ShloMosaic.Lib.Pipeline.ValueKit.Tiles

@[expose] public section

noncomputable section

open Idealize.ShloMosaic Idealize.ShloMosaic.TcCoe Idealize.SL.Sem

namespace Cert.XKernelIdeal.Pay

open Cert.XKernelIdeal Cert.XKernelIdeal.Gen Cert.Quant

/-! ## The tiles of a block -/

/-- Trip `k`'s tile of the weights or of the random bytes. -/
def tileOf {e : EltTy} (x : Vec Ideal S3840x256 e) (k : ℕ) (hk : k < 15) : Vec Ideal S256x256 e := fun j =>
  x (ix2 (⟨256 * k + (j 0).val, by have h : (j 0).val < 256 := (j 0).isLt; omega⟩ : Fin 3840) (⟨(j 1).val, (j 1).isLt⟩ : Fin 256))

/-- Trip `k`'s tile of the table. -/
def tabOf (x : Vec Ideal S3840x256 .bf16) (k : ℕ) (hk : k < 15) : Vec Ideal S256x256 .bf16 := fun j =>
  x (ix2 (⟨256 * k + (j 0).val, by have h : (j 0).val < 256 := (j 0).isLt; omega⟩ : Fin 3840) (⟨(j 1).val, (j 1).isLt⟩ : Fin 256))

theorem trips_eq : k0_t1_loop.trips = 15 := by decide +kernel
theorem trip_lt (k : Fin k0_t1_loop.trips) : k.val < 15 := lt_of_lt_of_eq k.isLt trips_eq
theorem off1 : ∀ k : Fin k0_t1_loop.trips, k0_off1 k = ![256 * k.val, 0] := by decide +kernel
theorem off2 : ∀ k : Fin k0_t1_loop.trips, k0_off2 k = ![128 * k.val, 0] := by decide +kernel
theorem off3 : ∀ k : Fin k0_t1_loop.trips, k0_off3 k = ![8 * k.val, 0] := by decide +kernel

theorem ld_tile {e : EltTy} (x : Vec Ideal S3840x256 e) (k : Fin k0_t1_loop.trips) (inb : ∀ a, k0_off1 k a + S256x256.size a ≤ S3840x256.size a) :
    View.ld x (Rect.unit (k0_off1 k) S256x256.size inb) = tileOf x k.val (trip_lt k) := by
  funext j
  refine View.ld_unit_apply_of x _ _ _ _ _ ?_
  intro a
  refine Eq.trans ?_ (congrArg (fun n : ℕ => n + (j a).val) (congrFun (off1 k) a).symm)
  fin_cases a
  · rfl
  · exact (Nat.zero_add _).symm

theorem ld_tab (x : Vec Ideal S3840x256 .bf16) (k : Fin k0_t1_loop.trips) (inb : ∀ a, k0_off1 k a + S256x256.size a ≤ S3840x256.size a) :
    View.ld x (Rect.unit (k0_off1 k) S256x256.size inb) = tabOf x k.val (trip_lt k) := by
  funext j
  refine View.ld_unit_apply_of x _ _ _ _ _ ?_
  intro a
  refine Eq.trans ?_ (congrArg (fun n : ℕ => n + (j a).val) (congrFun (off1 k) a).symm)
  fin_cases a
  · rfl
  · exact (Nat.zero_add _).symm

/-! ## The stores of a trip -/

section Trip

variable (𝒱 : Variants) (c : Dev nD) (bd : Option 𝒱.V) (i : grid0.Coords) (arg1 : Memref sig .tc .vmem S3840x256 .bf16) (harg1 : arg1.IsWhole) (arg2 : Memref sig .tc .vmem S3840x256 .i8) (harg2 : arg2.IsWhole) (arg3 : Memref sig .tc .vmem S3840x256 .bf16) (harg3 : arg3.IsWhole)
  (arg4 : Memref sig .tc .vmem S1920x256 .i8) (harg4 : arg4.IsWhole) (arg5 : Memref sig .tc .vmem S3x40x256 .i8) (harg5 : arg5.IsWhole) (arg6 : Memref sig .tc .vmem S3840x256 .bf16) (harg6 : arg6.IsWhole)
  (arg7 : Memref sig .tc .vmem S120x256 .i32) (harg7 : arg7.IsWhole)
  (X0 : BufTy.Contents (Elt Ideal) arg1.view.ty) (X1 : BufTy.Contents (Elt Ideal) arg2.view.ty) (X2 : BufTy.Contents (Elt Ideal) arg3.view.ty)

/-- The tiles a trip loads. -/
abbrev loadW (k : Fin k0_t1_loop.trips) : Vec Ideal S256x256 .bf16 :=
  View.readAt (Elt Ideal) arg1.view (Rect.unit (s := S3840x256) (k0_off1 k) S256x256.size (k0_off1_inb k)).toLoadRect X0
abbrev loadR (k : Fin k0_t1_loop.trips) : Vec Ideal S256x256 .i8 :=
  View.readAt (Elt Ideal) arg2.view (Rect.unit (s := S3840x256) (k0_off1 k) S256x256.size (k0_off1_inb k)).toLoadRect X1
abbrev loadH (k : Fin k0_t1_loop.trips) : Vec Ideal S256x256 .bf16 :=
  View.readAt (Elt Ideal) arg3.view (Rect.unit (s := S3840x256) (k0_off1 k) S256x256.size (k0_off1_inb k)).toLoadRect X2

theorem trip_codes (k : Fin k0_t1_loop.trips) :
    (tripL_k0_t1 (F := Ideal) 𝒱 c bd i arg1 harg1 arg2 harg2 arg3 harg3 arg4 harg4 arg5 harg5 arg6 harg6 arg7 harg7 X0 X1 X2 k).1
      = [⟨Rect.unit (k0_off2 k) S128x256.size (k0_off2_inb k), storeCodes (loadW arg1 X0 k) (loadH arg3 X2 k) (loadR arg2 X1 k)⟩] := by
  unfold tripL_k0_t1 trip_k0_t1
  dsimp only
  unfold storeCodes
  rfl

theorem trip_vals (k : Fin k0_t1_loop.trips) :
    (tripL_k0_t1 (F := Ideal) 𝒱 c bd i arg1 harg1 arg2 harg2 arg3 harg3 arg4 harg4 arg5 harg5 arg6 harg6 arg7 harg7 X0 X1 X2 k).2.1
      = [⟨Rect.unit (k0_off1 k) S256x256.size (k0_off1_inb k), storeVals (loadW arg1 X0 k) (loadH arg3 X2 k) (loadR arg2 X1 k)⟩] := by
  unfold tripL_k0_t1 trip_k0_t1
  dsimp only
  unfold storeVals
  rfl

theorem trip_exp (k : Fin k0_t1_loop.trips) :
    (tripL_k0_t1 (F := Ideal) 𝒱 c bd i arg1 harg1 arg2 harg2 arg3 harg3 arg4 harg4 arg5 harg5 arg6 harg6 arg7 harg7 X0 X1 X2 k).2.2
      = [⟨Rect.unit (k0_off3 k) S8x256.size (k0_off3_inb k), storeExp (loadW arg1 X0 k) (loadH arg3 X2 k)⟩] := by
  unfold tripL_k0_t1 trip_k0_t1
  dsimp only
  unfold storeExp
  rfl

/-! ## The stores of the trips together -/

theorem pb_codes (n : ℕ) (p : View.Piece (Elt Ideal) S1920x256 .i8) (hp : p ∈ (pb_k0_t1 (F := Ideal) 𝒱 c bd i arg1 harg1 arg2 harg2 arg3 harg3 arg4 harg4 arg5 harg5 arg6 harg6 arg7 harg7 X0 X1 X2 n).1) :
    ∃ k : Fin k0_t1_loop.trips, p = ⟨Rect.unit (k0_off2 k) S128x256.size (k0_off2_inb k), storeCodes (loadW arg1 X0 k) (loadH arg3 X2 k) (loadR arg2 X1 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_codes] at hp
      rcases List.mem_cons.mp hp with rfl | hp
      · exact ⟨⟨n, h⟩, rfl⟩
      · exact ih hp
    · exact ih hp

theorem pb_vals (n : ℕ) (p : View.Piece (Elt Ideal) S3840x256 .bf16) (hp : p ∈ (pb_k0_t1 (F := Ideal) 𝒱 c bd i arg1 harg1 arg2 harg2 arg3 harg3 arg4 harg4 arg5 harg5 arg6 harg6 arg7 harg7 X0 X1 X2 n).2.1) :
    ∃ k : Fin k0_t1_loop.trips, p = ⟨Rect.unit (k0_off1 k) S256x256.size (k0_off1_inb k), storeVals (loadW arg1 X0 k) (loadH arg3 X2 k) (loadR arg2 X1 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_vals] at hp
      rcases List.mem_cons.mp hp with rfl | hp
      · exact ⟨⟨n, h⟩, rfl⟩
      · exact ih hp
    · exact ih hp

theorem pb_exp (n : ℕ) (p : View.Piece (Elt Ideal) S120x256 .i32) (hp : p ∈ (pb_k0_t1 (F := Ideal) 𝒱 c bd i arg1 harg1 arg2 harg2 arg3 harg3 arg4 harg4 arg5 harg5 arg6 harg6 arg7 harg7 X0 X1 X2 n).2.2) :
    ∃ k : Fin k0_t1_loop.trips, p = ⟨Rect.unit (k0_off3 k) S8x256.size (k0_off3_inb k), storeExp (loadW arg1 X0 k) (loadH arg3 X2 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_exp] at hp
      rcases List.mem_cons.mp hp with rfl | hp
      · exact ⟨⟨n, h⟩, rfl⟩
      · exact ih hp
    · exact ih hp

end Trip

/-! ## The three blocks of a grid point -/

section Block

variable (c : Dev nD) (i : grid0.Coords) (arg1 : Memref sig .tc .vmem S3840x256 .bf16) (harg1 : arg1.IsWhole) (arg2 : Memref sig .tc .vmem S3840x256 .i8) (harg2 : arg2.IsWhole) (arg3 : Memref sig .tc .vmem S3840x256 .bf16) (harg3 : arg3.IsWhole)
  (arg4 : Memref sig .tc .vmem S1920x256 .i8) (harg4 : arg4.IsWhole) (arg5 : Memref sig .tc .vmem S3x40x256 .i8) (harg5 : arg5.IsWhole) (arg6 : Memref sig .tc .vmem S3840x256 .bf16) (harg6 : arg6.IsWhole)
  (arg7 : Memref sig .tc .vmem S120x256 .i32) (harg7 : arg7.IsWhole)
  (x0 : Vec Ideal S3840x256 .bf16) (x1 : Vec Ideal S3840x256 .i8) (x2 : Vec Ideal S3840x256 .bf16)

/-- The codes of a point's block. -/
def blockCodes (y : S1920x256.Idx) : BitVec 8 :=
  storeCodes (tileOf x0 ((y 0).val / 128) (by have h : (y 0).val < 1920 := (y 0).isLt; omega)) (tabOf x2 ((y 0).val / 128) (by have h : (y 0).val < 1920 := (y 0).isLt; omega))
    (tileOf x1 ((y 0).val / 128) (by have h : (y 0).val < 1920 := (y 0).isLt; omega)) (ix2 (⟨(y 0).val % 128, Nat.mod_lt _ (by decide)⟩ : Fin 128) (y 1))

theorem read0 (k : Fin k0_t1_loop.trips) : loadW arg1 (harg1.unread x0) k = tileOf x0 k.val (trip_lt k) := by
  unfold loadW; rw [View.readAt_eq_ld, harg1.read_unread, ld_tile]
theorem read1 (k : Fin k0_t1_loop.trips) : loadR arg2 (harg2.unread x1) k = tileOf x1 k.val (trip_lt k) := by
  unfold loadR; rw [View.readAt_eq_ld, harg2.read_unread, ld_tile]
theorem read2 (k : Fin k0_t1_loop.trips) : loadH arg3 (harg3.unread x2) k = tabOf x2 k.val (trip_lt k) := by
  unfold loadH; rw [View.readAt_eq_ld, harg3.read_unread, ld_tab]

/-- The decoded values of a point's block. -/
def blockVals (y : S3840x256.Idx) : EReal :=
  storeVals (tileOf x0 ((y 0).val / 256) (by have h : (y 0).val < 3840 := (y 0).isLt; omega)) (tabOf x2 ((y 0).val / 256) (by have h : (y 0).val < 3840 := (y 0).isLt; omega))
    (tileOf x1 ((y 0).val / 256) (by have h : (y 0).val < 3840 := (y 0).isLt; omega)) (ix2 (⟨(y 0).val % 256, Nat.mod_lt _ (by decide)⟩ : Fin 256) (y 1))

/-- The exponents of a point's block. -/
def blockExp (y : S120x256.Idx) : BitVec 32 :=
  storeExp (tileOf x0 ((y 0).val / 8) (by have h : (y 0).val < 120 := (y 0).isLt; omega)) (tabOf x2 ((y 0).val / 8) (by have h : (y 0).val < 120 := (y 0).isLt; omega))
    (ix2 (⟨(y 0).val % 8, Nat.mod_lt _ (by decide)⟩ : Fin 8) (y 1))

theorem blockCodes_at (k : ℕ) (hk : k < 15) (R : Fin 128) (l : Fin 256) (y : S1920x256.Idx) (h0 : (y 0).val = 128 * k + R.val) (h1 : (y 1).val = l.val) :
    blockCodes x0 x1 x2 y = storeCodes (tileOf x0 k hk) (tabOf x2 k hk) (tileOf x1 k hk) (ix2 R l) := by
  have hR := R.isLt
  obtain rfl : k = (y 0).val / 128 := by omega
  have e0 : (⟨(y 0).val % 128, Nat.mod_lt _ (by decide)⟩ : Fin 128) = R := Fin.ext (by show (y 0).val % 128 = R.val; omega)
  have e1 : y 1 = l := Fin.ext h1
  unfold blockCodes
  rw [e0]
  exact congrArg (fun l : Fin 256 => storeCodes (tileOf x0 ((y 0).val / 128) hk) (tabOf x2 ((y 0).val / 128) hk) (tileOf x1 ((y 0).val / 128) hk) (ix2 R l)) e1

theorem blockVals_at (k : ℕ) (hk : k < 15) (R : Fin 256) (l : Fin 256) (y : S3840x256.Idx) (h0 : (y 0).val = 256 * k + R.val) (h1 : (y 1).val = l.val) :
    blockVals x0 x1 x2 y = storeVals (tileOf x0 k hk) (tabOf x2 k hk) (tileOf x1 k hk) (ix2 R l) := by
  have hR := R.isLt
  obtain rfl : k = (y 0).val / 256 := by omega
  have e0 : (⟨(y 0).val % 256, Nat.mod_lt _ (by decide)⟩ : Fin 256) = R := Fin.ext (by show (y 0).val % 256 = R.val; omega)
  have e1 : y 1 = l := Fin.ext h1
  unfold blockVals
  rw [e0]
  exact congrArg (fun l : Fin 256 => storeVals (tileOf x0 ((y 0).val / 256) hk) (tabOf x2 ((y 0).val / 256) hk) (tileOf x1 ((y 0).val / 256) hk) (ix2 R l)) e1

theorem blockExp_at (k : ℕ) (hk : k < 15) (R : Fin 8) (l : Fin 256) (y : S120x256.Idx) (h0 : (y 0).val = 8 * k + R.val) (h1 : (y 1).val = l.val) :
    blockExp x0 x2 y = storeExp (tileOf x0 k hk) (tabOf x2 k hk) (ix2 R l) := by
  have hR := R.isLt
  obtain rfl : k = (y 0).val / 8 := by omega
  have e0 : (⟨(y 0).val % 8, Nat.mod_lt _ (by decide)⟩ : Fin 8) = R := Fin.ext (by show (y 0).val % 8 = R.val; omega)
  have e1 : y 1 = l := Fin.ext h1
  unfold blockExp
  rw [e0]
  exact congrArg (fun l : Fin 256 => storeExp (tileOf x0 ((y 0).val / 8) hk) (tabOf x2 ((y 0).val / 8) hk) (ix2 R l)) e1

theorem out_codes : out0_A_3 c i arg1 harg1 arg2 harg2 arg3 harg3 arg4 harg4 arg5 harg5 arg6 harg6 arg7 harg7 x0 x1 x2 = blockCodes x0 x1 x2 := by
  funext y
  unfold out0_A_3
  rw [View.read_writes_eq_canon _ _ _ (cover0_A_3 c i arg1 harg1 arg2 harg2 arg3 harg3 arg4 harg4 arg5 harg5 arg6 harg6 arg7 harg7 x0 x1 x2)]
  refine View.canon_apply_of_pieces _ _ ?_ y (cover0_A_3 c i arg1 harg1 arg2 harg2 arg3 harg3 arg4 harg4 arg5 harg5 arg6 harg6 arg7 harg7 x0 x1 x2 y)
  intro p hp
  unfold kernelRun0_A at hp
  dsimp only at hp
  obtain ⟨k, rfl⟩ := pb_codes _ _ _ _ _ _ _ _ _ _ _ _ _ _ _ _ _ _ _ _ _ _ _ hp
  intro x
  rw [read0, read1, read2]
  refine Eq.trans ?_ (blockCodes_at x0 x1 x2 k.val (trip_lt k) (x 0) (x 1) _ ?_ ?_).symm
  · exact congrArg _ (eq_ix2 x)
  · show k0_off2 k 0 + 1 * (x 0).val = _; rw [congrFun (off2 k) 0]; show 128 * k.val + 1 * (x 0).val = _; omega
  · show k0_off2 k 1 + 1 * (x 1).val = _; rw [congrFun (off2 k) 1]; show 0 + 1 * (x 1).val = _; omega

theorem out_vals : out0_A_5 c i arg1 harg1 arg2 harg2 arg3 harg3 arg4 harg4 arg5 harg5 arg6 harg6 arg7 harg7 x0 x1 x2 = blockVals x0 x1 x2 := by
  funext y
  unfold out0_A_5
  rw [View.read_writes_eq_canon _ _ _ (cover0_A_5 c i arg1 harg1 arg2 harg2 arg3 harg3 arg4 harg4 arg5 harg5 arg6 harg6 arg7 harg7 x0 x1 x2)]
  refine View.canon_apply_of_pieces _ _ ?_ y (cover0_A_5 c i arg1 harg1 arg2 harg2 arg3 harg3 arg4 harg4 arg5 harg5 arg6 harg6 arg7 harg7 x0 x1 x2 y)
  intro p hp
  unfold kernelRun0_A at hp
  dsimp only at hp
  obtain ⟨k, rfl⟩ := pb_vals _ _ _ _ _ _ _ _ _ _ _ _ _ _ _ _ _ _ _ _ _ _ _ hp
  intro x
  rw [read0, read1, read2]
  refine Eq.trans ?_ (blockVals_at x0 x1 x2 k.val (trip_lt k) (x 0) (x 1) _ ?_ ?_).symm
  · exact congrArg _ (eq_ix2 x)
  · show k0_off1 k 0 + 1 * (x 0).val = _; rw [congrFun (off1 k) 0]; show 256 * k.val + 1 * (x 0).val = _; omega
  · show k0_off1 k 1 + 1 * (x 1).val = _; rw [congrFun (off1 k) 1]; show 0 + 1 * (x 1).val = _; omega

theorem scratch (B : LoadRect S120x256) (j : B.shape.Idx) (n : ℕ)
    (h : ∀ y, ∃ p ∈ (pb_k0_t1 (F := Ideal) Variants.none c none i arg1 harg1 arg2 harg2 arg3 harg3 arg4 harg4 arg5 harg5 arg6 harg6 arg7 harg7 (harg1.unread x0) (harg2.unread x1) (harg3.unread x2) n).2.2, y ∈ p.1.set) :
    arg7.view.readCov (pb_k0_t1 (F := Ideal) Variants.none c none i arg1 harg1 arg2 harg2 arg3 harg3 arg4 harg4 arg5 harg5 arg6 harg6 arg7 harg7 (harg1.unread x0) (harg2.unread x1) (harg3.unread x2) n).2.2 B j
      = blockExp x0 x2 (B.idx j) := by
  rw [View.readCov_eq_canon _ _ _ fun j => h _]
  refine View.canon_apply_of_pieces _ _ ?_ (B.idx j) (h _)
  intro p hp
  obtain ⟨k, rfl⟩ := pb_exp _ _ _ _ _ _ _ _ _ _ _ _ _ _ _ _ _ _ _ _ _ _ _ hp
  intro x
  rw [read0, read2]
  refine Eq.trans ?_ (blockExp_at x0 x2 k.val (trip_lt k) (x 0) (x 1) _ ?_ ?_).symm
  · exact congrArg _ (eq_ix2 x)
  · show k0_off3 k 0 + 1 * (x 0).val = _; rw [congrFun (off3 k) 0]; show 8 * k.val + 1 * (x 0).val = _; omega
  · show k0_off3 k 1 + 1 * (x 1).val = _; rw [congrFun (off3 k) 1]; show 0 + 1 * (x 1).val = _; omega

/-- The exponents of a point's block, as they are stored. -/
def blockScale (y : S3x40x256.Idx) : BitVec 8 :=
  (blockExp x0 x2 (ix2 (⟨40 * (y 0).val + (y 1).val, by have h0 : (y 0).val < 3 := (y 0).isLt; have h1 : (y 1).val < 40 := (y 1).isLt; omega⟩ : Fin 120) (⟨(y 2).val, (y 2).isLt⟩ : Fin 256))).setWidth 8

/-- One batch's store of exponents: the conversion of forty rows. -/
theorem scale_row (v : Vec Ideal S40x256 .i32) (x : S1x40x256.Idx) :
    shapeCast S1x40x256 (trunci 8 v natLt_8_32) shapeCasts_S40x256_S1x40x256 x
      = (v (ix2 (⟨(x 1).val, (x 1).isLt⟩ : Fin 40) (⟨(x 2).val, (x 2).isLt⟩ : Fin 256))).setWidth 8 := by
  refine (shapeCast_apply _ _ x (ix2 (⟨(x 1).val, (x 1).isLt⟩ : Fin 40) (⟨(x 2).val, (x 2).isLt⟩ : Fin 256)) (by
    have h0 : (x 0).val < 1 := (x 0).isLt
    rw [Shape.rowMajor_val_two, Shape.rowMajor_val_three]
    show (x 1).val * 256 + (x 2).val = ((x 0).val * 40 + (x 1).val) * 256 + (x 2).val
    omega)).trans rfl

theorem out_exp : out0_A_4 c i arg1 harg1 arg2 harg2 arg3 harg3 arg4 harg4 arg5 harg5 arg6 harg6 arg7 harg7 x0 x1 x2 = blockScale x0 x2 := by
  funext y
  unfold out0_A_4
  rw [View.read_writes_eq_canon _ _ _ (cover0_A_4 c i arg1 harg1 arg2 harg2 arg3 harg3 arg4 harg4 arg5 harg5 arg6 harg6 arg7 harg7 x0 x1 x2)]
  refine View.canon_apply_of_pieces _ _ ?_ y (cover0_A_4 c i arg1 harg1 arg2 harg2 arg3 harg3 arg4 harg4 arg5 harg5 arg6 harg6 arg7 harg7 x0 x1 x2 y)
  intro p hp
  unfold kernelRun0_A at hp
  dsimp only at hp
  have cov := fun y => View.cover_of_tiledL (pb_k0_t1 (F := Ideal) Variants.none c none i arg1 harg1 arg2 harg2 arg3 harg3 arg4 harg4 arg5 harg5 arg6 harg6 arg7 harg7
      (harg1.unread x0) (harg2.unread x1) (harg3.unread x2) (Scf.trips 0#32 (Scalar.addi 0#32 15#32) 1#32)).2.2 S8x256.size (by sl_kernel_rfl) y
  rcases List.mem_cons.mp hp with rfl | hp
  · intro x
    refine (scale_row _ x).trans (congrArg (BitVec.setWidth 8) ((scratch c i arg1 harg1 arg2 harg2 arg3 harg3 arg4 harg4 arg5 harg5 arg6 harg6 arg7 harg7 x0 x1 x2 _ _ _ cov).trans (congrArg (blockExp x0 x2) (funext fun a => Fin.ext ?_))))
    have h0 : (x 0).val < 1 := (x 0).isLt
    match a with
    | ⟨0, _⟩ => show 80 + 1 * (x 1).val = 40 * (2 + 1 * (x 0).val) + (0 + 1 * (x 1).val); omega
    | ⟨1, _⟩ => show 0 + 1 * (x 2).val = 0 + 1 * (x 2).val; rfl
  rcases List.mem_cons.mp hp with rfl | hp
  · intro x
    refine (scale_row _ x).trans (congrArg (BitVec.setWidth 8) ((scratch c i arg1 harg1 arg2 harg2 arg3 harg3 arg4 harg4 arg5 harg5 arg6 harg6 arg7 harg7 x0 x1 x2 _ _ _ cov).trans (congrArg (blockExp x0 x2) (funext fun a => Fin.ext ?_))))
    have h0 : (x 0).val < 1 := (x 0).isLt
    match a with
    | ⟨0, _⟩ => show 40 + 1 * (x 1).val = 40 * (1 + 1 * (x 0).val) + (0 + 1 * (x 1).val); omega
    | ⟨1, _⟩ => show 0 + 1 * (x 2).val = 0 + 1 * (x 2).val; rfl
  rcases List.mem_cons.mp hp with rfl | hp
  · intro x
    refine (scale_row _ x).trans (congrArg (BitVec.setWidth 8) ((scratch c i arg1 harg1 arg2 harg2 arg3 harg3 arg4 harg4 arg5 harg5 arg6 harg6 arg7 harg7 x0 x1 x2 _ _ _ cov).trans (congrArg (blockExp x0 x2) (funext fun a => Fin.ext ?_))))
    have h0 : (x 0).val < 1 := (x 0).isLt
    match a with
    | ⟨0, _⟩ => show 0 + 1 * (x 1).val = 40 * (0 + 1 * (x 0).val) + (0 + 1 * (x 1).val); omega
    | ⟨1, _⟩ => show 0 + 1 * (x 2).val = 0 + 1 * (x 2).val; rfl
  exact absurd hp List.not_mem_nil

end Block

end Cert.XKernelIdeal.Pay

end
-- ==== Proof.XRef.lean ====
/-
  The reference's results for the quantiser of x, read at an index as the scalar functions of QuantScalar and QuantBlock.
-/
module

public import proofs.«01_k».proof.Proof.Gen.XReferenceIdeal.Read
public import proofs.«01_k».proof.Proof.QuantRef
public import Idealize.ShloMosaic.Lib.Pointwise

@[expose] public section

noncomputable section

open Idealize.ShloMosaic Cert.XReferenceIdeal

namespace Cert.XReferenceIdeal.Read

open Cert.Quant

variable (x0 : (⟨S3840x6144, .bf16⟩ : BufTy).Contents (Elt Ideal)) (x1 : (⟨S3840, .f32⟩ : BufTy).Contents (Elt Ideal))
variable (x2 : (⟨S3840x6144, .i8⟩ : BufTy).Contents (Elt Ideal))

theorem v17_at (i : S32x32.Idx) : val_main_v17 (F := Ideal) i = had (i 0) (i 1) := by
  simp only [val_main_v17_apply, val_main_v15_apply, val_main_v14_apply, val_main_c_0_apply, val_main_v13_apply, val_main_v12_apply, val_main_c_apply,
    val_main_v11_apply, val_main_v10_apply, val_main_v9_apply, val_main_v8_apply, val_main_v7_apply, val_main_v6_apply, val_main_v5_apply,
    val_main_v16_apply, val_main_cst_apply, val_main_call0_v0_apply, val_main_call0_v1_apply, val_main_cst_1_apply]
  rfl

/-- The rotated value of row `n` of block `b`, column `c`. -/
def rotV (b : Fin 120) (n : Fin 32) (c : Fin 6144) : EReal :=
  ∑ k : Fin 32, (x0 (ix2 ⟨32 * b.val + k.val, by omega⟩ c) * x1 (ix1 ⟨32 * b.val + k.val, by omega⟩)) * had n k

theorem v4_at (i : S120x32x6144.Idx) :
    val_main_v4 (F := Ideal) x0 x1 i = x0 (ix2 ⟨32 * (i 0).val + (i 1).val, by have h0 : (i 0).val < 120 := (i 0).isLt; have h1 : (i 1).val < 32 := (i 1).isLt; omega⟩ (i 2))
      * x1 (ix1 ⟨32 * (i 0).val + (i 1).val, by have h0 : (i 0).val < 120 := (i 0).isLt; have h1 : (i 1).val < 32 := (i 1).isLt; omega⟩) := by
  simp only [val_main_v4_apply, val_main_v3_apply, val_main_v2_apply, val_main_v1_apply, val_main_v0_apply]
  have e : idx_main_v4 i = ix2 ⟨32 * (i 0).val + (i 1).val, by have h0 : (i 0).val < 120 := (i 0).isLt; have h1 : (i 1).val < 32 := (i 1).isLt; omega⟩ (i 2) := by
    have h0 : (i 0).val < 120 := (i 0).isLt
    have h1 : (i 1).val < 32 := (i 1).isLt
    have h2 : (i 2).val < 6144 := (i 2).isLt
    funext a
    match a with
    | ⟨0, _⟩ => exact Fin.ext (by show _ / _ = 32 * (i 0).val + (i 1).val; omega)
    | ⟨1, _⟩ => exact Fin.ext (by show _ % _ = (i 2).val; omega)
  rw [e]
  have e2 : idx_main_v1 (idx_main_v2 (ix2 ⟨32 * (i 0).val + (i 1).val, by have h0 : (i 0).val < 120 := (i 0).isLt; have h1 : (i 1).val < 32 := (i 1).isLt; omega⟩ (i 2)))
      = ix1 ⟨32 * (i 0).val + (i 1).val, by have h0 : (i 0).val < 120 := (i 0).isLt; have h1 : (i 1).val < 32 := (i 1).isLt; omega⟩ := by
    funext a
    match a with
    | ⟨0, _⟩ => rfl
  exact congrArg₂ (fun p q : EReal => p * q) rfl (congrArg x1 e2)

theorem v19_at (i : S120x32x6144.Idx) : val_main_v19 (F := Ideal) x0 x1 i = rotV x0 x1 (i 0) (i 1) (i 2) := by
  rw [val_main_v19_apply, val_main_v18_apply]
  unfold rotV
  refine Finset.sum_congr rfl fun k _ => ?_
  rw [v4_at, v17_at]
  rfl

/-- The largest magnitude of a block. -/
def rotA (b : Fin 120) (c : Fin 6144) : EReal := (Finset.univ : Finset (Fin 32)).fold max (cst 0xFF800000#32) (fun n => max (rotV x0 x1 b n c) (-rotV x0 x1 b n c))

theorem v21_at (i : S120x6144.Idx) : val_main_v21 (F := Ideal) x0 x1 i = rotA x0 x1 (i 0) (i 1) := by
  unfold val_main_v21
  rw [Host.reduce_eq_fold, Shape.ReducesTo.fold_fiber_r3_a1]
  unfold rotA
  refine Finset.fold_congr fun n _ => ?_
  rw [val_main_v20_apply, v19_at]
  rfl

theorem v32_at (i : S120x6144.Idx) : val_main_v32 (F := Ideal) x0 x1 i = rExp (val_main_v21 (F := Ideal) x0 x1 i) := by
  rw [val_main_v32_apply, val_main_v31_apply, val_main_v30_apply, val_main_v29_apply, val_main_v28_apply, val_main_v27_apply, val_main_v26_apply,
    val_main_v25_apply, val_main_v24_apply, val_main_v23_apply, val_main_v22_apply, val_main_call1_v1_apply, val_main_call1_v0_apply,
    val_main_cst_3_apply, val_main_cst_4_apply, val_main_cst_5_apply, val_main_cst_6_apply]
  generalize val_main_v21 (F := Ideal) x0 x1 i = y
  rfl

theorem v37_at (i : S120x6144.Idx) : val_main_v37 (F := Ideal) x0 x1 i = rScale (val_main_v21 (F := Ideal) x0 x1 i) := by
  rw [val_main_v37_apply, val_main_v36_apply, val_main_v35_apply, val_main_v34_apply, val_main_v33_apply, v32_at, val_main_cst_7_apply, val_main_cst_8_apply]
  generalize val_main_v21 (F := Ideal) x0 x1 i = y
  rfl

theorem v40_at (i : S120x32x6144.Idx) :
    val_main_v40 (F := Ideal) x0 x1 i = rotV x0 x1 (i 0) (i 1) (i 2) * rScale (rotA x0 x1 (i 0) (i 2)) := by
  rw [val_main_v40_apply, v19_at, val_main_v39_apply, val_main_v38_apply, v37_at, v21_at]
  rfl

/-- The uniform number of an element. -/
def rotU (b : Fin 120) (n : Fin 32) (c : Fin 6144) : EReal :=
  uOf (((BitVec.setWidth 32 (x2 (ix2 ⟨32 * b.val + n.val, by omega⟩ c)) : BitVec 32).toInt : ℝ) : EReal)

theorem v59_at (i : S120x32x6144.Idx) : val_main_v59 (F := Ideal) x2 i = rotU x2 (i 0) (i 1) (i 2) := by
  simp only [val_main_v59_apply, val_main_v58_apply, val_main_v57_apply, val_main_v56_apply, val_main_v55_apply, val_main_v54_apply, val_main_v41_apply,
    val_main_cst_14_apply, val_main_cst_15_apply]
  have e : idx_main_v41 i = ix2 ⟨32 * (i 0).val + (i 1).val, by have h0 : (i 0).val < 120 := (i 0).isLt; have h1 : (i 1).val < 32 := (i 1).isLt; omega⟩ (i 2) := by
    have h0 : (i 0).val < 120 := (i 0).isLt
    have h1 : (i 1).val < 32 := (i 1).isLt
    have h2 : (i 2).val < 6144 := (i 2).isLt
    funext a
    match a with
    | ⟨0, _⟩ => exact Fin.ext (by show _ / _ = 32 * (i 0).val + (i 1).val; omega)
    | ⟨1, _⟩ => exact Fin.ext (by show _ % _ = (i 2).val; omega)
  rw [e]
  rfl

theorem v48_at (i : S120x32x6144.Idx) : val_main_v48 (F := Ideal) x0 x1 i = rStep (val_main_v42 (F := Ideal) x0 x1 i) := by
  simp only [val_main_v48_apply, val_main_v47_apply, val_main_v46_apply, val_main_v45_apply, val_main_v44_apply, val_main_v43_apply,
    val_main_call2_v0_apply, val_main_call2_v1_apply, val_main_call3_v0_apply, val_main_cst_9_apply, val_main_cst_10_apply, val_main_cst_11_apply,
    val_main_cst_12_apply, val_main_cst_13_apply]
  rfl

theorem v51_at (i : S120x32x6144.Idx) : val_main_v51 (F := Ideal) x0 x1 i = rLow (val_main_v42 (F := Ideal) x0 x1 i) := by
  simp only [val_main_v51_apply, val_main_v50_apply, val_main_v49_apply, v48_at]
  rfl

theorem v62_at (i : S120x32x6144.Idx) :
    val_main_v62 (F := Ideal) x0 x1 x2 i = rGrid (val_main_v42 (F := Ideal) x0 x1 i) (rotU x2 (i 0) (i 1) (i 2)) := by
  simp only [val_main_v62_apply, val_main_v61_apply, val_main_v60_apply, val_main_v53_apply, val_main_v52_apply, v51_at, v48_at, v59_at]
  rfl

theorem v75_at (i : S120x32x6144.Idx) : val_main_v75 (F := Ideal) x0 x1 x2 i = rNum (val_main_v62 (F := Ideal) x0 x1 x2 i) := by
  simp only [val_main_v75_apply, val_main_v74_apply, val_main_v73_apply, val_main_v72_apply, val_main_v71_apply, val_main_v70_apply, val_main_v69_apply,
    val_main_v68_apply, val_main_v67_apply, val_main_v66_apply, val_main_v65_apply, val_main_v64_apply, val_main_v63_apply,
    val_main_call5_v0_apply, val_main_call5_v1_apply, val_main_call6_v0_apply, val_main_cst_16_apply, val_main_cst_17_apply, val_main_cst_18_apply,
    val_main_cst_19_apply, val_main_cst_20_apply, val_main_cst_21_apply, val_main_cst_22_apply]
  rfl

theorem v84_of (i : S120x32x6144.Idx) :
    val_main_v84 (F := Ideal) x0 x1 x2 i = signed (val_main_v40 (F := Ideal) x0 x1 i) (Ideal.fptosi 32 (val_main_v75 (F := Ideal) x0 x1 x2 i)) := by
  simp only [val_main_v84_apply, val_main_v83_apply, val_main_v82_apply, val_main_v81_apply, val_main_v80_apply, val_main_v79_apply, val_main_v78_apply,
    val_main_v77_apply, val_main_v76_apply, val_main_cst_23_apply, val_main_c_24_apply, val_main_c_25_apply]
  rfl

/-- The four-bit code of an element. -/
def rotCode (b : Fin 120) (n : Fin 32) (c : Fin 6144) : BitVec 32 :=
  signed (rotV x0 x1 b n c * rScale (rotA x0 x1 b c))
    (rIdx (max (rotV x0 x1 b n c * rScale (rotA x0 x1 b c)) (-(rotV x0 x1 b n c * rScale (rotA x0 x1 b c)))) (rotU x2 b n c))

theorem v84_at (i : S120x32x6144.Idx) : val_main_v84 (F := Ideal) x0 x1 x2 i = rotCode x0 x1 x2 (i 0) (i 1) (i 2) := by
  rw [v84_of, v75_at, v62_at, val_main_v42_apply, v40_at]
  rfl

theorem v119_at (i : S120x32x6144.Idx) : val_main_v119 (F := Ideal) x0 x1 x2 i = rMag (val_main_v84 (F := Ideal) x0 x1 x2 i) := by
  simp only [val_main_v119_apply, val_main_v118_apply, val_main_v117_apply, val_main_v116_apply, val_main_v115_apply, val_main_v114_apply, val_main_v113_apply,
    val_main_v112_apply, val_main_v111_apply, val_main_v110_apply, val_main_v109_apply, val_main_v108_apply, val_main_v107_apply, val_main_v106_apply,
    val_main_v105_apply, val_main_v104_apply, val_main_v103_apply, val_main_v102_apply, val_main_v101_apply, val_main_v100_apply, val_main_v99_apply,
    val_main_v98_apply, val_main_v97_apply, val_main_v96_apply, val_main_v95_apply, val_main_v94_apply, val_main_v93_apply, val_main_v92_apply,
    val_main_v91_apply, val_main_v90_apply, val_main_v89_apply,
    val_main_call9_v0_apply, val_main_call9_v1_apply, val_main_call10_v0_apply, val_main_call10_v1_apply, val_main_call12_v0_apply,
    val_main_call12_v1_apply, val_main_call13_v0_apply, val_main_call13_v1_apply,
    val_main_c_28_apply, val_main_c_29_apply, val_main_c_30_apply, val_main_c_31_apply, val_main_c_32_apply, val_main_c_33_apply, val_main_c_34_apply,
    val_main_c_35_apply, val_main_cst_36_apply, val_main_cst_37_apply, val_main_c_38_apply, val_main_cst_39_apply, val_main_cst_40_apply,
    val_main_c_41_apply, val_main_c_42_apply, val_main_cst_43_apply, val_main_cst_44_apply, val_main_c_45_apply, val_main_cst_46_apply, val_main_cst_47_apply]
  rfl

theorem v123_at (i : S120x32x6144.Idx) : val_main_v123 (F := Ideal) x0 x1 x2 i = rDecode (val_main_v84 (F := Ideal) x0 x1 x2 i) := by
  simp only [val_main_v123_apply, val_main_v122_apply, val_main_v121_apply, val_main_v120_apply, val_main_v88_apply, val_main_v87_apply, val_main_v86_apply,
    val_main_v85_apply, val_main_c_26_apply, val_main_c_27_apply, val_main_c_48_apply, v119_at]
  rfl

theorem v130_at (i : S120x32x6144.Idx) :
    val_main_v130 (F := Ideal) x0 x1 x2 i = rDecode (rotCode x0 x1 x2 (i 0) (i 1) (i 2)) * rBack (rotA x0 x1 (i 0) (i 2)) := by
  rw [val_main_v130_apply, val_main_v129_apply, val_main_v127_apply, v123_at, v84_at, val_main_v128_apply, val_main_v126_apply, val_main_v125_apply,
    val_main_v124_apply, val_main_cst_49_apply, v32_at, v21_at]
  rfl

/-! ## The results -/

theorem codes_at (i : S1920x6144.Idx) (b : Fin 120) (n0 n1 : Fin 32) (h0 : 32 * b.val + n0.val = 2 * (i 0).val) (h1 : n1.val = n0.val + 1) :
    val_main_v139 (F := Ideal) x0 x1 x2 i
      = (IntOp.ori (rotCode x0 x1 x2 b n0 (i 1)) (IntOp.shli .host (rotCode x0 x1 x2 b n1 (i 1)) 4#32)).setWidth 8 := by
  simp only [val_main_v139_apply, val_main_v138_apply, val_main_v137_apply, val_main_v136_apply, val_main_c_50_apply, val_main_v135_apply, val_main_v134_apply,
    val_main_v133_apply, val_main_v132_apply, val_main_v131_apply, v84_at]
  have hi0 : (i 0).val < 1920 := (i 0).isLt
  have hi1 : (i 1).val < 6144 := (i 1).isLt
  have a0 : ∀ n : Fin 32, 32 * b.val + n.val = 2 * (i 0).val → idx_main_v131 (idx_main_v132 (idx_main_v133 i)) = ix3 b n (i 1) := by
    intro n hn
    have := n.isLt
    funext a
    match a with
    | ⟨0, _⟩ => exact Fin.ext (by show _ / _ = b.val; dsimp; omega)
    | ⟨1, _⟩ => exact Fin.ext (by show _ / _ % _ = n.val; dsimp; omega)
    | ⟨2, _⟩ => exact Fin.ext (by show _ % _ = (i 1).val; dsimp; omega)
  have a1 : ∀ n : Fin 32, 32 * b.val + n.val = 2 * (i 0).val + 1 → idx_main_v131 (idx_main_v134 (idx_main_v135 i)) = ix3 b n (i 1) := by
    intro n hn
    have := n.isLt
    funext a
    match a with
    | ⟨0, _⟩ => exact Fin.ext (by show _ / _ = b.val; dsimp; omega)
    | ⟨1, _⟩ => exact Fin.ext (by show _ / _ % _ = n.val; dsimp; omega)
    | ⟨2, _⟩ => exact Fin.ext (by show _ % _ = (i 1).val; dsimp; omega)
  rw [a0 n0 h0, a1 n1 (by omega)]
  rfl

theorem vals_at (i : S3840x6144.Idx) (b : Fin 120) (n : Fin 32) (d p q g s : ℕ) (hp : p < 2) (hq : q < 2) (hg : g < 8) (hs : s < 8)
    (hi : (i 0).val = 256 * d + 128 * p + 64 * q + 8 * g + s) (hb : b.val = 8 * d + g) (hn : n.val = 4 * s + 2 * q + p) :
    val_main_v142 (F := Ideal) x0 x1 x2 i = rDecode (rotCode x0 x1 x2 b n (i 1)) * rBack (rotA x0 x1 b (i 1)) := by
  have hi0 : (i 0).val < 3840 := (i 0).isLt
  have hi1 : (i 1).val < 6144 := (i 1).isLt
  unfold val_main_v142
  let j : S15x2x2x8x8x6144.Idx := fun a => match a with
    | ⟨0, _⟩ => ⟨d, by show d < 15; omega⟩
    | ⟨1, _⟩ => ⟨p, hp⟩
    | ⟨2, _⟩ => ⟨q, hq⟩
    | ⟨3, _⟩ => ⟨g, hg⟩
    | ⟨4, _⟩ => ⟨s, hs⟩
    | ⟨5, _⟩ => ⟨(i 1).val, hi1⟩
  refine (shapeCast_apply _ _ i j (by
    rw [Shape.rowMajor_val_two, Shape.rowMajor_val_six]
    show ((((d * 2 + p) * 2 + q) * 8 + g) * 8 + s) * 6144 + (i 1).val = (i 0).val * 6144 + (i 1).val
    omega)).trans ?_
  rw [val_main_v141_apply]
  unfold val_main_v140
  refine (shapeCast_apply _ _ (idx_main_v141 j) (ix3 b n (i 1)) (by
    rw [Shape.rowMajor_val_three, Shape.rowMajor_val_six]
    show (b.val * 32 + n.val) * 6144 + (i 1).val = ((((d * 8 + g) * 8 + s) * 2 + q) * 2 + p) * 6144 + (i 1).val
    omega)).trans ?_
  exact v130_at x0 x1 x2 (ix3 b n (i 1))

theorem scales_at (i : S120x6144.Idx) : val_main_v144 (F := Ideal) x0 x1 i = (Ideal.fptosi 32 (rExp (rotA x0 x1 (i 0) (i 1)))).setWidth 8 := by
  rw [val_main_v144_apply, val_main_v143_apply, v32_at, v21_at]
  rfl

/-- The exponents, batch by batch. -/
theorem batch_at (i : S3x40x6144.Idx) (b : Fin 120) (hb : b.val = 40 * (i 0).val + (i 1).val) :
    val_main_v145 (F := Ideal) x0 x1 i = (Ideal.fptosi 32 (rExp (rotA x0 x1 b (i 2)))).setWidth 8 := by
  unfold val_main_v145
  refine (shapeCast_apply _ _ i (ix2 b (i 2)) (by
    rw [Shape.rowMajor_val_two, Shape.rowMajor_val_three]
    show b.val * 6144 + (i 2).val = ((i 0).val * 40 + (i 1).val) * 6144 + (i 2).val
    rw [hb]; ring)).trans (scales_at x0 x1 (ix2 b (i 2)))

end Cert.XReferenceIdeal.Read

end
-- ==== Proof.XTable.lean ====
/-
  The kernel's table: what the operations before the kernel's launch leave in its third operand. A row is a row of the
  signed Hadamard matrix of one block, permuted to the kernel's row order, and zero outside the block.
-/
module

public import proofs.«01_k».proof.Proof.XBlock
public import proofs.«01_k».proof.Proof.XRef
public import Idealize.ShloMosaic.Lib.StableHlo.RunRead

@[expose] public section

noncomputable section

open Idealize.ShloMosaic Idealize.ShloMosaic.TcCoe Idealize.SL.Sem

namespace Cert.XKernelIdeal.Table

open Cert.XKernelIdeal Cert.XKernelIdeal.Gen Cert.XKernelIdeal.Pay Cert.Quant

/-- Which row of its tile a row of the table is the transform of. -/
def ordV : IVec S256 32 :=
  addi (addi (muli (broadcastInDim S256 ![] bcast_S_S256 (constantI S_ 32 32#32))
      (andi (Host.shrsi (iotaInDim S256 32 0) (broadcastInDim S256 ![] bcast_S_S256 (constantI S_ 32 3#32)))
        (broadcastInDim S256 ![] bcast_S_S256 (constantI S_ 32 7#32))))
    (muli (broadcastInDim S256 ![] bcast_S_S256 (constantI S_ 32 4#32))
      (andi (iotaInDim S256 32 0) (broadcastInDim S256 ![] bcast_S_S256 (constantI S_ 32 7#32)))))
    (Host.shrsi (iotaInDim S256 32 0) (broadcastInDim S256 ![] bcast_S_S256 (constantI S_ 32 6#32)))

/-- Whether a row and a column share an even number of set bits below bit 5. -/
def evenV : IVec S256x256 1 :=
  cmpi .eq (andi (ctpop (andi
      (broadcastInDim S256x256 ![0, 1] bcast_S256x1_S256x256_0_1
        (andi (broadcastInDim S256x1 ![0] bcast_S256_S256x1_0 ordV) (broadcastInDim S256x1 ![] bcast_S_S256x1 (constantI S_ 32 31#32))))
      (broadcastInDim S256x256 ![0, 1] bcast_S1x256_S256x256_0_1
        (andi (broadcastInDim S1x256 ![1] bcast_S256_S1x256_1 (iotaInDim S256 32 0))
          (broadcastInDim S1x256 ![] bcast_S_S1x256 (constantI S_ 32 31#32))))))
    (broadcastInDim S256x256 ![] bcast_S_S256x256 (constantI S_ 32 1#32)))
    (broadcastInDim S256x256 ![] bcast_S_S256x256 (constantI S_ 32 0#32))

/-- Whether a row and a column are of the same block. -/
def sameV : IVec S256x256 1 :=
  cmpi .eq
    (broadcastInDim S256x256 ![0, 1] bcast_S256x1_S256x256_0_1
      (Host.shrsi (broadcastInDim S256x1 ![0] bcast_S256_S256x1_0 ordV) (broadcastInDim S256x1 ![] bcast_S_S256x1 (constantI S_ 32 5#32))))
    (broadcastInDim S256x256 ![0, 1] bcast_S1x256_S256x256_0_1
      (Host.shrsi (broadcastInDim S1x256 ![1] bcast_S256_S1x256_1 (iotaInDim S256 32 0))
        (broadcastInDim S1x256 ![] bcast_S_S1x256 (constantI S_ 32 5#32))))

/-- The table of one tile. -/
def tabV : FVec Ideal S256x256 .f32 :=
  select sameV (select evenV (broadcastInDim S256x256 ![] bcast_S_S256x256 (constant S_ .f32 0x3E800000#32))
      (broadcastInDim S256x256 ![] bcast_S_S256x256 (constant S_ .f32 0xBE800000#32)))
    (broadcastInDim S256x256 ![] bcast_S_S256x256 (constant S_ .f32 0x00000000#32))

/-- The whole table over the vector of signs. -/
def signedV (x : FVec Ideal S3840 .f32) : FVec Ideal S3840x256 .bf16 :=
  truncf .bf16 (shapeCast S3840x256 (mulf
      (broadcastInDim S15x256x256 ![0, 1, 2] bcast_S1x256x256_S15x256x256_0_1_2
        (broadcastInDim S1x256x256 ![1, 2] bcast_S256x256_S1x256x256_1_2 tabV))
      (broadcastInDim S15x256x256 ![0, 1, 2] bcast_S15x1x256_S15x256x256_0_1_2 (shapeCast S15x1x256 x shapeCasts_S3840_S15x1x256)))
    shapeCasts_S15x256x256_S3840x256) bitsLt_bf16_f32

variable (m : (ℓ : Loc nD τ sig) → Buf (Elt Ideal) ℓ)

theorem V_v48 (c : Dev nD) : V m c main_v48 = signedV (m ((c : Thread nD τ).loc main_arg1)) := by
  unfold V
  simp only [List.flatten_cons, List.flatten_nil, List.append_nil]
  after_reads_simp
  rfl

/-! ## The table at an index -/

/-- The row of `ordV`. -/
def ordW (p : Fin 256) : BitVec 32 :=
  IntOp.addi (IntOp.addi (IntOp.muli 32#32 (IntOp.andi (IntOp.shrsi .host (BitVec.ofNat 32 p.val) 3#32) 7#32))
    (IntOp.muli 4#32 (IntOp.andi (BitVec.ofNat 32 p.val) 7#32))) (IntOp.shrsi .host (BitVec.ofNat 32 p.val) 6#32)

theorem ordW_low : ∀ p : Fin 256, IntOp.andi (ordW p) 31#32 = BitVec.ofNat 32 (4 * (p.val % 8) + p.val / 64) := by decide +kernel
theorem ordW_high : ∀ p : Fin 256, IntOp.shrsi .host (ordW p) 5#32 = BitVec.ofNat 32 (p.val / 8 % 8) := by decide +kernel
theorem col_low : ∀ p : Fin 256, IntOp.andi (BitVec.ofNat 32 p.val) 31#32 = BitVec.ofNat 32 (p.val % 32) := by decide +kernel
theorem col_high : ∀ p : Fin 256, IntOp.shrsi .host (BitVec.ofNat 32 p.val) 5#32 = BitVec.ofNat 32 (p.val / 32) := by decide +kernel
theorem eq_block : ∀ a b : Fin 8, IntOp.cmpi .eq (BitVec.ofNat 32 a.val) (BitVec.ofNat 32 b.val) = if a = b then 1#1 else 0#1 := by decide +kernel

theorem evenV_at (p q : Fin 256) : evenV (ix2 p q)
    = IntOp.cmpi .eq (IntOp.andi (IntOp.ctpop (IntOp.andi (IntOp.andi (ordW p) 31#32) (IntOp.andi (BitVec.ofNat 32 q.val) 31#32))) 1#32) 0#32 := by
  rfl

theorem sameV_at (p q : Fin 256) : sameV (ix2 p q)
    = IntOp.cmpi .eq (IntOp.shrsi .host (ordW p) 5#32) (IntOp.shrsi .host (BitVec.ofNat 32 q.val) 5#32) := by
  rfl

theorem tabV_at (p q : Fin 256) : tabV (ix2 p q)
    = Scalar.select (sameV (ix2 p q)) (Scalar.select (evenV (ix2 p q)) (cst 0x3E800000#32) (cst 0xBE800000#32)) (cst 0x00000000#32) := by
  rfl

theorem signedV_at (x : FVec Ideal S3840 .f32) (i : S3840x256.Idx) (T : Fin 15) (p q : Fin 256)
    (h0 : (i 0).val = 256 * T.val + p.val) (h1 : (i 1).val = q.val) :
    signedV x i = tabV (ix2 p q) * x (ix1 ⟨256 * T.val + q.val, by omega⟩) := by
  unfold signedV
  rw [truncf_at]
  refine (shapeCast_apply _ _ i (ix3 T p q) (by
    rw [eq_ix2 i, Shape.rowMajor_val_two, Shape.rowMajor_val_three]
    show (T.val * 256 + p.val) * 256 + q.val = (i 0).val * 256 + (i 1).val
    rw [h0, h1]; ring)).trans ?_
  rw [mulf_at]
  refine congrArg₂ (fun a b : EReal => a * b) rfl ?_
  exact shapeCast_apply _ _ (ix3 T (0 : Fin 1) q) (ix1 _) (by
    rw [Shape.rowMajor_val_one, Shape.rowMajor_val_three]
    show 256 * T.val + q.val = (T.val * 1 + 0) * 256 + q.val
    ring)

end Cert.XKernelIdeal.Table

end
-- ==== Proof.XRotate.lean ====
/-
  The rotation: the scaled product of a tile with its table is the reference's rotated value, and the scaled maximum
  over a block is the reference's block maximum.
-/
module

public import proofs.«01_k».proof.Proof.XTable

@[expose] public section

noncomputable section

open Idealize.ShloMosaic Idealize.ShloMosaic.TcCoe Idealize.SL.Sem

namespace Cert.XKernelIdeal.Table

open Cert.XKernelIdeal Cert.XKernelIdeal.Gen Cert.XKernelIdeal.Pay Cert.Quant
open Cert.XReferenceIdeal.Read (rotV rotA rotU rotCode)

/-! ## The constants -/

theorem cst_quarter : cst 0x3E800000#32 = ((1 / 4 : ℝ) : EReal) := by
  rw [cst_of _ 125 0 (by decide) (by decide) (by decide) (by norm_num) (by norm_num)]; norm_num

theorem cst_neg_quarter : cst 0xBE800000#32 = ((-(1 / 4) : ℝ) : EReal) := by
  unfold cst Ideal.ofBits Ideal.ieee
  dsimp only
  rw [show ((0xBE800000#32 : BitVec 32).extractLsb' 23 8).toNat = 125 from by decide,
    show ((0xBE800000#32 : BitVec 32).extractLsb' 0 23).toNat = 0 from by decide,
    show ((0xBE800000#32 : BitVec 32).extractLsb' 31 1 == 1#1) = true from by decide, if_neg (by norm_num), if_neg (by norm_num)]
  refine congrArg (fun t : ℝ => (t : EReal)) ?_
  norm_num

/-- A quarter of the scale of a value is the entry of the sign matrix. -/
theorem quarter_vs : cst 0x3E800000#32 * vs = cst 0x3E3504F3#32 := by
  rw [cst_quarter, vs, cst_of 0x3F3504F3#32 126 3474675 (by decide) (by decide) (by decide) (by norm_num) (by norm_num),
    cst_of 0x3E3504F3#32 124 3474675 (by decide) (by decide) (by decide) (by norm_num) (by norm_num), ← EReal.coe_mul]
  refine congrArg (fun t : ℝ => (t : EReal)) ?_
  norm_num

theorem neg_quarter_vs : cst 0xBE800000#32 * vs = -cst 0x3E3504F3#32 := by
  rw [← quarter_vs, cst_quarter, cst_neg_quarter, EReal.coe_neg, EReal.neg_mul]

/-- A positive real factor is distributed over a sum. -/
theorem sum_mul_vs {ι : Type} (S : Finset ι) (f : ι → EReal) : (∑ i ∈ S, f i) * vs = ∑ i ∈ S, f i * vs := by
  obtain ⟨v, hv, e⟩ := vs_pos
  rw [e]
  induction S using Finset.cons_induction with
  | empty => simp
  | cons a S h ih =>
    rw [Finset.sum_cons, Finset.sum_cons, EReal.right_distrib_of_nonneg_of_ne_top (EReal.coe_nonneg.mpr hv.le) (EReal.coe_ne_top v), ih]

/-- The scaled entry of the table. -/
theorem tabV_vs (p q : Fin 256) : tabV (ix2 p q) * vs
    = if p.val / 8 % 8 = q.val / 32 then had ⟨4 * (p.val % 8) + p.val / 64, by omega⟩ ⟨q.val % 32, by omega⟩ else 0 := by
  rw [tabV_at, sameV_at, evenV_at, ordW_low, ordW_high, col_low, col_high]
  have e := eq_block ⟨p.val / 8 % 8, by omega⟩ ⟨q.val / 32, by omega⟩
  rw [show IntOp.cmpi .eq (BitVec.ofNat 32 (p.val / 8 % 8)) (BitVec.ofNat 32 (q.val / 32)) = _ from e]
  by_cases h : p.val / 8 % 8 = q.val / 32
  · rw [if_pos (Fin.ext h), if_pos h]
    unfold had Scalar.select
    rw [if_pos (show (1#1 : BitVec 1) = 1 from rfl)]
    dsimp only
    generalize IntOp.cmpi .eq _ 0#32 = b
    by_cases hb : b = 1
    · rw [if_pos hb, if_pos hb, quarter_vs]
    · rw [if_neg hb, if_neg hb, neg_quarter_vs]
  · rw [if_neg (fun h' => h (congrArg Fin.val h')), if_neg h]
    unfold Scalar.select
    rw [if_neg (by decide), cst_zero, EReal.coe_zero, zero_mul]

section Tile

variable (x0 : (⟨S3840x6144, .bf16⟩ : BufTy).Contents (Elt Ideal)) (x1 : (⟨S3840, .f32⟩ : BufTy).Contents (Elt Ideal))
variable (w : Vec Ideal S256x256 .bf16) (h : Vec Ideal S256x256 .bf16) (T : Fin 15) (l : Fin 256) (col : Fin 6144)

/-- The tile of weights is tile `T` of the array, its column `l` the array's column `col`. -/
def TileW : Prop := ∀ p : Fin 256, w (ix2 p l) = x0 (ix2 ⟨256 * T.val + p.val, by omega⟩ col)
/-- The tile of the table is the table's, with the signs of tile `T`. -/
def TileH : Prop := ∀ p q : Fin 256, h (ix2 p q) = tabV (ix2 p q) * x1 (ix1 ⟨256 * T.val + q.val, by omega⟩)

variable (hw : TileW x0 w T l col) (hh : TileH x1 h T)
include hw hh

omit hw hh in
theorem term_vs (t s x v : EReal) : t * s * x * v = x * s * (t * v) := by
  ac_rfl

theorem prod_vs (j : Fin 4) (q : Fin 64) : prod w h ⟨64 * j.val + q.val, by omega⟩ l * vs
    = rotV x0 x1 ⟨8 * T.val + q.val / 8, by omega⟩ ⟨4 * (q.val % 8) + j.val, by omega⟩ col := by
  unfold prod rotV
  rw [sum_mul_vs]
  symm
  refine Fintype.sum_of_injective (fun k : Fin 32 => (⟨32 * (q.val / 8) + k.val, by omega⟩ : Fin 256)) ?_ _ _ ?_ ?_
  · intro a b hab
    have := congrArg Fin.val hab
    dsimp only at this
    exact Fin.ext (by omega)
  · intro k hk
    rw [hh, term_vs, tabV_vs, if_neg, mul_zero]
    intro he
    refine hk ⟨⟨k.val % 32, by omega⟩, Fin.ext ?_⟩
    show 32 * (q.val / 8) + k.val % 32 = k.val
    dsimp only at he
    omega
  · intro k
    rw [hh, hw, term_vs, tabV_vs, if_pos (by dsimp only; omega)]
    refine congrArg₂ (fun a b : EReal => a * b) (congrArg₂ (fun a b : EReal => a * b) (congrArg x0 ?_) (congrArg x1 ?_)) (congrArg₂ had ?_ ?_)
    · exact congrArg (fun z => ix2 z col) (Fin.ext (by dsimp only; omega))
    · exact congrArg ix1 (Fin.ext (by dsimp only; omega))
    · exact Fin.ext (by dsimp only; omega)
    · exact Fin.ext (by dsimp only; omega)

omit hw hh in
theorem max_mul_vs (a b : EReal) : max a b * vs = max (a * vs) (b * vs) := by
  obtain ⟨v, hv, e⟩ := vs_pos
  rw [e]
  exact Monotone.map_max (f := fun x : EReal => x * (v : EReal)) fun x y hxy => mul_le_mul_of_nonneg_right hxy (EReal.coe_nonneg.mpr hv.le)

theorem prodAbs_vs (j : Fin 4) (q : Fin 64) : prodAbs w h ⟨64 * j.val + q.val, by omega⟩ l * vs
    = max (rotV x0 x1 ⟨8 * T.val + q.val / 8, by omega⟩ ⟨4 * (q.val % 8) + j.val, by omega⟩ col)
      (-rotV x0 x1 ⟨8 * T.val + q.val / 8, by omega⟩ ⟨4 * (q.val % 8) + j.val, by omega⟩ col) := by
  unfold prodAbs
  rw [max_mul_vs, EReal.neg_mul, prod_vs x0 x1 w h T l col hw hh]

omit hw hh in
theorem cst_bot : cst 0xFF800000#32 = ⊥ := by
  unfold cst Ideal.ofBits Ideal.ieee
  dsimp only
  rw [show ((0xFF800000#32 : BitVec 32).extractLsb' 23 8).toNat = 255 from by decide,
    show ((0xFF800000#32 : BitVec 32).extractLsb' 0 23).toNat = 0 from by decide,
    show ((0xFF800000#32 : BitVec 32).extractLsb' 31 1 == 1#1) = true from by decide]
  simp

theorem top_vs (g : Fin 8) : top w h g l * vs = rotA x0 x1 ⟨8 * T.val + g.val, by omega⟩ col := by
  unfold top rotA
  have e : cst 0xFF800000#32 * vs = cst 0xFF800000#32 := by
    obtain ⟨v, hv, e⟩ := vs_pos
    rw [cst_bot, e, EReal.bot_mul_coe_of_pos hv]
  rw [← Finset.fold_hom (m := fun x : EReal => x * vs) max_mul_vs, e]
  refine eq_of_forall_ge_iff fun c => ?_
  rw [Finset.fold_max_le, Finset.fold_max_le]
  refine and_congr_right fun _ => ?_
  have key : ∀ (s : Fin 8) (j : Fin 4) (p : Fin 256) (hp : p.val = 64 * j.val + (8 * g.val + s.val)) (n : Fin 32) (hn : n.val = 4 * s.val + j.val),
      prodAbs w h p l * vs = max (rotV x0 x1 ⟨8 * T.val + g.val, by omega⟩ n col) (-rotV x0 x1 ⟨8 * T.val + g.val, by omega⟩ n col) := by
    intro s j p hp n hn
    have := prodAbs_vs x0 x1 w h T l col hw hh j ⟨8 * g.val + s.val, by omega⟩
    rw [show p = ⟨64 * j.val + (⟨8 * g.val + s.val, by omega⟩ : Fin 64).val, by dsimp only; omega⟩ from Fin.ext hp, this]
    rw [show (⟨8 * T.val + (⟨8 * g.val + s.val, by omega⟩ : Fin 64).val / 8, by dsimp only; omega⟩ : Fin 120) = ⟨8 * T.val + g.val, by omega⟩ from Fin.ext (by dsimp only; omega),
      show (⟨4 * ((⟨8 * g.val + s.val, by omega⟩ : Fin 64).val % 8) + j.val, by dsimp only; omega⟩ : Fin 32) = n from Fin.ext (by dsimp only; omega)]
  constructor
  · intro H n _
    have hs := H ⟨n.val / 4, by omega⟩ (Finset.mem_univ _)
    rw [max_mul_vs, max_mul_vs, max_mul_vs, max_le_iff, max_le_iff, max_le_iff] at hs
    obtain ⟨⟨h0, h1⟩, h2, h3⟩ := hs
    have hj : n.val % 4 = 0 ∨ n.val % 4 = 1 ∨ n.val % 4 = 2 ∨ n.val % 4 = 3 := by omega
    rcases hj with hj | hj | hj | hj
    · rwa [key ⟨n.val / 4, by omega⟩ 0 _ (by simp) n (by simp; omega)] at h0
    · rwa [key ⟨n.val / 4, by omega⟩ 1 _ (by simp) n (by simp; omega)] at h1
    · rwa [key ⟨n.val / 4, by omega⟩ 2 _ (by simp) n (by simp; omega)] at h2
    · rwa [key ⟨n.val / 4, by omega⟩ 3 _ (by simp) n (by simp; omega)] at h3
  · intro H s _
    rw [max_mul_vs, max_mul_vs, max_mul_vs, max_le_iff, max_le_iff, max_le_iff,
      key s 0 _ (by simp) ⟨4 * s.val + 0, by omega⟩ (by simp), key s 1 _ (by simp) ⟨4 * s.val + 1, by omega⟩ (by simp),
      key s 2 _ (by simp) ⟨4 * s.val + 2, by omega⟩ (by simp), key s 3 _ (by simp) ⟨4 * s.val + 3, by omega⟩ (by simp)]
    exact ⟨⟨H _ (Finset.mem_univ _), H _ (Finset.mem_univ _)⟩, H _ (Finset.mem_univ _), H _ (Finset.mem_univ _)⟩

end Tile

end Cert.XKernelIdeal.Table

end
-- ==== Proof.XElement.lean ====
/-
  One element of a tile: the kernel's code, decoded value and exponent are the reference's, for a block whose maximum
  is zero or in the range of the exponent.
-/
module

public import proofs.«01_k».proof.Proof.XRotate

@[expose] public section

noncomputable section

open Idealize.ShloMosaic Idealize.ShloMosaic.TcCoe Idealize.SL.Sem

namespace Cert.XKernelIdeal.Table

open Cert.XKernelIdeal Cert.XKernelIdeal.Gen Cert.XKernelIdeal.Pay Cert.Quant
open Cert.XReferenceIdeal.Read (rotV rotA rotU rotCode)

/-- The maximum of a block is zero, or neither too small nor too large for the exponent. -/
def InRange (a : EReal) : Prop := ∃ r : ℝ, a = (r : EReal) ∧ (r = 0 ∨ (2 : ℝ) ^ (-123 : ℤ) ≤ r) ∧ r < 2 ^ (128 : ℤ)

/-- A number a positive real multiple of which is real is real. -/
theorem real_of_mul {p : EReal} {v x : ℝ} (hv : 0 < v) (h : p * (v : EReal) = (x : EReal)) : ∃ s : ℝ, p = (s : EReal) ∧ x = v * s := by
  induction p with
  | bot => rw [EReal.bot_mul_coe_of_pos hv] at h; exact absurd h.symm (EReal.coe_ne_bot x)
  | top => rw [EReal.top_mul_coe_of_pos hv] at h; exact absurd h.symm (EReal.coe_ne_top x)
  | coe s => exact ⟨s, rfl, by rw [← EReal.coe_mul] at h; rw [mul_comm]; exact (EReal.coe_eq_coe_iff.mp h).symm⟩

/-- A number whose magnitude is at most a real is real. -/
theorem real_of_abs {p : EReal} {a : ℝ} (h : max p (-p) ≤ (a : EReal)) : ∃ x : ℝ, p = (x : EReal) ∧ |x| ≤ a := by
  rw [max_le_iff] at h
  induction p with
  | bot => exact absurd (le_trans (le_of_eq EReal.neg_bot.symm) h.2) (by simp)
  | top => exact absurd h.1 (by simp)
  | coe s =>
    refine ⟨s, rfl, abs_le'.mpr ⟨EReal.coe_le_coe_iff.mp h.1, ?_⟩⟩
    have := h.2
    rw [← EReal.coe_neg] at this
    exact EReal.coe_le_coe_iff.mp this

/-- The random number of a byte is strictly between zero and one. -/
theorem uOf_byte (b : BitVec 8) : ∃ u : ℝ, uOf (byteVal b) = (u : EReal) ∧ 0 < u ∧ u < 1 := by
  have hb : (b.setWidth 32).toInt = (b.toNat : ℤ) := by
    rw [BitVec.toInt_eq_toNat_of_msb]
    · simp
      omega
    · have := b.isLt
      simp [BitVec.msb_eq_decide]
      omega
  have h0 : (b.toNat : ℝ) < 256 := by exact_mod_cast b.isLt
  have h1 : (0 : ℝ) ≤ b.toNat := Nat.cast_nonneg _
  refine ⟨((b.toNat : ℝ) + 1 / 2) * (1 / 256), ?_, by positivity, ?_⟩
  · unfold uOf byteVal
    rw [hb, cst_half, cst_byte, ← EReal.coe_add, ← EReal.coe_mul, Int.cast_natCast]
  · have : (b.toNat : ℝ) ≤ 255 := by
      have := b.isLt
      exact_mod_cast (by omega : b.toNat ≤ 255)
    linarith

variable (x0 : (⟨S3840x6144, .bf16⟩ : BufTy).Contents (Elt Ideal)) (x1 : (⟨S3840, .f32⟩ : BufTy).Contents (Elt Ideal))
variable (x2 : (⟨S3840x6144, .i8⟩ : BufTy).Contents (Elt Ideal))
variable (w : Vec Ideal S256x256 .bf16) (h : Vec Ideal S256x256 .bf16) (r : Vec Ideal S256x256 .i8) (T : Fin 15) (l : Fin 256) (col : Fin 6144)

/-- The tile of random bytes is tile `T` of the array. -/
def TileR : Prop := ∀ p : Fin 256, r (ix2 p l) = x2 (ix2 ⟨256 * T.val + p.val, by omega⟩ col)

theorem rotV_le (b : Fin 120) (n : Fin 32) (c : Fin 6144) : max (rotV x0 x1 b n c) (-rotV x0 x1 b n c) ≤ rotA x0 x1 b c := by
  unfold rotA
  exact (Finset.le_fold_max _).mpr (Or.inr ⟨n, Finset.mem_univ _, le_rfl⟩)

variable (hw : TileW x0 w T l col) (hh : TileH x1 h T)
include hw hh

theorem tile_exp (g : Fin 8) (hr : InRange (rotA x0 x1 ⟨8 * T.val + g.val, by omega⟩ col)) :
    kExp (top w h g l * vs) = Ideal.fptosi 32 (rExp (rotA x0 x1 ⟨8 * T.val + g.val, by omega⟩ col)) := by
  rw [top_vs x0 x1 w h T l col hw hh]
  obtain ⟨a, e, h0, h1⟩ := hr
  rw [e]
  exact exp_eq a h0 h1

variable (hx : TileR x2 r T l col)
include hx

theorem tile_element (j : Fin 4) (q : Fin 64) (b : Fin 120) (n : Fin 32) (hb : b.val = 8 * T.val + q.val / 8) (hn : n.val = 4 * (q.val % 8) + j.val)
    (hr : InRange (rotA x0 x1 b col)) :
    ∃ z < 16, tileCode w h r j q l = BitVec.ofNat 32 z ∧ rotCode x0 x1 x2 b n col = BitVec.ofNat 32 z
      ∧ tileVal w h r j q l = rDecode (BitVec.ofNat 32 z) * rBack (rotA x0 x1 b col) := by
  have lb : 8 * T.val + q.val / 8 < 120 := by omega
  have ln : 4 * (q.val % 8) + j.val < 32 := by omega
  obtain rfl : b = ⟨8 * T.val + q.val / 8, lb⟩ := Fin.ext hb
  obtain rfl : n = ⟨4 * (q.val % 8) + j.val, ln⟩ := Fin.ext hn
  have hp := prod_vs x0 x1 w h T l col hw hh j q
  have ht : tileMax w h q l = rotA x0 x1 ⟨8 * T.val + q.val / 8, by omega⟩ col := top_vs x0 x1 w h T l col hw hh ⟨q.val / 8, by omega⟩
  have hu : tileU r ⟨4 * q.val + j.val, by omega⟩ l = rotU x2 ⟨8 * T.val + q.val / 8, by omega⟩ ⟨4 * (q.val % 8) + j.val, by omega⟩ col := by
    unfold tileU rotU byteVal
    rw [hx, show (⟨256 * T.val + (⟨4 * q.val + j.val, by omega⟩ : Fin 256).val, by dsimp only; omega⟩ : Fin 3840)
      = ⟨32 * (8 * T.val + q.val / 8) + (4 * (q.val % 8) + j.val), by omega⟩ from Fin.ext (by dsimp only; omega)]
  obtain ⟨a, ea, ha0, ha1⟩ := hr
  obtain ⟨v, hv, ev⟩ := vs_pos
  obtain ⟨x, ex, hxa⟩ := real_of_abs ((rotV_le x0 x1 ⟨8 * T.val + q.val / 8, by omega⟩ ⟨4 * (q.val % 8) + j.val, by omega⟩ col).trans (le_of_eq ea))
  rw [ex, ev] at hp
  obtain ⟨s, es, rfl⟩ := real_of_mul hv hp
  have htop : top w h ⟨q.val / 8, by omega⟩ l * (v : EReal) = (a : EReal) := by rw [← ev, ← ea]; exact ht
  obtain ⟨A, eA, rfl⟩ := real_of_mul hv htop
  obtain ⟨u, eu, hu0, hu1⟩ := uOf_byte (r (ix2 ⟨4 * q.val + j.val, by omega⟩ l))
  have hu' : tileU r ⟨4 * q.val + j.val, by omega⟩ l = (u : EReal) := eu
  obtain ⟨z, hz, c1, c2, c3⟩ := element s A v (v * A) u hv ev (mul_comm v A) hxa ha0 ha1 hu0 hu1
  have hm : tileMag w h j q l = ((|s| : ℝ) : EReal) * kScale ((v * A : ℝ) : EReal) := by
    unfold tileMag prodAbs
    rw [ht, ea, es, ← EReal.coe_neg, ← EReal.coe_strictMono.monotone.map_max]
    rfl
  refine ⟨z, hz, ?_, ?_, ?_⟩
  · unfold tileCode
    rw [hm, es, hu', c1]
  · unfold rotCode
    rw [← hu, hu', ex, ea, c2]
  · unfold tileVal
    rw [hm, es, hu', ht, ea, c3]

end Cert.XKernelIdeal.Table

end
-- ==== Proof.XStore.lean ====
/-
  A trip's three stores are the reference's results: packed codes, decoded values and exponents of one tile, for weights
  whose blocks are all in range.
-/
module

public import proofs.«01_k».proof.Proof.XElement

@[expose] public section

noncomputable section

open Idealize.ShloMosaic Idealize.ShloMosaic.TcCoe Idealize.SL.Sem

namespace Cert.XKernelIdeal.Table

open Cert.XKernelIdeal Cert.XKernelIdeal.Gen Cert.XKernelIdeal.Pay Cert.Quant
open Cert.XReferenceIdeal.Read (rotV rotA rotU rotCode codes_at vals_at batch_at val_main_v139 val_main_v142 val_main_v145)

variable (x0 : (⟨S3840x6144, .bf16⟩ : BufTy).Contents (Elt Ideal)) (x1 : (⟨S3840, .f32⟩ : BufTy).Contents (Elt Ideal))
variable (x2 : (⟨S3840x6144, .i8⟩ : BufTy).Contents (Elt Ideal))
variable (w : Vec Ideal S256x256 .bf16) (h : Vec Ideal S256x256 .bf16) (r : Vec Ideal S256x256 .i8) (T : Fin 15) (l : Fin 256) (col : Fin 6144)

variable (hw : TileW x0 w T l col) (hh : TileH x1 h T) (hx : TileR x2 r T l col) (hr : ∀ b c, InRange (rotA x0 x1 b c))

include hw hh hr in
theorem store_exp (g : Fin 8) (i : S3x40x6144.Idx) (h0 : 40 * (i 0).val + (i 1).val = 8 * T.val + g.val) (h1 : i 2 = col) :
    (storeExp w h (ix2 g l)).setWidth 8 = val_main_v145 (F := Ideal) x0 x1 i := by
  have lb : 8 * T.val + g.val < 120 := by omega
  rw [storeExp_at, tile_exp x0 x1 w h T l col hw hh g (hr _ _), batch_at x0 x1 i ⟨8 * T.val + g.val, lb⟩ h0.symm, h1]

include hw hh hx hr

/-- The code of an element is less than sixteen, and the reference's. -/
theorem tile_code (j : Fin 4) (q : Fin 64) (b : Fin 120) (n : Fin 32) (hb : b.val = 8 * T.val + q.val / 8) (hn : n.val = 4 * (q.val % 8) + j.val) :
    (tileCode w h r j q l).toNat < 16 ∧ tileCode w h r j q l = rotCode x0 x1 x2 b n col := by
  obtain ⟨z, hz, c1, c2, -⟩ := tile_element x0 x1 x2 w h r T l col hw hh hx j q b n hb hn (hr _ _)
  refine ⟨?_, c1.trans c2.symm⟩
  rw [c1, BitVec.toNat_ofNat, Nat.mod_eq_of_lt (by omega)]
  exact hz

theorem store_codes (R : Fin 128) (i : S1920x6144.Idx) (h0 : (i 0).val = 128 * T.val + R.val) (h1 : i 1 = col) :
    storeCodes w h r (ix2 R l) = val_main_v139 (F := Ideal) x0 x1 x2 i := by
  have lq : R.val / 2 < 64 := by omega
  have lb : 8 * T.val + R.val / 2 / 8 < 120 := by omega
  have C := fun (j : Fin 4) (n : Fin 32) hn => tile_code x0 x1 x2 w h r T l col hw hh hx hr j ⟨R.val / 2, lq⟩ ⟨8 * T.val + R.val / 2 / 8, lb⟩ n rfl hn
  have l0 : 4 * (R.val / 2 % 8) + 0 < 32 := by omega
  have l1 : 4 * (R.val / 2 % 8) + 1 < 32 := by omega
  have l2 : 4 * (R.val / 2 % 8) + 2 < 32 := by omega
  have l3 : 4 * (R.val / 2 % 8) + 3 < 32 := by omega
  obtain ⟨s0, c0⟩ := C 0 ⟨_, l0⟩ rfl
  obtain ⟨s1, c1⟩ := C 1 ⟨_, l1⟩ rfl
  obtain ⟨-, c2⟩ := C 2 ⟨_, l2⟩ rfl
  obtain ⟨-, c3⟩ := C 3 ⟨_, l3⟩ rfl
  rw [storeCodes_at w h r R l ⟨R.val / 2, lq⟩ rfl s0 s1]
  by_cases hR : R.val % 2 = 0
  · rw [if_pos hR, c0, c1, codes_at x0 x1 x2 i ⟨8 * T.val + R.val / 2 / 8, lb⟩ ⟨_, l0⟩ ⟨_, l1⟩ (by dsimp only; omega) rfl, h1]
    rfl
  · rw [if_neg hR, c2, c3, codes_at x0 x1 x2 i ⟨8 * T.val + R.val / 2 / 8, lb⟩ ⟨_, l2⟩ ⟨_, l3⟩ (by dsimp only; omega) rfl, h1]
    rfl

theorem store_vals (P : Fin 256) (i : S3840x6144.Idx) (h0 : (i 0).val = 256 * T.val + P.val) (h1 : i 1 = col) :
    storeVals w h r (ix2 P l) = val_main_v142 (F := Ideal) x0 x1 x2 i := by
  have lq : P.val % 64 < 64 := by omega
  have lb : 8 * T.val + P.val % 64 / 8 < 120 := by omega
  have lj : 2 * (P.val / 64 % 2) + P.val / 128 < 4 := by omega
  have ln : 4 * (P.val % 64 % 8) + (2 * (P.val / 64 % 2) + P.val / 128) < 32 := by omega
  obtain ⟨z, hz, -, c2, c3⟩ := tile_element x0 x1 x2 w h r T l col hw hh hx ⟨_, lj⟩ ⟨_, lq⟩ ⟨_, lb⟩ ⟨_, ln⟩ rfl rfl (hr _ _)
  have e := storeVals_at w h r (P.val / 128) (P.val / 64 % 2) (by omega) (by omega) ⟨_, lq⟩ l
  have eP : P = ⟨128 * (P.val / 128) + 64 * (P.val / 64 % 2) + P.val % 64, by omega⟩ := Fin.ext (by dsimp only; omega)
  rw [show storeVals w h r (ix2 P l) = _ from (congrArg (fun p => storeVals w h r (ix2 p l)) eP).trans e]
  rw [vals_at x0 x1 x2 i ⟨_, lb⟩ ⟨_, ln⟩ T.val (P.val / 128) (P.val / 64 % 2) (P.val % 64 / 8) (P.val % 64 % 8) (by omega) (by omega) (by omega) (by omega)
    (by omega) (by dsimp only) (by dsimp only; omega), h1, c2]
  exact c3

end Cert.XKernelIdeal.Table

end
-- ==== Proof.XRange.lean ====
/-
  The precondition of the quantiser, read element by element: every block's largest rotated magnitude is zero or in
  range.
-/
module

public import proofs.«01_k».proof.Pre_in_range_x
public import proofs.«01_k».proof.Proof.XElement

@[expose] public section

noncomputable section

open Idealize.ShloMosaic

namespace Cert.Pre_in_range_x

open Cert.Quant Cert.XKernelIdeal.Pay
open Cert.XReferenceIdeal.Read (rotV rotA)

variable [Facts]
open Facts

variable (x0 : FVec Ideal S3840x6144 .bf16) (x1 : FVec Ideal S3840 .f32) (x2 : IVec S3840x6144 8)

/-- The signed weights, block by block. -/
def signedW : FVec Ideal S120x1x32x6144 .f32 :=
  shapeCast S120x1x32x6144 (mulf ((extf .f32 · bitsLt_bf16_f32) x0)
    (broadcastInDim S3840x6144 ![0, 1] bcast_S3840x1_S3840x6144_0_1 (broadcastInDim S3840x1 ![0] bcast_S3840_S3840x1_0 x1)))
    shapeCasts_S3840x6144_S120x1x32x6144

/-- The sign matrix. -/
def signs : FVec Ideal S32x32 .f32 :=
  fn_where (F := Ideal) (cmpi .eq (andi (ctpop (andi
      (broadcastInDim S32x32 ![0, 1] bcast_S32x1_S32x32_0_1 (broadcastInDim S32x1 ![0] bcast_S32_S32x1_0 (iotaInDim S32 32 0)))
      (broadcastInDim S32x32 ![0, 1] bcast_S1x32_S32x32_0_1 (broadcastInDim S1x32 ![1] bcast_S32_S1x32_1 (iotaInDim S32 32 0)))))
      (broadcastInDim S32x32 ![] bcast_S_S32x32 (constantI S_ 32 1#32))) (broadcastInDim S32x32 ![] bcast_S_S32x32 (constantI S_ 32 0#32)))
    (constant S_ .f32 0x3E3504F3#32) (Host.negf (constant S_ .f32 0x3E3504F3#32))

/-- The products a rotated value is the sum of. -/
def terms : FVec Ideal S120x32x32x6144 .f32 :=
  mulf (broadcastInDim S120x32x32x6144 ![0, 1, 2, 3] bcast_S1x32x32x1_S120x32x32x6144_0_1_2_3
      (broadcastInDim S1x32x32x1 ![1, 2] bcast_S32x32_S1x32x32x1_1_2 signs))
    (broadcastInDim S120x32x32x6144 ![0, 1, 2, 3] bcast_S120x1x32x6144_S120x32x32x6144_0_1_2_3 (signedW x0 x1))

/-- The rotated values. -/
def rotated : FVec Ideal S120x32x6144 .f32 :=
  Host.reduceAdd (terms x0 x1) (constant S_ .f32 0x00000000#32) reducesTo_S120x32x32x6144_S120x32x6144_d2 h_S_

theorem block_max_eq : fn_block_max (F := Ideal) x0 x1
    = Host.reduce FloatOps.maximumf (Host.absf (rotated x0 x1)) (constant S_ .f32 0xFF800000#32) reducesTo_S120x32x6144_S120x6144_d1 h_S_ := by
  with_unfolding_all rfl

theorem signs_at (n k : Fin 32) : signs (ix2 n k) = had n k := by
  rfl

theorem signedW_at (b : Fin 120) (k : Fin 32) (c : Fin 6144) : signedW x0 x1 (ix4 b (0 : Fin 1) k c)
    = x0 (ix2 ⟨32 * b.val + k.val, by omega⟩ c) * x1 (ix1 ⟨32 * b.val + k.val, by omega⟩) := by
  unfold signedW
  refine (shapeCast_apply _ _ _ (ix2 (⟨32 * b.val + k.val, by omega⟩ : Fin 3840) c) (by
    rw [Shape.rowMajor_val_two, Shape.rowMajor_val_four]
    show (32 * b.val + k.val) * 6144 + c.val = ((b.val * 1 + 0) * 32 + k.val) * 6144 + c.val
    ring)).trans ?_
  refine congrArg₂ (fun p q : EReal => p * q) rfl (congrArg x1 (funext fun a => ?_))
  match a with
  | ⟨0, _⟩ => rfl

theorem rotated_at (b : Fin 120) (n : Fin 32) (c : Fin 6144) : rotated x0 x1 (ix3 b n c) = rotV x0 x1 b n c := by
  unfold rotated
  rw [Host.reduceAdd_apply, Ideal.hostReduceAdd_def, Ideal.hostReduceAdd_r4_a2,
    show constant (F := Ideal) S_ .f32 0x00000000#32 (Shape.Idx.first h_S_) = ((0 : ℝ) : EReal) from cst_zero, EReal.coe_zero, zero_add]
  unfold rotV
  refine Finset.sum_congr rfl fun k _ => ?_
  refine Eq.trans (b := had n k * signedW x0 x1 (ix4 b (0 : Fin 1) k c)) ?_ (by rw [signedW_at, mul_comm])
  unfold terms
  rw [mulf_at]
  refine congrArg₂ (fun p q : EReal => p * q) ?_ (congrArg (signedW x0 x1) (funext fun a => ?_))
  · exact signs_at n k
  · fin_cases a <;> rfl

theorem block_max_at (b : Fin 120) (c : Fin 6144) : fn_block_max (F := Ideal) x0 x1 (ix2 b c) = rotA x0 x1 b c := by
  rw [block_max_eq, Host.reduce_eq_fold, Shape.ReducesTo.fold_fiber_r3_a1]
  unfold rotA
  refine Finset.fold_congr fun n _ => ?_
  show max (rotated x0 x1 (ix3 b n c)) (-rotated x0 x1 (ix3 b n c)) = _
  rw [rotated_at]

/-! ## The predicate -/

/-- The least positive maximum in range. -/
theorem cst_low : cst 0x02000000#32 = (((2 : ℝ) ^ (-123 : ℤ) : ℝ) : EReal) := by
  rw [cst_of _ 4 0 (by decide) (by decide) (by decide) (by norm_num) (by norm_num)]
  refine congrArg (fun t : ℝ => (t : EReal)) ?_
  norm_num

/-- Half the bound of a maximum. -/
theorem cst_high : cst 0x7F000000#32 = (((2 : ℝ) ^ (127 : ℤ) : ℝ) : EReal) := by
  rw [cst_of _ 254 0 (by decide) (by decide) (by decide) (by norm_num) (by norm_num)]
  refine congrArg (fun t : ℝ => (t : EReal)) ?_
  norm_num

theorem bits (p q r : BitVec 1) (h : IntOp.ori p (IntOp.andi q r) = 1#1) : p = 1#1 ∨ (q = 1#1 ∧ r = 1#1) := by
  revert p q r; decide

theorem of_decide {P : Prop} [Decidable P] (h : BitVec.ofBool (decide P) = 1#1) : P := by
  by_contra hp
  rw [decide_eq_false hp] at h
  exact absurd h (by decide)

open Cert.XKernelIdeal.Table (InRange) in
/-- Where the predicate holds, the maximum is in range. -/
theorem in_range (a : EReal) (h : IntOp.ori (Ideal.cmp .oeq a (cst 0x00000000#32))
      (IntOp.andi (Ideal.cmp .oge a (cst 0x02000000#32)) (Ideal.cmp .olt (cst 0x3F000000#32 * a) (cst 0x7F000000#32))) = 1#1) : InRange a := by
  rw [cst_zero, cst_low, cst_high, cst_half] at h
  rcases bits _ _ _ h with h0 | ⟨h1, h2⟩
  · exact ⟨0, of_decide h0, Or.inl rfl, by positivity⟩
  · have h1 : (((2 : ℝ) ^ (-123 : ℤ) : ℝ) : EReal) ≤ a := of_decide h1
    have h2 : ((1 / 2 : ℝ) : EReal) * a < (((2 : ℝ) ^ (127 : ℤ) : ℝ) : EReal) := of_decide h2
    clear h
    induction a with
    | bot => exact absurd h1 (not_le.mpr (EReal.bot_lt_coe _))
    | top => rw [EReal.coe_mul_top_of_pos (by norm_num)] at h2; exact absurd h2 not_top_lt
    | coe r =>
      refine ⟨r, rfl, Or.inr (EReal.coe_le_coe_iff.mp h1), ?_⟩
      rw [← EReal.coe_mul, EReal.coe_lt_coe_iff] at h2
      have e : (2 : ℝ) ^ (128 : ℤ) = 2 * 2 ^ (127 : ℤ) := by norm_num
      rw [e]; linarith

theorem cmpf_at {s : Shape} {φ : FTy} (p : CmpFPredicate) (x y : FVec Ideal s φ) (i : s.Idx) : cmpf p x y i = Ideal.cmp p (x i) (y i) := rfl
theorem ori_at {s : Shape} {n : ℕ} (x y : IVec s n) (i : s.Idx) : ori x y i = IntOp.ori (x i) (y i) := rfl
theorem andi_at {s : Shape} {n : ℕ} (x y : IVec s n) (i : s.Idx) : andi x y i = IntOp.andi (x i) (y i) := rfl
theorem const_at {φ : FTy} (b : BitVec φ.bits) (i : S120x6144.Idx) : broadcastInDim S120x6144 ![] bcast_S_S120x6144 (constant (F := Ideal) S_ φ b) i = Ideal.ofBits φ b := rfl

theorem fn_at (i : S120x6144.Idx) : fn (F := Ideal) x0 x1 x2 i
    = IntOp.ori (Ideal.cmp .oeq (fn_block_max (F := Ideal) x0 x1 i) (cst 0x00000000#32))
      (IntOp.andi (Ideal.cmp .oge (fn_block_max (F := Ideal) x0 x1 i) (cst 0x02000000#32))
        (Ideal.cmp .olt (cst 0x3F000000#32 * fn_block_max (F := Ideal) x0 x1 i) (cst 0x7F000000#32))) := by
  unfold fn
  dsimp only
  generalize fn_block_max (F := Ideal) x0 x1 = y
  rw [ori_at, andi_at, cmpf_at, cmpf_at, cmpf_at, mulf_at, const_at, const_at, const_at, const_at]

open Cert.XKernelIdeal.Table (InRange) in
/-- The predicate puts every block in range. -/
theorem inRange_of_fn (h : fn (F := Ideal) x0 x1 x2 = fun _ => 1#1) (b : Fin 120) (c : Fin 6144) : InRange (rotA x0 x1 b c) := by
  have := congrFun h (ix2 b c)
  rw [fn_at, block_max_at] at this
  exact in_range _ this

end Cert.Pre_in_range_x

end
-- ==== Proof.XValue.lean ====
/-
  The quantiser over the reals: the three arrays the kernel leaves are the reference's, for activations whose blocks are all
  in range.
-/
module

public import proofs.«01_k».proof.Proof.XStore
public import proofs.«01_k».proof.Proof.XRange
public import proofs.«01_k».proof.Proof.Gen.XKernelIdeal.Value

@[expose] public section

noncomputable section

open Idealize.ShloMosaic Idealize.ShloMosaic.TcCoe Idealize.SL.Sem
open Idealize.ShloMosaic.Pipeline (Dat)

namespace Cert.XKernelIdeal.Value

open Cert.XKernelIdeal Cert.XKernelIdeal.Gen Cert.XKernelIdeal.Pay Cert.XKernelIdeal.Table Cert.Quant
open Cert.XReferenceIdeal.Read (rotA val_main_v139 val_main_v142 val_main_v145)

variable (m : (ℓ : Loc nD τ sig) → Buf (Elt Ideal) ℓ)

/-! ## The blocks as parts of the arrays -/

/-- Which block of each array a grid point reads and writes: all the rows of column block `t`, and the whole table. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_4.index t (0 : Fin 3) = 0 ∧ win0_4.index t (1 : Fin 3) = 0 ∧ win0_4.index t (2 : Fin 3) = t.val
    ∧ win0_5.index t (0 : Fin 2) = 0 ∧ win0_5.index t (1 : Fin 2) = t.val :=
  (by decide +kernel : ∀ t : Fin grid0.N, _)

theorem iblk0_apply (c : Dev nD) (t : Fin cfg0.N) (j : S3840x256.Idx) (p : S3840x6144.Idx)
    (e0 : (p 0).val = (j 0).val) (e1 : (p 1).val = t.val * 256 + (j 1).val) :
    iblk m c 0 t j = m ((c : Thread nD τ).loc main_arg0) p := by
  obtain ⟨d0, d1, -⟩ := idx_facts t
  unfold iblk; rw [View.read_apply]
  show V m c main_arg0 _ = _
  rw [V_main_arg0]
  congr 1; funext a; apply Fin.ext
  match a with
  | ⟨0, _⟩ => show win0_0.index t (0 : Fin 2) * 3840 + 1 * (j 0).val = (p 0).val; rw [d0, e0]; omega
  | ⟨1, _⟩ => show win0_0.index t (1 : Fin 2) * 256 + 1 * (j 1).val = (p 1).val; rw [d1, e1]; omega

theorem iblk1_apply (c : Dev nD) (t : Fin cfg0.N) (j : S3840x256.Idx) (p : S3840x6144.Idx)
    (e0 : (p 0).val = (j 0).val) (e1 : (p 1).val = t.val * 256 + (j 1).val) :
    iblk m c 1 t j = m ((c : Thread nD τ).loc main_arg2) p := by
  obtain ⟨-, -, d0, d1, -⟩ := idx_facts t
  unfold iblk; rw [View.read_apply]
  show V m c main_arg2 _ = _
  rw [V_main_arg2]
  congr 1; funext a; apply Fin.ext
  match a with
  | ⟨0, _⟩ => show win0_1.index t (0 : Fin 2) * 3840 + 1 * (j 0).val = (p 0).val; rw [d0, e0]; omega
  | ⟨1, _⟩ => show win0_1.index t (1 : Fin 2) * 256 + 1 * (j 1).val = (p 1).val; rw [d1, e1]; omega

theorem iblk2_apply (c : Dev nD) (t : Fin cfg0.N) (j : S3840x256.Idx) (p : S3840x256.Idx)
    (e0 : (p 0).val = (j 0).val) (e1 : (p 1).val = (j 1).val) :
    iblk m c 2 t j = signedV (m ((c : Thread nD τ).loc main_arg1)) p := by
  obtain ⟨-, -, -, -, d0, d1, -⟩ := idx_facts t
  unfold iblk; rw [View.read_apply]
  show V m c main_v48 _ = _
  rw [V_v48]
  congr 1; funext a; apply Fin.ext
  match a with
  | ⟨0, _⟩ => show win0_2.index t (0 : Fin 2) * 3840 + 1 * (j 0).val = (p 0).val; rw [d0, e0]; omega
  | ⟨1, _⟩ => show win0_2.index t (1 : Fin 2) * 256 + 1 * (j 1).val = (p 1).val; rw [d1, e1]; omega

/-! ## The tiles of a point's blocks -/

section Tiles

variable (c : Dev nD) (t : Fin cfg0.N) (k : ℕ) (hk : k < 15) (T : Fin 15) (l : Fin 256) (col : Fin 6144)
variable (hT : T.val = k) (hc : col.val = t.val * 256 + l.val)
include hT hc

theorem tile_w : TileW (m ((c : Thread nD τ).loc main_arg0)) (tileOf (iblk m c 0 t) k hk) T l col := fun p =>
  iblk0_apply m c t _ _ (by show 256 * T.val + p.val = (256 * k + p.val); omega) hc

theorem tile_r : TileR (m ((c : Thread nD τ).loc main_arg2)) (tileOf (iblk m c 1 t) k hk) T l col := fun p =>
  iblk1_apply m c t _ _ (by show 256 * T.val + p.val = (256 * k + p.val); omega) hc

omit hc in
theorem tile_h : TileH (m ((c : Thread nD τ).loc main_arg1)) (tabOf (iblk m c 2 t) k hk) T := fun p q =>
  (iblk2_apply m c t (ix2 (⟨256 * k + p.val, by omega⟩ : Fin 3840) q) (ix2 (⟨256 * T.val + p.val, by omega⟩ : Fin 3840) q)
    (by show 256 * T.val + p.val = (256 * k + p.val); omega) rfl).trans (signedV_at _ _ T p q rfl rfl)

end Tiles

/-! ## The result arrays -/

/-- The reference's packed codes over the kernel's arguments. -/
def G3 (c : Dev nD) : Buf (Elt Ideal) ((c : Thread nD τ).loc main_v49_0) := val_main_v139 (F := Ideal)
    (m ((c : Thread nD τ).loc main_arg0)) (m ((c : Thread nD τ).loc main_arg1)) (m ((c : Thread nD τ).loc main_arg2))
/-- The reference's exponents over the kernel's arguments. -/
def G4 (c : Dev nD) : Buf (Elt Ideal) ((c : Thread nD τ).loc main_v49_1) := val_main_v145 (F := Ideal)
    (m ((c : Thread nD τ).loc main_arg0)) (m ((c : Thread nD τ).loc main_arg1))
/-- The reference's decoded values over the kernel's arguments. -/
def G5 (c : Dev nD) : Buf (Elt Ideal) ((c : Thread nD τ).loc main_v49_2) := val_main_v142 (F := Ideal)
    (m ((c : Thread nD τ).loc main_arg0)) (m ((c : Thread nD τ).loc main_arg1)) (m ((c : Thread nD τ).loc main_arg2))

section Final

variable (c : Dev nD)
variable (hr : ∀ b col, InRange (rotA (m ((c : Thread nD τ).loc main_arg0)) (m ((c : Thread nD τ).loc main_arg1)) b col))
include hr

theorem flushed3_eq (t : Fin cfg0.N) : (dats m 0 c).flushed 3 t = ((cfg0.win 3).blk t).view.read (Elt Ideal) (G3 m c) := by
  rw [flushed3_A, out_codes]
  obtain ⟨-, -, -, -, -, -, e0, e1, -⟩ := idx_facts t
  have hN : t.val < 24 := lt_of_lt_of_eq t.isLt N_0
  funext y
  have y0 : (y 0).val < 1920 := (y 0).isLt
  have y1 : (y 1).val < 256 := (y 1).isLt
  have hb0 : (((cfg0.win 3).blk t).view.emb y 0).val = win0_3.index t (0 : Fin 2) * 1920 + 1 * (y 0).val := rfl
  have hb1 : (((cfg0.win 3).blk t).view.emb y 1).val = win0_3.index t (1 : Fin 2) * 256 + 1 * (y 1).val := rfl
  rw [e0] at hb0; rw [e1] at hb1
  have hk : (y 0).val / 128 < 15 := by omega
  have lT : (y 0).val / 128 < 15 := by omega
  have lc : t.val * 256 + (y 1).val < 6144 := by omega
  show (blockCodes (iblk m c 0 t) (iblk m c 1 t) (iblk m c 2 t) ((cfg0.win 3).xinj (grid0.coords t) y) : BitVec 8) = G3 m c (((cfg0.win 3).blk t).view.emb y)
  rw [blockCodes_at _ _ _ _ hk ⟨(y 0).val % 128, by omega⟩ ⟨(y 1).val, y1⟩ _ (by show (y 0).val = 128 * ((y 0).val / 128) + (y 0).val % 128; omega) rfl]
  exact store_codes _ _ _ _ _ _ ⟨_, lT⟩ _ ⟨_, lc⟩ (tile_w m c t _ hk _ _ _ rfl rfl) (tile_h m c t _ hk _ rfl)
    (tile_r m c t _ hk _ _ _ rfl rfl) hr _ _ (by
      rw [hb0]; show _ = 128 * ((y 0).val / 128) + (y 0).val % 128; omega) (Fin.ext (by
      rw [hb1]; show _ = t.val * 256 + (y 1).val; omega))

theorem flushed4_eq (t : Fin cfg0.N) : (dats m 0 c).flushed 4 t = ((cfg0.win 4).blk t).view.read (Elt Ideal) (G4 m c) := by
  rw [flushed4_A, out_exp]
  obtain ⟨-, -, -, -, -, -, -, -, e0, e1, e2, -⟩ := idx_facts t
  have hN : t.val < 24 := lt_of_lt_of_eq t.isLt N_0
  funext y
  have y0 : (y 0).val < 3 := (y 0).isLt
  have y1 : (y 1).val < 40 := (y 1).isLt
  have y2 : (y 2).val < 256 := (y 2).isLt
  have hb0 : (((cfg0.win 4).blk t).view.emb y 0).val = win0_4.index t (0 : Fin 3) * 3 + 1 * (y 0).val := rfl
  have hb1 : (((cfg0.win 4).blk t).view.emb y 1).val = win0_4.index t (1 : Fin 3) * 40 + 1 * (y 1).val := rfl
  have hb2 : (((cfg0.win 4).blk t).view.emb y 2).val = win0_4.index t (2 : Fin 3) * 256 + 1 * (y 2).val := rfl
  rw [e0] at hb0; rw [e1] at hb1; rw [e2] at hb2
  have hk : (40 * (y 0).val + (y 1).val) / 8 < 15 := by omega
  have lc : t.val * 256 + (y 2).val < 6144 := by omega
  show (blockScale (iblk m c 0 t) (iblk m c 2 t) ((cfg0.win 4).xinj (grid0.coords t) y) : BitVec 8) = G4 m c (((cfg0.win 4).blk t).view.emb y)
  unfold blockScale
  rw [blockExp_at _ _ _ hk ⟨(40 * (y 0).val + (y 1).val) % 8, by omega⟩ ⟨(y 2).val, y2⟩ _
    (by show 40 * (y 0).val + (y 1).val = 8 * ((40 * (y 0).val + (y 1).val) / 8) + (40 * (y 0).val + (y 1).val) % 8; omega) rfl]
  exact store_exp _ _ _ _ ⟨_, hk⟩ _ ⟨_, lc⟩ (tile_w m c t _ hk _ _ _ rfl rfl) (tile_h m c t _ hk _ rfl)
    hr _ _ (by
      rw [hb0, hb1]; show _ = 8 * ((40 * (y 0).val + (y 1).val) / 8) + (40 * (y 0).val + (y 1).val) % 8; omega) (Fin.ext (by
      rw [hb2]; show _ = t.val * 256 + (y 2).val; omega))

theorem flushed5_eq (t : Fin cfg0.N) : (dats m 0 c).flushed 5 t = ((cfg0.win 5).blk t).view.read (Elt Ideal) (G5 m c) := by
  rw [flushed5_A, out_vals]
  obtain ⟨-, -, -, -, -, -, -, -, -, -, -, e0, e1⟩ := idx_facts t
  have hN : t.val < 24 := lt_of_lt_of_eq t.isLt N_0
  funext y
  have y0 : (y 0).val < 3840 := (y 0).isLt
  have y1 : (y 1).val < 256 := (y 1).isLt
  have hb0 : (((cfg0.win 5).blk t).view.emb y 0).val = win0_5.index t (0 : Fin 2) * 3840 + 1 * (y 0).val := rfl
  have hb1 : (((cfg0.win 5).blk t).view.emb y 1).val = win0_5.index t (1 : Fin 2) * 256 + 1 * (y 1).val := rfl
  rw [e0] at hb0; rw [e1] at hb1
  have hk : (y 0).val / 256 < 15 := by omega
  have lT : (y 0).val / 256 < 15 := by omega
  have lc : t.val * 256 + (y 1).val < 6144 := by omega
  show (blockVals (iblk m c 0 t) (iblk m c 1 t) (iblk m c 2 t) ((cfg0.win 5).xinj (grid0.coords t) y) : EReal) = G5 m c (((cfg0.win 5).blk t).view.emb y)
  rw [blockVals_at _ _ _ _ hk ⟨(y 0).val % 256, by omega⟩ ⟨(y 1).val, y1⟩ _ (by show (y 0).val = 256 * ((y 0).val / 256) + (y 0).val % 256; omega) rfl]
  exact store_vals _ _ _ _ _ _ ⟨_, lT⟩ _ ⟨_, lc⟩ (tile_w m c t _ hk _ _ _ rfl rfl) (tile_h m c t _ hk _ rfl)
    (tile_r m c t _ hk _ _ _ rfl rfl) hr _ _ (by
      rw [hb0]; show _ = 256 * ((y 0).val / 256) + (y 0).val % 256; omega) (Fin.ext (by
      rw [hb1]; show _ = t.val * 256 + (y 1).val; omega))

end Final

theorem mem_blk3 (t : Fin cfg0.N) (i : S1920x6144.Idx) :
    i ∈ ((cfg0.win 3).blk t).view.set ↔ ∀ a : Fin 2, win0_3.index t a * S1920x256.size a ≤ (i a).val ∧ (i a).val < win0_3.index t a * S1920x256.size a + S1920x256.size a := by
  show i ∈ ((View.whole main_v49_0).slice (win0_3.rect t)).set ↔ _
  rw [View.set_slice_whole, Rect.mem_set_unit]
  exact Iff.rfl

theorem mem_blk4 (t : Fin cfg0.N) (i : S3x40x6144.Idx) :
    i ∈ ((cfg0.win 4).blk t).view.set ↔ ∀ a : Fin 3, win0_4.index t a * S3x40x256.size a ≤ (i a).val ∧ (i a).val < win0_4.index t a * S3x40x256.size a + S3x40x256.size a := by
  show i ∈ ((View.whole main_v49_1).slice (win0_4.rect t)).set ↔ _
  rw [View.set_slice_whole, Rect.mem_set_unit]
  exact Iff.rfl

theorem mem_blk5 (t : Fin cfg0.N) (i : S3840x6144.Idx) :
    i ∈ ((cfg0.win 5).blk t).view.set ↔ ∀ a : Fin 2, win0_5.index t a * S3840x256.size a ≤ (i a).val ∧ (i a).val < win0_5.index t a * S3840x256.size a + S3840x256.size a := by
  show i ∈ ((View.whole main_v49_2).slice (win0_5.rect t)).set ↔ _
  rw [View.set_slice_whole, Rect.mem_set_unit]
  exact Iff.rfl

/-- Every index of the codes is in some point's block. -/
theorem covered3 (i : S1920x6144.Idx) : ∃ t : Fin cfg0.N, (cfg0.win 3).flush t = true ∧ i ∈ ((cfg0.win 3).blk t).view.set := by
  have h0 : (i 0).val < 1920 := (i 0).isLt
  have h1 : (i 1).val < 6144 := (i 1).isLt
  have hN : cfg0.N = 24 := N_0
  obtain ⟨t, ht⟩ : ∃ t : Fin cfg0.N, t.val = (i 1).val / 256 := ⟨⟨_, by omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 1920 ≤ (i 0).val ∧ (i 0).val < win0_3.index t (0 : Fin 2) * 1920 + 1920; omega
  | ⟨1, _⟩ => show win0_3.index t (1 : Fin 2) * 256 ≤ (i 1).val ∧ (i 1).val < win0_3.index t (1 : Fin 2) * 256 + 256; omega

/-- Every index of the exponents is in some point's block. -/
theorem covered4 (i : S3x40x6144.Idx) : ∃ t : Fin cfg0.N, (cfg0.win 4).flush t = true ∧ i ∈ ((cfg0.win 4).blk t).view.set := by
  have h0 : (i 0).val < 3 := (i 0).isLt
  have h1 : (i 1).val < 40 := (i 1).isLt
  have h2 : (i 2).val < 6144 := (i 2).isLt
  have hN : cfg0.N = 24 := N_0
  obtain ⟨t, ht⟩ : ∃ t : Fin cfg0.N, t.val = (i 2).val / 256 := ⟨⟨_, by omega⟩, rfl⟩
  obtain ⟨-, -, -, -, -, -, -, -, e0, e1, e2, -⟩ := idx_facts t
  refine ⟨t, flush0_4 t, ?_⟩
  rw [mem_blk4]
  intro a
  match a with
  | ⟨0, _⟩ => show win0_4.index t (0 : Fin 3) * 3 ≤ (i 0).val ∧ (i 0).val < win0_4.index t (0 : Fin 3) * 3 + 3; omega
  | ⟨1, _⟩ => show win0_4.index t (1 : Fin 3) * 40 ≤ (i 1).val ∧ (i 1).val < win0_4.index t (1 : Fin 3) * 40 + 40; omega
  | ⟨2, _⟩ => show win0_4.index t (2 : Fin 3) * 256 ≤ (i 2).val ∧ (i 2).val < win0_4.index t (2 : Fin 3) * 256 + 256; omega

/-- Every index of the values is in some point's block. -/
theorem covered5 (i : S3840x6144.Idx) : ∃ t : Fin cfg0.N, (cfg0.win 5).flush t = true ∧ i ∈ ((cfg0.win 5).blk t).view.set := by
  have h0 : (i 0).val < 3840 := (i 0).isLt
  have h1 : (i 1).val < 6144 := (i 1).isLt
  have hN : cfg0.N = 24 := N_0
  obtain ⟨t, ht⟩ : ∃ t : Fin cfg0.N, t.val = (i 1).val / 256 := ⟨⟨_, by omega⟩, rfl⟩
  obtain ⟨-, -, -, -, -, -, -, -, -, -, -, e0, e1⟩ := idx_facts t
  refine ⟨t, flush0_5 t, ?_⟩
  rw [mem_blk5]
  intro a
  match a with
  | ⟨0, _⟩ => show win0_5.index t (0 : Fin 2) * 3840 ≤ (i 0).val ∧ (i 0).val < win0_5.index t (0 : Fin 2) * 3840 + 3840; omega
  | ⟨1, _⟩ => show win0_5.index t (1 : Fin 2) * 256 ≤ (i 1).val ∧ (i 1).val < win0_5.index t (1 : Fin 2) * 256 + 256; omega

section Final

variable (c : Dev nD)
variable (hr : ∀ b col, InRange (rotA (m ((c : Thread nD τ).loc main_arg0)) (m ((c : Thread nD τ).loc main_arg1)) b col))
include hr

/-- The blocks tile each result array, so it ends as the reference's. -/
theorem final3 : (dats m 0 c).arrAt 3 cfg0.N = G3 m c := (dats m 0 c).arrAt_eq_of_cover 3 _ (fun t _ => flushed3_eq m c hr t) covered3
theorem final4 : (dats m 0 c).arrAt 4 cfg0.N = G4 m c := (dats m 0 c).arrAt_eq_of_cover 4 _ (fun t _ => flushed4_eq m c hr t) covered4
theorem final5 : (dats m 0 c).arrAt 5 cfg0.N = G5 m c := (dats m 0 c).arrAt_eq_of_cover 5 _ (fun t _ => flushed5_eq m c hr t) covered5

end Final

end Cert.XKernelIdeal.Value

end
-- ==== Proof.XClaims.lean ====
/-
  The claims about the quantiser of the activations, from its value theorem: the reference runs and leaves its arguments
  alone, and the kernel's three results over the reals are the reference's.
-/
module

public import proofs.«01_k».proof.Defs
public import proofs.«01_k».proof.Proof.XValue
public import proofs.«01_k».proof.Proof.Gen.XKernelIdeal
public import proofs.«01_k».proof.Proof.Gen.XReferenceIdeal

@[expose] public section

noncomputable section

namespace Cert.Proof

open Idealize.ShloMosaic Idealize.ShloMosaic.TcCoe Idealize.SL.Sem

/-- The shape relations the predicate states. -/
theorem x_range_facts : Cert.Pre_in_range_x.Facts where
  bitsLt_bf16_f32 := by decide
  bcast_S3840_S3840x1_0 := by decide
  bcast_S3840x1_S3840x6144_0_1 := by decide
  shapeCasts_S3840x6144_S120x1x32x6144 := by decide
  bcast_S32_S32x1_0 := by decide
  bcast_S32_S1x32_1 := by decide
  bcast_S32x1_S32x32_0_1 := by decide
  bcast_S1x32_S32x32_0_1 := by decide
  bcast_S_S32x32 := by decide
  bcast_S32x32_S1x32x32x1_1_2 := by decide
  bcast_S1x32x32x1_S120x32x32x6144_0_1_2_3 := by decide
  bcast_S120x1x32x6144_S120x32x32x6144_0_1_2_3 := by decide
  reducesTo_S120x32x32x6144_S120x32x6144_d2 := by decide
  h_S_ := by decide
  reducesTo_S120x32x6144_S120x6144_d1 := by decide
  bcast_S_S120x6144 := by decide

/-- The X reference runs, leaves its arguments as they were, and uses no semaphore. -/
theorem x_reference_frame : Cert.quiescent_XReferenceIdeal := fun m g _ =>
  (θ_run _ _ _).mono (fun _ h => ⟨fun c => (h c).2.2.2, Idealize.ShloMosaic.sem_eq_zero_of_no_sems (by decide) _⟩) (Cert.XReferenceIdeal.Value.run (F := Ideal) m g)

/-- From equal arguments in range the X kernel and its reference leave equal results, over the reals. -/
theorem x_algebraic : Cert.algebraic_XKernelIdeal_XReferenceIdeal_pre_in_range_x (hPre_in_range_x := x_range_facts) := fun m g m' g' hpre hagree =>
  have hr := fun c => @Cert.Pre_in_range_x.inRange_of_fn x_range_facts _ _ _ (hpre c)
  ⟨fun c => Cert.XKernelIdeal.Value.G3 m c, fun c => Cert.XKernelIdeal.Value.G4 m c, fun c => Cert.XKernelIdeal.Value.G5 m c,
    (θ_run _ _ _).mono (fun _ h c => ⟨(h c).1.trans (Cert.XKernelIdeal.Value.final3 m c (hr c)),
      (h c).2.1.trans (Cert.XKernelIdeal.Value.final4 m c (hr c)), (h c).2.2.1.trans (Cert.XKernelIdeal.Value.final5 m c (hr c)), (h c).2.2.2⟩)
      (Cert.XKernelIdeal.Value.run_blocks (F := Ideal) m g),
    (θ_run _ _ _).mono (fun _ h c => ⟨(h c).1.trans (by
        rw [Cert.XReferenceIdeal.Read.val_main_v139_eq]
        refine (congr (congrArg₂ _ ?_ ?_) ?_ : _ = Cert.XReferenceIdeal.Read.val_main_v139 (F := Ideal) _ _ _)
        · exact (hagree c).1
        · exact (hagree c).2.1
        · exact (hagree c).2.2),
      (h c).2.1.trans (by
        rw [Cert.XReferenceIdeal.Read.val_main_v145_eq]
        exact congrArg₂ (Cert.XReferenceIdeal.Read.val_main_v145 (F := Ideal)) (hagree c).1 (hagree c).2.1),
      (h c).2.2.1.trans (by
        rw [Cert.XReferenceIdeal.Read.val_main_v142_eq]
        refine (congr (congrArg₂ _ ?_ ?_) ?_ : _ = Cert.XReferenceIdeal.Read.val_main_v142 (F := Ideal) _ _ _)
        · exact (hagree c).1
        · exact (hagree c).2.1
        · exact (hagree c).2.2), (h c).2.2.2⟩) (Cert.XReferenceIdeal.Value.run (F := Ideal) m' g')⟩

end Cert.Proof

end
-- ==== Proof.TPay.lean ====
/-
  The arrays one trip of the quantiser's loop computes, read at an index as the scalar functions of QuantScalar and
  QuantBlock.
-/
module

public import proofs.«01_k».proof.Proof.Gen.TKernelIdeal.Skeleton
public import proofs.«01_k».proof.Proof.QuantBlock
public import Idealize.ShloMosaic.Lib.Pointwise

@[expose] public section

noncomputable section

open Idealize.ShloMosaic Idealize.ShloMosaic.TcCoe

namespace Cert.TKernelIdeal.Pay

open Cert.TKernelIdeal Cert.TKernelIdeal.Gen Cert.Quant

/-- One step of the search for the exponent field, on arrays. -/
def rungV {s : Shape} (x : FVec Ideal s .f32) (b e : IVec s 32) : IVec s 32 :=
  select (cmpf .oge x (bitcastToFloat .f32 (ori e b))) (ori e b) e

theorem rungV_apply {s : Shape} (x : FVec Ideal s .f32) (b e : IVec s 32) (i : s.Idx) : rungV x b e i = rung (x i) (b i) (e i) := rfl

abbrev bc (s : Shape) (k : BitVec 32) : IVec s 32 := broadcast s k

/-- The whole search, on arrays. -/
def fieldV {s : Shape} (x : FVec Ideal s .f32) : IVec s 32 :=
  rungV x (bc s 8388608#32) (rungV x (bc s 16777216#32) (rungV x (bc s 33554432#32) (rungV x (bc s 67108864#32) (rungV x (bc s 134217728#32)
    (rungV x (bc s 268435456#32) (rungV x (bc s 536870912#32) (rungV x (bc s 1073741824#32) (bc s 0#32))))))))

theorem fieldV_apply {s : Shape} (x : FVec Ideal s .f32) (i : s.Idx) : fieldV x i = field (x i) := by
  unfold fieldV field
  simp only [rungV_apply]
  rfl

/-! ## The operations at an index, over the reals -/

section At

variable {s : Shape} (i : s.Idx)

theorem select_at {α : Type} (c : IVec s 1) (a b : s.Idx → α) : select c a b i = Scalar.select (c i) (a i) (b i) := (Eq.refl _).trans (Eq.refl _)
theorem andi_at {w : Nat} (a b : IVec s w) : andi a b i = IntOp.andi (a i) (b i) := (Eq.refl _).trans (Eq.refl _)
theorem ori_at {w : Nat} (a b : IVec s w) : ori a b i = IntOp.ori (a i) (b i) := (Eq.refl _).trans (Eq.refl _)
theorem subi_at {w : Nat} (a b : IVec s w) : subi a b i = IntOp.subi (a i) (b i) := (Eq.refl _).trans (Eq.refl _)
theorem addi_at {w : Nat} (a b : IVec s w) : addi a b i = IntOp.addi (a i) (b i) := (Eq.refl _).trans (Eq.refl _)
theorem maxsi_at {w : Nat} (a b : IVec s w) : maxsi a b i = IntOp.maxsi (a i) (b i) := (Eq.refl _).trans (Eq.refl _)
theorem shrsi_at {w : Nat} (a b : IVec s w) : shrsi a b i = IntOp.shrsi .vector (a i) (b i) := (Eq.refl _).trans (Eq.refl _)
theorem shli_at {w : Nat} (a b : IVec s w) : shli a b i = IntOp.shli .vector (a i) (b i) := (Eq.refl _).trans (Eq.refl _)
theorem cmpi_at {w : Nat} (p : CmpIPredicate) (a b : IVec s w) : cmpi p a b i = IntOp.cmpi p (a i) (b i) := (Eq.refl _).trans (Eq.refl _)
theorem cmpf_at (p : CmpFPredicate) (a b : FVec Ideal s .f32) : cmpf p a b i = Ideal.cmp p (a i) (b i) := (Eq.refl _).trans (Eq.refl _)
theorem addf_at (a b : FVec Ideal s .f32) : addf a b i = ((a i + b i : EReal)) := (Eq.refl _).trans (Eq.refl _)
theorem subf_at (a b : FVec Ideal s .f32) : subf a b i = ((a i - b i : EReal)) := (Eq.refl _).trans (Eq.refl _)
theorem mulf_at (a b : FVec Ideal s .f32) : mulf a b i = ((a i * b i : EReal)) := (Eq.refl _).trans (Eq.refl _)
theorem absf_at (a : FVec Ideal s .f32) : absf a i = max (a i : EReal) (-(a i : EReal)) := (Eq.refl _).trans (Eq.refl _)
theorem maximumf_at (a b : FVec Ideal s .f32) : maximumf a b i = max (a i : EReal) (b i : EReal) := (Eq.refl _).trans (Eq.refl _)
theorem ceil_at (a : FVec Ideal s .f32) : ceil a i = Ideal.liftRound Int.ceil (a i) := (Eq.refl _).trans (Eq.refl _)
theorem fptosi_at (a : FVec Ideal s .f32) : fptosi 32 a i = Ideal.fptosi 32 (a i) := (Eq.refl _).trans (Eq.refl _)
theorem bits_at (a : IVec s 32) : (bitcastToFloat .f32 a : FVec Ideal s .f32) i = cst (a i) := (Eq.refl _).trans (Eq.refl _)
theorem bcast_at {α : Type} (a : α) : broadcast s a i = a := (Eq.refl _).trans (Eq.refl _)
theorem const_at (b : BitVec 32) : (constant s .f32 b : FVec Ideal s .f32) i = cst b := (Eq.refl _).trans (Eq.refl _)
theorem ofBits_at (b : BitVec 32) : (FloatOps.ofBits .f32 b : Ideal .f32) = cst b := (Eq.refl _).trans (Eq.refl _)

end At

variable (w : Vec Ideal S256x256 .bf16) (h : Vec Ideal S256x256 .bf16)

theorem pay19_eq : k0_pay19 (F := Ideal) (k0_pay16 w h) (k0_pay17 w h) k0_pay18 = fieldV (k0_pay16 (F := Ideal) w h) := by
  unfold k0_pay17 k0_pay18
  generalize k0_pay16 (F := Ideal) w h = x
  rfl

theorem pay38_eq (x : FVec Ideal S64x256 .f32) : k0_pay38 (F := Ideal) x 0#32 = maxsi (fieldV x) (bc _ 1065353216#32) := rfl

theorem pay32_eq (a : FVec Ideal S64x256 .f32) (s : FVec Ideal S8x1x256 .f32) :
    k0_pay32 (F := Ideal) (k0_pay28 a s) (k0_pay29 a s) (k0_pay30 a s) (k0_pay31 a s) = maxsi (fieldV (k0_pay28 (F := Ideal) a s)) (bc _ 1065353216#32) := by
  unfold k0_pay31 k0_pay30 k0_pay29
  generalize k0_pay28 (F := Ideal) a s = x
  rfl

theorem pay49_eq (a s : FVec Ideal S64x256 .f32) :
    k0_pay49 (F := Ideal) (k0_pay45 a s) (k0_pay46 a s) (k0_pay47 a s) (k0_pay48 a s) = maxsi (fieldV (k0_pay45 (F := Ideal) a s)) (bc _ 1065353216#32) := by
  unfold k0_pay48 k0_pay47 k0_pay46
  generalize k0_pay45 (F := Ideal) a s = x
  rfl

theorem pay60_eq (a s : FVec Ideal S64x256 .f32) :
    k0_pay60 (F := Ideal) (k0_pay56 a s) (k0_pay57 a s) (k0_pay58 a s) (k0_pay59 a s) = maxsi (fieldV (k0_pay56 (F := Ideal) a s)) (bc _ 1065353216#32) := by
  unfold k0_pay59 k0_pay58 k0_pay57
  generalize k0_pay56 (F := Ideal) a s = x
  rfl

/-! ## One element's code and value, for each of the four values of a word -/

/-- The value of an element: the number of spacings times the spacing, with the sign. -/
def valOf (s m u : EReal) (o : BitVec 32) : EReal :=
  kSteps m u * cst (IntOp.addi (kField m) o) * Scalar.select (Ideal.cmp .olt s (cst 0x00000000#32)) (cst 0xBF800000#32) (cst 0x3F800000#32)

theorem code0 (a : FVec Ideal S64x256 .f32) (s : FVec Ideal S8x1x256 .f32) (v R : FVec Ideal S64x256 .f32) (i : S64x256.Idx) :
    k0_pay35 (F := Ideal) v R (k0_pay28 a s) (k0_pay29 a s) (k0_pay30 a s) (k0_pay31 a s) i = signed (v i) (kIdx (k0_pay28 (F := Ideal) a s i) (uOf (R i))) := by
  unfold k0_pay35 k0_pay33
  rw [pay32_eq]
  generalize k0_pay28 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val0 (a : FVec Ideal S64x256 .f32) (s : FVec Ideal S8x1x256 .f32) (v R : FVec Ideal S64x256 .f32) (o : IVec S64x256 32) (i : S64x256.Idx) :
    k0_pay34 (F := Ideal) v o R (k0_pay28 a s) (k0_pay29 a s) (k0_pay30 a s) (k0_pay31 a s) i = valOf (v i) (k0_pay28 (F := Ideal) a s i) (uOf (R i)) (o i) := by
  unfold k0_pay34 k0_pay33
  rw [pay32_eq]
  generalize k0_pay28 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code1 (a s : FVec Ideal S64x256 .f32) (v R : FVec Ideal S64x256 .f32) (i : S64x256.Idx) :
    k0_pay43 (F := Ideal) v (k0_pay38 (k0_pay37 a s) 0#32) (k0_pay39 (k0_pay37 a s) 0#32) (k0_pay40 R) i = signed (v i) (kIdx (k0_pay37 (F := Ideal) a s i) (uOf (R i))) := by
  unfold k0_pay43 k0_pay41 k0_pay40 k0_pay39
  rw [pay38_eq]
  generalize k0_pay37 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val1 (a s : FVec Ideal S64x256 .f32) (v R : FVec Ideal S64x256 .f32) (o : IVec S64x256 32) (i : S64x256.Idx) :
    k0_pay42 (F := Ideal) v o (k0_pay38 (k0_pay37 a s) 0#32) (k0_pay39 (k0_pay37 a s) 0#32) (k0_pay40 R) i = valOf (v i) (k0_pay37 (F := Ideal) a s i) (uOf (R i)) (o i) := by
  unfold k0_pay42 k0_pay41 k0_pay40 k0_pay39
  rw [pay38_eq]
  generalize k0_pay37 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code2 (a s : FVec Ideal S64x256 .f32) (v R : FVec Ideal S64x256 .f32) (i : S64x256.Idx) :
    k0_pay54 (F := Ideal) v (k0_pay52 R (k0_pay45 a s) (k0_pay46 a s) (k0_pay47 a s) (k0_pay48 a s)) (k0_pay53 (k0_pay45 a s) (k0_pay46 a s) (k0_pay47 a s) (k0_pay48 a s)) i = signed (v i) (kIdx (k0_pay45 (F := Ideal) a s i) (uOf (R i))) := by
  unfold k0_pay54 k0_pay53 k0_pay52 k0_pay50
  rw [pay49_eq]
  generalize k0_pay45 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val2 (a s : FVec Ideal S64x256 .f32) (v R : FVec Ideal S64x256 .f32) (o : IVec S64x256 32) (i : S64x256.Idx) :
    k0_pay51 (F := Ideal) v o R (k0_pay45 a s) (k0_pay46 a s) (k0_pay47 a s) (k0_pay48 a s) i = valOf (v i) (k0_pay45 (F := Ideal) a s i) (uOf (R i)) (o i) := by
  unfold k0_pay51 k0_pay50
  rw [pay49_eq]
  generalize k0_pay45 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

theorem code3 (a s : FVec Ideal S64x256 .f32) (v R : FVec Ideal S64x256 .f32) (i : S64x256.Idx) :
    k0_pay63 (F := Ideal) v R (k0_pay56 a s) (k0_pay57 a s) (k0_pay58 a s) (k0_pay59 a s) i = signed (v i) (kIdx (k0_pay56 (F := Ideal) a s i) (uOf (R i))) := by
  unfold k0_pay63 k0_pay61
  rw [pay60_eq]
  generalize k0_pay56 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold signed kIdx kSteps kField uOf
  with_reducible rfl

theorem val3 (a s : FVec Ideal S64x256 .f32) (v R : FVec Ideal S64x256 .f32) (o : IVec S64x256 32) (i : S64x256.Idx) :
    k0_pay62 (F := Ideal) v o R (k0_pay56 a s) (k0_pay57 a s) (k0_pay58 a s) (k0_pay59 a s) i = valOf (v i) (k0_pay56 (F := Ideal) a s i) (uOf (R i)) (o i) := by
  unfold k0_pay62 k0_pay61
  rw [pay60_eq]
  generalize k0_pay56 (F := Ideal) a s = m
  simp only [select_at, andi_at, subi_at, addi_at, maxsi_at, shrsi_at, cmpi_at, cmpf_at, addf_at, subf_at, mulf_at, ceil_at, fptosi_at, bits_at,
    bcast_at, const_at, fieldV_apply, ofBits_at]
  unfold valOf kSteps kField uOf
  with_reducible rfl

end Cert.TKernelIdeal.Pay

end
-- ==== Proof.TLayout.lean ====
/-
  Where the arrays one trip of the quantiser's loop computes take their elements from: the product with the table, the
  block maximum, the per-block numbers spread over the block's rows, and the bytes of the random words.
-/
module

public import proofs.«01_k».proof.Proof.TPay
public import Idealize.ShloMosaic.Lib.Pipeline.Value
public import Idealize.ShloMosaic.Lib.BitcastFour

@[expose] public section

noncomputable section

open Idealize.ShloMosaic Idealize.ShloMosaic.TcCoe

namespace Cert.TKernelIdeal.Pay

open Cert.TKernelIdeal Cert.TKernelIdeal.Gen Cert.Quant

/-! ## The product with the table -/

/-- A row of the product of the table with the weights. -/
def prod (w : Vec Ideal S256x256 .bf16) (h : Vec Ideal S256x256 .bf16) (p : Fin 256) (l : Fin 256) : EReal :=
  ∑ k : Fin 256, h (ix2 p k) * w (ix2 k l)

theorem pay7_at (w : Vec Ideal S256x256 .bf16) (h : Vec Ideal S256x256 .bf16) (i : S256x256.Idx) : k0_pay7 w h i = prod w h (i 0) (i 1) := by
  unfold k0_pay7 prod
  simp only [pointwise, zero_add]

section Rows

variable (w : Vec Ideal S256x256 .bf16) (h : Vec Ideal S256x256 .bf16) (q : Fin 64) (l : Fin 256)

theorem pay8_at : k0_pay8 w h (ix2 q l) = prod w h ⟨0 + q.val, by omega⟩ l := by
  unfold k0_pay8
  refine (extractStridedSlice_apply _ _ _ (ix2 q l) (ix2 (⟨0 + q.val, by omega⟩ : Fin 256) l) ?_).trans (pay7_at w h _)
  intro a; fin_cases a
  · rfl
  · exact (Nat.zero_add _).symm

theorem pay9_at : k0_pay9 w h (ix2 q l) = prod w h ⟨64 + q.val, by omega⟩ l := by
  unfold k0_pay9
  refine (extractStridedSlice_apply _ _ _ (ix2 q l) (ix2 (⟨64 + q.val, by omega⟩ : Fin 256) l) ?_).trans (pay7_at w h _)
  intro a; fin_cases a
  · rfl
  · exact (Nat.zero_add _).symm

theorem pay10_at : k0_pay10 w h (ix2 q l) = prod w h ⟨128 + q.val, by omega⟩ l := by
  unfold k0_pay10
  refine (extractStridedSlice_apply _ _ _ (ix2 q l) (ix2 (⟨128 + q.val, by omega⟩ : Fin 256) l) ?_).trans (pay7_at w h _)
  intro a; fin_cases a
  · rfl
  · exact (Nat.zero_add _).symm

theorem pay11_at : k0_pay11 w h (ix2 q l) = prod w h ⟨192 + q.val, by omega⟩ l := by
  unfold k0_pay11
  refine (extractStridedSlice_apply _ _ _ (ix2 q l) (ix2 (⟨192 + q.val, by omega⟩ : Fin 256) l) ?_).trans (pay7_at w h _)
  intro a; fin_cases a
  · rfl
  · exact (Nat.zero_add _).symm

theorem pay12_at : k0_pay12 w h (ix2 q l) = max (prod w h ⟨0 + q.val, by omega⟩ l) (-prod w h ⟨0 + q.val, by omega⟩ l) := by
  unfold k0_pay12; rw [absf_at, pay8_at]
theorem pay13_at : k0_pay13 w h (ix2 q l) = max (prod w h ⟨64 + q.val, by omega⟩ l) (-prod w h ⟨64 + q.val, by omega⟩ l) := by
  unfold k0_pay13; rw [absf_at, pay9_at]
theorem pay14_at : k0_pay14 w h (ix2 q l) = max (prod w h ⟨128 + q.val, by omega⟩ l) (-prod w h ⟨128 + q.val, by omega⟩ l) := by
  unfold k0_pay14; rw [absf_at, pay10_at]
theorem pay15_at : k0_pay15 w h (ix2 q l) = max (prod w h ⟨192 + q.val, by omega⟩ l) (-prod w h ⟨192 + q.val, by omega⟩ l) := by
  unfold k0_pay15; rw [absf_at, pay11_at]

end Rows

/-- The magnitude of a row of the product. -/
def prodAbs (w : Vec Ideal S256x256 .bf16) (h : Vec Ideal S256x256 .bf16) (p : Fin 256) (l : Fin 256) : EReal :=
  max (prod w h p l) (-prod w h p l)

/-- The block maximum, before it is scaled. -/
def top (w : Vec Ideal S256x256 .bf16) (h : Vec Ideal S256x256 .bf16) (g : Fin 8) (l : Fin 256) : EReal :=
  (Finset.univ : Finset (Fin 8)).fold max (cst 0xFF800000#32) fun s =>
    max (max (prodAbs w h ⟨0 + (8 * g.val + s.val), by omega⟩ l) (prodAbs w h ⟨64 + (8 * g.val + s.val), by omega⟩ l))
      (max (prodAbs w h ⟨128 + (8 * g.val + s.val), by omega⟩ l) (prodAbs w h ⟨192 + (8 * g.val + s.val), by omega⟩ l))

theorem block_max (x : FVec Ideal S8x8x256 .f32) (hr : S8x8x256.Reduces [1] S8x256) (hf : FKind.Formats .f32)
    (hn : (0xFF800000#32 : BitVec 32) = FKind.maximumf.neutral .f32 hf) (g : Fin 8) (l : Fin 256) :
    multiReduction .maximumf [1] S8x256 x 0xFF800000#32 hr hf hn (ix2 g l)
      = (Finset.univ : Finset (Fin 8)).fold max (cst 0xFF800000#32) (fun s => x (ix3 g s l)) := by
  rw [multiReduction_maximumf_eq_fold, Shape.Reduces.fold_fiber_r3_a1]
  rfl

theorem pay16_at (w : Vec Ideal S256x256 .bf16) (h : Vec Ideal S256x256 .bf16) (g : Fin 8) (l : Fin 256) :
    k0_pay16 w h (ix3 g (0 : Fin 1) l) = top w h g l * vs := by
  unfold k0_pay16
  dsimp only
  rw [mulf_at]
  refine congrArg₂ (fun x y : EReal => x * y) ?_ rfl
  refine (shapeCast_apply _ _ (ix3 g (0 : Fin 1) l) (ix2 g l) (by
    rw [Shape.rowMajor_val_two, Shape.rowMajor_val_three]
    show g.val * 256 + l.val = (g.val * 1 + 0) * 256 + l.val
    omega)).trans ?_
  refine (block_max _ _ _ _ g l).trans ?_
  unfold top
  refine Finset.fold_congr fun s _ => ?_
  refine (shapeCast_apply _ _ _ (ix2 (⟨8 * g.val + s.val, by omega⟩ : Fin 64) l) (by
    rw [Shape.rowMajor_val_two, Shape.rowMajor_val_three]
    show (8 * g.val + s.val) * 256 + l.val = (g.val * 8 + s.val) * 256 + l.val
    omega)).trans ?_
  rw [maximumf_at, maximumf_at, maximumf_at, pay12_at, pay13_at, pay14_at, pay15_at]
  rfl

/-! ## Numbers of a block, spread over its rows -/

theorem spread {α : Type} (x : S8x1x256.Idx → α) (q : Fin 64) (l : Fin 256) :
    shapeCast S64x256 (broadcastTo S8x8x256 (shapeCast S8x1x256 x shapeCasts_S8x1x256_S8x1x256) broadcasts_S8x1x256_S8x8x256)
      shapeCasts_S8x8x256_S64x256 (ix2 q l) = x (ix3 (⟨q.val / 8, by omega⟩ : Fin 8) (0 : Fin 1) l) := by
  refine (shapeCast_apply _ _ (ix2 q l) (ix3 (⟨q.val / 8, by omega⟩ : Fin 8) (⟨q.val % 8, by omega⟩ : Fin 8) l) (by
    rw [Shape.rowMajor_val_two, Shape.rowMajor_val_three]
    show (q.val / 8 * 8 + q.val % 8) * 256 + l.val = q.val * 256 + l.val
    omega)).trans ?_
  refine (broadcastTo_apply _ _ _ (ix3 (⟨q.val / 8, by omega⟩ : Fin 8) (0 : Fin 1) l) ?_).trans ?_
  · intro a; fin_cases a <;> rfl
  · exact shapeCast_apply _ _ _ _ rfl

theorem pay24_at (x : FVec Ideal S8x1x256 .f32) (q : Fin 64) (l : Fin 256) :
    k0_pay24 x (ix2 q l) = x (ix3 (⟨q.val / 8, by omega⟩ : Fin 8) (0 : Fin 1) l) := by
  unfold k0_pay24; exact spread x q l

theorem pay25_at (x : IVec S8x1x256 32) (c : BitVec 32) (q : Fin 64) (l : Fin 256) :
    k0_pay25 x c (ix2 q l) = IntOp.subi (x (ix3 (⟨q.val / 8, by omega⟩ : Fin 8) (0 : Fin 1) l)) c := by
  unfold k0_pay25; exact spread (subi x (broadcast S8x1x256 c)) q l

/-- The exponent field of the scaled maximum, kept above the smallest normal one. -/
theorem pay20_at (w : Vec Ideal S256x256 .bf16) (h : Vec Ideal S256x256 .bf16) (i : S8x1x256.Idx) :
    k0_pay20 (k0_pay16 w h) (k0_pay17 w h) k0_pay18 i = kEb (k0_pay16 w h i) := by
  unfold k0_pay20
  rw [pay19_eq]
  generalize k0_pay16 w h = a
  rw [maxsi_at, fieldV_apply, bcast_at]
  unfold kEb
  with_reducible rfl

theorem pay21_at (w : Vec Ideal S256x256 .bf16) (h : Vec Ideal S256x256 .bf16) (i : S8x1x256.Idx) :
    k0_pay21 (k0_pay16 w h) (k0_pay17 w h) k0_pay18 i = kScale (k0_pay16 w h i) := by
  unfold k0_pay21
  rw [mulf_at, bits_at, subi_at, pay20_at, bcast_at, bcast_at, ofBits_at]
  generalize k0_pay16 w h = a
  unfold kScale vs
  with_reducible rfl

theorem pay23_at (w : Vec Ideal S256x256 .bf16) (h : Vec Ideal S256x256 .bf16) (i : S8x1x256.Idx) :
    k0_pay23 (k0_pay16 w h) (k0_pay17 w h) k0_pay18 i = IntOp.maxsi (kEb (k0_pay16 w h i)) 25165824#32 := by
  unfold k0_pay23
  rw [maxsi_at, pay20_at, bcast_at]

theorem pay22_at (w : Vec Ideal S256x256 .bf16) (h : Vec Ideal S256x256 .bf16) (i : S8x1x256.Idx) :
    k0_pay22 (k0_pay16 w h) (k0_pay17 w h) k0_pay18 i = kExp (k0_pay16 w h i) := by
  unfold k0_pay22
  rw [select_at, cmpi_at, subi_at, shrsi_at, pay20_at, pay19_eq]
  generalize k0_pay16 w h = a
  simp only [fieldV_apply, bcast_at]
  unfold kExp
  with_reducible rfl

/-! ## The random bytes -/

/-- A byte of a word, taken by a shift and a mask. -/
theorem word_byte (x : BitVec 32) (b : BitVec 8) (k : ℕ) (hk : k + 8 ≤ 32) (h : ∀ i < 8, x.getLsbD (k + i) = b.getLsbD i) :
    IntOp.andi (IntOp.shrsi .vector x (BitVec.ofNat 32 k)) 255#32 = b.setWidth 32 := by
  have hm : (BitVec.ofNat 32 k).toNat = k := by rw [BitVec.toNat_ofNat]; exact Nat.mod_eq_of_lt (by omega)
  have hs : IntOp.shrsi .vector x (BitVec.ofNat 32 k) = x.sshiftRight k := by
    unfold IntOp.shrsi; rw [if_pos (by rw [hm]; omega), BitVec.sshiftRight_eq', hm]
  rw [hs]
  apply BitVec.eq_of_getLsbD_eq
  intro i hi
  have h255 : (255#32 : BitVec 32).getLsbD i = decide (i < 8) := by
    interval_cases i <;> rfl
  simp only [IntOp.andi, BitVec.getLsbD_and, BitVec.getLsbD_setWidth, h255, BitVec.getLsbD_sshiftRight]
  by_cases h8 : i < 8
  · rw [if_pos (by omega), h i h8]; simp [h8, hi]
  · simp [h8, BitVec.getLsbD_of_ge b i (by omega)]

theorem sitofp_at {s : Shape} (i : s.Idx) (a : IVec s 32) : (sitofp .f32 a : FVec Ideal s .f32) i = (((a i).toInt : ℝ) : EReal) :=
  (Eq.refl _).trans (Eq.refl _)

/-- The number a random byte stands for. -/
def byteVal (b : BitVec 8) : EReal := (((b.setWidth 32).toInt : ℝ) : EReal)

section Bytes

variable (r : Vec Ideal S256x256 .i8) (q : Fin 64) (l : Fin 256)

theorem byte_at (k : ℕ) (j : ℕ) (hj : j < 4) (hk : k = 8 * j) :
    IntOp.andi (IntOp.shrsi .vector (k0_pay26 (F := Ideal) r (ix2 q l)) (BitVec.ofNat 32 k)) 255#32
      = (r (ix2 (⟨4 * q.val + j, by omega⟩ : Fin 256) l) : BitVec 8).setWidth 32 := by
  refine word_byte _ _ k (by omega) fun i hi => ?_
  unfold k0_pay26
  refine (bitcast_8_32_getLsbD_ix2 _ _ q l (k + i) (by omega) (⟨4 * q.val + j, by omega⟩ : Fin 256) ?_).trans ?_
  · show 4 * q.val + j = 4 * q.val + (k + i) / 8
    omega
  · rw [show (k + i) % 8 = i by omega]; rfl

theorem pay27_at : k0_pay27 (F := Ideal) r (ix2 q l) = byteVal (r (ix2 (⟨4 * q.val + 0, by omega⟩ : Fin 256) l)) := by
  unfold k0_pay27
  rw [sitofp_at, andi_at, shrsi_at, bcast_at, bcast_at]
  exact congrArg (fun b : BitVec 32 => (((b.toInt : ℝ)) : EReal)) (byte_at r q l 0 0 (by omega) rfl)

theorem pay36_at : k0_pay36 (F := Ideal) (k0_pay26 (F := Ideal) r) (ix2 q l) = byteVal (r (ix2 (⟨4 * q.val + 1, by omega⟩ : Fin 256) l)) := by
  unfold k0_pay36
  rw [sitofp_at, andi_at, shrsi_at, bcast_at, bcast_at]
  exact congrArg (fun b : BitVec 32 => (((b.toInt : ℝ)) : EReal)) (byte_at r q l 8 1 (by omega) rfl)

theorem pay44_at : k0_pay44 (F := Ideal) (k0_pay26 (F := Ideal) r) (ix2 q l) = byteVal (r (ix2 (⟨4 * q.val + 2, by omega⟩ : Fin 256) l)) := by
  unfold k0_pay44
  rw [sitofp_at, andi_at, shrsi_at, bcast_at, bcast_at]
  exact congrArg (fun b : BitVec 32 => (((b.toInt : ℝ)) : EReal)) (byte_at r q l 16 2 (by omega) rfl)

theorem pay55_at : k0_pay55 (F := Ideal) (k0_pay26 (F := Ideal) r) (ix2 q l) = byteVal (r (ix2 (⟨4 * q.val + 3, by omega⟩ : Fin 256) l)) := by
  unfold k0_pay55
  rw [sitofp_at, andi_at, shrsi_at, bcast_at, bcast_at]
  exact congrArg (fun b : BitVec 32 => (((b.toInt : ℝ)) : EReal)) (byte_at r q l 24 3 (by omega) rfl)

end Bytes

/-! ## Packing the codes -/

theorem shli_lit (u : ArithUnit) (x : BitVec 32) (k : ℕ) (hk : k < 32) : IntOp.shli u x (BitVec.ofNat 32 k) = x <<< k := by
  have hm : (BitVec.ofNat 32 k).toNat = k := by rw [BitVec.toNat_ofNat]; exact Nat.mod_eq_of_lt (by omega)
  unfold IntOp.shli; rw [if_pos (by rw [hm]; omega), BitVec.shiftLeft_eq', hm]

theorem nib_high (n : BitVec 32) (h : n.toNat < 16) (i : ℕ) (hi : 4 ≤ i) : n.getLsbD i = false := by
  rw [BitVec.getLsbD]
  exact Nat.testBit_lt_two_pow (lt_of_lt_of_le h (by calc 16 = 2 ^ 4 := rfl
    _ ≤ 2 ^ i := Nat.pow_le_pow_right (by omega) hi))

/-- The half word a row of codes is packed into. -/
def half (n0 n1 n2 n3 : BitVec 32) : BitVec 32 :=
  IntOp.ori (IntOp.ori (IntOp.ori n0 (IntOp.shli .vector n1 4#32)) (IntOp.shli .vector n2 8#32)) (IntOp.shli .vector n3 12#32)

/-- The byte of two codes. -/
def pair (n0 n1 : BitVec 32) : BitVec 8 := (IntOp.ori n0 (IntOp.shli .host n1 4#32)).setWidth 8

theorem half_lo (n0 n1 n2 n3 : BitVec 32) (i : ℕ) (hi : i < 8) : (half n0 n1 n2 n3).getLsbD i = (pair n0 n1).getLsbD i := by
  unfold half pair
  rw [shli_lit _ _ 4 (by omega), shli_lit _ _ 8 (by omega), shli_lit _ _ 12 (by omega), shli_lit _ _ 4 (by omega)]
  simp only [IntOp.ori, BitVec.getLsbD_or, BitVec.getLsbD_shiftLeft, BitVec.getLsbD_setWidth]
  simp [hi, show i < 32 by omega, show i < 12 by omega]

theorem half_hi (n0 n1 n2 n3 : BitVec 32) (h0 : n0.toNat < 16) (h1 : n1.toNat < 16) (i : ℕ) (hi : i < 8) :
    (half n0 n1 n2 n3).getLsbD (8 + i) = (pair n2 n3).getLsbD i := by
  unfold half pair
  rw [shli_lit _ _ 4 (by omega), shli_lit _ _ 8 (by omega), shli_lit _ _ 12 (by omega), shli_lit _ _ 4 (by omega)]
  simp only [IntOp.ori, BitVec.getLsbD_or, BitVec.getLsbD_shiftLeft, BitVec.getLsbD_setWidth, nib_high n0 h0 (8 + i) (by omega),
    nib_high n1 h1 (8 + i - 4) (by omega)]
  rw [show 8 + i - 8 = i by omega, show 8 + i - 12 = i - 4 by omega]
  have e : decide (8 + i < 12) = decide (i < 4) := by rw [decide_eq_decide]; omega
  rw [e]
  simp [hi, show i < 32 by omega, show 8 + i < 32 by omega]

theorem pay1_bit (n0 n1 n2 n3 : IVec S64x256 32) (R : Fin 128) (l : Fin 256) (i : ℕ) (hi : i < 8) :
    (k0_pay1 n0 n2 n3 (k0_pay64 n1) (ix2 R l)).getLsbD i
      = (half (n0 (ix2 (⟨R.val / 2, by omega⟩ : Fin 64) l)) (n1 (ix2 (⟨R.val / 2, by omega⟩ : Fin 64) l)) (n2 (ix2 (⟨R.val / 2, by omega⟩ : Fin 64) l))
          (n3 (ix2 (⟨R.val / 2, by omega⟩ : Fin 64) l))).getLsbD (8 * (R.val % 2) + i) := by
  unfold k0_pay1 k0_pay64
  dsimp only
  have hrow : S128x256.row (ix2 R l) = R.val := rfl
  refine (bitcast_getLsbD _ _ _ i hi (by decide)).trans ?_
  have e1 : ∀ p hp, Shape.Bitcasts.srcIdx bitcasts_S32x256_w32_S128x256_w8 (ix2 R l) p hp = ix2 (⟨p, hp 0 rfl⟩ : Fin 32) l := by
    intro p hp; funext a
    match a with
    | ⟨0, _⟩ => rfl
    | ⟨1, _⟩ => rfl
  rw [e1, bitcast_getLsbD _ _ _ _ (Nat.mod_lt _ (by decide)) (by decide)]
  have e2 : ∀ (P : Fin 32) p hp, Shape.Bitcasts.srcIdx bitcasts_S64x256_w16_S32x256_w32 (ix2 P l) p hp = ix2 (⟨p, hp 0 rfl⟩ : Fin 64) l := by
    intro P p hp; funext a
    match a with
    | ⟨0, _⟩ => rfl
    | ⟨1, _⟩ => rfl
  rw [e2]
  have hr2 : ∀ P : Fin 32, S32x256.row (ix2 P l) = P.val := fun _ => rfl
  simp only [hrow, hr2]
  have hR : ∀ (x y : ℕ) hx hy, x = y → (ix2 (⟨x, hx⟩ : Fin 64) l : S64x256.Idx) = ix2 (⟨y, hy⟩ : Fin 64) l := by
    intro x y hx hy e; subst e; rfl
  rw [hR _ (R.val / 2) _ (by omega) (by omega), show ((R.val * 8 + i) / 32 * 32 + (R.val * 8 + i) % 32) % 16 = 8 * (R.val % 2) + i by omega]
  show (BitVec.setWidth 16 _).getLsbD _ = _
  rw [BitVec.getLsbD_setWidth]
  simp only [show 8 * (R.val % 2) + i < 16 by omega, decide_true, Bool.true_and]
  rfl

theorem pay1_at (n0 n1 n2 n3 : IVec S64x256 32) (R : Fin 128) (l : Fin 256) (q : Fin 64) (hq : q.val = R.val / 2)
    (h0 : (n0 (ix2 q l)).toNat < 16) (h1 : (n1 (ix2 q l)).toNat < 16) :
    k0_pay1 n0 n2 n3 (k0_pay64 n1) (ix2 R l) = if R.val % 2 = 0 then pair (n0 (ix2 q l)) (n1 (ix2 q l)) else pair (n2 (ix2 q l)) (n3 (ix2 q l)) := by
  have eq : (⟨R.val / 2, by omega⟩ : Fin 64) = q := Fin.ext hq.symm
  apply BitVec.eq_of_getLsbD_eq
  intro i hi
  rw [pay1_bit _ _ _ _ _ _ _ hi, eq]
  by_cases hR : R.val % 2 = 0
  · rw [if_pos hR, hR, show 8 * 0 + i = i by omega]; exact half_lo _ _ _ _ i hi
  · rw [if_neg hR, show R.val % 2 = 1 by omega]; exact half_hi _ _ _ _ h0 h1 i hi

/-! ## The decoded values and the exponents -/

theorem pay2_at (x : IVec S8x1x256 32) (g : Fin 8) (l : Fin 256) : k0_pay2 x (ix2 g l) = x (ix3 g (0 : Fin 1) l) := by
  unfold k0_pay2
  refine (shapeCast_apply _ _ (ix2 g l) (ix2 g l) rfl).trans ?_
  exact shapeCast_apply _ _ (ix2 g l) (ix3 g (0 : Fin 1) l) (by
    rw [Shape.rowMajor_val_two, Shape.rowMajor_val_three]
    show (g.val * 1 + 0) * 256 + l.val = g.val * 256 + l.val
    omega)

section Vals

variable (x0 x1 x2 x3 : FVec Ideal S64x256 .f32) (q : Fin 64) (l : Fin 256)

theorem truncf_at {s : Shape} (i : s.Idx) (x : FVec Ideal s .f32) : (truncf .bf16 x bitsLt_bf16_f32 : FVec Ideal s .bf16) i = (x i : EReal) :=
  (Eq.refl _).trans (Eq.refl _)

theorem piece (k : ℕ) (hk : k < 4) (x : FVec Ideal S64x256 .f32)
    (hx : ([⟨S64x256, x0⟩, ⟨S64x256, x2⟩, ⟨S64x256, x1⟩, ⟨S64x256, x3⟩] : List ((s : Shape) × (s.Idx → EReal)))[k]'hk = ⟨S64x256, x⟩) :
    k0_pay3 x0 x1 x2 x3 (ix2 l (⟨64 * k + q.val, by omega⟩ : Fin 256)) = x (ix2 q l) := by
  unfold k0_pay3
  refine (transpose_apply [1, 0] _ _ (ix2 l (⟨64 * k + q.val, by omega⟩ : Fin 256)) (ix2 (⟨64 * k + q.val, by omega⟩ : Fin 256) l) (fun b => match b with
    | ⟨0, _⟩ => rfl
    | ⟨1, _⟩ => rfl)).trans ?_
  rw [truncf_at]
  refine concatenate_apply_piece (t := S256x256) 0 [⟨S64x256, x0⟩, ⟨S64x256, x2⟩, ⟨S64x256, x1⟩, ⟨S64x256, x3⟩] _ _ k hk S64x256 x hx rfl (64 * k) ?_ (ix2 q l) ?_ ?_
  · interval_cases k <;> rfl
  · intro b hb; fin_cases b
    · exact absurd rfl hb
    · rfl
  · rfl

end Vals

end Cert.TKernelIdeal.Pay

end
-- ==== Proof.TTile.lean ====
/-
  What one trip of the quantiser's loop stores, element by element, from its tile of the weights, of the table and of
  the random bytes.
-/
module

public import proofs.«01_k».proof.Proof.TLayout

@[expose] public section

noncomputable section

open Idealize.ShloMosaic Idealize.ShloMosaic.TcCoe

namespace Cert.TKernelIdeal.Pay

open Cert.TKernelIdeal Cert.TKernelIdeal.Gen Cert.Quant

variable (w : Vec Ideal S256x256 .bf16) (h : Vec Ideal S256x256 .bf16) (r : Vec Ideal S256x256 .i8)

/-- The scaled maximum of the block of a row. -/
def tileMax (q : Fin 64) (l : Fin 256) : EReal := top w h ⟨q.val / 8, by omega⟩ l * vs

/-- The random number of an element. -/
def tileU (p : Fin 256) (l : Fin 256) : EReal := uOf (byteVal (r (ix2 p l)))

/-- The scaled magnitude of an element. -/
def tileMag (j : Fin 4) (q : Fin 64) (l : Fin 256) : EReal :=
  prodAbs w h ⟨64 * j.val + q.val, by omega⟩ l * kScale (tileMax w h q l)

/-- The code of an element. -/
def tileCode (j : Fin 4) (q : Fin 64) (l : Fin 256) : BitVec 32 :=
  signed (prod w h ⟨64 * j.val + q.val, by omega⟩ l) (kIdx (tileMag w h j q l) (tileU r ⟨4 * q.val + j.val, by omega⟩ l))

/-- The decoded value of an element. -/
def tileVal (j : Fin 4) (q : Fin 64) (l : Fin 256) : EReal :=
  kVal (prod w h ⟨64 * j.val + q.val, by omega⟩ l) (tileMag w h j q l) (tileU r ⟨4 * q.val + j.val, by omega⟩ l) (tileMax w h q l)

/-! ## The words of a trip -/

abbrev wScale : FVec Ideal S8x1x256 .f32 := k0_pay21 (k0_pay16 w h) (k0_pay17 w h) k0_pay18
abbrev wSpread : FVec Ideal S64x256 .f32 := k0_pay24 (wScale w h)
abbrev wOff : IVec S64x256 32 := k0_pay25 (k0_pay23 (k0_pay16 w h) (k0_pay17 w h) k0_pay18) 1090519040#32

theorem wSpread_at (q : Fin 64) (l : Fin 256) : wSpread w h (ix2 q l) = kScale (tileMax w h q l) := by
  rw [wSpread, pay24_at, wScale, pay21_at, pay16_at]; rfl

theorem wOff_at (q : Fin 64) (l : Fin 256) : wOff w h (ix2 q l) = kOff (tileMax w h q l) := by
  rw [wOff, pay25_at, pay23_at, pay16_at]; rfl

theorem mag0 (q : Fin 64) (l : Fin 256) : k0_pay28 (k0_pay12 w h) (wScale w h) (ix2 q l) = tileMag w h 0 q l := by
  unfold k0_pay28; rw [mulf_at, pay12_at, show k0_pay24 (wScale w h) (ix2 q l) = _ from wSpread_at w h q l]; rfl
theorem mag1 (q : Fin 64) (l : Fin 256) : k0_pay37 (k0_pay13 w h) (wSpread w h) (ix2 q l) = tileMag w h 1 q l := by
  unfold k0_pay37; rw [mulf_at, pay13_at, wSpread_at]; rfl
theorem mag2 (q : Fin 64) (l : Fin 256) : k0_pay45 (k0_pay14 w h) (wSpread w h) (ix2 q l) = tileMag w h 2 q l := by
  unfold k0_pay45; rw [mulf_at, pay14_at, wSpread_at]; rfl
theorem mag3 (q : Fin 64) (l : Fin 256) : k0_pay56 (k0_pay15 w h) (wSpread w h) (ix2 q l) = tileMag w h 3 q l := by
  unfold k0_pay56; rw [mulf_at, pay15_at, wSpread_at]; rfl

theorem kVal_eq (s m u a : EReal) : valOf s m u (kOff a) = kVal s m u a := rfl

abbrev wCode0 : IVec S64x256 32 := k0_pay35 (k0_pay8 w h) (k0_pay27 r) (k0_pay28 (k0_pay12 w h) (wScale w h))
  (k0_pay29 (k0_pay12 w h) (wScale w h)) (k0_pay30 (k0_pay12 w h) (wScale w h)) (k0_pay31 (k0_pay12 w h) (wScale w h))
abbrev wVal0 : FVec Ideal S64x256 .f32 := k0_pay34 (k0_pay8 w h) (wOff w h) (k0_pay27 r) (k0_pay28 (k0_pay12 w h) (wScale w h))
  (k0_pay29 (k0_pay12 w h) (wScale w h)) (k0_pay30 (k0_pay12 w h) (wScale w h)) (k0_pay31 (k0_pay12 w h) (wScale w h))
abbrev wMag1 : FVec Ideal S64x256 .f32 := k0_pay37 (k0_pay13 w h) (wSpread w h)
abbrev wCode1 : IVec S64x256 32 := k0_pay43 (k0_pay9 w h) (k0_pay38 (wMag1 w h) 0#32) (k0_pay39 (wMag1 w h) 0#32) (k0_pay40 (k0_pay36 (k0_pay26 (F := Ideal) r)))
abbrev wVal1 : FVec Ideal S64x256 .f32 := k0_pay42 (k0_pay9 w h) (wOff w h) (k0_pay38 (wMag1 w h) 0#32) (k0_pay39 (wMag1 w h) 0#32)
  (k0_pay40 (k0_pay36 (k0_pay26 (F := Ideal) r)))
abbrev wCode2 : IVec S64x256 32 := k0_pay54 (k0_pay10 w h)
  (k0_pay52 (k0_pay44 (k0_pay26 (F := Ideal) r)) (k0_pay45 (k0_pay14 w h) (wSpread w h)) (k0_pay46 (k0_pay14 w h) (wSpread w h)) (k0_pay47 (k0_pay14 w h) (wSpread w h)) (k0_pay48 (k0_pay14 w h) (wSpread w h)))
  (k0_pay53 (k0_pay45 (k0_pay14 w h) (wSpread w h)) (k0_pay46 (k0_pay14 w h) (wSpread w h)) (k0_pay47 (k0_pay14 w h) (wSpread w h)) (k0_pay48 (k0_pay14 w h) (wSpread w h)))
abbrev wVal2 : FVec Ideal S64x256 .f32 := k0_pay51 (k0_pay10 w h) (wOff w h)
  (k0_pay44 (k0_pay26 (F := Ideal) r)) (k0_pay45 (k0_pay14 w h) (wSpread w h)) (k0_pay46 (k0_pay14 w h) (wSpread w h)) (k0_pay47 (k0_pay14 w h) (wSpread w h)) (k0_pay48 (k0_pay14 w h) (wSpread w h))
abbrev wCode3 : IVec S64x256 32 := k0_pay63 (k0_pay11 w h) (k0_pay55 (k0_pay26 (F := Ideal) r)) (k0_pay56 (k0_pay15 w h) (wSpread w h))
  (k0_pay57 (k0_pay15 w h) (wSpread w h)) (k0_pay58 (k0_pay15 w h) (wSpread w h)) (k0_pay59 (k0_pay15 w h) (wSpread w h))
abbrev wVal3 : FVec Ideal S64x256 .f32 := k0_pay62 (k0_pay11 w h) (wOff w h) (k0_pay55 (k0_pay26 (F := Ideal) r)) (k0_pay56 (k0_pay15 w h) (wSpread w h))
  (k0_pay57 (k0_pay15 w h) (wSpread w h)) (k0_pay58 (k0_pay15 w h) (wSpread w h)) (k0_pay59 (k0_pay15 w h) (wSpread w h))

theorem wCode0_at (q : Fin 64) (l : Fin 256) : wCode0 w h r (ix2 q l) = tileCode w h r 0 q l := by
  rw [wCode0, code0, mag0, pay8_at, pay27_at]; rfl
theorem wVal0_at (q : Fin 64) (l : Fin 256) : wVal0 w h r (ix2 q l) = tileVal w h r 0 q l := by
  rw [wVal0, val0, mag0, pay8_at, pay27_at, wOff_at, kVal_eq]; rfl
theorem wCode1_at (q : Fin 64) (l : Fin 256) : wCode1 w h r (ix2 q l) = tileCode w h r 1 q l := by
  rw [wCode1, code1, mag1, pay9_at, pay36_at]; rfl
theorem wVal1_at (q : Fin 64) (l : Fin 256) : wVal1 w h r (ix2 q l) = tileVal w h r 1 q l := by
  rw [wVal1, val1, mag1, pay9_at, pay36_at, wOff_at, kVal_eq]; rfl
theorem wCode2_at (q : Fin 64) (l : Fin 256) : wCode2 w h r (ix2 q l) = tileCode w h r 2 q l := by
  rw [wCode2, code2, mag2, pay10_at, pay44_at]; rfl
theorem wVal2_at (q : Fin 64) (l : Fin 256) : wVal2 w h r (ix2 q l) = tileVal w h r 2 q l := by
  rw [wVal2, val2, mag2, pay10_at, pay44_at, wOff_at, kVal_eq]; rfl
theorem wCode3_at (q : Fin 64) (l : Fin 256) : wCode3 w h r (ix2 q l) = tileCode w h r 3 q l := by
  rw [wCode3, code3, mag3, pay11_at, pay55_at]; rfl
theorem wVal3_at (q : Fin 64) (l : Fin 256) : wVal3 w h r (ix2 q l) = tileVal w h r 3 q l := by
  rw [wVal3, val3, mag3, pay11_at, pay55_at, wOff_at, kVal_eq]; rfl

/-! ## The three stores -/

/-- The packed codes a trip stores. -/
def storeCodes : IVec S128x256 8 := k0_pay1 (wCode0 w h r) (wCode2 w h r) (wCode3 w h r) (k0_pay64 (wCode1 w h r))
/-- The decoded values a trip stores, transposed. -/
def storeVals : FVec Ideal S256x256 .bf16 := k0_pay3 (wVal0 w h r) (wVal1 w h r) (wVal2 w h r) (wVal3 w h r)
/-- The exponents a trip stores. -/
def storeExp : IVec S8x256 32 := k0_pay2 (k0_pay22 (k0_pay16 w h) (k0_pay17 w h) k0_pay18)

theorem storeCodes_at (R : Fin 128) (l : Fin 256) (q : Fin 64) (hq : q.val = R.val / 2) (h0 : (tileCode w h r 0 q l).toNat < 16)
    (h1 : (tileCode w h r 1 q l).toNat < 16) :
    storeCodes w h r (ix2 R l) = if R.val % 2 = 0 then pair (tileCode w h r 0 q l) (tileCode w h r 1 q l)
      else pair (tileCode w h r 2 q l) (tileCode w h r 3 q l) := by
  unfold storeCodes
  rw [pay1_at _ _ _ _ R l q hq (by rw [wCode0_at]; exact h0) (by rw [wCode1_at]; exact h1), wCode0_at, wCode1_at, wCode2_at, wCode3_at]

theorem storeVals_at0 (q : Fin 64) (l : Fin 256) : storeVals w h r (ix2 l (⟨64 * 0 + q.val, by omega⟩ : Fin 256)) = tileVal w h r 0 q l := by
  unfold storeVals; rw [piece _ _ _ _ q l 0 (by omega) _ rfl, wVal0_at]
theorem storeVals_at1 (q : Fin 64) (l : Fin 256) : storeVals w h r (ix2 l (⟨64 * 1 + q.val, by omega⟩ : Fin 256)) = tileVal w h r 2 q l := by
  unfold storeVals; rw [piece _ _ _ _ q l 1 (by omega) _ rfl, wVal2_at]
theorem storeVals_at2 (q : Fin 64) (l : Fin 256) : storeVals w h r (ix2 l (⟨64 * 2 + q.val, by omega⟩ : Fin 256)) = tileVal w h r 1 q l := by
  unfold storeVals; rw [piece _ _ _ _ q l 2 (by omega) _ rfl, wVal1_at]
theorem storeVals_at3 (q : Fin 64) (l : Fin 256) : storeVals w h r (ix2 l (⟨64 * 3 + q.val, by omega⟩ : Fin 256)) = tileVal w h r 3 q l := by
  unfold storeVals; rw [piece _ _ _ _ q l 3 (by omega) _ rfl, wVal3_at]

/-- The decoded values: the rows come in the order 0, 2, 1, 3 of their place in a group of four. -/
theorem storeVals_at (p k : ℕ) (hp : p < 2) (hk : k < 2) (q : Fin 64) (l : Fin 256) :
    storeVals w h r (ix2 l (⟨128 * p + 64 * k + q.val, by omega⟩ : Fin 256)) = tileVal w h r ⟨2 * k + p, by omega⟩ q l := by
  interval_cases p <;> interval_cases k
  · exact storeVals_at0 w h r q l
  · exact storeVals_at1 w h r q l
  · exact storeVals_at2 w h r q l
  · exact storeVals_at3 w h r q l

theorem storeExp_at (g : Fin 8) (l : Fin 256) : storeExp w h (ix2 g l) = kExp (top w h g l * vs) := by
  unfold storeExp; rw [pay2_at, pay22_at, pay16_at]

end Cert.TKernelIdeal.Pay

end
-- ==== Proof.TBlock.lean ====
/-
  What the quantiser's loop leaves in its three arrays: every trip stores its tile of packed codes, decoded values and
  exponents, so an element is the one the trip of its tile stores.
-/
module

public import proofs.«01_k».proof.Proof.TTile
public import proofs.«01_k».proof.Proof.Gen.TKernelIdeal.Value
public import Idealize.ShloMosaic.Lib.Tactic
public import Idealize.ShloMosaic.Lib.Pipeline.ValueKit.Tiles

@[expose] public section

noncomputable section

open Idealize.ShloMosaic Idealize.ShloMosaic.TcCoe Idealize.SL.Sem

namespace Cert.TKernelIdeal.Pay

open Cert.TKernelIdeal Cert.TKernelIdeal.Gen Cert.Quant

/-! ## The tiles of a block -/

/-- Trip `k`'s tile of the weights or of the random bytes. -/
def tileOf {e : EltTy} (x : Vec Ideal S3840x256 e) (k : ℕ) (hk : k < 15) : Vec Ideal S256x256 e := fun j =>
  x (ix2 (⟨256 * k + (j 0).val, by have h : (j 0).val < 256 := (j 0).isLt; omega⟩ : Fin 3840) (⟨(j 1).val, (j 1).isLt⟩ : Fin 256))

/-- Trip `k`'s tile of the table. -/
def tabOf (x : Vec Ideal S3840x256 .bf16) (k : ℕ) (hk : k < 15) : Vec Ideal S256x256 .bf16 := fun j =>
  x (ix2 (⟨256 * k + (j 0).val, by have h : (j 0).val < 256 := (j 0).isLt; omega⟩ : Fin 3840) (⟨(j 1).val, (j 1).isLt⟩ : Fin 256))

theorem trips_eq : k0_t1_loop.trips = 15 := by decide +kernel
theorem trip_lt (k : Fin k0_t1_loop.trips) : k.val < 15 := lt_of_lt_of_eq k.isLt trips_eq
theorem off1 : ∀ k : Fin k0_t1_loop.trips, k0_off1 k = ![256 * k.val, 0] := by decide +kernel
theorem off2 : ∀ k : Fin k0_t1_loop.trips, k0_off2 k = ![128 * k.val, 0] := by decide +kernel
theorem off4 : ∀ k : Fin k0_t1_loop.trips, k0_off4 k = ![0, 256 * k.val] := by decide +kernel
theorem off3 : ∀ k : Fin k0_t1_loop.trips, k0_off3 k = ![8 * k.val, 0] := by decide +kernel

theorem ld_tile {e : EltTy} (x : Vec Ideal S3840x256 e) (k : Fin k0_t1_loop.trips) (inb : ∀ a, k0_off1 k a + S256x256.size a ≤ S3840x256.size a) :
    View.ld x (Rect.unit (k0_off1 k) S256x256.size inb) = tileOf x k.val (trip_lt k) := by
  funext j
  refine View.ld_unit_apply_of x _ _ _ _ _ ?_
  intro a
  refine Eq.trans ?_ (congrArg (fun n : ℕ => n + (j a).val) (congrFun (off1 k) a).symm)
  fin_cases a
  · rfl
  · exact (Nat.zero_add _).symm

theorem ld_tab (x : Vec Ideal S3840x256 .bf16) (k : Fin k0_t1_loop.trips) (inb : ∀ a, k0_off1 k a + S256x256.size a ≤ S3840x256.size a) :
    View.ld x (Rect.unit (k0_off1 k) S256x256.size inb) = tabOf x k.val (trip_lt k) := by
  funext j
  refine View.ld_unit_apply_of x _ _ _ _ _ ?_
  intro a
  refine Eq.trans ?_ (congrArg (fun n : ℕ => n + (j a).val) (congrFun (off1 k) a).symm)
  fin_cases a
  · rfl
  · exact (Nat.zero_add _).symm

/-! ## The stores of a trip -/

section Trip

variable (𝒱 : Variants) (c : Dev nD) (bd : Option 𝒱.V) (i : grid0.Coords) (arg1 : Memref sig .tc .vmem S3840x256 .bf16) (harg1 : arg1.IsWhole) (arg2 : Memref sig .tc .vmem S3840x256 .i8) (harg2 : arg2.IsWhole) (arg3 : Memref sig .tc .vmem S3840x256 .bf16) (harg3 : arg3.IsWhole)
  (arg4 : Memref sig .tc .vmem S1920x256 .i8) (harg4 : arg4.IsWhole) (arg5 : Memref sig .tc .vmem S3x40x256 .i8) (harg5 : arg5.IsWhole) (arg6 : Memref sig .tc .vmem S256x3840 .bf16) (harg6 : arg6.IsWhole)
  (arg7 : Memref sig .tc .vmem S120x256 .i32) (harg7 : arg7.IsWhole)
  (X0 : BufTy.Contents (Elt Ideal) arg1.view.ty) (X1 : BufTy.Contents (Elt Ideal) arg2.view.ty) (X2 : BufTy.Contents (Elt Ideal) arg3.view.ty)

/-- The tiles a trip loads. -/
abbrev loadW (k : Fin k0_t1_loop.trips) : Vec Ideal S256x256 .bf16 :=
  View.readAt (Elt Ideal) arg1.view (Rect.unit (s := S3840x256) (k0_off1 k) S256x256.size (k0_off1_inb k)).toLoadRect X0
abbrev loadR (k : Fin k0_t1_loop.trips) : Vec Ideal S256x256 .i8 :=
  View.readAt (Elt Ideal) arg2.view (Rect.unit (s := S3840x256) (k0_off1 k) S256x256.size (k0_off1_inb k)).toLoadRect X1
abbrev loadH (k : Fin k0_t1_loop.trips) : Vec Ideal S256x256 .bf16 :=
  View.readAt (Elt Ideal) arg3.view (Rect.unit (s := S3840x256) (k0_off1 k) S256x256.size (k0_off1_inb k)).toLoadRect X2

theorem trip_codes (k : Fin k0_t1_loop.trips) :
    (tripL_k0_t1 (F := Ideal) 𝒱 c bd i arg1 harg1 arg2 harg2 arg3 harg3 arg4 harg4 arg5 harg5 arg6 harg6 arg7 harg7 X0 X1 X2 k).1
      = [⟨Rect.unit (k0_off2 k) S128x256.size (k0_off2_inb k), storeCodes (loadW arg1 X0 k) (loadH arg3 X2 k) (loadR arg2 X1 k)⟩] := by
  unfold tripL_k0_t1 trip_k0_t1
  dsimp only
  unfold storeCodes
  rfl

theorem trip_vals (k : Fin k0_t1_loop.trips) :
    (tripL_k0_t1 (F := Ideal) 𝒱 c bd i arg1 harg1 arg2 harg2 arg3 harg3 arg4 harg4 arg5 harg5 arg6 harg6 arg7 harg7 X0 X1 X2 k).2.1
      = [⟨Rect.unit (k0_off4 k) S256x256.size (k0_off4_inb k), storeVals (loadW arg1 X0 k) (loadH arg3 X2 k) (loadR arg2 X1 k)⟩] := by
  unfold tripL_k0_t1 trip_k0_t1
  dsimp only
  unfold storeVals
  rfl

theorem trip_exp (k : Fin k0_t1_loop.trips) :
    (tripL_k0_t1 (F := Ideal) 𝒱 c bd i arg1 harg1 arg2 harg2 arg3 harg3 arg4 harg4 arg5 harg5 arg6 harg6 arg7 harg7 X0 X1 X2 k).2.2
      = [⟨Rect.unit (k0_off3 k) S8x256.size (k0_off3_inb k), storeExp (loadW arg1 X0 k) (loadH arg3 X2 k)⟩] := by
  unfold tripL_k0_t1 trip_k0_t1
  dsimp only
  unfold storeExp
  rfl

/-! ## The stores of the trips together -/

theorem pb_codes (n : ℕ) (p : View.Piece (Elt Ideal) S1920x256 .i8) (hp : p ∈ (pb_k0_t1 (F := Ideal) 𝒱 c bd i arg1 harg1 arg2 harg2 arg3 harg3 arg4 harg4 arg5 harg5 arg6 harg6 arg7 harg7 X0 X1 X2 n).1) :
    ∃ k : Fin k0_t1_loop.trips, p = ⟨Rect.unit (k0_off2 k) S128x256.size (k0_off2_inb k), storeCodes (loadW arg1 X0 k) (loadH arg3 X2 k) (loadR arg2 X1 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_codes] at hp
      rcases List.mem_cons.mp hp with rfl | hp
      · exact ⟨⟨n, h⟩, rfl⟩
      · exact ih hp
    · exact ih hp

theorem pb_vals (n : ℕ) (p : View.Piece (Elt Ideal) S256x3840 .bf16) (hp : p ∈ (pb_k0_t1 (F := Ideal) 𝒱 c bd i arg1 harg1 arg2 harg2 arg3 harg3 arg4 harg4 arg5 harg5 arg6 harg6 arg7 harg7 X0 X1 X2 n).2.1) :
    ∃ k : Fin k0_t1_loop.trips, p = ⟨Rect.unit (k0_off4 k) S256x256.size (k0_off4_inb k), storeVals (loadW arg1 X0 k) (loadH arg3 X2 k) (loadR arg2 X1 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_vals] at hp
      rcases List.mem_cons.mp hp with rfl | hp
      · exact ⟨⟨n, h⟩, rfl⟩
      · exact ih hp
    · exact ih hp

theorem pb_exp (n : ℕ) (p : View.Piece (Elt Ideal) S120x256 .i32) (hp : p ∈ (pb_k0_t1 (F := Ideal) 𝒱 c bd i arg1 harg1 arg2 harg2 arg3 harg3 arg4 harg4 arg5 harg5 arg6 harg6 arg7 harg7 X0 X1 X2 n).2.2) :
    ∃ k : Fin k0_t1_loop.trips, p = ⟨Rect.unit (k0_off3 k) S8x256.size (k0_off3_inb k), storeExp (loadW arg1 X0 k) (loadH arg3 X2 k)⟩ := by
  induction n with
  | zero => exact absurd hp (by unfold pb_k0_t1; exact List.not_mem_nil)
  | succ n ih =>
    rw [pb_k0_t1.eq_2] at hp
    unfold pb_k0_t1Step at hp
    split at hp
    · rename_i h
      rw [trip_exp] at hp
      rcases List.mem_cons.mp hp with rfl | hp
      · exact ⟨⟨n, h⟩, rfl⟩
      · exact ih hp
    · exact ih hp

end Trip

/-! ## The three blocks of a grid point -/

section Block

variable (c : Dev nD) (i : grid0.Coords) (arg1 : Memref sig .tc .vmem S3840x256 .bf16) (harg1 : arg1.IsWhole) (arg2 : Memref sig .tc .vmem S3840x256 .i8) (harg2 : arg2.IsWhole) (arg3 : Memref sig .tc .vmem S3840x256 .bf16) (harg3 : arg3.IsWhole)
  (arg4 : Memref sig .tc .vmem S1920x256 .i8) (harg4 : arg4.IsWhole) (arg5 : Memref sig .tc .vmem S3x40x256 .i8) (harg5 : arg5.IsWhole) (arg6 : Memref sig .tc .vmem S256x3840 .bf16) (harg6 : arg6.IsWhole)
  (arg7 : Memref sig .tc .vmem S120x256 .i32) (harg7 : arg7.IsWhole)
  (x0 : Vec Ideal S3840x256 .bf16) (x1 : Vec Ideal S3840x256 .i8) (x2 : Vec Ideal S3840x256 .bf16)

/-- The codes of a point's block. -/
def blockCodes (y : S1920x256.Idx) : BitVec 8 :=
  storeCodes (tileOf x0 ((y 0).val / 128) (by have h : (y 0).val < 1920 := (y 0).isLt; omega)) (tabOf x2 ((y 0).val / 128) (by have h : (y 0).val < 1920 := (y 0).isLt; omega))
    (tileOf x1 ((y 0).val / 128) (by have h : (y 0).val < 1920 := (y 0).isLt; omega)) (ix2 (⟨(y 0).val % 128, Nat.mod_lt _ (by decide)⟩ : Fin 128) (y 1))

theorem read0 (k : Fin k0_t1_loop.trips) : loadW arg1 (harg1.unread x0) k = tileOf x0 k.val (trip_lt k) := by
  unfold loadW; rw [View.readAt_eq_ld, harg1.read_unread, ld_tile]
theorem read1 (k : Fin k0_t1_loop.trips) : loadR arg2 (harg2.unread x1) k = tileOf x1 k.val (trip_lt k) := by
  unfold loadR; rw [View.readAt_eq_ld, harg2.read_unread, ld_tile]
theorem read2 (k : Fin k0_t1_loop.trips) : loadH arg3 (harg3.unread x2) k = tabOf x2 k.val (trip_lt k) := by
  unfold loadH; rw [View.readAt_eq_ld, harg3.read_unread, ld_tab]

/-- The decoded values of a point's block, transposed. -/
def blockVals (y : S256x3840.Idx) : EReal :=
  storeVals (tileOf x0 ((y 1).val / 256) (by have h : (y 1).val < 3840 := (y 1).isLt; omega)) (tabOf x2 ((y 1).val / 256) (by have h : (y 1).val < 3840 := (y 1).isLt; omega))
    (tileOf x1 ((y 1).val / 256) (by have h : (y 1).val < 3840 := (y 1).isLt; omega)) (ix2 (y 0) (⟨(y 1).val % 256, Nat.mod_lt _ (by decide)⟩ : Fin 256))

/-- The exponents of a point's block. -/
def blockExp (y : S120x256.Idx) : BitVec 32 :=
  storeExp (tileOf x0 ((y 0).val / 8) (by have h : (y 0).val < 120 := (y 0).isLt; omega)) (tabOf x2 ((y 0).val / 8) (by have h : (y 0).val < 120 := (y 0).isLt; omega))
    (ix2 (⟨(y 0).val % 8, Nat.mod_lt _ (by decide)⟩ : Fin 8) (y 1))

theorem blockCodes_at (k : ℕ) (hk : k < 15) (R : Fin 128) (l : Fin 256) (y : S1920x256.Idx) (h0 : (y 0).val = 128 * k + R.val) (h1 : (y 1).val = l.val) :
    blockCodes x0 x1 x2 y = storeCodes (tileOf x0 k hk) (tabOf x2 k hk) (tileOf x1 k hk) (ix2 R l) := by
  have hR := R.isLt
  obtain rfl : k = (y 0).val / 128 := by omega
  have e0 : (⟨(y 0).val % 128, Nat.mod_lt _ (by decide)⟩ : Fin 128) = R := Fin.ext (by show (y 0).val % 128 = R.val; omega)
  have e1 : y 1 = l := Fin.ext h1
  unfold blockCodes
  rw [e0]
  exact congrArg (fun l : Fin 256 => storeCodes (tileOf x0 ((y 0).val / 128) hk) (tabOf x2 ((y 0).val / 128) hk) (tileOf x1 ((y 0).val / 128) hk) (ix2 R l)) e1

theorem blockVals_at (k : ℕ) (hk : k < 15) (R : Fin 256) (l : Fin 256) (y : S256x3840.Idx) (h0 : (y 1).val = 256 * k + R.val) (h1 : (y 0).val = l.val) :
    blockVals x0 x1 x2 y = storeVals (tileOf x0 k hk) (tabOf x2 k hk) (tileOf x1 k hk) (ix2 l R) := by
  have hR := R.isLt
  obtain rfl : k = (y 1).val / 256 := by omega
  have e0 : (⟨(y 1).val % 256, Nat.mod_lt _ (by decide)⟩ : Fin 256) = R := Fin.ext (by show (y 1).val % 256 = R.val; omega)
  have e1 : y 0 = l := Fin.ext h1
  unfold blockVals
  rw [e0]
  exact congrArg (fun l : Fin 256 => storeVals (tileOf x0 ((y 1).val / 256) hk) (tabOf x2 ((y 1).val / 256) hk) (tileOf x1 ((y 1).val / 256) hk) (ix2 l R)) e1

theorem blockExp_at (k : ℕ) (hk : k < 15) (R : Fin 8) (l : Fin 256) (y : S120x256.Idx) (h0 : (y 0).val = 8 * k + R.val) (h1 : (y 1).val = l.val) :
    blockExp x0 x2 y = storeExp (tileOf x0 k hk) (tabOf x2 k hk) (ix2 R l) := by
  have hR := R.isLt
  obtain rfl : k = (y 0).val / 8 := by omega
  have e0 : (⟨(y 0).val % 8, Nat.mod_lt _ (by decide)⟩ : Fin 8) = R := Fin.ext (by show (y 0).val % 8 = R.val; omega)
  have e1 : y 1 = l := Fin.ext h1
  unfold blockExp
  rw [e0]
  exact congrArg (fun l : Fin 256 => storeExp (tileOf x0 ((y 0).val / 8) hk) (tabOf x2 ((y 0).val / 8) hk) (ix2 R l)) e1

theorem out_codes : out0_A_3 c i arg1 harg1 arg2 harg2 arg3 harg3 arg4 harg4 arg5 harg5 arg6 harg6 arg7 harg7 x0 x1 x2 = blockCodes x0 x1 x2 := by
  funext y
  unfold out0_A_3
  rw [View.read_writes_eq_canon _ _ _ (cover0_A_3 c i arg1 harg1 arg2 harg2 arg3 harg3 arg4 harg4 arg5 harg5 arg6 harg6 arg7 harg7 x0 x1 x2)]
  refine View.canon_apply_of_pieces _ _ ?_ y (cover0_A_3 c i arg1 harg1 arg2 harg2 arg3 harg3 arg4 harg4 arg5 harg5 arg6 harg6 arg7 harg7 x0 x1 x2 y)
  intro p hp
  unfold kernelRun0_A at hp
  dsimp only at hp
  obtain ⟨k, rfl⟩ := pb_codes _ _ _ _ _ _ _ _ _ _ _ _ _ _ _ _ _ _ _ _ _ _ _ hp
  intro x
  rw [read0, read1, read2]
  refine Eq.trans ?_ (blockCodes_at x0 x1 x2 k.val (trip_lt k) (x 0) (x 1) _ ?_ ?_).symm
  · exact congrArg _ (eq_ix2 x)
  · show k0_off2 k 0 + 1 * (x 0).val = _; rw [congrFun (off2 k) 0]; show 128 * k.val + 1 * (x 0).val = _; omega
  · show k0_off2 k 1 + 1 * (x 1).val = _; rw [congrFun (off2 k) 1]; show 0 + 1 * (x 1).val = _; omega

theorem out_vals : out0_A_5 c i arg1 harg1 arg2 harg2 arg3 harg3 arg4 harg4 arg5 harg5 arg6 harg6 arg7 harg7 x0 x1 x2 = blockVals x0 x1 x2 := by
  funext y
  unfold out0_A_5
  rw [View.read_writes_eq_canon _ _ _ (cover0_A_5 c i arg1 harg1 arg2 harg2 arg3 harg3 arg4 harg4 arg5 harg5 arg6 harg6 arg7 harg7 x0 x1 x2)]
  refine View.canon_apply_of_pieces _ _ ?_ y (cover0_A_5 c i arg1 harg1 arg2 harg2 arg3 harg3 arg4 harg4 arg5 harg5 arg6 harg6 arg7 harg7 x0 x1 x2 y)
  intro p hp
  unfold kernelRun0_A at hp
  dsimp only at hp
  obtain ⟨k, rfl⟩ := pb_vals _ _ _ _ _ _ _ _ _ _ _ _ _ _ _ _ _ _ _ _ _ _ _ hp
  intro x
  rw [read0, read1, read2]
  refine Eq.trans ?_ (blockVals_at x0 x1 x2 k.val (trip_lt k) (x 1) (x 0) _ ?_ ?_).symm
  · exact congrArg _ (eq_ix2 x)
  · show k0_off4 k 1 + 1 * (x 1).val = _; rw [congrFun (off4 k) 1]; show 256 * k.val + 1 * (x 1).val = _; omega
  · show k0_off4 k 0 + 1 * (x 0).val = _; rw [congrFun (off4 k) 0]; show 0 + 1 * (x 0).val = _; omega

theorem scratch (B : LoadRect S120x256) (j : B.shape.Idx) (n : ℕ)
    (h : ∀ y, ∃ p ∈ (pb_k0_t1 (F := Ideal) Variants.none c none i arg1 harg1 arg2 harg2 arg3 harg3 arg4 harg4 arg5 harg5 arg6 harg6 arg7 harg7 (harg1.unread x0) (harg2.unread x1) (harg3.unread x2) n).2.2, y ∈ p.1.set) :
    arg7.view.readCov (pb_k0_t1 (F := Ideal) Variants.none c none i arg1 harg1 arg2 harg2 arg3 harg3 arg4 harg4 arg5 harg5 arg6 harg6 arg7 harg7 (harg1.unread x0) (harg2.unread x1) (harg3.unread x2) n).2.2 B j
      = blockExp x0 x2 (B.idx j) := by
  rw [View.readCov_eq_canon _ _ _ fun j => h _]
  refine View.canon_apply_of_pieces _ _ ?_ (B.idx j) (h _)
  intro p hp
  obtain ⟨k, rfl⟩ := pb_exp _ _ _ _ _ _ _ _ _ _ _ _ _ _ _ _ _ _ _ _ _ _ _ hp
  intro x
  rw [read0, read2]
  refine Eq.trans ?_ (blockExp_at x0 x2 k.val (trip_lt k) (x 0) (x 1) _ ?_ ?_).symm
  · exact congrArg _ (eq_ix2 x)
  · show k0_off3 k 0 + 1 * (x 0).val = _; rw [congrFun (off3 k) 0]; show 8 * k.val + 1 * (x 0).val = _; omega
  · show k0_off3 k 1 + 1 * (x 1).val = _; rw [congrFun (off3 k) 1]; show 0 + 1 * (x 1).val = _; omega

/-- The exponents of a point's block, as they are stored. -/
def blockScale (y : S3x40x256.Idx) : BitVec 8 :=
  (blockExp x0 x2 (ix2 (⟨40 * (y 0).val + (y 1).val, by have h0 : (y 0).val < 3 := (y 0).isLt; have h1 : (y 1).val < 40 := (y 1).isLt; omega⟩ : Fin 120) (⟨(y 2).val, (y 2).isLt⟩ : Fin 256))).setWidth 8

/-- One batch's store of exponents: the conversion of forty rows. -/
theorem scale_row (v : Vec Ideal S40x256 .i32) (x : S1x40x256.Idx) :
    shapeCast S1x40x256 (trunci 8 v natLt_8_32) shapeCasts_S40x256_S1x40x256 x
      = (v (ix2 (⟨(x 1).val, (x 1).isLt⟩ : Fin 40) (⟨(x 2).val, (x 2).isLt⟩ : Fin 256))).setWidth 8 := by
  refine (shapeCast_apply _ _ x (ix2 (⟨(x 1).val, (x 1).isLt⟩ : Fin 40) (⟨(x 2).val, (x 2).isLt⟩ : Fin 256)) (by
    have h0 : (x 0).val < 1 := (x 0).isLt
    rw [Shape.rowMajor_val_two, Shape.rowMajor_val_three]
    show (x 1).val * 256 + (x 2).val = ((x 0).val * 40 + (x 1).val) * 256 + (x 2).val
    omega)).trans rfl

theorem out_exp : out0_A_4 c i arg1 harg1 arg2 harg2 arg3 harg3 arg4 harg4 arg5 harg5 arg6 harg6 arg7 harg7 x0 x1 x2 = blockScale x0 x2 := by
  funext y
  unfold out0_A_4
  rw [View.read_writes_eq_canon _ _ _ (cover0_A_4 c i arg1 harg1 arg2 harg2 arg3 harg3 arg4 harg4 arg5 harg5 arg6 harg6 arg7 harg7 x0 x1 x2)]
  refine View.canon_apply_of_pieces _ _ ?_ y (cover0_A_4 c i arg1 harg1 arg2 harg2 arg3 harg3 arg4 harg4 arg5 harg5 arg6 harg6 arg7 harg7 x0 x1 x2 y)
  intro p hp
  unfold kernelRun0_A at hp
  dsimp only at hp
  have cov := fun y => View.cover_of_tiledL (pb_k0_t1 (F := Ideal) Variants.none c none i arg1 harg1 arg2 harg2 arg3 harg3 arg4 harg4 arg5 harg5 arg6 harg6 arg7 harg7
      (harg1.unread x0) (harg2.unread x1) (harg3.unread x2) (Scf.trips 0#32 (Scalar.addi 0#32 15#32) 1#32)).2.2 S8x256.size (by sl_kernel_rfl) y
  rcases List.mem_cons.mp hp with rfl | hp
  · intro x
    refine (scale_row _ x).trans (congrArg (BitVec.setWidth 8) ((scratch c i arg1 harg1 arg2 harg2 arg3 harg3 arg4 harg4 arg5 harg5 arg6 harg6 arg7 harg7 x0 x1 x2 _ _ _ cov).trans (congrArg (blockExp x0 x2) (funext fun a => Fin.ext ?_))))
    have h0 : (x 0).val < 1 := (x 0).isLt
    match a with
    | ⟨0, _⟩ => show 80 + 1 * (x 1).val = 40 * (2 + 1 * (x 0).val) + (0 + 1 * (x 1).val); omega
    | ⟨1, _⟩ => show 0 + 1 * (x 2).val = 0 + 1 * (x 2).val; rfl
  rcases List.mem_cons.mp hp with rfl | hp
  · intro x
    refine (scale_row _ x).trans (congrArg (BitVec.setWidth 8) ((scratch c i arg1 harg1 arg2 harg2 arg3 harg3 arg4 harg4 arg5 harg5 arg6 harg6 arg7 harg7 x0 x1 x2 _ _ _ cov).trans (congrArg (blockExp x0 x2) (funext fun a => Fin.ext ?_))))
    have h0 : (x 0).val < 1 := (x 0).isLt
    match a with
    | ⟨0, _⟩ => show 40 + 1 * (x 1).val = 40 * (1 + 1 * (x 0).val) + (0 + 1 * (x 1).val); omega
    | ⟨1, _⟩ => show 0 + 1 * (x 2).val = 0 + 1 * (x 2).val; rfl
  rcases List.mem_cons.mp hp with rfl | hp
  · intro x
    refine (scale_row _ x).trans (congrArg (BitVec.setWidth 8) ((scratch c i arg1 harg1 arg2 harg2 arg3 harg3 arg4 harg4 arg5 harg5 arg6 harg6 arg7 harg7 x0 x1 x2 _ _ _ cov).trans (congrArg (blockExp x0 x2) (funext fun a => Fin.ext ?_))))
    have h0 : (x 0).val < 1 := (x 0).isLt
    match a with
    | ⟨0, _⟩ => show 0 + 1 * (x 1).val = 40 * (0 + 1 * (x 0).val) + (0 + 1 * (x 1).val); omega
    | ⟨1, _⟩ => show 0 + 1 * (x 2).val = 0 + 1 * (x 2).val; rfl
  exact absurd hp List.not_mem_nil

end Block

end Cert.TKernelIdeal.Pay

end
-- ==== Proof.TRef.lean ====
/-
  The reference's results for the quantiser of dy, read at an index as the scalar functions of QuantScalar and QuantBlock.
-/
module

public import proofs.«01_k».proof.Proof.Gen.TReferenceIdeal.Read
public import proofs.«01_k».proof.Proof.QuantRef
public import Idealize.ShloMosaic.Lib.Pointwise

@[expose] public section

noncomputable section

open Idealize.ShloMosaic Cert.TReferenceIdeal

namespace Cert.TReferenceIdeal.Read

open Cert.Quant

variable (x0 : (⟨S3840x16384, .bf16⟩ : BufTy).Contents (Elt Ideal)) (x1 : (⟨S3840, .f32⟩ : BufTy).Contents (Elt Ideal))
variable (x2 : (⟨S3840x16384, .i8⟩ : BufTy).Contents (Elt Ideal))

theorem v17_at (i : S32x32.Idx) : val_main_v17 (F := Ideal) i = had (i 0) (i 1) := by
  simp only [val_main_v17_apply, val_main_v15_apply, val_main_v14_apply, val_main_c_0_apply, val_main_v13_apply, val_main_v12_apply, val_main_c_apply,
    val_main_v11_apply, val_main_v10_apply, val_main_v9_apply, val_main_v8_apply, val_main_v7_apply, val_main_v6_apply, val_main_v5_apply,
    val_main_v16_apply, val_main_cst_apply, val_main_call0_v0_apply, val_main_call0_v1_apply, val_main_cst_1_apply]
  rfl

/-- The rotated value of row `n` of block `b`, column `c`. -/
def rotV (b : Fin 120) (n : Fin 32) (c : Fin 16384) : EReal :=
  ∑ k : Fin 32, (x0 (ix2 ⟨32 * b.val + k.val, by omega⟩ c) * x1 (ix1 ⟨32 * b.val + k.val, by omega⟩)) * had n k

theorem v4_at (i : S120x32x16384.Idx) :
    val_main_v4 (F := Ideal) x0 x1 i = x0 (ix2 ⟨32 * (i 0).val + (i 1).val, by have h0 : (i 0).val < 120 := (i 0).isLt; have h1 : (i 1).val < 32 := (i 1).isLt; omega⟩ (i 2))
      * x1 (ix1 ⟨32 * (i 0).val + (i 1).val, by have h0 : (i 0).val < 120 := (i 0).isLt; have h1 : (i 1).val < 32 := (i 1).isLt; omega⟩) := by
  simp only [val_main_v4_apply, val_main_v3_apply, val_main_v2_apply, val_main_v1_apply, val_main_v0_apply]
  have e : idx_main_v4 i = ix2 ⟨32 * (i 0).val + (i 1).val, by have h0 : (i 0).val < 120 := (i 0).isLt; have h1 : (i 1).val < 32 := (i 1).isLt; omega⟩ (i 2) := by
    have h0 : (i 0).val < 120 := (i 0).isLt
    have h1 : (i 1).val < 32 := (i 1).isLt
    have h2 : (i 2).val < 16384 := (i 2).isLt
    funext a
    match a with
    | ⟨0, _⟩ => exact Fin.ext (by show _ / _ = 32 * (i 0).val + (i 1).val; omega)
    | ⟨1, _⟩ => exact Fin.ext (by show _ % _ = (i 2).val; omega)
  rw [e]
  have e2 : idx_main_v1 (idx_main_v2 (ix2 ⟨32 * (i 0).val + (i 1).val, by have h0 : (i 0).val < 120 := (i 0).isLt; have h1 : (i 1).val < 32 := (i 1).isLt; omega⟩ (i 2)))
      = ix1 ⟨32 * (i 0).val + (i 1).val, by have h0 : (i 0).val < 120 := (i 0).isLt; have h1 : (i 1).val < 32 := (i 1).isLt; omega⟩ := by
    funext a
    match a with
    | ⟨0, _⟩ => rfl
  exact congrArg₂ (fun p q : EReal => p * q) rfl (congrArg x1 e2)

theorem v19_at (i : S120x32x16384.Idx) : val_main_v19 (F := Ideal) x0 x1 i = rotV x0 x1 (i 0) (i 1) (i 2) := by
  rw [val_main_v19_apply, val_main_v18_apply]
  unfold rotV
  refine Finset.sum_congr rfl fun k _ => ?_
  rw [v4_at, v17_at]
  rfl

/-- The largest magnitude of a block. -/
def rotA (b : Fin 120) (c : Fin 16384) : EReal := (Finset.univ : Finset (Fin 32)).fold max (cst 0xFF800000#32) (fun n => max (rotV x0 x1 b n c) (-rotV x0 x1 b n c))

theorem v21_at (i : S120x16384.Idx) : val_main_v21 (F := Ideal) x0 x1 i = rotA x0 x1 (i 0) (i 1) := by
  unfold val_main_v21
  rw [Host.reduce_eq_fold, Shape.ReducesTo.fold_fiber_r3_a1]
  unfold rotA
  refine Finset.fold_congr fun n _ => ?_
  rw [val_main_v20_apply, v19_at]
  rfl

theorem v32_at (i : S120x16384.Idx) : val_main_v32 (F := Ideal) x0 x1 i = rExp (val_main_v21 (F := Ideal) x0 x1 i) := by
  rw [val_main_v32_apply, val_main_v31_apply, val_main_v30_apply, val_main_v29_apply, val_main_v28_apply, val_main_v27_apply, val_main_v26_apply,
    val_main_v25_apply, val_main_v24_apply, val_main_v23_apply, val_main_v22_apply, val_main_call1_v1_apply, val_main_call1_v0_apply,
    val_main_cst_3_apply, val_main_cst_4_apply, val_main_cst_5_apply, val_main_cst_6_apply]
  generalize val_main_v21 (F := Ideal) x0 x1 i = y
  rfl

theorem v37_at (i : S120x16384.Idx) : val_main_v37 (F := Ideal) x0 x1 i = rScale (val_main_v21 (F := Ideal) x0 x1 i) := by
  rw [val_main_v37_apply, val_main_v36_apply, val_main_v35_apply, val_main_v34_apply, val_main_v33_apply, v32_at, val_main_cst_7_apply, val_main_cst_8_apply]
  generalize val_main_v21 (F := Ideal) x0 x1 i = y
  rfl

theorem v40_at (i : S120x32x16384.Idx) :
    val_main_v40 (F := Ideal) x0 x1 i = rotV x0 x1 (i 0) (i 1) (i 2) * rScale (rotA x0 x1 (i 0) (i 2)) := by
  rw [val_main_v40_apply, v19_at, val_main_v39_apply, val_main_v38_apply, v37_at, v21_at]
  rfl

/-- The uniform number of an element. -/
def rotU (b : Fin 120) (n : Fin 32) (c : Fin 16384) : EReal :=
  uOf (((BitVec.setWidth 32 (x2 (ix2 ⟨32 * b.val + n.val, by omega⟩ c)) : BitVec 32).toInt : ℝ) : EReal)

theorem v59_at (i : S120x32x16384.Idx) : val_main_v59 (F := Ideal) x2 i = rotU x2 (i 0) (i 1) (i 2) := by
  simp only [val_main_v59_apply, val_main_v58_apply, val_main_v57_apply, val_main_v56_apply, val_main_v55_apply, val_main_v54_apply, val_main_v41_apply,
    val_main_cst_14_apply, val_main_cst_15_apply]
  have e : idx_main_v41 i = ix2 ⟨32 * (i 0).val + (i 1).val, by have h0 : (i 0).val < 120 := (i 0).isLt; have h1 : (i 1).val < 32 := (i 1).isLt; omega⟩ (i 2) := by
    have h0 : (i 0).val < 120 := (i 0).isLt
    have h1 : (i 1).val < 32 := (i 1).isLt
    have h2 : (i 2).val < 16384 := (i 2).isLt
    funext a
    match a with
    | ⟨0, _⟩ => exact Fin.ext (by show _ / _ = 32 * (i 0).val + (i 1).val; omega)
    | ⟨1, _⟩ => exact Fin.ext (by show _ % _ = (i 2).val; omega)
  rw [e]
  rfl

theorem v48_at (i : S120x32x16384.Idx) : val_main_v48 (F := Ideal) x0 x1 i = rStep (val_main_v42 (F := Ideal) x0 x1 i) := by
  simp only [val_main_v48_apply, val_main_v47_apply, val_main_v46_apply, val_main_v45_apply, val_main_v44_apply, val_main_v43_apply,
    val_main_call2_v0_apply, val_main_call2_v1_apply, val_main_call3_v0_apply, val_main_cst_9_apply, val_main_cst_10_apply, val_main_cst_11_apply,
    val_main_cst_12_apply, val_main_cst_13_apply]
  rfl

theorem v51_at (i : S120x32x16384.Idx) : val_main_v51 (F := Ideal) x0 x1 i = rLow (val_main_v42 (F := Ideal) x0 x1 i) := by
  simp only [val_main_v51_apply, val_main_v50_apply, val_main_v49_apply, v48_at]
  rfl

theorem v62_at (i : S120x32x16384.Idx) :
    val_main_v62 (F := Ideal) x0 x1 x2 i = rGrid (val_main_v42 (F := Ideal) x0 x1 i) (rotU x2 (i 0) (i 1) (i 2)) := by
  simp only [val_main_v62_apply, val_main_v61_apply, val_main_v60_apply, val_main_v53_apply, val_main_v52_apply, v51_at, v48_at, v59_at]
  rfl

theorem v75_at (i : S120x32x16384.Idx) : val_main_v75 (F := Ideal) x0 x1 x2 i = rNum (val_main_v62 (F := Ideal) x0 x1 x2 i) := by
  simp only [val_main_v75_apply, val_main_v74_apply, val_main_v73_apply, val_main_v72_apply, val_main_v71_apply, val_main_v70_apply, val_main_v69_apply,
    val_main_v68_apply, val_main_v67_apply, val_main_v66_apply, val_main_v65_apply, val_main_v64_apply, val_main_v63_apply,
    val_main_call5_v0_apply, val_main_call5_v1_apply, val_main_call6_v0_apply, val_main_cst_16_apply, val_main_cst_17_apply, val_main_cst_18_apply,
    val_main_cst_19_apply, val_main_cst_20_apply, val_main_cst_21_apply, val_main_cst_22_apply]
  rfl

theorem v84_of (i : S120x32x16384.Idx) :
    val_main_v84 (F := Ideal) x0 x1 x2 i = signed (val_main_v40 (F := Ideal) x0 x1 i) (Ideal.fptosi 32 (val_main_v75 (F := Ideal) x0 x1 x2 i)) := by
  simp only [val_main_v84_apply, val_main_v83_apply, val_main_v82_apply, val_main_v81_apply, val_main_v80_apply, val_main_v79_apply, val_main_v78_apply,
    val_main_v77_apply, val_main_v76_apply, val_main_cst_23_apply, val_main_c_24_apply, val_main_c_25_apply]
  rfl

/-- The four-bit code of an element. -/
def rotCode (b : Fin 120) (n : Fin 32) (c : Fin 16384) : BitVec 32 :=
  signed (rotV x0 x1 b n c * rScale (rotA x0 x1 b c))
    (rIdx (max (rotV x0 x1 b n c * rScale (rotA x0 x1 b c)) (-(rotV x0 x1 b n c * rScale (rotA x0 x1 b c)))) (rotU x2 b n c))

theorem v84_at (i : S120x32x16384.Idx) : val_main_v84 (F := Ideal) x0 x1 x2 i = rotCode x0 x1 x2 (i 0) (i 1) (i 2) := by
  rw [v84_of, v75_at, v62_at, val_main_v42_apply, v40_at]
  rfl

theorem v119_at (i : S120x32x16384.Idx) : val_main_v119 (F := Ideal) x0 x1 x2 i = rMag (val_main_v84 (F := Ideal) x0 x1 x2 i) := by
  simp only [val_main_v119_apply, val_main_v118_apply, val_main_v117_apply, val_main_v116_apply, val_main_v115_apply, val_main_v114_apply, val_main_v113_apply,
    val_main_v112_apply, val_main_v111_apply, val_main_v110_apply, val_main_v109_apply, val_main_v108_apply, val_main_v107_apply, val_main_v106_apply,
    val_main_v105_apply, val_main_v104_apply, val_main_v103_apply, val_main_v102_apply, val_main_v101_apply, val_main_v100_apply, val_main_v99_apply,
    val_main_v98_apply, val_main_v97_apply, val_main_v96_apply, val_main_v95_apply, val_main_v94_apply, val_main_v93_apply, val_main_v92_apply,
    val_main_v91_apply, val_main_v90_apply, val_main_v89_apply,
    val_main_call9_v0_apply, val_main_call9_v1_apply, val_main_call10_v0_apply, val_main_call10_v1_apply, val_main_call12_v0_apply,
    val_main_call12_v1_apply, val_main_call13_v0_apply, val_main_call13_v1_apply,
    val_main_c_28_apply, val_main_c_29_apply, val_main_c_30_apply, val_main_c_31_apply, val_main_c_32_apply, val_main_c_33_apply, val_main_c_34_apply,
    val_main_c_35_apply, val_main_cst_36_apply, val_main_cst_37_apply, val_main_c_38_apply, val_main_cst_39_apply, val_main_cst_40_apply,
    val_main_c_41_apply, val_main_c_42_apply, val_main_cst_43_apply, val_main_cst_44_apply, val_main_c_45_apply, val_main_cst_46_apply, val_main_cst_47_apply]
  rfl

theorem v123_at (i : S120x32x16384.Idx) : val_main_v123 (F := Ideal) x0 x1 x2 i = rDecode (val_main_v84 (F := Ideal) x0 x1 x2 i) := by
  simp only [val_main_v123_apply, val_main_v122_apply, val_main_v121_apply, val_main_v120_apply, val_main_v88_apply, val_main_v87_apply, val_main_v86_apply,
    val_main_v85_apply, val_main_c_26_apply, val_main_c_27_apply, val_main_c_48_apply, v119_at]
  rfl

theorem v130_at (i : S120x32x16384.Idx) :
    val_main_v130 (F := Ideal) x0 x1 x2 i = rDecode (rotCode x0 x1 x2 (i 0) (i 1) (i 2)) * rBack (rotA x0 x1 (i 0) (i 2)) := by
  rw [val_main_v130_apply, val_main_v129_apply, val_main_v127_apply, v123_at, v84_at, val_main_v128_apply, val_main_v126_apply, val_main_v125_apply,
    val_main_v124_apply, val_main_cst_49_apply, v32_at, v21_at]
  rfl

/-! ## The results -/

theorem codes_at (i : S1920x16384.Idx) (b : Fin 120) (n0 n1 : Fin 32) (h0 : 32 * b.val + n0.val = 2 * (i 0).val) (h1 : n1.val = n0.val + 1) :
    val_main_v139 (F := Ideal) x0 x1 x2 i
      = (IntOp.ori (rotCode x0 x1 x2 b n0 (i 1)) (IntOp.shli .host (rotCode x0 x1 x2 b n1 (i 1)) 4#32)).setWidth 8 := by
  simp only [val_main_v139_apply, val_main_v138_apply, val_main_v137_apply, val_main_v136_apply, val_main_c_50_apply, val_main_v135_apply, val_main_v134_apply,
    val_main_v133_apply, val_main_v132_apply, val_main_v131_apply, v84_at]
  have hi0 : (i 0).val < 1920 := (i 0).isLt
  have hi1 : (i 1).val < 16384 := (i 1).isLt
  have a0 : ∀ n : Fin 32, 32 * b.val + n.val = 2 * (i 0).val → idx_main_v131 (idx_main_v132 (idx_main_v133 i)) = ix3 b n (i 1) := by
    intro n hn
    have := n.isLt
    funext a
    match a with
    | ⟨0, _⟩ => exact Fin.ext (by show _ / _ = b.val; dsimp; omega)
    | ⟨1, _⟩ => exact Fin.ext (by show _ / _ % _ = n.val; dsimp; omega)
    | ⟨2, _⟩ => exact Fin.ext (by show _ % _ = (i 1).val; dsimp; omega)
  have a1 : ∀ n : Fin 32, 32 * b.val + n.val = 2 * (i 0).val + 1 → idx_main_v131 (idx_main_v134 (idx_main_v135 i)) = ix3 b n (i 1) := by
    intro n hn
    have := n.isLt
    funext a
    match a with
    | ⟨0, _⟩ => exact Fin.ext (by show _ / _ = b.val; dsimp; omega)
    | ⟨1, _⟩ => exact Fin.ext (by show _ / _ % _ = n.val; dsimp; omega)
    | ⟨2, _⟩ => exact Fin.ext (by show _ % _ = (i 1).val; dsimp; omega)
  rw [a0 n0 h0, a1 n1 (by omega)]
  rfl

theorem vals_at (i : S3840x16384.Idx) (b : Fin 120) (n : Fin 32) (d p q g s : ℕ) (hp : p < 2) (hq : q < 2) (hg : g < 8) (hs : s < 8)
    (hi : (i 0).val = 256 * d + 128 * p + 64 * q + 8 * g + s) (hb : b.val = 8 * d + g) (hn : n.val = 4 * s + 2 * q + p) :
    val_main_v142 (F := Ideal) x0 x1 x2 i = rDecode (rotCode x0 x1 x2 b n (i 1)) * rBack (rotA x0 x1 b (i 1)) := by
  have hi0 : (i 0).val < 3840 := (i 0).isLt
  have hi1 : (i 1).val < 16384 := (i 1).isLt
  unfold val_main_v142
  let j : S15x2x2x8x8x16384.Idx := fun a => match a with
    | ⟨0, _⟩ => ⟨d, by show d < 15; omega⟩
    | ⟨1, _⟩ => ⟨p, hp⟩
    | ⟨2, _⟩ => ⟨q, hq⟩
    | ⟨3, _⟩ => ⟨g, hg⟩
    | ⟨4, _⟩ => ⟨s, hs⟩
    | ⟨5, _⟩ => ⟨(i 1).val, hi1⟩
  refine (shapeCast_apply _ _ i j (by
    rw [Shape.rowMajor_val_two, Shape.rowMajor_val_six]
    show ((((d * 2 + p) * 2 + q) * 8 + g) * 8 + s) * 16384 + (i 1).val = (i 0).val * 16384 + (i 1).val
    omega)).trans ?_
  rw [val_main_v141_apply]
  unfold val_main_v140
  refine (shapeCast_apply _ _ (idx_main_v141 j) (ix3 b n (i 1)) (by
    rw [Shape.rowMajor_val_three, Shape.rowMajor_val_six]
    show (b.val * 32 + n.val) * 16384 + (i 1).val = ((((d * 8 + g) * 8 + s) * 2 + q) * 2 + p) * 16384 + (i 1).val
    omega)).trans ?_
  exact v130_at x0 x1 x2 (ix3 b n (i 1))

theorem scales_at (i : S120x16384.Idx) : val_main_v144 (F := Ideal) x0 x1 i = (Ideal.fptosi 32 (rExp (rotA x0 x1 (i 0) (i 1)))).setWidth 8 := by
  rw [val_main_v144_apply, val_main_v143_apply, v32_at, v21_at]
  rfl

/-- The exponents, batch by batch. -/
theorem batch_at (i : S3x40x16384.Idx) (b : Fin 120) (hb : b.val = 40 * (i 0).val + (i 1).val) :
    val_main_v145 (F := Ideal) x0 x1 i = (Ideal.fptosi 32 (rExp (rotA x0 x1 b (i 2)))).setWidth 8 := by
  unfold val_main_v145
  refine (shapeCast_apply _ _ i (ix2 b (i 2)) (by
    rw [Shape.rowMajor_val_two, Shape.rowMajor_val_three]
    show b.val * 16384 + (i 2).val = ((i 0).val * 40 + (i 1).val) * 16384 + (i 2).val
    rw [hb]; ring)).trans (scales_at x0 x1 (ix2 b (i 2)))

/-- The decoded values, transposed. -/
theorem turned_at (i : S16384x3840.Idx) : val_main_v146 (F := Ideal) x0 x1 x2 i = val_main_v142 (F := Ideal) x0 x1 x2 (ix2 (i 1) (i 0)) := by
  rw [val_main_v146_apply]
  exact congrArg _ (eq_ix2 (idx_main_v146 i))

end Cert.TReferenceIdeal.Read

end
-- ==== Proof.TTable.lean ====
/-
  The kernel's table: what the operations before the kernel's launch leave in its third operand. A row is a row of the
  signed Hadamard matrix of one block, permuted to the kernel's row order, and zero outside the block.
-/
module

public import proofs.«01_k».proof.Proof.TBlock
public import proofs.«01_k».proof.Proof.TRef
public import Idealize.ShloMosaic.Lib.StableHlo.RunRead

@[expose] public section

noncomputable section

open Idealize.ShloMosaic Idealize.ShloMosaic.TcCoe Idealize.SL.Sem

namespace Cert.TKernelIdeal.Table

open Cert.TKernelIdeal Cert.TKernelIdeal.Gen Cert.TKernelIdeal.Pay Cert.Quant

/-- Which row of its tile a row of the table is the transform of. -/
def ordV : IVec S256 32 :=
  addi (addi (muli (broadcastInDim S256 ![] bcast_S_S256 (constantI S_ 32 32#32))
      (andi (Host.shrsi (iotaInDim S256 32 0) (broadcastInDim S256 ![] bcast_S_S256 (constantI S_ 32 3#32)))
        (broadcastInDim S256 ![] bcast_S_S256 (constantI S_ 32 7#32))))
    (muli (broadcastInDim S256 ![] bcast_S_S256 (constantI S_ 32 4#32))
      (andi (iotaInDim S256 32 0) (broadcastInDim S256 ![] bcast_S_S256 (constantI S_ 32 7#32)))))
    (Host.shrsi (iotaInDim S256 32 0) (broadcastInDim S256 ![] bcast_S_S256 (constantI S_ 32 6#32)))

/-- Whether a row and a column share an even number of set bits below bit 5. -/
def evenV : IVec S256x256 1 :=
  cmpi .eq (andi (ctpop (andi
      (broadcastInDim S256x256 ![0, 1] bcast_S256x1_S256x256_0_1
        (andi (broadcastInDim S256x1 ![0] bcast_S256_S256x1_0 ordV) (broadcastInDim S256x1 ![] bcast_S_S256x1 (constantI S_ 32 31#32))))
      (broadcastInDim S256x256 ![0, 1] bcast_S1x256_S256x256_0_1
        (andi (broadcastInDim S1x256 ![1] bcast_S256_S1x256_1 (iotaInDim S256 32 0))
          (broadcastInDim S1x256 ![] bcast_S_S1x256 (constantI S_ 32 31#32))))))
    (broadcastInDim S256x256 ![] bcast_S_S256x256 (constantI S_ 32 1#32)))
    (broadcastInDim S256x256 ![] bcast_S_S256x256 (constantI S_ 32 0#32))

/-- Whether a row and a column are of the same block. -/
def sameV : IVec S256x256 1 :=
  cmpi .eq
    (broadcastInDim S256x256 ![0, 1] bcast_S256x1_S256x256_0_1
      (Host.shrsi (broadcastInDim S256x1 ![0] bcast_S256_S256x1_0 ordV) (broadcastInDim S256x1 ![] bcast_S_S256x1 (constantI S_ 32 5#32))))
    (broadcastInDim S256x256 ![0, 1] bcast_S1x256_S256x256_0_1
      (Host.shrsi (broadcastInDim S1x256 ![1] bcast_S256_S1x256_1 (iotaInDim S256 32 0))
        (broadcastInDim S1x256 ![] bcast_S_S1x256 (constantI S_ 32 5#32))))

/-- The table of one tile. -/
def tabV : FVec Ideal S256x256 .f32 :=
  select sameV (select evenV (broadcastInDim S256x256 ![] bcast_S_S256x256 (constant S_ .f32 0x3E800000#32))
      (broadcastInDim S256x256 ![] bcast_S_S256x256 (constant S_ .f32 0xBE800000#32)))
    (broadcastInDim S256x256 ![] bcast_S_S256x256 (constant S_ .f32 0x00000000#32))

/-- The whole table over the vector of signs. -/
def signedV (x : FVec Ideal S3840 .f32) : FVec Ideal S3840x256 .bf16 :=
  truncf .bf16 (shapeCast S3840x256 (mulf
      (broadcastInDim S15x256x256 ![0, 1, 2] bcast_S1x256x256_S15x256x256_0_1_2
        (broadcastInDim S1x256x256 ![1, 2] bcast_S256x256_S1x256x256_1_2 tabV))
      (broadcastInDim S15x256x256 ![0, 1, 2] bcast_S15x1x256_S15x256x256_0_1_2 (shapeCast S15x1x256 x shapeCasts_S3840_S15x1x256)))
    shapeCasts_S15x256x256_S3840x256) bitsLt_bf16_f32

variable (m : (ℓ : Loc nD τ sig) → Buf (Elt Ideal) ℓ)

theorem V_v48 (c : Dev nD) : V m c main_v48 = signedV (m ((c : Thread nD τ).loc main_arg1)) := by
  unfold V
  simp only [List.flatten_cons, List.flatten_nil, List.append_nil]
  after_reads_simp
  rfl

/-! ## The table at an index -/

/-- The row of `ordV`. -/
def ordW (p : Fin 256) : BitVec 32 :=
  IntOp.addi (IntOp.addi (IntOp.muli 32#32 (IntOp.andi (IntOp.shrsi .host (BitVec.ofNat 32 p.val) 3#32) 7#32))
    (IntOp.muli 4#32 (IntOp.andi (BitVec.ofNat 32 p.val) 7#32))) (IntOp.shrsi .host (BitVec.ofNat 32 p.val) 6#32)

theorem ordW_low : ∀ p : Fin 256, IntOp.andi (ordW p) 31#32 = BitVec.ofNat 32 (4 * (p.val % 8) + p.val / 64) := by decide +kernel
theorem ordW_high : ∀ p : Fin 256, IntOp.shrsi .host (ordW p) 5#32 = BitVec.ofNat 32 (p.val / 8 % 8) := by decide +kernel
theorem col_low : ∀ p : Fin 256, IntOp.andi (BitVec.ofNat 32 p.val) 31#32 = BitVec.ofNat 32 (p.val % 32) := by decide +kernel
theorem col_high : ∀ p : Fin 256, IntOp.shrsi .host (BitVec.ofNat 32 p.val) 5#32 = BitVec.ofNat 32 (p.val / 32) := by decide +kernel
theorem eq_block : ∀ a b : Fin 8, IntOp.cmpi .eq (BitVec.ofNat 32 a.val) (BitVec.ofNat 32 b.val) = if a = b then 1#1 else 0#1 := by decide +kernel

theorem evenV_at (p q : Fin 256) : evenV (ix2 p q)
    = IntOp.cmpi .eq (IntOp.andi (IntOp.ctpop (IntOp.andi (IntOp.andi (ordW p) 31#32) (IntOp.andi (BitVec.ofNat 32 q.val) 31#32))) 1#32) 0#32 := by
  rfl

theorem sameV_at (p q : Fin 256) : sameV (ix2 p q)
    = IntOp.cmpi .eq (IntOp.shrsi .host (ordW p) 5#32) (IntOp.shrsi .host (BitVec.ofNat 32 q.val) 5#32) := by
  rfl

theorem tabV_at (p q : Fin 256) : tabV (ix2 p q)
    = Scalar.select (sameV (ix2 p q)) (Scalar.select (evenV (ix2 p q)) (cst 0x3E800000#32) (cst 0xBE800000#32)) (cst 0x00000000#32) := by
  rfl

theorem signedV_at (x : FVec Ideal S3840 .f32) (i : S3840x256.Idx) (T : Fin 15) (p q : Fin 256)
    (h0 : (i 0).val = 256 * T.val + p.val) (h1 : (i 1).val = q.val) :
    signedV x i = tabV (ix2 p q) * x (ix1 ⟨256 * T.val + q.val, by omega⟩) := by
  unfold signedV
  rw [truncf_at]
  refine (shapeCast_apply _ _ i (ix3 T p q) (by
    rw [eq_ix2 i, Shape.rowMajor_val_two, Shape.rowMajor_val_three]
    show (T.val * 256 + p.val) * 256 + q.val = (i 0).val * 256 + (i 1).val
    rw [h0, h1]; ring)).trans ?_
  rw [mulf_at]
  refine congrArg₂ (fun a b : EReal => a * b) rfl ?_
  exact shapeCast_apply _ _ (ix3 T (0 : Fin 1) q) (ix1 _) (by
    rw [Shape.rowMajor_val_one, Shape.rowMajor_val_three]
    show 256 * T.val + q.val = (T.val * 1 + 0) * 256 + q.val
    ring)

end Cert.TKernelIdeal.Table

end
-- ==== Proof.TRotate.lean ====
/-
  The rotation: the scaled product of a tile with its table is the reference's rotated value, and the scaled maximum
  over a block is the reference's block maximum.
-/
module

public import proofs.«01_k».proof.Proof.TTable

@[expose] public section

noncomputable section

open Idealize.ShloMosaic Idealize.ShloMosaic.TcCoe Idealize.SL.Sem

namespace Cert.TKernelIdeal.Table

open Cert.TKernelIdeal Cert.TKernelIdeal.Gen Cert.TKernelIdeal.Pay Cert.Quant
open Cert.TReferenceIdeal.Read (rotV rotA rotU rotCode)

/-! ## The constants -/

theorem cst_quarter : cst 0x3E800000#32 = ((1 / 4 : ℝ) : EReal) := by
  rw [cst_of _ 125 0 (by decide) (by decide) (by decide) (by norm_num) (by norm_num)]; norm_num

theorem cst_neg_quarter : cst 0xBE800000#32 = ((-(1 / 4) : ℝ) : EReal) := by
  unfold cst Ideal.ofBits Ideal.ieee
  dsimp only
  rw [show ((0xBE800000#32 : BitVec 32).extractLsb' 23 8).toNat = 125 from by decide,
    show ((0xBE800000#32 : BitVec 32).extractLsb' 0 23).toNat = 0 from by decide,
    show ((0xBE800000#32 : BitVec 32).extractLsb' 31 1 == 1#1) = true from by decide, if_neg (by norm_num), if_neg (by norm_num)]
  refine congrArg (fun t : ℝ => (t : EReal)) ?_
  norm_num

/-- A quarter of the scale of a value is the entry of the sign matrix. -/
theorem quarter_vs : cst 0x3E800000#32 * vs = cst 0x3E3504F3#32 := by
  rw [cst_quarter, vs, cst_of 0x3F3504F3#32 126 3474675 (by decide) (by decide) (by decide) (by norm_num) (by norm_num),
    cst_of 0x3E3504F3#32 124 3474675 (by decide) (by decide) (by decide) (by norm_num) (by norm_num), ← EReal.coe_mul]
  refine congrArg (fun t : ℝ => (t : EReal)) ?_
  norm_num

theorem neg_quarter_vs : cst 0xBE800000#32 * vs = -cst 0x3E3504F3#32 := by
  rw [← quarter_vs, cst_quarter, cst_neg_quarter, EReal.coe_neg, EReal.neg_mul]

/-- A positive real factor is distributed over a sum. -/
theorem sum_mul_vs {ι : Type} (S : Finset ι) (f : ι → EReal) : (∑ i ∈ S, f i) * vs = ∑ i ∈ S, f i * vs := by
  obtain ⟨v, hv, e⟩ := vs_pos
  rw [e]
  induction S using Finset.cons_induction with
  | empty => simp
  | cons a S h ih =>
    rw [Finset.sum_cons, Finset.sum_cons, EReal.right_distrib_of_nonneg_of_ne_top (EReal.coe_nonneg.mpr hv.le) (EReal.coe_ne_top v), ih]

/-- The scaled entry of the table. -/
theorem tabV_vs (p q : Fin 256) : tabV (ix2 p q) * vs
    = if p.val / 8 % 8 = q.val / 32 then had ⟨4 * (p.val % 8) + p.val / 64, by omega⟩ ⟨q.val % 32, by omega⟩ else 0 := by
  rw [tabV_at, sameV_at, evenV_at, ordW_low, ordW_high, col_low, col_high]
  have e := eq_block ⟨p.val / 8 % 8, by omega⟩ ⟨q.val / 32, by omega⟩
  rw [show IntOp.cmpi .eq (BitVec.ofNat 32 (p.val / 8 % 8)) (BitVec.ofNat 32 (q.val / 32)) = _ from e]
  by_cases h : p.val / 8 % 8 = q.val / 32
  · rw [if_pos (Fin.ext h), if_pos h]
    unfold had Scalar.select
    rw [if_pos (show (1#1 : BitVec 1) = 1 from rfl)]
    dsimp only
    generalize IntOp.cmpi .eq _ 0#32 = b
    by_cases hb : b = 1
    · rw [if_pos hb, if_pos hb, quarter_vs]
    · rw [if_neg hb, if_neg hb, neg_quarter_vs]
  · rw [if_neg (fun h' => h (congrArg Fin.val h')), if_neg h]
    unfold Scalar.select
    rw [if_neg (by decide), cst_zero, EReal.coe_zero, zero_mul]

section Tile

variable (x0 : (⟨S3840x16384, .bf16⟩ : BufTy).Contents (Elt Ideal)) (x1 : (⟨S3840, .f32⟩ : BufTy).Contents (Elt Ideal))
variable (w : Vec Ideal S256x256 .bf16) (h : Vec Ideal S256x256 .bf16) (T : Fin 15) (l : Fin 256) (col : Fin 16384)

/-- The tile of weights is tile `T` of the array, its column `l` the array's column `col`. -/
def TileW : Prop := ∀ p : Fin 256, w (ix2 p l) = x0 (ix2 ⟨256 * T.val + p.val, by omega⟩ col)
/-- The tile of the table is the table's, with the signs of tile `T`. -/
def TileH : Prop := ∀ p q : Fin 256, h (ix2 p q) = tabV (ix2 p q) * x1 (ix1 ⟨256 * T.val + q.val, by omega⟩)

variable (hw : TileW x0 w T l col) (hh : TileH x1 h T)
include hw hh

omit hw hh in
theorem term_vs (t s x v : EReal) : t * s * x * v = x * s * (t * v) := by
  ac_rfl

theorem prod_vs (j : Fin 4) (q : Fin 64) : prod w h ⟨64 * j.val + q.val, by omega⟩ l * vs
    = rotV x0 x1 ⟨8 * T.val + q.val / 8, by omega⟩ ⟨4 * (q.val % 8) + j.val, by omega⟩ col := by
  unfold prod rotV
  rw [sum_mul_vs]
  symm
  refine Fintype.sum_of_injective (fun k : Fin 32 => (⟨32 * (q.val / 8) + k.val, by omega⟩ : Fin 256)) ?_ _ _ ?_ ?_
  · intro a b hab
    have := congrArg Fin.val hab
    dsimp only at this
    exact Fin.ext (by omega)
  · intro k hk
    rw [hh, term_vs, tabV_vs, if_neg, mul_zero]
    intro he
    refine hk ⟨⟨k.val % 32, by omega⟩, Fin.ext ?_⟩
    show 32 * (q.val / 8) + k.val % 32 = k.val
    dsimp only at he
    omega
  · intro k
    rw [hh, hw, term_vs, tabV_vs, if_pos (by dsimp only; omega)]
    refine congrArg₂ (fun a b : EReal => a * b) (congrArg₂ (fun a b : EReal => a * b) (congrArg x0 ?_) (congrArg x1 ?_)) (congrArg₂ had ?_ ?_)
    · exact congrArg (fun z => ix2 z col) (Fin.ext (by dsimp only; omega))
    · exact congrArg ix1 (Fin.ext (by dsimp only; omega))
    · exact Fin.ext (by dsimp only; omega)
    · exact Fin.ext (by dsimp only; omega)

omit hw hh in
theorem max_mul_vs (a b : EReal) : max a b * vs = max (a * vs) (b * vs) := by
  obtain ⟨v, hv, e⟩ := vs_pos
  rw [e]
  exact Monotone.map_max (f := fun x : EReal => x * (v : EReal)) fun x y hxy => mul_le_mul_of_nonneg_right hxy (EReal.coe_nonneg.mpr hv.le)

theorem prodAbs_vs (j : Fin 4) (q : Fin 64) : prodAbs w h ⟨64 * j.val + q.val, by omega⟩ l * vs
    = max (rotV x0 x1 ⟨8 * T.val + q.val / 8, by omega⟩ ⟨4 * (q.val % 8) + j.val, by omega⟩ col)
      (-rotV x0 x1 ⟨8 * T.val + q.val / 8, by omega⟩ ⟨4 * (q.val % 8) + j.val, by omega⟩ col) := by
  unfold prodAbs
  rw [max_mul_vs, EReal.neg_mul, prod_vs x0 x1 w h T l col hw hh]

omit hw hh in
theorem cst_bot : cst 0xFF800000#32 = ⊥ := by
  unfold cst Ideal.ofBits Ideal.ieee
  dsimp only
  rw [show ((0xFF800000#32 : BitVec 32).extractLsb' 23 8).toNat = 255 from by decide,
    show ((0xFF800000#32 : BitVec 32).extractLsb' 0 23).toNat = 0 from by decide,
    show ((0xFF800000#32 : BitVec 32).extractLsb' 31 1 == 1#1) = true from by decide]
  simp

theorem top_vs (g : Fin 8) : top w h g l * vs = rotA x0 x1 ⟨8 * T.val + g.val, by omega⟩ col := by
  unfold top rotA
  have e : cst 0xFF800000#32 * vs = cst 0xFF800000#32 := by
    obtain ⟨v, hv, e⟩ := vs_pos
    rw [cst_bot, e, EReal.bot_mul_coe_of_pos hv]
  rw [← Finset.fold_hom (m := fun x : EReal => x * vs) max_mul_vs, e]
  refine eq_of_forall_ge_iff fun c => ?_
  rw [Finset.fold_max_le, Finset.fold_max_le]
  refine and_congr_right fun _ => ?_
  have key : ∀ (s : Fin 8) (j : Fin 4) (p : Fin 256) (hp : p.val = 64 * j.val + (8 * g.val + s.val)) (n : Fin 32) (hn : n.val = 4 * s.val + j.val),
      prodAbs w h p l * vs = max (rotV x0 x1 ⟨8 * T.val + g.val, by omega⟩ n col) (-rotV x0 x1 ⟨8 * T.val + g.val, by omega⟩ n col) := by
    intro s j p hp n hn
    have := prodAbs_vs x0 x1 w h T l col hw hh j ⟨8 * g.val + s.val, by omega⟩
    rw [show p = ⟨64 * j.val + (⟨8 * g.val + s.val, by omega⟩ : Fin 64).val, by dsimp only; omega⟩ from Fin.ext hp, this]
    rw [show (⟨8 * T.val + (⟨8 * g.val + s.val, by omega⟩ : Fin 64).val / 8, by dsimp only; omega⟩ : Fin 120) = ⟨8 * T.val + g.val, by omega⟩ from Fin.ext (by dsimp only; omega),
      show (⟨4 * ((⟨8 * g.val + s.val, by omega⟩ : Fin 64).val % 8) + j.val, by dsimp only; omega⟩ : Fin 32) = n from Fin.ext (by dsimp only; omega)]
  constructor
  · intro H n _
    have hs := H ⟨n.val / 4, by omega⟩ (Finset.mem_univ _)
    rw [max_mul_vs, max_mul_vs, max_mul_vs, max_le_iff, max_le_iff, max_le_iff] at hs
    obtain ⟨⟨h0, h1⟩, h2, h3⟩ := hs
    have hj : n.val % 4 = 0 ∨ n.val % 4 = 1 ∨ n.val % 4 = 2 ∨ n.val % 4 = 3 := by omega
    rcases hj with hj | hj | hj | hj
    · rwa [key ⟨n.val / 4, by omega⟩ 0 _ (by simp) n (by simp; omega)] at h0
    · rwa [key ⟨n.val / 4, by omega⟩ 1 _ (by simp) n (by simp; omega)] at h1
    · rwa [key ⟨n.val / 4, by omega⟩ 2 _ (by simp) n (by simp; omega)] at h2
    · rwa [key ⟨n.val / 4, by omega⟩ 3 _ (by simp) n (by simp; omega)] at h3
  · intro H s _
    rw [max_mul_vs, max_mul_vs, max_mul_vs, max_le_iff, max_le_iff, max_le_iff,
      key s 0 _ (by simp) ⟨4 * s.val + 0, by omega⟩ (by simp), key s 1 _ (by simp) ⟨4 * s.val + 1, by omega⟩ (by simp),
      key s 2 _ (by simp) ⟨4 * s.val + 2, by omega⟩ (by simp), key s 3 _ (by simp) ⟨4 * s.val + 3, by omega⟩ (by simp)]
    exact ⟨⟨H _ (Finset.mem_univ _), H _ (Finset.mem_univ _)⟩, H _ (Finset.mem_univ _), H _ (Finset.mem_univ _)⟩

end Tile

end Cert.TKernelIdeal.Table

end
-- ==== Proof.TElement.lean ====
/-
  One element of a tile: the kernel's code, decoded value and exponent are the reference's, for a block whose maximum
  is zero or in the range of the exponent.
-/
module

public import proofs.«01_k».proof.Proof.TRotate

@[expose] public section

noncomputable section

open Idealize.ShloMosaic Idealize.ShloMosaic.TcCoe Idealize.SL.Sem

namespace Cert.TKernelIdeal.Table

open Cert.TKernelIdeal Cert.TKernelIdeal.Gen Cert.TKernelIdeal.Pay Cert.Quant
open Cert.TReferenceIdeal.Read (rotV rotA rotU rotCode)

/-- The maximum of a block is zero, or neither too small nor too large for the exponent. -/
def InRange (a : EReal) : Prop := ∃ r : ℝ, a = (r : EReal) ∧ (r = 0 ∨ (2 : ℝ) ^ (-123 : ℤ) ≤ r) ∧ r < 2 ^ (128 : ℤ)

/-- A number a positive real multiple of which is real is real. -/
theorem real_of_mul {p : EReal} {v x : ℝ} (hv : 0 < v) (h : p * (v : EReal) = (x : EReal)) : ∃ s : ℝ, p = (s : EReal) ∧ x = v * s := by
  induction p with
  | bot => rw [EReal.bot_mul_coe_of_pos hv] at h; exact absurd h.symm (EReal.coe_ne_bot x)
  | top => rw [EReal.top_mul_coe_of_pos hv] at h; exact absurd h.symm (EReal.coe_ne_top x)
  | coe s => exact ⟨s, rfl, by rw [← EReal.coe_mul] at h; rw [mul_comm]; exact (EReal.coe_eq_coe_iff.mp h).symm⟩

/-- A number whose magnitude is at most a real is real. -/
theorem real_of_abs {p : EReal} {a : ℝ} (h : max p (-p) ≤ (a : EReal)) : ∃ x : ℝ, p = (x : EReal) ∧ |x| ≤ a := by
  rw [max_le_iff] at h
  induction p with
  | bot => exact absurd (le_trans (le_of_eq EReal.neg_bot.symm) h.2) (by simp)
  | top => exact absurd h.1 (by simp)
  | coe s =>
    refine ⟨s, rfl, abs_le'.mpr ⟨EReal.coe_le_coe_iff.mp h.1, ?_⟩⟩
    have := h.2
    rw [← EReal.coe_neg] at this
    exact EReal.coe_le_coe_iff.mp this

/-- The random number of a byte is strictly between zero and one. -/
theorem uOf_byte (b : BitVec 8) : ∃ u : ℝ, uOf (byteVal b) = (u : EReal) ∧ 0 < u ∧ u < 1 := by
  have hb : (b.setWidth 32).toInt = (b.toNat : ℤ) := by
    rw [BitVec.toInt_eq_toNat_of_msb]
    · simp
      omega
    · have := b.isLt
      simp [BitVec.msb_eq_decide]
      omega
  have h0 : (b.toNat : ℝ) < 256 := by exact_mod_cast b.isLt
  have h1 : (0 : ℝ) ≤ b.toNat := Nat.cast_nonneg _
  refine ⟨((b.toNat : ℝ) + 1 / 2) * (1 / 256), ?_, by positivity, ?_⟩
  · unfold uOf byteVal
    rw [hb, cst_half, cst_byte, ← EReal.coe_add, ← EReal.coe_mul, Int.cast_natCast]
  · have : (b.toNat : ℝ) ≤ 255 := by
      have := b.isLt
      exact_mod_cast (by omega : b.toNat ≤ 255)
    linarith

variable (x0 : (⟨S3840x16384, .bf16⟩ : BufTy).Contents (Elt Ideal)) (x1 : (⟨S3840, .f32⟩ : BufTy).Contents (Elt Ideal))
variable (x2 : (⟨S3840x16384, .i8⟩ : BufTy).Contents (Elt Ideal))
variable (w : Vec Ideal S256x256 .bf16) (h : Vec Ideal S256x256 .bf16) (r : Vec Ideal S256x256 .i8) (T : Fin 15) (l : Fin 256) (col : Fin 16384)

/-- The tile of random bytes is tile `T` of the array. -/
def TileR : Prop := ∀ p : Fin 256, r (ix2 p l) = x2 (ix2 ⟨256 * T.val + p.val, by omega⟩ col)

theorem rotV_le (b : Fin 120) (n : Fin 32) (c : Fin 16384) : max (rotV x0 x1 b n c) (-rotV x0 x1 b n c) ≤ rotA x0 x1 b c := by
  unfold rotA
  exact (Finset.le_fold_max _).mpr (Or.inr ⟨n, Finset.mem_univ _, le_rfl⟩)

variable (hw : TileW x0 w T l col) (hh : TileH x1 h T)
include hw hh

theorem tile_exp (g : Fin 8) (hr : InRange (rotA x0 x1 ⟨8 * T.val + g.val, by omega⟩ col)) :
    kExp (top w h g l * vs) = Ideal.fptosi 32 (rExp (rotA x0 x1 ⟨8 * T.val + g.val, by omega⟩ col)) := by
  rw [top_vs x0 x1 w h T l col hw hh]
  obtain ⟨a, e, h0, h1⟩ := hr
  rw [e]
  exact exp_eq a h0 h1

variable (hx : TileR x2 r T l col)
include hx

theorem tile_element (j : Fin 4) (q : Fin 64) (b : Fin 120) (n : Fin 32) (hb : b.val = 8 * T.val + q.val / 8) (hn : n.val = 4 * (q.val % 8) + j.val)
    (hr : InRange (rotA x0 x1 b col)) :
    ∃ z < 16, tileCode w h r j q l = BitVec.ofNat 32 z ∧ rotCode x0 x1 x2 b n col = BitVec.ofNat 32 z
      ∧ tileVal w h r j q l = rDecode (BitVec.ofNat 32 z) * rBack (rotA x0 x1 b col) := by
  have lb : 8 * T.val + q.val / 8 < 120 := by omega
  have ln : 4 * (q.val % 8) + j.val < 32 := by omega
  obtain rfl : b = ⟨8 * T.val + q.val / 8, lb⟩ := Fin.ext hb
  obtain rfl : n = ⟨4 * (q.val % 8) + j.val, ln⟩ := Fin.ext hn
  have hp := prod_vs x0 x1 w h T l col hw hh j q
  have ht : tileMax w h q l = rotA x0 x1 ⟨8 * T.val + q.val / 8, by omega⟩ col := top_vs x0 x1 w h T l col hw hh ⟨q.val / 8, by omega⟩
  have hu : tileU r ⟨4 * q.val + j.val, by omega⟩ l = rotU x2 ⟨8 * T.val + q.val / 8, by omega⟩ ⟨4 * (q.val % 8) + j.val, by omega⟩ col := by
    unfold tileU rotU byteVal
    rw [hx, show (⟨256 * T.val + (⟨4 * q.val + j.val, by omega⟩ : Fin 256).val, by dsimp only; omega⟩ : Fin 3840)
      = ⟨32 * (8 * T.val + q.val / 8) + (4 * (q.val % 8) + j.val), by omega⟩ from Fin.ext (by dsimp only; omega)]
  obtain ⟨a, ea, ha0, ha1⟩ := hr
  obtain ⟨v, hv, ev⟩ := vs_pos
  obtain ⟨x, ex, hxa⟩ := real_of_abs ((rotV_le x0 x1 ⟨8 * T.val + q.val / 8, by omega⟩ ⟨4 * (q.val % 8) + j.val, by omega⟩ col).trans (le_of_eq ea))
  rw [ex, ev] at hp
  obtain ⟨s, es, rfl⟩ := real_of_mul hv hp
  have htop : top w h ⟨q.val / 8, by omega⟩ l * (v : EReal) = (a : EReal) := by rw [← ev, ← ea]; exact ht
  obtain ⟨A, eA, rfl⟩ := real_of_mul hv htop
  obtain ⟨u, eu, hu0, hu1⟩ := uOf_byte (r (ix2 ⟨4 * q.val + j.val, by omega⟩ l))
  have hu' : tileU r ⟨4 * q.val + j.val, by omega⟩ l = (u : EReal) := eu
  obtain ⟨z, hz, c1, c2, c3⟩ := element s A v (v * A) u hv ev (mul_comm v A) hxa ha0 ha1 hu0 hu1
  have hm : tileMag w h j q l = ((|s| : ℝ) : EReal) * kScale ((v * A : ℝ) : EReal) := by
    unfold tileMag prodAbs
    rw [ht, ea, es, ← EReal.coe_neg, ← EReal.coe_strictMono.monotone.map_max]
    rfl
  refine ⟨z, hz, ?_, ?_, ?_⟩
  · unfold tileCode
    rw [hm, es, hu', c1]
  · unfold rotCode
    rw [← hu, hu', ex, ea, c2]
  · unfold tileVal
    rw [hm, es, hu', ht, ea, c3]

end Cert.TKernelIdeal.Table

end
-- ==== Proof.TStore.lean ====
/-
  A trip's three stores are the reference's results: packed codes, decoded values and exponents of one tile, for weights
  whose blocks are all in range.
-/
module

public import proofs.«01_k».proof.Proof.TElement

@[expose] public section

noncomputable section

open Idealize.ShloMosaic Idealize.ShloMosaic.TcCoe Idealize.SL.Sem

namespace Cert.TKernelIdeal.Table

open Cert.TKernelIdeal Cert.TKernelIdeal.Gen Cert.TKernelIdeal.Pay Cert.Quant
open Cert.TReferenceIdeal.Read (rotV rotA rotU rotCode codes_at vals_at turned_at batch_at val_main_v139 val_main_v146 val_main_v145)

variable (x0 : (⟨S3840x16384, .bf16⟩ : BufTy).Contents (Elt Ideal)) (x1 : (⟨S3840, .f32⟩ : BufTy).Contents (Elt Ideal))
variable (x2 : (⟨S3840x16384, .i8⟩ : BufTy).Contents (Elt Ideal))
variable (w : Vec Ideal S256x256 .bf16) (h : Vec Ideal S256x256 .bf16) (r : Vec Ideal S256x256 .i8) (T : Fin 15) (l : Fin 256) (col : Fin 16384)

variable (hw : TileW x0 w T l col) (hh : TileH x1 h T) (hx : TileR x2 r T l col) (hr : ∀ b c, InRange (rotA x0 x1 b c))

include hw hh hr in
theorem store_exp (g : Fin 8) (i : S3x40x16384.Idx) (h0 : 40 * (i 0).val + (i 1).val = 8 * T.val + g.val) (h1 : i 2 = col) :
    (storeExp w h (ix2 g l)).setWidth 8 = val_main_v145 (F := Ideal) x0 x1 i := by
  have lb : 8 * T.val + g.val < 120 := by omega
  rw [storeExp_at, tile_exp x0 x1 w h T l col hw hh g (hr _ _), batch_at x0 x1 i ⟨8 * T.val + g.val, lb⟩ h0.symm, h1]

include hw hh hx hr

/-- The code of an element is less than sixteen, and the reference's. -/
theorem tile_code (j : Fin 4) (q : Fin 64) (b : Fin 120) (n : Fin 32) (hb : b.val = 8 * T.val + q.val / 8) (hn : n.val = 4 * (q.val % 8) + j.val) :
    (tileCode w h r j q l).toNat < 16 ∧ tileCode w h r j q l = rotCode x0 x1 x2 b n col := by
  obtain ⟨z, hz, c1, c2, -⟩ := tile_element x0 x1 x2 w h r T l col hw hh hx j q b n hb hn (hr _ _)
  refine ⟨?_, c1.trans c2.symm⟩
  rw [c1, BitVec.toNat_ofNat, Nat.mod_eq_of_lt (by omega)]
  exact hz

theorem store_codes (R : Fin 128) (i : S1920x16384.Idx) (h0 : (i 0).val = 128 * T.val + R.val) (h1 : i 1 = col) :
    storeCodes w h r (ix2 R l) = val_main_v139 (F := Ideal) x0 x1 x2 i := by
  have lq : R.val / 2 < 64 := by omega
  have lb : 8 * T.val + R.val / 2 / 8 < 120 := by omega
  have C := fun (j : Fin 4) (n : Fin 32) hn => tile_code x0 x1 x2 w h r T l col hw hh hx hr j ⟨R.val / 2, lq⟩ ⟨8 * T.val + R.val / 2 / 8, lb⟩ n rfl hn
  have l0 : 4 * (R.val / 2 % 8) + 0 < 32 := by omega
  have l1 : 4 * (R.val / 2 % 8) + 1 < 32 := by omega
  have l2 : 4 * (R.val / 2 % 8) + 2 < 32 := by omega
  have l3 : 4 * (R.val / 2 % 8) + 3 < 32 := by omega
  obtain ⟨s0, c0⟩ := C 0 ⟨_, l0⟩ rfl
  obtain ⟨s1, c1⟩ := C 1 ⟨_, l1⟩ rfl
  obtain ⟨-, c2⟩ := C 2 ⟨_, l2⟩ rfl
  obtain ⟨-, c3⟩ := C 3 ⟨_, l3⟩ rfl
  rw [storeCodes_at w h r R l ⟨R.val / 2, lq⟩ rfl s0 s1]
  by_cases hR : R.val % 2 = 0
  · rw [if_pos hR, c0, c1, codes_at x0 x1 x2 i ⟨8 * T.val + R.val / 2 / 8, lb⟩ ⟨_, l0⟩ ⟨_, l1⟩ (by dsimp only; omega) rfl, h1]
    rfl
  · rw [if_neg hR, c2, c3, codes_at x0 x1 x2 i ⟨8 * T.val + R.val / 2 / 8, lb⟩ ⟨_, l2⟩ ⟨_, l3⟩ (by dsimp only; omega) rfl, h1]
    rfl

theorem store_vals (P : Fin 256) (i : S16384x3840.Idx) (h0 : (i 1).val = 256 * T.val + P.val) (h1 : i 0 = col) :
    storeVals w h r (ix2 l P) = val_main_v146 (F := Ideal) x0 x1 x2 i := by
  have lq : P.val % 64 < 64 := by omega
  have lb : 8 * T.val + P.val % 64 / 8 < 120 := by omega
  have lj : 2 * (P.val / 64 % 2) + P.val / 128 < 4 := by omega
  have ln : 4 * (P.val % 64 % 8) + (2 * (P.val / 64 % 2) + P.val / 128) < 32 := by omega
  obtain ⟨z, hz, -, c2, c3⟩ := tile_element x0 x1 x2 w h r T l col hw hh hx ⟨_, lj⟩ ⟨_, lq⟩ ⟨_, lb⟩ ⟨_, ln⟩ rfl rfl (hr _ _)
  have e0 := storeVals_at w h r (P.val / 128) (P.val / 64 % 2) (by omega) (by omega) ⟨_, lq⟩ l
  have eP : P = ⟨128 * (P.val / 128) + 64 * (P.val / 64 % 2) + P.val % 64, by omega⟩ := Fin.ext (by dsimp only; omega)
  rw [show storeVals w h r (ix2 l P) = _ from (congrArg (fun p => storeVals w h r (ix2 l p)) eP).trans e0]
  have e := vals_at x0 x1 x2 (ix2 (i 1) (i 0) : S3840x16384.Idx) ⟨_, lb⟩ ⟨_, ln⟩ T.val (P.val / 128) (P.val / 64 % 2) (P.val % 64 / 8) (P.val % 64 % 8) (by omega) (by omega) (by omega)
    (by omega) (by show (i 1).val = _; omega) (by dsimp only) (by dsimp only; omega)
  have e1 : (ix2 (i 1) (i 0) : S3840x16384.Idx) 1 = col := h1
  rw [e1, c2] at e
  exact c3.trans (e.symm.trans (turned_at x0 x1 x2 i).symm)

end Cert.TKernelIdeal.Table

end
-- ==== Proof.TRange.lean ====
/-
  The precondition of the quantiser, read element by element: every block's largest rotated magnitude is zero or in
  range.
-/
module

public import proofs.«01_k».proof.Pre_in_range_dy_t
public import proofs.«01_k».proof.Proof.TElement

@[expose] public section

noncomputable section

open Idealize.ShloMosaic

namespace Cert.Pre_in_range_dy_t

open Cert.Quant Cert.TKernelIdeal.Pay
open Cert.TReferenceIdeal.Read (rotV rotA)

variable [Facts]
open Facts

variable (x0 : FVec Ideal S3840x16384 .bf16) (x1 : FVec Ideal S3840 .f32) (x2 : IVec S3840x16384 8)

/-- The signed weights, block by block. -/
def signedW : FVec Ideal S120x1x32x16384 .f32 :=
  shapeCast S120x1x32x16384 (mulf ((extf .f32 · bitsLt_bf16_f32) x0)
    (broadcastInDim S3840x16384 ![0, 1] bcast_S3840x1_S3840x16384_0_1 (broadcastInDim S3840x1 ![0] bcast_S3840_S3840x1_0 x1)))
    shapeCasts_S3840x16384_S120x1x32x16384

/-- The sign matrix. -/
def signs : FVec Ideal S32x32 .f32 :=
  fn_where (F := Ideal) (cmpi .eq (andi (ctpop (andi
      (broadcastInDim S32x32 ![0, 1] bcast_S32x1_S32x32_0_1 (broadcastInDim S32x1 ![0] bcast_S32_S32x1_0 (iotaInDim S32 32 0)))
      (broadcastInDim S32x32 ![0, 1] bcast_S1x32_S32x32_0_1 (broadcastInDim S1x32 ![1] bcast_S32_S1x32_1 (iotaInDim S32 32 0)))))
      (broadcastInDim S32x32 ![] bcast_S_S32x32 (constantI S_ 32 1#32))) (broadcastInDim S32x32 ![] bcast_S_S32x32 (constantI S_ 32 0#32)))
    (constant S_ .f32 0x3E3504F3#32) (Host.negf (constant S_ .f32 0x3E3504F3#32))

/-- The products a rotated value is the sum of. -/
def terms : FVec Ideal S120x32x32x16384 .f32 :=
  mulf (broadcastInDim S120x32x32x16384 ![0, 1, 2, 3] bcast_S1x32x32x1_S120x32x32x16384_0_1_2_3
      (broadcastInDim S1x32x32x1 ![1, 2] bcast_S32x32_S1x32x32x1_1_2 signs))
    (broadcastInDim S120x32x32x16384 ![0, 1, 2, 3] bcast_S120x1x32x16384_S120x32x32x16384_0_1_2_3 (signedW x0 x1))

/-- The rotated values. -/
def rotated : FVec Ideal S120x32x16384 .f32 :=
  Host.reduceAdd (terms x0 x1) (constant S_ .f32 0x00000000#32) reducesTo_S120x32x32x16384_S120x32x16384_d2 h_S_

theorem block_max_eq : fn_block_max (F := Ideal) x0 x1
    = Host.reduce FloatOps.maximumf (Host.absf (rotated x0 x1)) (constant S_ .f32 0xFF800000#32) reducesTo_S120x32x16384_S120x16384_d1 h_S_ := by
  with_unfolding_all rfl

theorem signs_at (n k : Fin 32) : signs (ix2 n k) = had n k := by
  rfl

theorem signedW_at (b : Fin 120) (k : Fin 32) (c : Fin 16384) : signedW x0 x1 (ix4 b (0 : Fin 1) k c)
    = x0 (ix2 ⟨32 * b.val + k.val, by omega⟩ c) * x1 (ix1 ⟨32 * b.val + k.val, by omega⟩) := by
  unfold signedW
  refine (shapeCast_apply _ _ _ (ix2 (⟨32 * b.val + k.val, by omega⟩ : Fin 3840) c) (by
    rw [Shape.rowMajor_val_two, Shape.rowMajor_val_four]
    show (32 * b.val + k.val) * 16384 + c.val = ((b.val * 1 + 0) * 32 + k.val) * 16384 + c.val
    ring)).trans ?_
  refine congrArg₂ (fun p q : EReal => p * q) rfl (congrArg x1 (funext fun a => ?_))
  match a with
  | ⟨0, _⟩ => rfl

theorem rotated_at (b : Fin 120) (n : Fin 32) (c : Fin 16384) : rotated x0 x1 (ix3 b n c) = rotV x0 x1 b n c := by
  unfold rotated
  rw [Host.reduceAdd_apply, Ideal.hostReduceAdd_def, Ideal.hostReduceAdd_r4_a2,
    show constant (F := Ideal) S_ .f32 0x00000000#32 (Shape.Idx.first h_S_) = ((0 : ℝ) : EReal) from cst_zero, EReal.coe_zero, zero_add]
  unfold rotV
  refine Finset.sum_congr rfl fun k _ => ?_
  refine Eq.trans (b := had n k * signedW x0 x1 (ix4 b (0 : Fin 1) k c)) ?_ (by rw [signedW_at, mul_comm])
  unfold terms
  rw [mulf_at]
  refine congrArg₂ (fun p q : EReal => p * q) ?_ (congrArg (signedW x0 x1) (funext fun a => ?_))
  · exact signs_at n k
  · fin_cases a <;> rfl

theorem block_max_at (b : Fin 120) (c : Fin 16384) : fn_block_max (F := Ideal) x0 x1 (ix2 b c) = rotA x0 x1 b c := by
  rw [block_max_eq, Host.reduce_eq_fold, Shape.ReducesTo.fold_fiber_r3_a1]
  unfold rotA
  refine Finset.fold_congr fun n _ => ?_
  show max (rotated x0 x1 (ix3 b n c)) (-rotated x0 x1 (ix3 b n c)) = _
  rw [rotated_at]

/-! ## The predicate -/

/-- The least positive maximum in range. -/
theorem cst_low : cst 0x02000000#32 = (((2 : ℝ) ^ (-123 : ℤ) : ℝ) : EReal) := by
  rw [cst_of _ 4 0 (by decide) (by decide) (by decide) (by norm_num) (by norm_num)]
  refine congrArg (fun t : ℝ => (t : EReal)) ?_
  norm_num

/-- Half the bound of a maximum. -/
theorem cst_high : cst 0x7F000000#32 = (((2 : ℝ) ^ (127 : ℤ) : ℝ) : EReal) := by
  rw [cst_of _ 254 0 (by decide) (by decide) (by decide) (by norm_num) (by norm_num)]
  refine congrArg (fun t : ℝ => (t : EReal)) ?_
  norm_num

theorem bits (p q r : BitVec 1) (h : IntOp.ori p (IntOp.andi q r) = 1#1) : p = 1#1 ∨ (q = 1#1 ∧ r = 1#1) := by
  revert p q r; decide

theorem of_decide {P : Prop} [Decidable P] (h : BitVec.ofBool (decide P) = 1#1) : P := by
  by_contra hp
  rw [decide_eq_false hp] at h
  exact absurd h (by decide)

open Cert.TKernelIdeal.Table (InRange) in
/-- Where the predicate holds, the maximum is in range. -/
theorem in_range (a : EReal) (h : IntOp.ori (Ideal.cmp .oeq a (cst 0x00000000#32))
      (IntOp.andi (Ideal.cmp .oge a (cst 0x02000000#32)) (Ideal.cmp .olt (cst 0x3F000000#32 * a) (cst 0x7F000000#32))) = 1#1) : InRange a := by
  rw [cst_zero, cst_low, cst_high, cst_half] at h
  rcases bits _ _ _ h with h0 | ⟨h1, h2⟩
  · exact ⟨0, of_decide h0, Or.inl rfl, by positivity⟩
  · have h1 : (((2 : ℝ) ^ (-123 : ℤ) : ℝ) : EReal) ≤ a := of_decide h1
    have h2 : ((1 / 2 : ℝ) : EReal) * a < (((2 : ℝ) ^ (127 : ℤ) : ℝ) : EReal) := of_decide h2
    clear h
    induction a with
    | bot => exact absurd h1 (not_le.mpr (EReal.bot_lt_coe _))
    | top => rw [EReal.coe_mul_top_of_pos (by norm_num)] at h2; exact absurd h2 not_top_lt
    | coe r =>
      refine ⟨r, rfl, Or.inr (EReal.coe_le_coe_iff.mp h1), ?_⟩
      rw [← EReal.coe_mul, EReal.coe_lt_coe_iff] at h2
      have e : (2 : ℝ) ^ (128 : ℤ) = 2 * 2 ^ (127 : ℤ) := by norm_num
      rw [e]; linarith

theorem cmpf_at {s : Shape} {φ : FTy} (p : CmpFPredicate) (x y : FVec Ideal s φ) (i : s.Idx) : cmpf p x y i = Ideal.cmp p (x i) (y i) := rfl
theorem ori_at {s : Shape} {n : ℕ} (x y : IVec s n) (i : s.Idx) : ori x y i = IntOp.ori (x i) (y i) := rfl
theorem andi_at {s : Shape} {n : ℕ} (x y : IVec s n) (i : s.Idx) : andi x y i = IntOp.andi (x i) (y i) := rfl
theorem const_at {φ : FTy} (b : BitVec φ.bits) (i : S120x16384.Idx) : broadcastInDim S120x16384 ![] bcast_S_S120x16384 (constant (F := Ideal) S_ φ b) i = Ideal.ofBits φ b := rfl

theorem fn_at (i : S120x16384.Idx) : fn (F := Ideal) x0 x1 x2 i
    = IntOp.ori (Ideal.cmp .oeq (fn_block_max (F := Ideal) x0 x1 i) (cst 0x00000000#32))
      (IntOp.andi (Ideal.cmp .oge (fn_block_max (F := Ideal) x0 x1 i) (cst 0x02000000#32))
        (Ideal.cmp .olt (cst 0x3F000000#32 * fn_block_max (F := Ideal) x0 x1 i) (cst 0x7F000000#32))) := by
  unfold fn
  dsimp only
  generalize fn_block_max (F := Ideal) x0 x1 = y
  rw [ori_at, andi_at, cmpf_at, cmpf_at, cmpf_at, mulf_at, const_at, const_at, const_at, const_at]

open Cert.TKernelIdeal.Table (InRange) in
/-- The predicate puts every block in range. -/
theorem inRange_of_fn (h : fn (F := Ideal) x0 x1 x2 = fun _ => 1#1) (b : Fin 120) (c : Fin 16384) : InRange (rotA x0 x1 b c) := by
  have := congrFun h (ix2 b c)
  rw [fn_at, block_max_at] at this
  exact in_range _ this

end Cert.Pre_in_range_dy_t

end
-- ==== Proof.TValue.lean ====
/-
  The quantiser over the reals: the three arrays the kernel leaves are the reference's, for gradients whose blocks are all
  in range.
-/
module

public import proofs.«01_k».proof.Proof.TStore
public import proofs.«01_k».proof.Proof.TRange
public import proofs.«01_k».proof.Proof.Gen.TKernelIdeal.Value

@[expose] public section

noncomputable section

open Idealize.ShloMosaic Idealize.ShloMosaic.TcCoe Idealize.SL.Sem
open Idealize.ShloMosaic.Pipeline (Dat)

namespace Cert.TKernelIdeal.Value

open Cert.TKernelIdeal Cert.TKernelIdeal.Gen Cert.TKernelIdeal.Pay Cert.TKernelIdeal.Table Cert.Quant
open Cert.TReferenceIdeal.Read (rotA val_main_v139 val_main_v146 val_main_v145)

variable (m : (ℓ : Loc nD τ sig) → Buf (Elt Ideal) ℓ)

/-! ## The blocks as parts of the arrays -/

/-- Which block of each array a grid point reads and writes: all the rows of column block `t`, and the whole table. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_4.index t (0 : Fin 3) = 0 ∧ win0_4.index t (1 : Fin 3) = 0 ∧ win0_4.index t (2 : Fin 3) = t.val
    ∧ win0_5.index t (0 : Fin 2) = t.val ∧ win0_5.index t (1 : Fin 2) = 0 :=
  (by decide +kernel : ∀ t : Fin grid0.N, _)

theorem iblk0_apply (c : Dev nD) (t : Fin cfg0.N) (j : S3840x256.Idx) (p : S3840x16384.Idx)
    (e0 : (p 0).val = (j 0).val) (e1 : (p 1).val = t.val * 256 + (j 1).val) :
    iblk m c 0 t j = m ((c : Thread nD τ).loc main_arg0) p := by
  obtain ⟨d0, d1, -⟩ := idx_facts t
  unfold iblk; rw [View.read_apply]
  show V m c main_arg0 _ = _
  rw [V_main_arg0]
  congr 1; funext a; apply Fin.ext
  match a with
  | ⟨0, _⟩ => show win0_0.index t (0 : Fin 2) * 3840 + 1 * (j 0).val = (p 0).val; rw [d0, e0]; omega
  | ⟨1, _⟩ => show win0_0.index t (1 : Fin 2) * 256 + 1 * (j 1).val = (p 1).val; rw [d1, e1]; omega

theorem iblk1_apply (c : Dev nD) (t : Fin cfg0.N) (j : S3840x256.Idx) (p : S3840x16384.Idx)
    (e0 : (p 0).val = (j 0).val) (e1 : (p 1).val = t.val * 256 + (j 1).val) :
    iblk m c 1 t j = m ((c : Thread nD τ).loc main_arg2) p := by
  obtain ⟨-, -, d0, d1, -⟩ := idx_facts t
  unfold iblk; rw [View.read_apply]
  show V m c main_arg2 _ = _
  rw [V_main_arg2]
  congr 1; funext a; apply Fin.ext
  match a with
  | ⟨0, _⟩ => show win0_1.index t (0 : Fin 2) * 3840 + 1 * (j 0).val = (p 0).val; rw [d0, e0]; omega
  | ⟨1, _⟩ => show win0_1.index t (1 : Fin 2) * 256 + 1 * (j 1).val = (p 1).val; rw [d1, e1]; omega

theorem iblk2_apply (c : Dev nD) (t : Fin cfg0.N) (j : S3840x256.Idx) (p : S3840x256.Idx)
    (e0 : (p 0).val = (j 0).val) (e1 : (p 1).val = (j 1).val) :
    iblk m c 2 t j = signedV (m ((c : Thread nD τ).loc main_arg1)) p := by
  obtain ⟨-, -, -, -, d0, d1, -⟩ := idx_facts t
  unfold iblk; rw [View.read_apply]
  show V m c main_v48 _ = _
  rw [V_v48]
  congr 1; funext a; apply Fin.ext
  match a with
  | ⟨0, _⟩ => show win0_2.index t (0 : Fin 2) * 3840 + 1 * (j 0).val = (p 0).val; rw [d0, e0]; omega
  | ⟨1, _⟩ => show win0_2.index t (1 : Fin 2) * 256 + 1 * (j 1).val = (p 1).val; rw [d1, e1]; omega

/-! ## The tiles of a point's blocks -/

section Tiles

variable (c : Dev nD) (t : Fin cfg0.N) (k : ℕ) (hk : k < 15) (T : Fin 15) (l : Fin 256) (col : Fin 16384)
variable (hT : T.val = k) (hc : col.val = t.val * 256 + l.val)
include hT hc

theorem tile_w : TileW (m ((c : Thread nD τ).loc main_arg0)) (tileOf (iblk m c 0 t) k hk) T l col := fun p =>
  iblk0_apply m c t _ _ (by show 256 * T.val + p.val = (256 * k + p.val); omega) hc

theorem tile_r : TileR (m ((c : Thread nD τ).loc main_arg2)) (tileOf (iblk m c 1 t) k hk) T l col := fun p =>
  iblk1_apply m c t _ _ (by show 256 * T.val + p.val = (256 * k + p.val); omega) hc

omit hc in
theorem tile_h : TileH (m ((c : Thread nD τ).loc main_arg1)) (tabOf (iblk m c 2 t) k hk) T := fun p q =>
  (iblk2_apply m c t (ix2 (⟨256 * k + p.val, by omega⟩ : Fin 3840) q) (ix2 (⟨256 * T.val + p.val, by omega⟩ : Fin 3840) q)
    (by show 256 * T.val + p.val = (256 * k + p.val); omega) rfl).trans (signedV_at _ _ T p q rfl rfl)

end Tiles

/-! ## The result arrays -/

/-- The reference's packed codes over the kernel's arguments. -/
def G3 (c : Dev nD) : Buf (Elt Ideal) ((c : Thread nD τ).loc main_v49_0) := val_main_v139 (F := Ideal)
    (m ((c : Thread nD τ).loc main_arg0)) (m ((c : Thread nD τ).loc main_arg1)) (m ((c : Thread nD τ).loc main_arg2))
/-- The reference's exponents over the kernel's arguments. -/
def G4 (c : Dev nD) : Buf (Elt Ideal) ((c : Thread nD τ).loc main_v49_1) := val_main_v145 (F := Ideal)
    (m ((c : Thread nD τ).loc main_arg0)) (m ((c : Thread nD τ).loc main_arg1))
/-- The reference's decoded values over the kernel's arguments. -/
def G5 (c : Dev nD) : Buf (Elt Ideal) ((c : Thread nD τ).loc main_v49_2) := val_main_v146 (F := Ideal)
    (m ((c : Thread nD τ).loc main_arg0)) (m ((c : Thread nD τ).loc main_arg1)) (m ((c : Thread nD τ).loc main_arg2))

section Final

variable (c : Dev nD)
variable (hr : ∀ b col, InRange (rotA (m ((c : Thread nD τ).loc main_arg0)) (m ((c : Thread nD τ).loc main_arg1)) b col))
include hr

theorem flushed3_eq (t : Fin cfg0.N) : (dats m 0 c).flushed 3 t = ((cfg0.win 3).blk t).view.read (Elt Ideal) (G3 m c) := by
  rw [flushed3_A, out_codes]
  obtain ⟨-, -, -, -, -, -, e0, e1, -⟩ := idx_facts t
  have hN : t.val < 64 := lt_of_lt_of_eq t.isLt N_0
  funext y
  have y0 : (y 0).val < 1920 := (y 0).isLt
  have y1 : (y 1).val < 256 := (y 1).isLt
  have hb0 : (((cfg0.win 3).blk t).view.emb y 0).val = win0_3.index t (0 : Fin 2) * 1920 + 1 * (y 0).val := rfl
  have hb1 : (((cfg0.win 3).blk t).view.emb y 1).val = win0_3.index t (1 : Fin 2) * 256 + 1 * (y 1).val := rfl
  rw [e0] at hb0; rw [e1] at hb1
  have hk : (y 0).val / 128 < 15 := by omega
  have lT : (y 0).val / 128 < 15 := by omega
  have lc : t.val * 256 + (y 1).val < 16384 := by omega
  show (blockCodes (iblk m c 0 t) (iblk m c 1 t) (iblk m c 2 t) ((cfg0.win 3).xinj (grid0.coords t) y) : BitVec 8) = G3 m c (((cfg0.win 3).blk t).view.emb y)
  rw [blockCodes_at _ _ _ _ hk ⟨(y 0).val % 128, by omega⟩ ⟨(y 1).val, y1⟩ _ (by show (y 0).val = 128 * ((y 0).val / 128) + (y 0).val % 128; omega) rfl]
  exact store_codes _ _ _ _ _ _ ⟨_, lT⟩ _ ⟨_, lc⟩ (tile_w m c t _ hk _ _ _ rfl rfl) (tile_h m c t _ hk _ rfl)
    (tile_r m c t _ hk _ _ _ rfl rfl) hr _ _ (by
      rw [hb0]; show _ = 128 * ((y 0).val / 128) + (y 0).val % 128; omega) (Fin.ext (by
      rw [hb1]; show _ = t.val * 256 + (y 1).val; omega))

theorem flushed4_eq (t : Fin cfg0.N) : (dats m 0 c).flushed 4 t = ((cfg0.win 4).blk t).view.read (Elt Ideal) (G4 m c) := by
  rw [flushed4_A, out_exp]
  obtain ⟨-, -, -, -, -, -, -, -, e0, e1, e2, -⟩ := idx_facts t
  have hN : t.val < 64 := lt_of_lt_of_eq t.isLt N_0
  funext y
  have y0 : (y 0).val < 3 := (y 0).isLt
  have y1 : (y 1).val < 40 := (y 1).isLt
  have y2 : (y 2).val < 256 := (y 2).isLt
  have hb0 : (((cfg0.win 4).blk t).view.emb y 0).val = win0_4.index t (0 : Fin 3) * 3 + 1 * (y 0).val := rfl
  have hb1 : (((cfg0.win 4).blk t).view.emb y 1).val = win0_4.index t (1 : Fin 3) * 40 + 1 * (y 1).val := rfl
  have hb2 : (((cfg0.win 4).blk t).view.emb y 2).val = win0_4.index t (2 : Fin 3) * 256 + 1 * (y 2).val := rfl
  rw [e0] at hb0; rw [e1] at hb1; rw [e2] at hb2
  have hk : (40 * (y 0).val + (y 1).val) / 8 < 15 := by omega
  have lc : t.val * 256 + (y 2).val < 16384 := by omega
  show (blockScale (iblk m c 0 t) (iblk m c 2 t) ((cfg0.win 4).xinj (grid0.coords t) y) : BitVec 8) = G4 m c (((cfg0.win 4).blk t).view.emb y)
  unfold blockScale
  rw [blockExp_at _ _ _ hk ⟨(40 * (y 0).val + (y 1).val) % 8, by omega⟩ ⟨(y 2).val, y2⟩ _
    (by show 40 * (y 0).val + (y 1).val = 8 * ((40 * (y 0).val + (y 1).val) / 8) + (40 * (y 0).val + (y 1).val) % 8; omega) rfl]
  exact store_exp _ _ _ _ ⟨_, hk⟩ _ ⟨_, lc⟩ (tile_w m c t _ hk _ _ _ rfl rfl) (tile_h m c t _ hk _ rfl)
    hr _ _ (by
      rw [hb0, hb1]; show _ = 8 * ((40 * (y 0).val + (y 1).val) / 8) + (40 * (y 0).val + (y 1).val) % 8; omega) (Fin.ext (by
      rw [hb2]; show _ = t.val * 256 + (y 2).val; omega))

theorem flushed5_eq (t : Fin cfg0.N) : (dats m 0 c).flushed 5 t = ((cfg0.win 5).blk t).view.read (Elt Ideal) (G5 m c) := by
  rw [flushed5_A, out_vals]
  obtain ⟨-, -, -, -, -, -, -, -, -, -, -, e0, e1⟩ := idx_facts t
  have hN : t.val < 64 := lt_of_lt_of_eq t.isLt N_0
  funext y
  have y1 : (y 1).val < 3840 := (y 1).isLt
  have y0 : (y 0).val < 256 := (y 0).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 3840 + 1 * (y 1).val := rfl
  rw [e0] at hb0; rw [e1] at hb1
  have hk : (y 1).val / 256 < 15 := by omega
  have lT : (y 1).val / 256 < 15 := by omega
  have lc : t.val * 256 + (y 0).val < 16384 := by omega
  show (blockVals (iblk m c 0 t) (iblk m c 1 t) (iblk m c 2 t) ((cfg0.win 5).xinj (grid0.coords t) y) : EReal) = G5 m c (((cfg0.win 5).blk t).view.emb y)
  rw [blockVals_at _ _ _ _ hk ⟨(y 1).val % 256, by omega⟩ ⟨(y 0).val, y0⟩ _ (by show (y 1).val = 256 * ((y 1).val / 256) + (y 1).val % 256; omega) rfl]
  exact store_vals _ _ _ _ _ _ ⟨_, lT⟩ _ ⟨_, lc⟩ (tile_w m c t _ hk _ _ _ rfl rfl) (tile_h m c t _ hk _ rfl)
    (tile_r m c t _ hk _ _ _ rfl rfl) hr _ _ (by
      rw [hb1]; show _ = 256 * ((y 1).val / 256) + (y 1).val % 256; omega) (Fin.ext (by
      rw [hb0]; show _ = t.val * 256 + (y 0).val; omega))

end Final

theorem mem_blk3 (t : Fin cfg0.N) (i : S1920x16384.Idx) :
    i ∈ ((cfg0.win 3).blk t).view.set ↔ ∀ a : Fin 2, win0_3.index t a * S1920x256.size a ≤ (i a).val ∧ (i a).val < win0_3.index t a * S1920x256.size a + S1920x256.size a := by
  show i ∈ ((View.whole main_v49_0).slice (win0_3.rect t)).set ↔ _
  rw [View.set_slice_whole, Rect.mem_set_unit]
  exact Iff.rfl

theorem mem_blk4 (t : Fin cfg0.N) (i : S3x40x16384.Idx) :
    i ∈ ((cfg0.win 4).blk t).view.set ↔ ∀ a : Fin 3, win0_4.index t a * S3x40x256.size a ≤ (i a).val ∧ (i a).val < win0_4.index t a * S3x40x256.size a + S3x40x256.size a := by
  show i ∈ ((View.whole main_v49_1).slice (win0_4.rect t)).set ↔ _
  rw [View.set_slice_whole, Rect.mem_set_unit]
  exact Iff.rfl

theorem mem_blk5 (t : Fin cfg0.N) (i : S16384x3840.Idx) :
    i ∈ ((cfg0.win 5).blk t).view.set ↔ ∀ a : Fin 2, win0_5.index t a * S256x3840.size a ≤ (i a).val ∧ (i a).val < win0_5.index t a * S256x3840.size a + S256x3840.size a := by
  show i ∈ ((View.whole main_v49_2).slice (win0_5.rect t)).set ↔ _
  rw [View.set_slice_whole, Rect.mem_set_unit]
  exact Iff.rfl

/-- Every index of the codes is in some point's block. -/
theorem covered3 (i : S1920x16384.Idx) : ∃ t : Fin cfg0.N, (cfg0.win 3).flush t = true ∧ i ∈ ((cfg0.win 3).blk t).view.set := by
  have h0 : (i 0).val < 1920 := (i 0).isLt
  have h1 : (i 1).val < 16384 := (i 1).isLt
  have hN : cfg0.N = 64 := N_0
  obtain ⟨t, ht⟩ : ∃ t : Fin cfg0.N, t.val = (i 1).val / 256 := ⟨⟨_, by omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 1920 ≤ (i 0).val ∧ (i 0).val < win0_3.index t (0 : Fin 2) * 1920 + 1920; omega
  | ⟨1, _⟩ => show win0_3.index t (1 : Fin 2) * 256 ≤ (i 1).val ∧ (i 1).val < win0_3.index t (1 : Fin 2) * 256 + 256; omega

/-- Every index of the exponents is in some point's block. -/
theorem covered4 (i : S3x40x16384.Idx) : ∃ t : Fin cfg0.N, (cfg0.win 4).flush t = true ∧ i ∈ ((cfg0.win 4).blk t).view.set := by
  have h0 : (i 0).val < 3 := (i 0).isLt
  have h1 : (i 1).val < 40 := (i 1).isLt
  have h2 : (i 2).val < 16384 := (i 2).isLt
  have hN : cfg0.N = 64 := N_0
  obtain ⟨t, ht⟩ : ∃ t : Fin cfg0.N, t.val = (i 2).val / 256 := ⟨⟨_, by omega⟩, rfl⟩
  obtain ⟨-, -, -, -, -, -, -, -, e0, e1, e2, -⟩ := idx_facts t
  refine ⟨t, flush0_4 t, ?_⟩
  rw [mem_blk4]
  intro a
  match a with
  | ⟨0, _⟩ => show win0_4.index t (0 : Fin 3) * 3 ≤ (i 0).val ∧ (i 0).val < win0_4.index t (0 : Fin 3) * 3 + 3; omega
  | ⟨1, _⟩ => show win0_4.index t (1 : Fin 3) * 40 ≤ (i 1).val ∧ (i 1).val < win0_4.index t (1 : Fin 3) * 40 + 40; omega
  | ⟨2, _⟩ => show win0_4.index t (2 : Fin 3) * 256 ≤ (i 2).val ∧ (i 2).val < win0_4.index t (2 : Fin 3) * 256 + 256; omega

/-- Every index of the values is in some point's block. -/
theorem covered5 (i : S16384x3840.Idx) : ∃ t : Fin cfg0.N, (cfg0.win 5).flush t = true ∧ i ∈ ((cfg0.win 5).blk t).view.set := by
  have h0 : (i 0).val < 16384 := (i 0).isLt
  have h1 : (i 1).val < 3840 := (i 1).isLt
  have hN : cfg0.N = 64 := N_0
  obtain ⟨t, ht⟩ : ∃ t : Fin cfg0.N, t.val = (i 0).val / 256 := ⟨⟨_, by omega⟩, rfl⟩
  obtain ⟨-, -, -, -, -, -, -, -, -, -, -, e0, e1⟩ := idx_facts t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 3840 ≤ (i 1).val ∧ (i 1).val < win0_5.index t (1 : Fin 2) * 3840 + 3840; omega

section Final

variable (c : Dev nD)
variable (hr : ∀ b col, InRange (rotA (m ((c : Thread nD τ).loc main_arg0)) (m ((c : Thread nD τ).loc main_arg1)) b col))
include hr

/-- The blocks tile each result array, so it ends as the reference's. -/
theorem final3 : (dats m 0 c).arrAt 3 cfg0.N = G3 m c := (dats m 0 c).arrAt_eq_of_cover 3 _ (fun t _ => flushed3_eq m c hr t) covered3
theorem final4 : (dats m 0 c).arrAt 4 cfg0.N = G4 m c := (dats m 0 c).arrAt_eq_of_cover 4 _ (fun t _ => flushed4_eq m c hr t) covered4
theorem final5 : (dats m 0 c).arrAt 5 cfg0.N = G5 m c := (dats m 0 c).arrAt_eq_of_cover 5 _ (fun t _ => flushed5_eq m c hr t) covered5

end Final

end Cert.TKernelIdeal.Value

end
-- ==== Proof.TClaims.lean ====
/-
  The claims about the quantiser of the transposed gradients, from its value theorem: the reference runs and leaves its arguments
  alone, and the kernel's three results over the reals are the reference's.
-/
module

public import proofs.«01_k».proof.Defs
public import proofs.«01_k».proof.Proof.TValue
public import proofs.«01_k».proof.Proof.Gen.TKernelIdeal
public import proofs.«01_k».proof.Proof.Gen.TReferenceIdeal

@[expose] public section

noncomputable section

namespace Cert.Proof

open Idealize.ShloMosaic Idealize.ShloMosaic.TcCoe Idealize.SL.Sem

/-- The shape relations the predicate states. -/
theorem t_range_facts : Cert.Pre_in_range_dy_t.Facts where
  bitsLt_bf16_f32 := by decide
  bcast_S3840_S3840x1_0 := by decide
  bcast_S3840x1_S3840x16384_0_1 := by decide
  shapeCasts_S3840x16384_S120x1x32x16384 := by decide
  bcast_S32_S32x1_0 := by decide
  bcast_S32_S1x32_1 := by decide
  bcast_S32x1_S32x32_0_1 := by decide
  bcast_S1x32_S32x32_0_1 := by decide
  bcast_S_S32x32 := by decide
  bcast_S32x32_S1x32x32x1_1_2 := by decide
  bcast_S1x32x32x1_S120x32x32x16384_0_1_2_3 := by decide
  bcast_S120x1x32x16384_S120x32x32x16384_0_1_2_3 := by decide
  reducesTo_S120x32x32x16384_S120x32x16384_d2 := by decide
  h_S_ := by decide
  reducesTo_S120x32x16384_S120x16384_d1 := by decide
  bcast_S_S120x16384 := by decide

/-- The T reference runs, leaves its arguments as they were, and uses no semaphore. -/
theorem t_reference_frame : Cert.quiescent_TReferenceIdeal := fun m g _ =>
  (θ_run _ _ _).mono (fun _ h => ⟨fun c => (h c).2.2.2, Idealize.ShloMosaic.sem_eq_zero_of_no_sems (by decide) _⟩) (Cert.TReferenceIdeal.Value.run (F := Ideal) m g)

/-- From equal arguments in range the T kernel and its reference leave equal results, over the reals. -/
theorem t_algebraic : Cert.algebraic_TKernelIdeal_TReferenceIdeal_pre_in_range_dy_t (hPre_in_range_dy_t := t_range_facts) := fun m g m' g' hpre hagree =>
  have hr := fun c => @Cert.Pre_in_range_dy_t.inRange_of_fn t_range_facts _ _ _ (hpre c)
  ⟨fun c => Cert.TKernelIdeal.Value.G3 m c, fun c => Cert.TKernelIdeal.Value.G4 m c, fun c => Cert.TKernelIdeal.Value.G5 m c,
    (θ_run _ _ _).mono (fun _ h c => ⟨(h c).1.trans (Cert.TKernelIdeal.Value.final3 m c (hr c)),
      (h c).2.1.trans (Cert.TKernelIdeal.Value.final4 m c (hr c)), (h c).2.2.1.trans (Cert.TKernelIdeal.Value.final5 m c (hr c)), (h c).2.2.2⟩)
      (Cert.TKernelIdeal.Value.run_blocks (F := Ideal) m g),
    (θ_run _ _ _).mono (fun _ h c => ⟨(h c).1.trans (by
        rw [Cert.TReferenceIdeal.Read.val_main_v139_eq]
        refine (congr (congrArg₂ _ ?_ ?_) ?_ : _ = Cert.TReferenceIdeal.Read.val_main_v139 (F := Ideal) _ _ _)
        · exact (hagree c).1
        · exact (hagree c).2.1
        · exact (hagree c).2.2),
      (h c).2.1.trans (by
        rw [Cert.TReferenceIdeal.Read.val_main_v145_eq]
        exact congrArg₂ (Cert.TReferenceIdeal.Read.val_main_v145 (F := Ideal)) (hagree c).1 (hagree c).2.1),
      (h c).2.2.1.trans (by
        rw [Cert.TReferenceIdeal.Read.val_main_v146_eq]
        refine (congr (congrArg₂ _ ?_ ?_) ?_ : _ = Cert.TReferenceIdeal.Read.val_main_v146 (F := Ideal) _ _ _)
        · exact (hagree c).1
        · exact (hagree c).2.1
        · exact (hagree c).2.2), (h c).2.2.2⟩) (Cert.TReferenceIdeal.Value.run (F := Ideal) m' g')⟩

end Cert.Proof

end
-- ==== Proof.NPay.lean ====
/-
  The arrays a tile's trip of the quantiser along the columns computes, as functions of the tile alone, and the sixteen
  stores of a block as those functions of its sixteen tiles.
-/
module

public import proofs.«01_k».proof.Proof.Gen.NKernelIdeal.Frame

@[expose] public section

noncomputable section

open Idealize.ShloMosaic Idealize.ShloMosaic.TcCoe Idealize.SL.Sem

namespace Cert.NKernelIdeal.Pay

open Cert.NKernelIdeal Cert.NKernelIdeal.Gen

variable {F : FTy → Type} [FloatOps F]

abbrev M : Shape := S128x128

abbrev bc (k : BitVec 32) : IVec M 32 := broadcast M k

/-- The lane of every element. -/
abbrev lanes : IVec M 32 := iota .tc S128x128 32 [1] iota_S128x128_d1_w32

/-- One step of the search for the exponent field. -/
def rungN (x : FVec F M .f32) (b e : IVec M 32) : IVec M 32 := select (cmpf .oge x (bitcastToFloat .f32 (ori e b))) (ori e b) e

/-- The whole search. -/
def fieldN (x : FVec F M .f32) : IVec M 32 :=
  rungN x (bc 8388608#32) (rungN x (bc 16777216#32) (rungN x (bc 33554432#32) (rungN x (bc 67108864#32) (rungN x (bc 134217728#32)
    (rungN x (bc 268435456#32) (rungN x (bc 536870912#32) (rungN x (bc 1073741824#32) (bc 0#32))))))))

/-- The lane to gather from, counted from the end when negative. -/
def wrapN (x : IVec M 32) : IVec M 32 :=
  shapeCast S128x128 (shapeCast S128x128x1 (select (cmpi .slt x (bc 0#32)) (addi x (bc 128#32)) x) shapeCasts_S128x128_S128x128x1) shapeCasts_S128x128x1_S128x128

/-- The maximum with the lane whose number differs in one bit. -/
def pairMax (d : BitVec 32) (x : FVec F M .f32) : FVec F M .f32 := maximumf x (dynamicGather 1 x (wrapN (xori lanes (bc d))))

abbrev left (v : FVec F S128x256 .f32) : FVec F M .f32 := extractStridedSlice S128x128 ![0, 0] v slices_S128x256_o0_0_S128x128
abbrev right (v : FVec F S128x256 .f32) : FVec F M .f32 := extractStridedSlice S128x128 ![0, 128] v slices_S128x256_o0_128_S128x128

/-- The scaled maximum of a block, in every lane of the block. -/
def peakN (v : FVec F S128x256 .f32) : FVec F M .f32 :=
  mulf (pairMax 64#32 (pairMax 4#32 (pairMax 2#32 (pairMax 1#32 (maximumf (absf (left v)) (absf (right v))))))) (broadcast M (Scalar.ofBits .f32 0x3F3504F3#32))

def leastN (x : FVec F M .f32) : IVec M 32 := maxsi (fieldN x) (bc 8388608#32)
def scaleN (x : FVec F M .f32) : FVec F M .f32 :=
  mulf (bitcastToFloat .f32 (subi (bc 2143289344#32) (leastN x))) (broadcast M (Scalar.ofBits .f32 0x3F3504F3#32))
def expN (x : FVec F M .f32) : IVec M 32 := select (cmpi .eq (fieldN x) (bc 0#32)) (bc 0#32) (subi (shrsi (leastN x) (bc 23#32)) (bc 129#32))
def offN (x : FVec F M .f32) : IVec M 32 := subi (maxsi (leastN x) (bc 25165824#32)) (bc 1090519040#32)

def oneN (m : FVec F M .f32) : IVec M 32 := maxsi (fieldN m) (bc 1065353216#32)
def stepsN (m r : FVec F M .f32) : FVec F M .f32 :=
  ceil (subf (mulf m (bitcastToFloat .f32 (subi (bc 2139095040#32) (oneN m))))
    (mulf (addf r (broadcast M (Scalar.ofBits .f32 0x3F000000#32))) (broadcast M (Scalar.ofBits .f32 0x3B800000#32))))
def valN (s : FVec F M .f32) (o : IVec M 32) (m r : FVec F M .f32) : FVec F M .f32 :=
  mulf (mulf (stepsN m r) (bitcastToFloat .f32 (addi (oneN m) o)))
    (select (cmpf .olt s (constant S128x128 .f32 0x00000000#32)) (constant S128x128 .f32 0xBF800000#32) (constant S128x128 .f32 0x3F800000#32))
def idxN (m r : FVec F M .f32) : IVec M 32 := subi (addi (fptosi 32 (stepsN m r)) (shrsi (oneN m) (bc 22#32))) (bc 254#32)
def signN (s : FVec F M .f32) (k : IVec M 32) : IVec M 32 :=
  select (andi (cmpf .olt s (broadcast M (Scalar.ofBits .f32 0x00000000#32))) (cmpi .sgt k (bc 0#32))) (addi k (bc 8#32)) k

abbrev rotN (a : Vec F S128x256 .bf16) (h : Vec F S256x256 .bf16) : FVec F S128x256 .f32 := k0_pay4 a h
abbrev rndN (r : Vec F S128x256 .i8) (p : Vec F S256x256 .bf16) : FVec F S128x256 .f32 := k0_pay5 r p

/-- Where the codes and where the exponents are gathered from. -/
def codeLane : IVec M 32 :=
  ori (ori (shli (andi lanes (bc 1#32)) (bc 6#32)) (shli (shrsi lanes (bc 4#32)) (bc 3#32))) (andi (shrsi lanes (bc 1#32)) (bc 7#32))

/-- The codes, the decoded values and the exponents of a tile, from its rotation and its random numbers. -/
def codesOf (v r : FVec F S128x256 .f32) : IVec M 8 :=
  trunci 8 (dynamicGather 1
    (ori (signN (left v) (idxN (mulf (absf (left v)) (scaleN (peakN v))) (left r)))
      (shli (signN (right v) (idxN (mulf (absf (right v)) (scaleN (peakN v))) (right r))) (bc 4#32)))
    (wrapN codeLane)) natLt_8_32
def valsOf (v r : FVec F S128x256 .f32) : FVec F S128x256 .bf16 :=
  truncf .bf16 (concatenate S128x256 1 [⟨S128x128, valN (left v) (offN (peakN v)) (mulf (absf (left v)) (scaleN (peakN v))) (left r)⟩,
    ⟨S128x128, valN (right v) (offN (peakN v)) (mulf (absf (right v)) (scaleN (peakN v))) (right r)⟩] concatenates_S128x128_S128x128_S128x256_d1) bitsLt_bf16_f32

variable (x0 : Vec F S128x4096 .bf16) (x1 : Vec F S128x4096 .i8) (x2 : Vec F S256x4096 .bf16) (x3 : Vec F S256x256 .bf16)

/-! ## The sixteen tiles of a block -/

theorem inbA (q : Fin 16) : ∀ a, (![0, 256 * q.val] : Fin 2 → ℕ) a + S128x256.size a ≤ S128x4096.size a := by
  revert q; decide
theorem inbH (q : Fin 16) : ∀ a, (![0, 256 * q.val] : Fin 2 → ℕ) a + S256x256.size a ≤ S256x4096.size a := by
  revert q; decide
theorem inbC (q : Fin 16) : ∀ a, (![0, 128 * q.val] : Fin 2 → ℕ) a + S128x128.size a ≤ S128x2048.size a := by
  revert q; decide

abbrev rA (q : Fin 16) : Rect S128x4096 := Rect.unit (s := S128x4096) ![0, 256 * q.val] S128x256.size (inbA q)
abbrev rH (q : Fin 16) : Rect S256x4096 := Rect.unit (s := S256x4096) ![0, 256 * q.val] S256x256.size (inbH q)
abbrev rC (q : Fin 16) : Rect S128x2048 := Rect.unit (s := S128x2048) ![0, 128 * q.val] S128x128.size (inbC q)

/-- The rotation and the random numbers of tile `q`. -/
def rotOf (q : Fin 16) : FVec F S128x256 .f32 := rotN (View.ld x0 (rA q)) (View.ld x2 (rH q))
def rndOf (q : Fin 16) : FVec F S128x256 .f32 := rndN (View.ld x1 (rA q)) (View.ld x3 r0_2)

/-- The lane group of the exponents of tile `q`, and the exponents of all tiles, each in its lanes. -/
def expLane : IVec M 32 := ori (shli (shrsi lanes (bc 6#32)) (bc 3#32)) (andi lanes (bc 7#32))
def expAcc : IVec M 32 :=
  (List.finRange 16).foldl (fun e q => select (cmpi .eq expLane (bc (BitVec.ofNat 32 q.val))) (expN (peakN (rotOf x0 x2 q))) e) (bc 0#32)

/-- Where the exponents are gathered from. -/
def expFrom : IVec M 32 :=
  ori (ori (shli (shrsi lanes (bc 6#32)) (bc 6#32)) (shli (andi lanes (bc 7#32)) (bc 3#32))) (andi (shrsi lanes (bc 3#32)) (bc 7#32))

theorem out4_eq : out0_4 x0 x1 x2 x3
    = View.canon ((List.finRange 16).reverse.map fun q => ⟨rC q, codesOf (rotOf x0 x2 q) (rndOf x1 x3 q)⟩) := by
  sl_kernel_rfl

theorem out6_eq : out0_6 x0 x1 x2 x3
    = View.canon ((List.finRange 16).reverse.map fun q => ⟨rA q, valsOf (rotOf x0 x2 q) (rndOf x1 x3 q)⟩) := by
  sl_kernel_rfl

theorem out5_eq : out0_5 x0 x1 x2 x3
    = View.canon [⟨r0_49, trunci 8 (dynamicGather 1 (expAcc x0 x2) (wrapN expFrom)) natLt_8_32⟩] := by
  sl_kernel_rfl

end Cert.NKernelIdeal.Pay

end
-- ==== Proof.NTile.lean ====
/-
  One tile of the quantiser along the columns, read at an index: lanes and gathers, the block maximum, and the codes,
  decoded values and exponents as the scalar functions of QuantScalar and QuantBlock.
-/
module

public import proofs.«01_k».proof.Proof.NPay
public import proofs.«01_k».proof.Proof.WTile

@[expose] public section

noncomputable section

open Idealize.ShloMosaic Idealize.ShloMosaic.TcCoe Idealize.SL.Sem

namespace Cert.NKernelIdeal.Pay

open Cert.NKernelIdeal Cert.NKernelIdeal.Gen Cert.Quant
open Cert.WKernelIdeal.Pay (select_at andi_at ori_at subi_at addi_at maxsi_at shrsi_at shli_at cmpi_at cmpf_at addf_at subf_at mulf_at absf_at
  maximumf_at ceil_at fptosi_at bits_at bcast_at const_at ofBits_at valOf kVal_eq pair byteVal fieldV fieldV_apply truncf_at)

/-! ## Lanes and gathers -/

theorem xori_at {s : Shape} {w : ℕ} (a b : IVec s w) (i : s.Idx) : xori a b i = IntOp.xori (a i) (b i) := (Eq.refl _).trans (Eq.refl _)

theorem bc_at (k : BitVec 32) (i : M.Idx) : bc k i = k := rfl

theorem lanes_at (t k : Fin 128) : lanes (ix2 t k) = BitVec.ofNat 32 k.val := by
  show BitVec.ofNat 32 (0 * 128 + k.val) = _
  rw [Nat.zero_mul, Nat.zero_add]

theorem wrap_lane : ∀ k : Fin 128, Scalar.select (IntOp.cmpi .slt (BitVec.ofNat 32 k.val) 0#32) (IntOp.addi (BitVec.ofNat 32 k.val) 128#32) (BitVec.ofNat 32 k.val)
    = BitVec.ofNat 32 k.val := by decide +kernel

theorem wrapN_at (x : IVec M 32) (t l k : Fin 128) (h : x (ix2 t l) = BitVec.ofNat 32 k.val) : wrapN x (ix2 t l) = BitVec.ofNat 32 k.val := by
  unfold wrapN
  rw [shapeCast_shapeCast, select_at, cmpi_at, addi_at, bc_at, bc_at, h, wrap_lane]

theorem gather_at {α : Type} (a : M.Idx → α) (x : IVec M 32) (t l k : Fin 128) (h : x (ix2 t l) = BitVec.ofNat 32 k.val) :
    dynamicGather 1 a (wrapN x) (ix2 t l) = a (ix2 t k) := by
  unfold dynamicGather
  refine congrArg a (funext fun b => ?_)
  match b with
  | ⟨0, _⟩ => rfl
  | ⟨1, _⟩ =>
    refine Fin.ext ?_
    show (wrapN x (ix2 t l)).toNat % 128 = k.val
    rw [wrapN_at x t l k h, BitVec.toNat_ofNat]
    omega

/-! ## The block maximum -/

/-- The lane whose number differs in the bits of `d`. -/
def flip (d : ℕ) (l : Fin 128) : Fin 128 := ⟨(l.val ^^^ d) % 128, Nat.mod_lt _ (by decide)⟩

theorem flip_lane1 : ∀ l : Fin 128, IntOp.xori (BitVec.ofNat 32 l.val) 1#32 = BitVec.ofNat 32 (flip 1 l).val := by decide +kernel
theorem flip_lane2 : ∀ l : Fin 128, IntOp.xori (BitVec.ofNat 32 l.val) 2#32 = BitVec.ofNat 32 (flip 2 l).val := by decide +kernel
theorem flip_lane4 : ∀ l : Fin 128, IntOp.xori (BitVec.ofNat 32 l.val) 4#32 = BitVec.ofNat 32 (flip 4 l).val := by decide +kernel
theorem flip_lane64 : ∀ l : Fin 128, IntOp.xori (BitVec.ofNat 32 l.val) 64#32 = BitVec.ofNat 32 (flip 64 l).val := by decide +kernel

theorem pairMax_at (d : BitVec 32) (k : ℕ) (hd : ∀ l : Fin 128, IntOp.xori (BitVec.ofNat 32 l.val) d = BitVec.ofNat 32 (flip k l).val)
    (x : FVec Ideal M .f32) (t l : Fin 128) : pairMax d x (ix2 t l) = max (x (ix2 t l) : EReal) (x (ix2 t (flip k l)) : EReal) := by
  unfold pairMax
  rw [maximumf_at, gather_at x _ t l (flip k l)]
  rw [xori_at, lanes_at, bc_at, hd]

/-- The maximum over a lane's block, by halves. -/
def tree (f : Fin 128 → EReal) (l : Fin 128) : EReal :=
  let m1 := fun l => max (f l) (f (flip 1 l))
  let m2 := fun l => max (m1 l) (m1 (flip 2 l))
  let m4 := fun l => max (m2 l) (m2 (flip 4 l))
  max (m4 l) (m4 (flip 64 l))

theorem flip_block : ∀ l : Fin 128, (flip 1 l).val % 64 / 8 = l.val % 64 / 8 ∧ (flip 2 l).val % 64 / 8 = l.val % 64 / 8
    ∧ (flip 4 l).val % 64 / 8 = l.val % 64 / 8 ∧ (flip 64 l).val % 64 / 8 = l.val % 64 / 8 := by decide +kernel

theorem block_flip : ∀ l k : Fin 128, k.val % 64 / 8 = l.val % 64 / 8 →
    (k = l ∨ k = flip 1 l ∨ k = flip 2 l ∨ k = flip 1 (flip 2 l) ∨ k = flip 4 l ∨ k = flip 1 (flip 4 l) ∨ k = flip 2 (flip 4 l) ∨ k = flip 1 (flip 2 (flip 4 l)))
    ∨ (k = flip 64 l ∨ k = flip 1 (flip 64 l) ∨ k = flip 2 (flip 64 l) ∨ k = flip 1 (flip 2 (flip 64 l)) ∨ k = flip 4 (flip 64 l)
      ∨ k = flip 1 (flip 4 (flip 64 l)) ∨ k = flip 2 (flip 4 (flip 64 l)) ∨ k = flip 1 (flip 2 (flip 4 (flip 64 l)))) := by decide +kernel

theorem tree_le (f : Fin 128 → EReal) (l : Fin 128) (c : EReal) : tree f l ≤ c ↔ ∀ k : Fin 128, k.val % 64 / 8 = l.val % 64 / 8 → f k ≤ c := by
  unfold tree
  simp only [max_le_iff]
  constructor
  · rintro H k hk
    rcases block_flip l k hk with (h | h | h | h | h | h | h | h) | (h | h | h | h | h | h | h | h) <;> rw [h] <;> tauto
  · intro H
    refine ⟨⟨⟨⟨?_, ?_⟩, ?_, ?_⟩, ⟨?_, ?_⟩, ?_, ?_⟩, ⟨⟨?_, ?_⟩, ?_, ?_⟩, ⟨?_, ?_⟩, ?_, ?_⟩ <;>
      exact H _ (by simp only [(flip_block _).1, (flip_block _).2.1, (flip_block _).2.2.1, (flip_block _).2.2.2])

section Tile

variable (v r : FVec Ideal S128x256 .f32) (t l : Fin 128)

theorem left_at : left v (ix2 t l) = v (ix2 t (⟨128 * 0 + l.val, by omega⟩ : Fin 256)) := by
  refine extractStridedSlice_apply _ _ _ (ix2 t l) (ix2 t (⟨128 * 0 + l.val, by omega⟩ : Fin 256)) ?_
  intro a; fin_cases a
  · exact (Nat.zero_add _).symm
  · rfl

theorem right_at : right v (ix2 t l) = v (ix2 t (⟨128 * 1 + l.val, by omega⟩ : Fin 256)) := by
  refine extractStridedSlice_apply _ _ _ (ix2 t l) (ix2 t (⟨128 * 1 + l.val, by omega⟩ : Fin 256)) ?_
  intro a; fin_cases a
  · exact (Nat.zero_add _).symm
  · rfl

/-- The magnitude of a value. -/
def mag (p : Fin 256) : EReal := max (v (ix2 t p) : EReal) (-(v (ix2 t p) : EReal))

/-- The maximum of a block, before it is scaled. -/
def top : EReal := tree (fun k => max (mag v t ⟨128 * 0 + k.val, by omega⟩) (mag v t ⟨128 * 1 + k.val, by omega⟩)) l

theorem peakN_at : peakN v (ix2 t l) = top v t l * vs := by
  unfold peakN
  rw [mulf_at, bcast_at]
  refine congrArg₂ (fun x y : EReal => x * y) ?_ rfl
  have e : ∀ k : Fin 128, maximumf (absf (left v)) (absf (right v)) (ix2 t k) = max (mag v t ⟨128 * 0 + k.val, by omega⟩) (mag v t ⟨128 * 1 + k.val, by omega⟩) := by
    intro k
    rw [maximumf_at, absf_at, absf_at, left_at, right_at]; rfl
  simp only [pairMax_at _ _ flip_lane64, pairMax_at _ _ flip_lane4, pairMax_at _ _ flip_lane2, pairMax_at _ _ flip_lane1, e]
  rfl

/-! ## The numbers of a block -/

theorem fieldN_eq (x : FVec Ideal M .f32) : fieldN x = fieldV x := rfl

theorem leastN_at (x : FVec Ideal M .f32) (i : M.Idx) : leastN x i = kEb (x i) := by
  unfold leastN
  rw [fieldN_eq, maxsi_at, fieldV_apply, bc_at]
  unfold kEb
  with_reducible rfl

theorem scaleN_at (x : FVec Ideal M .f32) (i : M.Idx) : scaleN x i = kScale (x i) := by
  unfold scaleN
  rw [mulf_at, bits_at, subi_at, leastN_at, bc_at, bcast_at, ofBits_at]
  unfold kScale vs
  with_reducible rfl

theorem offN_at (x : FVec Ideal M .f32) (i : M.Idx) : offN x i = kOff (x i) := by
  unfold offN
  rw [subi_at, maxsi_at, leastN_at, bc_at, bc_at]
  rfl

theorem expN_at (x : FVec Ideal M .f32) (i : M.Idx) : expN x i = kExp (x i) := by
  unfold expN
  rw [select_at, cmpi_at, subi_at, shrsi_at, leastN_at, fieldN_eq]
  simp only [fieldV_apply, bc_at]
  unfold kExp
  with_reducible rfl

theorem valN_at (s : FVec Ideal M .f32) (o : IVec M 32) (m u : FVec Ideal M .f32) (i : M.Idx) : valN s o m u i = valOf (s i) (m i) (uOf (u i)) (o i) := by
  unfold valN stepsN oneN
  rw [fieldN_eq]
  simp only [select_at, subi_at, addi_at, maxsi_at, cmpf_at, addf_at, subf_at, mulf_at, ceil_at, bits_at, bc_at, bcast_at, const_at, fieldV_apply, ofBits_at]
  unfold valOf kSteps kField uOf
  with_reducible rfl

theorem codeN_at (s m u : FVec Ideal M .f32) (i : M.Idx) : signN s (idxN m u) i = signed (s i) (kIdx (m i) (uOf (u i))) := by
  unfold signN idxN stepsN oneN
  rw [fieldN_eq]
  simp only [select_at, andi_at, subi_at, addi_at, maxsi_at, shrsi_at, cmpi_at, cmpf_at, addf_at, subf_at, mulf_at, ceil_at, fptosi_at, bits_at,
    bc_at, bcast_at, const_at, fieldV_apply, ofBits_at]
  unfold signed kIdx kSteps kField uOf
  with_reducible rfl

/-! ## The elements -/

/-- The scaled maximum of the block of lane `l`. -/
def tileMax : EReal := top v t l * vs
/-- The code of the element at lane `l` of half `b`. -/
def tileCode (b : Fin 2) : BitVec 32 :=
  signed (v (ix2 t (⟨128 * b.val + l.val, by omega⟩ : Fin 256)))
    (kIdx (mag v t ⟨128 * b.val + l.val, by omega⟩ * kScale (tileMax v t l)) (uOf (r (ix2 t (⟨128 * b.val + l.val, by omega⟩ : Fin 256)))))
/-- The decoded value of the element at lane `l` of half `b`. -/
def tileVal (b : Fin 2) : EReal :=
  kVal (v (ix2 t (⟨128 * b.val + l.val, by omega⟩ : Fin 256))) (mag v t ⟨128 * b.val + l.val, by omega⟩ * kScale (tileMax v t l))
    (uOf (r (ix2 t (⟨128 * b.val + l.val, by omega⟩ : Fin 256)))) (tileMax v t l)

theorem left_code : signN (left v) (idxN (mulf (absf (left v)) (scaleN (peakN v))) (left r)) (ix2 t l) = tileCode v r t l 0 := by
  rw [codeN_at, mulf_at, absf_at, scaleN_at, peakN_at, left_at, left_at]; rfl
theorem right_code : signN (right v) (idxN (mulf (absf (right v)) (scaleN (peakN v))) (right r)) (ix2 t l) = tileCode v r t l 1 := by
  rw [codeN_at, mulf_at, absf_at, scaleN_at, peakN_at, right_at, right_at]; rfl
theorem left_val : valN (left v) (offN (peakN v)) (mulf (absf (left v)) (scaleN (peakN v))) (left r) (ix2 t l) = tileVal v r t l 0 := by
  rw [valN_at, mulf_at, absf_at, scaleN_at, offN_at, peakN_at, left_at, left_at, kVal_eq]; rfl
theorem right_val : valN (right v) (offN (peakN v)) (mulf (absf (right v)) (scaleN (peakN v))) (right r) (ix2 t l) = tileVal v r t l 1 := by
  rw [valN_at, mulf_at, absf_at, scaleN_at, offN_at, peakN_at, right_at, right_at, kVal_eq]; rfl

/-- The lane the codes of lane `l` come from. -/
def from4 (l : Fin 128) : Fin 128 := ⟨64 * (l.val % 2) + 8 * (l.val / 16) + l.val / 2 % 8, by omega⟩

theorem codeLane_at : codeLane (ix2 t l) = BitVec.ofNat 32 (from4 l).val := by
  unfold codeLane
  simp only [ori_at, shli_at, andi_at, shrsi_at, bc_at, lanes_at]
  revert l
  decide +kernel

theorem codesOf_at : codesOf v r (ix2 t l) = pair (tileCode v r t (from4 l) 0) (tileCode v r t (from4 l) 1) := by
  unfold codesOf
  show BitVec.setWidth 8 (dynamicGather 1 _ (wrapN codeLane) (ix2 t l)) = _
  rw [gather_at _ codeLane t l (from4 l) (codeLane_at t l), ori_at, shli_at, left_code, right_code]
  rfl

theorem valsOf_left : valsOf v r (ix2 t (⟨128 * 0 + l.val, by omega⟩ : Fin 256)) = tileVal v r t l 0 := by
  unfold valsOf
  rw [truncf_at]
  refine (concatenate_apply_piece (t := S128x256) 1 _ _ _ 0 (by simp) S128x128 _ rfl rfl 0 rfl (ix2 t l) ?_ ?_).trans (left_val v r t l)
  · intro b hb; fin_cases b
    · rfl
    · exact absurd rfl hb
  · show 128 * 0 + l.val = 0 + l.val; omega

theorem valsOf_right : valsOf v r (ix2 t (⟨128 * 1 + l.val, by omega⟩ : Fin 256)) = tileVal v r t l 1 := by
  unfold valsOf
  rw [truncf_at]
  refine (concatenate_apply_piece (t := S128x256) 1 _ _ _ 1 (by simp) S128x128 _ rfl rfl 128 rfl (ix2 t l) ?_ ?_).trans (right_val v r t l)
  · intro b hb; fin_cases b
    · rfl
    · exact absurd rfl hb
  · rfl

theorem valsOf_at (b : Fin 2) : valsOf v r (ix2 t (⟨128 * b.val + l.val, by omega⟩ : Fin 256)) = tileVal v r t l b := by
  match b with
  | ⟨0, _⟩ => exact valsOf_left v r t l
  | ⟨1, _⟩ => exact valsOf_right v r t l

end Tile

/-! ## The exponents of a block's sixteen tiles -/

section Exp

variable (x0 : Vec Ideal S128x4096 .bf16) (x2 : Vec Ideal S256x4096 .bf16) (t l : Fin 128)

/-- The lane and the tile the exponent of lane `l` comes from. -/
def from5 (l : Fin 128) : Fin 128 := ⟨64 * (l.val / 64) + 8 * (l.val % 8) + l.val / 8 % 8, by omega⟩

theorem from5_tile : ∀ l : Fin 128, 8 * ((from5 l).val / 64) + (from5 l).val % 8 = l.val / 8 := by decide +kernel

theorem expFrom_at : expFrom (ix2 t l) = BitVec.ofNat 32 (from5 l).val := by
  unfold expFrom
  simp only [ori_at, shli_at, andi_at, shrsi_at, bc_at, lanes_at]
  revert l
  decide +kernel

theorem expLane_at : expLane (ix2 t l) = BitVec.ofNat 32 (8 * (l.val / 64) + l.val % 8) := by
  unfold expLane
  simp only [ori_at, shli_at, andi_at, shrsi_at, bc_at, lanes_at]
  revert l
  decide +kernel

theorem foldl_select {ι : Type} [DecidableEq ι] (L : List ι) (key : ι → BitVec 32) (hk : Function.Injective key) (x : IVec M 32) (f : ι → IVec M 32)
    (z : IVec M 32) (i : M.Idx) (q : ι) (hq : x i = key q) :
    (L.foldl (fun e q => select (cmpi .eq x (bc (key q))) (f q) e) z) i = if q ∈ L then f q i else z i := by
  induction L generalizing z with
  | nil => simp
  | cons a L ih =>
    rw [List.foldl_cons, ih]
    have hs : select (cmpi .eq x (bc (key a))) (f a) z i = if a = q then f a i else z i := by
      rw [select_at, cmpi_at, bc_at, hq]
      by_cases h : a = q
      · rw [if_pos h, h]
        unfold Scalar.select
        rw [if_pos (by show BitVec.ofBool _ = 1; simp)]
      · rw [if_neg h]
        unfold Scalar.select
        rw [if_neg]
        show ¬ BitVec.ofBool (key q == key a) = 1
        have : (key q == key a) = false := beq_eq_false_iff_ne.mpr fun h' => h (hk h').symm
        rw [this]
        decide
    rw [hs]
    by_cases hL : q ∈ L
    · rw [if_pos hL, if_pos (List.mem_cons_of_mem _ hL)]
    · rw [if_neg hL]
      by_cases h : a = q
      · rw [if_pos h, if_pos (by rw [h]; exact List.mem_cons_self), h]
      · rw [if_neg h, if_neg]
        intro h'
        rcases List.mem_cons.mp h' with h' | h'
        · exact h h'.symm
        · exact hL h'

/-- The exponent of lane `l` is that of tile `l / 8`. -/
theorem exps_at : (trunci 8 (dynamicGather 1 (expAcc x0 x2) (wrapN expFrom)) natLt_8_32 : IVec M 8) (ix2 t l)
    = (kExp (tileMax (rotOf x0 x2 ⟨l.val / 8, by omega⟩) t (from5 l))).setWidth 8 := by
  show BitVec.setWidth 8 (dynamicGather 1 (expAcc x0 x2) (wrapN expFrom) (ix2 t l)) = _
  rw [gather_at _ expFrom t l (from5 l) (expFrom_at t l)]
  unfold expAcc
  have lq : l.val / 8 < 16 := by omega
  rw [foldl_select (List.finRange 16) (fun q : Fin 16 => BitVec.ofNat 32 q.val) ?_ expLane (fun q => expN (peakN (rotOf x0 x2 q))) _ _ ⟨l.val / 8, lq⟩ ?_,
    if_pos (List.mem_finRange _), expN_at, peakN_at]
  · rfl
  · intro a b h
    have := congrArg BitVec.toNat h
    simp only [BitVec.toNat_ofNat] at this
    exact Fin.ext (by omega)
  · rw [expLane_at]
    exact congrArg (BitVec.ofNat 32) (from5_tile l)

end Exp

end Cert.NKernelIdeal.Pay

end
-- ==== Proof.NTable.lean ====
/-
  The two tables of the quantiser along the columns: what the operations before the launch leave in its third and fourth
  operands. A column of the first is a row of the signed Hadamard matrix of one block, permuted to the kernel's order;
  the second is that permutation as zeros and ones.
-/
module

public import proofs.«01_k».proof.Proof.NTile
public import proofs.«01_k».proof.Proof.WRotate
public import Idealize.ShloMosaic.Lib.StableHlo.RunRead

@[expose] public section

noncomputable section

open Idealize.ShloMosaic Idealize.ShloMosaic.TcCoe Idealize.SL.Sem

namespace Cert.NKernelIdeal.Table

open Cert.NKernelIdeal Cert.NKernelIdeal.Gen Cert.NKernelIdeal.Pay Cert.Quant
open Cert.WKernelIdeal.Pay (mulf_at truncf_at byteVal)
open Cert.WKernelIdeal.Table (eq_block col_low col_high quarter_vs neg_quarter_vs)

/-- Which column of its tile a column of the table is the transform of. -/
def ordV : IVec S256 32 :=
  addi
    (addi (muli (broadcastInDim S256 ![] bcast_S_S256 (constantI S_ 32 32#32))
        (andi (Host.shrsi (iotaInDim S256 32 0) (broadcastInDim S256 ![] bcast_S_S256 (constantI S_ 32 3#32)))
          (broadcastInDim S256 ![] bcast_S_S256 (constantI S_ 32 7#32))))
      (muli (broadcastInDim S256 ![] bcast_S_S256 (constantI S_ 32 4#32))
        (andi (iotaInDim S256 32 0) (broadcastInDim S256 ![] bcast_S_S256 (constantI S_ 32 7#32)))))
    (addi (muli (broadcastInDim S256 ![] bcast_S_S256 (constantI S_ 32 2#32))
        (andi (Host.shrsi (iotaInDim S256 32 0) (broadcastInDim S256 ![] bcast_S_S256 (constantI S_ 32 6#32)))
          (broadcastInDim S256 ![] bcast_S_S256 (constantI S_ 32 1#32))))
      (Host.shrsi (iotaInDim S256 32 0) (broadcastInDim S256 ![] bcast_S_S256 (constantI S_ 32 7#32))))

/-- Whether a row and a column share an even number of set bits below bit 5. -/
def evenV : IVec S256x256 1 :=
  cmpi .eq (andi (ctpop (andi
      (broadcastInDim S256x256 ![0, 1] bcast_S256x1_S256x256_0_1
        (andi (broadcastInDim S256x1 ![0] bcast_S256_S256x1_0 ordV) (broadcastInDim S256x1 ![] bcast_S_S256x1 (constantI S_ 32 31#32))))
      (broadcastInDim S256x256 ![0, 1] bcast_S1x256_S256x256_0_1
        (andi (broadcastInDim S1x256 ![1] bcast_S256_S1x256_1 (iotaInDim S256 32 0))
          (broadcastInDim S1x256 ![] bcast_S_S1x256 (constantI S_ 32 31#32))))))
    (broadcastInDim S256x256 ![] bcast_S_S256x256 (constantI S_ 32 1#32)))
    (broadcastInDim S256x256 ![] bcast_S_S256x256 (constantI S_ 32 0#32))

/-- Whether a row and a column are of the same block. -/
def sameV : IVec S256x256 1 :=
  cmpi .eq
    (broadcastInDim S256x256 ![0, 1] bcast_S256x1_S256x256_0_1
      (Host.shrsi (broadcastInDim S256x1 ![0] bcast_S256_S256x1_0 ordV) (broadcastInDim S256x1 ![] bcast_S_S256x1 (constantI S_ 32 5#32))))
    (broadcastInDim S256x256 ![0, 1] bcast_S1x256_S256x256_0_1
      (Host.shrsi (broadcastInDim S1x256 ![1] bcast_S256_S1x256_1 (iotaInDim S256 32 0))
        (broadcastInDim S1x256 ![] bcast_S_S1x256 (constantI S_ 32 5#32))))

/-- The table of one tile. -/
def tabV : FVec Ideal S256x256 .f32 :=
  select sameV (select evenV (broadcastInDim S256x256 ![] bcast_S_S256x256 (constant S_ .f32 0x3E800000#32))
      (broadcastInDim S256x256 ![] bcast_S_S256x256 (constant S_ .f32 0xBE800000#32)))
    (broadcastInDim S256x256 ![] bcast_S_S256x256 (constant S_ .f32 0x00000000#32))

/-- The whole table over the vector of signs. -/
def signedV (x : FVec Ideal S16384 .f32) : FVec Ideal S256x16384 .bf16 :=
  truncf .bf16 (shapeCast S256x16384 (mulf
      (broadcastInDim S256x64x256 ![0, 1, 2] bcast_S256x1x256_S256x64x256_0_1_2
        (broadcastInDim S256x1x256 ![0, 2] bcast_S256x256_S256x1x256_0_2 (transpose S256x256 [1, 0] tabV transposes_S256x256_S256x256_1_0)))
      (broadcastInDim S256x64x256 ![0, 1, 2] bcast_S256x64x1_S256x64x256_0_1_2
        (broadcastInDim S256x64x1 ![0, 1] bcast_S256x64_S256x64x1_0_1
          (transpose S256x64 [1, 0] (shapeCast S64x256 x shapeCasts_S16384_S64x256) transposes_S64x256_S256x64_1_0))))
    shapeCasts_S256x64x256_S256x16384) bitsLt_bf16_f32

/-- The permutation of a tile's columns. -/
def permV : FVec Ideal S256x256 .bf16 :=
  uitofp .bf16 (cmpi .eq
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 ordV)))

variable (m : (ℓ : Loc nD τ sig) → Buf (Elt Ideal) ℓ)

theorem V_v58 (c : Dev nD) : V m c main_v58 = signedV (m ((c : Thread nD τ).loc main_arg1)) := by
  unfold V
  simp only [List.flatten_cons, List.flatten_nil, List.append_nil]
  after_reads_simp
  rfl

theorem V_v87 (c : Dev nD) : V m c main_v87 = permV := by
  unfold V
  simp only [List.flatten_cons, List.flatten_nil, List.append_nil]
  after_reads_simp
  rfl

/-! ## The tables at an index -/

/-- The column of its tile that column `p` is the transform of. -/
def ordN (p : Fin 256) : Fin 256 := ⟨32 * (p.val / 8 % 8) + (4 * (p.val % 8) + 2 * (p.val / 64 % 2) + p.val / 128), by omega⟩

theorem ordV_lane : ∀ p : Fin 256, IntOp.addi
    (IntOp.addi (IntOp.muli 32#32 (IntOp.andi (IntOp.shrsi .host (BitVec.ofNat 32 p.val) 3#32) 7#32)) (IntOp.muli 4#32 (IntOp.andi (BitVec.ofNat 32 p.val) 7#32)))
    (IntOp.addi (IntOp.muli 2#32 (IntOp.andi (IntOp.shrsi .host (BitVec.ofNat 32 p.val) 6#32) 1#32)) (IntOp.shrsi .host (BitVec.ofNat 32 p.val) 7#32))
      = BitVec.ofNat 32 (ordN p).val := by decide +kernel

theorem ordV_at (p : Fin 256) : ordV (ix1 p) = BitVec.ofNat 32 (ordN p).val := (Eq.refl _).trans (ordV_lane p)

theorem evenV_at (p q : Fin 256) : evenV (ix2 p q)
    = IntOp.cmpi .eq (IntOp.andi (IntOp.ctpop (IntOp.andi (IntOp.andi (ordV (ix1 p)) 31#32) (IntOp.andi (BitVec.ofNat 32 q.val) 31#32))) 1#32) 0#32 := by
  unfold evenV
  generalize ordV = o
  refine congrArg (fun z : BitVec 32 => IntOp.cmpi .eq (IntOp.andi (IntOp.ctpop (IntOp.andi (IntOp.andi z 31#32) (IntOp.andi (BitVec.ofNat 32 q.val) 31#32))) 1#32) 0#32) ?_
  exact congrArg o (funext fun a => match a with | ⟨0, _⟩ => rfl)

theorem sameV_at (p q : Fin 256) : sameV (ix2 p q)
    = IntOp.cmpi .eq (IntOp.shrsi .host (ordV (ix1 p)) 5#32) (IntOp.shrsi .host (BitVec.ofNat 32 q.val) 5#32) := by
  unfold sameV
  generalize ordV = o
  refine congrArg (fun z : BitVec 32 => IntOp.cmpi .eq (IntOp.shrsi .host z 5#32) (IntOp.shrsi .host (BitVec.ofNat 32 q.val) 5#32)) ?_
  exact congrArg o (funext fun a => match a with | ⟨0, _⟩ => rfl)

theorem tabV_at (p q : Fin 256) : tabV (ix2 p q)
    = Scalar.select (sameV (ix2 p q)) (Scalar.select (evenV (ix2 p q)) (cst 0x3E800000#32) (cst 0xBE800000#32)) (cst 0x00000000#32) := by
  rfl

/-- The scaled entry of the table. -/
theorem tabV_vs (p q : Fin 256) : tabV (ix2 p q) * vs
    = if (ordN p).val / 32 = q.val / 32 then had ⟨(ordN p).val % 32, by omega⟩ ⟨q.val % 32, by omega⟩ else 0 := by
  rw [tabV_at, sameV_at, evenV_at, ordV_at, col_low, col_high, col_low, col_high]
  have e := eq_block ⟨(ordN p).val / 32, by omega⟩ ⟨q.val / 32, by omega⟩
  rw [show IntOp.cmpi .eq (BitVec.ofNat 32 ((ordN p).val / 32)) (BitVec.ofNat 32 (q.val / 32)) = _ from e]
  by_cases h : (ordN p).val / 32 = q.val / 32
  · rw [if_pos (Fin.ext h), if_pos h]
    unfold had Scalar.select
    rw [if_pos (show (1#1 : BitVec 1) = 1 from rfl)]
    dsimp only
    generalize IntOp.cmpi .eq _ 0#32 = b
    by_cases hb : b = 1
    · rw [if_pos hb, if_pos hb, quarter_vs]
    · rw [if_neg hb, if_neg hb, neg_quarter_vs]
  · rw [if_neg (fun h' => h (congrArg Fin.val h')), if_neg h]
    unfold Scalar.select
    rw [if_neg (by decide), cst_zero, EReal.coe_zero, zero_mul]

theorem signedV_at (x : FVec Ideal S16384 .f32) (i : S256x16384.Idx) (T : Fin 64) (p q : Fin 256)
    (h0 : (i 0).val = q.val) (h1 : (i 1).val = 256 * T.val + p.val) :
    signedV x i = tabV (ix2 p q) * x (ix1 ⟨256 * T.val + q.val, by omega⟩) := by
  unfold signedV
  rw [truncf_at]
  generalize tabV = t
  refine (shapeCast_apply _ _ i (ix3 q T p) (by
    rw [eq_ix2 i, Shape.rowMajor_val_two, Shape.rowMajor_val_three]
    show (q.val * 64 + T.val) * 256 + p.val = (i 0).val * 16384 + (i 1).val
    rw [h0, h1]; ring)).trans ?_
  rw [mulf_at]
  refine congrArg₂ (fun a b : EReal => a * b) (congrArg t (funext fun a => ?_)) ?_
  · match a with
    | ⟨0, _⟩ => rfl
    | ⟨1, _⟩ => rfl
  · exact shapeCast_apply _ _ _ (ix1 _) (by
      rw [Shape.rowMajor_val_one, Shape.rowMajor_val_two]
      show 256 * T.val + q.val = T.val * 256 + q.val
      ring)

theorem permV_at (n p : Fin 256) : permV (ix2 n p) = if n = ordN p then (1 : EReal) else 0 := by
  have e : permV (ix2 n p) = ((((IntOp.cmpi .eq (BitVec.ofNat 32 n.val) (ordV (ix1 p))).toNat : ℝ)) : EReal) := by
    unfold permV
    generalize ordV = o
    refine congrArg (fun z : BitVec 32 => ((((IntOp.cmpi .eq (BitVec.ofNat 32 n.val) z).toNat : ℝ)) : EReal)) ?_
    exact congrArg o (funext fun a => match a with | ⟨0, _⟩ => rfl)
  rw [e, ordV_at]
  by_cases h : n = ordN p
  · rw [if_pos h, h]
    show (((BitVec.ofBool (BitVec.ofNat 32 (ordN p).val == BitVec.ofNat 32 (ordN p).val)).toNat : ℝ) : EReal) = 1
    rw [beq_self_eq_true, show (BitVec.ofBool true).toNat = 1 from rfl]
    norm_num
  · rw [if_neg h]
    have hb : (BitVec.ofNat 32 n.val == BitVec.ofNat 32 (ordN p).val) = false := by
      refine beq_eq_false_iff_ne.mpr fun h' => h (Fin.ext ?_)
      have := congrArg BitVec.toNat h'
      simp only [BitVec.toNat_ofNat] at this
      omega
    show (((BitVec.ofBool (BitVec.ofNat 32 n.val == BitVec.ofNat 32 (ordN p).val)).toNat : ℝ) : EReal) = 0
    rw [hb]
    norm_num

/-! ## The two products -/

theorem rotN_at (a : Vec Ideal S128x256 .bf16) (h : Vec Ideal S256x256 .bf16) (i : S128x256.Idx) :
    rotN a h i = ∑ k : Fin 256, (a (ix2 (i 0) k) : EReal) * (h (ix2 k (i 1)) : EReal) := by
  unfold rotN k0_pay4
  simp only [shapeCast_self, pointwise, zero_add]

theorem rndN_at (r : Vec Ideal S128x256 .i8) (p : Vec Ideal S256x256 .bf16) (i : S128x256.Idx) :
    rndN (F := Ideal) r p i = ∑ k : Fin 256, byteVal (r (ix2 (i 0) k)) * (p (ix2 k (i 1)) : EReal) := by
  unfold rndN k0_pay5
  simp only [shapeCast_self, pointwise, zero_add]
  rfl

/-- The random numbers of a tile are its bytes, permuted. -/
theorem rndN_perm (r : Vec Ideal S128x256 .i8) (P : Vec Ideal S256x256 .bf16) (hP : ∀ n p : Fin 256, P (ix2 n p) = permV (ix2 n p))
    (t : Fin 128) (p : Fin 256) : rndN (F := Ideal) r P (ix2 t p) = byteVal (r (ix2 t (ordN p))) := by
  rw [rndN_at]
  show ∑ k : Fin 256, byteVal (r (ix2 t k)) * (P (ix2 k p) : EReal) = _
  refine (Finset.sum_eq_single (ordN p) ?_ ?_).trans ?_
  · intro n _ hn
    rw [hP, permV_at, if_neg hn, mul_zero]
  · intro h; exact absurd (Finset.mem_univ _) h
  · rw [hP, permV_at, if_pos rfl, mul_one]

end Cert.NKernelIdeal.Table

end
-- ==== Proof.NRef.lean ====
/-
  The reference's results for the quantiser of dy along its columns, read at an index as the scalar functions of QuantScalar and QuantBlock.
-/
module

public import proofs.«01_k».proof.Proof.Gen.NReferenceIdeal.Read
public import proofs.«01_k».proof.Proof.QuantRef
public import Idealize.ShloMosaic.Lib.Pointwise

@[expose] public section

noncomputable section

open Idealize.ShloMosaic Cert.NReferenceIdeal

namespace Cert.NReferenceIdeal.Read

open Cert.Quant

variable (x0 : (⟨S3840x16384, .bf16⟩ : BufTy).Contents (Elt Ideal)) (x1 : (⟨S16384, .f32⟩ : BufTy).Contents (Elt Ideal))
variable (x2 : (⟨S3840x16384, .i8⟩ : BufTy).Contents (Elt Ideal))

theorem v19_at (i : S32x32.Idx) : val_main_v19 (F := Ideal) i = had (i 0) (i 1) := by
  simp only [val_main_v19_apply, val_main_v17_apply, val_main_v16_apply, val_main_c_0_apply, val_main_v15_apply, val_main_v14_apply, val_main_c_apply,
    val_main_v13_apply, val_main_v12_apply, val_main_v11_apply, val_main_v10_apply, val_main_v9_apply, val_main_v8_apply, val_main_v7_apply,
    val_main_v18_apply, val_main_cst_apply, val_main_call0_v0_apply, val_main_call0_v1_apply, val_main_cst_1_apply]
  rfl

/-- The rotated value of row `n` of block `b`, column `c`. -/
def rotV (b : Fin 512) (n : Fin 32) (c : Fin 3840) : EReal :=
  ∑ k : Fin 32, (x0 (ix2 c ⟨32 * b.val + k.val, by omega⟩) * x1 (ix1 ⟨32 * b.val + k.val, by omega⟩)) * had n k

theorem v6_at (i : S512x32x3840.Idx) :
    val_main_v6 (F := Ideal) x0 x1 i = x0 (ix2 (i 2) ⟨32 * (i 0).val + (i 1).val, by have h0 : (i 0).val < 512 := (i 0).isLt; have h1 : (i 1).val < 32 := (i 1).isLt; omega⟩)
      * x1 (ix1 ⟨32 * (i 0).val + (i 1).val, by have h0 : (i 0).val < 512 := (i 0).isLt; have h1 : (i 1).val < 32 := (i 1).isLt; omega⟩) := by
  simp only [val_main_v6_apply, val_main_v5_apply, val_main_v4_apply, val_main_v3_apply, val_main_v2_apply, val_main_v0_apply]
  have e : idx_main_v6 i = ix2 ⟨32 * (i 0).val + (i 1).val, by have h0 : (i 0).val < 512 := (i 0).isLt; have h1 : (i 1).val < 32 := (i 1).isLt; omega⟩ (i 2) := by
    have h0 : (i 0).val < 512 := (i 0).isLt
    have h1 : (i 1).val < 32 := (i 1).isLt
    have h2 : (i 2).val < 3840 := (i 2).isLt
    funext a
    match a with
    | ⟨0, _⟩ => exact Fin.ext (by show _ / _ = 32 * (i 0).val + (i 1).val; omega)
    | ⟨1, _⟩ => exact Fin.ext (by show _ % _ = (i 2).val; omega)
  rw [e]
  have e2 : idx_main_v3 (idx_main_v4 (ix2 ⟨32 * (i 0).val + (i 1).val, by have h0 : (i 0).val < 512 := (i 0).isLt; have h1 : (i 1).val < 32 := (i 1).isLt; omega⟩ (i 2)))
      = ix1 ⟨32 * (i 0).val + (i 1).val, by have h0 : (i 0).val < 512 := (i 0).isLt; have h1 : (i 1).val < 32 := (i 1).isLt; omega⟩ := by
    funext a
    match a with
    | ⟨0, _⟩ => rfl
  refine congrArg₂ (fun p q : EReal => p * q) (congrArg x0 (funext fun a => ?_)) (congrArg x1 e2)
  match a with
  | ⟨0, _⟩ => rfl
  | ⟨1, _⟩ => rfl

theorem v21_at (i : S512x32x3840.Idx) : val_main_v21 (F := Ideal) x0 x1 i = rotV x0 x1 (i 0) (i 1) (i 2) := by
  rw [val_main_v21_apply, val_main_v20_apply]
  unfold rotV
  refine Finset.sum_congr rfl fun k _ => ?_
  rw [v6_at, v19_at]
  rfl

/-- The largest magnitude of a block. -/
def rotA (b : Fin 512) (c : Fin 3840) : EReal := (Finset.univ : Finset (Fin 32)).fold max (cst 0xFF800000#32) (fun n => max (rotV x0 x1 b n c) (-rotV x0 x1 b n c))

theorem v23_at (i : S512x3840.Idx) : val_main_v23 (F := Ideal) x0 x1 i = rotA x0 x1 (i 0) (i 1) := by
  unfold val_main_v23
  rw [Host.reduce_eq_fold, Shape.ReducesTo.fold_fiber_r3_a1]
  unfold rotA
  refine Finset.fold_congr fun n _ => ?_
  rw [val_main_v22_apply, v21_at]
  rfl

theorem v34_at (i : S512x3840.Idx) : val_main_v34 (F := Ideal) x0 x1 i = rExp (val_main_v23 (F := Ideal) x0 x1 i) := by
  rw [val_main_v34_apply, val_main_v33_apply, val_main_v32_apply, val_main_v31_apply, val_main_v30_apply, val_main_v29_apply, val_main_v28_apply,
    val_main_v27_apply, val_main_v26_apply, val_main_v25_apply, val_main_v24_apply, val_main_call1_v1_apply, val_main_call1_v0_apply,
    val_main_cst_3_apply, val_main_cst_4_apply, val_main_cst_5_apply, val_main_cst_6_apply]
  generalize val_main_v23 (F := Ideal) x0 x1 i = y
  rfl

theorem v39_at (i : S512x3840.Idx) : val_main_v39 (F := Ideal) x0 x1 i = rScale (val_main_v23 (F := Ideal) x0 x1 i) := by
  rw [val_main_v39_apply, val_main_v38_apply, val_main_v37_apply, val_main_v36_apply, val_main_v35_apply, v34_at, val_main_cst_7_apply, val_main_cst_8_apply]
  generalize val_main_v23 (F := Ideal) x0 x1 i = y
  rfl

theorem v42_at (i : S512x32x3840.Idx) :
    val_main_v42 (F := Ideal) x0 x1 i = rotV x0 x1 (i 0) (i 1) (i 2) * rScale (rotA x0 x1 (i 0) (i 2)) := by
  rw [val_main_v42_apply, v21_at, val_main_v41_apply, val_main_v40_apply, v39_at, v23_at]
  rfl

/-- The uniform number of an element. -/
def rotU (b : Fin 512) (n : Fin 32) (c : Fin 3840) : EReal :=
  uOf (((BitVec.setWidth 32 (x2 (ix2 c ⟨32 * b.val + n.val, by omega⟩)) : BitVec 32).toInt : ℝ) : EReal)

theorem v61_at (i : S512x32x3840.Idx) : val_main_v61 (F := Ideal) x2 i = rotU x2 (i 0) (i 1) (i 2) := by
  simp only [val_main_v61_apply, val_main_v60_apply, val_main_v59_apply, val_main_v58_apply, val_main_v57_apply, val_main_v56_apply, val_main_v43_apply, val_main_v1_apply,
    val_main_cst_14_apply, val_main_cst_15_apply]
  have e : idx_main_v43 i = ix2 ⟨32 * (i 0).val + (i 1).val, by have h0 : (i 0).val < 512 := (i 0).isLt; have h1 : (i 1).val < 32 := (i 1).isLt; omega⟩ (i 2) := by
    have h0 : (i 0).val < 512 := (i 0).isLt
    have h1 : (i 1).val < 32 := (i 1).isLt
    have h2 : (i 2).val < 3840 := (i 2).isLt
    funext a
    match a with
    | ⟨0, _⟩ => exact Fin.ext (by show _ / _ = 32 * (i 0).val + (i 1).val; omega)
    | ⟨1, _⟩ => exact Fin.ext (by show _ % _ = (i 2).val; omega)
  rw [e]
  exact congrArg (fun z => uOf (((BitVec.setWidth 32 (x2 z) : BitVec 32).toInt : ℝ) : EReal)) (funext fun a => match a with
    | ⟨0, _⟩ => rfl
    | ⟨1, _⟩ => rfl)

theorem v50_at (i : S512x32x3840.Idx) : val_main_v50 (F := Ideal) x0 x1 i = rStep (val_main_v44 (F := Ideal) x0 x1 i) := by
  simp only [val_main_v50_apply, val_main_v49_apply, val_main_v48_apply, val_main_v47_apply, val_main_v46_apply, val_main_v45_apply,
    val_main_call2_v0_apply, val_main_call2_v1_apply, val_main_call3_v0_apply, val_main_cst_9_apply, val_main_cst_10_apply, val_main_cst_11_apply,
    val_main_cst_12_apply, val_main_cst_13_apply]
  rfl

theorem v53_at (i : S512x32x3840.Idx) : val_main_v53 (F := Ideal) x0 x1 i = rLow (val_main_v44 (F := Ideal) x0 x1 i) := by
  simp only [val_main_v53_apply, val_main_v52_apply, val_main_v51_apply, v50_at]
  rfl

theorem v64_at (i : S512x32x3840.Idx) :
    val_main_v64 (F := Ideal) x0 x1 x2 i = rGrid (val_main_v44 (F := Ideal) x0 x1 i) (rotU x2 (i 0) (i 1) (i 2)) := by
  simp only [val_main_v64_apply, val_main_v63_apply, val_main_v62_apply, val_main_v55_apply, val_main_v54_apply, v53_at, v50_at, v61_at]
  rfl

theorem v77_at (i : S512x32x3840.Idx) : val_main_v77 (F := Ideal) x0 x1 x2 i = rNum (val_main_v64 (F := Ideal) x0 x1 x2 i) := by
  simp only [val_main_v77_apply, val_main_v76_apply, val_main_v75_apply, val_main_v74_apply, val_main_v73_apply, val_main_v72_apply, val_main_v71_apply,
    val_main_v70_apply, val_main_v69_apply, val_main_v68_apply, val_main_v67_apply, val_main_v66_apply, val_main_v65_apply,
    val_main_call5_v0_apply, val_main_call5_v1_apply, val_main_call6_v0_apply, val_main_cst_16_apply, val_main_cst_17_apply, val_main_cst_18_apply,
    val_main_cst_19_apply, val_main_cst_20_apply, val_main_cst_21_apply, val_main_cst_22_apply]
  rfl

theorem v86_of (i : S512x32x3840.Idx) :
    val_main_v86 (F := Ideal) x0 x1 x2 i = signed (val_main_v42 (F := Ideal) x0 x1 i) (Ideal.fptosi 32 (val_main_v77 (F := Ideal) x0 x1 x2 i)) := by
  simp only [val_main_v86_apply, val_main_v85_apply, val_main_v84_apply, val_main_v83_apply, val_main_v82_apply, val_main_v81_apply, val_main_v80_apply,
    val_main_v79_apply, val_main_v78_apply, val_main_cst_23_apply, val_main_c_24_apply, val_main_c_25_apply]
  rfl

/-- The four-bit code of an element. -/
def rotCode (b : Fin 512) (n : Fin 32) (c : Fin 3840) : BitVec 32 :=
  signed (rotV x0 x1 b n c * rScale (rotA x0 x1 b c))
    (rIdx (max (rotV x0 x1 b n c * rScale (rotA x0 x1 b c)) (-(rotV x0 x1 b n c * rScale (rotA x0 x1 b c)))) (rotU x2 b n c))

theorem v86_at (i : S512x32x3840.Idx) : val_main_v86 (F := Ideal) x0 x1 x2 i = rotCode x0 x1 x2 (i 0) (i 1) (i 2) := by
  rw [v86_of, v77_at, v64_at, val_main_v44_apply, v42_at]
  rfl

theorem v121_at (i : S512x32x3840.Idx) : val_main_v121 (F := Ideal) x0 x1 x2 i = rMag (val_main_v86 (F := Ideal) x0 x1 x2 i) := by
  simp only [val_main_v121_apply, val_main_v120_apply, val_main_v119_apply, val_main_v118_apply, val_main_v117_apply, val_main_v116_apply, val_main_v115_apply,
    val_main_v114_apply, val_main_v113_apply, val_main_v112_apply, val_main_v111_apply, val_main_v110_apply, val_main_v109_apply, val_main_v108_apply,
    val_main_v107_apply, val_main_v106_apply, val_main_v105_apply, val_main_v104_apply, val_main_v103_apply, val_main_v102_apply, val_main_v101_apply,
    val_main_v100_apply, val_main_v99_apply, val_main_v98_apply, val_main_v97_apply, val_main_v96_apply, val_main_v95_apply, val_main_v94_apply,
    val_main_v93_apply, val_main_v92_apply, val_main_v91_apply,
    val_main_call9_v0_apply, val_main_call9_v1_apply, val_main_call10_v0_apply, val_main_call10_v1_apply, val_main_call12_v0_apply,
    val_main_call12_v1_apply, val_main_call13_v0_apply, val_main_call13_v1_apply,
    val_main_c_28_apply, val_main_c_29_apply, val_main_c_30_apply, val_main_c_31_apply, val_main_c_32_apply, val_main_c_33_apply, val_main_c_34_apply,
    val_main_c_35_apply, val_main_cst_36_apply, val_main_cst_37_apply, val_main_c_38_apply, val_main_cst_39_apply, val_main_cst_40_apply,
    val_main_c_41_apply, val_main_c_42_apply, val_main_cst_43_apply, val_main_cst_44_apply, val_main_c_45_apply, val_main_cst_46_apply, val_main_cst_47_apply]
  rfl

theorem v125_at (i : S512x32x3840.Idx) : val_main_v125 (F := Ideal) x0 x1 x2 i = rDecode (val_main_v86 (F := Ideal) x0 x1 x2 i) := by
  simp only [val_main_v125_apply, val_main_v124_apply, val_main_v123_apply, val_main_v122_apply, val_main_v90_apply, val_main_v89_apply, val_main_v88_apply,
    val_main_v87_apply, val_main_c_26_apply, val_main_c_27_apply, val_main_c_48_apply, v121_at]
  rfl

theorem v132_at (i : S512x32x3840.Idx) :
    val_main_v132 (F := Ideal) x0 x1 x2 i = rDecode (rotCode x0 x1 x2 (i 0) (i 1) (i 2)) * rBack (rotA x0 x1 (i 0) (i 2)) := by
  rw [val_main_v132_apply, val_main_v131_apply, val_main_v129_apply, v125_at, v86_at, val_main_v130_apply, val_main_v128_apply, val_main_v127_apply,
    val_main_v126_apply, val_main_cst_49_apply, v34_at, v23_at]
  rfl

/-! ## The results -/

theorem codes_at (i : S8192x3840.Idx) (b : Fin 512) (n0 n1 : Fin 32) (h0 : 32 * b.val + n0.val = 2 * (i 0).val) (h1 : n1.val = n0.val + 1) :
    val_main_v141 (F := Ideal) x0 x1 x2 i
      = (IntOp.ori (rotCode x0 x1 x2 b n0 (i 1)) (IntOp.shli .host (rotCode x0 x1 x2 b n1 (i 1)) 4#32)).setWidth 8 := by
  simp only [val_main_v141_apply, val_main_v140_apply, val_main_v139_apply, val_main_v138_apply, val_main_c_50_apply, val_main_v137_apply, val_main_v136_apply,
    val_main_v135_apply, val_main_v134_apply, val_main_v133_apply, v86_at]
  have hi0 : (i 0).val < 8192 := (i 0).isLt
  have hi1 : (i 1).val < 3840 := (i 1).isLt
  have a0 : ∀ n : Fin 32, 32 * b.val + n.val = 2 * (i 0).val → idx_main_v133 (idx_main_v134 (idx_main_v135 i)) = ix3 b n (i 1) := by
    intro n hn
    have := n.isLt
    funext a
    match a with
    | ⟨0, _⟩ => exact Fin.ext (by show _ / _ = b.val; dsimp; omega)
    | ⟨1, _⟩ => exact Fin.ext (by show _ / _ % _ = n.val; dsimp; omega)
    | ⟨2, _⟩ => exact Fin.ext (by show _ % _ = (i 1).val; dsimp; omega)
  have a1 : ∀ n : Fin 32, 32 * b.val + n.val = 2 * (i 0).val + 1 → idx_main_v133 (idx_main_v136 (idx_main_v137 i)) = ix3 b n (i 1) := by
    intro n hn
    have := n.isLt
    funext a
    match a with
    | ⟨0, _⟩ => exact Fin.ext (by show _ / _ = b.val; dsimp; omega)
    | ⟨1, _⟩ => exact Fin.ext (by show _ / _ % _ = n.val; dsimp; omega)
    | ⟨2, _⟩ => exact Fin.ext (by show _ % _ = (i 1).val; dsimp; omega)
  rw [a0 n0 h0, a1 n1 (by omega)]
  rfl

theorem vals_at (i : S16384x3840.Idx) (b : Fin 512) (n : Fin 32) (d p q g s : ℕ) (hp : p < 2) (hq : q < 2) (hg : g < 8) (hs : s < 8)
    (hi : (i 0).val = 256 * d + 128 * p + 64 * q + 8 * g + s) (hb : b.val = 8 * d + g) (hn : n.val = 4 * s + 2 * q + p) :
    val_main_v144 (F := Ideal) x0 x1 x2 i = rDecode (rotCode x0 x1 x2 b n (i 1)) * rBack (rotA x0 x1 b (i 1)) := by
  have hi0 : (i 0).val < 16384 := (i 0).isLt
  have hi1 : (i 1).val < 3840 := (i 1).isLt
  unfold val_main_v144
  let j : S64x2x2x8x8x3840.Idx := fun a => match a with
    | ⟨0, _⟩ => ⟨d, by show d < 64; omega⟩
    | ⟨1, _⟩ => ⟨p, hp⟩
    | ⟨2, _⟩ => ⟨q, hq⟩
    | ⟨3, _⟩ => ⟨g, hg⟩
    | ⟨4, _⟩ => ⟨s, hs⟩
    | ⟨5, _⟩ => ⟨(i 1).val, hi1⟩
  refine (shapeCast_apply _ _ i j (by
    rw [Shape.rowMajor_val_two, Shape.rowMajor_val_six]
    show ((((d * 2 + p) * 2 + q) * 8 + g) * 8 + s) * 3840 + (i 1).val = (i 0).val * 3840 + (i 1).val
    omega)).trans ?_
  rw [val_main_v143_apply]
  unfold val_main_v142
  refine (shapeCast_apply _ _ (idx_main_v143 j) (ix3 b n (i 1)) (by
    rw [Shape.rowMajor_val_three, Shape.rowMajor_val_six]
    show (b.val * 32 + n.val) * 3840 + (i 1).val = ((((d * 8 + g) * 8 + s) * 2 + q) * 2 + p) * 3840 + (i 1).val
    omega)).trans ?_
  exact v132_at x0 x1 x2 (ix3 b n (i 1))

theorem scales_at (i : S512x3840.Idx) : val_main_v146 (F := Ideal) x0 x1 i = (Ideal.fptosi 32 (rExp (rotA x0 x1 (i 0) (i 1)))).setWidth 8 := by
  rw [val_main_v146_apply, val_main_v145_apply, v34_at, v23_at]
  rfl

/-! ## The results, transposed -/

theorem codesT_at (i : S3840x8192.Idx) : val_main_v147 (F := Ideal) x0 x1 x2 i = val_main_v141 (F := Ideal) x0 x1 x2 (ix2 (i 1) (i 0)) := by
  rw [val_main_v147_apply]
  exact congrArg _ (eq_ix2 (idx_main_v147 i))

theorem scalesT_at (i : S3840x512.Idx) : val_main_v148 (F := Ideal) x0 x1 i = val_main_v146 (F := Ideal) x0 x1 (ix2 (i 1) (i 0)) := by
  rw [val_main_v148_apply]
  exact congrArg _ (eq_ix2 (idx_main_v148 i))

theorem valsT_at (i : S3840x16384.Idx) : val_main_v149 (F := Ideal) x0 x1 x2 i = val_main_v144 (F := Ideal) x0 x1 x2 (ix2 (i 1) (i 0)) := by
  rw [val_main_v149_apply]
  exact congrArg _ (eq_ix2 (idx_main_v149 i))

end Cert.NReferenceIdeal.Read

end
-- ==== Proof.NElement.lean ====
/-
  One tile of the quantiser along the columns: its scaled rotation is the reference's rotated value, its block maximum
  the reference's, and an element's code, decoded value and exponent are the reference's, for a block whose maximum is
  zero or in the range of the exponent.
-/
module

public import proofs.«01_k».proof.Proof.NTable
public import proofs.«01_k».proof.Proof.NRef
public import proofs.«01_k».proof.Proof.WElement

@[expose] public section

noncomputable section

open Idealize.ShloMosaic Idealize.ShloMosaic.TcCoe Idealize.SL.Sem

namespace Cert.NKernelIdeal.Table

open Cert.NKernelIdeal Cert.NKernelIdeal.Gen Cert.NKernelIdeal.Pay
open Cert.Quant hiding mag
open Cert.WKernelIdeal.Pay (byteVal)
open Cert.WKernelIdeal.Table (InRange real_of_mul real_of_abs uOf_byte sum_mul_vs term_vs max_mul_vs cst_bot)
open Cert.NReferenceIdeal.Read (rotV rotA rotU rotCode)

/-! ## Lanes of a tile -/

/-- The parts of the number of the element at lane `l` of half `b`. -/
theorem half_parts : ∀ (b : Fin 2) (l : Fin 128), (128 * b.val + l.val) / 8 % 8 = l.val % 64 / 8 ∧ (128 * b.val + l.val) % 8 = l.val % 8
    ∧ (128 * b.val + l.val) / 64 % 2 = l.val / 64 ∧ (128 * b.val + l.val) / 128 = b.val := by decide +kernel

/-- The parts of the lane of element `n` of block `g`. -/
theorem lane_parts : ∀ (n : Fin 32) (g : Fin 8), (64 * (n.val / 2 % 2) + 8 * g.val + n.val / 4) % 64 / 8 = g.val
    ∧ (64 * (n.val / 2 % 2) + 8 * g.val + n.val / 4) % 8 = n.val / 4 ∧ (64 * (n.val / 2 % 2) + 8 * g.val + n.val / 4) / 64 = n.val / 2 % 2 := by decide +kernel

variable (x0 : (⟨S3840x16384, .bf16⟩ : BufTy).Contents (Elt Ideal)) (x1 : (⟨S16384, .f32⟩ : BufTy).Contents (Elt Ideal))
variable (x2 : (⟨S3840x16384, .i8⟩ : BufTy).Contents (Elt Ideal))
variable (T : Fin 64) (t : Fin 128) (row : Fin 3840)

/-- Row `t` of a tile's rotation is, scaled, the rotated values of the array's row `row` in tile `T`. -/
def TileV (v : FVec Ideal S128x256 .f32) : Prop := ∀ p : Fin 256, (v (ix2 t p) : EReal) * vs
  = rotV x0 x1 ⟨8 * T.val + p.val / 8 % 8, by omega⟩ ⟨4 * (p.val % 8) + 2 * (p.val / 64 % 2) + p.val / 128, by omega⟩ row

/-- Row `t` of a tile's random numbers is the bytes of the array's row `row` in tile `T`, permuted. -/
def TileU (r : FVec Ideal S128x256 .f32) : Prop := ∀ p : Fin 256, (r (ix2 t p) : EReal) = byteVal (x2 (ix2 row ⟨256 * T.val + (ordN p).val, by omega⟩))

theorem rot_vs (a : Vec Ideal S128x256 .bf16) (h : Vec Ideal S256x256 .bf16)
    (ha : ∀ k : Fin 256, a (ix2 t k) = x0 (ix2 row ⟨256 * T.val + k.val, by omega⟩))
    (hh : ∀ k p : Fin 256, h (ix2 k p) = tabV (ix2 p k) * x1 (ix1 ⟨256 * T.val + k.val, by omega⟩)) : TileV x0 x1 T t row (rotN a h) := by
  intro p
  rw [rotN_at]
  show (∑ k : Fin 256, (a (ix2 t k) : EReal) * (h (ix2 k p) : EReal)) * vs = _
  unfold rotV
  rw [sum_mul_vs]
  symm
  have ho : (ordN p).val = 32 * (p.val / 8 % 8) + (4 * (p.val % 8) + 2 * (p.val / 64 % 2) + p.val / 128) := rfl
  have term : ∀ k : Fin 256, (a (ix2 t k) : EReal) * (h (ix2 k p) : EReal) * vs
      = (a (ix2 t k) : EReal) * x1 (ix1 ⟨256 * T.val + k.val, by omega⟩) * (tabV (ix2 p k) * vs) := by
    intro k
    rw [hh, ← term_vs]
    ac_rfl
  refine Fintype.sum_of_injective (fun k : Fin 32 => (⟨32 * (p.val / 8 % 8) + k.val, by omega⟩ : Fin 256)) ?_ _ _ ?_ ?_
  · intro a b hab
    have := congrArg Fin.val hab
    dsimp only at this
    exact Fin.ext (by omega)
  · intro k hk
    rw [term, tabV_vs, if_neg, mul_zero]
    intro he
    refine hk ⟨⟨k.val % 32, by omega⟩, Fin.ext ?_⟩
    show 32 * (p.val / 8 % 8) + k.val % 32 = k.val
    omega
  · intro k
    rw [term, ha, tabV_vs, if_pos (by dsimp only; omega)]
    refine congrArg₂ (fun a b : EReal => a * b) (congrArg₂ (fun a b : EReal => a * b) (congrArg x0 ?_) (congrArg x1 ?_)) (congrArg₂ had ?_ ?_)
    · exact congrArg (fun z => ix2 row z) (Fin.ext (by dsimp only; omega))
    · exact congrArg ix1 (Fin.ext (by dsimp only; omega))
    · exact Fin.ext (by dsimp only; omega)
    · exact Fin.ext (by dsimp only; omega)

variable (v r : FVec Ideal S128x256 .f32) (l : Fin 128)
variable (hv : TileV x0 x1 T t row v)
include hv

/-- The value at lane `l` of half `b`. -/
theorem at_vs (b : Fin 2) : (v (ix2 t (⟨128 * b.val + l.val, by omega⟩ : Fin 256)) : EReal) * vs
    = rotV x0 x1 ⟨8 * T.val + l.val % 64 / 8, by omega⟩ ⟨4 * (l.val % 8) + 2 * (l.val / 64) + b.val, by omega⟩ row := by
  rw [hv]
  obtain ⟨h1, h2, h3, h4⟩ := half_parts b l
  refine congrArg₂ (fun p q => rotV x0 x1 p q row) (Fin.ext ?_) (Fin.ext ?_)
  · dsimp only; omega
  · dsimp only; omega

theorem mag_vs (b : Fin 2) : mag v t ⟨128 * b.val + l.val, by omega⟩ * vs
    = max (rotV x0 x1 ⟨8 * T.val + l.val % 64 / 8, by omega⟩ ⟨4 * (l.val % 8) + 2 * (l.val / 64) + b.val, by omega⟩ row)
      (-rotV x0 x1 ⟨8 * T.val + l.val % 64 / 8, by omega⟩ ⟨4 * (l.val % 8) + 2 * (l.val / 64) + b.val, by omega⟩ row) := by
  unfold mag
  rw [max_mul_vs, EReal.neg_mul, at_vs x0 x1 T t row v l hv]

omit hv in
theorem tree_mul_vs (f : Fin 128 → EReal) : tree f l * vs = tree (fun k => f k * vs) l := by
  unfold tree
  simp only [max_mul_vs]

theorem top_vs : tileMax v t l = rotA x0 x1 ⟨8 * T.val + l.val % 64 / 8, by omega⟩ row := by
  unfold tileMax top rotA
  rw [tree_mul_vs]
  refine eq_of_forall_ge_iff fun c => ?_
  rw [tree_le, Finset.fold_max_le, cst_bot]
  have e0 := fun k => mag_vs x0 x1 T t row v k hv 0
  have e1 := fun k => mag_vs x0 x1 T t row v k hv 1
  constructor
  · intro H
    refine ⟨bot_le, fun n _ => ?_⟩
    obtain ⟨p1, p2, p3⟩ := lane_parts n ⟨l.val % 64 / 8, by omega⟩
    dsimp only at p1 p2 p3
    have lk : 64 * (n.val / 2 % 2) + 8 * (l.val % 64 / 8) + n.val / 4 < 128 := by omega
    have hs := H ⟨_, lk⟩ (by dsimp only; omega)
    rw [max_mul_vs, max_le_iff] at hs
    have hb : n.val % 2 = 0 ∨ n.val % 2 = 1 := by omega
    rcases hb with hb | hb
    · refine le_of_eq_of_le ?_ hs.1
      refine Eq.trans ?_ (e0 ⟨_, lk⟩).symm
      have eb : (⟨8 * T.val + l.val % 64 / 8, by omega⟩ : Fin 512)
        = ⟨8 * T.val + (64 * (n.val / 2 % 2) + 8 * (l.val % 64 / 8) + n.val / 4) % 64 / 8, by omega⟩ := Fin.ext (by dsimp only; omega)
      have en : n = (⟨4 * ((64 * (n.val / 2 % 2) + 8 * (l.val % 64 / 8) + n.val / 4) % 8)
        + 2 * ((64 * (n.val / 2 % 2) + 8 * (l.val % 64 / 8) + n.val / 4) / 64) + 0, by omega⟩ : Fin 32) := Fin.ext (by dsimp only; omega)
      exact congrArg₂ (fun p q => max (rotV x0 x1 p q row) (-rotV x0 x1 p q row)) eb en
    · refine le_of_eq_of_le ?_ hs.2
      refine Eq.trans ?_ (e1 ⟨_, lk⟩).symm
      have eb : (⟨8 * T.val + l.val % 64 / 8, by omega⟩ : Fin 512)
        = ⟨8 * T.val + (64 * (n.val / 2 % 2) + 8 * (l.val % 64 / 8) + n.val / 4) % 64 / 8, by omega⟩ := Fin.ext (by dsimp only; omega)
      have en : n = (⟨4 * ((64 * (n.val / 2 % 2) + 8 * (l.val % 64 / 8) + n.val / 4) % 8)
        + 2 * ((64 * (n.val / 2 % 2) + 8 * (l.val % 64 / 8) + n.val / 4) / 64) + 1, by omega⟩ : Fin 32) := Fin.ext (by dsimp only; omega)
      exact congrArg₂ (fun p q => max (rotV x0 x1 p q row) (-rotV x0 x1 p q row)) eb en
  · rintro ⟨-, H⟩ k hk
    have eb : (⟨8 * T.val + k.val % 64 / 8, by omega⟩ : Fin 512) = ⟨8 * T.val + l.val % 64 / 8, by omega⟩ := Fin.ext (by dsimp only; omega)
    rw [max_mul_vs, max_le_iff]
    constructor
    · refine le_of_eq_of_le (e0 k) ?_
      rw [eb]
      exact H _ (Finset.mem_univ _)
    · refine le_of_eq_of_le (e1 k) ?_
      rw [eb]
      exact H _ (Finset.mem_univ _)

omit hv in
theorem rotV_le (b : Fin 512) (n : Fin 32) (c : Fin 3840) : max (rotV x0 x1 b n c) (-rotV x0 x1 b n c) ≤ rotA x0 x1 b c := by
  unfold rotA
  exact (Finset.le_fold_max _).mpr (Or.inr ⟨n, Finset.mem_univ _, le_rfl⟩)

theorem tile_exp (hr : ∀ b c, InRange (rotA x0 x1 b c)) :
    kExp (tileMax v t l) = Ideal.fptosi 32 (rExp (rotA x0 x1 ⟨8 * T.val + l.val % 64 / 8, by omega⟩ row)) := by
  rw [top_vs x0 x1 T t row v l hv]
  obtain ⟨a, e, h0, h1⟩ := hr ⟨8 * T.val + l.val % 64 / 8, by omega⟩ row
  rw [e]
  exact exp_eq a h0 h1

variable (hu : TileU x2 T t row r)
include hu

theorem tile_element (β : Fin 2) (b : Fin 512) (n : Fin 32) (hb : b.val = 8 * T.val + l.val % 64 / 8)
    (hn : n.val = 4 * (l.val % 8) + 2 * (l.val / 64) + β.val) (hr : InRange (rotA x0 x1 b row)) :
    ∃ z < 16, tileCode v r t l β = BitVec.ofNat 32 z ∧ rotCode x0 x1 x2 b n row = BitVec.ofNat 32 z
      ∧ tileVal v r t l β = rDecode (BitVec.ofNat 32 z) * rBack (rotA x0 x1 b row) := by
  have lb : 8 * T.val + l.val % 64 / 8 < 512 := by omega
  have ln : 4 * (l.val % 8) + 2 * (l.val / 64) + β.val < 32 := by omega
  obtain rfl : b = ⟨8 * T.val + l.val % 64 / 8, lb⟩ := Fin.ext hb
  obtain rfl : n = ⟨4 * (l.val % 8) + 2 * (l.val / 64) + β.val, ln⟩ := Fin.ext hn
  have lp : 128 * β.val + l.val < 256 := by omega
  have hp := at_vs x0 x1 T t row v l hv β
  have ht : tileMax v t l = rotA x0 x1 ⟨8 * T.val + l.val % 64 / 8, lb⟩ row := top_vs x0 x1 T t row v l hv
  have hU := hu ⟨128 * β.val + l.val, lp⟩
  have eU : rotU x2 ⟨8 * T.val + l.val % 64 / 8, lb⟩ ⟨4 * (l.val % 8) + 2 * (l.val / 64) + β.val, ln⟩ row
      = uOf (r (ix2 t (⟨128 * β.val + l.val, lp⟩ : Fin 256))) := by
    rw [hU]
    unfold rotU byteVal
    refine congrArg (fun z => uOf (((BitVec.setWidth 32 (x2 (ix2 row z)) : BitVec 32).toInt : ℝ) : EReal)) (Fin.ext ?_)
    obtain ⟨h1, h2, h3, h4⟩ := half_parts β l
    unfold ordN
    dsimp only
    omega
  obtain ⟨a, ea, ha0, ha1⟩ := hr
  obtain ⟨w, hw, ew⟩ := vs_pos
  obtain ⟨x, ex, hxa⟩ := real_of_abs ((rotV_le x0 x1 ⟨8 * T.val + l.val % 64 / 8, lb⟩ ⟨4 * (l.val % 8) + 2 * (l.val / 64) + β.val, ln⟩ row).trans (le_of_eq ea))
  rw [ex, ew] at hp
  obtain ⟨s, es, rfl⟩ := real_of_mul hw hp
  have htop : top v t l * (w : EReal) = (a : EReal) := by rw [← ew, ← ea]; exact ht
  obtain ⟨A, eA, rfl⟩ := real_of_mul hw htop
  obtain ⟨u, eu, hu0, hu1⟩ := uOf_byte (x2 (ix2 row ⟨256 * T.val + (ordN ⟨128 * β.val + l.val, lp⟩).val, by omega⟩))
  rw [← hU] at eu
  obtain ⟨z, hz, c1, c2, c3⟩ := element s A w (w * A) u hw ew (mul_comm w A) hxa ha0 ha1 hu0 hu1
  have hm : mag v t ⟨128 * β.val + l.val, lp⟩ = ((|s| : ℝ) : EReal) := by
    unfold mag
    rw [es, ← EReal.coe_neg, ← EReal.coe_strictMono.monotone.map_max]
    rfl
  refine ⟨z, hz, ?_, ?_, ?_⟩
  · unfold tileCode
    rw [ht, ea, hm, es, eu, c1]
  · unfold rotCode
    rw [eU, eu, ex, ea, c2]
  · unfold tileVal
    rw [ht, ea, hm, es, eu, c3]

end Cert.NKernelIdeal.Table

end
-- ==== Proof.NStore.lean ====
/-
  A tile's codes, decoded values and exponents along the columns are the reference's, for gradients whose blocks are all
  in range.
-/
module

public import proofs.«01_k».proof.Proof.NElement

@[expose] public section

noncomputable section

open Idealize.ShloMosaic Idealize.ShloMosaic.TcCoe Idealize.SL.Sem

namespace Cert.NKernelIdeal.Table

open Cert.NKernelIdeal Cert.NKernelIdeal.Gen Cert.NKernelIdeal.Pay
open Cert.Quant hiding mag
open Cert.WKernelIdeal.Pay (pair)
open Cert.WKernelIdeal.Table (InRange)
open Cert.NReferenceIdeal.Read (rotV rotA rotU rotCode codes_at vals_at scales_at codesT_at valsT_at scalesT_at val_main_v147 val_main_v148 val_main_v149)

/-- The parts of the lane the codes of column `l` are at. -/
theorem from4_parts : ∀ l : Fin 128, (from4 l).val % 64 / 8 = l.val / 16 ∧ 4 * ((from4 l).val % 8) + 2 * ((from4 l).val / 64) = 2 * (l.val % 16) := by
  decide +kernel

/-- The block the exponent of column `l` is of. -/
theorem from5_parts : ∀ l : Fin 128, (from5 l).val % 64 / 8 = l.val % 8 := by decide +kernel

/-- The lane and the half of element `p`. -/
theorem lane_half : ∀ p : Fin 256, p.val % 128 % 64 / 8 = p.val / 8 % 8 ∧ p.val % 128 % 8 = p.val % 8 ∧ p.val % 128 / 64 = p.val / 64 % 2
    ∧ p.val = 128 * (p.val / 128) + 64 * (p.val / 64 % 2) + 8 * (p.val / 8 % 8) + p.val % 8 := by decide +kernel

variable (x0 : (⟨S3840x16384, .bf16⟩ : BufTy).Contents (Elt Ideal)) (x1 : (⟨S16384, .f32⟩ : BufTy).Contents (Elt Ideal))
variable (x2 : (⟨S3840x16384, .i8⟩ : BufTy).Contents (Elt Ideal))
variable (T : Fin 64) (t : Fin 128) (row : Fin 3840) (v r : FVec Ideal S128x256 .f32)

variable (hv : TileV x0 x1 T t row v) (hu : TileU x2 T t row r) (hr : ∀ b c, InRange (rotA x0 x1 b c))

include hv hr in
theorem store_exp (l : Fin 128) (i : S3840x512.Idx) (h0 : i 0 = row) (h1 : (i 1).val = 8 * T.val + l.val % 8) :
    (kExp (tileMax v t (from5 l))).setWidth 8 = val_main_v148 (F := Ideal) x0 x1 i := by
  have lb : 8 * T.val + l.val % 8 < 512 := by omega
  have e1 : i 1 = (⟨8 * T.val + l.val % 8, lb⟩ : Fin 512) := Fin.ext h1
  have e : (⟨8 * T.val + (from5 l).val % 64 / 8, by rw [from5_parts]; exact lb⟩ : Fin 512) = ⟨8 * T.val + l.val % 8, lb⟩ :=
    Fin.ext (congrArg (8 * T.val + ·) (from5_parts l))
  rw [tile_exp x0 x1 T t row v (from5 l) hv hr, scalesT_at, scales_at, e]
  show _ = (Ideal.fptosi 32 (rExp (rotA x0 x1 (i 1) (i 0)))).setWidth 8
  rw [e1, h0]

include hv hu hr

/-- The code of an element is the reference's. -/
theorem tile_code (l : Fin 128) (β : Fin 2) (b : Fin 512) (n : Fin 32) (hb : b.val = 8 * T.val + l.val % 64 / 8)
    (hn : n.val = 4 * (l.val % 8) + 2 * (l.val / 64) + β.val) : tileCode v r t l β = rotCode x0 x1 x2 b n row := by
  obtain ⟨z, -, c1, c2, -⟩ := tile_element x0 x1 x2 T t row v r l hv hu β b n hb hn (hr _ _)
  exact c1.trans c2.symm

theorem store_codes (l : Fin 128) (i : S3840x8192.Idx) (h0 : i 0 = row) (h1 : (i 1).val = 128 * T.val + l.val) :
    codesOf v r (ix2 t l) = val_main_v147 (F := Ideal) x0 x1 x2 i := by
  obtain ⟨p0, p1⟩ := from4_parts l
  have lb : 8 * T.val + l.val / 16 < 512 := by omega
  have l0 : 2 * (l.val % 16) < 32 := by omega
  have l1 : 2 * (l.val % 16) + 1 < 32 := by omega
  have C := fun (β : Fin 2) (n : Fin 32) hn => tile_code x0 x1 x2 T t row v r hv hu hr (from4 l) β ⟨8 * T.val + l.val / 16, lb⟩ n (by rw [p0]) hn
  rw [codesOf_at, C 0 ⟨_, l0⟩ (by rw [p1]; rfl), C 1 ⟨_, l1⟩ (by rw [p1]; rfl), codesT_at,
    codes_at x0 x1 x2 _ ⟨8 * T.val + l.val / 16, lb⟩ ⟨_, l0⟩ ⟨_, l1⟩ (by show _ = 2 * (i 1).val; rw [h1]; dsimp only; omega) rfl]
  show _ = pair (rotCode x0 x1 x2 _ _ (i 0)) (rotCode x0 x1 x2 _ _ (i 0))
  rw [h0]

theorem store_vals (p : Fin 256) (i : S3840x16384.Idx) (h0 : i 0 = row) (h1 : (i 1).val = 256 * T.val + p.val) :
    valsOf v r (ix2 t p) = val_main_v149 (F := Ideal) x0 x1 x2 i := by
  obtain ⟨q0, q1, q2, q3⟩ := lane_half p
  have lb : 8 * T.val + p.val / 8 % 8 < 512 := by omega
  have ln : 4 * (p.val % 8) + 2 * (p.val / 64 % 2) + p.val / 128 < 32 := by omega
  have lp : p.val / 128 < 2 := by omega
  obtain ⟨z, hz, -, c2, c3⟩ := tile_element x0 x1 x2 T t row v r ⟨p.val % 128, by omega⟩ hv hu ⟨p.val / 128, lp⟩ ⟨_, lb⟩ ⟨_, ln⟩
    (by dsimp only; rw [q0]) (by dsimp only; rw [q1, q2]) (hr _ _)
  have eP : p = ⟨128 * (p.val / 128) + p.val % 128, by omega⟩ := Fin.ext (by dsimp only; omega)
  rw [show valsOf v r (ix2 t p) = _ from (congrArg (fun p => valsOf v r (ix2 t p)) eP).trans (valsOf_at v r t ⟨p.val % 128, by omega⟩ ⟨p.val / 128, lp⟩), c3,
    valsT_at, vals_at x0 x1 x2 _ ⟨_, lb⟩ ⟨_, ln⟩ T.val (p.val / 128) (p.val / 64 % 2) (p.val / 8 % 8) (p.val % 8) (by omega) (by omega) (by omega) (by omega)
    (by show (i 1).val = _; omega) (by dsimp only) (by dsimp only)]
  show _ = rDecode (rotCode x0 x1 x2 _ _ (i 0)) * rBack (rotA x0 x1 _ (i 0))
  rw [h0, c2]

end Cert.NKernelIdeal.Table

end
-- ==== Proof.NRange.lean ====
/-
  The precondition of the quantiser, read element by element: every block's largest rotated magnitude is zero or in
  range.
-/
module

public import proofs.«01_k».proof.Pre_in_range_dy_n
public import proofs.«01_k».proof.Proof.NElement

@[expose] public section

noncomputable section

open Idealize.ShloMosaic

namespace Cert.Pre_in_range_dy_n

open Cert.Quant
open Cert.WKernelIdeal.Pay (mulf_at)
open Cert.WKernelIdeal.Table (InRange)
open Cert.NReferenceIdeal.Read (rotV rotA)

variable [Facts]
open Facts

variable (x0 : FVec Ideal S3840x16384 .bf16) (x1 : FVec Ideal S16384 .f32) (x2 : IVec S3840x16384 8)

/-- The gradients, transposed. -/
def turned : FVec Ideal S16384x3840 .bf16 := transpose S16384x3840 [1, 0] x0 transposes_S3840x16384_S16384x3840_1_0

theorem turned_at (i : Fin 16384) (c : Fin 3840) : turned x0 (ix2 i c) = x0 (ix2 c i) := by
  unfold turned
  refine congrArg x0 (funext fun a => ?_)
  match a with
  | ⟨0, _⟩ => rfl
  | ⟨1, _⟩ => rfl

/-- The signed gradients, block by block. -/
def signedW : FVec Ideal S512x1x32x3840 .f32 :=
  shapeCast S512x1x32x3840 (mulf ((extf .f32 · bitsLt_bf16_f32) (turned x0))
    (broadcastInDim S16384x3840 ![0, 1] bcast_S16384x1_S16384x3840_0_1 (broadcastInDim S16384x1 ![0] bcast_S16384_S16384x1_0 x1)))
    shapeCasts_S16384x3840_S512x1x32x3840

/-- The sign matrix. -/
def signs : FVec Ideal S32x32 .f32 :=
  fn_where (F := Ideal) (cmpi .eq (andi (ctpop (andi
      (broadcastInDim S32x32 ![0, 1] bcast_S32x1_S32x32_0_1 (broadcastInDim S32x1 ![0] bcast_S32_S32x1_0 (iotaInDim S32 32 0)))
      (broadcastInDim S32x32 ![0, 1] bcast_S1x32_S32x32_0_1 (broadcastInDim S1x32 ![1] bcast_S32_S1x32_1 (iotaInDim S32 32 0)))))
      (broadcastInDim S32x32 ![] bcast_S_S32x32 (constantI S_ 32 1#32))) (broadcastInDim S32x32 ![] bcast_S_S32x32 (constantI S_ 32 0#32)))
    (constant S_ .f32 0x3E3504F3#32) (Host.negf (constant S_ .f32 0x3E3504F3#32))

/-- The products a rotated value is the sum of. -/
def terms : FVec Ideal S512x32x32x3840 .f32 :=
  mulf (broadcastInDim S512x32x32x3840 ![0, 1, 2, 3] bcast_S1x32x32x1_S512x32x32x3840_0_1_2_3
      (broadcastInDim S1x32x32x1 ![1, 2] bcast_S32x32_S1x32x32x1_1_2 signs))
    (broadcastInDim S512x32x32x3840 ![0, 1, 2, 3] bcast_S512x1x32x3840_S512x32x32x3840_0_1_2_3 (signedW x0 x1))

/-- The rotated values. -/
def rotated : FVec Ideal S512x32x3840 .f32 :=
  Host.reduceAdd (terms x0 x1) (constant S_ .f32 0x00000000#32) reducesTo_S512x32x32x3840_S512x32x3840_d2 h_S_

theorem block_max_eq : fn_block_max (F := Ideal) (turned x0) x1
    = Host.reduce FloatOps.maximumf (Host.absf (rotated x0 x1)) (constant S_ .f32 0xFF800000#32) reducesTo_S512x32x3840_S512x3840_d1 h_S_ := by
  with_unfolding_all rfl

theorem signs_at (n k : Fin 32) : signs (ix2 n k) = had n k := by
  rfl

theorem signedW_at (b : Fin 512) (k : Fin 32) (c : Fin 3840) : signedW x0 x1 (ix4 b (0 : Fin 1) k c)
    = x0 (ix2 c ⟨32 * b.val + k.val, by omega⟩) * x1 (ix1 ⟨32 * b.val + k.val, by omega⟩) := by
  unfold signedW
  refine (shapeCast_apply _ _ _ (ix2 (⟨32 * b.val + k.val, by omega⟩ : Fin 16384) c) (by
    rw [Shape.rowMajor_val_two, Shape.rowMajor_val_four]
    show (32 * b.val + k.val) * 3840 + c.val = ((b.val * 1 + 0) * 32 + k.val) * 3840 + c.val
    ring)).trans ?_
  refine congrArg₂ (fun p q : EReal => p * q) (turned_at x0 _ c) (congrArg x1 (funext fun a => ?_))
  match a with
  | ⟨0, _⟩ => rfl

theorem rotated_at (b : Fin 512) (n : Fin 32) (c : Fin 3840) : rotated x0 x1 (ix3 b n c) = rotV x0 x1 b n c := by
  unfold rotated
  rw [Host.reduceAdd_apply, Ideal.hostReduceAdd_def, Ideal.hostReduceAdd_r4_a2,
    show constant (F := Ideal) S_ .f32 0x00000000#32 (Shape.Idx.first h_S_) = ((0 : ℝ) : EReal) from cst_zero, EReal.coe_zero, zero_add]
  unfold rotV
  refine Finset.sum_congr rfl fun k _ => ?_
  refine Eq.trans (b := had n k * signedW x0 x1 (ix4 b (0 : Fin 1) k c)) ?_ (by rw [signedW_at, mul_comm])
  unfold terms
  rw [mulf_at]
  refine congrArg₂ (fun p q : EReal => p * q) ?_ (congrArg (signedW x0 x1) (funext fun a => ?_))
  · exact signs_at n k
  · fin_cases a <;> rfl

theorem block_max_at (b : Fin 512) (c : Fin 3840) : fn_block_max (F := Ideal) (turned x0) x1 (ix2 b c) = rotA x0 x1 b c := by
  rw [block_max_eq, Host.reduce_eq_fold, Shape.ReducesTo.fold_fiber_r3_a1]
  unfold rotA
  refine Finset.fold_congr fun n _ => ?_
  show max (rotated x0 x1 (ix3 b n c)) (-rotated x0 x1 (ix3 b n c)) = _
  rw [rotated_at]

/-! ## The predicate -/

/-- The least positive maximum in range. -/
theorem cst_low : cst 0x02000000#32 = (((2 : ℝ) ^ (-123 : ℤ) : ℝ) : EReal) := by
  rw [cst_of _ 4 0 (by decide) (by decide) (by decide) (by norm_num) (by norm_num)]
  refine congrArg (fun t : ℝ => (t : EReal)) ?_
  norm_num

/-- Half the bound of a maximum. -/
theorem cst_high : cst 0x7F000000#32 = (((2 : ℝ) ^ (127 : ℤ) : ℝ) : EReal) := by
  rw [cst_of _ 254 0 (by decide) (by decide) (by decide) (by norm_num) (by norm_num)]
  refine congrArg (fun t : ℝ => (t : EReal)) ?_
  norm_num

theorem bits (p q r : BitVec 1) (h : IntOp.ori p (IntOp.andi q r) = 1#1) : p = 1#1 ∨ (q = 1#1 ∧ r = 1#1) := by
  revert p q r; decide

theorem of_decide {P : Prop} [Decidable P] (h : BitVec.ofBool (decide P) = 1#1) : P := by
  by_contra hp
  rw [decide_eq_false hp] at h
  exact absurd h (by decide)

open Cert.WKernelIdeal.Table (InRange) in
/-- Where the predicate holds, the maximum is in range. -/
theorem in_range (a : EReal) (h : IntOp.ori (Ideal.cmp .oeq a (cst 0x00000000#32))
      (IntOp.andi (Ideal.cmp .oge a (cst 0x02000000#32)) (Ideal.cmp .olt (cst 0x3F000000#32 * a) (cst 0x7F000000#32))) = 1#1) : InRange a := by
  rw [cst_zero, cst_low, cst_high, cst_half] at h
  rcases bits _ _ _ h with h0 | ⟨h1, h2⟩
  · exact ⟨0, of_decide h0, Or.inl rfl, by positivity⟩
  · have h1 : (((2 : ℝ) ^ (-123 : ℤ) : ℝ) : EReal) ≤ a := of_decide h1
    have h2 : ((1 / 2 : ℝ) : EReal) * a < (((2 : ℝ) ^ (127 : ℤ) : ℝ) : EReal) := of_decide h2
    clear h
    induction a with
    | bot => exact absurd h1 (not_le.mpr (EReal.bot_lt_coe _))
    | top => rw [EReal.coe_mul_top_of_pos (by norm_num)] at h2; exact absurd h2 not_top_lt
    | coe r =>
      refine ⟨r, rfl, Or.inr (EReal.coe_le_coe_iff.mp h1), ?_⟩
      rw [← EReal.coe_mul, EReal.coe_lt_coe_iff] at h2
      have e : (2 : ℝ) ^ (128 : ℤ) = 2 * 2 ^ (127 : ℤ) := by norm_num
      rw [e]; linarith

theorem cmpf_at {s : Shape} {φ : FTy} (p : CmpFPredicate) (x y : FVec Ideal s φ) (i : s.Idx) : cmpf p x y i = Ideal.cmp p (x i) (y i) := rfl
theorem ori_at {s : Shape} {n : ℕ} (x y : IVec s n) (i : s.Idx) : ori x y i = IntOp.ori (x i) (y i) := rfl
theorem andi_at {s : Shape} {n : ℕ} (x y : IVec s n) (i : s.Idx) : andi x y i = IntOp.andi (x i) (y i) := rfl
theorem const_at {φ : FTy} (b : BitVec φ.bits) (i : S512x3840.Idx) : broadcastInDim S512x3840 ![] bcast_S_S512x3840 (constant (F := Ideal) S_ φ b) i = Ideal.ofBits φ b := rfl

theorem fn_at (i : S512x3840.Idx) : fn (F := Ideal) x0 x1 x2 i
    = IntOp.ori (Ideal.cmp .oeq (fn_block_max (F := Ideal) (turned x0) x1 i) (cst 0x00000000#32))
      (IntOp.andi (Ideal.cmp .oge (fn_block_max (F := Ideal) (turned x0) x1 i) (cst 0x02000000#32))
        (Ideal.cmp .olt (cst 0x3F000000#32 * fn_block_max (F := Ideal) (turned x0) x1 i) (cst 0x7F000000#32))) := by
  unfold fn
  dsimp only
  rw [show (transpose S16384x3840 [1, 0] x0 transposes_S3840x16384_S16384x3840_1_0 : FVec Ideal S16384x3840 .bf16) = turned x0 from rfl]
  generalize fn_block_max (F := Ideal) (turned x0) x1 = y
  rw [ori_at, andi_at, cmpf_at, cmpf_at, cmpf_at, mulf_at, const_at, const_at, const_at, const_at]

/-- The predicate puts every block in range. -/
theorem inRange_of_fn (h : fn (F := Ideal) x0 x1 x2 = fun _ => 1#1) (b : Fin 512) (c : Fin 3840) : InRange (rotA x0 x1 b c) := by
  have := congrFun h (ix2 b c)
  rw [fn_at, block_max_at] at this
  exact in_range _ this

end Cert.Pre_in_range_dy_n

end
-- ==== Proof.NValue.lean ====
/-
  The quantiser along the columns over the reals: the three arrays the kernel leaves are the reference's, for gradients
  whose blocks are all in range.
-/
module

public import proofs.«01_k».proof.Proof.NStore
public import proofs.«01_k».proof.Proof.NRange
public import proofs.«01_k».proof.Proof.Gen.NKernelIdeal.Value

@[expose] public section

noncomputable section

open Idealize.ShloMosaic Idealize.ShloMosaic.TcCoe Idealize.SL.Sem
open Idealize.ShloMosaic.Pipeline (Dat)

namespace Cert.NKernelIdeal.Value

open Cert.NKernelIdeal Cert.NKernelIdeal.Gen Cert.NKernelIdeal.Pay Cert.NKernelIdeal.Table
open Cert.Quant hiding mag
open Cert.WKernelIdeal.Table (InRange)
open Cert.NReferenceIdeal.Read (rotA val_main_v147 val_main_v148 val_main_v149)

variable (m : (ℓ : Loc nD τ sig) → Buf (Elt Ideal) ℓ)

/-! ## The blocks as parts of the arrays -/

/-- Which block of each array a grid point reads and writes: row block `t % 30` and column block `t / 30`, and the
    table's column block `t / 30`. -/
theorem idx_facts : ∀ t : Fin cfg0.N, win0_0.index t (0 : Fin 2) = t.val % 30 ∧ win0_0.index t (1 : Fin 2) = t.val / 30
    ∧ win0_1.index t (0 : Fin 2) = t.val % 30 ∧ win0_1.index t (1 : Fin 2) = t.val / 30
    ∧ win0_2.index t (0 : Fin 2) = 0 ∧ win0_2.index t (1 : Fin 2) = t.val / 30
    ∧ win0_3.index t (0 : Fin 2) = 0 ∧ win0_3.index t (1 : Fin 2) = 0
    ∧ win0_4.index t (0 : Fin 2) = t.val % 30 ∧ win0_4.index t (1 : Fin 2) = t.val / 30
    ∧ win0_5.index t (0 : Fin 2) = t.val % 30 ∧ win0_5.index t (1 : Fin 2) = t.val / 30
    ∧ win0_6.index t (0 : Fin 2) = t.val % 30 ∧ win0_6.index t (1 : Fin 2) = t.val / 30 :=
  (by decide +kernel : ∀ t : Fin grid0.N, _)

theorem iblk0_apply (c : Dev nD) (t : Fin cfg0.N) (j : S128x4096.Idx) (p : S3840x16384.Idx)
    (e0 : (p 0).val = t.val % 30 * 128 + (j 0).val) (e1 : (p 1).val = t.val / 30 * 4096 + (j 1).val) :
    iblk m c 0 t j = m ((c : Thread nD τ).loc main_arg0) p := by
  obtain ⟨d0, d1, -⟩ := idx_facts t
  unfold iblk; rw [View.read_apply]
  show V m c main_arg0 _ = _
  rw [V_main_arg0]
  congr 1; funext a; apply Fin.ext
  match a with
  | ⟨0, _⟩ => show win0_0.index t (0 : Fin 2) * 128 + 1 * (j 0).val = (p 0).val; rw [d0, e0]; omega
  | ⟨1, _⟩ => show win0_0.index t (1 : Fin 2) * 4096 + 1 * (j 1).val = (p 1).val; rw [d1, e1]; omega

theorem iblk1_apply (c : Dev nD) (t : Fin cfg0.N) (j : S128x4096.Idx) (p : S3840x16384.Idx)
    (e0 : (p 0).val = t.val % 30 * 128 + (j 0).val) (e1 : (p 1).val = t.val / 30 * 4096 + (j 1).val) :
    iblk m c 1 t j = m ((c : Thread nD τ).loc main_arg2) p := by
  obtain ⟨-, -, d0, d1, -⟩ := idx_facts t
  unfold iblk; rw [View.read_apply]
  show V m c main_arg2 _ = _
  rw [V_main_arg2]
  congr 1; funext a; apply Fin.ext
  match a with
  | ⟨0, _⟩ => show win0_1.index t (0 : Fin 2) * 128 + 1 * (j 0).val = (p 0).val; rw [d0, e0]; omega
  | ⟨1, _⟩ => show win0_1.index t (1 : Fin 2) * 4096 + 1 * (j 1).val = (p 1).val; rw [d1, e1]; omega

theorem iblk2_apply (c : Dev nD) (t : Fin cfg0.N) (j : S256x4096.Idx) (p : S256x16384.Idx)
    (e0 : (p 0).val = (j 0).val) (e1 : (p 1).val = t.val / 30 * 4096 + (j 1).val) :
    iblk m c 2 t j = signedV (m ((c : Thread nD τ).loc main_arg1)) p := by
  obtain ⟨-, -, -, -, d0, d1, -⟩ := idx_facts t
  unfold iblk; rw [View.read_apply]
  show V m c main_v58 _ = _
  rw [V_v58]
  congr 1; funext a; apply Fin.ext
  match a with
  | ⟨0, _⟩ => show win0_2.index t (0 : Fin 2) * 256 + 1 * (j 0).val = (p 0).val; rw [d0, e0]; omega
  | ⟨1, _⟩ => show win0_2.index t (1 : Fin 2) * 4096 + 1 * (j 1).val = (p 1).val; rw [d1, e1]; omega

theorem iblk3_apply (c : Dev nD) (t : Fin cfg0.N) (j : S256x256.Idx) (p : S256x256.Idx)
    (e0 : (p 0).val = (j 0).val) (e1 : (p 1).val = (j 1).val) :
    iblk m c 3 t j = permV p := by
  obtain ⟨-, -, -, -, -, -, d0, d1, -⟩ := idx_facts t
  unfold iblk; rw [View.read_apply]
  show V m c main_v87 _ = _
  rw [V_v87]
  congr 1; funext a; apply Fin.ext
  match a with
  | ⟨0, _⟩ => show win0_3.index t (0 : Fin 2) * 256 + 1 * (j 0).val = (p 0).val; rw [d0, e0]; omega
  | ⟨1, _⟩ => show win0_3.index t (1 : Fin 2) * 256 + 1 * (j 1).val = (p 1).val; rw [d1, e1]; omega

/-! ## The tiles of a point's blocks -/

theorem ld_a {e : EltTy} (X : Vec Ideal S128x4096 e) (q : Fin 16) (t : Fin 128) (k : Fin 256) :
    View.ld X (rA q) (ix2 t k) = X (ix2 t (⟨256 * q.val + k.val, by omega⟩ : Fin 4096)) :=
  View.ld_unit_apply_of X _ _ _ _ _ fun a => match a with
    | ⟨0, _⟩ => (Nat.zero_add _).symm
    | ⟨1, _⟩ => rfl

theorem ld_h {e : EltTy} (X : Vec Ideal S256x4096 e) (q : Fin 16) (t : Fin 256) (k : Fin 256) :
    View.ld X (rH q) (ix2 t k) = X (ix2 t (⟨256 * q.val + k.val, by omega⟩ : Fin 4096)) :=
  View.ld_unit_apply_of X _ _ _ _ _ fun a => match a with
    | ⟨0, _⟩ => (Nat.zero_add _).symm
    | ⟨1, _⟩ => rfl

theorem ld_p {e : EltTy} (X : Vec Ideal S256x256 e) (t : Fin 256) (k : Fin 256) : View.ld X r0_2 (ix2 t k) = X (ix2 t k) :=
  View.ld_unit_apply_of X _ _ _ _ _ fun a => match a with
    | ⟨0, _⟩ => (Nat.zero_add _).symm
    | ⟨1, _⟩ => (Nat.zero_add _).symm

section Tiles

variable (c : Dev nD) (t : Fin cfg0.N) (q : Fin 16) (T : Fin 64) (s : Fin 128) (row : Fin 3840)
variable (hT : T.val = 16 * (t.val / 30) + q.val) (hc : row.val = t.val % 30 * 128 + s.val)
include hT hc

theorem tile_v : TileV (m ((c : Thread nD τ).loc main_arg0)) (m ((c : Thread nD τ).loc main_arg1)) T s row (rotOf (iblk m c 0 t) (iblk m c 2 t) q) := by
  refine rot_vs _ _ T s row _ _ (fun k => ?_) fun k p => ?_
  · rw [ld_a]
    exact iblk0_apply m c t (ix2 s (⟨256 * q.val + k.val, by omega⟩ : Fin 4096)) (ix2 row (⟨256 * T.val + k.val, by omega⟩ : Fin 16384)) hc (by show 256 * T.val + k.val = t.val / 30 * 4096 + (256 * q.val + k.val); omega)
  · rw [ld_h]
    exact (iblk2_apply m c t (ix2 k (⟨256 * q.val + p.val, by omega⟩ : Fin 4096)) (ix2 k (⟨256 * T.val + p.val, by omega⟩ : Fin 16384)) rfl
      (by show 256 * T.val + p.val = t.val / 30 * 4096 + (256 * q.val + p.val); omega)).trans (signedV_at _ _ T p k rfl rfl)

theorem tile_u : TileU (m ((c : Thread nD τ).loc main_arg2)) T s row (rndOf (iblk m c 1 t) (iblk m c 3 t) q) := by
  intro p
  have lo : (ordN p).val < 256 := (ordN p).isLt
  refine (rndN_perm _ _ (fun n p => (ld_p _ n p).trans (iblk3_apply m c t _ _ rfl rfl)) s p).trans (congrArg _ ?_)
  rw [ld_a]
  exact iblk1_apply m c t (ix2 s (⟨256 * q.val + (ordN p).val, by omega⟩ : Fin 4096)) (ix2 row (⟨256 * T.val + (ordN p).val, by omega⟩ : Fin 16384)) hc (by show 256 * T.val + (ordN p).val = t.val / 30 * 4096 + (256 * q.val + (ordN p).val); omega)

end Tiles

/-! ## The result arrays -/

/-- The reference's packed codes over the kernel's arguments. -/
def G4 (c : Dev nD) : Buf (Elt Ideal) ((c : Thread nD τ).loc main_v88_0) := val_main_v147 (F := Ideal)
    (m ((c : Thread nD τ).loc main_arg0)) (m ((c : Thread nD τ).loc main_arg1)) (m ((c : Thread nD τ).loc main_arg2))
/-- The reference's exponents over the kernel's arguments. -/
def G5 (c : Dev nD) : Buf (Elt Ideal) ((c : Thread nD τ).loc main_v88_1) := val_main_v148 (F := Ideal)
    (m ((c : Thread nD τ).loc main_arg0)) (m ((c : Thread nD τ).loc main_arg1))
/-- The reference's decoded values over the kernel's arguments. -/
def G6 (c : Dev nD) : Buf (Elt Ideal) ((c : Thread nD τ).loc main_v88_2) := val_main_v149 (F := Ideal)
    (m ((c : Thread nD τ).loc main_arg0)) (m ((c : Thread nD τ).loc main_arg1)) (m ((c : Thread nD τ).loc main_arg2))

section Final

variable (c : Dev nD)
variable (hr : ∀ b col, InRange (rotA (m ((c : Thread nD τ).loc main_arg0)) (m ((c : Thread nD τ).loc main_arg1)) b col))
include hr

theorem codes_piece (t : Fin cfg0.N) (q : Fin 16) (s : Fin 128) (l : Fin 128) (i : S3840x8192.Idx) (h0 : (i 0).val = t.val % 30 * 128 + s.val)
    (h1 : (i 1).val = t.val / 30 * 2048 + (128 * q.val + l.val)) :
    codesOf (rotOf (iblk m c 0 t) (iblk m c 2 t) q) (rndOf (iblk m c 1 t) (iblk m c 3 t) q) (ix2 s l) = G4 m c i := by
  have hN : t.val < 120 := lt_of_lt_of_eq t.isLt N_0
  have lT : 16 * (t.val / 30) + q.val < 64 := by omega
  have lr : t.val % 30 * 128 + s.val < 3840 := by omega
  exact store_codes _ _ _ ⟨_, lT⟩ s ⟨_, lr⟩ _ _ (tile_v m c t q _ _ _ rfl rfl) (tile_u m c t q _ _ _ rfl rfl) hr l i (Fin.ext h0)
    (by rw [h1]; show _ = 128 * (16 * (t.val / 30) + q.val) + l.val; omega)

theorem flushed4_eq (t : Fin cfg0.N) : (dats m 0 c).flushed 4 t = ((cfg0.win 4).blk t).view.read (Elt Ideal) (G4 m c) := by
  rw [flushed4, out4_eq]
  obtain ⟨-, -, -, -, -, -, -, -, e0, e1, -⟩ := idx_facts t
  have hN : t.val < 120 := lt_of_lt_of_eq t.isLt N_0
  have bnd : ∀ j : S128x2048.Idx, t.val % 30 * 128 + (j 0).val < 3840 ∧ t.val / 30 * 2048 + (j 1).val < 8192 := fun j => by
    have j0 : (j 0).val < 128 := (j 0).isLt
    have j1 : (j 1).val < 2048 := (j 1).isLt
    omega
  funext y
  have y1 : (((cfg0.win 4).xinj (grid0.coords t) y) 1).val < 2048 := (((cfg0.win 4).xinj (grid0.coords t) y) 1).isLt
  have y0 : (((cfg0.win 4).xinj (grid0.coords t) y) 0).val < 128 := (((cfg0.win 4).xinj (grid0.coords t) y) 0).isLt
  refine (View.canon_apply_of_pieces (fun j : S128x2048.Idx => G4 m c (ix2 (⟨_, (bnd j).1⟩ : Fin 3840) (⟨_, (bnd j).2⟩ : Fin 8192))) _ ?_
    ((cfg0.win 4).xinj (grid0.coords t) y) ?_).trans ?_
  · intro p hp
    obtain ⟨q, -, rfl⟩ := List.mem_map.mp hp
    intro x
    have x0 : (x 0).val < 128 := (x 0).isLt
    have x1 : (x 1).val < 128 := (x 1).isLt
    have i0 : (((rC q).emb x) 0).val = 0 + 1 * (x 0).val := rfl
    have i1 : (((rC q).emb x) 1).val = 128 * q.val + 1 * (x 1).val := rfl
    refine Eq.trans (congrArg (codesOf (rotOf (iblk m c 0 t) (iblk m c 2 t) q) (rndOf (iblk m c 1 t) (iblk m c 3 t) q)) (eq_ix2 x)) ?_
    exact codes_piece m c hr t q ⟨(x 0).val, x0⟩ ⟨(x 1).val, x1⟩ _
      (by show t.val % 30 * 128 + (((rC q).emb x) 0).val = t.val % 30 * 128 + (x 0).val; omega)
      (by show t.val / 30 * 2048 + (((rC q).emb x) 1).val = t.val / 30 * 2048 + (128 * q.val + (x 1).val); omega)
  · refine ⟨_, List.mem_map.mpr ⟨⟨(((cfg0.win 4).xinj (grid0.coords t) y) 1).val / 128, by omega⟩, List.mem_reverse.mpr (List.mem_finRange _), rfl⟩, ?_⟩
    rw [Rect.mem_set_unit]
    intro a
    match a with
    | ⟨0, _⟩ => exact ⟨Nat.zero_le _, by show (((cfg0.win 4).xinj (grid0.coords t) y) 0).val < 0 + 128; omega⟩
    | ⟨1, _⟩ =>
      exact ⟨by show 128 * ((((cfg0.win 4).xinj (grid0.coords t) y) 1).val / 128) ≤ (((cfg0.win 4).xinj (grid0.coords t) y) 1).val; omega,
        by show (((cfg0.win 4).xinj (grid0.coords t) y) 1).val < 128 * ((((cfg0.win 4).xinj (grid0.coords t) y) 1).val / 128) + 128; omega⟩
  · refine congrArg (G4 m c) (funext fun a => Fin.ext ?_)
    match a with
    | ⟨0, _⟩ => show t.val % 30 * 128 + (y 0).val = win0_4.index t (0 : Fin 2) * 128 + 1 * (y 0).val; rw [e0]; omega
    | ⟨1, _⟩ => show t.val / 30 * 2048 + (y 1).val = win0_4.index t (1 : Fin 2) * 2048 + 1 * (y 1).val; rw [e1]; omega

theorem vals_piece (t : Fin cfg0.N) (q : Fin 16) (s : Fin 128) (l : Fin 256) (i : S3840x16384.Idx) (h0 : (i 0).val = t.val % 30 * 128 + s.val)
    (h1 : (i 1).val = t.val / 30 * 4096 + (256 * q.val + l.val)) :
    valsOf (rotOf (iblk m c 0 t) (iblk m c 2 t) q) (rndOf (iblk m c 1 t) (iblk m c 3 t) q) (ix2 s l) = G6 m c i := by
  have hN : t.val < 120 := lt_of_lt_of_eq t.isLt N_0
  have lT : 16 * (t.val / 30) + q.val < 64 := by omega
  have lr : t.val % 30 * 128 + s.val < 3840 := by omega
  exact store_vals _ _ _ ⟨_, lT⟩ s ⟨_, lr⟩ _ _ (tile_v m c t q _ _ _ rfl rfl) (tile_u m c t q _ _ _ rfl rfl) hr l i (Fin.ext h0)
    (by rw [h1]; show _ = 256 * (16 * (t.val / 30) + q.val) + l.val; omega)

theorem flushed6_eq (t : Fin cfg0.N) : (dats m 0 c).flushed 6 t = ((cfg0.win 6).blk t).view.read (Elt Ideal) (G6 m c) := by
  rw [flushed6, out6_eq]
  obtain ⟨-, -, -, -, -, -, -, -, -, -, -, -, e0, e1⟩ := idx_facts t
  have hN : t.val < 120 := lt_of_lt_of_eq t.isLt N_0
  have bnd : ∀ j : S128x4096.Idx, t.val % 30 * 128 + (j 0).val < 3840 ∧ t.val / 30 * 4096 + (j 1).val < 16384 := fun j => by
    have j0 : (j 0).val < 128 := (j 0).isLt
    have j1 : (j 1).val < 4096 := (j 1).isLt
    omega
  funext y
  have y1 : (((cfg0.win 6).xinj (grid0.coords t) y) 1).val < 4096 := (((cfg0.win 6).xinj (grid0.coords t) y) 1).isLt
  have y0 : (((cfg0.win 6).xinj (grid0.coords t) y) 0).val < 128 := (((cfg0.win 6).xinj (grid0.coords t) y) 0).isLt
  refine (View.canon_apply_of_pieces (fun j : S128x4096.Idx => G6 m c (ix2 (⟨_, (bnd j).1⟩ : Fin 3840) (⟨_, (bnd j).2⟩ : Fin 16384))) _ ?_
    ((cfg0.win 6).xinj (grid0.coords t) y) ?_).trans ?_
  · intro p hp
    obtain ⟨q, -, rfl⟩ := List.mem_map.mp hp
    intro x
    have x0 : (x 0).val < 128 := (x 0).isLt
    have x1 : (x 1).val < 256 := (x 1).isLt
    have i0 : (((rA q).emb x) 0).val = 0 + 1 * (x 0).val := rfl
    have i1 : (((rA q).emb x) 1).val = 256 * q.val + 1 * (x 1).val := rfl
    refine Eq.trans (congrArg (valsOf (rotOf (iblk m c 0 t) (iblk m c 2 t) q) (rndOf (iblk m c 1 t) (iblk m c 3 t) q)) (eq_ix2 x)) ?_
    exact vals_piece m c hr t q ⟨(x 0).val, x0⟩ ⟨(x 1).val, x1⟩ _
      (by show t.val % 30 * 128 + (((rA q).emb x) 0).val = t.val % 30 * 128 + (x 0).val; omega)
      (by show t.val / 30 * 4096 + (((rA q).emb x) 1).val = t.val / 30 * 4096 + (256 * q.val + (x 1).val); omega)
  · refine ⟨_, List.mem_map.mpr ⟨⟨(((cfg0.win 6).xinj (grid0.coords t) y) 1).val / 256, by omega⟩, List.mem_reverse.mpr (List.mem_finRange _), rfl⟩, ?_⟩
    rw [Rect.mem_set_unit]
    intro a
    match a with
    | ⟨0, _⟩ => exact ⟨Nat.zero_le _, by show (((cfg0.win 6).xinj (grid0.coords t) y) 0).val < 0 + 128; omega⟩
    | ⟨1, _⟩ =>
      exact ⟨by show 256 * ((((cfg0.win 6).xinj (grid0.coords t) y) 1).val / 256) ≤ (((cfg0.win 6).xinj (grid0.coords t) y) 1).val; omega,
        by show (((cfg0.win 6).xinj (grid0.coords t) y) 1).val < 256 * ((((cfg0.win 6).xinj (grid0.coords t) y) 1).val / 256) + 256; omega⟩
  · refine congrArg (G6 m c) (funext fun a => Fin.ext ?_)
    match a with
    | ⟨0, _⟩ => show t.val % 30 * 128 + (y 0).val = win0_6.index t (0 : Fin 2) * 128 + 1 * (y 0).val; rw [e0]; omega
    | ⟨1, _⟩ => show t.val / 30 * 4096 + (y 1).val = win0_6.index t (1 : Fin 2) * 4096 + 1 * (y 1).val; rw [e1]; omega

theorem flushed5_eq (t : Fin cfg0.N) : (dats m 0 c).flushed 5 t = ((cfg0.win 5).blk t).view.read (Elt Ideal) (G5 m c) := by
  rw [flushed5, out5_eq, View.canon_unit_zero (S := S128x128) (funext fun a => by fin_cases a <;> rfl) _ _]
  obtain ⟨-, -, -, -, -, -, -, -, -, -, e0, e1, -⟩ := idx_facts t
  have hN : t.val < 120 := lt_of_lt_of_eq t.isLt N_0
  funext y
  have y0 : (y 0).val < 128 := (y 0).isLt
  have y1 : (y 1).val < 128 := (y 1).isLt
  have hb0 : (((cfg0.win 5).blk t).view.emb y 0).val = win0_5.index t (0 : Fin 2) * 128 + 1 * (y 0).val := rfl
  have hb1 : (((cfg0.win 5).blk t).view.emb y 1).val = win0_5.index t (1 : Fin 2) * 128 + 1 * (y 1).val := rfl
  rw [e0] at hb0; rw [e1] at hb1
  have lT : 16 * (t.val / 30) + (y 1).val / 8 < 64 := by omega
  have lr : t.val % 30 * 128 + (y 0).val < 3840 := by omega
  show (trunci 8 (dynamicGather 1 (expAcc (iblk m c 0 t) (iblk m c 2 t)) (wrapN expFrom)) natLt_8_32 : IVec M 8) ((cfg0.win 5).xinj (grid0.coords t) y)
    = G5 m c (((cfg0.win 5).blk t).view.emb y)
  refine Eq.trans (congrArg (trunci 8 (dynamicGather 1 (expAcc (iblk m c 0 t) (iblk m c 2 t)) (wrapN expFrom)) natLt_8_32 : IVec M 8)
    (eq_ix2 ((cfg0.win 5).xinj (grid0.coords t) y))) ?_
  refine Eq.trans (exps_at (iblk m c 0 t) (iblk m c 2 t) ⟨(y 0).val, y0⟩ ⟨(y 1).val, y1⟩) ?_
  exact store_exp _ _ ⟨_, lT⟩ _ ⟨_, lr⟩ _ (tile_v m c t ⟨(y 1).val / 8, by omega⟩ _ _ _ rfl rfl) hr ⟨(y 1).val, y1⟩ _
    (Fin.ext (by rw [hb0]; show _ = t.val % 30 * 128 + (y 0).val; omega))
    (by rw [hb1]; show _ = 8 * (16 * (t.val / 30) + (y 1).val / 8) + (y 1).val % 8; omega)

end Final

theorem mem_blk4 (t : Fin cfg0.N) (i : S3840x8192.Idx) :
    i ∈ ((cfg0.win 4).blk t).view.set ↔ ∀ a : Fin 2, win0_4.index t a * S128x2048.size a ≤ (i a).val ∧ (i a).val < win0_4.index t a * S128x2048.size a + S128x2048.size a := by
  show i ∈ ((View.whole main_v88_0).slice (win0_4.rect t)).set ↔ _
  rw [View.set_slice_whole, Rect.mem_set_unit]
  exact Iff.rfl

/-- Every index of the codes is in some point's block. -/
theorem covered4 (i : S3840x8192.Idx) : ∃ t : Fin cfg0.N, (cfg0.win 4).flush t = true ∧ i ∈ ((cfg0.win 4).blk t).view.set := by
  have h0 : (i 0).val < 3840 := (i 0).isLt
  have h1 : (i 1).val < 8192 := (i 1).isLt
  have hN : cfg0.N = 120 := N_0
  obtain ⟨t, ht⟩ : ∃ t : Fin cfg0.N, t.val = 30 * ((i 1).val / 2048) + (i 0).val / 128 := ⟨⟨_, by omega⟩, rfl⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2048 ≤ (i 1).val ∧ (i 1).val < win0_4.index t (1 : Fin 2) * 2048 + 2048; omega

theorem mem_blk5 (t : Fin cfg0.N) (i : S3840x512.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v88_1).slice (win0_5.rect t)).set ↔ _
  rw [View.set_slice_whole, Rect.mem_set_unit]
  exact Iff.rfl

/-- Every index of the exponents is in some point's block. -/
theorem covered5 (i : S3840x512.Idx) : ∃ t : Fin cfg0.N, (cfg0.win 5).flush t = true ∧ i ∈ ((cfg0.win 5).blk t).view.set := by
  have h0 : (i 0).val < 3840 := (i 0).isLt
  have h1 : (i 1).val < 512 := (i 1).isLt
  have hN : cfg0.N = 120 := N_0
  obtain ⟨t, ht⟩ : ∃ t : Fin cfg0.N, t.val = 30 * ((i 1).val / 128) + (i 0).val / 128 := ⟨⟨_, by omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

theorem mem_blk6 (t : Fin cfg0.N) (i : S3840x16384.Idx) :
    i ∈ ((cfg0.win 6).blk t).view.set ↔ ∀ a : Fin 2, win0_6.index t a * S128x4096.size a ≤ (i a).val ∧ (i a).val < win0_6.index t a * S128x4096.size a + S128x4096.size a := by
  show i ∈ ((View.whole main_v88_2).slice (win0_6.rect t)).set ↔ _
  rw [View.set_slice_whole, Rect.mem_set_unit]
  exact Iff.rfl

/-- Every index of the values is in some point's block. -/
theorem covered6 (i : S3840x16384.Idx) : ∃ t : Fin cfg0.N, (cfg0.win 6).flush t = true ∧ i ∈ ((cfg0.win 6).blk t).view.set := by
  have h0 : (i 0).val < 3840 := (i 0).isLt
  have h1 : (i 1).val < 16384 := (i 1).isLt
  have hN : cfg0.N = 120 := N_0
  obtain ⟨t, ht⟩ : ∃ t : Fin cfg0.N, t.val = 30 * ((i 1).val / 4096) + (i 0).val / 128 := ⟨⟨_, by omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 4096 ≤ (i 1).val ∧ (i 1).val < win0_6.index t (1 : Fin 2) * 4096 + 4096; omega

section Final

variable (c : Dev nD)
variable (hr : ∀ b col, InRange (rotA (m ((c : Thread nD τ).loc main_arg0)) (m ((c : Thread nD τ).loc main_arg1)) b col))
include hr

/-- The blocks tile each result array, so it ends as the reference's. -/
theorem final4 : (dats m 0 c).arrAt 4 cfg0.N = G4 m c := (dats m 0 c).arrAt_eq_of_cover 4 _ (fun t _ => flushed4_eq m c hr t) covered4
theorem final5 : (dats m 0 c).arrAt 5 cfg0.N = G5 m c := (dats m 0 c).arrAt_eq_of_cover 5 _ (fun t _ => flushed5_eq m c hr t) covered5
theorem final6 : (dats m 0 c).arrAt 6 cfg0.N = G6 m c := (dats m 0 c).arrAt_eq_of_cover 6 _ (fun t _ => flushed6_eq m c hr t) covered6

end Final

end Cert.NKernelIdeal.Value

end
-- ==== Proof.NClaims.lean ====
/-
  The claims about the quantiser along the columns, from its value theorem: the reference runs and leaves its arguments
  alone, and the kernel's three results over the reals are the reference's.
-/
module

public import proofs.«01_k».proof.Defs
public import proofs.«01_k».proof.Proof.NValue
public import proofs.«01_k».proof.Proof.Gen.NKernelIdeal
public import proofs.«01_k».proof.Proof.Gen.NReferenceIdeal

@[expose] public section

noncomputable section

namespace Cert.Proof

open Idealize.ShloMosaic Idealize.ShloMosaic.TcCoe Idealize.SL.Sem

/-- The shape relations the predicate states. -/
theorem n_range_facts : Cert.Pre_in_range_dy_n.Facts where
  transposes_S3840x16384_S16384x3840_1_0 := by decide
  bitsLt_bf16_f32 := by decide
  bcast_S16384_S16384x1_0 := by decide
  bcast_S16384x1_S16384x3840_0_1 := by decide
  shapeCasts_S16384x3840_S512x1x32x3840 := by decide
  bcast_S32_S32x1_0 := by decide
  bcast_S32_S1x32_1 := by decide
  bcast_S32x1_S32x32_0_1 := by decide
  bcast_S1x32_S32x32_0_1 := by decide
  bcast_S_S32x32 := by decide
  bcast_S32x32_S1x32x32x1_1_2 := by decide
  bcast_S1x32x32x1_S512x32x32x3840_0_1_2_3 := by decide
  bcast_S512x1x32x3840_S512x32x32x3840_0_1_2_3 := by decide
  reducesTo_S512x32x32x3840_S512x32x3840_d2 := by decide
  h_S_ := by decide
  reducesTo_S512x32x3840_S512x3840_d1 := by decide
  bcast_S_S512x3840 := by decide

/-- The N reference runs, leaves its arguments as they were, and uses no semaphore. -/
theorem n_reference_frame : Cert.quiescent_NReferenceIdeal := fun m g _ =>
  (θ_run _ _ _).mono (fun _ h => ⟨fun c => (h c).2.2.2, Idealize.ShloMosaic.sem_eq_zero_of_no_sems (by decide) _⟩) (Cert.NReferenceIdeal.Value.run (F := Ideal) m g)

/-- From equal arguments in range the N kernel and its reference leave equal results, over the reals. -/
theorem n_algebraic : Cert.algebraic_NKernelIdeal_NReferenceIdeal_pre_in_range_dy_n (hPre_in_range_dy_n := n_range_facts) := fun m g m' g' hpre hagree =>
  have hr := fun c => @Cert.Pre_in_range_dy_n.inRange_of_fn n_range_facts _ _ _ (hpre c)
  ⟨fun c => Cert.NKernelIdeal.Value.G4 m c, fun c => Cert.NKernelIdeal.Value.G5 m c, fun c => Cert.NKernelIdeal.Value.G6 m c,
    (θ_run _ _ _).mono (fun _ h c => ⟨(h c).1.trans (Cert.NKernelIdeal.Value.final4 m c (hr c)),
      (h c).2.1.trans (Cert.NKernelIdeal.Value.final5 m c (hr c)), (h c).2.2.1.trans (Cert.NKernelIdeal.Value.final6 m c (hr c)), (h c).2.2.2⟩)
      (Cert.NKernelIdeal.Value.run_blocks (F := Ideal) m g),
    (θ_run _ _ _).mono (fun _ h c => ⟨(h c).1.trans (by
        rw [Cert.NReferenceIdeal.Read.val_main_v147_eq]
        refine (congr (congrArg₂ _ ?_ ?_) ?_ : _ = Cert.NReferenceIdeal.Read.val_main_v147 (F := Ideal) _ _ _)
        · exact (hagree c).1
        · exact (hagree c).2.1
        · exact (hagree c).2.2),
      (h c).2.1.trans (by
        rw [Cert.NReferenceIdeal.Read.val_main_v148_eq]
        exact congrArg₂ (Cert.NReferenceIdeal.Read.val_main_v148 (F := Ideal)) (hagree c).1 (hagree c).2.1),
      (h c).2.2.1.trans (by
        rw [Cert.NReferenceIdeal.Read.val_main_v149_eq]
        refine (congr (congrArg₂ _ ?_ ?_) ?_ : _ = Cert.NReferenceIdeal.Read.val_main_v149 (F := Ideal) _ _ _)
        · exact (hagree c).1
        · exact (hagree c).2.1
        · exact (hagree c).2.2), (h c).2.2.2⟩) (Cert.NReferenceIdeal.Value.run (F := Ideal) m' g')⟩

end Cert.Proof

end
-- ==== Proof.lean ====
/- The certificate of the calls of the low-precision backward step: the input-gradient product (`Dx…`), the
   weight-gradient product (`Dw…`) and the quantising calls `W…` (w), `X…` (x), `T…` (dy along its rows) and `N…` (dy along its columns). The claims are proved in `Proof/Claims.lean` and in
   `Proof/WClaims.lean`, `Proof/XClaims.lean`, `Proof/TClaims.lean`, `Proof/NClaims.lean`; this file puts them together. -/
module

public import proofs.«01_k».proof.Defs
public import proofs.«01_k».proof.Proof.Gen.DxKernel
public import proofs.«01_k».proof.Proof.Gen.DxKernel.Skeleton
public import proofs.«01_k».proof.Proof.Gen.DxKernel.Launch
public import proofs.«01_k».proof.Proof.Gen.DxKernel.Points
public import proofs.«01_k».proof.Proof.Gen.DxKernel.Frame
public import proofs.«01_k».proof.Proof.Gen.DxKernelIdeal
public import proofs.«01_k».proof.Proof.Gen.DxKernelIdeal.Skeleton
public import proofs.«01_k».proof.Proof.Gen.DxKernelIdeal.Launch
public import proofs.«01_k».proof.Proof.Gen.DxKernelIdeal.Points
public import proofs.«01_k».proof.Proof.Gen.DxKernelIdeal.Frame
public import proofs.«01_k».proof.Proof.Gen.DxReferenceIdeal
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwReferenceIdeal
public import proofs.«01_k».proof.Proof.Gen.WKernel
public import proofs.«01_k».proof.Proof.Gen.WKernel.Skeleton
public import proofs.«01_k».proof.Proof.Gen.WKernel.Launch
public import proofs.«01_k».proof.Proof.Gen.WKernel.Points
public import proofs.«01_k».proof.Proof.Gen.WKernel.Frame
public import proofs.«01_k».proof.Proof.Gen.WKernelIdeal
public import proofs.«01_k».proof.Proof.Gen.WKernelIdeal.Skeleton
public import proofs.«01_k».proof.Proof.Gen.WKernelIdeal.Launch
public import proofs.«01_k».proof.Proof.Gen.WKernelIdeal.Points
public import proofs.«01_k».proof.Proof.Gen.WKernelIdeal.Frame
public import proofs.«01_k».proof.Proof.Gen.WReferenceIdeal
public import proofs.«01_k».proof.Proof.Gen.XKernel
public import proofs.«01_k».proof.Proof.Gen.XKernel.Skeleton
public import proofs.«01_k».proof.Proof.Gen.XKernel.Launch
public import proofs.«01_k».proof.Proof.Gen.XKernel.Points
public import proofs.«01_k».proof.Proof.Gen.XKernel.Frame
public import proofs.«01_k».proof.Proof.Gen.XKernelIdeal
public import proofs.«01_k».proof.Proof.Gen.XKernelIdeal.Skeleton
public import proofs.«01_k».proof.Proof.Gen.XKernelIdeal.Launch
public import proofs.«01_k».proof.Proof.Gen.XKernelIdeal.Points
public import proofs.«01_k».proof.Proof.Gen.XKernelIdeal.Frame
public import proofs.«01_k».proof.Proof.Gen.XReferenceIdeal
public import proofs.«01_k».proof.Proof.Gen.TKernel
public import proofs.«01_k».proof.Proof.Gen.TKernel.Skeleton
public import proofs.«01_k».proof.Proof.Gen.TKernel.Launch
public import proofs.«01_k».proof.Proof.Gen.TKernel.Points
public import proofs.«01_k».proof.Proof.Gen.TKernel.Frame
public import proofs.«01_k».proof.Proof.Gen.TKernelIdeal
public import proofs.«01_k».proof.Proof.Gen.TKernelIdeal.Skeleton
public import proofs.«01_k».proof.Proof.Gen.TKernelIdeal.Launch
public import proofs.«01_k».proof.Proof.Gen.TKernelIdeal.Points
public import proofs.«01_k».proof.Proof.Gen.TKernelIdeal.Frame
public import proofs.«01_k».proof.Proof.Gen.TReferenceIdeal
public import proofs.«01_k».proof.Proof.Gen.NKernel
public import proofs.«01_k».proof.Proof.Gen.NKernel.Skeleton
public import proofs.«01_k».proof.Proof.Gen.NKernel.Launch
public import proofs.«01_k».proof.Proof.Gen.NKernel.Points
public import proofs.«01_k».proof.Proof.Gen.NKernel.Frame
public import proofs.«01_k».proof.Proof.Gen.NKernelIdeal
public import proofs.«01_k».proof.Proof.Gen.NKernelIdeal.Skeleton
public import proofs.«01_k».proof.Proof.Gen.NKernelIdeal.Launch
public import proofs.«01_k».proof.Proof.Gen.NKernelIdeal.Points
public import proofs.«01_k».proof.Proof.Gen.NKernelIdeal.Frame
public import proofs.«01_k».proof.Proof.Gen.NReferenceIdeal
public import proofs.«01_k».proof.Proof.Claims
public import proofs.«01_k».proof.Proof.WClaims
public import proofs.«01_k».proof.Proof.XClaims
public import proofs.«01_k».proof.Proof.TClaims
public import proofs.«01_k».proof.Proof.NClaims
public import Idealize.ShloMosaic.Adequacy
public import Idealize.ShloMosaic.Init

@[expose] public section

noncomputable section

namespace Cert.Proof

open Idealize.ShloMosaic Idealize.SL.Sem Cert.DxKernel

theorem claim : Cert.Claim := ⟨Cert.DxKernel.Gen.facts, Cert.DxKernelIdeal.Gen.facts, Cert.DxReferenceIdeal.Gen.facts, Cert.DwKernel.Gen.facts, Cert.DwKernelIdeal.Gen.facts, Cert.DwReferenceIdeal.Gen.facts, Cert.WKernel.Gen.facts, Cert.WKernelIdeal.Gen.facts, Cert.WReferenceIdeal.Gen.facts, Cert.XKernel.Gen.facts, Cert.XKernelIdeal.Gen.facts, Cert.XReferenceIdeal.Gen.facts, Cert.TKernel.Gen.facts, Cert.TKernelIdeal.Gen.facts, Cert.TReferenceIdeal.Gen.facts, Cert.NKernel.Gen.facts, Cert.NKernelIdeal.Gen.facts, Cert.NReferenceIdeal.Gen.facts, range_facts, x_range_facts, t_range_facts, n_range_facts,
  fun m ρ _ => Cert.DxKernel.Gen.frame m ρ, fun m ρ _ => Cert.DxKernelIdeal.Gen.frame m ρ, dx_reference_frame,
  fun m ρ _ => Cert.DwKernel.Gen.frame m ρ, fun m ρ _ => Cert.DwKernelIdeal.Gen.frame m ρ, dw_reference_frame,
  fun m ρ _ => Cert.WKernel.Gen.frame m ρ, fun m ρ _ => Cert.WKernelIdeal.Gen.frame m ρ, fun m ρ _ => Cert.WKernelIdeal.Gen.frame m ρ,
  w_reference_frame, fun m g _ => w_reference_frame m g trivial,
  fun m ρ _ => Cert.XKernel.Gen.frame m ρ, fun m ρ _ => Cert.XKernelIdeal.Gen.frame m ρ, fun m ρ _ => Cert.XKernelIdeal.Gen.frame m ρ,
  x_reference_frame, fun m g _ => x_reference_frame m g trivial,
  fun m ρ _ => Cert.TKernel.Gen.frame m ρ, fun m ρ _ => Cert.TKernelIdeal.Gen.frame m ρ, fun m ρ _ => Cert.TKernelIdeal.Gen.frame m ρ,
  t_reference_frame, fun m g _ => t_reference_frame m g trivial,
  fun m ρ _ => Cert.NKernel.Gen.frame m ρ, fun m ρ _ => Cert.NKernelIdeal.Gen.frame m ρ, fun m ρ _ => Cert.NKernelIdeal.Gen.frame m ρ,
  n_reference_frame, fun m g _ => n_reference_frame m g trivial,
  trivial, dx_algebraic, trivial, dw_algebraic,
  IdealRules.sign_bit.statement _ _, w_algebraic,
  IdealRules.sign_bit.statement _ _, x_algebraic,
  IdealRules.sign_bit.statement _ _, t_algebraic,
  IdealRules.sign_bit.statement _ _, n_algebraic⟩

end Cert.Proof

end
